-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log_step" .f32 0xBE135D8E#32 (((-(Real.log 10000)) * (1 / 64) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![32, 128, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![32, 128, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v80) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S256x512 : Shape := ⟨2, ![256, 512]⟩
abbrev S4096x512 : Shape := ⟨2, ![4096, 512]⟩
abbrev S15x128x512 : Shape := ⟨3, ![15, 128, 512]⟩
abbrev S15 : Shape := ⟨1, ![15]⟩
abbrev S_ : Shape := ⟨0, ![]⟩
abbrev S1x128x512 : Shape := ⟨3, ![1, 128, 512]⟩
abbrev S128x512 : Shape := ⟨2, ![128, 512]⟩
abbrev S128x256 : Shape := ⟨2, ![128, 256]⟩
abbrev S256x256 : Shape := ⟨2, ![256, 256]⟩
abbrev S1 : Shape := ⟨1, ![1]⟩
abbrev S128x64 : Shape := ⟨2, ![128, 64]⟩
abbrev S128x128 : Shape := ⟨2, ![128, 128]⟩
abbrev S128 : Shape := ⟨1, ![128]⟩
abbrev S128x1 : Shape := ⟨2, ![128, 1]⟩

abbrev nBuf : Space → Nat
  | .hbm => 6
  | .vmem => 10
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S256x512, .f32⟩
  | .local _ .vmem, ⟨5, _⟩ => ⟨S2x128x512, .f32⟩
  | .local _ .vmem, ⟨6, _⟩ => ⟨S4096x512, .bf16⟩
  | .local _ .vmem, ⟨7, _⟩ => ⟨S4096x512, .bf16⟩
  | .local _ .vmem, ⟨8, _⟩ => ⟨S15x128x512, .bf16⟩
  | .local _ .vmem, ⟨9, _⟩ => ⟨S15x128x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 126 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | _ => false

abbrev sig : RefSig :=
  (ofTc nBuf bufTy 1 126 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_139 : BitVec 32 := 0#32
  let c0_i32_39 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_34 : BitVec 32 := 1#32
  let v51 : BitVec 32 := Scalar.subi v50 c1_i32_34
  let c32_i32 : BitVec 32 := 32#32
  let v52 : BitVec 32 := Scalar.addi v51 c32_i32
  let c16_i32_35 : BitVec 32 := 16#32
  let v53 : BitVec 32 := Scalar.remsi v52 c16_i32_35
  let c0_i32_36 : BitVec 32 := 0#32
  let v54 : BitVec 1 := Scalar.cmpi .eq v53 c0_i32_36
  let c0_i32_37 : BitVec 32 := 0#32
  let c0_i32_38 : BitVec 32 := 0#32
  let v55 : BitVec 32 := Scalar.select v54 c0_i32_37 c0_i32_38
  let v56 : BitVec 32 := Scalar.addi c0_i32_39 v55
  let c1_i32_40 : BitVec 32 := 1#32
  let v57 : BitVec 1 := Scalar.cmpi .eq v53 c1_i32_40
  let c4_i32_41 : BitVec 32 := 4#32
  let c0_i32_42 : BitVec 32 := 0#32
  let v58 : BitVec 32 := Scalar.select v57 c4_i32_41 c0_i32_42
  let v59 : BitVec 32 := Scalar.addi v56 v58
  let c2_i32_43 : BitVec 32 := 2#32
  let v60 : BitVec 1 := Scalar.cmpi .eq v53 c2_i32_43
  let c8_i32_44 : BitVec 32 := 8#32
  let c0_i32_45 : BitVec 32 := 0#32
  let v61 : BitVec 32 := Scalar.select v60 c8_i32_44 c0_i32_45
  let v62 : BitVec 32 := Scalar.addi v59 v61
  let c3_i32_46 : BitVec 32 := 3#32
  let v63 : BitVec 1 := Scalar.cmpi .eq v53 c3_i32_46
  let c12_i32_47 : BitVec 32 := 12#32
  let c0_i32_48 : BitVec 32 := 0#32
  let v64 : BitVec 32 := Scalar.select v63 c12_i32_47 c0_i32_48
  let v65 : BitVec 32 := Scalar.addi v62 v64
  let c4_i32_49 : BitVec 32 := 4#32
  let v66 : BitVec 1 := Scalar.cmpi .eq v53 c4_i32_49
  let c15_i32_50 : BitVec 32 := 15#32
  let c0_i32_51 : BitVec 32 := 0#32
  let v67 : BitVec 32 := Scalar.select v66 c15_i32_50 c0_i32_51
  let v68 : BitVec 32 := Scalar.addi v65 v67
  let c5_i32_52 : BitVec 32 := 5#32
  let v69 : BitVec 1 := Scalar.cmpi .eq v53 c5_i32_52
  let c11_i32_53 : BitVec 32 := 11#32
  let c0_i32_54 : BitVec 32 := 0#32
  let v70 : BitVec 32 := Scalar.select v69 c11_i32_53 c0_i32_54
  let v71 : BitVec 32 := Scalar.addi v68 v70
  let c6_i32_55 : BitVec 32 := 6#32
  let v72 : BitVec 1 := Scalar.cmpi .eq v53 c6_i32_55
  let c7_i32_56 : BitVec 32 := 7#32
  let c0_i32_57 : BitVec 32 := 0#32
  let v73 : BitVec 32 := Scalar.select v72 c7_i32_56 c0_i32_57
  let v74 : BitVec 32 := Scalar.addi v71 v73
  let c7_i32_58 : BitVec 32 := 7#32
  let v75 : BitVec 1 := Scalar.cmpi .eq v53 c7_i32_58
  let c3_i32_59 : BitVec 32 := 3#32
  let c0_i32_60 : BitVec 32 := 0#32
  let v76 : BitVec 32 := Scalar.select v75 c3_i32_59 c0_i32_60
  let v77 : BitVec 32 := Scalar.addi v74 v76
  let c8_i32_61 : BitVec 32 := 8#32
  let v78 : BitVec 1 := Scalar.cmpi .eq v53 c8_i32_61
  let c2_i32_62 : BitVec 32 := 2#32
  let c0_i32_63 : BitVec 32 := 0#32
  let v79 : BitVec 32 := Scalar.select v78 c2_i32_62 c0_i32_63
  let v80 : BitVec 32 := Scalar.addi v77 v79
  let c9_i32_64 : BitVec 32 := 9#32
  let v81 : BitVec 1 := Scalar.cmpi .eq v53 c9_i32_64
  let c6_i32_65 : BitVec 32 := 6#32
  let c0_i32_66 : BitVec 32 := 0#32
  let v82 : BitVec 32 := Scalar.select v81 c6_i32_65 c0_i32_66
  let v83 : BitVec 32 := Scalar.addi v80 v82
  let c10_i32_67 : BitVec 32 := 10#32
  let v84 : BitVec 1 := Scalar.cmpi .eq v53 c10_i32_67
  let c10_i32_68 : BitVec 32 := 10#32
  let c0_i32_69 : BitVec 32 := 0#32
  let v85 : BitVec 32 := Scalar.select v84 c10_i32_68 c0_i32_69
  let v86 : BitVec 32 := Scalar.addi v83 v85
  let c11_i32_70 : BitVec 32 := 11#32
  let v87 : BitVec 1 := Scalar.cmpi .eq v53 c11_i32_70
  let c14_i32_71 : BitVec 32 := 14#32
  let c0_i32_72 : BitVec 32 := 0#32
  let v88 : BitVec 32 := Scalar.select v87 c14_i32_71 c0_i32_72
  let v89 : BitVec 32 := Scalar.addi v86 v88
  let c12_i32_73 : BitVec 32 := 12#32
  let v90 : BitVec 1 := Scalar.cmpi .eq v53 c12_i32_73
  let c13_i32_74 : BitVec 32 := 13#32
  let c0_i32_75 : BitVec 32 := 0#32
  let v91 : BitVec 32 := Scalar.select v90 c13_i32_74 c0_i32_75
  let v92 : BitVec 32 := Scalar.addi v89 v91
  let c13_i32_76 : BitVec 32 := 13#32
  let v93 : BitVec 1 := Scalar.cmpi .eq v53 c13_i32_76
  let c9_i32_77 : BitVec 32 := 9#32
  let c0_i32_78 : BitVec 32 := 0#32
  let v94 : BitVec 32 := Scalar.select v93 c9_i32_77 c0_i32_78
  let v95 : BitVec 32 := Scalar.addi v92 v94
  let c14_i32_79 : BitVec 32 := 14#32
  let v96 : BitVec 1 := Scalar.cmpi .eq v53 c14_i32_79
  let c5_i32_80 : BitVec 32 := 5#32
  let c0_i32_81 : BitVec 32 := 0#32
  let v97 : BitVec 32 := Scalar.select v96 c5_i32_80 c0_i32_81
  let v98 : BitVec 32 := Scalar.addi v95 v97
  let c15_i32_82 : BitVec 32 := 15#32
  let v99 : BitVec 1 := Scalar.cmpi .eq v53 c15_i32_82
  let c1_i32_83 : BitVec 32 := 1#32
  let c0_i32_84 : BitVec 32 := 0#32
  let v100 : BitVec 32 := Scalar.select v99 c1_i32_83 c0_i32_84
  let v101 : BitVec 32 := Scalar.addi v98 v100
  let c1_i32_138 : BitVec 32 := 1#32
  let v154 : BitVec 32 := Scalar.muli v101 c1_i32_138
  let v155 : BitVec 32 := Scalar.addi c0_i32_139 v154
  v155.toNat
def k0_dev2 (d0 : Dev nD) : Nat :=
  let c0_i32_142 : BitVec 32 := 0#32
  let c0_i32_91 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_85 : BitVec 32 := 1#32
  let v102 : BitVec 32 := Scalar.addi v50 c1_i32_85
  let c32_i32_86 : BitVec 32 := 32#32
  let v103 : BitVec 32 := Scalar.addi v102 c32_i32_86
  let c16_i32_87 : BitVec 32 := 16#32
  let v104 : BitVec 32 := Scalar.remsi v103 c16_i32_87
  let c0_i32_88 : BitVec 32 := 0#32
  let v105 : BitVec 1 := Scalar.cmpi .eq v104 c0_i32_88
  let c0_i32_89 : BitVec 32 := 0#32
  let c0_i32_90 : BitVec 32 := 0#32
  let v106 : BitVec 32 := Scalar.select v105 c0_i32_89 c0_i32_90
  let v107 : BitVec 32 := Scalar.addi c0_i32_91 v106
  let c1_i32_92 : BitVec 32 := 1#32
  let v108 : BitVec 1 := Scalar.cmpi .eq v104 c1_i32_92
  let c4_i32_93 : BitVec 32 := 4#32
  let c0_i32_94 : BitVec 32 := 0#32
  let v109 : BitVec 32 := Scalar.select v108 c4_i32_93 c0_i32_94
  let v110 : BitVec 32 := Scalar.addi v107 v109
  let c2_i32_95 : BitVec 32 := 2#32
  let v111 : BitVec 1 := Scalar.cmpi .eq v104 c2_i32_95
  let c8_i32_96 : BitVec 32 := 8#32
  let c0_i32_97 : BitVec 32 := 0#32
  let v112 : BitVec 32 := Scalar.select v111 c8_i32_96 c0_i32_97
  let v113 : BitVec 32 := Scalar.addi v110 v112
  let c3_i32_98 : BitVec 32 := 3#32
  let v114 : BitVec 1 := Scalar.cmpi .eq v104 c3_i32_98
  let c12_i32_99 : BitVec 32 := 12#32
  let c0_i32_100 : BitVec 32 := 0#32
  let v115 : BitVec 32 := Scalar.select v114 c12_i32_99 c0_i32_100
  let v116 : BitVec 32 := Scalar.addi v113 v115
  let c4_i32_101 : BitVec 32 := 4#32
  let v117 : BitVec 1 := Scalar.cmpi .eq v104 c4_i32_101
  let c15_i32_102 : BitVec 32 := 15#32
  let c0_i32_103 : BitVec 32 := 0#32
  let v118 : BitVec 32 := Scalar.select v117 c15_i32_102 c0_i32_103
  let v119 : BitVec 32 := Scalar.addi v116 v118
  let c5_i32_104 : BitVec 32 := 5#32
  let v120 : BitVec 1 := Scalar.cmpi .eq v104 c5_i32_104
  let c11_i32_105 : BitVec 32 := 11#32
  let c0_i32_106 : BitVec 32 := 0#32
  let v121 : BitVec 32 := Scalar.select v120 c11_i32_105 c0_i32_106
  let v122 : BitVec 32 := Scalar.addi v119 v121
  let c6_i32_107 : BitVec 32 := 6#32
  let v123 : BitVec 1 := Scalar.cmpi .eq v104 c6_i32_107
  let c7_i32_108 : BitVec 32 := 7#32
  let c0_i32_109 : BitVec 32 := 0#32
  let v124 : BitVec 32 := Scalar.select v123 c7_i32_108 c0_i32_109
  let v125 : BitVec 32 := Scalar.addi v122 v124
  let c7_i32_110 : BitVec 32 := 7#32
  let v126 : BitVec 1 := Scalar.cmpi .eq v104 c7_i32_110
  let c3_i32_111 : BitVec 32 := 3#32
  let c0_i32_112 : BitVec 32 := 0#32
  let v127 : BitVec 32 := Scalar.select v126 c3_i32_111 c0_i32_112
  let v128 : BitVec 32 := Scalar.addi v125 v127
  let c8_i32_113 : BitVec 32 := 8#32
  let v129 : BitVec 1 := Scalar.cmpi .eq v104 c8_i32_113
  let c2_i32_114 : BitVec 32 := 2#32
  let c0_i32_115 : BitVec 32 := 0#32
  let v130 : BitVec 32 := Scalar.select v129 c2_i32_114 c0_i32_115
  let v131 : BitVec 32 := Scalar.addi v128 v130
  let c9_i32_116 : BitVec 32 := 9#32
  let v132 : BitVec 1 := Scalar.cmpi .eq v104 c9_i32_116
  let c6_i32_117 : BitVec 32 := 6#32
  let c0_i32_118 : BitVec 32 := 0#32
  let v133 : BitVec 32 := Scalar.select v132 c6_i32_117 c0_i32_118
  let v134 : BitVec 32 := Scalar.addi v131 v133
  let c10_i32_119 : BitVec 32 := 10#32
  let v135 : BitVec 1 := Scalar.cmpi .eq v104 c10_i32_119
  let c10_i32_120 : BitVec 32 := 10#32
  let c0_i32_121 : BitVec 32 := 0#32
  let v136 : BitVec 32 := Scalar.select v135 c10_i32_120 c0_i32_121
  let v137 : BitVec 32 := Scalar.addi v134 v136
  let c11_i32_122 : BitVec 32 := 11#32
  let v138 : BitVec 1 := Scalar.cmpi .eq v104 c11_i32_122
  let c14_i32_123 : BitVec 32 := 14#32
  let c0_i32_124 : BitVec 32 := 0#32
  let v139 : BitVec 32 := Scalar.select v138 c14_i32_123 c0_i32_124
  let v140 : BitVec 32 := Scalar.addi v137 v139
  let c12_i32_125 : BitVec 32 := 12#32
  let v141 : BitVec 1 := Scalar.cmpi .eq v104 c12_i32_125
  let c13_i32_126 : BitVec 32 := 13#32
  let c0_i32_127 : BitVec 32 := 0#32
  let v142 : BitVec 32 := Scalar.select v141 c13_i32_126 c0_i32_127
  let v143 : BitVec 32 := Scalar.addi v140 v142
  let c13_i32_128 : BitVec 32 := 13#32
  let v144 : BitVec 1 := Scalar.cmpi .eq v104 c13_i32_128
  let c9_i32_129 : BitVec 32 := 9#32
  let c0_i32_130 : BitVec 32 := 0#32
  let v145 : BitVec 32 := Scalar.select v144 c9_i32_129 c0_i32_130
  let v146 : BitVec 32 := Scalar.addi v143 v145
  let c14_i32_131 : BitVec 32 := 14#32
  let v147 : BitVec 1 := Scalar.cmpi .eq v104 c14_i32_131
  let c5_i32_132 : BitVec 32 := 5#32
  let c0_i32_133 : BitVec 32 := 0#32
  let v148 : BitVec 32 := Scalar.select v147 c5_i32_132 c0_i32_133
  let v149 : BitVec 32 := Scalar.addi v146 v148
  let c15_i32_134 : BitVec 32 := 15#32
  let v150 : BitVec 1 := Scalar.cmpi .eq v104 c15_i32_134
  let c1_i32_135 : BitVec 32 := 1#32
  let c0_i32_136 : BitVec 32 := 0#32
  let v151 : BitVec 32 := Scalar.select v150 c1_i32_135 c0_i32_136
  let v152 : BitVec 32 := Scalar.addi v149 v151
  let c1_i32_141 : BitVec 32 := 1#32
  let v156 : BitVec 32 := Scalar.muli v152 c1_i32_141
  let v157 : BitVec 32 := Scalar.addi c0_i32_142 v156
  v157.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v161 : BitVec 32 := Scalar.muli v2 c256_i32
  let v162 : Index := Scalar.indexCast v161
  let c0_146 : Index := 0#32
  ![v162.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_149 : BitVec 32 := 256#32
  let v169 : BitVec 32 := Scalar.muli v2 c256_i32_149
  let c128_i32 : BitVec 32 := 128#32
  let v170 : BitVec 32 := Scalar.addi v169 c128_i32
  let v171 : Index := Scalar.indexCast v170
  let c0_150 : Index := 0#32
  ![v171.toNat, 0]
def k0_off3 (d0 : Dev nD) (c0_i32_186 : BitVec 32) : Fin 2 → Nat :=
  let c0_i32_192 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let v277 : BitVec 32 := Scalar.subi v50 c0_i32_186
  let c32_i32_187 : BitVec 32 := 32#32
  let v278 : BitVec 32 := Scalar.addi v277 c32_i32_187
  let c16_i32_188 : BitVec 32 := 16#32
  let v279 : BitVec 32 := Scalar.remsi v278 c16_i32_188
  let c0_i32_189 : BitVec 32 := 0#32
  let v280 : BitVec 1 := Scalar.cmpi .eq v279 c0_i32_189
  let c0_i32_190 : BitVec 32 := 0#32
  let c0_i32_191 : BitVec 32 := 0#32
  let v281 : BitVec 32 := Scalar.select v280 c0_i32_190 c0_i32_191
  let v282 : BitVec 32 := Scalar.addi c0_i32_192 v281
  let c1_i32_193 : BitVec 32 := 1#32
  let v283 : BitVec 1 := Scalar.cmpi .eq v279 c1_i32_193
  let c4_i32_194 : BitVec 32 := 4#32
  let c0_i32_195 : BitVec 32 := 0#32
  let v284 : BitVec 32 := Scalar.select v283 c4_i32_194 c0_i32_195
  let v285 : BitVec 32 := Scalar.addi v282 v284
  let c2_i32_196 : BitVec 32 := 2#32
  let v286 : BitVec 1 := Scalar.cmpi .eq v279 c2_i32_196
  let c8_i32_197 : BitVec 32 := 8#32
  let c0_i32_198 : BitVec 32 := 0#32
  let v287 : BitVec 32 := Scalar.select v286 c8_i32_197 c0_i32_198
  let v288 : BitVec 32 := Scalar.addi v285 v287
  let c3_i32_199 : BitVec 32 := 3#32
  let v289 : BitVec 1 := Scalar.cmpi .eq v279 c3_i32_199
  let c12_i32_200 : BitVec 32 := 12#32
  let c0_i32_201 : BitVec 32 := 0#32
  let v290 : BitVec 32 := Scalar.select v289 c12_i32_200 c0_i32_201
  let v291 : BitVec 32 := Scalar.addi v288 v290
  let c4_i32_202 : BitVec 32 := 4#32
  let v292 : BitVec 1 := Scalar.cmpi .eq v279 c4_i32_202
  let c15_i32_203 : BitVec 32 := 15#32
  let c0_i32_204 : BitVec 32 := 0#32
  let v293 : BitVec 32 := Scalar.select v292 c15_i32_203 c0_i32_204
  let v294 : BitVec 32 := Scalar.addi v291 v293
  let c5_i32_205 : BitVec 32 := 5#32
  let v295 : BitVec 1 := Scalar.cmpi .eq v279 c5_i32_205
  let c11_i32_206 : BitVec 32 := 11#32
  let c0_i32_207 : BitVec 32 := 0#32
  let v296 : BitVec 32 := Scalar.select v295 c11_i32_206 c0_i32_207
  let v297 : BitVec 32 := Scalar.addi v294 v296
  let c6_i32_208 : BitVec 32 := 6#32
  let v298 : BitVec 1 := Scalar.cmpi .eq v279 c6_i32_208
  let c7_i32_209 : BitVec 32 := 7#32
  let c0_i32_210 : BitVec 32 := 0#32
  let v299 : BitVec 32 := Scalar.select v298 c7_i32_209 c0_i32_210
  let v300 : BitVec 32 := Scalar.addi v297 v299
  let c7_i32_211 : BitVec 32 := 7#32
  let v301 : BitVec 1 := Scalar.cmpi .eq v279 c7_i32_211
  let c3_i32_212 : BitVec 32 := 3#32
  let c0_i32_213 : BitVec 32 := 0#32
  let v302 : BitVec 32 := Scalar.select v301 c3_i32_212 c0_i32_213
  let v303 : BitVec 32 := Scalar.addi v300 v302
  let c8_i32_214 : BitVec 32 := 8#32
  let v304 : BitVec 1 := Scalar.cmpi .eq v279 c8_i32_214
  let c2_i32_215 : BitVec 32 := 2#32
  let c0_i32_216 : BitVec 32 := 0#32
  let v305 : BitVec 32 := Scalar.select v304 c2_i32_215 c0_i32_216
  let v306 : BitVec 32 := Scalar.addi v303 v305
  let c9_i32_217 : BitVec 32 := 9#32
  let v307 : BitVec 1 := Scalar.cmpi .eq v279 c9_i32_217
  let c6_i32_218 : BitVec 32 := 6#32
  let c0_i32_219 : BitVec 32 := 0#32
  let v308 : BitVec 32 := Scalar.select v307 c6_i32_218 c0_i32_219
  let v309 : BitVec 32 := Scalar.addi v306 v308
  let c10_i32_220 : BitVec 32 := 10#32
  let v310 : BitVec 1 := Scalar.cmpi .eq v279 c10_i32_220
  let c10_i32_221 : BitVec 32 := 10#32
  let c0_i32_222 : BitVec 32 := 0#32
  let v311 : BitVec 32 := Scalar.select v310 c10_i32_221 c0_i32_222
  let v312 : BitVec 32 := Scalar.addi v309 v311
  let c11_i32_223 : BitVec 32 := 11#32
  let v313 : BitVec 1 := Scalar.cmpi .eq v279 c11_i32_223
  let c14_i32_224 : BitVec 32 := 14#32
  let c0_i32_225 : BitVec 32 := 0#32
  let v314 : BitVec 32 := Scalar.select v313 c14_i32_224 c0_i32_225
  let v315 : BitVec 32 := Scalar.addi v312 v314
  let c12_i32_226 : BitVec 32 := 12#32
  let v316 : BitVec 1 := Scalar.cmpi .eq v279 c12_i32_226
  let c13_i32_227 : BitVec 32 := 13#32
  let c0_i32_228 : BitVec 32 := 0#32
  let v317 : BitVec 32 := Scalar.select v316 c13_i32_227 c0_i32_228
  let v318 : BitVec 32 := Scalar.addi v315 v317
  let c13_i32_229 : BitVec 32 := 13#32
  let v319 : BitVec 1 := Scalar.cmpi .eq v279 c13_i32_229
  let c9_i32_230 : BitVec 32 := 9#32
  let c0_i32_231 : BitVec 32 := 0#32
  let v320 : BitVec 32 := Scalar.select v319 c9_i32_230 c0_i32_231
  let v321 : BitVec 32 := Scalar.addi v318 v320
  let c14_i32_232 : BitVec 32 := 14#32
  let v322 : BitVec 1 := Scalar.cmpi .eq v279 c14_i32_232
  let c5_i32_233 : BitVec 32 := 5#32
  let c0_i32_234 : BitVec 32 := 0#32
  let v323 : BitVec 32 := Scalar.select v322 c5_i32_233 c0_i32_234
  let v324 : BitVec 32 := Scalar.addi v321 v323
  let c15_i32_235 : BitVec 32 := 15#32
  let v325 : BitVec 1 := Scalar.cmpi .eq v279 c15_i32_235
  let c1_i32_236 : BitVec 32 := 1#32
  let c0_i32_237 : BitVec 32 := 0#32
  let v326 : BitVec 32 := Scalar.select v325 c1_i32_236 c0_i32_237
  let v327 : BitVec 32 := Scalar.addi v324 v326
  let c256_i32_238 : BitVec 32 := 256#32
  let v328 : BitVec 32 := Scalar.muli v327 c256_i32_238
  let c0_i32_297 : BitVec 32 := 0#32
  ![v328.toNat, 0]
def k0_dev3 (d0 : Dev nD) : Nat :=
  let c0_i32_296 : BitVec 32 := 0#32
  let c0_i32_91 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_85 : BitVec 32 := 1#32
  let v102 : BitVec 32 := Scalar.addi v50 c1_i32_85
  let c32_i32_86 : BitVec 32 := 32#32
  let v103 : BitVec 32 := Scalar.addi v102 c32_i32_86
  let c16_i32_87 : BitVec 32 := 16#32
  let v104 : BitVec 32 := Scalar.remsi v103 c16_i32_87
  let c0_i32_88 : BitVec 32 := 0#32
  let v105 : BitVec 1 := Scalar.cmpi .eq v104 c0_i32_88
  let c0_i32_89 : BitVec 32 := 0#32
  let c0_i32_90 : BitVec 32 := 0#32
  let v106 : BitVec 32 := Scalar.select v105 c0_i32_89 c0_i32_90
  let v107 : BitVec 32 := Scalar.addi c0_i32_91 v106
  let c1_i32_92 : BitVec 32 := 1#32
  let v108 : BitVec 1 := Scalar.cmpi .eq v104 c1_i32_92
  let c4_i32_93 : BitVec 32 := 4#32
  let c0_i32_94 : BitVec 32 := 0#32
  let v109 : BitVec 32 := Scalar.select v108 c4_i32_93 c0_i32_94
  let v110 : BitVec 32 := Scalar.addi v107 v109
  let c2_i32_95 : BitVec 32 := 2#32
  let v111 : BitVec 1 := Scalar.cmpi .eq v104 c2_i32_95
  let c8_i32_96 : BitVec 32 := 8#32
  let c0_i32_97 : BitVec 32 := 0#32
  let v112 : BitVec 32 := Scalar.select v111 c8_i32_96 c0_i32_97
  let v113 : BitVec 32 := Scalar.addi v110 v112
  let c3_i32_98 : BitVec 32 := 3#32
  let v114 : BitVec 1 := Scalar.cmpi .eq v104 c3_i32_98
  let c12_i32_99 : BitVec 32 := 12#32
  let c0_i32_100 : BitVec 32 := 0#32
  let v115 : BitVec 32 := Scalar.select v114 c12_i32_99 c0_i32_100
  let v116 : BitVec 32 := Scalar.addi v113 v115
  let c4_i32_101 : BitVec 32 := 4#32
  let v117 : BitVec 1 := Scalar.cmpi .eq v104 c4_i32_101
  let c15_i32_102 : BitVec 32 := 15#32
  let c0_i32_103 : BitVec 32 := 0#32
  let v118 : BitVec 32 := Scalar.select v117 c15_i32_102 c0_i32_103
  let v119 : BitVec 32 := Scalar.addi v116 v118
  let c5_i32_104 : BitVec 32 := 5#32
  let v120 : BitVec 1 := Scalar.cmpi .eq v104 c5_i32_104
  let c11_i32_105 : BitVec 32 := 11#32
  let c0_i32_106 : BitVec 32 := 0#32
  let v121 : BitVec 32 := Scalar.select v120 c11_i32_105 c0_i32_106
  let v122 : BitVec 32 := Scalar.addi v119 v121
  let c6_i32_107 : BitVec 32 := 6#32
  let v123 : BitVec 1 := Scalar.cmpi .eq v104 c6_i32_107
  let c7_i32_108 : BitVec 32 := 7#32
  let c0_i32_109 : BitVec 32 := 0#32
  let v124 : BitVec 32 := Scalar.select v123 c7_i32_108 c0_i32_109
  let v125 : BitVec 32 := Scalar.addi v122 v124
  let c7_i32_110 : BitVec 32 := 7#32
  let v126 : BitVec 1 := Scalar.cmpi .eq v104 c7_i32_110
  let c3_i32_111 : BitVec 32 := 3#32
  let c0_i32_112 : BitVec 32 := 0#32
  let v127 : BitVec 32 := Scalar.select v126 c3_i32_111 c0_i32_112
  let v128 : BitVec 32 := Scalar.addi v125 v127
  let c8_i32_113 : BitVec 32 := 8#32
  let v129 : BitVec 1 := Scalar.cmpi .eq v104 c8_i32_113
  let c2_i32_114 : BitVec 32 := 2#32
  let c0_i32_115 : BitVec 32 := 0#32
  let v130 : BitVec 32 := Scalar.select v129 c2_i32_114 c0_i32_115
  let v131 : BitVec 32 := Scalar.addi v128 v130
  let c9_i32_116 : BitVec 32 := 9#32
  let v132 : BitVec 1 := Scalar.cmpi .eq v104 c9_i32_116
  let c6_i32_117 : BitVec 32 := 6#32
  let c0_i32_118 : BitVec 32 := 0#32
  let v133 : BitVec 32 := Scalar.select v132 c6_i32_117 c0_i32_118
  let v134 : BitVec 32 := Scalar.addi v131 v133
  let c10_i32_119 : BitVec 32 := 10#32
  let v135 : BitVec 1 := Scalar.cmpi .eq v104 c10_i32_119
  let c10_i32_120 : BitVec 32 := 10#32
  let c0_i32_121 : BitVec 32 := 0#32
  let v136 : BitVec 32 := Scalar.select v135 c10_i32_120 c0_i32_121
  let v137 : BitVec 32 := Scalar.addi v134 v136
  let c11_i32_122 : BitVec 32 := 11#32
  let v138 : BitVec 1 := Scalar.cmpi .eq v104 c11_i32_122
  let c14_i32_123 : BitVec 32 := 14#32
  let c0_i32_124 : BitVec 32 := 0#32
  let v139 : BitVec 32 := Scalar.select v138 c14_i32_123 c0_i32_124
  let v140 : BitVec 32 := Scalar.addi v137 v139
  let c12_i32_125 : BitVec 32 := 12#32
  let v141 : BitVec 1 := Scalar.cmpi .eq v104 c12_i32_125
  let c13_i32_126 : BitVec 32 := 13#32
  let c0_i32_127 : BitVec 32 := 0#32
  let v142 : BitVec 32 := Scalar.select v141 c13_i32_126 c0_i32_127
  let v143 : BitVec 32 := Scalar.addi v140 v142
  let c13_i32_128 : BitVec 32 := 13#32
  let v144 : BitVec 1 := Scalar.cmpi .eq v104 c13_i32_128
  let c9_i32_129 : BitVec 32 := 9#32
  let c0_i32_130 : BitVec 32 := 0#32
  let v145 : BitVec 32 := Scalar.select v144 c9_i32_129 c0_i32_130
  let v146 : BitVec 32 := Scalar.addi v143 v145
  let c14_i32_131 : BitVec 32 := 14#32
  let v147 : BitVec 1 := Scalar.cmpi .eq v104 c14_i32_131
  let c5_i32_132 : BitVec 32 := 5#32
  let c0_i32_133 : BitVec 32 := 0#32
  let v148 : BitVec 32 := Scalar.select v147 c5_i32_132 c0_i32_133
  let v149 : BitVec 32 := Scalar.addi v146 v148
  let c15_i32_134 : BitVec 32 := 15#32
  let v150 : BitVec 1 := Scalar.cmpi .eq v104 c15_i32_134
  let c1_i32_135 : BitVec 32 := 1#32
  let c0_i32_136 : BitVec 32 := 0#32
  let v151 : BitVec 32 := Scalar.select v150 c1_i32_135 c0_i32_136
  let v152 : BitVec 32 := Scalar.addi v149 v151
  let c1_i32_295 : BitVec 32 := 1#32
  let v382 : BitVec 32 := Scalar.muli v152 c1_i32_295
  let v383 : BitVec 32 := Scalar.addi c0_i32_296 v382
  v383.toNat
def k0_off4 (d0 : Dev nD) (c0_i32_239 : BitVec 32) : Fin 2 → Nat :=
  let c0_i32_245 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let v329 : BitVec 32 := Scalar.addi v50 c0_i32_239
  let c32_i32_240 : BitVec 32 := 32#32
  let v330 : BitVec 32 := Scalar.addi v329 c32_i32_240
  let c16_i32_241 : BitVec 32 := 16#32
  let v331 : BitVec 32 := Scalar.remsi v330 c16_i32_241
  let c0_i32_242 : BitVec 32 := 0#32
  let v332 : BitVec 1 := Scalar.cmpi .eq v331 c0_i32_242
  let c0_i32_243 : BitVec 32 := 0#32
  let c0_i32_244 : BitVec 32 := 0#32
  let v333 : BitVec 32 := Scalar.select v332 c0_i32_243 c0_i32_244
  let v334 : BitVec 32 := Scalar.addi c0_i32_245 v333
  let c1_i32_246 : BitVec 32 := 1#32
  let v335 : BitVec 1 := Scalar.cmpi .eq v331 c1_i32_246
  let c4_i32_247 : BitVec 32 := 4#32
  let c0_i32_248 : BitVec 32 := 0#32
  let v336 : BitVec 32 := Scalar.select v335 c4_i32_247 c0_i32_248
  let v337 : BitVec 32 := Scalar.addi v334 v336
  let c2_i32_249 : BitVec 32 := 2#32
  let v338 : BitVec 1 := Scalar.cmpi .eq v331 c2_i32_249
  let c8_i32_250 : BitVec 32 := 8#32
  let c0_i32_251 : BitVec 32 := 0#32
  let v339 : BitVec 32 := Scalar.select v338 c8_i32_250 c0_i32_251
  let v340 : BitVec 32 := Scalar.addi v337 v339
  let c3_i32_252 : BitVec 32 := 3#32
  let v341 : BitVec 1 := Scalar.cmpi .eq v331 c3_i32_252
  let c12_i32_253 : BitVec 32 := 12#32
  let c0_i32_254 : BitVec 32 := 0#32
  let v342 : BitVec 32 := Scalar.select v341 c12_i32_253 c0_i32_254
  let v343 : BitVec 32 := Scalar.addi v340 v342
  let c4_i32_255 : BitVec 32 := 4#32
  let v344 : BitVec 1 := Scalar.cmpi .eq v331 c4_i32_255
  let c15_i32_256 : BitVec 32 := 15#32
  let c0_i32_257 : BitVec 32 := 0#32
  let v345 : BitVec 32 := Scalar.select v344 c15_i32_256 c0_i32_257
  let v346 : BitVec 32 := Scalar.addi v343 v345
  let c5_i32_258 : BitVec 32 := 5#32
  let v347 : BitVec 1 := Scalar.cmpi .eq v331 c5_i32_258
  let c11_i32_259 : BitVec 32 := 11#32
  let c0_i32_260 : BitVec 32 := 0#32
  let v348 : BitVec 32 := Scalar.select v347 c11_i32_259 c0_i32_260
  let v349 : BitVec 32 := Scalar.addi v346 v348
  let c6_i32_261 : BitVec 32 := 6#32
  let v350 : BitVec 1 := Scalar.cmpi .eq v331 c6_i32_261
  let c7_i32_262 : BitVec 32 := 7#32
  let c0_i32_263 : BitVec 32 := 0#32
  let v351 : BitVec 32 := Scalar.select v350 c7_i32_262 c0_i32_263
  let v352 : BitVec 32 := Scalar.addi v349 v351
  let c7_i32_264 : BitVec 32 := 7#32
  let v353 : BitVec 1 := Scalar.cmpi .eq v331 c7_i32_264
  let c3_i32_265 : BitVec 32 := 3#32
  let c0_i32_266 : BitVec 32 := 0#32
  let v354 : BitVec 32 := Scalar.select v353 c3_i32_265 c0_i32_266
  let v355 : BitVec 32 := Scalar.addi v352 v354
  let c8_i32_267 : BitVec 32 := 8#32
  let v356 : BitVec 1 := Scalar.cmpi .eq v331 c8_i32_267
  let c2_i32_268 : BitVec 32 := 2#32
  let c0_i32_269 : BitVec 32 := 0#32
  let v357 : BitVec 32 := Scalar.select v356 c2_i32_268 c0_i32_269
  let v358 : BitVec 32 := Scalar.addi v355 v357
  let c9_i32_270 : BitVec 32 := 9#32
  let v359 : BitVec 1 := Scalar.cmpi .eq v331 c9_i32_270
  let c6_i32_271 : BitVec 32 := 6#32
  let c0_i32_272 : BitVec 32 := 0#32
  let v360 : BitVec 32 := Scalar.select v359 c6_i32_271 c0_i32_272
  let v361 : BitVec 32 := Scalar.addi v358 v360
  let c10_i32_273 : BitVec 32 := 10#32
  let v362 : BitVec 1 := Scalar.cmpi .eq v331 c10_i32_273
  let c10_i32_274 : BitVec 32 := 10#32
  let c0_i32_275 : BitVec 32 := 0#32
  let v363 : BitVec 32 := Scalar.select v362 c10_i32_274 c0_i32_275
  let v364 : BitVec 32 := Scalar.addi v361 v363
  let c11_i32_276 : BitVec 32 := 11#32
  let v365 : BitVec 1 := Scalar.cmpi .eq v331 c11_i32_276
  let c14_i32_277 : BitVec 32 := 14#32
  let c0_i32_278 : BitVec 32 := 0#32
  let v366 : BitVec 32 := Scalar.select v365 c14_i32_277 c0_i32_278
  let v367 : BitVec 32 := Scalar.addi v364 v366
  let c12_i32_279 : BitVec 32 := 12#32
  let v368 : BitVec 1 := Scalar.cmpi .eq v331 c12_i32_279
  let c13_i32_280 : BitVec 32 := 13#32
  let c0_i32_281 : BitVec 32 := 0#32
  let v369 : BitVec 32 := Scalar.select v368 c13_i32_280 c0_i32_281
  let v370 : BitVec 32 := Scalar.addi v367 v369
  let c13_i32_282 : BitVec 32 := 13#32
  let v371 : BitVec 1 := Scalar.cmpi .eq v331 c13_i32_282
  let c9_i32_283 : BitVec 32 := 9#32
  let c0_i32_284 : BitVec 32 := 0#32
  let v372 : BitVec 32 := Scalar.select v371 c9_i32_283 c0_i32_284
  let v373 : BitVec 32 := Scalar.addi v370 v372
  let c14_i32_285 : BitVec 32 := 14#32
  let v374 : BitVec 1 := Scalar.cmpi .eq v331 c14_i32_285
  let c5_i32_286 : BitVec 32 := 5#32
  let c0_i32_287 : BitVec 32 := 0#32
  let v375 : BitVec 32 := Scalar.select v374 c5_i32_286 c0_i32_287
  let v376 : BitVec 32 := Scalar.addi v373 v375
  let c15_i32_288 : BitVec 32 := 15#32
  let v377 : BitVec 1 := Scalar.cmpi .eq v331 c15_i32_288
  let c1_i32_289 : BitVec 32 := 1#32
  let c0_i32_290 : BitVec 32 := 0#32
  let v378 : BitVec 32 := Scalar.select v377 c1_i32_289 c0_i32_290
  let v379 : BitVec 32 := Scalar.addi v376 v378
  let c256_i32_291 : BitVec 32 := 256#32
  let v380 : BitVec 32 := Scalar.muli v379 c256_i32_291
  let c128_i32_292 : BitVec 32 := 128#32
  let v381 : BitVec 32 := Scalar.addi v380 c128_i32_292
  let c0_i32_303 : BitVec 32 := 0#32
  ![v381.toNat, 0]
def k0_dev4 (d0 : Dev nD) : Nat :=
  let c0_i32_302 : BitVec 32 := 0#32
  let c0_i32_39 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_34 : BitVec 32 := 1#32
  let v51 : BitVec 32 := Scalar.subi v50 c1_i32_34
  let c32_i32 : BitVec 32 := 32#32
  let v52 : BitVec 32 := Scalar.addi v51 c32_i32
  let c16_i32_35 : BitVec 32 := 16#32
  let v53 : BitVec 32 := Scalar.remsi v52 c16_i32_35
  let c0_i32_36 : BitVec 32 := 0#32
  let v54 : BitVec 1 := Scalar.cmpi .eq v53 c0_i32_36
  let c0_i32_37 : BitVec 32 := 0#32
  let c0_i32_38 : BitVec 32 := 0#32
  let v55 : BitVec 32 := Scalar.select v54 c0_i32_37 c0_i32_38
  let v56 : BitVec 32 := Scalar.addi c0_i32_39 v55
  let c1_i32_40 : BitVec 32 := 1#32
  let v57 : BitVec 1 := Scalar.cmpi .eq v53 c1_i32_40
  let c4_i32_41 : BitVec 32 := 4#32
  let c0_i32_42 : BitVec 32 := 0#32
  let v58 : BitVec 32 := Scalar.select v57 c4_i32_41 c0_i32_42
  let v59 : BitVec 32 := Scalar.addi v56 v58
  let c2_i32_43 : BitVec 32 := 2#32
  let v60 : BitVec 1 := Scalar.cmpi .eq v53 c2_i32_43
  let c8_i32_44 : BitVec 32 := 8#32
  let c0_i32_45 : BitVec 32 := 0#32
  let v61 : BitVec 32 := Scalar.select v60 c8_i32_44 c0_i32_45
  let v62 : BitVec 32 := Scalar.addi v59 v61
  let c3_i32_46 : BitVec 32 := 3#32
  let v63 : BitVec 1 := Scalar.cmpi .eq v53 c3_i32_46
  let c12_i32_47 : BitVec 32 := 12#32
  let c0_i32_48 : BitVec 32 := 0#32
  let v64 : BitVec 32 := Scalar.select v63 c12_i32_47 c0_i32_48
  let v65 : BitVec 32 := Scalar.addi v62 v64
  let c4_i32_49 : BitVec 32 := 4#32
  let v66 : BitVec 1 := Scalar.cmpi .eq v53 c4_i32_49
  let c15_i32_50 : BitVec 32 := 15#32
  let c0_i32_51 : BitVec 32 := 0#32
  let v67 : BitVec 32 := Scalar.select v66 c15_i32_50 c0_i32_51
  let v68 : BitVec 32 := Scalar.addi v65 v67
  let c5_i32_52 : BitVec 32 := 5#32
  let v69 : BitVec 1 := Scalar.cmpi .eq v53 c5_i32_52
  let c11_i32_53 : BitVec 32 := 11#32
  let c0_i32_54 : BitVec 32 := 0#32
  let v70 : BitVec 32 := Scalar.select v69 c11_i32_53 c0_i32_54
  let v71 : BitVec 32 := Scalar.addi v68 v70
  let c6_i32_55 : BitVec 32 := 6#32
  let v72 : BitVec 1 := Scalar.cmpi .eq v53 c6_i32_55
  let c7_i32_56 : BitVec 32 := 7#32
  let c0_i32_57 : BitVec 32 := 0#32
  let v73 : BitVec 32 := Scalar.select v72 c7_i32_56 c0_i32_57
  let v74 : BitVec 32 := Scalar.addi v71 v73
  let c7_i32_58 : BitVec 32 := 7#32
  let v75 : BitVec 1 := Scalar.cmpi .eq v53 c7_i32_58
  let c3_i32_59 : BitVec 32 := 3#32
  let c0_i32_60 : BitVec 32 := 0#32
  let v76 : BitVec 32 := Scalar.select v75 c3_i32_59 c0_i32_60
  let v77 : BitVec 32 := Scalar.addi v74 v76
  let c8_i32_61 : BitVec 32 := 8#32
  let v78 : BitVec 1 := Scalar.cmpi .eq v53 c8_i32_61
  let c2_i32_62 : BitVec 32 := 2#32
  let c0_i32_63 : BitVec 32 := 0#32
  let v79 : BitVec 32 := Scalar.select v78 c2_i32_62 c0_i32_63
  let v80 : BitVec 32 := Scalar.addi v77 v79
  let c9_i32_64 : BitVec 32 := 9#32
  let v81 : BitVec 1 := Scalar.cmpi .eq v53 c9_i32_64
  let c6_i32_65 : BitVec 32 := 6#32
  let c0_i32_66 : BitVec 32 := 0#32
  let v82 : BitVec 32 := Scalar.select v81 c6_i32_65 c0_i32_66
  let v83 : BitVec 32 := Scalar.addi v80 v82
  let c10_i32_67 : BitVec 32 := 10#32
  let v84 : BitVec 1 := Scalar.cmpi .eq v53 c10_i32_67
  let c10_i32_68 : BitVec 32 := 10#32
  let c0_i32_69 : BitVec 32 := 0#32
  let v85 : BitVec 32 := Scalar.select v84 c10_i32_68 c0_i32_69
  let v86 : BitVec 32 := Scalar.addi v83 v85
  let c11_i32_70 : BitVec 32 := 11#32
  let v87 : BitVec 1 := Scalar.cmpi .eq v53 c11_i32_70
  let c14_i32_71 : BitVec 32 := 14#32
  let c0_i32_72 : BitVec 32 := 0#32
  let v88 : BitVec 32 := Scalar.select v87 c14_i32_71 c0_i32_72
  let v89 : BitVec 32 := Scalar.addi v86 v88
  let c12_i32_73 : BitVec 32 := 12#32
  let v90 : BitVec 1 := Scalar.cmpi .eq v53 c12_i32_73
  let c13_i32_74 : BitVec 32 := 13#32
  let c0_i32_75 : BitVec 32 := 0#32
  let v91 : BitVec 32 := Scalar.select v90 c13_i32_74 c0_i32_75
  let v92 : BitVec 32 := Scalar.addi v89 v91
  let c13_i32_76 : BitVec 32 := 13#32
  let v93 : BitVec 1 := Scalar.cmpi .eq v53 c13_i32_76
  let c9_i32_77 : BitVec 32 := 9#32
  let c0_i32_78 : BitVec 32 := 0#32
  let v94 : BitVec 32 := Scalar.select v93 c9_i32_77 c0_i32_78
  let v95 : BitVec 32 := Scalar.addi v92 v94
  let c14_i32_79 : BitVec 32 := 14#32
  let v96 : BitVec 1 := Scalar.cmpi .eq v53 c14_i32_79
  let c5_i32_80 : BitVec 32 := 5#32
  let c0_i32_81 : BitVec 32 := 0#32
  let v97 : BitVec 32 := Scalar.select v96 c5_i32_80 c0_i32_81
  let v98 : BitVec 32 := Scalar.addi v95 v97
  let c15_i32_82 : BitVec 32 := 15#32
  let v99 : BitVec 1 := Scalar.cmpi .eq v53 c15_i32_82
  let c1_i32_83 : BitVec 32 := 1#32
  let c0_i32_84 : BitVec 32 := 0#32
  let v100 : BitVec 32 := Scalar.select v99 c1_i32_83 c0_i32_84
  let v101 : BitVec 32 := Scalar.addi v98 v100
  let c1_i32_301 : BitVec 32 := 1#32
  let v390 : BitVec 32 := Scalar.muli v101 c1_i32_301
  let v391 : BitVec 32 := Scalar.addi c0_i32_302 v390
  v391.toNat
def k0_off5 (d0 : Dev nD) (c0_i32_186 : BitVec 32) : Fin 2 → Nat :=
  let c0_i32_192 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let v277 : BitVec 32 := Scalar.subi v50 c0_i32_186
  let c32_i32_187 : BitVec 32 := 32#32
  let v278 : BitVec 32 := Scalar.addi v277 c32_i32_187
  let c16_i32_188 : BitVec 32 := 16#32
  let v279 : BitVec 32 := Scalar.remsi v278 c16_i32_188
  let c0_i32_189 : BitVec 32 := 0#32
  let v280 : BitVec 1 := Scalar.cmpi .eq v279 c0_i32_189
  let c0_i32_190 : BitVec 32 := 0#32
  let c0_i32_191 : BitVec 32 := 0#32
  let v281 : BitVec 32 := Scalar.select v280 c0_i32_190 c0_i32_191
  let v282 : BitVec 32 := Scalar.addi c0_i32_192 v281
  let c1_i32_193 : BitVec 32 := 1#32
  let v283 : BitVec 1 := Scalar.cmpi .eq v279 c1_i32_193
  let c4_i32_194 : BitVec 32 := 4#32
  let c0_i32_195 : BitVec 32 := 0#32
  let v284 : BitVec 32 := Scalar.select v283 c4_i32_194 c0_i32_195
  let v285 : BitVec 32 := Scalar.addi v282 v284
  let c2_i32_196 : BitVec 32 := 2#32
  let v286 : BitVec 1 := Scalar.cmpi .eq v279 c2_i32_196
  let c8_i32_197 : BitVec 32 := 8#32
  let c0_i32_198 : BitVec 32 := 0#32
  let v287 : BitVec 32 := Scalar.select v286 c8_i32_197 c0_i32_198
  let v288 : BitVec 32 := Scalar.addi v285 v287
  let c3_i32_199 : BitVec 32 := 3#32
  let v289 : BitVec 1 := Scalar.cmpi .eq v279 c3_i32_199
  let c12_i32_200 : BitVec 32 := 12#32
  let c0_i32_201 : BitVec 32 := 0#32
  let v290 : BitVec 32 := Scalar.select v289 c12_i32_200 c0_i32_201
  let v291 : BitVec 32 := Scalar.addi v288 v290
  let c4_i32_202 : BitVec 32 := 4#32
  let v292 : BitVec 1 := Scalar.cmpi .eq v279 c4_i32_202
  let c15_i32_203 : BitVec 32 := 15#32
  let c0_i32_204 : BitVec 32 := 0#32
  let v293 : BitVec 32 := Scalar.select v292 c15_i32_203 c0_i32_204
  let v294 : BitVec 32 := Scalar.addi v291 v293
  let c5_i32_205 : BitVec 32 := 5#32
  let v295 : BitVec 1 := Scalar.cmpi .eq v279 c5_i32_205
  let c11_i32_206 : BitVec 32 := 11#32
  let c0_i32_207 : BitVec 32 := 0#32
  let v296 : BitVec 32 := Scalar.select v295 c11_i32_206 c0_i32_207
  let v297 : BitVec 32 := Scalar.addi v294 v296
  let c6_i32_208 : BitVec 32 := 6#32
  let v298 : BitVec 1 := Scalar.cmpi .eq v279 c6_i32_208
  let c7_i32_209 : BitVec 32 := 7#32
  let c0_i32_210 : BitVec 32 := 0#32
  let v299 : BitVec 32 := Scalar.select v298 c7_i32_209 c0_i32_210
  let v300 : BitVec 32 := Scalar.addi v297 v299
  let c7_i32_211 : BitVec 32 := 7#32
  let v301 : BitVec 1 := Scalar.cmpi .eq v279 c7_i32_211
  let c3_i32_212 : BitVec 32 := 3#32
  let c0_i32_213 : BitVec 32 := 0#32
  let v302 : BitVec 32 := Scalar.select v301 c3_i32_212 c0_i32_213
  let v303 : BitVec 32 := Scalar.addi v300 v302
  let c8_i32_214 : BitVec 32 := 8#32
  let v304 : BitVec 1 := Scalar.cmpi .eq v279 c8_i32_214
  let c2_i32_215 : BitVec 32 := 2#32
  let c0_i32_216 : BitVec 32 := 0#32
  let v305 : BitVec 32 := Scalar.select v304 c2_i32_215 c0_i32_216
  let v306 : BitVec 32 := Scalar.addi v303 v305
  let c9_i32_217 : BitVec 32 := 9#32
  let v307 : BitVec 1 := Scalar.cmpi .eq v279 c9_i32_217
  let c6_i32_218 : BitVec 32 := 6#32
  let c0_i32_219 : BitVec 32 := 0#32
  let v308 : BitVec 32 := Scalar.select v307 c6_i32_218 c0_i32_219
  let v309 : BitVec 32 := Scalar.addi v306 v308
  let c10_i32_220 : BitVec 32 := 10#32
  let v310 : BitVec 1 := Scalar.cmpi .eq v279 c10_i32_220
  let c10_i32_221 : BitVec 32 := 10#32
  let c0_i32_222 : BitVec 32 := 0#32
  let v311 : BitVec 32 := Scalar.select v310 c10_i32_221 c0_i32_222
  let v312 : BitVec 32 := Scalar.addi v309 v311
  let c11_i32_223 : BitVec 32 := 11#32
  let v313 : BitVec 1 := Scalar.cmpi .eq v279 c11_i32_223
  let c14_i32_224 : BitVec 32 := 14#32
  let c0_i32_225 : BitVec 32 := 0#32
  let v314 : BitVec 32 := Scalar.select v313 c14_i32_224 c0_i32_225
  let v315 : BitVec 32 := Scalar.addi v312 v314
  let c12_i32_226 : BitVec 32 := 12#32
  let v316 : BitVec 1 := Scalar.cmpi .eq v279 c12_i32_226
  let c13_i32_227 : BitVec 32 := 13#32
  let c0_i32_228 : BitVec 32 := 0#32
  let v317 : BitVec 32 := Scalar.select v316 c13_i32_227 c0_i32_228
  let v318 : BitVec 32 := Scalar.addi v315 v317
  let c13_i32_229 : BitVec 32 := 13#32
  let v319 : BitVec 1 := Scalar.cmpi .eq v279 c13_i32_229
  let c9_i32_230 : BitVec 32 := 9#32
  let c0_i32_231 : BitVec 32 := 0#32
  let v320 : BitVec 32 := Scalar.select v319 c9_i32_230 c0_i32_231
  let v321 : BitVec 32 := Scalar.addi v318 v320
  let c14_i32_232 : BitVec 32 := 14#32
  let v322 : BitVec 1 := Scalar.cmpi .eq v279 c14_i32_232
  let c5_i32_233 : BitVec 32 := 5#32
  let c0_i32_234 : BitVec 32 := 0#32
  let v323 : BitVec 32 := Scalar.select v322 c5_i32_233 c0_i32_234
  let v324 : BitVec 32 := Scalar.addi v321 v323
  let c15_i32_235 : BitVec 32 := 15#32
  let v325 : BitVec 1 := Scalar.cmpi .eq v279 c15_i32_235
  let c1_i32_236 : BitVec 32 := 1#32
  let c0_i32_237 : BitVec 32 := 0#32
  let v326 : BitVec 32 := Scalar.select v325 c1_i32_236 c0_i32_237
  let v327 : BitVec 32 := Scalar.addi v324 v326
  let c256_i32_238 : BitVec 32 := 256#32
  let v328 : BitVec 32 := Scalar.muli v327 c256_i32_238
  let v398 : Index := Scalar.indexCast v328
  let c0_305 : Index := 0#32
  ![v398.toNat, 0]
def k0_off6 (d0 : Dev nD) (c0_i32_239 : BitVec 32) : Fin 2 → Nat :=
  let c0_i32_245 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let v329 : BitVec 32 := Scalar.addi v50 c0_i32_239
  let c32_i32_240 : BitVec 32 := 32#32
  let v330 : BitVec 32 := Scalar.addi v329 c32_i32_240
  let c16_i32_241 : BitVec 32 := 16#32
  let v331 : BitVec 32 := Scalar.remsi v330 c16_i32_241
  let c0_i32_242 : BitVec 32 := 0#32
  let v332 : BitVec 1 := Scalar.cmpi .eq v331 c0_i32_242
  let c0_i32_243 : BitVec 32 := 0#32
  let c0_i32_244 : BitVec 32 := 0#32
  let v333 : BitVec 32 := Scalar.select v332 c0_i32_243 c0_i32_244
  let v334 : BitVec 32 := Scalar.addi c0_i32_245 v333
  let c1_i32_246 : BitVec 32 := 1#32
  let v335 : BitVec 1 := Scalar.cmpi .eq v331 c1_i32_246
  let c4_i32_247 : BitVec 32 := 4#32
  let c0_i32_248 : BitVec 32 := 0#32
  let v336 : BitVec 32 := Scalar.select v335 c4_i32_247 c0_i32_248
  let v337 : BitVec 32 := Scalar.addi v334 v336
  let c2_i32_249 : BitVec 32 := 2#32
  let v338 : BitVec 1 := Scalar.cmpi .eq v331 c2_i32_249
  let c8_i32_250 : BitVec 32 := 8#32
  let c0_i32_251 : BitVec 32 := 0#32
  let v339 : BitVec 32 := Scalar.select v338 c8_i32_250 c0_i32_251
  let v340 : BitVec 32 := Scalar.addi v337 v339
  let c3_i32_252 : BitVec 32 := 3#32
  let v341 : BitVec 1 := Scalar.cmpi .eq v331 c3_i32_252
  let c12_i32_253 : BitVec 32 := 12#32
  let c0_i32_254 : BitVec 32 := 0#32
  let v342 : BitVec 32 := Scalar.select v341 c12_i32_253 c0_i32_254
  let v343 : BitVec 32 := Scalar.addi v340 v342
  let c4_i32_255 : BitVec 32 := 4#32
  let v344 : BitVec 1 := Scalar.cmpi .eq v331 c4_i32_255
  let c15_i32_256 : BitVec 32 := 15#32
  let c0_i32_257 : BitVec 32 := 0#32
  let v345 : BitVec 32 := Scalar.select v344 c15_i32_256 c0_i32_257
  let v346 : BitVec 32 := Scalar.addi v343 v345
  let c5_i32_258 : BitVec 32 := 5#32
  let v347 : BitVec 1 := Scalar.cmpi .eq v331 c5_i32_258
  let c11_i32_259 : BitVec 32 := 11#32
  let c0_i32_260 : BitVec 32 := 0#32
  let v348 : BitVec 32 := Scalar.select v347 c11_i32_259 c0_i32_260
  let v349 : BitVec 32 := Scalar.addi v346 v348
  let c6_i32_261 : BitVec 32 := 6#32
  let v350 : BitVec 1 := Scalar.cmpi .eq v331 c6_i32_261
  let c7_i32_262 : BitVec 32 := 7#32
  let c0_i32_263 : BitVec 32 := 0#32
  let v351 : BitVec 32 := Scalar.select v350 c7_i32_262 c0_i32_263
  let v352 : BitVec 32 := Scalar.addi v349 v351
  let c7_i32_264 : BitVec 32 := 7#32
  let v353 : BitVec 1 := Scalar.cmpi .eq v331 c7_i32_264
  let c3_i32_265 : BitVec 32 := 3#32
  let c0_i32_266 : BitVec 32 := 0#32
  let v354 : BitVec 32 := Scalar.select v353 c3_i32_265 c0_i32_266
  let v355 : BitVec 32 := Scalar.addi v352 v354
  let c8_i32_267 : BitVec 32 := 8#32
  let v356 : BitVec 1 := Scalar.cmpi .eq v331 c8_i32_267
  let c2_i32_268 : BitVec 32 := 2#32
  let c0_i32_269 : BitVec 32 := 0#32
  let v357 : BitVec 32 := Scalar.select v356 c2_i32_268 c0_i32_269
  let v358 : BitVec 32 := Scalar.addi v355 v357
  let c9_i32_270 : BitVec 32 := 9#32
  let v359 : BitVec 1 := Scalar.cmpi .eq v331 c9_i32_270
  let c6_i32_271 : BitVec 32 := 6#32
  let c0_i32_272 : BitVec 32 := 0#32
  let v360 : BitVec 32 := Scalar.select v359 c6_i32_271 c0_i32_272
  let v361 : BitVec 32 := Scalar.addi v358 v360
  let c10_i32_273 : BitVec 32 := 10#32
  let v362 : BitVec 1 := Scalar.cmpi .eq v331 c10_i32_273
  let c10_i32_274 : BitVec 32 := 10#32
  let c0_i32_275 : BitVec 32 := 0#32
  let v363 : BitVec 32 := Scalar.select v362 c10_i32_274 c0_i32_275
  let v364 : BitVec 32 := Scalar.addi v361 v363
  let c11_i32_276 : BitVec 32 := 11#32
  let v365 : BitVec 1 := Scalar.cmpi .eq v331 c11_i32_276
  let c14_i32_277 : BitVec 32 := 14#32
  let c0_i32_278 : BitVec 32 := 0#32
  let v366 : BitVec 32 := Scalar.select v365 c14_i32_277 c0_i32_278
  let v367 : BitVec 32 := Scalar.addi v364 v366
  let c12_i32_279 : BitVec 32 := 12#32
  let v368 : BitVec 1 := Scalar.cmpi .eq v331 c12_i32_279
  let c13_i32_280 : BitVec 32 := 13#32
  let c0_i32_281 : BitVec 32 := 0#32
  let v369 : BitVec 32 := Scalar.select v368 c13_i32_280 c0_i32_281
  let v370 : BitVec 32 := Scalar.addi v367 v369
  let c13_i32_282 : BitVec 32 := 13#32
  let v371 : BitVec 1 := Scalar.cmpi .eq v331 c13_i32_282
  let c9_i32_283 : BitVec 32 := 9#32
  let c0_i32_284 : BitVec 32 := 0#32
  let v372 : BitVec 32 := Scalar.select v371 c9_i32_283 c0_i32_284
  let v373 : BitVec 32 := Scalar.addi v370 v372
  let c14_i32_285 : BitVec 32 := 14#32
  let v374 : BitVec 1 := Scalar.cmpi .eq v331 c14_i32_285
  let c5_i32_286 : BitVec 32 := 5#32
  let c0_i32_287 : BitVec 32 := 0#32
  let v375 : BitVec 32 := Scalar.select v374 c5_i32_286 c0_i32_287
  let v376 : BitVec 32 := Scalar.addi v373 v375
  let c15_i32_288 : BitVec 32 := 15#32
  let v377 : BitVec 1 := Scalar.cmpi .eq v331 c15_i32_288
  let c1_i32_289 : BitVec 32 := 1#32
  let c0_i32_290 : BitVec 32 := 0#32
  let v378 : BitVec 32 := Scalar.select v377 c1_i32_289 c0_i32_290
  let v379 : BitVec 32 := Scalar.addi v376 v378
  let c256_i32_291 : BitVec 32 := 256#32
  let v380 : BitVec 32 := Scalar.muli v379 c256_i32_291
  let c128_i32_292 : BitVec 32 := 128#32
  let v381 : BitVec 32 := Scalar.addi v380 c128_i32_292
  let v400 : Index := Scalar.indexCast v381
  let c0_306 : Index := 0#32
  ![v400.toNat, 0]
def k0_dev5 (d0 : Dev nD) : Nat :=
  let c0_i32_481 : BitVec 32 := 0#32
  let c0_i32_91 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_85 : BitVec 32 := 1#32
  let v102 : BitVec 32 := Scalar.addi v50 c1_i32_85
  let c32_i32_86 : BitVec 32 := 32#32
  let v103 : BitVec 32 := Scalar.addi v102 c32_i32_86
  let c16_i32_87 : BitVec 32 := 16#32
  let v104 : BitVec 32 := Scalar.remsi v103 c16_i32_87
  let c0_i32_88 : BitVec 32 := 0#32
  let v105 : BitVec 1 := Scalar.cmpi .eq v104 c0_i32_88
  let c0_i32_89 : BitVec 32 := 0#32
  let c0_i32_90 : BitVec 32 := 0#32
  let v106 : BitVec 32 := Scalar.select v105 c0_i32_89 c0_i32_90
  let v107 : BitVec 32 := Scalar.addi c0_i32_91 v106
  let c1_i32_92 : BitVec 32 := 1#32
  let v108 : BitVec 1 := Scalar.cmpi .eq v104 c1_i32_92
  let c4_i32_93 : BitVec 32 := 4#32
  let c0_i32_94 : BitVec 32 := 0#32
  let v109 : BitVec 32 := Scalar.select v108 c4_i32_93 c0_i32_94
  let v110 : BitVec 32 := Scalar.addi v107 v109
  let c2_i32_95 : BitVec 32 := 2#32
  let v111 : BitVec 1 := Scalar.cmpi .eq v104 c2_i32_95
  let c8_i32_96 : BitVec 32 := 8#32
  let c0_i32_97 : BitVec 32 := 0#32
  let v112 : BitVec 32 := Scalar.select v111 c8_i32_96 c0_i32_97
  let v113 : BitVec 32 := Scalar.addi v110 v112
  let c3_i32_98 : BitVec 32 := 3#32
  let v114 : BitVec 1 := Scalar.cmpi .eq v104 c3_i32_98
  let c12_i32_99 : BitVec 32 := 12#32
  let c0_i32_100 : BitVec 32 := 0#32
  let v115 : BitVec 32 := Scalar.select v114 c12_i32_99 c0_i32_100
  let v116 : BitVec 32 := Scalar.addi v113 v115
  let c4_i32_101 : BitVec 32 := 4#32
  let v117 : BitVec 1 := Scalar.cmpi .eq v104 c4_i32_101
  let c15_i32_102 : BitVec 32 := 15#32
  let c0_i32_103 : BitVec 32 := 0#32
  let v118 : BitVec 32 := Scalar.select v117 c15_i32_102 c0_i32_103
  let v119 : BitVec 32 := Scalar.addi v116 v118
  let c5_i32_104 : BitVec 32 := 5#32
  let v120 : BitVec 1 := Scalar.cmpi .eq v104 c5_i32_104
  let c11_i32_105 : BitVec 32 := 11#32
  let c0_i32_106 : BitVec 32 := 0#32
  let v121 : BitVec 32 := Scalar.select v120 c11_i32_105 c0_i32_106
  let v122 : BitVec 32 := Scalar.addi v119 v121
  let c6_i32_107 : BitVec 32 := 6#32
  let v123 : BitVec 1 := Scalar.cmpi .eq v104 c6_i32_107
  let c7_i32_108 : BitVec 32 := 7#32
  let c0_i32_109 : BitVec 32 := 0#32
  let v124 : BitVec 32 := Scalar.select v123 c7_i32_108 c0_i32_109
  let v125 : BitVec 32 := Scalar.addi v122 v124
  let c7_i32_110 : BitVec 32 := 7#32
  let v126 : BitVec 1 := Scalar.cmpi .eq v104 c7_i32_110
  let c3_i32_111 : BitVec 32 := 3#32
  let c0_i32_112 : BitVec 32 := 0#32
  let v127 : BitVec 32 := Scalar.select v126 c3_i32_111 c0_i32_112
  let v128 : BitVec 32 := Scalar.addi v125 v127
  let c8_i32_113 : BitVec 32 := 8#32
  let v129 : BitVec 1 := Scalar.cmpi .eq v104 c8_i32_113
  let c2_i32_114 : BitVec 32 := 2#32
  let c0_i32_115 : BitVec 32 := 0#32
  let v130 : BitVec 32 := Scalar.select v129 c2_i32_114 c0_i32_115
  let v131 : BitVec 32 := Scalar.addi v128 v130
  let c9_i32_116 : BitVec 32 := 9#32
  let v132 : BitVec 1 := Scalar.cmpi .eq v104 c9_i32_116
  let c6_i32_117 : BitVec 32 := 6#32
  let c0_i32_118 : BitVec 32 := 0#32
  let v133 : BitVec 32 := Scalar.select v132 c6_i32_117 c0_i32_118
  let v134 : BitVec 32 := Scalar.addi v131 v133
  let c10_i32_119 : BitVec 32 := 10#32
  let v135 : BitVec 1 := Scalar.cmpi .eq v104 c10_i32_119
  let c10_i32_120 : BitVec 32 := 10#32
  let c0_i32_121 : BitVec 32 := 0#32
  let v136 : BitVec 32 := Scalar.select v135 c10_i32_120 c0_i32_121
  let v137 : BitVec 32 := Scalar.addi v134 v136
  let c11_i32_122 : BitVec 32 := 11#32
  let v138 : BitVec 1 := Scalar.cmpi .eq v104 c11_i32_122
  let c14_i32_123 : BitVec 32 := 14#32
  let c0_i32_124 : BitVec 32 := 0#32
  let v139 : BitVec 32 := Scalar.select v138 c14_i32_123 c0_i32_124
  let v140 : BitVec 32 := Scalar.addi v137 v139
  let c12_i32_125 : BitVec 32 := 12#32
  let v141 : BitVec 1 := Scalar.cmpi .eq v104 c12_i32_125
  let c13_i32_126 : BitVec 32 := 13#32
  let c0_i32_127 : BitVec 32 := 0#32
  let v142 : BitVec 32 := Scalar.select v141 c13_i32_126 c0_i32_127
  let v143 : BitVec 32 := Scalar.addi v140 v142
  let c13_i32_128 : BitVec 32 := 13#32
  let v144 : BitVec 1 := Scalar.cmpi .eq v104 c13_i32_128
  let c9_i32_129 : BitVec 32 := 9#32
  let c0_i32_130 : BitVec 32 := 0#32
  let v145 : BitVec 32 := Scalar.select v144 c9_i32_129 c0_i32_130
  let v146 : BitVec 32 := Scalar.addi v143 v145
  let c14_i32_131 : BitVec 32 := 14#32
  let v147 : BitVec 1 := Scalar.cmpi .eq v104 c14_i32_131
  let c5_i32_132 : BitVec 32 := 5#32
  let c0_i32_133 : BitVec 32 := 0#32
  let v148 : BitVec 32 := Scalar.select v147 c5_i32_132 c0_i32_133
  let v149 : BitVec 32 := Scalar.addi v146 v148
  let c15_i32_134 : BitVec 32 := 15#32
  let v150 : BitVec 1 := Scalar.cmpi .eq v104 c15_i32_134
  let c1_i32_135 : BitVec 32 := 1#32
  let c0_i32_136 : BitVec 32 := 0#32
  let v151 : BitVec 32 := Scalar.select v150 c1_i32_135 c0_i32_136
  let v152 : BitVec 32 := Scalar.addi v149 v151
  let c1_i32_480 : BitVec 32 := 1#32
  let v678 : BitVec 32 := Scalar.muli v152 c1_i32_480
  let v679 : BitVec 32 := Scalar.addi c0_i32_481 v678
  v679.toNat
def k0_dev6 (d0 : Dev nD) : Nat :=
  let c0_i32_493 : BitVec 32 := 0#32
  let c0_i32_39 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_34 : BitVec 32 := 1#32
  let v51 : BitVec 32 := Scalar.subi v50 c1_i32_34
  let c32_i32 : BitVec 32 := 32#32
  let v52 : BitVec 32 := Scalar.addi v51 c32_i32
  let c16_i32_35 : BitVec 32 := 16#32
  let v53 : BitVec 32 := Scalar.remsi v52 c16_i32_35
  let c0_i32_36 : BitVec 32 := 0#32
  let v54 : BitVec 1 := Scalar.cmpi .eq v53 c0_i32_36
  let c0_i32_37 : BitVec 32 := 0#32
  let c0_i32_38 : BitVec 32 := 0#32
  let v55 : BitVec 32 := Scalar.select v54 c0_i32_37 c0_i32_38
  let v56 : BitVec 32 := Scalar.addi c0_i32_39 v55
  let c1_i32_40 : BitVec 32 := 1#32
  let v57 : BitVec 1 := Scalar.cmpi .eq v53 c1_i32_40
  let c4_i32_41 : BitVec 32 := 4#32
  let c0_i32_42 : BitVec 32 := 0#32
  let v58 : BitVec 32 := Scalar.select v57 c4_i32_41 c0_i32_42
  let v59 : BitVec 32 := Scalar.addi v56 v58
  let c2_i32_43 : BitVec 32 := 2#32
  let v60 : BitVec 1 := Scalar.cmpi .eq v53 c2_i32_43
  let c8_i32_44 : BitVec 32 := 8#32
  let c0_i32_45 : BitVec 32 := 0#32
  let v61 : BitVec 32 := Scalar.select v60 c8_i32_44 c0_i32_45
  let v62 : BitVec 32 := Scalar.addi v59 v61
  let c3_i32_46 : BitVec 32 := 3#32
  let v63 : BitVec 1 := Scalar.cmpi .eq v53 c3_i32_46
  let c12_i32_47 : BitVec 32 := 12#32
  let c0_i32_48 : BitVec 32 := 0#32
  let v64 : BitVec 32 := Scalar.select v63 c12_i32_47 c0_i32_48
  let v65 : BitVec 32 := Scalar.addi v62 v64
  let c4_i32_49 : BitVec 32 := 4#32
  let v66 : BitVec 1 := Scalar.cmpi .eq v53 c4_i32_49
  let c15_i32_50 : BitVec 32 := 15#32
  let c0_i32_51 : BitVec 32 := 0#32
  let v67 : BitVec 32 := Scalar.select v66 c15_i32_50 c0_i32_51
  let v68 : BitVec 32 := Scalar.addi v65 v67
  let c5_i32_52 : BitVec 32 := 5#32
  let v69 : BitVec 1 := Scalar.cmpi .eq v53 c5_i32_52
  let c11_i32_53 : BitVec 32 := 11#32
  let c0_i32_54 : BitVec 32 := 0#32
  let v70 : BitVec 32 := Scalar.select v69 c11_i32_53 c0_i32_54
  let v71 : BitVec 32 := Scalar.addi v68 v70
  let c6_i32_55 : BitVec 32 := 6#32
  let v72 : BitVec 1 := Scalar.cmpi .eq v53 c6_i32_55
  let c7_i32_56 : BitVec 32 := 7#32
  let c0_i32_57 : BitVec 32 := 0#32
  let v73 : BitVec 32 := Scalar.select v72 c7_i32_56 c0_i32_57
  let v74 : BitVec 32 := Scalar.addi v71 v73
  let c7_i32_58 : BitVec 32 := 7#32
  let v75 : BitVec 1 := Scalar.cmpi .eq v53 c7_i32_58
  let c3_i32_59 : BitVec 32 := 3#32
  let c0_i32_60 : BitVec 32 := 0#32
  let v76 : BitVec 32 := Scalar.select v75 c3_i32_59 c0_i32_60
  let v77 : BitVec 32 := Scalar.addi v74 v76
  let c8_i32_61 : BitVec 32 := 8#32
  let v78 : BitVec 1 := Scalar.cmpi .eq v53 c8_i32_61
  let c2_i32_62 : BitVec 32 := 2#32
  let c0_i32_63 : BitVec 32 := 0#32
  let v79 : BitVec 32 := Scalar.select v78 c2_i32_62 c0_i32_63
  let v80 : BitVec 32 := Scalar.addi v77 v79
  let c9_i32_64 : BitVec 32 := 9#32
  let v81 : BitVec 1 := Scalar.cmpi .eq v53 c9_i32_64
  let c6_i32_65 : BitVec 32 := 6#32
  let c0_i32_66 : BitVec 32 := 0#32
  let v82 : BitVec 32 := Scalar.select v81 c6_i32_65 c0_i32_66
  let v83 : BitVec 32 := Scalar.addi v80 v82
  let c10_i32_67 : BitVec 32 := 10#32
  let v84 : BitVec 1 := Scalar.cmpi .eq v53 c10_i32_67
  let c10_i32_68 : BitVec 32 := 10#32
  let c0_i32_69 : BitVec 32 := 0#32
  let v85 : BitVec 32 := Scalar.select v84 c10_i32_68 c0_i32_69
  let v86 : BitVec 32 := Scalar.addi v83 v85
  let c11_i32_70 : BitVec 32 := 11#32
  let v87 : BitVec 1 := Scalar.cmpi .eq v53 c11_i32_70
  let c14_i32_71 : BitVec 32 := 14#32
  let c0_i32_72 : BitVec 32 := 0#32
  let v88 : BitVec 32 := Scalar.select v87 c14_i32_71 c0_i32_72
  let v89 : BitVec 32 := Scalar.addi v86 v88
  let c12_i32_73 : BitVec 32 := 12#32
  let v90 : BitVec 1 := Scalar.cmpi .eq v53 c12_i32_73
  let c13_i32_74 : BitVec 32 := 13#32
  let c0_i32_75 : BitVec 32 := 0#32
  let v91 : BitVec 32 := Scalar.select v90 c13_i32_74 c0_i32_75
  let v92 : BitVec 32 := Scalar.addi v89 v91
  let c13_i32_76 : BitVec 32 := 13#32
  let v93 : BitVec 1 := Scalar.cmpi .eq v53 c13_i32_76
  let c9_i32_77 : BitVec 32 := 9#32
  let c0_i32_78 : BitVec 32 := 0#32
  let v94 : BitVec 32 := Scalar.select v93 c9_i32_77 c0_i32_78
  let v95 : BitVec 32 := Scalar.addi v92 v94
  let c14_i32_79 : BitVec 32 := 14#32
  let v96 : BitVec 1 := Scalar.cmpi .eq v53 c14_i32_79
  let c5_i32_80 : BitVec 32 := 5#32
  let c0_i32_81 : BitVec 32 := 0#32
  let v97 : BitVec 32 := Scalar.select v96 c5_i32_80 c0_i32_81
  let v98 : BitVec 32 := Scalar.addi v95 v97
  let c15_i32_82 : BitVec 32 := 15#32
  let v99 : BitVec 1 := Scalar.cmpi .eq v53 c15_i32_82
  let c1_i32_83 : BitVec 32 := 1#32
  let c0_i32_84 : BitVec 32 := 0#32
  let v100 : BitVec 32 := Scalar.select v99 c1_i32_83 c0_i32_84
  let v101 : BitVec 32 := Scalar.addi v98 v100
  let c1_i32_492 : BitVec 32 := 1#32
  let v692 : BitVec 32 := Scalar.muli v101 c1_i32_492
  let v693 : BitVec 32 := Scalar.addi c0_i32_493 v692
  v693.toNat
def k0_dev7 (d0 : Dev nD) : Nat :=
  let c0_i32_672 : BitVec 32 := 0#32
  let c0_i32_91 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_85 : BitVec 32 := 1#32
  let v102 : BitVec 32 := Scalar.addi v50 c1_i32_85
  let c32_i32_86 : BitVec 32 := 32#32
  let v103 : BitVec 32 := Scalar.addi v102 c32_i32_86
  let c16_i32_87 : BitVec 32 := 16#32
  let v104 : BitVec 32 := Scalar.remsi v103 c16_i32_87
  let c0_i32_88 : BitVec 32 := 0#32
  let v105 : BitVec 1 := Scalar.cmpi .eq v104 c0_i32_88
  let c0_i32_89 : BitVec 32 := 0#32
  let c0_i32_90 : BitVec 32 := 0#32
  let v106 : BitVec 32 := Scalar.select v105 c0_i32_89 c0_i32_90
  let v107 : BitVec 32 := Scalar.addi c0_i32_91 v106
  let c1_i32_92 : BitVec 32 := 1#32
  let v108 : BitVec 1 := Scalar.cmpi .eq v104 c1_i32_92
  let c4_i32_93 : BitVec 32 := 4#32
  let c0_i32_94 : BitVec 32 := 0#32
  let v109 : BitVec 32 := Scalar.select v108 c4_i32_93 c0_i32_94
  let v110 : BitVec 32 := Scalar.addi v107 v109
  let c2_i32_95 : BitVec 32 := 2#32
  let v111 : BitVec 1 := Scalar.cmpi .eq v104 c2_i32_95
  let c8_i32_96 : BitVec 32 := 8#32
  let c0_i32_97 : BitVec 32 := 0#32
  let v112 : BitVec 32 := Scalar.select v111 c8_i32_96 c0_i32_97
  let v113 : BitVec 32 := Scalar.addi v110 v112
  let c3_i32_98 : BitVec 32 := 3#32
  let v114 : BitVec 1 := Scalar.cmpi .eq v104 c3_i32_98
  let c12_i32_99 : BitVec 32 := 12#32
  let c0_i32_100 : BitVec 32 := 0#32
  let v115 : BitVec 32 := Scalar.select v114 c12_i32_99 c0_i32_100
  let v116 : BitVec 32 := Scalar.addi v113 v115
  let c4_i32_101 : BitVec 32 := 4#32
  let v117 : BitVec 1 := Scalar.cmpi .eq v104 c4_i32_101
  let c15_i32_102 : BitVec 32 := 15#32
  let c0_i32_103 : BitVec 32 := 0#32
  let v118 : BitVec 32 := Scalar.select v117 c15_i32_102 c0_i32_103
  let v119 : BitVec 32 := Scalar.addi v116 v118
  let c5_i32_104 : BitVec 32 := 5#32
  let v120 : BitVec 1 := Scalar.cmpi .eq v104 c5_i32_104
  let c11_i32_105 : BitVec 32 := 11#32
  let c0_i32_106 : BitVec 32 := 0#32
  let v121 : BitVec 32 := Scalar.select v120 c11_i32_105 c0_i32_106
  let v122 : BitVec 32 := Scalar.addi v119 v121
  let c6_i32_107 : BitVec 32 := 6#32
  let v123 : BitVec 1 := Scalar.cmpi .eq v104 c6_i32_107
  let c7_i32_108 : BitVec 32 := 7#32
  let c0_i32_109 : BitVec 32 := 0#32
  let v124 : BitVec 32 := Scalar.select v123 c7_i32_108 c0_i32_109
  let v125 : BitVec 32 := Scalar.addi v122 v124
  let c7_i32_110 : BitVec 32 := 7#32
  let v126 : BitVec 1 := Scalar.cmpi .eq v104 c7_i32_110
  let c3_i32_111 : BitVec 32 := 3#32
  let c0_i32_112 : BitVec 32 := 0#32
  let v127 : BitVec 32 := Scalar.select v126 c3_i32_111 c0_i32_112
  let v128 : BitVec 32 := Scalar.addi v125 v127
  let c8_i32_113 : BitVec 32 := 8#32
  let v129 : BitVec 1 := Scalar.cmpi .eq v104 c8_i32_113
  let c2_i32_114 : BitVec 32 := 2#32
  let c0_i32_115 : BitVec 32 := 0#32
  let v130 : BitVec 32 := Scalar.select v129 c2_i32_114 c0_i32_115
  let v131 : BitVec 32 := Scalar.addi v128 v130
  let c9_i32_116 : BitVec 32 := 9#32
  let v132 : BitVec 1 := Scalar.cmpi .eq v104 c9_i32_116
  let c6_i32_117 : BitVec 32 := 6#32
  let c0_i32_118 : BitVec 32 := 0#32
  let v133 : BitVec 32 := Scalar.select v132 c6_i32_117 c0_i32_118
  let v134 : BitVec 32 := Scalar.addi v131 v133
  let c10_i32_119 : BitVec 32 := 10#32
  let v135 : BitVec 1 := Scalar.cmpi .eq v104 c10_i32_119
  let c10_i32_120 : BitVec 32 := 10#32
  let c0_i32_121 : BitVec 32 := 0#32
  let v136 : BitVec 32 := Scalar.select v135 c10_i32_120 c0_i32_121
  let v137 : BitVec 32 := Scalar.addi v134 v136
  let c11_i32_122 : BitVec 32 := 11#32
  let v138 : BitVec 1 := Scalar.cmpi .eq v104 c11_i32_122
  let c14_i32_123 : BitVec 32 := 14#32
  let c0_i32_124 : BitVec 32 := 0#32
  let v139 : BitVec 32 := Scalar.select v138 c14_i32_123 c0_i32_124
  let v140 : BitVec 32 := Scalar.addi v137 v139
  let c12_i32_125 : BitVec 32 := 12#32
  let v141 : BitVec 1 := Scalar.cmpi .eq v104 c12_i32_125
  let c13_i32_126 : BitVec 32 := 13#32
  let c0_i32_127 : BitVec 32 := 0#32
  let v142 : BitVec 32 := Scalar.select v141 c13_i32_126 c0_i32_127
  let v143 : BitVec 32 := Scalar.addi v140 v142
  let c13_i32_128 : BitVec 32 := 13#32
  let v144 : BitVec 1 := Scalar.cmpi .eq v104 c13_i32_128
  let c9_i32_129 : BitVec 32 := 9#32
  let c0_i32_130 : BitVec 32 := 0#32
  let v145 : BitVec 32 := Scalar.select v144 c9_i32_129 c0_i32_130
  let v146 : BitVec 32 := Scalar.addi v143 v145
  let c14_i32_131 : BitVec 32 := 14#32
  let v147 : BitVec 1 := Scalar.cmpi .eq v104 c14_i32_131
  let c5_i32_132 : BitVec 32 := 5#32
  let c0_i32_133 : BitVec 32 := 0#32
  let v148 : BitVec 32 := Scalar.select v147 c5_i32_132 c0_i32_133
  let v149 : BitVec 32 := Scalar.addi v146 v148
  let c15_i32_134 : BitVec 32 := 15#32
  let v150 : BitVec 1 := Scalar.cmpi .eq v104 c15_i32_134
  let c1_i32_135 : BitVec 32 := 1#32
  let c0_i32_136 : BitVec 32 := 0#32
  let v151 : BitVec 32 := Scalar.select v150 c1_i32_135 c0_i32_136
  let v152 : BitVec 32 := Scalar.addi v149 v151
  let c1_i32_671 : BitVec 32 := 1#32
  let v980 : BitVec 32 := Scalar.muli v152 c1_i32_671
  let v981 : BitVec 32 := Scalar.addi c0_i32_672 v980
  v981.toNat
def k0_dev8 (d0 : Dev nD) : Nat :=
  let c0_i32_684 : BitVec 32 := 0#32
  let c0_i32_39 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_34 : BitVec 32 := 1#32
  let v51 : BitVec 32 := Scalar.subi v50 c1_i32_34
  let c32_i32 : BitVec 32 := 32#32
  let v52 : BitVec 32 := Scalar.addi v51 c32_i32
  let c16_i32_35 : BitVec 32 := 16#32
  let v53 : BitVec 32 := Scalar.remsi v52 c16_i32_35
  let c0_i32_36 : BitVec 32 := 0#32
  let v54 : BitVec 1 := Scalar.cmpi .eq v53 c0_i32_36
  let c0_i32_37 : BitVec 32 := 0#32
  let c0_i32_38 : BitVec 32 := 0#32
  let v55 : BitVec 32 := Scalar.select v54 c0_i32_37 c0_i32_38
  let v56 : BitVec 32 := Scalar.addi c0_i32_39 v55
  let c1_i32_40 : BitVec 32 := 1#32
  let v57 : BitVec 1 := Scalar.cmpi .eq v53 c1_i32_40
  let c4_i32_41 : BitVec 32 := 4#32
  let c0_i32_42 : BitVec 32 := 0#32
  let v58 : BitVec 32 := Scalar.select v57 c4_i32_41 c0_i32_42
  let v59 : BitVec 32 := Scalar.addi v56 v58
  let c2_i32_43 : BitVec 32 := 2#32
  let v60 : BitVec 1 := Scalar.cmpi .eq v53 c2_i32_43
  let c8_i32_44 : BitVec 32 := 8#32
  let c0_i32_45 : BitVec 32 := 0#32
  let v61 : BitVec 32 := Scalar.select v60 c8_i32_44 c0_i32_45
  let v62 : BitVec 32 := Scalar.addi v59 v61
  let c3_i32_46 : BitVec 32 := 3#32
  let v63 : BitVec 1 := Scalar.cmpi .eq v53 c3_i32_46
  let c12_i32_47 : BitVec 32 := 12#32
  let c0_i32_48 : BitVec 32 := 0#32
  let v64 : BitVec 32 := Scalar.select v63 c12_i32_47 c0_i32_48
  let v65 : BitVec 32 := Scalar.addi v62 v64
  let c4_i32_49 : BitVec 32 := 4#32
  let v66 : BitVec 1 := Scalar.cmpi .eq v53 c4_i32_49
  let c15_i32_50 : BitVec 32 := 15#32
  let c0_i32_51 : BitVec 32 := 0#32
  let v67 : BitVec 32 := Scalar.select v66 c15_i32_50 c0_i32_51
  let v68 : BitVec 32 := Scalar.addi v65 v67
  let c5_i32_52 : BitVec 32 := 5#32
  let v69 : BitVec 1 := Scalar.cmpi .eq v53 c5_i32_52
  let c11_i32_53 : BitVec 32 := 11#32
  let c0_i32_54 : BitVec 32 := 0#32
  let v70 : BitVec 32 := Scalar.select v69 c11_i32_53 c0_i32_54
  let v71 : BitVec 32 := Scalar.addi v68 v70
  let c6_i32_55 : BitVec 32 := 6#32
  let v72 : BitVec 1 := Scalar.cmpi .eq v53 c6_i32_55
  let c7_i32_56 : BitVec 32 := 7#32
  let c0_i32_57 : BitVec 32 := 0#32
  let v73 : BitVec 32 := Scalar.select v72 c7_i32_56 c0_i32_57
  let v74 : BitVec 32 := Scalar.addi v71 v73
  let c7_i32_58 : BitVec 32 := 7#32
  let v75 : BitVec 1 := Scalar.cmpi .eq v53 c7_i32_58
  let c3_i32_59 : BitVec 32 := 3#32
  let c0_i32_60 : BitVec 32 := 0#32
  let v76 : BitVec 32 := Scalar.select v75 c3_i32_59 c0_i32_60
  let v77 : BitVec 32 := Scalar.addi v74 v76
  let c8_i32_61 : BitVec 32 := 8#32
  let v78 : BitVec 1 := Scalar.cmpi .eq v53 c8_i32_61
  let c2_i32_62 : BitVec 32 := 2#32
  let c0_i32_63 : BitVec 32 := 0#32
  let v79 : BitVec 32 := Scalar.select v78 c2_i32_62 c0_i32_63
  let v80 : BitVec 32 := Scalar.addi v77 v79
  let c9_i32_64 : BitVec 32 := 9#32
  let v81 : BitVec 1 := Scalar.cmpi .eq v53 c9_i32_64
  let c6_i32_65 : BitVec 32 := 6#32
  let c0_i32_66 : BitVec 32 := 0#32
  let v82 : BitVec 32 := Scalar.select v81 c6_i32_65 c0_i32_66
  let v83 : BitVec 32 := Scalar.addi v80 v82
  let c10_i32_67 : BitVec 32 := 10#32
  let v84 : BitVec 1 := Scalar.cmpi .eq v53 c10_i32_67
  let c10_i32_68 : BitVec 32 := 10#32
  let c0_i32_69 : BitVec 32 := 0#32
  let v85 : BitVec 32 := Scalar.select v84 c10_i32_68 c0_i32_69
  let v86 : BitVec 32 := Scalar.addi v83 v85
  let c11_i32_70 : BitVec 32 := 11#32
  let v87 : BitVec 1 := Scalar.cmpi .eq v53 c11_i32_70
  let c14_i32_71 : BitVec 32 := 14#32
  let c0_i32_72 : BitVec 32 := 0#32
  let v88 : BitVec 32 := Scalar.select v87 c14_i32_71 c0_i32_72
  let v89 : BitVec 32 := Scalar.addi v86 v88
  let c12_i32_73 : BitVec 32 := 12#32
  let v90 : BitVec 1 := Scalar.cmpi .eq v53 c12_i32_73
  let c13_i32_74 : BitVec 32 := 13#32
  let c0_i32_75 : BitVec 32 := 0#32
  let v91 : BitVec 32 := Scalar.select v90 c13_i32_74 c0_i32_75
  let v92 : BitVec 32 := Scalar.addi v89 v91
  let c13_i32_76 : BitVec 32 := 13#32
  let v93 : BitVec 1 := Scalar.cmpi .eq v53 c13_i32_76
  let c9_i32_77 : BitVec 32 := 9#32
  let c0_i32_78 : BitVec 32 := 0#32
  let v94 : BitVec 32 := Scalar.select v93 c9_i32_77 c0_i32_78
  let v95 : BitVec 32 := Scalar.addi v92 v94
  let c14_i32_79 : BitVec 32 := 14#32
  let v96 : BitVec 1 := Scalar.cmpi .eq v53 c14_i32_79
  let c5_i32_80 : BitVec 32 := 5#32
  let c0_i32_81 : BitVec 32 := 0#32
  let v97 : BitVec 32 := Scalar.select v96 c5_i32_80 c0_i32_81
  let v98 : BitVec 32 := Scalar.addi v95 v97
  let c15_i32_82 : BitVec 32 := 15#32
  let v99 : BitVec 1 := Scalar.cmpi .eq v53 c15_i32_82
  let c1_i32_83 : BitVec 32 := 1#32
  let c0_i32_84 : BitVec 32 := 0#32
  let v100 : BitVec 32 := Scalar.select v99 c1_i32_83 c0_i32_84
  let v101 : BitVec 32 := Scalar.addi v98 v100
  let c1_i32_683 : BitVec 32 := 1#32
  let v994 : BitVec 32 := Scalar.muli v101 c1_i32_683
  let v995 : BitVec 32 := Scalar.addi c0_i32_684 v994
  v995.toNat
def k0_dev9 (d0 : Dev nD) : Nat :=
  let c0_i32_744 : BitVec 32 := 0#32
  let c0_i32_91 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_85 : BitVec 32 := 1#32
  let v102 : BitVec 32 := Scalar.addi v50 c1_i32_85
  let c32_i32_86 : BitVec 32 := 32#32
  let v103 : BitVec 32 := Scalar.addi v102 c32_i32_86
  let c16_i32_87 : BitVec 32 := 16#32
  let v104 : BitVec 32 := Scalar.remsi v103 c16_i32_87
  let c0_i32_88 : BitVec 32 := 0#32
  let v105 : BitVec 1 := Scalar.cmpi .eq v104 c0_i32_88
  let c0_i32_89 : BitVec 32 := 0#32
  let c0_i32_90 : BitVec 32 := 0#32
  let v106 : BitVec 32 := Scalar.select v105 c0_i32_89 c0_i32_90
  let v107 : BitVec 32 := Scalar.addi c0_i32_91 v106
  let c1_i32_92 : BitVec 32 := 1#32
  let v108 : BitVec 1 := Scalar.cmpi .eq v104 c1_i32_92
  let c4_i32_93 : BitVec 32 := 4#32
  let c0_i32_94 : BitVec 32 := 0#32
  let v109 : BitVec 32 := Scalar.select v108 c4_i32_93 c0_i32_94
  let v110 : BitVec 32 := Scalar.addi v107 v109
  let c2_i32_95 : BitVec 32 := 2#32
  let v111 : BitVec 1 := Scalar.cmpi .eq v104 c2_i32_95
  let c8_i32_96 : BitVec 32 := 8#32
  let c0_i32_97 : BitVec 32 := 0#32
  let v112 : BitVec 32 := Scalar.select v111 c8_i32_96 c0_i32_97
  let v113 : BitVec 32 := Scalar.addi v110 v112
  let c3_i32_98 : BitVec 32 := 3#32
  let v114 : BitVec 1 := Scalar.cmpi .eq v104 c3_i32_98
  let c12_i32_99 : BitVec 32 := 12#32
  let c0_i32_100 : BitVec 32 := 0#32
  let v115 : BitVec 32 := Scalar.select v114 c12_i32_99 c0_i32_100
  let v116 : BitVec 32 := Scalar.addi v113 v115
  let c4_i32_101 : BitVec 32 := 4#32
  let v117 : BitVec 1 := Scalar.cmpi .eq v104 c4_i32_101
  let c15_i32_102 : BitVec 32 := 15#32
  let c0_i32_103 : BitVec 32 := 0#32
  let v118 : BitVec 32 := Scalar.select v117 c15_i32_102 c0_i32_103
  let v119 : BitVec 32 := Scalar.addi v116 v118
  let c5_i32_104 : BitVec 32 := 5#32
  let v120 : BitVec 1 := Scalar.cmpi .eq v104 c5_i32_104
  let c11_i32_105 : BitVec 32 := 11#32
  let c0_i32_106 : BitVec 32 := 0#32
  let v121 : BitVec 32 := Scalar.select v120 c11_i32_105 c0_i32_106
  let v122 : BitVec 32 := Scalar.addi v119 v121
  let c6_i32_107 : BitVec 32 := 6#32
  let v123 : BitVec 1 := Scalar.cmpi .eq v104 c6_i32_107
  let c7_i32_108 : BitVec 32 := 7#32
  let c0_i32_109 : BitVec 32 := 0#32
  let v124 : BitVec 32 := Scalar.select v123 c7_i32_108 c0_i32_109
  let v125 : BitVec 32 := Scalar.addi v122 v124
  let c7_i32_110 : BitVec 32 := 7#32
  let v126 : BitVec 1 := Scalar.cmpi .eq v104 c7_i32_110
  let c3_i32_111 : BitVec 32 := 3#32
  let c0_i32_112 : BitVec 32 := 0#32
  let v127 : BitVec 32 := Scalar.select v126 c3_i32_111 c0_i32_112
  let v128 : BitVec 32 := Scalar.addi v125 v127
  let c8_i32_113 : BitVec 32 := 8#32
  let v129 : BitVec 1 := Scalar.cmpi .eq v104 c8_i32_113
  let c2_i32_114 : BitVec 32 := 2#32
  let c0_i32_115 : BitVec 32 := 0#32
  let v130 : BitVec 32 := Scalar.select v129 c2_i32_114 c0_i32_115
  let v131 : BitVec 32 := Scalar.addi v128 v130
  let c9_i32_116 : BitVec 32 := 9#32
  let v132 : BitVec 1 := Scalar.cmpi .eq v104 c9_i32_116
  let c6_i32_117 : BitVec 32 := 6#32
  let c0_i32_118 : BitVec 32 := 0#32
  let v133 : BitVec 32 := Scalar.select v132 c6_i32_117 c0_i32_118
  let v134 : BitVec 32 := Scalar.addi v131 v133
  let c10_i32_119 : BitVec 32 := 10#32
  let v135 : BitVec 1 := Scalar.cmpi .eq v104 c10_i32_119
  let c10_i32_120 : BitVec 32 := 10#32
  let c0_i32_121 : BitVec 32 := 0#32
  let v136 : BitVec 32 := Scalar.select v135 c10_i32_120 c0_i32_121
  let v137 : BitVec 32 := Scalar.addi v134 v136
  let c11_i32_122 : BitVec 32 := 11#32
  let v138 : BitVec 1 := Scalar.cmpi .eq v104 c11_i32_122
  let c14_i32_123 : BitVec 32 := 14#32
  let c0_i32_124 : BitVec 32 := 0#32
  let v139 : BitVec 32 := Scalar.select v138 c14_i32_123 c0_i32_124
  let v140 : BitVec 32 := Scalar.addi v137 v139
  let c12_i32_125 : BitVec 32 := 12#32
  let v141 : BitVec 1 := Scalar.cmpi .eq v104 c12_i32_125
  let c13_i32_126 : BitVec 32 := 13#32
  let c0_i32_127 : BitVec 32 := 0#32
  let v142 : BitVec 32 := Scalar.select v141 c13_i32_126 c0_i32_127
  let v143 : BitVec 32 := Scalar.addi v140 v142
  let c13_i32_128 : BitVec 32 := 13#32
  let v144 : BitVec 1 := Scalar.cmpi .eq v104 c13_i32_128
  let c9_i32_129 : BitVec 32 := 9#32
  let c0_i32_130 : BitVec 32 := 0#32
  let v145 : BitVec 32 := Scalar.select v144 c9_i32_129 c0_i32_130
  let v146 : BitVec 32 := Scalar.addi v143 v145
  let c14_i32_131 : BitVec 32 := 14#32
  let v147 : BitVec 1 := Scalar.cmpi .eq v104 c14_i32_131
  let c5_i32_132 : BitVec 32 := 5#32
  let c0_i32_133 : BitVec 32 := 0#32
  let v148 : BitVec 32 := Scalar.select v147 c5_i32_132 c0_i32_133
  let v149 : BitVec 32 := Scalar.addi v146 v148
  let c15_i32_134 : BitVec 32 := 15#32
  let v150 : BitVec 1 := Scalar.cmpi .eq v104 c15_i32_134
  let c1_i32_135 : BitVec 32 := 1#32
  let c0_i32_136 : BitVec 32 := 0#32
  let v151 : BitVec 32 := Scalar.select v150 c1_i32_135 c0_i32_136
  let v152 : BitVec 32 := Scalar.addi v149 v151
  let c1_i32_743 : BitVec 32 := 1#32
  let v1054 : BitVec 32 := Scalar.muli v152 c1_i32_743
  let v1055 : BitVec 32 := Scalar.addi c0_i32_744 v1054
  v1055.toNat
def k0_dev10 (d0 : Dev nD) : Nat :=
  let c0_i32_806 : BitVec 32 := 0#32
  let c0_i32_39 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_34 : BitVec 32 := 1#32
  let v51 : BitVec 32 := Scalar.subi v50 c1_i32_34
  let c32_i32 : BitVec 32 := 32#32
  let v52 : BitVec 32 := Scalar.addi v51 c32_i32
  let c16_i32_35 : BitVec 32 := 16#32
  let v53 : BitVec 32 := Scalar.remsi v52 c16_i32_35
  let c0_i32_36 : BitVec 32 := 0#32
  let v54 : BitVec 1 := Scalar.cmpi .eq v53 c0_i32_36
  let c0_i32_37 : BitVec 32 := 0#32
  let c0_i32_38 : BitVec 32 := 0#32
  let v55 : BitVec 32 := Scalar.select v54 c0_i32_37 c0_i32_38
  let v56 : BitVec 32 := Scalar.addi c0_i32_39 v55
  let c1_i32_40 : BitVec 32 := 1#32
  let v57 : BitVec 1 := Scalar.cmpi .eq v53 c1_i32_40
  let c4_i32_41 : BitVec 32 := 4#32
  let c0_i32_42 : BitVec 32 := 0#32
  let v58 : BitVec 32 := Scalar.select v57 c4_i32_41 c0_i32_42
  let v59 : BitVec 32 := Scalar.addi v56 v58
  let c2_i32_43 : BitVec 32 := 2#32
  let v60 : BitVec 1 := Scalar.cmpi .eq v53 c2_i32_43
  let c8_i32_44 : BitVec 32 := 8#32
  let c0_i32_45 : BitVec 32 := 0#32
  let v61 : BitVec 32 := Scalar.select v60 c8_i32_44 c0_i32_45
  let v62 : BitVec 32 := Scalar.addi v59 v61
  let c3_i32_46 : BitVec 32 := 3#32
  let v63 : BitVec 1 := Scalar.cmpi .eq v53 c3_i32_46
  let c12_i32_47 : BitVec 32 := 12#32
  let c0_i32_48 : BitVec 32 := 0#32
  let v64 : BitVec 32 := Scalar.select v63 c12_i32_47 c0_i32_48
  let v65 : BitVec 32 := Scalar.addi v62 v64
  let c4_i32_49 : BitVec 32 := 4#32
  let v66 : BitVec 1 := Scalar.cmpi .eq v53 c4_i32_49
  let c15_i32_50 : BitVec 32 := 15#32
  let c0_i32_51 : BitVec 32 := 0#32
  let v67 : BitVec 32 := Scalar.select v66 c15_i32_50 c0_i32_51
  let v68 : BitVec 32 := Scalar.addi v65 v67
  let c5_i32_52 : BitVec 32 := 5#32
  let v69 : BitVec 1 := Scalar.cmpi .eq v53 c5_i32_52
  let c11_i32_53 : BitVec 32 := 11#32
  let c0_i32_54 : BitVec 32 := 0#32
  let v70 : BitVec 32 := Scalar.select v69 c11_i32_53 c0_i32_54
  let v71 : BitVec 32 := Scalar.addi v68 v70
  let c6_i32_55 : BitVec 32 := 6#32
  let v72 : BitVec 1 := Scalar.cmpi .eq v53 c6_i32_55
  let c7_i32_56 : BitVec 32 := 7#32
  let c0_i32_57 : BitVec 32 := 0#32
  let v73 : BitVec 32 := Scalar.select v72 c7_i32_56 c0_i32_57
  let v74 : BitVec 32 := Scalar.addi v71 v73
  let c7_i32_58 : BitVec 32 := 7#32
  let v75 : BitVec 1 := Scalar.cmpi .eq v53 c7_i32_58
  let c3_i32_59 : BitVec 32 := 3#32
  let c0_i32_60 : BitVec 32 := 0#32
  let v76 : BitVec 32 := Scalar.select v75 c3_i32_59 c0_i32_60
  let v77 : BitVec 32 := Scalar.addi v74 v76
  let c8_i32_61 : BitVec 32 := 8#32
  let v78 : BitVec 1 := Scalar.cmpi .eq v53 c8_i32_61
  let c2_i32_62 : BitVec 32 := 2#32
  let c0_i32_63 : BitVec 32 := 0#32
  let v79 : BitVec 32 := Scalar.select v78 c2_i32_62 c0_i32_63
  let v80 : BitVec 32 := Scalar.addi v77 v79
  let c9_i32_64 : BitVec 32 := 9#32
  let v81 : BitVec 1 := Scalar.cmpi .eq v53 c9_i32_64
  let c6_i32_65 : BitVec 32 := 6#32
  let c0_i32_66 : BitVec 32 := 0#32
  let v82 : BitVec 32 := Scalar.select v81 c6_i32_65 c0_i32_66
  let v83 : BitVec 32 := Scalar.addi v80 v82
  let c10_i32_67 : BitVec 32 := 10#32
  let v84 : BitVec 1 := Scalar.cmpi .eq v53 c10_i32_67
  let c10_i32_68 : BitVec 32 := 10#32
  let c0_i32_69 : BitVec 32 := 0#32
  let v85 : BitVec 32 := Scalar.select v84 c10_i32_68 c0_i32_69
  let v86 : BitVec 32 := Scalar.addi v83 v85
  let c11_i32_70 : BitVec 32 := 11#32
  let v87 : BitVec 1 := Scalar.cmpi .eq v53 c11_i32_70
  let c14_i32_71 : BitVec 32 := 14#32
  let c0_i32_72 : BitVec 32 := 0#32
  let v88 : BitVec 32 := Scalar.select v87 c14_i32_71 c0_i32_72
  let v89 : BitVec 32 := Scalar.addi v86 v88
  let c12_i32_73 : BitVec 32 := 12#32
  let v90 : BitVec 1 := Scalar.cmpi .eq v53 c12_i32_73
  let c13_i32_74 : BitVec 32 := 13#32
  let c0_i32_75 : BitVec 32 := 0#32
  let v91 : BitVec 32 := Scalar.select v90 c13_i32_74 c0_i32_75
  let v92 : BitVec 32 := Scalar.addi v89 v91
  let c13_i32_76 : BitVec 32 := 13#32
  let v93 : BitVec 1 := Scalar.cmpi .eq v53 c13_i32_76
  let c9_i32_77 : BitVec 32 := 9#32
  let c0_i32_78 : BitVec 32 := 0#32
  let v94 : BitVec 32 := Scalar.select v93 c9_i32_77 c0_i32_78
  let v95 : BitVec 32 := Scalar.addi v92 v94
  let c14_i32_79 : BitVec 32 := 14#32
  let v96 : BitVec 1 := Scalar.cmpi .eq v53 c14_i32_79
  let c5_i32_80 : BitVec 32 := 5#32
  let c0_i32_81 : BitVec 32 := 0#32
  let v97 : BitVec 32 := Scalar.select v96 c5_i32_80 c0_i32_81
  let v98 : BitVec 32 := Scalar.addi v95 v97
  let c15_i32_82 : BitVec 32 := 15#32
  let v99 : BitVec 1 := Scalar.cmpi .eq v53 c15_i32_82
  let c1_i32_83 : BitVec 32 := 1#32
  let c0_i32_84 : BitVec 32 := 0#32
  let v100 : BitVec 32 := Scalar.select v99 c1_i32_83 c0_i32_84
  let v101 : BitVec 32 := Scalar.addi v98 v100
  let c1_i32_805 : BitVec 32 := 1#32
  let v1116 : BitVec 32 := Scalar.muli v101 c1_i32_805
  let v1117 : BitVec 32 := Scalar.addi c0_i32_806 v1116
  v1117.toNat
def k0_dev11 (d0 : Dev nD) : Nat :=
  let c0_i32_1026 : BitVec 32 := 0#32
  let c0_i32_91 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_85 : BitVec 32 := 1#32
  let v102 : BitVec 32 := Scalar.addi v50 c1_i32_85
  let c32_i32_86 : BitVec 32 := 32#32
  let v103 : BitVec 32 := Scalar.addi v102 c32_i32_86
  let c16_i32_87 : BitVec 32 := 16#32
  let v104 : BitVec 32 := Scalar.remsi v103 c16_i32_87
  let c0_i32_88 : BitVec 32 := 0#32
  let v105 : BitVec 1 := Scalar.cmpi .eq v104 c0_i32_88
  let c0_i32_89 : BitVec 32 := 0#32
  let c0_i32_90 : BitVec 32 := 0#32
  let v106 : BitVec 32 := Scalar.select v105 c0_i32_89 c0_i32_90
  let v107 : BitVec 32 := Scalar.addi c0_i32_91 v106
  let c1_i32_92 : BitVec 32 := 1#32
  let v108 : BitVec 1 := Scalar.cmpi .eq v104 c1_i32_92
  let c4_i32_93 : BitVec 32 := 4#32
  let c0_i32_94 : BitVec 32 := 0#32
  let v109 : BitVec 32 := Scalar.select v108 c4_i32_93 c0_i32_94
  let v110 : BitVec 32 := Scalar.addi v107 v109
  let c2_i32_95 : BitVec 32 := 2#32
  let v111 : BitVec 1 := Scalar.cmpi .eq v104 c2_i32_95
  let c8_i32_96 : BitVec 32 := 8#32
  let c0_i32_97 : BitVec 32 := 0#32
  let v112 : BitVec 32 := Scalar.select v111 c8_i32_96 c0_i32_97
  let v113 : BitVec 32 := Scalar.addi v110 v112
  let c3_i32_98 : BitVec 32 := 3#32
  let v114 : BitVec 1 := Scalar.cmpi .eq v104 c3_i32_98
  let c12_i32_99 : BitVec 32 := 12#32
  let c0_i32_100 : BitVec 32 := 0#32
  let v115 : BitVec 32 := Scalar.select v114 c12_i32_99 c0_i32_100
  let v116 : BitVec 32 := Scalar.addi v113 v115
  let c4_i32_101 : BitVec 32 := 4#32
  let v117 : BitVec 1 := Scalar.cmpi .eq v104 c4_i32_101
  let c15_i32_102 : BitVec 32 := 15#32
  let c0_i32_103 : BitVec 32 := 0#32
  let v118 : BitVec 32 := Scalar.select v117 c15_i32_102 c0_i32_103
  let v119 : BitVec 32 := Scalar.addi v116 v118
  let c5_i32_104 : BitVec 32 := 5#32
  let v120 : BitVec 1 := Scalar.cmpi .eq v104 c5_i32_104
  let c11_i32_105 : BitVec 32 := 11#32
  let c0_i32_106 : BitVec 32 := 0#32
  let v121 : BitVec 32 := Scalar.select v120 c11_i32_105 c0_i32_106
  let v122 : BitVec 32 := Scalar.addi v119 v121
  let c6_i32_107 : BitVec 32 := 6#32
  let v123 : BitVec 1 := Scalar.cmpi .eq v104 c6_i32_107
  let c7_i32_108 : BitVec 32 := 7#32
  let c0_i32_109 : BitVec 32 := 0#32
  let v124 : BitVec 32 := Scalar.select v123 c7_i32_108 c0_i32_109
  let v125 : BitVec 32 := Scalar.addi v122 v124
  let c7_i32_110 : BitVec 32 := 7#32
  let v126 : BitVec 1 := Scalar.cmpi .eq v104 c7_i32_110
  let c3_i32_111 : BitVec 32 := 3#32
  let c0_i32_112 : BitVec 32 := 0#32
  let v127 : BitVec 32 := Scalar.select v126 c3_i32_111 c0_i32_112
  let v128 : BitVec 32 := Scalar.addi v125 v127
  let c8_i32_113 : BitVec 32 := 8#32
  let v129 : BitVec 1 := Scalar.cmpi .eq v104 c8_i32_113
  let c2_i32_114 : BitVec 32 := 2#32
  let c0_i32_115 : BitVec 32 := 0#32
  let v130 : BitVec 32 := Scalar.select v129 c2_i32_114 c0_i32_115
  let v131 : BitVec 32 := Scalar.addi v128 v130
  let c9_i32_116 : BitVec 32 := 9#32
  let v132 : BitVec 1 := Scalar.cmpi .eq v104 c9_i32_116
  let c6_i32_117 : BitVec 32 := 6#32
  let c0_i32_118 : BitVec 32 := 0#32
  let v133 : BitVec 32 := Scalar.select v132 c6_i32_117 c0_i32_118
  let v134 : BitVec 32 := Scalar.addi v131 v133
  let c10_i32_119 : BitVec 32 := 10#32
  let v135 : BitVec 1 := Scalar.cmpi .eq v104 c10_i32_119
  let c10_i32_120 : BitVec 32 := 10#32
  let c0_i32_121 : BitVec 32 := 0#32
  let v136 : BitVec 32 := Scalar.select v135 c10_i32_120 c0_i32_121
  let v137 : BitVec 32 := Scalar.addi v134 v136
  let c11_i32_122 : BitVec 32 := 11#32
  let v138 : BitVec 1 := Scalar.cmpi .eq v104 c11_i32_122
  let c14_i32_123 : BitVec 32 := 14#32
  let c0_i32_124 : BitVec 32 := 0#32
  let v139 : BitVec 32 := Scalar.select v138 c14_i32_123 c0_i32_124
  let v140 : BitVec 32 := Scalar.addi v137 v139
  let c12_i32_125 : BitVec 32 := 12#32
  let v141 : BitVec 1 := Scalar.cmpi .eq v104 c12_i32_125
  let c13_i32_126 : BitVec 32 := 13#32
  let c0_i32_127 : BitVec 32 := 0#32
  let v142 : BitVec 32 := Scalar.select v141 c13_i32_126 c0_i32_127
  let v143 : BitVec 32 := Scalar.addi v140 v142
  let c13_i32_128 : BitVec 32 := 13#32
  let v144 : BitVec 1 := Scalar.cmpi .eq v104 c13_i32_128
  let c9_i32_129 : BitVec 32 := 9#32
  let c0_i32_130 : BitVec 32 := 0#32
  let v145 : BitVec 32 := Scalar.select v144 c9_i32_129 c0_i32_130
  let v146 : BitVec 32 := Scalar.addi v143 v145
  let c14_i32_131 : BitVec 32 := 14#32
  let v147 : BitVec 1 := Scalar.cmpi .eq v104 c14_i32_131
  let c5_i32_132 : BitVec 32 := 5#32
  let c0_i32_133 : BitVec 32 := 0#32
  let v148 : BitVec 32 := Scalar.select v147 c5_i32_132 c0_i32_133
  let v149 : BitVec 32 := Scalar.addi v146 v148
  let c15_i32_134 : BitVec 32 := 15#32
  let v150 : BitVec 1 := Scalar.cmpi .eq v104 c15_i32_134
  let c1_i32_135 : BitVec 32 := 1#32
  let c0_i32_136 : BitVec 32 := 0#32
  let v151 : BitVec 32 := Scalar.select v150 c1_i32_135 c0_i32_136
  let v152 : BitVec 32 := Scalar.addi v149 v151
  let c1_i32_1025 : BitVec 32 := 1#32
  let v1435 : BitVec 32 := Scalar.muli v152 c1_i32_1025
  let v1436 : BitVec 32 := Scalar.addi c0_i32_1026 v1435
  v1436.toNat
def k0_dev12 (d0 : Dev nD) : Nat :=
  let c0_i32_1038 : BitVec 32 := 0#32
  let c0_i32_39 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_34 : BitVec 32 := 1#32
  let v51 : BitVec 32 := Scalar.subi v50 c1_i32_34
  let c32_i32 : BitVec 32 := 32#32
  let v52 : BitVec 32 := Scalar.addi v51 c32_i32
  let c16_i32_35 : BitVec 32 := 16#32
  let v53 : BitVec 32 := Scalar.remsi v52 c16_i32_35
  let c0_i32_36 : BitVec 32 := 0#32
  let v54 : BitVec 1 := Scalar.cmpi .eq v53 c0_i32_36
  let c0_i32_37 : BitVec 32 := 0#32
  let c0_i32_38 : BitVec 32 := 0#32
  let v55 : BitVec 32 := Scalar.select v54 c0_i32_37 c0_i32_38
  let v56 : BitVec 32 := Scalar.addi c0_i32_39 v55
  let c1_i32_40 : BitVec 32 := 1#32
  let v57 : BitVec 1 := Scalar.cmpi .eq v53 c1_i32_40
  let c4_i32_41 : BitVec 32 := 4#32
  let c0_i32_42 : BitVec 32 := 0#32
  let v58 : BitVec 32 := Scalar.select v57 c4_i32_41 c0_i32_42
  let v59 : BitVec 32 := Scalar.addi v56 v58
  let c2_i32_43 : BitVec 32 := 2#32
  let v60 : BitVec 1 := Scalar.cmpi .eq v53 c2_i32_43
  let c8_i32_44 : BitVec 32 := 8#32
  let c0_i32_45 : BitVec 32 := 0#32
  let v61 : BitVec 32 := Scalar.select v60 c8_i32_44 c0_i32_45
  let v62 : BitVec 32 := Scalar.addi v59 v61
  let c3_i32_46 : BitVec 32 := 3#32
  let v63 : BitVec 1 := Scalar.cmpi .eq v53 c3_i32_46
  let c12_i32_47 : BitVec 32 := 12#32
  let c0_i32_48 : BitVec 32 := 0#32
  let v64 : BitVec 32 := Scalar.select v63 c12_i32_47 c0_i32_48
  let v65 : BitVec 32 := Scalar.addi v62 v64
  let c4_i32_49 : BitVec 32 := 4#32
  let v66 : BitVec 1 := Scalar.cmpi .eq v53 c4_i32_49
  let c15_i32_50 : BitVec 32 := 15#32
  let c0_i32_51 : BitVec 32 := 0#32
  let v67 : BitVec 32 := Scalar.select v66 c15_i32_50 c0_i32_51
  let v68 : BitVec 32 := Scalar.addi v65 v67
  let c5_i32_52 : BitVec 32 := 5#32
  let v69 : BitVec 1 := Scalar.cmpi .eq v53 c5_i32_52
  let c11_i32_53 : BitVec 32 := 11#32
  let c0_i32_54 : BitVec 32 := 0#32
  let v70 : BitVec 32 := Scalar.select v69 c11_i32_53 c0_i32_54
  let v71 : BitVec 32 := Scalar.addi v68 v70
  let c6_i32_55 : BitVec 32 := 6#32
  let v72 : BitVec 1 := Scalar.cmpi .eq v53 c6_i32_55
  let c7_i32_56 : BitVec 32 := 7#32
  let c0_i32_57 : BitVec 32 := 0#32
  let v73 : BitVec 32 := Scalar.select v72 c7_i32_56 c0_i32_57
  let v74 : BitVec 32 := Scalar.addi v71 v73
  let c7_i32_58 : BitVec 32 := 7#32
  let v75 : BitVec 1 := Scalar.cmpi .eq v53 c7_i32_58
  let c3_i32_59 : BitVec 32 := 3#32
  let c0_i32_60 : BitVec 32 := 0#32
  let v76 : BitVec 32 := Scalar.select v75 c3_i32_59 c0_i32_60
  let v77 : BitVec 32 := Scalar.addi v74 v76
  let c8_i32_61 : BitVec 32 := 8#32
  let v78 : BitVec 1 := Scalar.cmpi .eq v53 c8_i32_61
  let c2_i32_62 : BitVec 32 := 2#32
  let c0_i32_63 : BitVec 32 := 0#32
  let v79 : BitVec 32 := Scalar.select v78 c2_i32_62 c0_i32_63
  let v80 : BitVec 32 := Scalar.addi v77 v79
  let c9_i32_64 : BitVec 32 := 9#32
  let v81 : BitVec 1 := Scalar.cmpi .eq v53 c9_i32_64
  let c6_i32_65 : BitVec 32 := 6#32
  let c0_i32_66 : BitVec 32 := 0#32
  let v82 : BitVec 32 := Scalar.select v81 c6_i32_65 c0_i32_66
  let v83 : BitVec 32 := Scalar.addi v80 v82
  let c10_i32_67 : BitVec 32 := 10#32
  let v84 : BitVec 1 := Scalar.cmpi .eq v53 c10_i32_67
  let c10_i32_68 : BitVec 32 := 10#32
  let c0_i32_69 : BitVec 32 := 0#32
  let v85 : BitVec 32 := Scalar.select v84 c10_i32_68 c0_i32_69
  let v86 : BitVec 32 := Scalar.addi v83 v85
  let c11_i32_70 : BitVec 32 := 11#32
  let v87 : BitVec 1 := Scalar.cmpi .eq v53 c11_i32_70
  let c14_i32_71 : BitVec 32 := 14#32
  let c0_i32_72 : BitVec 32 := 0#32
  let v88 : BitVec 32 := Scalar.select v87 c14_i32_71 c0_i32_72
  let v89 : BitVec 32 := Scalar.addi v86 v88
  let c12_i32_73 : BitVec 32 := 12#32
  let v90 : BitVec 1 := Scalar.cmpi .eq v53 c12_i32_73
  let c13_i32_74 : BitVec 32 := 13#32
  let c0_i32_75 : BitVec 32 := 0#32
  let v91 : BitVec 32 := Scalar.select v90 c13_i32_74 c0_i32_75
  let v92 : BitVec 32 := Scalar.addi v89 v91
  let c13_i32_76 : BitVec 32 := 13#32
  let v93 : BitVec 1 := Scalar.cmpi .eq v53 c13_i32_76
  let c9_i32_77 : BitVec 32 := 9#32
  let c0_i32_78 : BitVec 32 := 0#32
  let v94 : BitVec 32 := Scalar.select v93 c9_i32_77 c0_i32_78
  let v95 : BitVec 32 := Scalar.addi v92 v94
  let c14_i32_79 : BitVec 32 := 14#32
  let v96 : BitVec 1 := Scalar.cmpi .eq v53 c14_i32_79
  let c5_i32_80 : BitVec 32 := 5#32
  let c0_i32_81 : BitVec 32 := 0#32
  let v97 : BitVec 32 := Scalar.select v96 c5_i32_80 c0_i32_81
  let v98 : BitVec 32 := Scalar.addi v95 v97
  let c15_i32_82 : BitVec 32 := 15#32
  let v99 : BitVec 1 := Scalar.cmpi .eq v53 c15_i32_82
  let c1_i32_83 : BitVec 32 := 1#32
  let c0_i32_84 : BitVec 32 := 0#32
  let v100 : BitVec 32 := Scalar.select v99 c1_i32_83 c0_i32_84
  let v101 : BitVec 32 := Scalar.addi v98 v100
  let c1_i32_1037 : BitVec 32 := 1#32
  let v1449 : BitVec 32 := Scalar.muli v101 c1_i32_1037
  let v1450 : BitVec 32 := Scalar.addi c0_i32_1038 v1449
  v1450.toNat
def k0_dev13 (d0 : Dev nD) : Nat :=
  let c0_i32_1046 : BitVec 32 := 0#32
  let c0_i32_91 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_85 : BitVec 32 := 1#32
  let v102 : BitVec 32 := Scalar.addi v50 c1_i32_85
  let c32_i32_86 : BitVec 32 := 32#32
  let v103 : BitVec 32 := Scalar.addi v102 c32_i32_86
  let c16_i32_87 : BitVec 32 := 16#32
  let v104 : BitVec 32 := Scalar.remsi v103 c16_i32_87
  let c0_i32_88 : BitVec 32 := 0#32
  let v105 : BitVec 1 := Scalar.cmpi .eq v104 c0_i32_88
  let c0_i32_89 : BitVec 32 := 0#32
  let c0_i32_90 : BitVec 32 := 0#32
  let v106 : BitVec 32 := Scalar.select v105 c0_i32_89 c0_i32_90
  let v107 : BitVec 32 := Scalar.addi c0_i32_91 v106
  let c1_i32_92 : BitVec 32 := 1#32
  let v108 : BitVec 1 := Scalar.cmpi .eq v104 c1_i32_92
  let c4_i32_93 : BitVec 32 := 4#32
  let c0_i32_94 : BitVec 32 := 0#32
  let v109 : BitVec 32 := Scalar.select v108 c4_i32_93 c0_i32_94
  let v110 : BitVec 32 := Scalar.addi v107 v109
  let c2_i32_95 : BitVec 32 := 2#32
  let v111 : BitVec 1 := Scalar.cmpi .eq v104 c2_i32_95
  let c8_i32_96 : BitVec 32 := 8#32
  let c0_i32_97 : BitVec 32 := 0#32
  let v112 : BitVec 32 := Scalar.select v111 c8_i32_96 c0_i32_97
  let v113 : BitVec 32 := Scalar.addi v110 v112
  let c3_i32_98 : BitVec 32 := 3#32
  let v114 : BitVec 1 := Scalar.cmpi .eq v104 c3_i32_98
  let c12_i32_99 : BitVec 32 := 12#32
  let c0_i32_100 : BitVec 32 := 0#32
  let v115 : BitVec 32 := Scalar.select v114 c12_i32_99 c0_i32_100
  let v116 : BitVec 32 := Scalar.addi v113 v115
  let c4_i32_101 : BitVec 32 := 4#32
  let v117 : BitVec 1 := Scalar.cmpi .eq v104 c4_i32_101
  let c15_i32_102 : BitVec 32 := 15#32
  let c0_i32_103 : BitVec 32 := 0#32
  let v118 : BitVec 32 := Scalar.select v117 c15_i32_102 c0_i32_103
  let v119 : BitVec 32 := Scalar.addi v116 v118
  let c5_i32_104 : BitVec 32 := 5#32
  let v120 : BitVec 1 := Scalar.cmpi .eq v104 c5_i32_104
  let c11_i32_105 : BitVec 32 := 11#32
  let c0_i32_106 : BitVec 32 := 0#32
  let v121 : BitVec 32 := Scalar.select v120 c11_i32_105 c0_i32_106
  let v122 : BitVec 32 := Scalar.addi v119 v121
  let c6_i32_107 : BitVec 32 := 6#32
  let v123 : BitVec 1 := Scalar.cmpi .eq v104 c6_i32_107
  let c7_i32_108 : BitVec 32 := 7#32
  let c0_i32_109 : BitVec 32 := 0#32
  let v124 : BitVec 32 := Scalar.select v123 c7_i32_108 c0_i32_109
  let v125 : BitVec 32 := Scalar.addi v122 v124
  let c7_i32_110 : BitVec 32 := 7#32
  let v126 : BitVec 1 := Scalar.cmpi .eq v104 c7_i32_110
  let c3_i32_111 : BitVec 32 := 3#32
  let c0_i32_112 : BitVec 32 := 0#32
  let v127 : BitVec 32 := Scalar.select v126 c3_i32_111 c0_i32_112
  let v128 : BitVec 32 := Scalar.addi v125 v127
  let c8_i32_113 : BitVec 32 := 8#32
  let v129 : BitVec 1 := Scalar.cmpi .eq v104 c8_i32_113
  let c2_i32_114 : BitVec 32 := 2#32
  let c0_i32_115 : BitVec 32 := 0#32
  let v130 : BitVec 32 := Scalar.select v129 c2_i32_114 c0_i32_115
  let v131 : BitVec 32 := Scalar.addi v128 v130
  let c9_i32_116 : BitVec 32 := 9#32
  let v132 : BitVec 1 := Scalar.cmpi .eq v104 c9_i32_116
  let c6_i32_117 : BitVec 32 := 6#32
  let c0_i32_118 : BitVec 32 := 0#32
  let v133 : BitVec 32 := Scalar.select v132 c6_i32_117 c0_i32_118
  let v134 : BitVec 32 := Scalar.addi v131 v133
  let c10_i32_119 : BitVec 32 := 10#32
  let v135 : BitVec 1 := Scalar.cmpi .eq v104 c10_i32_119
  let c10_i32_120 : BitVec 32 := 10#32
  let c0_i32_121 : BitVec 32 := 0#32
  let v136 : BitVec 32 := Scalar.select v135 c10_i32_120 c0_i32_121
  let v137 : BitVec 32 := Scalar.addi v134 v136
  let c11_i32_122 : BitVec 32 := 11#32
  let v138 : BitVec 1 := Scalar.cmpi .eq v104 c11_i32_122
  let c14_i32_123 : BitVec 32 := 14#32
  let c0_i32_124 : BitVec 32 := 0#32
  let v139 : BitVec 32 := Scalar.select v138 c14_i32_123 c0_i32_124
  let v140 : BitVec 32 := Scalar.addi v137 v139
  let c12_i32_125 : BitVec 32 := 12#32
  let v141 : BitVec 1 := Scalar.cmpi .eq v104 c12_i32_125
  let c13_i32_126 : BitVec 32 := 13#32
  let c0_i32_127 : BitVec 32 := 0#32
  let v142 : BitVec 32 := Scalar.select v141 c13_i32_126 c0_i32_127
  let v143 : BitVec 32 := Scalar.addi v140 v142
  let c13_i32_128 : BitVec 32 := 13#32
  let v144 : BitVec 1 := Scalar.cmpi .eq v104 c13_i32_128
  let c9_i32_129 : BitVec 32 := 9#32
  let c0_i32_130 : BitVec 32 := 0#32
  let v145 : BitVec 32 := Scalar.select v144 c9_i32_129 c0_i32_130
  let v146 : BitVec 32 := Scalar.addi v143 v145
  let c14_i32_131 : BitVec 32 := 14#32
  let v147 : BitVec 1 := Scalar.cmpi .eq v104 c14_i32_131
  let c5_i32_132 : BitVec 32 := 5#32
  let c0_i32_133 : BitVec 32 := 0#32
  let v148 : BitVec 32 := Scalar.select v147 c5_i32_132 c0_i32_133
  let v149 : BitVec 32 := Scalar.addi v146 v148
  let c15_i32_134 : BitVec 32 := 15#32
  let v150 : BitVec 1 := Scalar.cmpi .eq v104 c15_i32_134
  let c1_i32_135 : BitVec 32 := 1#32
  let c0_i32_136 : BitVec 32 := 0#32
  let v151 : BitVec 32 := Scalar.select v150 c1_i32_135 c0_i32_136
  let v152 : BitVec 32 := Scalar.addi v149 v151
  let c1_i32_1045 : BitVec 32 := 1#32
  let v1457 : BitVec 32 := Scalar.muli v152 c1_i32_1045
  let v1458 : BitVec 32 := Scalar.addi c0_i32_1046 v1457
  v1458.toNat
def k0_dev14 (d0 : Dev nD) : Nat :=
  let c0_i32_1056 : BitVec 32 := 0#32
  let c0_i32_39 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_34 : BitVec 32 := 1#32
  let v51 : BitVec 32 := Scalar.subi v50 c1_i32_34
  let c32_i32 : BitVec 32 := 32#32
  let v52 : BitVec 32 := Scalar.addi v51 c32_i32
  let c16_i32_35 : BitVec 32 := 16#32
  let v53 : BitVec 32 := Scalar.remsi v52 c16_i32_35
  let c0_i32_36 : BitVec 32 := 0#32
  let v54 : BitVec 1 := Scalar.cmpi .eq v53 c0_i32_36
  let c0_i32_37 : BitVec 32 := 0#32
  let c0_i32_38 : BitVec 32 := 0#32
  let v55 : BitVec 32 := Scalar.select v54 c0_i32_37 c0_i32_38
  let v56 : BitVec 32 := Scalar.addi c0_i32_39 v55
  let c1_i32_40 : BitVec 32 := 1#32
  let v57 : BitVec 1 := Scalar.cmpi .eq v53 c1_i32_40
  let c4_i32_41 : BitVec 32 := 4#32
  let c0_i32_42 : BitVec 32 := 0#32
  let v58 : BitVec 32 := Scalar.select v57 c4_i32_41 c0_i32_42
  let v59 : BitVec 32 := Scalar.addi v56 v58
  let c2_i32_43 : BitVec 32 := 2#32
  let v60 : BitVec 1 := Scalar.cmpi .eq v53 c2_i32_43
  let c8_i32_44 : BitVec 32 := 8#32
  let c0_i32_45 : BitVec 32 := 0#32
  let v61 : BitVec 32 := Scalar.select v60 c8_i32_44 c0_i32_45
  let v62 : BitVec 32 := Scalar.addi v59 v61
  let c3_i32_46 : BitVec 32 := 3#32
  let v63 : BitVec 1 := Scalar.cmpi .eq v53 c3_i32_46
  let c12_i32_47 : BitVec 32 := 12#32
  let c0_i32_48 : BitVec 32 := 0#32
  let v64 : BitVec 32 := Scalar.select v63 c12_i32_47 c0_i32_48
  let v65 : BitVec 32 := Scalar.addi v62 v64
  let c4_i32_49 : BitVec 32 := 4#32
  let v66 : BitVec 1 := Scalar.cmpi .eq v53 c4_i32_49
  let c15_i32_50 : BitVec 32 := 15#32
  let c0_i32_51 : BitVec 32 := 0#32
  let v67 : BitVec 32 := Scalar.select v66 c15_i32_50 c0_i32_51
  let v68 : BitVec 32 := Scalar.addi v65 v67
  let c5_i32_52 : BitVec 32 := 5#32
  let v69 : BitVec 1 := Scalar.cmpi .eq v53 c5_i32_52
  let c11_i32_53 : BitVec 32 := 11#32
  let c0_i32_54 : BitVec 32 := 0#32
  let v70 : BitVec 32 := Scalar.select v69 c11_i32_53 c0_i32_54
  let v71 : BitVec 32 := Scalar.addi v68 v70
  let c6_i32_55 : BitVec 32 := 6#32
  let v72 : BitVec 1 := Scalar.cmpi .eq v53 c6_i32_55
  let c7_i32_56 : BitVec 32 := 7#32
  let c0_i32_57 : BitVec 32 := 0#32
  let v73 : BitVec 32 := Scalar.select v72 c7_i32_56 c0_i32_57
  let v74 : BitVec 32 := Scalar.addi v71 v73
  let c7_i32_58 : BitVec 32 := 7#32
  let v75 : BitVec 1 := Scalar.cmpi .eq v53 c7_i32_58
  let c3_i32_59 : BitVec 32 := 3#32
  let c0_i32_60 : BitVec 32 := 0#32
  let v76 : BitVec 32 := Scalar.select v75 c3_i32_59 c0_i32_60
  let v77 : BitVec 32 := Scalar.addi v74 v76
  let c8_i32_61 : BitVec 32 := 8#32
  let v78 : BitVec 1 := Scalar.cmpi .eq v53 c8_i32_61
  let c2_i32_62 : BitVec 32 := 2#32
  let c0_i32_63 : BitVec 32 := 0#32
  let v79 : BitVec 32 := Scalar.select v78 c2_i32_62 c0_i32_63
  let v80 : BitVec 32 := Scalar.addi v77 v79
  let c9_i32_64 : BitVec 32 := 9#32
  let v81 : BitVec 1 := Scalar.cmpi .eq v53 c9_i32_64
  let c6_i32_65 : BitVec 32 := 6#32
  let c0_i32_66 : BitVec 32 := 0#32
  let v82 : BitVec 32 := Scalar.select v81 c6_i32_65 c0_i32_66
  let v83 : BitVec 32 := Scalar.addi v80 v82
  let c10_i32_67 : BitVec 32 := 10#32
  let v84 : BitVec 1 := Scalar.cmpi .eq v53 c10_i32_67
  let c10_i32_68 : BitVec 32 := 10#32
  let c0_i32_69 : BitVec 32 := 0#32
  let v85 : BitVec 32 := Scalar.select v84 c10_i32_68 c0_i32_69
  let v86 : BitVec 32 := Scalar.addi v83 v85
  let c11_i32_70 : BitVec 32 := 11#32
  let v87 : BitVec 1 := Scalar.cmpi .eq v53 c11_i32_70
  let c14_i32_71 : BitVec 32 := 14#32
  let c0_i32_72 : BitVec 32 := 0#32
  let v88 : BitVec 32 := Scalar.select v87 c14_i32_71 c0_i32_72
  let v89 : BitVec 32 := Scalar.addi v86 v88
  let c12_i32_73 : BitVec 32 := 12#32
  let v90 : BitVec 1 := Scalar.cmpi .eq v53 c12_i32_73
  let c13_i32_74 : BitVec 32 := 13#32
  let c0_i32_75 : BitVec 32 := 0#32
  let v91 : BitVec 32 := Scalar.select v90 c13_i32_74 c0_i32_75
  let v92 : BitVec 32 := Scalar.addi v89 v91
  let c13_i32_76 : BitVec 32 := 13#32
  let v93 : BitVec 1 := Scalar.cmpi .eq v53 c13_i32_76
  let c9_i32_77 : BitVec 32 := 9#32
  let c0_i32_78 : BitVec 32 := 0#32
  let v94 : BitVec 32 := Scalar.select v93 c9_i32_77 c0_i32_78
  let v95 : BitVec 32 := Scalar.addi v92 v94
  let c14_i32_79 : BitVec 32 := 14#32
  let v96 : BitVec 1 := Scalar.cmpi .eq v53 c14_i32_79
  let c5_i32_80 : BitVec 32 := 5#32
  let c0_i32_81 : BitVec 32 := 0#32
  let v97 : BitVec 32 := Scalar.select v96 c5_i32_80 c0_i32_81
  let v98 : BitVec 32 := Scalar.addi v95 v97
  let c15_i32_82 : BitVec 32 := 15#32
  let v99 : BitVec 1 := Scalar.cmpi .eq v53 c15_i32_82
  let c1_i32_83 : BitVec 32 := 1#32
  let c0_i32_84 : BitVec 32 := 0#32
  let v100 : BitVec 32 := Scalar.select v99 c1_i32_83 c0_i32_84
  let v101 : BitVec 32 := Scalar.addi v98 v100
  let c1_i32_1055 : BitVec 32 := 1#32
  let v1467 : BitVec 32 := Scalar.muli v101 c1_i32_1055
  let v1468 : BitVec 32 := Scalar.addi c0_i32_1056 v1467
  v1468.toNat
def k0_dev15 (d0 : Dev nD) : Nat :=
  let c0_i32_1285 : BitVec 32 := 0#32
  let c0_i32_91 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_85 : BitVec 32 := 1#32
  let v102 : BitVec 32 := Scalar.addi v50 c1_i32_85
  let c32_i32_86 : BitVec 32 := 32#32
  let v103 : BitVec 32 := Scalar.addi v102 c32_i32_86
  let c16_i32_87 : BitVec 32 := 16#32
  let v104 : BitVec 32 := Scalar.remsi v103 c16_i32_87
  let c0_i32_88 : BitVec 32 := 0#32
  let v105 : BitVec 1 := Scalar.cmpi .eq v104 c0_i32_88
  let c0_i32_89 : BitVec 32 := 0#32
  let c0_i32_90 : BitVec 32 := 0#32
  let v106 : BitVec 32 := Scalar.select v105 c0_i32_89 c0_i32_90
  let v107 : BitVec 32 := Scalar.addi c0_i32_91 v106
  let c1_i32_92 : BitVec 32 := 1#32
  let v108 : BitVec 1 := Scalar.cmpi .eq v104 c1_i32_92
  let c4_i32_93 : BitVec 32 := 4#32
  let c0_i32_94 : BitVec 32 := 0#32
  let v109 : BitVec 32 := Scalar.select v108 c4_i32_93 c0_i32_94
  let v110 : BitVec 32 := Scalar.addi v107 v109
  let c2_i32_95 : BitVec 32 := 2#32
  let v111 : BitVec 1 := Scalar.cmpi .eq v104 c2_i32_95
  let c8_i32_96 : BitVec 32 := 8#32
  let c0_i32_97 : BitVec 32 := 0#32
  let v112 : BitVec 32 := Scalar.select v111 c8_i32_96 c0_i32_97
  let v113 : BitVec 32 := Scalar.addi v110 v112
  let c3_i32_98 : BitVec 32 := 3#32
  let v114 : BitVec 1 := Scalar.cmpi .eq v104 c3_i32_98
  let c12_i32_99 : BitVec 32 := 12#32
  let c0_i32_100 : BitVec 32 := 0#32
  let v115 : BitVec 32 := Scalar.select v114 c12_i32_99 c0_i32_100
  let v116 : BitVec 32 := Scalar.addi v113 v115
  let c4_i32_101 : BitVec 32 := 4#32
  let v117 : BitVec 1 := Scalar.cmpi .eq v104 c4_i32_101
  let c15_i32_102 : BitVec 32 := 15#32
  let c0_i32_103 : BitVec 32 := 0#32
  let v118 : BitVec 32 := Scalar.select v117 c15_i32_102 c0_i32_103
  let v119 : BitVec 32 := Scalar.addi v116 v118
  let c5_i32_104 : BitVec 32 := 5#32
  let v120 : BitVec 1 := Scalar.cmpi .eq v104 c5_i32_104
  let c11_i32_105 : BitVec 32 := 11#32
  let c0_i32_106 : BitVec 32 := 0#32
  let v121 : BitVec 32 := Scalar.select v120 c11_i32_105 c0_i32_106
  let v122 : BitVec 32 := Scalar.addi v119 v121
  let c6_i32_107 : BitVec 32 := 6#32
  let v123 : BitVec 1 := Scalar.cmpi .eq v104 c6_i32_107
  let c7_i32_108 : BitVec 32 := 7#32
  let c0_i32_109 : BitVec 32 := 0#32
  let v124 : BitVec 32 := Scalar.select v123 c7_i32_108 c0_i32_109
  let v125 : BitVec 32 := Scalar.addi v122 v124
  let c7_i32_110 : BitVec 32 := 7#32
  let v126 : BitVec 1 := Scalar.cmpi .eq v104 c7_i32_110
  let c3_i32_111 : BitVec 32 := 3#32
  let c0_i32_112 : BitVec 32 := 0#32
  let v127 : BitVec 32 := Scalar.select v126 c3_i32_111 c0_i32_112
  let v128 : BitVec 32 := Scalar.addi v125 v127
  let c8_i32_113 : BitVec 32 := 8#32
  let v129 : BitVec 1 := Scalar.cmpi .eq v104 c8_i32_113
  let c2_i32_114 : BitVec 32 := 2#32
  let c0_i32_115 : BitVec 32 := 0#32
  let v130 : BitVec 32 := Scalar.select v129 c2_i32_114 c0_i32_115
  let v131 : BitVec 32 := Scalar.addi v128 v130
  let c9_i32_116 : BitVec 32 := 9#32
  let v132 : BitVec 1 := Scalar.cmpi .eq v104 c9_i32_116
  let c6_i32_117 : BitVec 32 := 6#32
  let c0_i32_118 : BitVec 32 := 0#32
  let v133 : BitVec 32 := Scalar.select v132 c6_i32_117 c0_i32_118
  let v134 : BitVec 32 := Scalar.addi v131 v133
  let c10_i32_119 : BitVec 32 := 10#32
  let v135 : BitVec 1 := Scalar.cmpi .eq v104 c10_i32_119
  let c10_i32_120 : BitVec 32 := 10#32
  let c0_i32_121 : BitVec 32 := 0#32
  let v136 : BitVec 32 := Scalar.select v135 c10_i32_120 c0_i32_121
  let v137 : BitVec 32 := Scalar.addi v134 v136
  let c11_i32_122 : BitVec 32 := 11#32
  let v138 : BitVec 1 := Scalar.cmpi .eq v104 c11_i32_122
  let c14_i32_123 : BitVec 32 := 14#32
  let c0_i32_124 : BitVec 32 := 0#32
  let v139 : BitVec 32 := Scalar.select v138 c14_i32_123 c0_i32_124
  let v140 : BitVec 32 := Scalar.addi v137 v139
  let c12_i32_125 : BitVec 32 := 12#32
  let v141 : BitVec 1 := Scalar.cmpi .eq v104 c12_i32_125
  let c13_i32_126 : BitVec 32 := 13#32
  let c0_i32_127 : BitVec 32 := 0#32
  let v142 : BitVec 32 := Scalar.select v141 c13_i32_126 c0_i32_127
  let v143 : BitVec 32 := Scalar.addi v140 v142
  let c13_i32_128 : BitVec 32 := 13#32
  let v144 : BitVec 1 := Scalar.cmpi .eq v104 c13_i32_128
  let c9_i32_129 : BitVec 32 := 9#32
  let c0_i32_130 : BitVec 32 := 0#32
  let v145 : BitVec 32 := Scalar.select v144 c9_i32_129 c0_i32_130
  let v146 : BitVec 32 := Scalar.addi v143 v145
  let c14_i32_131 : BitVec 32 := 14#32
  let v147 : BitVec 1 := Scalar.cmpi .eq v104 c14_i32_131
  let c5_i32_132 : BitVec 32 := 5#32
  let c0_i32_133 : BitVec 32 := 0#32
  let v148 : BitVec 32 := Scalar.select v147 c5_i32_132 c0_i32_133
  let v149 : BitVec 32 := Scalar.addi v146 v148
  let c15_i32_134 : BitVec 32 := 15#32
  let v150 : BitVec 1 := Scalar.cmpi .eq v104 c15_i32_134
  let c1_i32_135 : BitVec 32 := 1#32
  let c0_i32_136 : BitVec 32 := 0#32
  let v151 : BitVec 32 := Scalar.select v150 c1_i32_135 c0_i32_136
  let v152 : BitVec 32 := Scalar.addi v149 v151
  let c1_i32_1284 : BitVec 32 := 1#32
  let v1791 : BitVec 32 := Scalar.muli v152 c1_i32_1284
  let v1792 : BitVec 32 := Scalar.addi c0_i32_1285 v1791
  v1792.toNat
def k0_dev16 (d0 : Dev nD) : Nat :=
  let c0_i32_1297 : BitVec 32 := 0#32
  let c0_i32_39 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_34 : BitVec 32 := 1#32
  let v51 : BitVec 32 := Scalar.subi v50 c1_i32_34
  let c32_i32 : BitVec 32 := 32#32
  let v52 : BitVec 32 := Scalar.addi v51 c32_i32
  let c16_i32_35 : BitVec 32 := 16#32
  let v53 : BitVec 32 := Scalar.remsi v52 c16_i32_35
  let c0_i32_36 : BitVec 32 := 0#32
  let v54 : BitVec 1 := Scalar.cmpi .eq v53 c0_i32_36
  let c0_i32_37 : BitVec 32 := 0#32
  let c0_i32_38 : BitVec 32 := 0#32
  let v55 : BitVec 32 := Scalar.select v54 c0_i32_37 c0_i32_38
  let v56 : BitVec 32 := Scalar.addi c0_i32_39 v55
  let c1_i32_40 : BitVec 32 := 1#32
  let v57 : BitVec 1 := Scalar.cmpi .eq v53 c1_i32_40
  let c4_i32_41 : BitVec 32 := 4#32
  let c0_i32_42 : BitVec 32 := 0#32
  let v58 : BitVec 32 := Scalar.select v57 c4_i32_41 c0_i32_42
  let v59 : BitVec 32 := Scalar.addi v56 v58
  let c2_i32_43 : BitVec 32 := 2#32
  let v60 : BitVec 1 := Scalar.cmpi .eq v53 c2_i32_43
  let c8_i32_44 : BitVec 32 := 8#32
  let c0_i32_45 : BitVec 32 := 0#32
  let v61 : BitVec 32 := Scalar.select v60 c8_i32_44 c0_i32_45
  let v62 : BitVec 32 := Scalar.addi v59 v61
  let c3_i32_46 : BitVec 32 := 3#32
  let v63 : BitVec 1 := Scalar.cmpi .eq v53 c3_i32_46
  let c12_i32_47 : BitVec 32 := 12#32
  let c0_i32_48 : BitVec 32 := 0#32
  let v64 : BitVec 32 := Scalar.select v63 c12_i32_47 c0_i32_48
  let v65 : BitVec 32 := Scalar.addi v62 v64
  let c4_i32_49 : BitVec 32 := 4#32
  let v66 : BitVec 1 := Scalar.cmpi .eq v53 c4_i32_49
  let c15_i32_50 : BitVec 32 := 15#32
  let c0_i32_51 : BitVec 32 := 0#32
  let v67 : BitVec 32 := Scalar.select v66 c15_i32_50 c0_i32_51
  let v68 : BitVec 32 := Scalar.addi v65 v67
  let c5_i32_52 : BitVec 32 := 5#32
  let v69 : BitVec 1 := Scalar.cmpi .eq v53 c5_i32_52
  let c11_i32_53 : BitVec 32 := 11#32
  let c0_i32_54 : BitVec 32 := 0#32
  let v70 : BitVec 32 := Scalar.select v69 c11_i32_53 c0_i32_54
  let v71 : BitVec 32 := Scalar.addi v68 v70
  let c6_i32_55 : BitVec 32 := 6#32
  let v72 : BitVec 1 := Scalar.cmpi .eq v53 c6_i32_55
  let c7_i32_56 : BitVec 32 := 7#32
  let c0_i32_57 : BitVec 32 := 0#32
  let v73 : BitVec 32 := Scalar.select v72 c7_i32_56 c0_i32_57
  let v74 : BitVec 32 := Scalar.addi v71 v73
  let c7_i32_58 : BitVec 32 := 7#32
  let v75 : BitVec 1 := Scalar.cmpi .eq v53 c7_i32_58
  let c3_i32_59 : BitVec 32 := 3#32
  let c0_i32_60 : BitVec 32 := 0#32
  let v76 : BitVec 32 := Scalar.select v75 c3_i32_59 c0_i32_60
  let v77 : BitVec 32 := Scalar.addi v74 v76
  let c8_i32_61 : BitVec 32 := 8#32
  let v78 : BitVec 1 := Scalar.cmpi .eq v53 c8_i32_61
  let c2_i32_62 : BitVec 32 := 2#32
  let c0_i32_63 : BitVec 32 := 0#32
  let v79 : BitVec 32 := Scalar.select v78 c2_i32_62 c0_i32_63
  let v80 : BitVec 32 := Scalar.addi v77 v79
  let c9_i32_64 : BitVec 32 := 9#32
  let v81 : BitVec 1 := Scalar.cmpi .eq v53 c9_i32_64
  let c6_i32_65 : BitVec 32 := 6#32
  let c0_i32_66 : BitVec 32 := 0#32
  let v82 : BitVec 32 := Scalar.select v81 c6_i32_65 c0_i32_66
  let v83 : BitVec 32 := Scalar.addi v80 v82
  let c10_i32_67 : BitVec 32 := 10#32
  let v84 : BitVec 1 := Scalar.cmpi .eq v53 c10_i32_67
  let c10_i32_68 : BitVec 32 := 10#32
  let c0_i32_69 : BitVec 32 := 0#32
  let v85 : BitVec 32 := Scalar.select v84 c10_i32_68 c0_i32_69
  let v86 : BitVec 32 := Scalar.addi v83 v85
  let c11_i32_70 : BitVec 32 := 11#32
  let v87 : BitVec 1 := Scalar.cmpi .eq v53 c11_i32_70
  let c14_i32_71 : BitVec 32 := 14#32
  let c0_i32_72 : BitVec 32 := 0#32
  let v88 : BitVec 32 := Scalar.select v87 c14_i32_71 c0_i32_72
  let v89 : BitVec 32 := Scalar.addi v86 v88
  let c12_i32_73 : BitVec 32 := 12#32
  let v90 : BitVec 1 := Scalar.cmpi .eq v53 c12_i32_73
  let c13_i32_74 : BitVec 32 := 13#32
  let c0_i32_75 : BitVec 32 := 0#32
  let v91 : BitVec 32 := Scalar.select v90 c13_i32_74 c0_i32_75
  let v92 : BitVec 32 := Scalar.addi v89 v91
  let c13_i32_76 : BitVec 32 := 13#32
  let v93 : BitVec 1 := Scalar.cmpi .eq v53 c13_i32_76
  let c9_i32_77 : BitVec 32 := 9#32
  let c0_i32_78 : BitVec 32 := 0#32
  let v94 : BitVec 32 := Scalar.select v93 c9_i32_77 c0_i32_78
  let v95 : BitVec 32 := Scalar.addi v92 v94
  let c14_i32_79 : BitVec 32 := 14#32
  let v96 : BitVec 1 := Scalar.cmpi .eq v53 c14_i32_79
  let c5_i32_80 : BitVec 32 := 5#32
  let c0_i32_81 : BitVec 32 := 0#32
  let v97 : BitVec 32 := Scalar.select v96 c5_i32_80 c0_i32_81
  let v98 : BitVec 32 := Scalar.addi v95 v97
  let c15_i32_82 : BitVec 32 := 15#32
  let v99 : BitVec 1 := Scalar.cmpi .eq v53 c15_i32_82
  let c1_i32_83 : BitVec 32 := 1#32
  let c0_i32_84 : BitVec 32 := 0#32
  let v100 : BitVec 32 := Scalar.select v99 c1_i32_83 c0_i32_84
  let v101 : BitVec 32 := Scalar.addi v98 v100
  let c1_i32_1296 : BitVec 32 := 1#32
  let v1805 : BitVec 32 := Scalar.muli v101 c1_i32_1296
  let v1806 : BitVec 32 := Scalar.addi c0_i32_1297 v1805
  v1806.toNat
def k0_dev17 (d0 : Dev nD) : Nat :=
  let c0_i32_1305 : BitVec 32 := 0#32
  let c0_i32_91 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_85 : BitVec 32 := 1#32
  let v102 : BitVec 32 := Scalar.addi v50 c1_i32_85
  let c32_i32_86 : BitVec 32 := 32#32
  let v103 : BitVec 32 := Scalar.addi v102 c32_i32_86
  let c16_i32_87 : BitVec 32 := 16#32
  let v104 : BitVec 32 := Scalar.remsi v103 c16_i32_87
  let c0_i32_88 : BitVec 32 := 0#32
  let v105 : BitVec 1 := Scalar.cmpi .eq v104 c0_i32_88
  let c0_i32_89 : BitVec 32 := 0#32
  let c0_i32_90 : BitVec 32 := 0#32
  let v106 : BitVec 32 := Scalar.select v105 c0_i32_89 c0_i32_90
  let v107 : BitVec 32 := Scalar.addi c0_i32_91 v106
  let c1_i32_92 : BitVec 32 := 1#32
  let v108 : BitVec 1 := Scalar.cmpi .eq v104 c1_i32_92
  let c4_i32_93 : BitVec 32 := 4#32
  let c0_i32_94 : BitVec 32 := 0#32
  let v109 : BitVec 32 := Scalar.select v108 c4_i32_93 c0_i32_94
  let v110 : BitVec 32 := Scalar.addi v107 v109
  let c2_i32_95 : BitVec 32 := 2#32
  let v111 : BitVec 1 := Scalar.cmpi .eq v104 c2_i32_95
  let c8_i32_96 : BitVec 32 := 8#32
  let c0_i32_97 : BitVec 32 := 0#32
  let v112 : BitVec 32 := Scalar.select v111 c8_i32_96 c0_i32_97
  let v113 : BitVec 32 := Scalar.addi v110 v112
  let c3_i32_98 : BitVec 32 := 3#32
  let v114 : BitVec 1 := Scalar.cmpi .eq v104 c3_i32_98
  let c12_i32_99 : BitVec 32 := 12#32
  let c0_i32_100 : BitVec 32 := 0#32
  let v115 : BitVec 32 := Scalar.select v114 c12_i32_99 c0_i32_100
  let v116 : BitVec 32 := Scalar.addi v113 v115
  let c4_i32_101 : BitVec 32 := 4#32
  let v117 : BitVec 1 := Scalar.cmpi .eq v104 c4_i32_101
  let c15_i32_102 : BitVec 32 := 15#32
  let c0_i32_103 : BitVec 32 := 0#32
  let v118 : BitVec 32 := Scalar.select v117 c15_i32_102 c0_i32_103
  let v119 : BitVec 32 := Scalar.addi v116 v118
  let c5_i32_104 : BitVec 32 := 5#32
  let v120 : BitVec 1 := Scalar.cmpi .eq v104 c5_i32_104
  let c11_i32_105 : BitVec 32 := 11#32
  let c0_i32_106 : BitVec 32 := 0#32
  let v121 : BitVec 32 := Scalar.select v120 c11_i32_105 c0_i32_106
  let v122 : BitVec 32 := Scalar.addi v119 v121
  let c6_i32_107 : BitVec 32 := 6#32
  let v123 : BitVec 1 := Scalar.cmpi .eq v104 c6_i32_107
  let c7_i32_108 : BitVec 32 := 7#32
  let c0_i32_109 : BitVec 32 := 0#32
  let v124 : BitVec 32 := Scalar.select v123 c7_i32_108 c0_i32_109
  let v125 : BitVec 32 := Scalar.addi v122 v124
  let c7_i32_110 : BitVec 32 := 7#32
  let v126 : BitVec 1 := Scalar.cmpi .eq v104 c7_i32_110
  let c3_i32_111 : BitVec 32 := 3#32
  let c0_i32_112 : BitVec 32 := 0#32
  let v127 : BitVec 32 := Scalar.select v126 c3_i32_111 c0_i32_112
  let v128 : BitVec 32 := Scalar.addi v125 v127
  let c8_i32_113 : BitVec 32 := 8#32
  let v129 : BitVec 1 := Scalar.cmpi .eq v104 c8_i32_113
  let c2_i32_114 : BitVec 32 := 2#32
  let c0_i32_115 : BitVec 32 := 0#32
  let v130 : BitVec 32 := Scalar.select v129 c2_i32_114 c0_i32_115
  let v131 : BitVec 32 := Scalar.addi v128 v130
  let c9_i32_116 : BitVec 32 := 9#32
  let v132 : BitVec 1 := Scalar.cmpi .eq v104 c9_i32_116
  let c6_i32_117 : BitVec 32 := 6#32
  let c0_i32_118 : BitVec 32 := 0#32
  let v133 : BitVec 32 := Scalar.select v132 c6_i32_117 c0_i32_118
  let v134 : BitVec 32 := Scalar.addi v131 v133
  let c10_i32_119 : BitVec 32 := 10#32
  let v135 : BitVec 1 := Scalar.cmpi .eq v104 c10_i32_119
  let c10_i32_120 : BitVec 32 := 10#32
  let c0_i32_121 : BitVec 32 := 0#32
  let v136 : BitVec 32 := Scalar.select v135 c10_i32_120 c0_i32_121
  let v137 : BitVec 32 := Scalar.addi v134 v136
  let c11_i32_122 : BitVec 32 := 11#32
  let v138 : BitVec 1 := Scalar.cmpi .eq v104 c11_i32_122
  let c14_i32_123 : BitVec 32 := 14#32
  let c0_i32_124 : BitVec 32 := 0#32
  let v139 : BitVec 32 := Scalar.select v138 c14_i32_123 c0_i32_124
  let v140 : BitVec 32 := Scalar.addi v137 v139
  let c12_i32_125 : BitVec 32 := 12#32
  let v141 : BitVec 1 := Scalar.cmpi .eq v104 c12_i32_125
  let c13_i32_126 : BitVec 32 := 13#32
  let c0_i32_127 : BitVec 32 := 0#32
  let v142 : BitVec 32 := Scalar.select v141 c13_i32_126 c0_i32_127
  let v143 : BitVec 32 := Scalar.addi v140 v142
  let c13_i32_128 : BitVec 32 := 13#32
  let v144 : BitVec 1 := Scalar.cmpi .eq v104 c13_i32_128
  let c9_i32_129 : BitVec 32 := 9#32
  let c0_i32_130 : BitVec 32 := 0#32
  let v145 : BitVec 32 := Scalar.select v144 c9_i32_129 c0_i32_130
  let v146 : BitVec 32 := Scalar.addi v143 v145
  let c14_i32_131 : BitVec 32 := 14#32
  let v147 : BitVec 1 := Scalar.cmpi .eq v104 c14_i32_131
  let c5_i32_132 : BitVec 32 := 5#32
  let c0_i32_133 : BitVec 32 := 0#32
  let v148 : BitVec 32 := Scalar.select v147 c5_i32_132 c0_i32_133
  let v149 : BitVec 32 := Scalar.addi v146 v148
  let c15_i32_134 : BitVec 32 := 15#32
  let v150 : BitVec 1 := Scalar.cmpi .eq v104 c15_i32_134
  let c1_i32_135 : BitVec 32 := 1#32
  let c0_i32_136 : BitVec 32 := 0#32
  let v151 : BitVec 32 := Scalar.select v150 c1_i32_135 c0_i32_136
  let v152 : BitVec 32 := Scalar.addi v149 v151
  let c1_i32_1304 : BitVec 32 := 1#32
  let v1813 : BitVec 32 := Scalar.muli v152 c1_i32_1304
  let v1814 : BitVec 32 := Scalar.addi c0_i32_1305 v1813
  v1814.toNat
def k0_dev18 (d0 : Dev nD) : Nat :=
  let c0_i32_1315 : BitVec 32 := 0#32
  let c0_i32_39 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_34 : BitVec 32 := 1#32
  let v51 : BitVec 32 := Scalar.subi v50 c1_i32_34
  let c32_i32 : BitVec 32 := 32#32
  let v52 : BitVec 32 := Scalar.addi v51 c32_i32
  let c16_i32_35 : BitVec 32 := 16#32
  let v53 : BitVec 32 := Scalar.remsi v52 c16_i32_35
  let c0_i32_36 : BitVec 32 := 0#32
  let v54 : BitVec 1 := Scalar.cmpi .eq v53 c0_i32_36
  let c0_i32_37 : BitVec 32 := 0#32
  let c0_i32_38 : BitVec 32 := 0#32
  let v55 : BitVec 32 := Scalar.select v54 c0_i32_37 c0_i32_38
  let v56 : BitVec 32 := Scalar.addi c0_i32_39 v55
  let c1_i32_40 : BitVec 32 := 1#32
  let v57 : BitVec 1 := Scalar.cmpi .eq v53 c1_i32_40
  let c4_i32_41 : BitVec 32 := 4#32
  let c0_i32_42 : BitVec 32 := 0#32
  let v58 : BitVec 32 := Scalar.select v57 c4_i32_41 c0_i32_42
  let v59 : BitVec 32 := Scalar.addi v56 v58
  let c2_i32_43 : BitVec 32 := 2#32
  let v60 : BitVec 1 := Scalar.cmpi .eq v53 c2_i32_43
  let c8_i32_44 : BitVec 32 := 8#32
  let c0_i32_45 : BitVec 32 := 0#32
  let v61 : BitVec 32 := Scalar.select v60 c8_i32_44 c0_i32_45
  let v62 : BitVec 32 := Scalar.addi v59 v61
  let c3_i32_46 : BitVec 32 := 3#32
  let v63 : BitVec 1 := Scalar.cmpi .eq v53 c3_i32_46
  let c12_i32_47 : BitVec 32 := 12#32
  let c0_i32_48 : BitVec 32 := 0#32
  let v64 : BitVec 32 := Scalar.select v63 c12_i32_47 c0_i32_48
  let v65 : BitVec 32 := Scalar.addi v62 v64
  let c4_i32_49 : BitVec 32 := 4#32
  let v66 : BitVec 1 := Scalar.cmpi .eq v53 c4_i32_49
  let c15_i32_50 : BitVec 32 := 15#32
  let c0_i32_51 : BitVec 32 := 0#32
  let v67 : BitVec 32 := Scalar.select v66 c15_i32_50 c0_i32_51
  let v68 : BitVec 32 := Scalar.addi v65 v67
  let c5_i32_52 : BitVec 32 := 5#32
  let v69 : BitVec 1 := Scalar.cmpi .eq v53 c5_i32_52
  let c11_i32_53 : BitVec 32 := 11#32
  let c0_i32_54 : BitVec 32 := 0#32
  let v70 : BitVec 32 := Scalar.select v69 c11_i32_53 c0_i32_54
  let v71 : BitVec 32 := Scalar.addi v68 v70
  let c6_i32_55 : BitVec 32 := 6#32
  let v72 : BitVec 1 := Scalar.cmpi .eq v53 c6_i32_55
  let c7_i32_56 : BitVec 32 := 7#32
  let c0_i32_57 : BitVec 32 := 0#32
  let v73 : BitVec 32 := Scalar.select v72 c7_i32_56 c0_i32_57
  let v74 : BitVec 32 := Scalar.addi v71 v73
  let c7_i32_58 : BitVec 32 := 7#32
  let v75 : BitVec 1 := Scalar.cmpi .eq v53 c7_i32_58
  let c3_i32_59 : BitVec 32 := 3#32
  let c0_i32_60 : BitVec 32 := 0#32
  let v76 : BitVec 32 := Scalar.select v75 c3_i32_59 c0_i32_60
  let v77 : BitVec 32 := Scalar.addi v74 v76
  let c8_i32_61 : BitVec 32 := 8#32
  let v78 : BitVec 1 := Scalar.cmpi .eq v53 c8_i32_61
  let c2_i32_62 : BitVec 32 := 2#32
  let c0_i32_63 : BitVec 32 := 0#32
  let v79 : BitVec 32 := Scalar.select v78 c2_i32_62 c0_i32_63
  let v80 : BitVec 32 := Scalar.addi v77 v79
  let c9_i32_64 : BitVec 32 := 9#32
  let v81 : BitVec 1 := Scalar.cmpi .eq v53 c9_i32_64
  let c6_i32_65 : BitVec 32 := 6#32
  let c0_i32_66 : BitVec 32 := 0#32
  let v82 : BitVec 32 := Scalar.select v81 c6_i32_65 c0_i32_66
  let v83 : BitVec 32 := Scalar.addi v80 v82
  let c10_i32_67 : BitVec 32 := 10#32
  let v84 : BitVec 1 := Scalar.cmpi .eq v53 c10_i32_67
  let c10_i32_68 : BitVec 32 := 10#32
  let c0_i32_69 : BitVec 32 := 0#32
  let v85 : BitVec 32 := Scalar.select v84 c10_i32_68 c0_i32_69
  let v86 : BitVec 32 := Scalar.addi v83 v85
  let c11_i32_70 : BitVec 32 := 11#32
  let v87 : BitVec 1 := Scalar.cmpi .eq v53 c11_i32_70
  let c14_i32_71 : BitVec 32 := 14#32
  let c0_i32_72 : BitVec 32 := 0#32
  let v88 : BitVec 32 := Scalar.select v87 c14_i32_71 c0_i32_72
  let v89 : BitVec 32 := Scalar.addi v86 v88
  let c12_i32_73 : BitVec 32 := 12#32
  let v90 : BitVec 1 := Scalar.cmpi .eq v53 c12_i32_73
  let c13_i32_74 : BitVec 32 := 13#32
  let c0_i32_75 : BitVec 32 := 0#32
  let v91 : BitVec 32 := Scalar.select v90 c13_i32_74 c0_i32_75
  let v92 : BitVec 32 := Scalar.addi v89 v91
  let c13_i32_76 : BitVec 32 := 13#32
  let v93 : BitVec 1 := Scalar.cmpi .eq v53 c13_i32_76
  let c9_i32_77 : BitVec 32 := 9#32
  let c0_i32_78 : BitVec 32 := 0#32
  let v94 : BitVec 32 := Scalar.select v93 c9_i32_77 c0_i32_78
  let v95 : BitVec 32 := Scalar.addi v92 v94
  let c14_i32_79 : BitVec 32 := 14#32
  let v96 : BitVec 1 := Scalar.cmpi .eq v53 c14_i32_79
  let c5_i32_80 : BitVec 32 := 5#32
  let c0_i32_81 : BitVec 32 := 0#32
  let v97 : BitVec 32 := Scalar.select v96 c5_i32_80 c0_i32_81
  let v98 : BitVec 32 := Scalar.addi v95 v97
  let c15_i32_82 : BitVec 32 := 15#32
  let v99 : BitVec 1 := Scalar.cmpi .eq v53 c15_i32_82
  let c1_i32_83 : BitVec 32 := 1#32
  let c0_i32_84 : BitVec 32 := 0#32
  let v100 : BitVec 32 := Scalar.select v99 c1_i32_83 c0_i32_84
  let v101 : BitVec 32 := Scalar.addi v98 v100
  let c1_i32_1314 : BitVec 32 := 1#32
  let v1823 : BitVec 32 := Scalar.muli v101 c1_i32_1314
  let v1824 : BitVec 32 := Scalar.addi c0_i32_1315 v1823
  v1824.toNat
def k0_dev19 (d0 : Dev nD) : Nat :=
  let c0_i32_1543 : BitVec 32 := 0#32
  let c0_i32_91 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_85 : BitVec 32 := 1#32
  let v102 : BitVec 32 := Scalar.addi v50 c1_i32_85
  let c32_i32_86 : BitVec 32 := 32#32
  let v103 : BitVec 32 := Scalar.addi v102 c32_i32_86
  let c16_i32_87 : BitVec 32 := 16#32
  let v104 : BitVec 32 := Scalar.remsi v103 c16_i32_87
  let c0_i32_88 : BitVec 32 := 0#32
  let v105 : BitVec 1 := Scalar.cmpi .eq v104 c0_i32_88
  let c0_i32_89 : BitVec 32 := 0#32
  let c0_i32_90 : BitVec 32 := 0#32
  let v106 : BitVec 32 := Scalar.select v105 c0_i32_89 c0_i32_90
  let v107 : BitVec 32 := Scalar.addi c0_i32_91 v106
  let c1_i32_92 : BitVec 32 := 1#32
  let v108 : BitVec 1 := Scalar.cmpi .eq v104 c1_i32_92
  let c4_i32_93 : BitVec 32 := 4#32
  let c0_i32_94 : BitVec 32 := 0#32
  let v109 : BitVec 32 := Scalar.select v108 c4_i32_93 c0_i32_94
  let v110 : BitVec 32 := Scalar.addi v107 v109
  let c2_i32_95 : BitVec 32 := 2#32
  let v111 : BitVec 1 := Scalar.cmpi .eq v104 c2_i32_95
  let c8_i32_96 : BitVec 32 := 8#32
  let c0_i32_97 : BitVec 32 := 0#32
  let v112 : BitVec 32 := Scalar.select v111 c8_i32_96 c0_i32_97
  let v113 : BitVec 32 := Scalar.addi v110 v112
  let c3_i32_98 : BitVec 32 := 3#32
  let v114 : BitVec 1 := Scalar.cmpi .eq v104 c3_i32_98
  let c12_i32_99 : BitVec 32 := 12#32
  let c0_i32_100 : BitVec 32 := 0#32
  let v115 : BitVec 32 := Scalar.select v114 c12_i32_99 c0_i32_100
  let v116 : BitVec 32 := Scalar.addi v113 v115
  let c4_i32_101 : BitVec 32 := 4#32
  let v117 : BitVec 1 := Scalar.cmpi .eq v104 c4_i32_101
  let c15_i32_102 : BitVec 32 := 15#32
  let c0_i32_103 : BitVec 32 := 0#32
  let v118 : BitVec 32 := Scalar.select v117 c15_i32_102 c0_i32_103
  let v119 : BitVec 32 := Scalar.addi v116 v118
  let c5_i32_104 : BitVec 32 := 5#32
  let v120 : BitVec 1 := Scalar.cmpi .eq v104 c5_i32_104
  let c11_i32_105 : BitVec 32 := 11#32
  let c0_i32_106 : BitVec 32 := 0#32
  let v121 : BitVec 32 := Scalar.select v120 c11_i32_105 c0_i32_106
  let v122 : BitVec 32 := Scalar.addi v119 v121
  let c6_i32_107 : BitVec 32 := 6#32
  let v123 : BitVec 1 := Scalar.cmpi .eq v104 c6_i32_107
  let c7_i32_108 : BitVec 32 := 7#32
  let c0_i32_109 : BitVec 32 := 0#32
  let v124 : BitVec 32 := Scalar.select v123 c7_i32_108 c0_i32_109
  let v125 : BitVec 32 := Scalar.addi v122 v124
  let c7_i32_110 : BitVec 32 := 7#32
  let v126 : BitVec 1 := Scalar.cmpi .eq v104 c7_i32_110
  let c3_i32_111 : BitVec 32 := 3#32
  let c0_i32_112 : BitVec 32 := 0#32
  let v127 : BitVec 32 := Scalar.select v126 c3_i32_111 c0_i32_112
  let v128 : BitVec 32 := Scalar.addi v125 v127
  let c8_i32_113 : BitVec 32 := 8#32
  let v129 : BitVec 1 := Scalar.cmpi .eq v104 c8_i32_113
  let c2_i32_114 : BitVec 32 := 2#32
  let c0_i32_115 : BitVec 32 := 0#32
  let v130 : BitVec 32 := Scalar.select v129 c2_i32_114 c0_i32_115
  let v131 : BitVec 32 := Scalar.addi v128 v130
  let c9_i32_116 : BitVec 32 := 9#32
  let v132 : BitVec 1 := Scalar.cmpi .eq v104 c9_i32_116
  let c6_i32_117 : BitVec 32 := 6#32
  let c0_i32_118 : BitVec 32 := 0#32
  let v133 : BitVec 32 := Scalar.select v132 c6_i32_117 c0_i32_118
  let v134 : BitVec 32 := Scalar.addi v131 v133
  let c10_i32_119 : BitVec 32 := 10#32
  let v135 : BitVec 1 := Scalar.cmpi .eq v104 c10_i32_119
  let c10_i32_120 : BitVec 32 := 10#32
  let c0_i32_121 : BitVec 32 := 0#32
  let v136 : BitVec 32 := Scalar.select v135 c10_i32_120 c0_i32_121
  let v137 : BitVec 32 := Scalar.addi v134 v136
  let c11_i32_122 : BitVec 32 := 11#32
  let v138 : BitVec 1 := Scalar.cmpi .eq v104 c11_i32_122
  let c14_i32_123 : BitVec 32 := 14#32
  let c0_i32_124 : BitVec 32 := 0#32
  let v139 : BitVec 32 := Scalar.select v138 c14_i32_123 c0_i32_124
  let v140 : BitVec 32 := Scalar.addi v137 v139
  let c12_i32_125 : BitVec 32 := 12#32
  let v141 : BitVec 1 := Scalar.cmpi .eq v104 c12_i32_125
  let c13_i32_126 : BitVec 32 := 13#32
  let c0_i32_127 : BitVec 32 := 0#32
  let v142 : BitVec 32 := Scalar.select v141 c13_i32_126 c0_i32_127
  let v143 : BitVec 32 := Scalar.addi v140 v142
  let c13_i32_128 : BitVec 32 := 13#32
  let v144 : BitVec 1 := Scalar.cmpi .eq v104 c13_i32_128
  let c9_i32_129 : BitVec 32 := 9#32
  let c0_i32_130 : BitVec 32 := 0#32
  let v145 : BitVec 32 := Scalar.select v144 c9_i32_129 c0_i32_130
  let v146 : BitVec 32 := Scalar.addi v143 v145
  let c14_i32_131 : BitVec 32 := 14#32
  let v147 : BitVec 1 := Scalar.cmpi .eq v104 c14_i32_131
  let c5_i32_132 : BitVec 32 := 5#32
  let c0_i32_133 : BitVec 32 := 0#32
  let v148 : BitVec 32 := Scalar.select v147 c5_i32_132 c0_i32_133
  let v149 : BitVec 32 := Scalar.addi v146 v148
  let c15_i32_134 : BitVec 32 := 15#32
  let v150 : BitVec 1 := Scalar.cmpi .eq v104 c15_i32_134
  let c1_i32_135 : BitVec 32 := 1#32
  let c0_i32_136 : BitVec 32 := 0#32
  let v151 : BitVec 32 := Scalar.select v150 c1_i32_135 c0_i32_136
  let v152 : BitVec 32 := Scalar.addi v149 v151
  let c1_i32_1542 : BitVec 32 := 1#32
  let v2147 : BitVec 32 := Scalar.muli v152 c1_i32_1542
  let v2148 : BitVec 32 := Scalar.addi c0_i32_1543 v2147
  v2148.toNat
def k0_dev20 (d0 : Dev nD) : Nat :=
  let c0_i32_1555 : BitVec 32 := 0#32
  let c0_i32_39 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_34 : BitVec 32 := 1#32
  let v51 : BitVec 32 := Scalar.subi v50 c1_i32_34
  let c32_i32 : BitVec 32 := 32#32
  let v52 : BitVec 32 := Scalar.addi v51 c32_i32
  let c16_i32_35 : BitVec 32 := 16#32
  let v53 : BitVec 32 := Scalar.remsi v52 c16_i32_35
  let c0_i32_36 : BitVec 32 := 0#32
  let v54 : BitVec 1 := Scalar.cmpi .eq v53 c0_i32_36
  let c0_i32_37 : BitVec 32 := 0#32
  let c0_i32_38 : BitVec 32 := 0#32
  let v55 : BitVec 32 := Scalar.select v54 c0_i32_37 c0_i32_38
  let v56 : BitVec 32 := Scalar.addi c0_i32_39 v55
  let c1_i32_40 : BitVec 32 := 1#32
  let v57 : BitVec 1 := Scalar.cmpi .eq v53 c1_i32_40
  let c4_i32_41 : BitVec 32 := 4#32
  let c0_i32_42 : BitVec 32 := 0#32
  let v58 : BitVec 32 := Scalar.select v57 c4_i32_41 c0_i32_42
  let v59 : BitVec 32 := Scalar.addi v56 v58
  let c2_i32_43 : BitVec 32 := 2#32
  let v60 : BitVec 1 := Scalar.cmpi .eq v53 c2_i32_43
  let c8_i32_44 : BitVec 32 := 8#32
  let c0_i32_45 : BitVec 32 := 0#32
  let v61 : BitVec 32 := Scalar.select v60 c8_i32_44 c0_i32_45
  let v62 : BitVec 32 := Scalar.addi v59 v61
  let c3_i32_46 : BitVec 32 := 3#32
  let v63 : BitVec 1 := Scalar.cmpi .eq v53 c3_i32_46
  let c12_i32_47 : BitVec 32 := 12#32
  let c0_i32_48 : BitVec 32 := 0#32
  let v64 : BitVec 32 := Scalar.select v63 c12_i32_47 c0_i32_48
  let v65 : BitVec 32 := Scalar.addi v62 v64
  let c4_i32_49 : BitVec 32 := 4#32
  let v66 : BitVec 1 := Scalar.cmpi .eq v53 c4_i32_49
  let c15_i32_50 : BitVec 32 := 15#32
  let c0_i32_51 : BitVec 32 := 0#32
  let v67 : BitVec 32 := Scalar.select v66 c15_i32_50 c0_i32_51
  let v68 : BitVec 32 := Scalar.addi v65 v67
  let c5_i32_52 : BitVec 32 := 5#32
  let v69 : BitVec 1 := Scalar.cmpi .eq v53 c5_i32_52
  let c11_i32_53 : BitVec 32 := 11#32
  let c0_i32_54 : BitVec 32 := 0#32
  let v70 : BitVec 32 := Scalar.select v69 c11_i32_53 c0_i32_54
  let v71 : BitVec 32 := Scalar.addi v68 v70
  let c6_i32_55 : BitVec 32 := 6#32
  let v72 : BitVec 1 := Scalar.cmpi .eq v53 c6_i32_55
  let c7_i32_56 : BitVec 32 := 7#32
  let c0_i32_57 : BitVec 32 := 0#32
  let v73 : BitVec 32 := Scalar.select v72 c7_i32_56 c0_i32_57
  let v74 : BitVec 32 := Scalar.addi v71 v73
  let c7_i32_58 : BitVec 32 := 7#32
  let v75 : BitVec 1 := Scalar.cmpi .eq v53 c7_i32_58
  let c3_i32_59 : BitVec 32 := 3#32
  let c0_i32_60 : BitVec 32 := 0#32
  let v76 : BitVec 32 := Scalar.select v75 c3_i32_59 c0_i32_60
  let v77 : BitVec 32 := Scalar.addi v74 v76
  let c8_i32_61 : BitVec 32 := 8#32
  let v78 : BitVec 1 := Scalar.cmpi .eq v53 c8_i32_61
  let c2_i32_62 : BitVec 32 := 2#32
  let c0_i32_63 : BitVec 32 := 0#32
  let v79 : BitVec 32 := Scalar.select v78 c2_i32_62 c0_i32_63
  let v80 : BitVec 32 := Scalar.addi v77 v79
  let c9_i32_64 : BitVec 32 := 9#32
  let v81 : BitVec 1 := Scalar.cmpi .eq v53 c9_i32_64
  let c6_i32_65 : BitVec 32 := 6#32
  let c0_i32_66 : BitVec 32 := 0#32
  let v82 : BitVec 32 := Scalar.select v81 c6_i32_65 c0_i32_66
  let v83 : BitVec 32 := Scalar.addi v80 v82
  let c10_i32_67 : BitVec 32 := 10#32
  let v84 : BitVec 1 := Scalar.cmpi .eq v53 c10_i32_67
  let c10_i32_68 : BitVec 32 := 10#32
  let c0_i32_69 : BitVec 32 := 0#32
  let v85 : BitVec 32 := Scalar.select v84 c10_i32_68 c0_i32_69
  let v86 : BitVec 32 := Scalar.addi v83 v85
  let c11_i32_70 : BitVec 32 := 11#32
  let v87 : BitVec 1 := Scalar.cmpi .eq v53 c11_i32_70
  let c14_i32_71 : BitVec 32 := 14#32
  let c0_i32_72 : BitVec 32 := 0#32
  let v88 : BitVec 32 := Scalar.select v87 c14_i32_71 c0_i32_72
  let v89 : BitVec 32 := Scalar.addi v86 v88
  let c12_i32_73 : BitVec 32 := 12#32
  let v90 : BitVec 1 := Scalar.cmpi .eq v53 c12_i32_73
  let c13_i32_74 : BitVec 32 := 13#32
  let c0_i32_75 : BitVec 32 := 0#32
  let v91 : BitVec 32 := Scalar.select v90 c13_i32_74 c0_i32_75
  let v92 : BitVec 32 := Scalar.addi v89 v91
  let c13_i32_76 : BitVec 32 := 13#32
  let v93 : BitVec 1 := Scalar.cmpi .eq v53 c13_i32_76
  let c9_i32_77 : BitVec 32 := 9#32
  let c0_i32_78 : BitVec 32 := 0#32
  let v94 : BitVec 32 := Scalar.select v93 c9_i32_77 c0_i32_78
  let v95 : BitVec 32 := Scalar.addi v92 v94
  let c14_i32_79 : BitVec 32 := 14#32
  let v96 : BitVec 1 := Scalar.cmpi .eq v53 c14_i32_79
  let c5_i32_80 : BitVec 32 := 5#32
  let c0_i32_81 : BitVec 32 := 0#32
  let v97 : BitVec 32 := Scalar.select v96 c5_i32_80 c0_i32_81
  let v98 : BitVec 32 := Scalar.addi v95 v97
  let c15_i32_82 : BitVec 32 := 15#32
  let v99 : BitVec 1 := Scalar.cmpi .eq v53 c15_i32_82
  let c1_i32_83 : BitVec 32 := 1#32
  let c0_i32_84 : BitVec 32 := 0#32
  let v100 : BitVec 32 := Scalar.select v99 c1_i32_83 c0_i32_84
  let v101 : BitVec 32 := Scalar.addi v98 v100
  let c1_i32_1554 : BitVec 32 := 1#32
  let v2161 : BitVec 32 := Scalar.muli v101 c1_i32_1554
  let v2162 : BitVec 32 := Scalar.addi c0_i32_1555 v2161
  v2162.toNat
def k0_dev21 (d0 : Dev nD) : Nat :=
  let c0_i32_1563 : BitVec 32 := 0#32
  let c0_i32_91 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_85 : BitVec 32 := 1#32
  let v102 : BitVec 32 := Scalar.addi v50 c1_i32_85
  let c32_i32_86 : BitVec 32 := 32#32
  let v103 : BitVec 32 := Scalar.addi v102 c32_i32_86
  let c16_i32_87 : BitVec 32 := 16#32
  let v104 : BitVec 32 := Scalar.remsi v103 c16_i32_87
  let c0_i32_88 : BitVec 32 := 0#32
  let v105 : BitVec 1 := Scalar.cmpi .eq v104 c0_i32_88
  let c0_i32_89 : BitVec 32 := 0#32
  let c0_i32_90 : BitVec 32 := 0#32
  let v106 : BitVec 32 := Scalar.select v105 c0_i32_89 c0_i32_90
  let v107 : BitVec 32 := Scalar.addi c0_i32_91 v106
  let c1_i32_92 : BitVec 32 := 1#32
  let v108 : BitVec 1 := Scalar.cmpi .eq v104 c1_i32_92
  let c4_i32_93 : BitVec 32 := 4#32
  let c0_i32_94 : BitVec 32 := 0#32
  let v109 : BitVec 32 := Scalar.select v108 c4_i32_93 c0_i32_94
  let v110 : BitVec 32 := Scalar.addi v107 v109
  let c2_i32_95 : BitVec 32 := 2#32
  let v111 : BitVec 1 := Scalar.cmpi .eq v104 c2_i32_95
  let c8_i32_96 : BitVec 32 := 8#32
  let c0_i32_97 : BitVec 32 := 0#32
  let v112 : BitVec 32 := Scalar.select v111 c8_i32_96 c0_i32_97
  let v113 : BitVec 32 := Scalar.addi v110 v112
  let c3_i32_98 : BitVec 32 := 3#32
  let v114 : BitVec 1 := Scalar.cmpi .eq v104 c3_i32_98
  let c12_i32_99 : BitVec 32 := 12#32
  let c0_i32_100 : BitVec 32 := 0#32
  let v115 : BitVec 32 := Scalar.select v114 c12_i32_99 c0_i32_100
  let v116 : BitVec 32 := Scalar.addi v113 v115
  let c4_i32_101 : BitVec 32 := 4#32
  let v117 : BitVec 1 := Scalar.cmpi .eq v104 c4_i32_101
  let c15_i32_102 : BitVec 32 := 15#32
  let c0_i32_103 : BitVec 32 := 0#32
  let v118 : BitVec 32 := Scalar.select v117 c15_i32_102 c0_i32_103
  let v119 : BitVec 32 := Scalar.addi v116 v118
  let c5_i32_104 : BitVec 32 := 5#32
  let v120 : BitVec 1 := Scalar.cmpi .eq v104 c5_i32_104
  let c11_i32_105 : BitVec 32 := 11#32
  let c0_i32_106 : BitVec 32 := 0#32
  let v121 : BitVec 32 := Scalar.select v120 c11_i32_105 c0_i32_106
  let v122 : BitVec 32 := Scalar.addi v119 v121
  let c6_i32_107 : BitVec 32 := 6#32
  let v123 : BitVec 1 := Scalar.cmpi .eq v104 c6_i32_107
  let c7_i32_108 : BitVec 32 := 7#32
  let c0_i32_109 : BitVec 32 := 0#32
  let v124 : BitVec 32 := Scalar.select v123 c7_i32_108 c0_i32_109
  let v125 : BitVec 32 := Scalar.addi v122 v124
  let c7_i32_110 : BitVec 32 := 7#32
  let v126 : BitVec 1 := Scalar.cmpi .eq v104 c7_i32_110
  let c3_i32_111 : BitVec 32 := 3#32
  let c0_i32_112 : BitVec 32 := 0#32
  let v127 : BitVec 32 := Scalar.select v126 c3_i32_111 c0_i32_112
  let v128 : BitVec 32 := Scalar.addi v125 v127
  let c8_i32_113 : BitVec 32 := 8#32
  let v129 : BitVec 1 := Scalar.cmpi .eq v104 c8_i32_113
  let c2_i32_114 : BitVec 32 := 2#32
  let c0_i32_115 : BitVec 32 := 0#32
  let v130 : BitVec 32 := Scalar.select v129 c2_i32_114 c0_i32_115
  let v131 : BitVec 32 := Scalar.addi v128 v130
  let c9_i32_116 : BitVec 32 := 9#32
  let v132 : BitVec 1 := Scalar.cmpi .eq v104 c9_i32_116
  let c6_i32_117 : BitVec 32 := 6#32
  let c0_i32_118 : BitVec 32 := 0#32
  let v133 : BitVec 32 := Scalar.select v132 c6_i32_117 c0_i32_118
  let v134 : BitVec 32 := Scalar.addi v131 v133
  let c10_i32_119 : BitVec 32 := 10#32
  let v135 : BitVec 1 := Scalar.cmpi .eq v104 c10_i32_119
  let c10_i32_120 : BitVec 32 := 10#32
  let c0_i32_121 : BitVec 32 := 0#32
  let v136 : BitVec 32 := Scalar.select v135 c10_i32_120 c0_i32_121
  let v137 : BitVec 32 := Scalar.addi v134 v136
  let c11_i32_122 : BitVec 32 := 11#32
  let v138 : BitVec 1 := Scalar.cmpi .eq v104 c11_i32_122
  let c14_i32_123 : BitVec 32 := 14#32
  let c0_i32_124 : BitVec 32 := 0#32
  let v139 : BitVec 32 := Scalar.select v138 c14_i32_123 c0_i32_124
  let v140 : BitVec 32 := Scalar.addi v137 v139
  let c12_i32_125 : BitVec 32 := 12#32
  let v141 : BitVec 1 := Scalar.cmpi .eq v104 c12_i32_125
  let c13_i32_126 : BitVec 32 := 13#32
  let c0_i32_127 : BitVec 32 := 0#32
  let v142 : BitVec 32 := Scalar.select v141 c13_i32_126 c0_i32_127
  let v143 : BitVec 32 := Scalar.addi v140 v142
  let c13_i32_128 : BitVec 32 := 13#32
  let v144 : BitVec 1 := Scalar.cmpi .eq v104 c13_i32_128
  let c9_i32_129 : BitVec 32 := 9#32
  let c0_i32_130 : BitVec 32 := 0#32
  let v145 : BitVec 32 := Scalar.select v144 c9_i32_129 c0_i32_130
  let v146 : BitVec 32 := Scalar.addi v143 v145
  let c14_i32_131 : BitVec 32 := 14#32
  let v147 : BitVec 1 := Scalar.cmpi .eq v104 c14_i32_131
  let c5_i32_132 : BitVec 32 := 5#32
  let c0_i32_133 : BitVec 32 := 0#32
  let v148 : BitVec 32 := Scalar.select v147 c5_i32_132 c0_i32_133
  let v149 : BitVec 32 := Scalar.addi v146 v148
  let c15_i32_134 : BitVec 32 := 15#32
  let v150 : BitVec 1 := Scalar.cmpi .eq v104 c15_i32_134
  let c1_i32_135 : BitVec 32 := 1#32
  let c0_i32_136 : BitVec 32 := 0#32
  let v151 : BitVec 32 := Scalar.select v150 c1_i32_135 c0_i32_136
  let v152 : BitVec 32 := Scalar.addi v149 v151
  let c1_i32_1562 : BitVec 32 := 1#32
  let v2169 : BitVec 32 := Scalar.muli v152 c1_i32_1562
  let v2170 : BitVec 32 := Scalar.addi c0_i32_1563 v2169
  v2170.toNat
def k0_dev22 (d0 : Dev nD) : Nat :=
  let c0_i32_1573 : BitVec 32 := 0#32
  let c0_i32_39 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_34 : BitVec 32 := 1#32
  let v51 : BitVec 32 := Scalar.subi v50 c1_i32_34
  let c32_i32 : BitVec 32 := 32#32
  let v52 : BitVec 32 := Scalar.addi v51 c32_i32
  let c16_i32_35 : BitVec 32 := 16#32
  let v53 : BitVec 32 := Scalar.remsi v52 c16_i32_35
  let c0_i32_36 : BitVec 32 := 0#32
  let v54 : BitVec 1 := Scalar.cmpi .eq v53 c0_i32_36
  let c0_i32_37 : BitVec 32 := 0#32
  let c0_i32_38 : BitVec 32 := 0#32
  let v55 : BitVec 32 := Scalar.select v54 c0_i32_37 c0_i32_38
  let v56 : BitVec 32 := Scalar.addi c0_i32_39 v55
  let c1_i32_40 : BitVec 32 := 1#32
  let v57 : BitVec 1 := Scalar.cmpi .eq v53 c1_i32_40
  let c4_i32_41 : BitVec 32 := 4#32
  let c0_i32_42 : BitVec 32 := 0#32
  let v58 : BitVec 32 := Scalar.select v57 c4_i32_41 c0_i32_42
  let v59 : BitVec 32 := Scalar.addi v56 v58
  let c2_i32_43 : BitVec 32 := 2#32
  let v60 : BitVec 1 := Scalar.cmpi .eq v53 c2_i32_43
  let c8_i32_44 : BitVec 32 := 8#32
  let c0_i32_45 : BitVec 32 := 0#32
  let v61 : BitVec 32 := Scalar.select v60 c8_i32_44 c0_i32_45
  let v62 : BitVec 32 := Scalar.addi v59 v61
  let c3_i32_46 : BitVec 32 := 3#32
  let v63 : BitVec 1 := Scalar.cmpi .eq v53 c3_i32_46
  let c12_i32_47 : BitVec 32 := 12#32
  let c0_i32_48 : BitVec 32 := 0#32
  let v64 : BitVec 32 := Scalar.select v63 c12_i32_47 c0_i32_48
  let v65 : BitVec 32 := Scalar.addi v62 v64
  let c4_i32_49 : BitVec 32 := 4#32
  let v66 : BitVec 1 := Scalar.cmpi .eq v53 c4_i32_49
  let c15_i32_50 : BitVec 32 := 15#32
  let c0_i32_51 : BitVec 32 := 0#32
  let v67 : BitVec 32 := Scalar.select v66 c15_i32_50 c0_i32_51
  let v68 : BitVec 32 := Scalar.addi v65 v67
  let c5_i32_52 : BitVec 32 := 5#32
  let v69 : BitVec 1 := Scalar.cmpi .eq v53 c5_i32_52
  let c11_i32_53 : BitVec 32 := 11#32
  let c0_i32_54 : BitVec 32 := 0#32
  let v70 : BitVec 32 := Scalar.select v69 c11_i32_53 c0_i32_54
  let v71 : BitVec 32 := Scalar.addi v68 v70
  let c6_i32_55 : BitVec 32 := 6#32
  let v72 : BitVec 1 := Scalar.cmpi .eq v53 c6_i32_55
  let c7_i32_56 : BitVec 32 := 7#32
  let c0_i32_57 : BitVec 32 := 0#32
  let v73 : BitVec 32 := Scalar.select v72 c7_i32_56 c0_i32_57
  let v74 : BitVec 32 := Scalar.addi v71 v73
  let c7_i32_58 : BitVec 32 := 7#32
  let v75 : BitVec 1 := Scalar.cmpi .eq v53 c7_i32_58
  let c3_i32_59 : BitVec 32 := 3#32
  let c0_i32_60 : BitVec 32 := 0#32
  let v76 : BitVec 32 := Scalar.select v75 c3_i32_59 c0_i32_60
  let v77 : BitVec 32 := Scalar.addi v74 v76
  let c8_i32_61 : BitVec 32 := 8#32
  let v78 : BitVec 1 := Scalar.cmpi .eq v53 c8_i32_61
  let c2_i32_62 : BitVec 32 := 2#32
  let c0_i32_63 : BitVec 32 := 0#32
  let v79 : BitVec 32 := Scalar.select v78 c2_i32_62 c0_i32_63
  let v80 : BitVec 32 := Scalar.addi v77 v79
  let c9_i32_64 : BitVec 32 := 9#32
  let v81 : BitVec 1 := Scalar.cmpi .eq v53 c9_i32_64
  let c6_i32_65 : BitVec 32 := 6#32
  let c0_i32_66 : BitVec 32 := 0#32
  let v82 : BitVec 32 := Scalar.select v81 c6_i32_65 c0_i32_66
  let v83 : BitVec 32 := Scalar.addi v80 v82
  let c10_i32_67 : BitVec 32 := 10#32
  let v84 : BitVec 1 := Scalar.cmpi .eq v53 c10_i32_67
  let c10_i32_68 : BitVec 32 := 10#32
  let c0_i32_69 : BitVec 32 := 0#32
  let v85 : BitVec 32 := Scalar.select v84 c10_i32_68 c0_i32_69
  let v86 : BitVec 32 := Scalar.addi v83 v85
  let c11_i32_70 : BitVec 32 := 11#32
  let v87 : BitVec 1 := Scalar.cmpi .eq v53 c11_i32_70
  let c14_i32_71 : BitVec 32 := 14#32
  let c0_i32_72 : BitVec 32 := 0#32
  let v88 : BitVec 32 := Scalar.select v87 c14_i32_71 c0_i32_72
  let v89 : BitVec 32 := Scalar.addi v86 v88
  let c12_i32_73 : BitVec 32 := 12#32
  let v90 : BitVec 1 := Scalar.cmpi .eq v53 c12_i32_73
  let c13_i32_74 : BitVec 32 := 13#32
  let c0_i32_75 : BitVec 32 := 0#32
  let v91 : BitVec 32 := Scalar.select v90 c13_i32_74 c0_i32_75
  let v92 : BitVec 32 := Scalar.addi v89 v91
  let c13_i32_76 : BitVec 32 := 13#32
  let v93 : BitVec 1 := Scalar.cmpi .eq v53 c13_i32_76
  let c9_i32_77 : BitVec 32 := 9#32
  let c0_i32_78 : BitVec 32 := 0#32
  let v94 : BitVec 32 := Scalar.select v93 c9_i32_77 c0_i32_78
  let v95 : BitVec 32 := Scalar.addi v92 v94
  let c14_i32_79 : BitVec 32 := 14#32
  let v96 : BitVec 1 := Scalar.cmpi .eq v53 c14_i32_79
  let c5_i32_80 : BitVec 32 := 5#32
  let c0_i32_81 : BitVec 32 := 0#32
  let v97 : BitVec 32 := Scalar.select v96 c5_i32_80 c0_i32_81
  let v98 : BitVec 32 := Scalar.addi v95 v97
  let c15_i32_82 : BitVec 32 := 15#32
  let v99 : BitVec 1 := Scalar.cmpi .eq v53 c15_i32_82
  let c1_i32_83 : BitVec 32 := 1#32
  let c0_i32_84 : BitVec 32 := 0#32
  let v100 : BitVec 32 := Scalar.select v99 c1_i32_83 c0_i32_84
  let v101 : BitVec 32 := Scalar.addi v98 v100
  let c1_i32_1572 : BitVec 32 := 1#32
  let v2179 : BitVec 32 := Scalar.muli v101 c1_i32_1572
  let v2180 : BitVec 32 := Scalar.addi c0_i32_1573 v2179
  v2180.toNat
def k0_dev23 (d0 : Dev nD) : Nat :=
  let c0_i32_1801 : BitVec 32 := 0#32
  let c0_i32_91 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_85 : BitVec 32 := 1#32
  let v102 : BitVec 32 := Scalar.addi v50 c1_i32_85
  let c32_i32_86 : BitVec 32 := 32#32
  let v103 : BitVec 32 := Scalar.addi v102 c32_i32_86
  let c16_i32_87 : BitVec 32 := 16#32
  let v104 : BitVec 32 := Scalar.remsi v103 c16_i32_87
  let c0_i32_88 : BitVec 32 := 0#32
  let v105 : BitVec 1 := Scalar.cmpi .eq v104 c0_i32_88
  let c0_i32_89 : BitVec 32 := 0#32
  let c0_i32_90 : BitVec 32 := 0#32
  let v106 : BitVec 32 := Scalar.select v105 c0_i32_89 c0_i32_90
  let v107 : BitVec 32 := Scalar.addi c0_i32_91 v106
  let c1_i32_92 : BitVec 32 := 1#32
  let v108 : BitVec 1 := Scalar.cmpi .eq v104 c1_i32_92
  let c4_i32_93 : BitVec 32 := 4#32
  let c0_i32_94 : BitVec 32 := 0#32
  let v109 : BitVec 32 := Scalar.select v108 c4_i32_93 c0_i32_94
  let v110 : BitVec 32 := Scalar.addi v107 v109
  let c2_i32_95 : BitVec 32 := 2#32
  let v111 : BitVec 1 := Scalar.cmpi .eq v104 c2_i32_95
  let c8_i32_96 : BitVec 32 := 8#32
  let c0_i32_97 : BitVec 32 := 0#32
  let v112 : BitVec 32 := Scalar.select v111 c8_i32_96 c0_i32_97
  let v113 : BitVec 32 := Scalar.addi v110 v112
  let c3_i32_98 : BitVec 32 := 3#32
  let v114 : BitVec 1 := Scalar.cmpi .eq v104 c3_i32_98
  let c12_i32_99 : BitVec 32 := 12#32
  let c0_i32_100 : BitVec 32 := 0#32
  let v115 : BitVec 32 := Scalar.select v114 c12_i32_99 c0_i32_100
  let v116 : BitVec 32 := Scalar.addi v113 v115
  let c4_i32_101 : BitVec 32 := 4#32
  let v117 : BitVec 1 := Scalar.cmpi .eq v104 c4_i32_101
  let c15_i32_102 : BitVec 32 := 15#32
  let c0_i32_103 : BitVec 32 := 0#32
  let v118 : BitVec 32 := Scalar.select v117 c15_i32_102 c0_i32_103
  let v119 : BitVec 32 := Scalar.addi v116 v118
  let c5_i32_104 : BitVec 32 := 5#32
  let v120 : BitVec 1 := Scalar.cmpi .eq v104 c5_i32_104
  let c11_i32_105 : BitVec 32 := 11#32
  let c0_i32_106 : BitVec 32 := 0#32
  let v121 : BitVec 32 := Scalar.select v120 c11_i32_105 c0_i32_106
  let v122 : BitVec 32 := Scalar.addi v119 v121
  let c6_i32_107 : BitVec 32 := 6#32
  let v123 : BitVec 1 := Scalar.cmpi .eq v104 c6_i32_107
  let c7_i32_108 : BitVec 32 := 7#32
  let c0_i32_109 : BitVec 32 := 0#32
  let v124 : BitVec 32 := Scalar.select v123 c7_i32_108 c0_i32_109
  let v125 : BitVec 32 := Scalar.addi v122 v124
  let c7_i32_110 : BitVec 32 := 7#32
  let v126 : BitVec 1 := Scalar.cmpi .eq v104 c7_i32_110
  let c3_i32_111 : BitVec 32 := 3#32
  let c0_i32_112 : BitVec 32 := 0#32
  let v127 : BitVec 32 := Scalar.select v126 c3_i32_111 c0_i32_112
  let v128 : BitVec 32 := Scalar.addi v125 v127
  let c8_i32_113 : BitVec 32 := 8#32
  let v129 : BitVec 1 := Scalar.cmpi .eq v104 c8_i32_113
  let c2_i32_114 : BitVec 32 := 2#32
  let c0_i32_115 : BitVec 32 := 0#32
  let v130 : BitVec 32 := Scalar.select v129 c2_i32_114 c0_i32_115
  let v131 : BitVec 32 := Scalar.addi v128 v130
  let c9_i32_116 : BitVec 32 := 9#32
  let v132 : BitVec 1 := Scalar.cmpi .eq v104 c9_i32_116
  let c6_i32_117 : BitVec 32 := 6#32
  let c0_i32_118 : BitVec 32 := 0#32
  let v133 : BitVec 32 := Scalar.select v132 c6_i32_117 c0_i32_118
  let v134 : BitVec 32 := Scalar.addi v131 v133
  let c10_i32_119 : BitVec 32 := 10#32
  let v135 : BitVec 1 := Scalar.cmpi .eq v104 c10_i32_119
  let c10_i32_120 : BitVec 32 := 10#32
  let c0_i32_121 : BitVec 32 := 0#32
  let v136 : BitVec 32 := Scalar.select v135 c10_i32_120 c0_i32_121
  let v137 : BitVec 32 := Scalar.addi v134 v136
  let c11_i32_122 : BitVec 32 := 11#32
  let v138 : BitVec 1 := Scalar.cmpi .eq v104 c11_i32_122
  let c14_i32_123 : BitVec 32 := 14#32
  let c0_i32_124 : BitVec 32 := 0#32
  let v139 : BitVec 32 := Scalar.select v138 c14_i32_123 c0_i32_124
  let v140 : BitVec 32 := Scalar.addi v137 v139
  let c12_i32_125 : BitVec 32 := 12#32
  let v141 : BitVec 1 := Scalar.cmpi .eq v104 c12_i32_125
  let c13_i32_126 : BitVec 32 := 13#32
  let c0_i32_127 : BitVec 32 := 0#32
  let v142 : BitVec 32 := Scalar.select v141 c13_i32_126 c0_i32_127
  let v143 : BitVec 32 := Scalar.addi v140 v142
  let c13_i32_128 : BitVec 32 := 13#32
  let v144 : BitVec 1 := Scalar.cmpi .eq v104 c13_i32_128
  let c9_i32_129 : BitVec 32 := 9#32
  let c0_i32_130 : BitVec 32 := 0#32
  let v145 : BitVec 32 := Scalar.select v144 c9_i32_129 c0_i32_130
  let v146 : BitVec 32 := Scalar.addi v143 v145
  let c14_i32_131 : BitVec 32 := 14#32
  let v147 : BitVec 1 := Scalar.cmpi .eq v104 c14_i32_131
  let c5_i32_132 : BitVec 32 := 5#32
  let c0_i32_133 : BitVec 32 := 0#32
  let v148 : BitVec 32 := Scalar.select v147 c5_i32_132 c0_i32_133
  let v149 : BitVec 32 := Scalar.addi v146 v148
  let c15_i32_134 : BitVec 32 := 15#32
  let v150 : BitVec 1 := Scalar.cmpi .eq v104 c15_i32_134
  let c1_i32_135 : BitVec 32 := 1#32
  let c0_i32_136 : BitVec 32 := 0#32
  let v151 : BitVec 32 := Scalar.select v150 c1_i32_135 c0_i32_136
  let v152 : BitVec 32 := Scalar.addi v149 v151
  let c1_i32_1800 : BitVec 32 := 1#32
  let v2503 : BitVec 32 := Scalar.muli v152 c1_i32_1800
  let v2504 : BitVec 32 := Scalar.addi c0_i32_1801 v2503
  v2504.toNat
def k0_dev24 (d0 : Dev nD) : Nat :=
  let c0_i32_1813 : BitVec 32 := 0#32
  let c0_i32_39 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_34 : BitVec 32 := 1#32
  let v51 : BitVec 32 := Scalar.subi v50 c1_i32_34
  let c32_i32 : BitVec 32 := 32#32
  let v52 : BitVec 32 := Scalar.addi v51 c32_i32
  let c16_i32_35 : BitVec 32 := 16#32
  let v53 : BitVec 32 := Scalar.remsi v52 c16_i32_35
  let c0_i32_36 : BitVec 32 := 0#32
  let v54 : BitVec 1 := Scalar.cmpi .eq v53 c0_i32_36
  let c0_i32_37 : BitVec 32 := 0#32
  let c0_i32_38 : BitVec 32 := 0#32
  let v55 : BitVec 32 := Scalar.select v54 c0_i32_37 c0_i32_38
  let v56 : BitVec 32 := Scalar.addi c0_i32_39 v55
  let c1_i32_40 : BitVec 32 := 1#32
  let v57 : BitVec 1 := Scalar.cmpi .eq v53 c1_i32_40
  let c4_i32_41 : BitVec 32 := 4#32
  let c0_i32_42 : BitVec 32 := 0#32
  let v58 : BitVec 32 := Scalar.select v57 c4_i32_41 c0_i32_42
  let v59 : BitVec 32 := Scalar.addi v56 v58
  let c2_i32_43 : BitVec 32 := 2#32
  let v60 : BitVec 1 := Scalar.cmpi .eq v53 c2_i32_43
  let c8_i32_44 : BitVec 32 := 8#32
  let c0_i32_45 : BitVec 32 := 0#32
  let v61 : BitVec 32 := Scalar.select v60 c8_i32_44 c0_i32_45
  let v62 : BitVec 32 := Scalar.addi v59 v61
  let c3_i32_46 : BitVec 32 := 3#32
  let v63 : BitVec 1 := Scalar.cmpi .eq v53 c3_i32_46
  let c12_i32_47 : BitVec 32 := 12#32
  let c0_i32_48 : BitVec 32 := 0#32
  let v64 : BitVec 32 := Scalar.select v63 c12_i32_47 c0_i32_48
  let v65 : BitVec 32 := Scalar.addi v62 v64
  let c4_i32_49 : BitVec 32 := 4#32
  let v66 : BitVec 1 := Scalar.cmpi .eq v53 c4_i32_49
  let c15_i32_50 : BitVec 32 := 15#32
  let c0_i32_51 : BitVec 32 := 0#32
  let v67 : BitVec 32 := Scalar.select v66 c15_i32_50 c0_i32_51
  let v68 : BitVec 32 := Scalar.addi v65 v67
  let c5_i32_52 : BitVec 32 := 5#32
  let v69 : BitVec 1 := Scalar.cmpi .eq v53 c5_i32_52
  let c11_i32_53 : BitVec 32 := 11#32
  let c0_i32_54 : BitVec 32 := 0#32
  let v70 : BitVec 32 := Scalar.select v69 c11_i32_53 c0_i32_54
  let v71 : BitVec 32 := Scalar.addi v68 v70
  let c6_i32_55 : BitVec 32 := 6#32
  let v72 : BitVec 1 := Scalar.cmpi .eq v53 c6_i32_55
  let c7_i32_56 : BitVec 32 := 7#32
  let c0_i32_57 : BitVec 32 := 0#32
  let v73 : BitVec 32 := Scalar.select v72 c7_i32_56 c0_i32_57
  let v74 : BitVec 32 := Scalar.addi v71 v73
  let c7_i32_58 : BitVec 32 := 7#32
  let v75 : BitVec 1 := Scalar.cmpi .eq v53 c7_i32_58
  let c3_i32_59 : BitVec 32 := 3#32
  let c0_i32_60 : BitVec 32 := 0#32
  let v76 : BitVec 32 := Scalar.select v75 c3_i32_59 c0_i32_60
  let v77 : BitVec 32 := Scalar.addi v74 v76
  let c8_i32_61 : BitVec 32 := 8#32
  let v78 : BitVec 1 := Scalar.cmpi .eq v53 c8_i32_61
  let c2_i32_62 : BitVec 32 := 2#32
  let c0_i32_63 : BitVec 32 := 0#32
  let v79 : BitVec 32 := Scalar.select v78 c2_i32_62 c0_i32_63
  let v80 : BitVec 32 := Scalar.addi v77 v79
  let c9_i32_64 : BitVec 32 := 9#32
  let v81 : BitVec 1 := Scalar.cmpi .eq v53 c9_i32_64
  let c6_i32_65 : BitVec 32 := 6#32
  let c0_i32_66 : BitVec 32 := 0#32
  let v82 : BitVec 32 := Scalar.select v81 c6_i32_65 c0_i32_66
  let v83 : BitVec 32 := Scalar.addi v80 v82
  let c10_i32_67 : BitVec 32 := 10#32
  let v84 : BitVec 1 := Scalar.cmpi .eq v53 c10_i32_67
  let c10_i32_68 : BitVec 32 := 10#32
  let c0_i32_69 : BitVec 32 := 0#32
  let v85 : BitVec 32 := Scalar.select v84 c10_i32_68 c0_i32_69
  let v86 : BitVec 32 := Scalar.addi v83 v85
  let c11_i32_70 : BitVec 32 := 11#32
  let v87 : BitVec 1 := Scalar.cmpi .eq v53 c11_i32_70
  let c14_i32_71 : BitVec 32 := 14#32
  let c0_i32_72 : BitVec 32 := 0#32
  let v88 : BitVec 32 := Scalar.select v87 c14_i32_71 c0_i32_72
  let v89 : BitVec 32 := Scalar.addi v86 v88
  let c12_i32_73 : BitVec 32 := 12#32
  let v90 : BitVec 1 := Scalar.cmpi .eq v53 c12_i32_73
  let c13_i32_74 : BitVec 32 := 13#32
  let c0_i32_75 : BitVec 32 := 0#32
  let v91 : BitVec 32 := Scalar.select v90 c13_i32_74 c0_i32_75
  let v92 : BitVec 32 := Scalar.addi v89 v91
  let c13_i32_76 : BitVec 32 := 13#32
  let v93 : BitVec 1 := Scalar.cmpi .eq v53 c13_i32_76
  let c9_i32_77 : BitVec 32 := 9#32
  let c0_i32_78 : BitVec 32 := 0#32
  let v94 : BitVec 32 := Scalar.select v93 c9_i32_77 c0_i32_78
  let v95 : BitVec 32 := Scalar.addi v92 v94
  let c14_i32_79 : BitVec 32 := 14#32
  let v96 : BitVec 1 := Scalar.cmpi .eq v53 c14_i32_79
  let c5_i32_80 : BitVec 32 := 5#32
  let c0_i32_81 : BitVec 32 := 0#32
  let v97 : BitVec 32 := Scalar.select v96 c5_i32_80 c0_i32_81
  let v98 : BitVec 32 := Scalar.addi v95 v97
  let c15_i32_82 : BitVec 32 := 15#32
  let v99 : BitVec 1 := Scalar.cmpi .eq v53 c15_i32_82
  let c1_i32_83 : BitVec 32 := 1#32
  let c0_i32_84 : BitVec 32 := 0#32
  let v100 : BitVec 32 := Scalar.select v99 c1_i32_83 c0_i32_84
  let v101 : BitVec 32 := Scalar.addi v98 v100
  let c1_i32_1812 : BitVec 32 := 1#32
  let v2517 : BitVec 32 := Scalar.muli v101 c1_i32_1812
  let v2518 : BitVec 32 := Scalar.addi c0_i32_1813 v2517
  v2518.toNat
def k0_dev25 (d0 : Dev nD) : Nat :=
  let c0_i32_1821 : BitVec 32 := 0#32
  let c0_i32_91 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_85 : BitVec 32 := 1#32
  let v102 : BitVec 32 := Scalar.addi v50 c1_i32_85
  let c32_i32_86 : BitVec 32 := 32#32
  let v103 : BitVec 32 := Scalar.addi v102 c32_i32_86
  let c16_i32_87 : BitVec 32 := 16#32
  let v104 : BitVec 32 := Scalar.remsi v103 c16_i32_87
  let c0_i32_88 : BitVec 32 := 0#32
  let v105 : BitVec 1 := Scalar.cmpi .eq v104 c0_i32_88
  let c0_i32_89 : BitVec 32 := 0#32
  let c0_i32_90 : BitVec 32 := 0#32
  let v106 : BitVec 32 := Scalar.select v105 c0_i32_89 c0_i32_90
  let v107 : BitVec 32 := Scalar.addi c0_i32_91 v106
  let c1_i32_92 : BitVec 32 := 1#32
  let v108 : BitVec 1 := Scalar.cmpi .eq v104 c1_i32_92
  let c4_i32_93 : BitVec 32 := 4#32
  let c0_i32_94 : BitVec 32 := 0#32
  let v109 : BitVec 32 := Scalar.select v108 c4_i32_93 c0_i32_94
  let v110 : BitVec 32 := Scalar.addi v107 v109
  let c2_i32_95 : BitVec 32 := 2#32
  let v111 : BitVec 1 := Scalar.cmpi .eq v104 c2_i32_95
  let c8_i32_96 : BitVec 32 := 8#32
  let c0_i32_97 : BitVec 32 := 0#32
  let v112 : BitVec 32 := Scalar.select v111 c8_i32_96 c0_i32_97
  let v113 : BitVec 32 := Scalar.addi v110 v112
  let c3_i32_98 : BitVec 32 := 3#32
  let v114 : BitVec 1 := Scalar.cmpi .eq v104 c3_i32_98
  let c12_i32_99 : BitVec 32 := 12#32
  let c0_i32_100 : BitVec 32 := 0#32
  let v115 : BitVec 32 := Scalar.select v114 c12_i32_99 c0_i32_100
  let v116 : BitVec 32 := Scalar.addi v113 v115
  let c4_i32_101 : BitVec 32 := 4#32
  let v117 : BitVec 1 := Scalar.cmpi .eq v104 c4_i32_101
  let c15_i32_102 : BitVec 32 := 15#32
  let c0_i32_103 : BitVec 32 := 0#32
  let v118 : BitVec 32 := Scalar.select v117 c15_i32_102 c0_i32_103
  let v119 : BitVec 32 := Scalar.addi v116 v118
  let c5_i32_104 : BitVec 32 := 5#32
  let v120 : BitVec 1 := Scalar.cmpi .eq v104 c5_i32_104
  let c11_i32_105 : BitVec 32 := 11#32
  let c0_i32_106 : BitVec 32 := 0#32
  let v121 : BitVec 32 := Scalar.select v120 c11_i32_105 c0_i32_106
  let v122 : BitVec 32 := Scalar.addi v119 v121
  let c6_i32_107 : BitVec 32 := 6#32
  let v123 : BitVec 1 := Scalar.cmpi .eq v104 c6_i32_107
  let c7_i32_108 : BitVec 32 := 7#32
  let c0_i32_109 : BitVec 32 := 0#32
  let v124 : BitVec 32 := Scalar.select v123 c7_i32_108 c0_i32_109
  let v125 : BitVec 32 := Scalar.addi v122 v124
  let c7_i32_110 : BitVec 32 := 7#32
  let v126 : BitVec 1 := Scalar.cmpi .eq v104 c7_i32_110
  let c3_i32_111 : BitVec 32 := 3#32
  let c0_i32_112 : BitVec 32 := 0#32
  let v127 : BitVec 32 := Scalar.select v126 c3_i32_111 c0_i32_112
  let v128 : BitVec 32 := Scalar.addi v125 v127
  let c8_i32_113 : BitVec 32 := 8#32
  let v129 : BitVec 1 := Scalar.cmpi .eq v104 c8_i32_113
  let c2_i32_114 : BitVec 32 := 2#32
  let c0_i32_115 : BitVec 32 := 0#32
  let v130 : BitVec 32 := Scalar.select v129 c2_i32_114 c0_i32_115
  let v131 : BitVec 32 := Scalar.addi v128 v130
  let c9_i32_116 : BitVec 32 := 9#32
  let v132 : BitVec 1 := Scalar.cmpi .eq v104 c9_i32_116
  let c6_i32_117 : BitVec 32 := 6#32
  let c0_i32_118 : BitVec 32 := 0#32
  let v133 : BitVec 32 := Scalar.select v132 c6_i32_117 c0_i32_118
  let v134 : BitVec 32 := Scalar.addi v131 v133
  let c10_i32_119 : BitVec 32 := 10#32
  let v135 : BitVec 1 := Scalar.cmpi .eq v104 c10_i32_119
  let c10_i32_120 : BitVec 32 := 10#32
  let c0_i32_121 : BitVec 32 := 0#32
  let v136 : BitVec 32 := Scalar.select v135 c10_i32_120 c0_i32_121
  let v137 : BitVec 32 := Scalar.addi v134 v136
  let c11_i32_122 : BitVec 32 := 11#32
  let v138 : BitVec 1 := Scalar.cmpi .eq v104 c11_i32_122
  let c14_i32_123 : BitVec 32 := 14#32
  let c0_i32_124 : BitVec 32 := 0#32
  let v139 : BitVec 32 := Scalar.select v138 c14_i32_123 c0_i32_124
  let v140 : BitVec 32 := Scalar.addi v137 v139
  let c12_i32_125 : BitVec 32 := 12#32
  let v141 : BitVec 1 := Scalar.cmpi .eq v104 c12_i32_125
  let c13_i32_126 : BitVec 32 := 13#32
  let c0_i32_127 : BitVec 32 := 0#32
  let v142 : BitVec 32 := Scalar.select v141 c13_i32_126 c0_i32_127
  let v143 : BitVec 32 := Scalar.addi v140 v142
  let c13_i32_128 : BitVec 32 := 13#32
  let v144 : BitVec 1 := Scalar.cmpi .eq v104 c13_i32_128
  let c9_i32_129 : BitVec 32 := 9#32
  let c0_i32_130 : BitVec 32 := 0#32
  let v145 : BitVec 32 := Scalar.select v144 c9_i32_129 c0_i32_130
  let v146 : BitVec 32 := Scalar.addi v143 v145
  let c14_i32_131 : BitVec 32 := 14#32
  let v147 : BitVec 1 := Scalar.cmpi .eq v104 c14_i32_131
  let c5_i32_132 : BitVec 32 := 5#32
  let c0_i32_133 : BitVec 32 := 0#32
  let v148 : BitVec 32 := Scalar.select v147 c5_i32_132 c0_i32_133
  let v149 : BitVec 32 := Scalar.addi v146 v148
  let c15_i32_134 : BitVec 32 := 15#32
  let v150 : BitVec 1 := Scalar.cmpi .eq v104 c15_i32_134
  let c1_i32_135 : BitVec 32 := 1#32
  let c0_i32_136 : BitVec 32 := 0#32
  let v151 : BitVec 32 := Scalar.select v150 c1_i32_135 c0_i32_136
  let v152 : BitVec 32 := Scalar.addi v149 v151
  let c1_i32_1820 : BitVec 32 := 1#32
  let v2525 : BitVec 32 := Scalar.muli v152 c1_i32_1820
  let v2526 : BitVec 32 := Scalar.addi c0_i32_1821 v2525
  v2526.toNat
def k0_dev26 (d0 : Dev nD) : Nat :=
  let c0_i32_1831 : BitVec 32 := 0#32
  let c0_i32_39 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_34 : BitVec 32 := 1#32
  let v51 : BitVec 32 := Scalar.subi v50 c1_i32_34
  let c32_i32 : BitVec 32 := 32#32
  let v52 : BitVec 32 := Scalar.addi v51 c32_i32
  let c16_i32_35 : BitVec 32 := 16#32
  let v53 : BitVec 32 := Scalar.remsi v52 c16_i32_35
  let c0_i32_36 : BitVec 32 := 0#32
  let v54 : BitVec 1 := Scalar.cmpi .eq v53 c0_i32_36
  let c0_i32_37 : BitVec 32 := 0#32
  let c0_i32_38 : BitVec 32 := 0#32
  let v55 : BitVec 32 := Scalar.select v54 c0_i32_37 c0_i32_38
  let v56 : BitVec 32 := Scalar.addi c0_i32_39 v55
  let c1_i32_40 : BitVec 32 := 1#32
  let v57 : BitVec 1 := Scalar.cmpi .eq v53 c1_i32_40
  let c4_i32_41 : BitVec 32 := 4#32
  let c0_i32_42 : BitVec 32 := 0#32
  let v58 : BitVec 32 := Scalar.select v57 c4_i32_41 c0_i32_42
  let v59 : BitVec 32 := Scalar.addi v56 v58
  let c2_i32_43 : BitVec 32 := 2#32
  let v60 : BitVec 1 := Scalar.cmpi .eq v53 c2_i32_43
  let c8_i32_44 : BitVec 32 := 8#32
  let c0_i32_45 : BitVec 32 := 0#32
  let v61 : BitVec 32 := Scalar.select v60 c8_i32_44 c0_i32_45
  let v62 : BitVec 32 := Scalar.addi v59 v61
  let c3_i32_46 : BitVec 32 := 3#32
  let v63 : BitVec 1 := Scalar.cmpi .eq v53 c3_i32_46
  let c12_i32_47 : BitVec 32 := 12#32
  let c0_i32_48 : BitVec 32 := 0#32
  let v64 : BitVec 32 := Scalar.select v63 c12_i32_47 c0_i32_48
  let v65 : BitVec 32 := Scalar.addi v62 v64
  let c4_i32_49 : BitVec 32 := 4#32
  let v66 : BitVec 1 := Scalar.cmpi .eq v53 c4_i32_49
  let c15_i32_50 : BitVec 32 := 15#32
  let c0_i32_51 : BitVec 32 := 0#32
  let v67 : BitVec 32 := Scalar.select v66 c15_i32_50 c0_i32_51
  let v68 : BitVec 32 := Scalar.addi v65 v67
  let c5_i32_52 : BitVec 32 := 5#32
  let v69 : BitVec 1 := Scalar.cmpi .eq v53 c5_i32_52
  let c11_i32_53 : BitVec 32 := 11#32
  let c0_i32_54 : BitVec 32 := 0#32
  let v70 : BitVec 32 := Scalar.select v69 c11_i32_53 c0_i32_54
  let v71 : BitVec 32 := Scalar.addi v68 v70
  let c6_i32_55 : BitVec 32 := 6#32
  let v72 : BitVec 1 := Scalar.cmpi .eq v53 c6_i32_55
  let c7_i32_56 : BitVec 32 := 7#32
  let c0_i32_57 : BitVec 32 := 0#32
  let v73 : BitVec 32 := Scalar.select v72 c7_i32_56 c0_i32_57
  let v74 : BitVec 32 := Scalar.addi v71 v73
  let c7_i32_58 : BitVec 32 := 7#32
  let v75 : BitVec 1 := Scalar.cmpi .eq v53 c7_i32_58
  let c3_i32_59 : BitVec 32 := 3#32
  let c0_i32_60 : BitVec 32 := 0#32
  let v76 : BitVec 32 := Scalar.select v75 c3_i32_59 c0_i32_60
  let v77 : BitVec 32 := Scalar.addi v74 v76
  let c8_i32_61 : BitVec 32 := 8#32
  let v78 : BitVec 1 := Scalar.cmpi .eq v53 c8_i32_61
  let c2_i32_62 : BitVec 32 := 2#32
  let c0_i32_63 : BitVec 32 := 0#32
  let v79 : BitVec 32 := Scalar.select v78 c2_i32_62 c0_i32_63
  let v80 : BitVec 32 := Scalar.addi v77 v79
  let c9_i32_64 : BitVec 32 := 9#32
  let v81 : BitVec 1 := Scalar.cmpi .eq v53 c9_i32_64
  let c6_i32_65 : BitVec 32 := 6#32
  let c0_i32_66 : BitVec 32 := 0#32
  let v82 : BitVec 32 := Scalar.select v81 c6_i32_65 c0_i32_66
  let v83 : BitVec 32 := Scalar.addi v80 v82
  let c10_i32_67 : BitVec 32 := 10#32
  let v84 : BitVec 1 := Scalar.cmpi .eq v53 c10_i32_67
  let c10_i32_68 : BitVec 32 := 10#32
  let c0_i32_69 : BitVec 32 := 0#32
  let v85 : BitVec 32 := Scalar.select v84 c10_i32_68 c0_i32_69
  let v86 : BitVec 32 := Scalar.addi v83 v85
  let c11_i32_70 : BitVec 32 := 11#32
  let v87 : BitVec 1 := Scalar.cmpi .eq v53 c11_i32_70
  let c14_i32_71 : BitVec 32 := 14#32
  let c0_i32_72 : BitVec 32 := 0#32
  let v88 : BitVec 32 := Scalar.select v87 c14_i32_71 c0_i32_72
  let v89 : BitVec 32 := Scalar.addi v86 v88
  let c12_i32_73 : BitVec 32 := 12#32
  let v90 : BitVec 1 := Scalar.cmpi .eq v53 c12_i32_73
  let c13_i32_74 : BitVec 32 := 13#32
  let c0_i32_75 : BitVec 32 := 0#32
  let v91 : BitVec 32 := Scalar.select v90 c13_i32_74 c0_i32_75
  let v92 : BitVec 32 := Scalar.addi v89 v91
  let c13_i32_76 : BitVec 32 := 13#32
  let v93 : BitVec 1 := Scalar.cmpi .eq v53 c13_i32_76
  let c9_i32_77 : BitVec 32 := 9#32
  let c0_i32_78 : BitVec 32 := 0#32
  let v94 : BitVec 32 := Scalar.select v93 c9_i32_77 c0_i32_78
  let v95 : BitVec 32 := Scalar.addi v92 v94
  let c14_i32_79 : BitVec 32 := 14#32
  let v96 : BitVec 1 := Scalar.cmpi .eq v53 c14_i32_79
  let c5_i32_80 : BitVec 32 := 5#32
  let c0_i32_81 : BitVec 32 := 0#32
  let v97 : BitVec 32 := Scalar.select v96 c5_i32_80 c0_i32_81
  let v98 : BitVec 32 := Scalar.addi v95 v97
  let c15_i32_82 : BitVec 32 := 15#32
  let v99 : BitVec 1 := Scalar.cmpi .eq v53 c15_i32_82
  let c1_i32_83 : BitVec 32 := 1#32
  let c0_i32_84 : BitVec 32 := 0#32
  let v100 : BitVec 32 := Scalar.select v99 c1_i32_83 c0_i32_84
  let v101 : BitVec 32 := Scalar.addi v98 v100
  let c1_i32_1830 : BitVec 32 := 1#32
  let v2535 : BitVec 32 := Scalar.muli v101 c1_i32_1830
  let v2536 : BitVec 32 := Scalar.addi c0_i32_1831 v2535
  v2536.toNat
def k0_dev27 (d0 : Dev nD) : Nat :=
  let c0_i32_2059 : BitVec 32 := 0#32
  let c0_i32_91 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_85 : BitVec 32 := 1#32
  let v102 : BitVec 32 := Scalar.addi v50 c1_i32_85
  let c32_i32_86 : BitVec 32 := 32#32
  let v103 : BitVec 32 := Scalar.addi v102 c32_i32_86
  let c16_i32_87 : BitVec 32 := 16#32
  let v104 : BitVec 32 := Scalar.remsi v103 c16_i32_87
  let c0_i32_88 : BitVec 32 := 0#32
  let v105 : BitVec 1 := Scalar.cmpi .eq v104 c0_i32_88
  let c0_i32_89 : BitVec 32 := 0#32
  let c0_i32_90 : BitVec 32 := 0#32
  let v106 : BitVec 32 := Scalar.select v105 c0_i32_89 c0_i32_90
  let v107 : BitVec 32 := Scalar.addi c0_i32_91 v106
  let c1_i32_92 : BitVec 32 := 1#32
  let v108 : BitVec 1 := Scalar.cmpi .eq v104 c1_i32_92
  let c4_i32_93 : BitVec 32 := 4#32
  let c0_i32_94 : BitVec 32 := 0#32
  let v109 : BitVec 32 := Scalar.select v108 c4_i32_93 c0_i32_94
  let v110 : BitVec 32 := Scalar.addi v107 v109
  let c2_i32_95 : BitVec 32 := 2#32
  let v111 : BitVec 1 := Scalar.cmpi .eq v104 c2_i32_95
  let c8_i32_96 : BitVec 32 := 8#32
  let c0_i32_97 : BitVec 32 := 0#32
  let v112 : BitVec 32 := Scalar.select v111 c8_i32_96 c0_i32_97
  let v113 : BitVec 32 := Scalar.addi v110 v112
  let c3_i32_98 : BitVec 32 := 3#32
  let v114 : BitVec 1 := Scalar.cmpi .eq v104 c3_i32_98
  let c12_i32_99 : BitVec 32 := 12#32
  let c0_i32_100 : BitVec 32 := 0#32
  let v115 : BitVec 32 := Scalar.select v114 c12_i32_99 c0_i32_100
  let v116 : BitVec 32 := Scalar.addi v113 v115
  let c4_i32_101 : BitVec 32 := 4#32
  let v117 : BitVec 1 := Scalar.cmpi .eq v104 c4_i32_101
  let c15_i32_102 : BitVec 32 := 15#32
  let c0_i32_103 : BitVec 32 := 0#32
  let v118 : BitVec 32 := Scalar.select v117 c15_i32_102 c0_i32_103
  let v119 : BitVec 32 := Scalar.addi v116 v118
  let c5_i32_104 : BitVec 32 := 5#32
  let v120 : BitVec 1 := Scalar.cmpi .eq v104 c5_i32_104
  let c11_i32_105 : BitVec 32 := 11#32
  let c0_i32_106 : BitVec 32 := 0#32
  let v121 : BitVec 32 := Scalar.select v120 c11_i32_105 c0_i32_106
  let v122 : BitVec 32 := Scalar.addi v119 v121
  let c6_i32_107 : BitVec 32 := 6#32
  let v123 : BitVec 1 := Scalar.cmpi .eq v104 c6_i32_107
  let c7_i32_108 : BitVec 32 := 7#32
  let c0_i32_109 : BitVec 32 := 0#32
  let v124 : BitVec 32 := Scalar.select v123 c7_i32_108 c0_i32_109
  let v125 : BitVec 32 := Scalar.addi v122 v124
  let c7_i32_110 : BitVec 32 := 7#32
  let v126 : BitVec 1 := Scalar.cmpi .eq v104 c7_i32_110
  let c3_i32_111 : BitVec 32 := 3#32
  let c0_i32_112 : BitVec 32 := 0#32
  let v127 : BitVec 32 := Scalar.select v126 c3_i32_111 c0_i32_112
  let v128 : BitVec 32 := Scalar.addi v125 v127
  let c8_i32_113 : BitVec 32 := 8#32
  let v129 : BitVec 1 := Scalar.cmpi .eq v104 c8_i32_113
  let c2_i32_114 : BitVec 32 := 2#32
  let c0_i32_115 : BitVec 32 := 0#32
  let v130 : BitVec 32 := Scalar.select v129 c2_i32_114 c0_i32_115
  let v131 : BitVec 32 := Scalar.addi v128 v130
  let c9_i32_116 : BitVec 32 := 9#32
  let v132 : BitVec 1 := Scalar.cmpi .eq v104 c9_i32_116
  let c6_i32_117 : BitVec 32 := 6#32
  let c0_i32_118 : BitVec 32 := 0#32
  let v133 : BitVec 32 := Scalar.select v132 c6_i32_117 c0_i32_118
  let v134 : BitVec 32 := Scalar.addi v131 v133
  let c10_i32_119 : BitVec 32 := 10#32
  let v135 : BitVec 1 := Scalar.cmpi .eq v104 c10_i32_119
  let c10_i32_120 : BitVec 32 := 10#32
  let c0_i32_121 : BitVec 32 := 0#32
  let v136 : BitVec 32 := Scalar.select v135 c10_i32_120 c0_i32_121
  let v137 : BitVec 32 := Scalar.addi v134 v136
  let c11_i32_122 : BitVec 32 := 11#32
  let v138 : BitVec 1 := Scalar.cmpi .eq v104 c11_i32_122
  let c14_i32_123 : BitVec 32 := 14#32
  let c0_i32_124 : BitVec 32 := 0#32
  let v139 : BitVec 32 := Scalar.select v138 c14_i32_123 c0_i32_124
  let v140 : BitVec 32 := Scalar.addi v137 v139
  let c12_i32_125 : BitVec 32 := 12#32
  let v141 : BitVec 1 := Scalar.cmpi .eq v104 c12_i32_125
  let c13_i32_126 : BitVec 32 := 13#32
  let c0_i32_127 : BitVec 32 := 0#32
  let v142 : BitVec 32 := Scalar.select v141 c13_i32_126 c0_i32_127
  let v143 : BitVec 32 := Scalar.addi v140 v142
  let c13_i32_128 : BitVec 32 := 13#32
  let v144 : BitVec 1 := Scalar.cmpi .eq v104 c13_i32_128
  let c9_i32_129 : BitVec 32 := 9#32
  let c0_i32_130 : BitVec 32 := 0#32
  let v145 : BitVec 32 := Scalar.select v144 c9_i32_129 c0_i32_130
  let v146 : BitVec 32 := Scalar.addi v143 v145
  let c14_i32_131 : BitVec 32 := 14#32
  let v147 : BitVec 1 := Scalar.cmpi .eq v104 c14_i32_131
  let c5_i32_132 : BitVec 32 := 5#32
  let c0_i32_133 : BitVec 32 := 0#32
  let v148 : BitVec 32 := Scalar.select v147 c5_i32_132 c0_i32_133
  let v149 : BitVec 32 := Scalar.addi v146 v148
  let c15_i32_134 : BitVec 32 := 15#32
  let v150 : BitVec 1 := Scalar.cmpi .eq v104 c15_i32_134
  let c1_i32_135 : BitVec 32 := 1#32
  let c0_i32_136 : BitVec 32 := 0#32
  let v151 : BitVec 32 := Scalar.select v150 c1_i32_135 c0_i32_136
  let v152 : BitVec 32 := Scalar.addi v149 v151
  let c1_i32_2058 : BitVec 32 := 1#32
  let v2859 : BitVec 32 := Scalar.muli v152 c1_i32_2058
  let v2860 : BitVec 32 := Scalar.addi c0_i32_2059 v2859
  v2860.toNat
def k0_dev28 (d0 : Dev nD) : Nat :=
  let c0_i32_2071 : BitVec 32 := 0#32
  let c0_i32_39 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_34 : BitVec 32 := 1#32
  let v51 : BitVec 32 := Scalar.subi v50 c1_i32_34
  let c32_i32 : BitVec 32 := 32#32
  let v52 : BitVec 32 := Scalar.addi v51 c32_i32
  let c16_i32_35 : BitVec 32 := 16#32
  let v53 : BitVec 32 := Scalar.remsi v52 c16_i32_35
  let c0_i32_36 : BitVec 32 := 0#32
  let v54 : BitVec 1 := Scalar.cmpi .eq v53 c0_i32_36
  let c0_i32_37 : BitVec 32 := 0#32
  let c0_i32_38 : BitVec 32 := 0#32
  let v55 : BitVec 32 := Scalar.select v54 c0_i32_37 c0_i32_38
  let v56 : BitVec 32 := Scalar.addi c0_i32_39 v55
  let c1_i32_40 : BitVec 32 := 1#32
  let v57 : BitVec 1 := Scalar.cmpi .eq v53 c1_i32_40
  let c4_i32_41 : BitVec 32 := 4#32
  let c0_i32_42 : BitVec 32 := 0#32
  let v58 : BitVec 32 := Scalar.select v57 c4_i32_41 c0_i32_42
  let v59 : BitVec 32 := Scalar.addi v56 v58
  let c2_i32_43 : BitVec 32 := 2#32
  let v60 : BitVec 1 := Scalar.cmpi .eq v53 c2_i32_43
  let c8_i32_44 : BitVec 32 := 8#32
  let c0_i32_45 : BitVec 32 := 0#32
  let v61 : BitVec 32 := Scalar.select v60 c8_i32_44 c0_i32_45
  let v62 : BitVec 32 := Scalar.addi v59 v61
  let c3_i32_46 : BitVec 32 := 3#32
  let v63 : BitVec 1 := Scalar.cmpi .eq v53 c3_i32_46
  let c12_i32_47 : BitVec 32 := 12#32
  let c0_i32_48 : BitVec 32 := 0#32
  let v64 : BitVec 32 := Scalar.select v63 c12_i32_47 c0_i32_48
  let v65 : BitVec 32 := Scalar.addi v62 v64
  let c4_i32_49 : BitVec 32 := 4#32
  let v66 : BitVec 1 := Scalar.cmpi .eq v53 c4_i32_49
  let c15_i32_50 : BitVec 32 := 15#32
  let c0_i32_51 : BitVec 32 := 0#32
  let v67 : BitVec 32 := Scalar.select v66 c15_i32_50 c0_i32_51
  let v68 : BitVec 32 := Scalar.addi v65 v67
  let c5_i32_52 : BitVec 32 := 5#32
  let v69 : BitVec 1 := Scalar.cmpi .eq v53 c5_i32_52
  let c11_i32_53 : BitVec 32 := 11#32
  let c0_i32_54 : BitVec 32 := 0#32
  let v70 : BitVec 32 := Scalar.select v69 c11_i32_53 c0_i32_54
  let v71 : BitVec 32 := Scalar.addi v68 v70
  let c6_i32_55 : BitVec 32 := 6#32
  let v72 : BitVec 1 := Scalar.cmpi .eq v53 c6_i32_55
  let c7_i32_56 : BitVec 32 := 7#32
  let c0_i32_57 : BitVec 32 := 0#32
  let v73 : BitVec 32 := Scalar.select v72 c7_i32_56 c0_i32_57
  let v74 : BitVec 32 := Scalar.addi v71 v73
  let c7_i32_58 : BitVec 32 := 7#32
  let v75 : BitVec 1 := Scalar.cmpi .eq v53 c7_i32_58
  let c3_i32_59 : BitVec 32 := 3#32
  let c0_i32_60 : BitVec 32 := 0#32
  let v76 : BitVec 32 := Scalar.select v75 c3_i32_59 c0_i32_60
  let v77 : BitVec 32 := Scalar.addi v74 v76
  let c8_i32_61 : BitVec 32 := 8#32
  let v78 : BitVec 1 := Scalar.cmpi .eq v53 c8_i32_61
  let c2_i32_62 : BitVec 32 := 2#32
  let c0_i32_63 : BitVec 32 := 0#32
  let v79 : BitVec 32 := Scalar.select v78 c2_i32_62 c0_i32_63
  let v80 : BitVec 32 := Scalar.addi v77 v79
  let c9_i32_64 : BitVec 32 := 9#32
  let v81 : BitVec 1 := Scalar.cmpi .eq v53 c9_i32_64
  let c6_i32_65 : BitVec 32 := 6#32
  let c0_i32_66 : BitVec 32 := 0#32
  let v82 : BitVec 32 := Scalar.select v81 c6_i32_65 c0_i32_66
  let v83 : BitVec 32 := Scalar.addi v80 v82
  let c10_i32_67 : BitVec 32 := 10#32
  let v84 : BitVec 1 := Scalar.cmpi .eq v53 c10_i32_67
  let c10_i32_68 : BitVec 32 := 10#32
  let c0_i32_69 : BitVec 32 := 0#32
  let v85 : BitVec 32 := Scalar.select v84 c10_i32_68 c0_i32_69
  let v86 : BitVec 32 := Scalar.addi v83 v85
  let c11_i32_70 : BitVec 32 := 11#32
  let v87 : BitVec 1 := Scalar.cmpi .eq v53 c11_i32_70
  let c14_i32_71 : BitVec 32 := 14#32
  let c0_i32_72 : BitVec 32 := 0#32
  let v88 : BitVec 32 := Scalar.select v87 c14_i32_71 c0_i32_72
  let v89 : BitVec 32 := Scalar.addi v86 v88
  let c12_i32_73 : BitVec 32 := 12#32
  let v90 : BitVec 1 := Scalar.cmpi .eq v53 c12_i32_73
  let c13_i32_74 : BitVec 32 := 13#32
  let c0_i32_75 : BitVec 32 := 0#32
  let v91 : BitVec 32 := Scalar.select v90 c13_i32_74 c0_i32_75
  let v92 : BitVec 32 := Scalar.addi v89 v91
  let c13_i32_76 : BitVec 32 := 13#32
  let v93 : BitVec 1 := Scalar.cmpi .eq v53 c13_i32_76
  let c9_i32_77 : BitVec 32 := 9#32
  let c0_i32_78 : BitVec 32 := 0#32
  let v94 : BitVec 32 := Scalar.select v93 c9_i32_77 c0_i32_78
  let v95 : BitVec 32 := Scalar.addi v92 v94
  let c14_i32_79 : BitVec 32 := 14#32
  let v96 : BitVec 1 := Scalar.cmpi .eq v53 c14_i32_79
  let c5_i32_80 : BitVec 32 := 5#32
  let c0_i32_81 : BitVec 32 := 0#32
  let v97 : BitVec 32 := Scalar.select v96 c5_i32_80 c0_i32_81
  let v98 : BitVec 32 := Scalar.addi v95 v97
  let c15_i32_82 : BitVec 32 := 15#32
  let v99 : BitVec 1 := Scalar.cmpi .eq v53 c15_i32_82
  let c1_i32_83 : BitVec 32 := 1#32
  let c0_i32_84 : BitVec 32 := 0#32
  let v100 : BitVec 32 := Scalar.select v99 c1_i32_83 c0_i32_84
  let v101 : BitVec 32 := Scalar.addi v98 v100
  let c1_i32_2070 : BitVec 32 := 1#32
  let v2873 : BitVec 32 := Scalar.muli v101 c1_i32_2070
  let v2874 : BitVec 32 := Scalar.addi c0_i32_2071 v2873
  v2874.toNat
def k0_dev29 (d0 : Dev nD) : Nat :=
  let c0_i32_2079 : BitVec 32 := 0#32
  let c0_i32_91 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_85 : BitVec 32 := 1#32
  let v102 : BitVec 32 := Scalar.addi v50 c1_i32_85
  let c32_i32_86 : BitVec 32 := 32#32
  let v103 : BitVec 32 := Scalar.addi v102 c32_i32_86
  let c16_i32_87 : BitVec 32 := 16#32
  let v104 : BitVec 32 := Scalar.remsi v103 c16_i32_87
  let c0_i32_88 : BitVec 32 := 0#32
  let v105 : BitVec 1 := Scalar.cmpi .eq v104 c0_i32_88
  let c0_i32_89 : BitVec 32 := 0#32
  let c0_i32_90 : BitVec 32 := 0#32
  let v106 : BitVec 32 := Scalar.select v105 c0_i32_89 c0_i32_90
  let v107 : BitVec 32 := Scalar.addi c0_i32_91 v106
  let c1_i32_92 : BitVec 32 := 1#32
  let v108 : BitVec 1 := Scalar.cmpi .eq v104 c1_i32_92
  let c4_i32_93 : BitVec 32 := 4#32
  let c0_i32_94 : BitVec 32 := 0#32
  let v109 : BitVec 32 := Scalar.select v108 c4_i32_93 c0_i32_94
  let v110 : BitVec 32 := Scalar.addi v107 v109
  let c2_i32_95 : BitVec 32 := 2#32
  let v111 : BitVec 1 := Scalar.cmpi .eq v104 c2_i32_95
  let c8_i32_96 : BitVec 32 := 8#32
  let c0_i32_97 : BitVec 32 := 0#32
  let v112 : BitVec 32 := Scalar.select v111 c8_i32_96 c0_i32_97
  let v113 : BitVec 32 := Scalar.addi v110 v112
  let c3_i32_98 : BitVec 32 := 3#32
  let v114 : BitVec 1 := Scalar.cmpi .eq v104 c3_i32_98
  let c12_i32_99 : BitVec 32 := 12#32
  let c0_i32_100 : BitVec 32 := 0#32
  let v115 : BitVec 32 := Scalar.select v114 c12_i32_99 c0_i32_100
  let v116 : BitVec 32 := Scalar.addi v113 v115
  let c4_i32_101 : BitVec 32 := 4#32
  let v117 : BitVec 1 := Scalar.cmpi .eq v104 c4_i32_101
  let c15_i32_102 : BitVec 32 := 15#32
  let c0_i32_103 : BitVec 32 := 0#32
  let v118 : BitVec 32 := Scalar.select v117 c15_i32_102 c0_i32_103
  let v119 : BitVec 32 := Scalar.addi v116 v118
  let c5_i32_104 : BitVec 32 := 5#32
  let v120 : BitVec 1 := Scalar.cmpi .eq v104 c5_i32_104
  let c11_i32_105 : BitVec 32 := 11#32
  let c0_i32_106 : BitVec 32 := 0#32
  let v121 : BitVec 32 := Scalar.select v120 c11_i32_105 c0_i32_106
  let v122 : BitVec 32 := Scalar.addi v119 v121
  let c6_i32_107 : BitVec 32 := 6#32
  let v123 : BitVec 1 := Scalar.cmpi .eq v104 c6_i32_107
  let c7_i32_108 : BitVec 32 := 7#32
  let c0_i32_109 : BitVec 32 := 0#32
  let v124 : BitVec 32 := Scalar.select v123 c7_i32_108 c0_i32_109
  let v125 : BitVec 32 := Scalar.addi v122 v124
  let c7_i32_110 : BitVec 32 := 7#32
  let v126 : BitVec 1 := Scalar.cmpi .eq v104 c7_i32_110
  let c3_i32_111 : BitVec 32 := 3#32
  let c0_i32_112 : BitVec 32 := 0#32
  let v127 : BitVec 32 := Scalar.select v126 c3_i32_111 c0_i32_112
  let v128 : BitVec 32 := Scalar.addi v125 v127
  let c8_i32_113 : BitVec 32 := 8#32
  let v129 : BitVec 1 := Scalar.cmpi .eq v104 c8_i32_113
  let c2_i32_114 : BitVec 32 := 2#32
  let c0_i32_115 : BitVec 32 := 0#32
  let v130 : BitVec 32 := Scalar.select v129 c2_i32_114 c0_i32_115
  let v131 : BitVec 32 := Scalar.addi v128 v130
  let c9_i32_116 : BitVec 32 := 9#32
  let v132 : BitVec 1 := Scalar.cmpi .eq v104 c9_i32_116
  let c6_i32_117 : BitVec 32 := 6#32
  let c0_i32_118 : BitVec 32 := 0#32
  let v133 : BitVec 32 := Scalar.select v132 c6_i32_117 c0_i32_118
  let v134 : BitVec 32 := Scalar.addi v131 v133
  let c10_i32_119 : BitVec 32 := 10#32
  let v135 : BitVec 1 := Scalar.cmpi .eq v104 c10_i32_119
  let c10_i32_120 : BitVec 32 := 10#32
  let c0_i32_121 : BitVec 32 := 0#32
  let v136 : BitVec 32 := Scalar.select v135 c10_i32_120 c0_i32_121
  let v137 : BitVec 32 := Scalar.addi v134 v136
  let c11_i32_122 : BitVec 32 := 11#32
  let v138 : BitVec 1 := Scalar.cmpi .eq v104 c11_i32_122
  let c14_i32_123 : BitVec 32 := 14#32
  let c0_i32_124 : BitVec 32 := 0#32
  let v139 : BitVec 32 := Scalar.select v138 c14_i32_123 c0_i32_124
  let v140 : BitVec 32 := Scalar.addi v137 v139
  let c12_i32_125 : BitVec 32 := 12#32
  let v141 : BitVec 1 := Scalar.cmpi .eq v104 c12_i32_125
  let c13_i32_126 : BitVec 32 := 13#32
  let c0_i32_127 : BitVec 32 := 0#32
  let v142 : BitVec 32 := Scalar.select v141 c13_i32_126 c0_i32_127
  let v143 : BitVec 32 := Scalar.addi v140 v142
  let c13_i32_128 : BitVec 32 := 13#32
  let v144 : BitVec 1 := Scalar.cmpi .eq v104 c13_i32_128
  let c9_i32_129 : BitVec 32 := 9#32
  let c0_i32_130 : BitVec 32 := 0#32
  let v145 : BitVec 32 := Scalar.select v144 c9_i32_129 c0_i32_130
  let v146 : BitVec 32 := Scalar.addi v143 v145
  let c14_i32_131 : BitVec 32 := 14#32
  let v147 : BitVec 1 := Scalar.cmpi .eq v104 c14_i32_131
  let c5_i32_132 : BitVec 32 := 5#32
  let c0_i32_133 : BitVec 32 := 0#32
  let v148 : BitVec 32 := Scalar.select v147 c5_i32_132 c0_i32_133
  let v149 : BitVec 32 := Scalar.addi v146 v148
  let c15_i32_134 : BitVec 32 := 15#32
  let v150 : BitVec 1 := Scalar.cmpi .eq v104 c15_i32_134
  let c1_i32_135 : BitVec 32 := 1#32
  let c0_i32_136 : BitVec 32 := 0#32
  let v151 : BitVec 32 := Scalar.select v150 c1_i32_135 c0_i32_136
  let v152 : BitVec 32 := Scalar.addi v149 v151
  let c1_i32_2078 : BitVec 32 := 1#32
  let v2881 : BitVec 32 := Scalar.muli v152 c1_i32_2078
  let v2882 : BitVec 32 := Scalar.addi c0_i32_2079 v2881
  v2882.toNat
def k0_dev30 (d0 : Dev nD) : Nat :=
  let c0_i32_2089 : BitVec 32 := 0#32
  let c0_i32_39 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_34 : BitVec 32 := 1#32
  let v51 : BitVec 32 := Scalar.subi v50 c1_i32_34
  let c32_i32 : BitVec 32 := 32#32
  let v52 : BitVec 32 := Scalar.addi v51 c32_i32
  let c16_i32_35 : BitVec 32 := 16#32
  let v53 : BitVec 32 := Scalar.remsi v52 c16_i32_35
  let c0_i32_36 : BitVec 32 := 0#32
  let v54 : BitVec 1 := Scalar.cmpi .eq v53 c0_i32_36
  let c0_i32_37 : BitVec 32 := 0#32
  let c0_i32_38 : BitVec 32 := 0#32
  let v55 : BitVec 32 := Scalar.select v54 c0_i32_37 c0_i32_38
  let v56 : BitVec 32 := Scalar.addi c0_i32_39 v55
  let c1_i32_40 : BitVec 32 := 1#32
  let v57 : BitVec 1 := Scalar.cmpi .eq v53 c1_i32_40
  let c4_i32_41 : BitVec 32 := 4#32
  let c0_i32_42 : BitVec 32 := 0#32
  let v58 : BitVec 32 := Scalar.select v57 c4_i32_41 c0_i32_42
  let v59 : BitVec 32 := Scalar.addi v56 v58
  let c2_i32_43 : BitVec 32 := 2#32
  let v60 : BitVec 1 := Scalar.cmpi .eq v53 c2_i32_43
  let c8_i32_44 : BitVec 32 := 8#32
  let c0_i32_45 : BitVec 32 := 0#32
  let v61 : BitVec 32 := Scalar.select v60 c8_i32_44 c0_i32_45
  let v62 : BitVec 32 := Scalar.addi v59 v61
  let c3_i32_46 : BitVec 32 := 3#32
  let v63 : BitVec 1 := Scalar.cmpi .eq v53 c3_i32_46
  let c12_i32_47 : BitVec 32 := 12#32
  let c0_i32_48 : BitVec 32 := 0#32
  let v64 : BitVec 32 := Scalar.select v63 c12_i32_47 c0_i32_48
  let v65 : BitVec 32 := Scalar.addi v62 v64
  let c4_i32_49 : BitVec 32 := 4#32
  let v66 : BitVec 1 := Scalar.cmpi .eq v53 c4_i32_49
  let c15_i32_50 : BitVec 32 := 15#32
  let c0_i32_51 : BitVec 32 := 0#32
  let v67 : BitVec 32 := Scalar.select v66 c15_i32_50 c0_i32_51
  let v68 : BitVec 32 := Scalar.addi v65 v67
  let c5_i32_52 : BitVec 32 := 5#32
  let v69 : BitVec 1 := Scalar.cmpi .eq v53 c5_i32_52
  let c11_i32_53 : BitVec 32 := 11#32
  let c0_i32_54 : BitVec 32 := 0#32
  let v70 : BitVec 32 := Scalar.select v69 c11_i32_53 c0_i32_54
  let v71 : BitVec 32 := Scalar.addi v68 v70
  let c6_i32_55 : BitVec 32 := 6#32
  let v72 : BitVec 1 := Scalar.cmpi .eq v53 c6_i32_55
  let c7_i32_56 : BitVec 32 := 7#32
  let c0_i32_57 : BitVec 32 := 0#32
  let v73 : BitVec 32 := Scalar.select v72 c7_i32_56 c0_i32_57
  let v74 : BitVec 32 := Scalar.addi v71 v73
  let c7_i32_58 : BitVec 32 := 7#32
  let v75 : BitVec 1 := Scalar.cmpi .eq v53 c7_i32_58
  let c3_i32_59 : BitVec 32 := 3#32
  let c0_i32_60 : BitVec 32 := 0#32
  let v76 : BitVec 32 := Scalar.select v75 c3_i32_59 c0_i32_60
  let v77 : BitVec 32 := Scalar.addi v74 v76
  let c8_i32_61 : BitVec 32 := 8#32
  let v78 : BitVec 1 := Scalar.cmpi .eq v53 c8_i32_61
  let c2_i32_62 : BitVec 32 := 2#32
  let c0_i32_63 : BitVec 32 := 0#32
  let v79 : BitVec 32 := Scalar.select v78 c2_i32_62 c0_i32_63
  let v80 : BitVec 32 := Scalar.addi v77 v79
  let c9_i32_64 : BitVec 32 := 9#32
  let v81 : BitVec 1 := Scalar.cmpi .eq v53 c9_i32_64
  let c6_i32_65 : BitVec 32 := 6#32
  let c0_i32_66 : BitVec 32 := 0#32
  let v82 : BitVec 32 := Scalar.select v81 c6_i32_65 c0_i32_66
  let v83 : BitVec 32 := Scalar.addi v80 v82
  let c10_i32_67 : BitVec 32 := 10#32
  let v84 : BitVec 1 := Scalar.cmpi .eq v53 c10_i32_67
  let c10_i32_68 : BitVec 32 := 10#32
  let c0_i32_69 : BitVec 32 := 0#32
  let v85 : BitVec 32 := Scalar.select v84 c10_i32_68 c0_i32_69
  let v86 : BitVec 32 := Scalar.addi v83 v85
  let c11_i32_70 : BitVec 32 := 11#32
  let v87 : BitVec 1 := Scalar.cmpi .eq v53 c11_i32_70
  let c14_i32_71 : BitVec 32 := 14#32
  let c0_i32_72 : BitVec 32 := 0#32
  let v88 : BitVec 32 := Scalar.select v87 c14_i32_71 c0_i32_72
  let v89 : BitVec 32 := Scalar.addi v86 v88
  let c12_i32_73 : BitVec 32 := 12#32
  let v90 : BitVec 1 := Scalar.cmpi .eq v53 c12_i32_73
  let c13_i32_74 : BitVec 32 := 13#32
  let c0_i32_75 : BitVec 32 := 0#32
  let v91 : BitVec 32 := Scalar.select v90 c13_i32_74 c0_i32_75
  let v92 : BitVec 32 := Scalar.addi v89 v91
  let c13_i32_76 : BitVec 32 := 13#32
  let v93 : BitVec 1 := Scalar.cmpi .eq v53 c13_i32_76
  let c9_i32_77 : BitVec 32 := 9#32
  let c0_i32_78 : BitVec 32 := 0#32
  let v94 : BitVec 32 := Scalar.select v93 c9_i32_77 c0_i32_78
  let v95 : BitVec 32 := Scalar.addi v92 v94
  let c14_i32_79 : BitVec 32 := 14#32
  let v96 : BitVec 1 := Scalar.cmpi .eq v53 c14_i32_79
  let c5_i32_80 : BitVec 32 := 5#32
  let c0_i32_81 : BitVec 32 := 0#32
  let v97 : BitVec 32 := Scalar.select v96 c5_i32_80 c0_i32_81
  let v98 : BitVec 32 := Scalar.addi v95 v97
  let c15_i32_82 : BitVec 32 := 15#32
  let v99 : BitVec 1 := Scalar.cmpi .eq v53 c15_i32_82
  let c1_i32_83 : BitVec 32 := 1#32
  let c0_i32_84 : BitVec 32 := 0#32
  let v100 : BitVec 32 := Scalar.select v99 c1_i32_83 c0_i32_84
  let v101 : BitVec 32 := Scalar.addi v98 v100
  let c1_i32_2088 : BitVec 32 := 1#32
  let v2891 : BitVec 32 := Scalar.muli v101 c1_i32_2088
  let v2892 : BitVec 32 := Scalar.addi c0_i32_2089 v2891
  v2892.toNat
def k0_dev31 (d0 : Dev nD) : Nat :=
  let c0_i32_2317 : BitVec 32 := 0#32
  let c0_i32_91 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_85 : BitVec 32 := 1#32
  let v102 : BitVec 32 := Scalar.addi v50 c1_i32_85
  let c32_i32_86 : BitVec 32 := 32#32
  let v103 : BitVec 32 := Scalar.addi v102 c32_i32_86
  let c16_i32_87 : BitVec 32 := 16#32
  let v104 : BitVec 32 := Scalar.remsi v103 c16_i32_87
  let c0_i32_88 : BitVec 32 := 0#32
  let v105 : BitVec 1 := Scalar.cmpi .eq v104 c0_i32_88
  let c0_i32_89 : BitVec 32 := 0#32
  let c0_i32_90 : BitVec 32 := 0#32
  let v106 : BitVec 32 := Scalar.select v105 c0_i32_89 c0_i32_90
  let v107 : BitVec 32 := Scalar.addi c0_i32_91 v106
  let c1_i32_92 : BitVec 32 := 1#32
  let v108 : BitVec 1 := Scalar.cmpi .eq v104 c1_i32_92
  let c4_i32_93 : BitVec 32 := 4#32
  let c0_i32_94 : BitVec 32 := 0#32
  let v109 : BitVec 32 := Scalar.select v108 c4_i32_93 c0_i32_94
  let v110 : BitVec 32 := Scalar.addi v107 v109
  let c2_i32_95 : BitVec 32 := 2#32
  let v111 : BitVec 1 := Scalar.cmpi .eq v104 c2_i32_95
  let c8_i32_96 : BitVec 32 := 8#32
  let c0_i32_97 : BitVec 32 := 0#32
  let v112 : BitVec 32 := Scalar.select v111 c8_i32_96 c0_i32_97
  let v113 : BitVec 32 := Scalar.addi v110 v112
  let c3_i32_98 : BitVec 32 := 3#32
  let v114 : BitVec 1 := Scalar.cmpi .eq v104 c3_i32_98
  let c12_i32_99 : BitVec 32 := 12#32
  let c0_i32_100 : BitVec 32 := 0#32
  let v115 : BitVec 32 := Scalar.select v114 c12_i32_99 c0_i32_100
  let v116 : BitVec 32 := Scalar.addi v113 v115
  let c4_i32_101 : BitVec 32 := 4#32
  let v117 : BitVec 1 := Scalar.cmpi .eq v104 c4_i32_101
  let c15_i32_102 : BitVec 32 := 15#32
  let c0_i32_103 : BitVec 32 := 0#32
  let v118 : BitVec 32 := Scalar.select v117 c15_i32_102 c0_i32_103
  let v119 : BitVec 32 := Scalar.addi v116 v118
  let c5_i32_104 : BitVec 32 := 5#32
  let v120 : BitVec 1 := Scalar.cmpi .eq v104 c5_i32_104
  let c11_i32_105 : BitVec 32 := 11#32
  let c0_i32_106 : BitVec 32 := 0#32
  let v121 : BitVec 32 := Scalar.select v120 c11_i32_105 c0_i32_106
  let v122 : BitVec 32 := Scalar.addi v119 v121
  let c6_i32_107 : BitVec 32 := 6#32
  let v123 : BitVec 1 := Scalar.cmpi .eq v104 c6_i32_107
  let c7_i32_108 : BitVec 32 := 7#32
  let c0_i32_109 : BitVec 32 := 0#32
  let v124 : BitVec 32 := Scalar.select v123 c7_i32_108 c0_i32_109
  let v125 : BitVec 32 := Scalar.addi v122 v124
  let c7_i32_110 : BitVec 32 := 7#32
  let v126 : BitVec 1 := Scalar.cmpi .eq v104 c7_i32_110
  let c3_i32_111 : BitVec 32 := 3#32
  let c0_i32_112 : BitVec 32 := 0#32
  let v127 : BitVec 32 := Scalar.select v126 c3_i32_111 c0_i32_112
  let v128 : BitVec 32 := Scalar.addi v125 v127
  let c8_i32_113 : BitVec 32 := 8#32
  let v129 : BitVec 1 := Scalar.cmpi .eq v104 c8_i32_113
  let c2_i32_114 : BitVec 32 := 2#32
  let c0_i32_115 : BitVec 32 := 0#32
  let v130 : BitVec 32 := Scalar.select v129 c2_i32_114 c0_i32_115
  let v131 : BitVec 32 := Scalar.addi v128 v130
  let c9_i32_116 : BitVec 32 := 9#32
  let v132 : BitVec 1 := Scalar.cmpi .eq v104 c9_i32_116
  let c6_i32_117 : BitVec 32 := 6#32
  let c0_i32_118 : BitVec 32 := 0#32
  let v133 : BitVec 32 := Scalar.select v132 c6_i32_117 c0_i32_118
  let v134 : BitVec 32 := Scalar.addi v131 v133
  let c10_i32_119 : BitVec 32 := 10#32
  let v135 : BitVec 1 := Scalar.cmpi .eq v104 c10_i32_119
  let c10_i32_120 : BitVec 32 := 10#32
  let c0_i32_121 : BitVec 32 := 0#32
  let v136 : BitVec 32 := Scalar.select v135 c10_i32_120 c0_i32_121
  let v137 : BitVec 32 := Scalar.addi v134 v136
  let c11_i32_122 : BitVec 32 := 11#32
  let v138 : BitVec 1 := Scalar.cmpi .eq v104 c11_i32_122
  let c14_i32_123 : BitVec 32 := 14#32
  let c0_i32_124 : BitVec 32 := 0#32
  let v139 : BitVec 32 := Scalar.select v138 c14_i32_123 c0_i32_124
  let v140 : BitVec 32 := Scalar.addi v137 v139
  let c12_i32_125 : BitVec 32 := 12#32
  let v141 : BitVec 1 := Scalar.cmpi .eq v104 c12_i32_125
  let c13_i32_126 : BitVec 32 := 13#32
  let c0_i32_127 : BitVec 32 := 0#32
  let v142 : BitVec 32 := Scalar.select v141 c13_i32_126 c0_i32_127
  let v143 : BitVec 32 := Scalar.addi v140 v142
  let c13_i32_128 : BitVec 32 := 13#32
  let v144 : BitVec 1 := Scalar.cmpi .eq v104 c13_i32_128
  let c9_i32_129 : BitVec 32 := 9#32
  let c0_i32_130 : BitVec 32 := 0#32
  let v145 : BitVec 32 := Scalar.select v144 c9_i32_129 c0_i32_130
  let v146 : BitVec 32 := Scalar.addi v143 v145
  let c14_i32_131 : BitVec 32 := 14#32
  let v147 : BitVec 1 := Scalar.cmpi .eq v104 c14_i32_131
  let c5_i32_132 : BitVec 32 := 5#32
  let c0_i32_133 : BitVec 32 := 0#32
  let v148 : BitVec 32 := Scalar.select v147 c5_i32_132 c0_i32_133
  let v149 : BitVec 32 := Scalar.addi v146 v148
  let c15_i32_134 : BitVec 32 := 15#32
  let v150 : BitVec 1 := Scalar.cmpi .eq v104 c15_i32_134
  let c1_i32_135 : BitVec 32 := 1#32
  let c0_i32_136 : BitVec 32 := 0#32
  let v151 : BitVec 32 := Scalar.select v150 c1_i32_135 c0_i32_136
  let v152 : BitVec 32 := Scalar.addi v149 v151
  let c1_i32_2316 : BitVec 32 := 1#32
  let v3215 : BitVec 32 := Scalar.muli v152 c1_i32_2316
  let v3216 : BitVec 32 := Scalar.addi c0_i32_2317 v3215
  v3216.toNat
def k0_dev32 (d0 : Dev nD) : Nat :=
  let c0_i32_2329 : BitVec 32 := 0#32
  let c0_i32_39 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_34 : BitVec 32 := 1#32
  let v51 : BitVec 32 := Scalar.subi v50 c1_i32_34
  let c32_i32 : BitVec 32 := 32#32
  let v52 : BitVec 32 := Scalar.addi v51 c32_i32
  let c16_i32_35 : BitVec 32 := 16#32
  let v53 : BitVec 32 := Scalar.remsi v52 c16_i32_35
  let c0_i32_36 : BitVec 32 := 0#32
  let v54 : BitVec 1 := Scalar.cmpi .eq v53 c0_i32_36
  let c0_i32_37 : BitVec 32 := 0#32
  let c0_i32_38 : BitVec 32 := 0#32
  let v55 : BitVec 32 := Scalar.select v54 c0_i32_37 c0_i32_38
  let v56 : BitVec 32 := Scalar.addi c0_i32_39 v55
  let c1_i32_40 : BitVec 32 := 1#32
  let v57 : BitVec 1 := Scalar.cmpi .eq v53 c1_i32_40
  let c4_i32_41 : BitVec 32 := 4#32
  let c0_i32_42 : BitVec 32 := 0#32
  let v58 : BitVec 32 := Scalar.select v57 c4_i32_41 c0_i32_42
  let v59 : BitVec 32 := Scalar.addi v56 v58
  let c2_i32_43 : BitVec 32 := 2#32
  let v60 : BitVec 1 := Scalar.cmpi .eq v53 c2_i32_43
  let c8_i32_44 : BitVec 32 := 8#32
  let c0_i32_45 : BitVec 32 := 0#32
  let v61 : BitVec 32 := Scalar.select v60 c8_i32_44 c0_i32_45
  let v62 : BitVec 32 := Scalar.addi v59 v61
  let c3_i32_46 : BitVec 32 := 3#32
  let v63 : BitVec 1 := Scalar.cmpi .eq v53 c3_i32_46
  let c12_i32_47 : BitVec 32 := 12#32
  let c0_i32_48 : BitVec 32 := 0#32
  let v64 : BitVec 32 := Scalar.select v63 c12_i32_47 c0_i32_48
  let v65 : BitVec 32 := Scalar.addi v62 v64
  let c4_i32_49 : BitVec 32 := 4#32
  let v66 : BitVec 1 := Scalar.cmpi .eq v53 c4_i32_49
  let c15_i32_50 : BitVec 32 := 15#32
  let c0_i32_51 : BitVec 32 := 0#32
  let v67 : BitVec 32 := Scalar.select v66 c15_i32_50 c0_i32_51
  let v68 : BitVec 32 := Scalar.addi v65 v67
  let c5_i32_52 : BitVec 32 := 5#32
  let v69 : BitVec 1 := Scalar.cmpi .eq v53 c5_i32_52
  let c11_i32_53 : BitVec 32 := 11#32
  let c0_i32_54 : BitVec 32 := 0#32
  let v70 : BitVec 32 := Scalar.select v69 c11_i32_53 c0_i32_54
  let v71 : BitVec 32 := Scalar.addi v68 v70
  let c6_i32_55 : BitVec 32 := 6#32
  let v72 : BitVec 1 := Scalar.cmpi .eq v53 c6_i32_55
  let c7_i32_56 : BitVec 32 := 7#32
  let c0_i32_57 : BitVec 32 := 0#32
  let v73 : BitVec 32 := Scalar.select v72 c7_i32_56 c0_i32_57
  let v74 : BitVec 32 := Scalar.addi v71 v73
  let c7_i32_58 : BitVec 32 := 7#32
  let v75 : BitVec 1 := Scalar.cmpi .eq v53 c7_i32_58
  let c3_i32_59 : BitVec 32 := 3#32
  let c0_i32_60 : BitVec 32 := 0#32
  let v76 : BitVec 32 := Scalar.select v75 c3_i32_59 c0_i32_60
  let v77 : BitVec 32 := Scalar.addi v74 v76
  let c8_i32_61 : BitVec 32 := 8#32
  let v78 : BitVec 1 := Scalar.cmpi .eq v53 c8_i32_61
  let c2_i32_62 : BitVec 32 := 2#32
  let c0_i32_63 : BitVec 32 := 0#32
  let v79 : BitVec 32 := Scalar.select v78 c2_i32_62 c0_i32_63
  let v80 : BitVec 32 := Scalar.addi v77 v79
  let c9_i32_64 : BitVec 32 := 9#32
  let v81 : BitVec 1 := Scalar.cmpi .eq v53 c9_i32_64
  let c6_i32_65 : BitVec 32 := 6#32
  let c0_i32_66 : BitVec 32 := 0#32
  let v82 : BitVec 32 := Scalar.select v81 c6_i32_65 c0_i32_66
  let v83 : BitVec 32 := Scalar.addi v80 v82
  let c10_i32_67 : BitVec 32 := 10#32
  let v84 : BitVec 1 := Scalar.cmpi .eq v53 c10_i32_67
  let c10_i32_68 : BitVec 32 := 10#32
  let c0_i32_69 : BitVec 32 := 0#32
  let v85 : BitVec 32 := Scalar.select v84 c10_i32_68 c0_i32_69
  let v86 : BitVec 32 := Scalar.addi v83 v85
  let c11_i32_70 : BitVec 32 := 11#32
  let v87 : BitVec 1 := Scalar.cmpi .eq v53 c11_i32_70
  let c14_i32_71 : BitVec 32 := 14#32
  let c0_i32_72 : BitVec 32 := 0#32
  let v88 : BitVec 32 := Scalar.select v87 c14_i32_71 c0_i32_72
  let v89 : BitVec 32 := Scalar.addi v86 v88
  let c12_i32_73 : BitVec 32 := 12#32
  let v90 : BitVec 1 := Scalar.cmpi .eq v53 c12_i32_73
  let c13_i32_74 : BitVec 32 := 13#32
  let c0_i32_75 : BitVec 32 := 0#32
  let v91 : BitVec 32 := Scalar.select v90 c13_i32_74 c0_i32_75
  let v92 : BitVec 32 := Scalar.addi v89 v91
  let c13_i32_76 : BitVec 32 := 13#32
  let v93 : BitVec 1 := Scalar.cmpi .eq v53 c13_i32_76
  let c9_i32_77 : BitVec 32 := 9#32
  let c0_i32_78 : BitVec 32 := 0#32
  let v94 : BitVec 32 := Scalar.select v93 c9_i32_77 c0_i32_78
  let v95 : BitVec 32 := Scalar.addi v92 v94
  let c14_i32_79 : BitVec 32 := 14#32
  let v96 : BitVec 1 := Scalar.cmpi .eq v53 c14_i32_79
  let c5_i32_80 : BitVec 32 := 5#32
  let c0_i32_81 : BitVec 32 := 0#32
  let v97 : BitVec 32 := Scalar.select v96 c5_i32_80 c0_i32_81
  let v98 : BitVec 32 := Scalar.addi v95 v97
  let c15_i32_82 : BitVec 32 := 15#32
  let v99 : BitVec 1 := Scalar.cmpi .eq v53 c15_i32_82
  let c1_i32_83 : BitVec 32 := 1#32
  let c0_i32_84 : BitVec 32 := 0#32
  let v100 : BitVec 32 := Scalar.select v99 c1_i32_83 c0_i32_84
  let v101 : BitVec 32 := Scalar.addi v98 v100
  let c1_i32_2328 : BitVec 32 := 1#32
  let v3229 : BitVec 32 := Scalar.muli v101 c1_i32_2328
  let v3230 : BitVec 32 := Scalar.addi c0_i32_2329 v3229
  v3230.toNat
def k0_dev33 (d0 : Dev nD) : Nat :=
  let c0_i32_2337 : BitVec 32 := 0#32
  let c0_i32_91 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_85 : BitVec 32 := 1#32
  let v102 : BitVec 32 := Scalar.addi v50 c1_i32_85
  let c32_i32_86 : BitVec 32 := 32#32
  let v103 : BitVec 32 := Scalar.addi v102 c32_i32_86
  let c16_i32_87 : BitVec 32 := 16#32
  let v104 : BitVec 32 := Scalar.remsi v103 c16_i32_87
  let c0_i32_88 : BitVec 32 := 0#32
  let v105 : BitVec 1 := Scalar.cmpi .eq v104 c0_i32_88
  let c0_i32_89 : BitVec 32 := 0#32
  let c0_i32_90 : BitVec 32 := 0#32
  let v106 : BitVec 32 := Scalar.select v105 c0_i32_89 c0_i32_90
  let v107 : BitVec 32 := Scalar.addi c0_i32_91 v106
  let c1_i32_92 : BitVec 32 := 1#32
  let v108 : BitVec 1 := Scalar.cmpi .eq v104 c1_i32_92
  let c4_i32_93 : BitVec 32 := 4#32
  let c0_i32_94 : BitVec 32 := 0#32
  let v109 : BitVec 32 := Scalar.select v108 c4_i32_93 c0_i32_94
  let v110 : BitVec 32 := Scalar.addi v107 v109
  let c2_i32_95 : BitVec 32 := 2#32
  let v111 : BitVec 1 := Scalar.cmpi .eq v104 c2_i32_95
  let c8_i32_96 : BitVec 32 := 8#32
  let c0_i32_97 : BitVec 32 := 0#32
  let v112 : BitVec 32 := Scalar.select v111 c8_i32_96 c0_i32_97
  let v113 : BitVec 32 := Scalar.addi v110 v112
  let c3_i32_98 : BitVec 32 := 3#32
  let v114 : BitVec 1 := Scalar.cmpi .eq v104 c3_i32_98
  let c12_i32_99 : BitVec 32 := 12#32
  let c0_i32_100 : BitVec 32 := 0#32
  let v115 : BitVec 32 := Scalar.select v114 c12_i32_99 c0_i32_100
  let v116 : BitVec 32 := Scalar.addi v113 v115
  let c4_i32_101 : BitVec 32 := 4#32
  let v117 : BitVec 1 := Scalar.cmpi .eq v104 c4_i32_101
  let c15_i32_102 : BitVec 32 := 15#32
  let c0_i32_103 : BitVec 32 := 0#32
  let v118 : BitVec 32 := Scalar.select v117 c15_i32_102 c0_i32_103
  let v119 : BitVec 32 := Scalar.addi v116 v118
  let c5_i32_104 : BitVec 32 := 5#32
  let v120 : BitVec 1 := Scalar.cmpi .eq v104 c5_i32_104
  let c11_i32_105 : BitVec 32 := 11#32
  let c0_i32_106 : BitVec 32 := 0#32
  let v121 : BitVec 32 := Scalar.select v120 c11_i32_105 c0_i32_106
  let v122 : BitVec 32 := Scalar.addi v119 v121
  let c6_i32_107 : BitVec 32 := 6#32
  let v123 : BitVec 1 := Scalar.cmpi .eq v104 c6_i32_107
  let c7_i32_108 : BitVec 32 := 7#32
  let c0_i32_109 : BitVec 32 := 0#32
  let v124 : BitVec 32 := Scalar.select v123 c7_i32_108 c0_i32_109
  let v125 : BitVec 32 := Scalar.addi v122 v124
  let c7_i32_110 : BitVec 32 := 7#32
  let v126 : BitVec 1 := Scalar.cmpi .eq v104 c7_i32_110
  let c3_i32_111 : BitVec 32 := 3#32
  let c0_i32_112 : BitVec 32 := 0#32
  let v127 : BitVec 32 := Scalar.select v126 c3_i32_111 c0_i32_112
  let v128 : BitVec 32 := Scalar.addi v125 v127
  let c8_i32_113 : BitVec 32 := 8#32
  let v129 : BitVec 1 := Scalar.cmpi .eq v104 c8_i32_113
  let c2_i32_114 : BitVec 32 := 2#32
  let c0_i32_115 : BitVec 32 := 0#32
  let v130 : BitVec 32 := Scalar.select v129 c2_i32_114 c0_i32_115
  let v131 : BitVec 32 := Scalar.addi v128 v130
  let c9_i32_116 : BitVec 32 := 9#32
  let v132 : BitVec 1 := Scalar.cmpi .eq v104 c9_i32_116
  let c6_i32_117 : BitVec 32 := 6#32
  let c0_i32_118 : BitVec 32 := 0#32
  let v133 : BitVec 32 := Scalar.select v132 c6_i32_117 c0_i32_118
  let v134 : BitVec 32 := Scalar.addi v131 v133
  let c10_i32_119 : BitVec 32 := 10#32
  let v135 : BitVec 1 := Scalar.cmpi .eq v104 c10_i32_119
  let c10_i32_120 : BitVec 32 := 10#32
  let c0_i32_121 : BitVec 32 := 0#32
  let v136 : BitVec 32 := Scalar.select v135 c10_i32_120 c0_i32_121
  let v137 : BitVec 32 := Scalar.addi v134 v136
  let c11_i32_122 : BitVec 32 := 11#32
  let v138 : BitVec 1 := Scalar.cmpi .eq v104 c11_i32_122
  let c14_i32_123 : BitVec 32 := 14#32
  let c0_i32_124 : BitVec 32 := 0#32
  let v139 : BitVec 32 := Scalar.select v138 c14_i32_123 c0_i32_124
  let v140 : BitVec 32 := Scalar.addi v137 v139
  let c12_i32_125 : BitVec 32 := 12#32
  let v141 : BitVec 1 := Scalar.cmpi .eq v104 c12_i32_125
  let c13_i32_126 : BitVec 32 := 13#32
  let c0_i32_127 : BitVec 32 := 0#32
  let v142 : BitVec 32 := Scalar.select v141 c13_i32_126 c0_i32_127
  let v143 : BitVec 32 := Scalar.addi v140 v142
  let c13_i32_128 : BitVec 32 := 13#32
  let v144 : BitVec 1 := Scalar.cmpi .eq v104 c13_i32_128
  let c9_i32_129 : BitVec 32 := 9#32
  let c0_i32_130 : BitVec 32 := 0#32
  let v145 : BitVec 32 := Scalar.select v144 c9_i32_129 c0_i32_130
  let v146 : BitVec 32 := Scalar.addi v143 v145
  let c14_i32_131 : BitVec 32 := 14#32
  let v147 : BitVec 1 := Scalar.cmpi .eq v104 c14_i32_131
  let c5_i32_132 : BitVec 32 := 5#32
  let c0_i32_133 : BitVec 32 := 0#32
  let v148 : BitVec 32 := Scalar.select v147 c5_i32_132 c0_i32_133
  let v149 : BitVec 32 := Scalar.addi v146 v148
  let c15_i32_134 : BitVec 32 := 15#32
  let v150 : BitVec 1 := Scalar.cmpi .eq v104 c15_i32_134
  let c1_i32_135 : BitVec 32 := 1#32
  let c0_i32_136 : BitVec 32 := 0#32
  let v151 : BitVec 32 := Scalar.select v150 c1_i32_135 c0_i32_136
  let v152 : BitVec 32 := Scalar.addi v149 v151
  let c1_i32_2336 : BitVec 32 := 1#32
  let v3237 : BitVec 32 := Scalar.muli v152 c1_i32_2336
  let v3238 : BitVec 32 := Scalar.addi c0_i32_2337 v3237
  v3238.toNat
def k0_dev34 (d0 : Dev nD) : Nat :=
  let c0_i32_2347 : BitVec 32 := 0#32
  let c0_i32_39 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_34 : BitVec 32 := 1#32
  let v51 : BitVec 32 := Scalar.subi v50 c1_i32_34
  let c32_i32 : BitVec 32 := 32#32
  let v52 : BitVec 32 := Scalar.addi v51 c32_i32
  let c16_i32_35 : BitVec 32 := 16#32
  let v53 : BitVec 32 := Scalar.remsi v52 c16_i32_35
  let c0_i32_36 : BitVec 32 := 0#32
  let v54 : BitVec 1 := Scalar.cmpi .eq v53 c0_i32_36
  let c0_i32_37 : BitVec 32 := 0#32
  let c0_i32_38 : BitVec 32 := 0#32
  let v55 : BitVec 32 := Scalar.select v54 c0_i32_37 c0_i32_38
  let v56 : BitVec 32 := Scalar.addi c0_i32_39 v55
  let c1_i32_40 : BitVec 32 := 1#32
  let v57 : BitVec 1 := Scalar.cmpi .eq v53 c1_i32_40
  let c4_i32_41 : BitVec 32 := 4#32
  let c0_i32_42 : BitVec 32 := 0#32
  let v58 : BitVec 32 := Scalar.select v57 c4_i32_41 c0_i32_42
  let v59 : BitVec 32 := Scalar.addi v56 v58
  let c2_i32_43 : BitVec 32 := 2#32
  let v60 : BitVec 1 := Scalar.cmpi .eq v53 c2_i32_43
  let c8_i32_44 : BitVec 32 := 8#32
  let c0_i32_45 : BitVec 32 := 0#32
  let v61 : BitVec 32 := Scalar.select v60 c8_i32_44 c0_i32_45
  let v62 : BitVec 32 := Scalar.addi v59 v61
  let c3_i32_46 : BitVec 32 := 3#32
  let v63 : BitVec 1 := Scalar.cmpi .eq v53 c3_i32_46
  let c12_i32_47 : BitVec 32 := 12#32
  let c0_i32_48 : BitVec 32 := 0#32
  let v64 : BitVec 32 := Scalar.select v63 c12_i32_47 c0_i32_48
  let v65 : BitVec 32 := Scalar.addi v62 v64
  let c4_i32_49 : BitVec 32 := 4#32
  let v66 : BitVec 1 := Scalar.cmpi .eq v53 c4_i32_49
  let c15_i32_50 : BitVec 32 := 15#32
  let c0_i32_51 : BitVec 32 := 0#32
  let v67 : BitVec 32 := Scalar.select v66 c15_i32_50 c0_i32_51
  let v68 : BitVec 32 := Scalar.addi v65 v67
  let c5_i32_52 : BitVec 32 := 5#32
  let v69 : BitVec 1 := Scalar.cmpi .eq v53 c5_i32_52
  let c11_i32_53 : BitVec 32 := 11#32
  let c0_i32_54 : BitVec 32 := 0#32
  let v70 : BitVec 32 := Scalar.select v69 c11_i32_53 c0_i32_54
  let v71 : BitVec 32 := Scalar.addi v68 v70
  let c6_i32_55 : BitVec 32 := 6#32
  let v72 : BitVec 1 := Scalar.cmpi .eq v53 c6_i32_55
  let c7_i32_56 : BitVec 32 := 7#32
  let c0_i32_57 : BitVec 32 := 0#32
  let v73 : BitVec 32 := Scalar.select v72 c7_i32_56 c0_i32_57
  let v74 : BitVec 32 := Scalar.addi v71 v73
  let c7_i32_58 : BitVec 32 := 7#32
  let v75 : BitVec 1 := Scalar.cmpi .eq v53 c7_i32_58
  let c3_i32_59 : BitVec 32 := 3#32
  let c0_i32_60 : BitVec 32 := 0#32
  let v76 : BitVec 32 := Scalar.select v75 c3_i32_59 c0_i32_60
  let v77 : BitVec 32 := Scalar.addi v74 v76
  let c8_i32_61 : BitVec 32 := 8#32
  let v78 : BitVec 1 := Scalar.cmpi .eq v53 c8_i32_61
  let c2_i32_62 : BitVec 32 := 2#32
  let c0_i32_63 : BitVec 32 := 0#32
  let v79 : BitVec 32 := Scalar.select v78 c2_i32_62 c0_i32_63
  let v80 : BitVec 32 := Scalar.addi v77 v79
  let c9_i32_64 : BitVec 32 := 9#32
  let v81 : BitVec 1 := Scalar.cmpi .eq v53 c9_i32_64
  let c6_i32_65 : BitVec 32 := 6#32
  let c0_i32_66 : BitVec 32 := 0#32
  let v82 : BitVec 32 := Scalar.select v81 c6_i32_65 c0_i32_66
  let v83 : BitVec 32 := Scalar.addi v80 v82
  let c10_i32_67 : BitVec 32 := 10#32
  let v84 : BitVec 1 := Scalar.cmpi .eq v53 c10_i32_67
  let c10_i32_68 : BitVec 32 := 10#32
  let c0_i32_69 : BitVec 32 := 0#32
  let v85 : BitVec 32 := Scalar.select v84 c10_i32_68 c0_i32_69
  let v86 : BitVec 32 := Scalar.addi v83 v85
  let c11_i32_70 : BitVec 32 := 11#32
  let v87 : BitVec 1 := Scalar.cmpi .eq v53 c11_i32_70
  let c14_i32_71 : BitVec 32 := 14#32
  let c0_i32_72 : BitVec 32 := 0#32
  let v88 : BitVec 32 := Scalar.select v87 c14_i32_71 c0_i32_72
  let v89 : BitVec 32 := Scalar.addi v86 v88
  let c12_i32_73 : BitVec 32 := 12#32
  let v90 : BitVec 1 := Scalar.cmpi .eq v53 c12_i32_73
  let c13_i32_74 : BitVec 32 := 13#32
  let c0_i32_75 : BitVec 32 := 0#32
  let v91 : BitVec 32 := Scalar.select v90 c13_i32_74 c0_i32_75
  let v92 : BitVec 32 := Scalar.addi v89 v91
  let c13_i32_76 : BitVec 32 := 13#32
  let v93 : BitVec 1 := Scalar.cmpi .eq v53 c13_i32_76
  let c9_i32_77 : BitVec 32 := 9#32
  let c0_i32_78 : BitVec 32 := 0#32
  let v94 : BitVec 32 := Scalar.select v93 c9_i32_77 c0_i32_78
  let v95 : BitVec 32 := Scalar.addi v92 v94
  let c14_i32_79 : BitVec 32 := 14#32
  let v96 : BitVec 1 := Scalar.cmpi .eq v53 c14_i32_79
  let c5_i32_80 : BitVec 32 := 5#32
  let c0_i32_81 : BitVec 32 := 0#32
  let v97 : BitVec 32 := Scalar.select v96 c5_i32_80 c0_i32_81
  let v98 : BitVec 32 := Scalar.addi v95 v97
  let c15_i32_82 : BitVec 32 := 15#32
  let v99 : BitVec 1 := Scalar.cmpi .eq v53 c15_i32_82
  let c1_i32_83 : BitVec 32 := 1#32
  let c0_i32_84 : BitVec 32 := 0#32
  let v100 : BitVec 32 := Scalar.select v99 c1_i32_83 c0_i32_84
  let v101 : BitVec 32 := Scalar.addi v98 v100
  let c1_i32_2346 : BitVec 32 := 1#32
  let v3247 : BitVec 32 := Scalar.muli v101 c1_i32_2346
  let v3248 : BitVec 32 := Scalar.addi c0_i32_2347 v3247
  v3248.toNat
def k0_dev35 (d0 : Dev nD) : Nat :=
  let c0_i32_2575 : BitVec 32 := 0#32
  let c0_i32_91 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_85 : BitVec 32 := 1#32
  let v102 : BitVec 32 := Scalar.addi v50 c1_i32_85
  let c32_i32_86 : BitVec 32 := 32#32
  let v103 : BitVec 32 := Scalar.addi v102 c32_i32_86
  let c16_i32_87 : BitVec 32 := 16#32
  let v104 : BitVec 32 := Scalar.remsi v103 c16_i32_87
  let c0_i32_88 : BitVec 32 := 0#32
  let v105 : BitVec 1 := Scalar.cmpi .eq v104 c0_i32_88
  let c0_i32_89 : BitVec 32 := 0#32
  let c0_i32_90 : BitVec 32 := 0#32
  let v106 : BitVec 32 := Scalar.select v105 c0_i32_89 c0_i32_90
  let v107 : BitVec 32 := Scalar.addi c0_i32_91 v106
  let c1_i32_92 : BitVec 32 := 1#32
  let v108 : BitVec 1 := Scalar.cmpi .eq v104 c1_i32_92
  let c4_i32_93 : BitVec 32 := 4#32
  let c0_i32_94 : BitVec 32 := 0#32
  let v109 : BitVec 32 := Scalar.select v108 c4_i32_93 c0_i32_94
  let v110 : BitVec 32 := Scalar.addi v107 v109
  let c2_i32_95 : BitVec 32 := 2#32
  let v111 : BitVec 1 := Scalar.cmpi .eq v104 c2_i32_95
  let c8_i32_96 : BitVec 32 := 8#32
  let c0_i32_97 : BitVec 32 := 0#32
  let v112 : BitVec 32 := Scalar.select v111 c8_i32_96 c0_i32_97
  let v113 : BitVec 32 := Scalar.addi v110 v112
  let c3_i32_98 : BitVec 32 := 3#32
  let v114 : BitVec 1 := Scalar.cmpi .eq v104 c3_i32_98
  let c12_i32_99 : BitVec 32 := 12#32
  let c0_i32_100 : BitVec 32 := 0#32
  let v115 : BitVec 32 := Scalar.select v114 c12_i32_99 c0_i32_100
  let v116 : BitVec 32 := Scalar.addi v113 v115
  let c4_i32_101 : BitVec 32 := 4#32
  let v117 : BitVec 1 := Scalar.cmpi .eq v104 c4_i32_101
  let c15_i32_102 : BitVec 32 := 15#32
  let c0_i32_103 : BitVec 32 := 0#32
  let v118 : BitVec 32 := Scalar.select v117 c15_i32_102 c0_i32_103
  let v119 : BitVec 32 := Scalar.addi v116 v118
  let c5_i32_104 : BitVec 32 := 5#32
  let v120 : BitVec 1 := Scalar.cmpi .eq v104 c5_i32_104
  let c11_i32_105 : BitVec 32 := 11#32
  let c0_i32_106 : BitVec 32 := 0#32
  let v121 : BitVec 32 := Scalar.select v120 c11_i32_105 c0_i32_106
  let v122 : BitVec 32 := Scalar.addi v119 v121
  let c6_i32_107 : BitVec 32 := 6#32
  let v123 : BitVec 1 := Scalar.cmpi .eq v104 c6_i32_107
  let c7_i32_108 : BitVec 32 := 7#32
  let c0_i32_109 : BitVec 32 := 0#32
  let v124 : BitVec 32 := Scalar.select v123 c7_i32_108 c0_i32_109
  let v125 : BitVec 32 := Scalar.addi v122 v124
  let c7_i32_110 : BitVec 32 := 7#32
  let v126 : BitVec 1 := Scalar.cmpi .eq v104 c7_i32_110
  let c3_i32_111 : BitVec 32 := 3#32
  let c0_i32_112 : BitVec 32 := 0#32
  let v127 : BitVec 32 := Scalar.select v126 c3_i32_111 c0_i32_112
  let v128 : BitVec 32 := Scalar.addi v125 v127
  let c8_i32_113 : BitVec 32 := 8#32
  let v129 : BitVec 1 := Scalar.cmpi .eq v104 c8_i32_113
  let c2_i32_114 : BitVec 32 := 2#32
  let c0_i32_115 : BitVec 32 := 0#32
  let v130 : BitVec 32 := Scalar.select v129 c2_i32_114 c0_i32_115
  let v131 : BitVec 32 := Scalar.addi v128 v130
  let c9_i32_116 : BitVec 32 := 9#32
  let v132 : BitVec 1 := Scalar.cmpi .eq v104 c9_i32_116
  let c6_i32_117 : BitVec 32 := 6#32
  let c0_i32_118 : BitVec 32 := 0#32
  let v133 : BitVec 32 := Scalar.select v132 c6_i32_117 c0_i32_118
  let v134 : BitVec 32 := Scalar.addi v131 v133
  let c10_i32_119 : BitVec 32 := 10#32
  let v135 : BitVec 1 := Scalar.cmpi .eq v104 c10_i32_119
  let c10_i32_120 : BitVec 32 := 10#32
  let c0_i32_121 : BitVec 32 := 0#32
  let v136 : BitVec 32 := Scalar.select v135 c10_i32_120 c0_i32_121
  let v137 : BitVec 32 := Scalar.addi v134 v136
  let c11_i32_122 : BitVec 32 := 11#32
  let v138 : BitVec 1 := Scalar.cmpi .eq v104 c11_i32_122
  let c14_i32_123 : BitVec 32 := 14#32
  let c0_i32_124 : BitVec 32 := 0#32
  let v139 : BitVec 32 := Scalar.select v138 c14_i32_123 c0_i32_124
  let v140 : BitVec 32 := Scalar.addi v137 v139
  let c12_i32_125 : BitVec 32 := 12#32
  let v141 : BitVec 1 := Scalar.cmpi .eq v104 c12_i32_125
  let c13_i32_126 : BitVec 32 := 13#32
  let c0_i32_127 : BitVec 32 := 0#32
  let v142 : BitVec 32 := Scalar.select v141 c13_i32_126 c0_i32_127
  let v143 : BitVec 32 := Scalar.addi v140 v142
  let c13_i32_128 : BitVec 32 := 13#32
  let v144 : BitVec 1 := Scalar.cmpi .eq v104 c13_i32_128
  let c9_i32_129 : BitVec 32 := 9#32
  let c0_i32_130 : BitVec 32 := 0#32
  let v145 : BitVec 32 := Scalar.select v144 c9_i32_129 c0_i32_130
  let v146 : BitVec 32 := Scalar.addi v143 v145
  let c14_i32_131 : BitVec 32 := 14#32
  let v147 : BitVec 1 := Scalar.cmpi .eq v104 c14_i32_131
  let c5_i32_132 : BitVec 32 := 5#32
  let c0_i32_133 : BitVec 32 := 0#32
  let v148 : BitVec 32 := Scalar.select v147 c5_i32_132 c0_i32_133
  let v149 : BitVec 32 := Scalar.addi v146 v148
  let c15_i32_134 : BitVec 32 := 15#32
  let v150 : BitVec 1 := Scalar.cmpi .eq v104 c15_i32_134
  let c1_i32_135 : BitVec 32 := 1#32
  let c0_i32_136 : BitVec 32 := 0#32
  let v151 : BitVec 32 := Scalar.select v150 c1_i32_135 c0_i32_136
  let v152 : BitVec 32 := Scalar.addi v149 v151
  let c1_i32_2574 : BitVec 32 := 1#32
  let v3571 : BitVec 32 := Scalar.muli v152 c1_i32_2574
  let v3572 : BitVec 32 := Scalar.addi c0_i32_2575 v3571
  v3572.toNat
def k0_dev36 (d0 : Dev nD) : Nat :=
  let c0_i32_2587 : BitVec 32 := 0#32
  let c0_i32_39 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_34 : BitVec 32 := 1#32
  let v51 : BitVec 32 := Scalar.subi v50 c1_i32_34
  let c32_i32 : BitVec 32 := 32#32
  let v52 : BitVec 32 := Scalar.addi v51 c32_i32
  let c16_i32_35 : BitVec 32 := 16#32
  let v53 : BitVec 32 := Scalar.remsi v52 c16_i32_35
  let c0_i32_36 : BitVec 32 := 0#32
  let v54 : BitVec 1 := Scalar.cmpi .eq v53 c0_i32_36
  let c0_i32_37 : BitVec 32 := 0#32
  let c0_i32_38 : BitVec 32 := 0#32
  let v55 : BitVec 32 := Scalar.select v54 c0_i32_37 c0_i32_38
  let v56 : BitVec 32 := Scalar.addi c0_i32_39 v55
  let c1_i32_40 : BitVec 32 := 1#32
  let v57 : BitVec 1 := Scalar.cmpi .eq v53 c1_i32_40
  let c4_i32_41 : BitVec 32 := 4#32
  let c0_i32_42 : BitVec 32 := 0#32
  let v58 : BitVec 32 := Scalar.select v57 c4_i32_41 c0_i32_42
  let v59 : BitVec 32 := Scalar.addi v56 v58
  let c2_i32_43 : BitVec 32 := 2#32
  let v60 : BitVec 1 := Scalar.cmpi .eq v53 c2_i32_43
  let c8_i32_44 : BitVec 32 := 8#32
  let c0_i32_45 : BitVec 32 := 0#32
  let v61 : BitVec 32 := Scalar.select v60 c8_i32_44 c0_i32_45
  let v62 : BitVec 32 := Scalar.addi v59 v61
  let c3_i32_46 : BitVec 32 := 3#32
  let v63 : BitVec 1 := Scalar.cmpi .eq v53 c3_i32_46
  let c12_i32_47 : BitVec 32 := 12#32
  let c0_i32_48 : BitVec 32 := 0#32
  let v64 : BitVec 32 := Scalar.select v63 c12_i32_47 c0_i32_48
  let v65 : BitVec 32 := Scalar.addi v62 v64
  let c4_i32_49 : BitVec 32 := 4#32
  let v66 : BitVec 1 := Scalar.cmpi .eq v53 c4_i32_49
  let c15_i32_50 : BitVec 32 := 15#32
  let c0_i32_51 : BitVec 32 := 0#32
  let v67 : BitVec 32 := Scalar.select v66 c15_i32_50 c0_i32_51
  let v68 : BitVec 32 := Scalar.addi v65 v67
  let c5_i32_52 : BitVec 32 := 5#32
  let v69 : BitVec 1 := Scalar.cmpi .eq v53 c5_i32_52
  let c11_i32_53 : BitVec 32 := 11#32
  let c0_i32_54 : BitVec 32 := 0#32
  let v70 : BitVec 32 := Scalar.select v69 c11_i32_53 c0_i32_54
  let v71 : BitVec 32 := Scalar.addi v68 v70
  let c6_i32_55 : BitVec 32 := 6#32
  let v72 : BitVec 1 := Scalar.cmpi .eq v53 c6_i32_55
  let c7_i32_56 : BitVec 32 := 7#32
  let c0_i32_57 : BitVec 32 := 0#32
  let v73 : BitVec 32 := Scalar.select v72 c7_i32_56 c0_i32_57
  let v74 : BitVec 32 := Scalar.addi v71 v73
  let c7_i32_58 : BitVec 32 := 7#32
  let v75 : BitVec 1 := Scalar.cmpi .eq v53 c7_i32_58
  let c3_i32_59 : BitVec 32 := 3#32
  let c0_i32_60 : BitVec 32 := 0#32
  let v76 : BitVec 32 := Scalar.select v75 c3_i32_59 c0_i32_60
  let v77 : BitVec 32 := Scalar.addi v74 v76
  let c8_i32_61 : BitVec 32 := 8#32
  let v78 : BitVec 1 := Scalar.cmpi .eq v53 c8_i32_61
  let c2_i32_62 : BitVec 32 := 2#32
  let c0_i32_63 : BitVec 32 := 0#32
  let v79 : BitVec 32 := Scalar.select v78 c2_i32_62 c0_i32_63
  let v80 : BitVec 32 := Scalar.addi v77 v79
  let c9_i32_64 : BitVec 32 := 9#32
  let v81 : BitVec 1 := Scalar.cmpi .eq v53 c9_i32_64
  let c6_i32_65 : BitVec 32 := 6#32
  let c0_i32_66 : BitVec 32 := 0#32
  let v82 : BitVec 32 := Scalar.select v81 c6_i32_65 c0_i32_66
  let v83 : BitVec 32 := Scalar.addi v80 v82
  let c10_i32_67 : BitVec 32 := 10#32
  let v84 : BitVec 1 := Scalar.cmpi .eq v53 c10_i32_67
  let c10_i32_68 : BitVec 32 := 10#32
  let c0_i32_69 : BitVec 32 := 0#32
  let v85 : BitVec 32 := Scalar.select v84 c10_i32_68 c0_i32_69
  let v86 : BitVec 32 := Scalar.addi v83 v85
  let c11_i32_70 : BitVec 32 := 11#32
  let v87 : BitVec 1 := Scalar.cmpi .eq v53 c11_i32_70
  let c14_i32_71 : BitVec 32 := 14#32
  let c0_i32_72 : BitVec 32 := 0#32
  let v88 : BitVec 32 := Scalar.select v87 c14_i32_71 c0_i32_72
  let v89 : BitVec 32 := Scalar.addi v86 v88
  let c12_i32_73 : BitVec 32 := 12#32
  let v90 : BitVec 1 := Scalar.cmpi .eq v53 c12_i32_73
  let c13_i32_74 : BitVec 32 := 13#32
  let c0_i32_75 : BitVec 32 := 0#32
  let v91 : BitVec 32 := Scalar.select v90 c13_i32_74 c0_i32_75
  let v92 : BitVec 32 := Scalar.addi v89 v91
  let c13_i32_76 : BitVec 32 := 13#32
  let v93 : BitVec 1 := Scalar.cmpi .eq v53 c13_i32_76
  let c9_i32_77 : BitVec 32 := 9#32
  let c0_i32_78 : BitVec 32 := 0#32
  let v94 : BitVec 32 := Scalar.select v93 c9_i32_77 c0_i32_78
  let v95 : BitVec 32 := Scalar.addi v92 v94
  let c14_i32_79 : BitVec 32 := 14#32
  let v96 : BitVec 1 := Scalar.cmpi .eq v53 c14_i32_79
  let c5_i32_80 : BitVec 32 := 5#32
  let c0_i32_81 : BitVec 32 := 0#32
  let v97 : BitVec 32 := Scalar.select v96 c5_i32_80 c0_i32_81
  let v98 : BitVec 32 := Scalar.addi v95 v97
  let c15_i32_82 : BitVec 32 := 15#32
  let v99 : BitVec 1 := Scalar.cmpi .eq v53 c15_i32_82
  let c1_i32_83 : BitVec 32 := 1#32
  let c0_i32_84 : BitVec 32 := 0#32
  let v100 : BitVec 32 := Scalar.select v99 c1_i32_83 c0_i32_84
  let v101 : BitVec 32 := Scalar.addi v98 v100
  let c1_i32_2586 : BitVec 32 := 1#32
  let v3585 : BitVec 32 := Scalar.muli v101 c1_i32_2586
  let v3586 : BitVec 32 := Scalar.addi c0_i32_2587 v3585
  v3586.toNat
def k0_dev37 (d0 : Dev nD) : Nat :=
  let c0_i32_2595 : BitVec 32 := 0#32
  let c0_i32_91 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_85 : BitVec 32 := 1#32
  let v102 : BitVec 32 := Scalar.addi v50 c1_i32_85
  let c32_i32_86 : BitVec 32 := 32#32
  let v103 : BitVec 32 := Scalar.addi v102 c32_i32_86
  let c16_i32_87 : BitVec 32 := 16#32
  let v104 : BitVec 32 := Scalar.remsi v103 c16_i32_87
  let c0_i32_88 : BitVec 32 := 0#32
  let v105 : BitVec 1 := Scalar.cmpi .eq v104 c0_i32_88
  let c0_i32_89 : BitVec 32 := 0#32
  let c0_i32_90 : BitVec 32 := 0#32
  let v106 : BitVec 32 := Scalar.select v105 c0_i32_89 c0_i32_90
  let v107 : BitVec 32 := Scalar.addi c0_i32_91 v106
  let c1_i32_92 : BitVec 32 := 1#32
  let v108 : BitVec 1 := Scalar.cmpi .eq v104 c1_i32_92
  let c4_i32_93 : BitVec 32 := 4#32
  let c0_i32_94 : BitVec 32 := 0#32
  let v109 : BitVec 32 := Scalar.select v108 c4_i32_93 c0_i32_94
  let v110 : BitVec 32 := Scalar.addi v107 v109
  let c2_i32_95 : BitVec 32 := 2#32
  let v111 : BitVec 1 := Scalar.cmpi .eq v104 c2_i32_95
  let c8_i32_96 : BitVec 32 := 8#32
  let c0_i32_97 : BitVec 32 := 0#32
  let v112 : BitVec 32 := Scalar.select v111 c8_i32_96 c0_i32_97
  let v113 : BitVec 32 := Scalar.addi v110 v112
  let c3_i32_98 : BitVec 32 := 3#32
  let v114 : BitVec 1 := Scalar.cmpi .eq v104 c3_i32_98
  let c12_i32_99 : BitVec 32 := 12#32
  let c0_i32_100 : BitVec 32 := 0#32
  let v115 : BitVec 32 := Scalar.select v114 c12_i32_99 c0_i32_100
  let v116 : BitVec 32 := Scalar.addi v113 v115
  let c4_i32_101 : BitVec 32 := 4#32
  let v117 : BitVec 1 := Scalar.cmpi .eq v104 c4_i32_101
  let c15_i32_102 : BitVec 32 := 15#32
  let c0_i32_103 : BitVec 32 := 0#32
  let v118 : BitVec 32 := Scalar.select v117 c15_i32_102 c0_i32_103
  let v119 : BitVec 32 := Scalar.addi v116 v118
  let c5_i32_104 : BitVec 32 := 5#32
  let v120 : BitVec 1 := Scalar.cmpi .eq v104 c5_i32_104
  let c11_i32_105 : BitVec 32 := 11#32
  let c0_i32_106 : BitVec 32 := 0#32
  let v121 : BitVec 32 := Scalar.select v120 c11_i32_105 c0_i32_106
  let v122 : BitVec 32 := Scalar.addi v119 v121
  let c6_i32_107 : BitVec 32 := 6#32
  let v123 : BitVec 1 := Scalar.cmpi .eq v104 c6_i32_107
  let c7_i32_108 : BitVec 32 := 7#32
  let c0_i32_109 : BitVec 32 := 0#32
  let v124 : BitVec 32 := Scalar.select v123 c7_i32_108 c0_i32_109
  let v125 : BitVec 32 := Scalar.addi v122 v124
  let c7_i32_110 : BitVec 32 := 7#32
  let v126 : BitVec 1 := Scalar.cmpi .eq v104 c7_i32_110
  let c3_i32_111 : BitVec 32 := 3#32
  let c0_i32_112 : BitVec 32 := 0#32
  let v127 : BitVec 32 := Scalar.select v126 c3_i32_111 c0_i32_112
  let v128 : BitVec 32 := Scalar.addi v125 v127
  let c8_i32_113 : BitVec 32 := 8#32
  let v129 : BitVec 1 := Scalar.cmpi .eq v104 c8_i32_113
  let c2_i32_114 : BitVec 32 := 2#32
  let c0_i32_115 : BitVec 32 := 0#32
  let v130 : BitVec 32 := Scalar.select v129 c2_i32_114 c0_i32_115
  let v131 : BitVec 32 := Scalar.addi v128 v130
  let c9_i32_116 : BitVec 32 := 9#32
  let v132 : BitVec 1 := Scalar.cmpi .eq v104 c9_i32_116
  let c6_i32_117 : BitVec 32 := 6#32
  let c0_i32_118 : BitVec 32 := 0#32
  let v133 : BitVec 32 := Scalar.select v132 c6_i32_117 c0_i32_118
  let v134 : BitVec 32 := Scalar.addi v131 v133
  let c10_i32_119 : BitVec 32 := 10#32
  let v135 : BitVec 1 := Scalar.cmpi .eq v104 c10_i32_119
  let c10_i32_120 : BitVec 32 := 10#32
  let c0_i32_121 : BitVec 32 := 0#32
  let v136 : BitVec 32 := Scalar.select v135 c10_i32_120 c0_i32_121
  let v137 : BitVec 32 := Scalar.addi v134 v136
  let c11_i32_122 : BitVec 32 := 11#32
  let v138 : BitVec 1 := Scalar.cmpi .eq v104 c11_i32_122
  let c14_i32_123 : BitVec 32 := 14#32
  let c0_i32_124 : BitVec 32 := 0#32
  let v139 : BitVec 32 := Scalar.select v138 c14_i32_123 c0_i32_124
  let v140 : BitVec 32 := Scalar.addi v137 v139
  let c12_i32_125 : BitVec 32 := 12#32
  let v141 : BitVec 1 := Scalar.cmpi .eq v104 c12_i32_125
  let c13_i32_126 : BitVec 32 := 13#32
  let c0_i32_127 : BitVec 32 := 0#32
  let v142 : BitVec 32 := Scalar.select v141 c13_i32_126 c0_i32_127
  let v143 : BitVec 32 := Scalar.addi v140 v142
  let c13_i32_128 : BitVec 32 := 13#32
  let v144 : BitVec 1 := Scalar.cmpi .eq v104 c13_i32_128
  let c9_i32_129 : BitVec 32 := 9#32
  let c0_i32_130 : BitVec 32 := 0#32
  let v145 : BitVec 32 := Scalar.select v144 c9_i32_129 c0_i32_130
  let v146 : BitVec 32 := Scalar.addi v143 v145
  let c14_i32_131 : BitVec 32 := 14#32
  let v147 : BitVec 1 := Scalar.cmpi .eq v104 c14_i32_131
  let c5_i32_132 : BitVec 32 := 5#32
  let c0_i32_133 : BitVec 32 := 0#32
  let v148 : BitVec 32 := Scalar.select v147 c5_i32_132 c0_i32_133
  let v149 : BitVec 32 := Scalar.addi v146 v148
  let c15_i32_134 : BitVec 32 := 15#32
  let v150 : BitVec 1 := Scalar.cmpi .eq v104 c15_i32_134
  let c1_i32_135 : BitVec 32 := 1#32
  let c0_i32_136 : BitVec 32 := 0#32
  let v151 : BitVec 32 := Scalar.select v150 c1_i32_135 c0_i32_136
  let v152 : BitVec 32 := Scalar.addi v149 v151
  let c1_i32_2594 : BitVec 32 := 1#32
  let v3593 : BitVec 32 := Scalar.muli v152 c1_i32_2594
  let v3594 : BitVec 32 := Scalar.addi c0_i32_2595 v3593
  v3594.toNat
def k0_dev38 (d0 : Dev nD) : Nat :=
  let c0_i32_2605 : BitVec 32 := 0#32
  let c0_i32_39 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_34 : BitVec 32 := 1#32
  let v51 : BitVec 32 := Scalar.subi v50 c1_i32_34
  let c32_i32 : BitVec 32 := 32#32
  let v52 : BitVec 32 := Scalar.addi v51 c32_i32
  let c16_i32_35 : BitVec 32 := 16#32
  let v53 : BitVec 32 := Scalar.remsi v52 c16_i32_35
  let c0_i32_36 : BitVec 32 := 0#32
  let v54 : BitVec 1 := Scalar.cmpi .eq v53 c0_i32_36
  let c0_i32_37 : BitVec 32 := 0#32
  let c0_i32_38 : BitVec 32 := 0#32
  let v55 : BitVec 32 := Scalar.select v54 c0_i32_37 c0_i32_38
  let v56 : BitVec 32 := Scalar.addi c0_i32_39 v55
  let c1_i32_40 : BitVec 32 := 1#32
  let v57 : BitVec 1 := Scalar.cmpi .eq v53 c1_i32_40
  let c4_i32_41 : BitVec 32 := 4#32
  let c0_i32_42 : BitVec 32 := 0#32
  let v58 : BitVec 32 := Scalar.select v57 c4_i32_41 c0_i32_42
  let v59 : BitVec 32 := Scalar.addi v56 v58
  let c2_i32_43 : BitVec 32 := 2#32
  let v60 : BitVec 1 := Scalar.cmpi .eq v53 c2_i32_43
  let c8_i32_44 : BitVec 32 := 8#32
  let c0_i32_45 : BitVec 32 := 0#32
  let v61 : BitVec 32 := Scalar.select v60 c8_i32_44 c0_i32_45
  let v62 : BitVec 32 := Scalar.addi v59 v61
  let c3_i32_46 : BitVec 32 := 3#32
  let v63 : BitVec 1 := Scalar.cmpi .eq v53 c3_i32_46
  let c12_i32_47 : BitVec 32 := 12#32
  let c0_i32_48 : BitVec 32 := 0#32
  let v64 : BitVec 32 := Scalar.select v63 c12_i32_47 c0_i32_48
  let v65 : BitVec 32 := Scalar.addi v62 v64
  let c4_i32_49 : BitVec 32 := 4#32
  let v66 : BitVec 1 := Scalar.cmpi .eq v53 c4_i32_49
  let c15_i32_50 : BitVec 32 := 15#32
  let c0_i32_51 : BitVec 32 := 0#32
  let v67 : BitVec 32 := Scalar.select v66 c15_i32_50 c0_i32_51
  let v68 : BitVec 32 := Scalar.addi v65 v67
  let c5_i32_52 : BitVec 32 := 5#32
  let v69 : BitVec 1 := Scalar.cmpi .eq v53 c5_i32_52
  let c11_i32_53 : BitVec 32 := 11#32
  let c0_i32_54 : BitVec 32 := 0#32
  let v70 : BitVec 32 := Scalar.select v69 c11_i32_53 c0_i32_54
  let v71 : BitVec 32 := Scalar.addi v68 v70
  let c6_i32_55 : BitVec 32 := 6#32
  let v72 : BitVec 1 := Scalar.cmpi .eq v53 c6_i32_55
  let c7_i32_56 : BitVec 32 := 7#32
  let c0_i32_57 : BitVec 32 := 0#32
  let v73 : BitVec 32 := Scalar.select v72 c7_i32_56 c0_i32_57
  let v74 : BitVec 32 := Scalar.addi v71 v73
  let c7_i32_58 : BitVec 32 := 7#32
  let v75 : BitVec 1 := Scalar.cmpi .eq v53 c7_i32_58
  let c3_i32_59 : BitVec 32 := 3#32
  let c0_i32_60 : BitVec 32 := 0#32
  let v76 : BitVec 32 := Scalar.select v75 c3_i32_59 c0_i32_60
  let v77 : BitVec 32 := Scalar.addi v74 v76
  let c8_i32_61 : BitVec 32 := 8#32
  let v78 : BitVec 1 := Scalar.cmpi .eq v53 c8_i32_61
  let c2_i32_62 : BitVec 32 := 2#32
  let c0_i32_63 : BitVec 32 := 0#32
  let v79 : BitVec 32 := Scalar.select v78 c2_i32_62 c0_i32_63
  let v80 : BitVec 32 := Scalar.addi v77 v79
  let c9_i32_64 : BitVec 32 := 9#32
  let v81 : BitVec 1 := Scalar.cmpi .eq v53 c9_i32_64
  let c6_i32_65 : BitVec 32 := 6#32
  let c0_i32_66 : BitVec 32 := 0#32
  let v82 : BitVec 32 := Scalar.select v81 c6_i32_65 c0_i32_66
  let v83 : BitVec 32 := Scalar.addi v80 v82
  let c10_i32_67 : BitVec 32 := 10#32
  let v84 : BitVec 1 := Scalar.cmpi .eq v53 c10_i32_67
  let c10_i32_68 : BitVec 32 := 10#32
  let c0_i32_69 : BitVec 32 := 0#32
  let v85 : BitVec 32 := Scalar.select v84 c10_i32_68 c0_i32_69
  let v86 : BitVec 32 := Scalar.addi v83 v85
  let c11_i32_70 : BitVec 32 := 11#32
  let v87 : BitVec 1 := Scalar.cmpi .eq v53 c11_i32_70
  let c14_i32_71 : BitVec 32 := 14#32
  let c0_i32_72 : BitVec 32 := 0#32
  let v88 : BitVec 32 := Scalar.select v87 c14_i32_71 c0_i32_72
  let v89 : BitVec 32 := Scalar.addi v86 v88
  let c12_i32_73 : BitVec 32 := 12#32
  let v90 : BitVec 1 := Scalar.cmpi .eq v53 c12_i32_73
  let c13_i32_74 : BitVec 32 := 13#32
  let c0_i32_75 : BitVec 32 := 0#32
  let v91 : BitVec 32 := Scalar.select v90 c13_i32_74 c0_i32_75
  let v92 : BitVec 32 := Scalar.addi v89 v91
  let c13_i32_76 : BitVec 32 := 13#32
  let v93 : BitVec 1 := Scalar.cmpi .eq v53 c13_i32_76
  let c9_i32_77 : BitVec 32 := 9#32
  let c0_i32_78 : BitVec 32 := 0#32
  let v94 : BitVec 32 := Scalar.select v93 c9_i32_77 c0_i32_78
  let v95 : BitVec 32 := Scalar.addi v92 v94
  let c14_i32_79 : BitVec 32 := 14#32
  let v96 : BitVec 1 := Scalar.cmpi .eq v53 c14_i32_79
  let c5_i32_80 : BitVec 32 := 5#32
  let c0_i32_81 : BitVec 32 := 0#32
  let v97 : BitVec 32 := Scalar.select v96 c5_i32_80 c0_i32_81
  let v98 : BitVec 32 := Scalar.addi v95 v97
  let c15_i32_82 : BitVec 32 := 15#32
  let v99 : BitVec 1 := Scalar.cmpi .eq v53 c15_i32_82
  let c1_i32_83 : BitVec 32 := 1#32
  let c0_i32_84 : BitVec 32 := 0#32
  let v100 : BitVec 32 := Scalar.select v99 c1_i32_83 c0_i32_84
  let v101 : BitVec 32 := Scalar.addi v98 v100
  let c1_i32_2604 : BitVec 32 := 1#32
  let v3603 : BitVec 32 := Scalar.muli v101 c1_i32_2604
  let v3604 : BitVec 32 := Scalar.addi c0_i32_2605 v3603
  v3604.toNat
def k0_dev39 (d0 : Dev nD) : Nat :=
  let c0_i32_2833 : BitVec 32 := 0#32
  let c0_i32_91 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_85 : BitVec 32 := 1#32
  let v102 : BitVec 32 := Scalar.addi v50 c1_i32_85
  let c32_i32_86 : BitVec 32 := 32#32
  let v103 : BitVec 32 := Scalar.addi v102 c32_i32_86
  let c16_i32_87 : BitVec 32 := 16#32
  let v104 : BitVec 32 := Scalar.remsi v103 c16_i32_87
  let c0_i32_88 : BitVec 32 := 0#32
  let v105 : BitVec 1 := Scalar.cmpi .eq v104 c0_i32_88
  let c0_i32_89 : BitVec 32 := 0#32
  let c0_i32_90 : BitVec 32 := 0#32
  let v106 : BitVec 32 := Scalar.select v105 c0_i32_89 c0_i32_90
  let v107 : BitVec 32 := Scalar.addi c0_i32_91 v106
  let c1_i32_92 : BitVec 32 := 1#32
  let v108 : BitVec 1 := Scalar.cmpi .eq v104 c1_i32_92
  let c4_i32_93 : BitVec 32 := 4#32
  let c0_i32_94 : BitVec 32 := 0#32
  let v109 : BitVec 32 := Scalar.select v108 c4_i32_93 c0_i32_94
  let v110 : BitVec 32 := Scalar.addi v107 v109
  let c2_i32_95 : BitVec 32 := 2#32
  let v111 : BitVec 1 := Scalar.cmpi .eq v104 c2_i32_95
  let c8_i32_96 : BitVec 32 := 8#32
  let c0_i32_97 : BitVec 32 := 0#32
  let v112 : BitVec 32 := Scalar.select v111 c8_i32_96 c0_i32_97
  let v113 : BitVec 32 := Scalar.addi v110 v112
  let c3_i32_98 : BitVec 32 := 3#32
  let v114 : BitVec 1 := Scalar.cmpi .eq v104 c3_i32_98
  let c12_i32_99 : BitVec 32 := 12#32
  let c0_i32_100 : BitVec 32 := 0#32
  let v115 : BitVec 32 := Scalar.select v114 c12_i32_99 c0_i32_100
  let v116 : BitVec 32 := Scalar.addi v113 v115
  let c4_i32_101 : BitVec 32 := 4#32
  let v117 : BitVec 1 := Scalar.cmpi .eq v104 c4_i32_101
  let c15_i32_102 : BitVec 32 := 15#32
  let c0_i32_103 : BitVec 32 := 0#32
  let v118 : BitVec 32 := Scalar.select v117 c15_i32_102 c0_i32_103
  let v119 : BitVec 32 := Scalar.addi v116 v118
  let c5_i32_104 : BitVec 32 := 5#32
  let v120 : BitVec 1 := Scalar.cmpi .eq v104 c5_i32_104
  let c11_i32_105 : BitVec 32 := 11#32
  let c0_i32_106 : BitVec 32 := 0#32
  let v121 : BitVec 32 := Scalar.select v120 c11_i32_105 c0_i32_106
  let v122 : BitVec 32 := Scalar.addi v119 v121
  let c6_i32_107 : BitVec 32 := 6#32
  let v123 : BitVec 1 := Scalar.cmpi .eq v104 c6_i32_107
  let c7_i32_108 : BitVec 32 := 7#32
  let c0_i32_109 : BitVec 32 := 0#32
  let v124 : BitVec 32 := Scalar.select v123 c7_i32_108 c0_i32_109
  let v125 : BitVec 32 := Scalar.addi v122 v124
  let c7_i32_110 : BitVec 32 := 7#32
  let v126 : BitVec 1 := Scalar.cmpi .eq v104 c7_i32_110
  let c3_i32_111 : BitVec 32 := 3#32
  let c0_i32_112 : BitVec 32 := 0#32
  let v127 : BitVec 32 := Scalar.select v126 c3_i32_111 c0_i32_112
  let v128 : BitVec 32 := Scalar.addi v125 v127
  let c8_i32_113 : BitVec 32 := 8#32
  let v129 : BitVec 1 := Scalar.cmpi .eq v104 c8_i32_113
  let c2_i32_114 : BitVec 32 := 2#32
  let c0_i32_115 : BitVec 32 := 0#32
  let v130 : BitVec 32 := Scalar.select v129 c2_i32_114 c0_i32_115
  let v131 : BitVec 32 := Scalar.addi v128 v130
  let c9_i32_116 : BitVec 32 := 9#32
  let v132 : BitVec 1 := Scalar.cmpi .eq v104 c9_i32_116
  let c6_i32_117 : BitVec 32 := 6#32
  let c0_i32_118 : BitVec 32 := 0#32
  let v133 : BitVec 32 := Scalar.select v132 c6_i32_117 c0_i32_118
  let v134 : BitVec 32 := Scalar.addi v131 v133
  let c10_i32_119 : BitVec 32 := 10#32
  let v135 : BitVec 1 := Scalar.cmpi .eq v104 c10_i32_119
  let c10_i32_120 : BitVec 32 := 10#32
  let c0_i32_121 : BitVec 32 := 0#32
  let v136 : BitVec 32 := Scalar.select v135 c10_i32_120 c0_i32_121
  let v137 : BitVec 32 := Scalar.addi v134 v136
  let c11_i32_122 : BitVec 32 := 11#32
  let v138 : BitVec 1 := Scalar.cmpi .eq v104 c11_i32_122
  let c14_i32_123 : BitVec 32 := 14#32
  let c0_i32_124 : BitVec 32 := 0#32
  let v139 : BitVec 32 := Scalar.select v138 c14_i32_123 c0_i32_124
  let v140 : BitVec 32 := Scalar.addi v137 v139
  let c12_i32_125 : BitVec 32 := 12#32
  let v141 : BitVec 1 := Scalar.cmpi .eq v104 c12_i32_125
  let c13_i32_126 : BitVec 32 := 13#32
  let c0_i32_127 : BitVec 32 := 0#32
  let v142 : BitVec 32 := Scalar.select v141 c13_i32_126 c0_i32_127
  let v143 : BitVec 32 := Scalar.addi v140 v142
  let c13_i32_128 : BitVec 32 := 13#32
  let v144 : BitVec 1 := Scalar.cmpi .eq v104 c13_i32_128
  let c9_i32_129 : BitVec 32 := 9#32
  let c0_i32_130 : BitVec 32 := 0#32
  let v145 : BitVec 32 := Scalar.select v144 c9_i32_129 c0_i32_130
  let v146 : BitVec 32 := Scalar.addi v143 v145
  let c14_i32_131 : BitVec 32 := 14#32
  let v147 : BitVec 1 := Scalar.cmpi .eq v104 c14_i32_131
  let c5_i32_132 : BitVec 32 := 5#32
  let c0_i32_133 : BitVec 32 := 0#32
  let v148 : BitVec 32 := Scalar.select v147 c5_i32_132 c0_i32_133
  let v149 : BitVec 32 := Scalar.addi v146 v148
  let c15_i32_134 : BitVec 32 := 15#32
  let v150 : BitVec 1 := Scalar.cmpi .eq v104 c15_i32_134
  let c1_i32_135 : BitVec 32 := 1#32
  let c0_i32_136 : BitVec 32 := 0#32
  let v151 : BitVec 32 := Scalar.select v150 c1_i32_135 c0_i32_136
  let v152 : BitVec 32 := Scalar.addi v149 v151
  let c1_i32_2832 : BitVec 32 := 1#32
  let v3927 : BitVec 32 := Scalar.muli v152 c1_i32_2832
  let v3928 : BitVec 32 := Scalar.addi c0_i32_2833 v3927
  v3928.toNat
def k0_dev40 (d0 : Dev nD) : Nat :=
  let c0_i32_2845 : BitVec 32 := 0#32
  let c0_i32_39 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_34 : BitVec 32 := 1#32
  let v51 : BitVec 32 := Scalar.subi v50 c1_i32_34
  let c32_i32 : BitVec 32 := 32#32
  let v52 : BitVec 32 := Scalar.addi v51 c32_i32
  let c16_i32_35 : BitVec 32 := 16#32
  let v53 : BitVec 32 := Scalar.remsi v52 c16_i32_35
  let c0_i32_36 : BitVec 32 := 0#32
  let v54 : BitVec 1 := Scalar.cmpi .eq v53 c0_i32_36
  let c0_i32_37 : BitVec 32 := 0#32
  let c0_i32_38 : BitVec 32 := 0#32
  let v55 : BitVec 32 := Scalar.select v54 c0_i32_37 c0_i32_38
  let v56 : BitVec 32 := Scalar.addi c0_i32_39 v55
  let c1_i32_40 : BitVec 32 := 1#32
  let v57 : BitVec 1 := Scalar.cmpi .eq v53 c1_i32_40
  let c4_i32_41 : BitVec 32 := 4#32
  let c0_i32_42 : BitVec 32 := 0#32
  let v58 : BitVec 32 := Scalar.select v57 c4_i32_41 c0_i32_42
  let v59 : BitVec 32 := Scalar.addi v56 v58
  let c2_i32_43 : BitVec 32 := 2#32
  let v60 : BitVec 1 := Scalar.cmpi .eq v53 c2_i32_43
  let c8_i32_44 : BitVec 32 := 8#32
  let c0_i32_45 : BitVec 32 := 0#32
  let v61 : BitVec 32 := Scalar.select v60 c8_i32_44 c0_i32_45
  let v62 : BitVec 32 := Scalar.addi v59 v61
  let c3_i32_46 : BitVec 32 := 3#32
  let v63 : BitVec 1 := Scalar.cmpi .eq v53 c3_i32_46
  let c12_i32_47 : BitVec 32 := 12#32
  let c0_i32_48 : BitVec 32 := 0#32
  let v64 : BitVec 32 := Scalar.select v63 c12_i32_47 c0_i32_48
  let v65 : BitVec 32 := Scalar.addi v62 v64
  let c4_i32_49 : BitVec 32 := 4#32
  let v66 : BitVec 1 := Scalar.cmpi .eq v53 c4_i32_49
  let c15_i32_50 : BitVec 32 := 15#32
  let c0_i32_51 : BitVec 32 := 0#32
  let v67 : BitVec 32 := Scalar.select v66 c15_i32_50 c0_i32_51
  let v68 : BitVec 32 := Scalar.addi v65 v67
  let c5_i32_52 : BitVec 32 := 5#32
  let v69 : BitVec 1 := Scalar.cmpi .eq v53 c5_i32_52
  let c11_i32_53 : BitVec 32 := 11#32
  let c0_i32_54 : BitVec 32 := 0#32
  let v70 : BitVec 32 := Scalar.select v69 c11_i32_53 c0_i32_54
  let v71 : BitVec 32 := Scalar.addi v68 v70
  let c6_i32_55 : BitVec 32 := 6#32
  let v72 : BitVec 1 := Scalar.cmpi .eq v53 c6_i32_55
  let c7_i32_56 : BitVec 32 := 7#32
  let c0_i32_57 : BitVec 32 := 0#32
  let v73 : BitVec 32 := Scalar.select v72 c7_i32_56 c0_i32_57
  let v74 : BitVec 32 := Scalar.addi v71 v73
  let c7_i32_58 : BitVec 32 := 7#32
  let v75 : BitVec 1 := Scalar.cmpi .eq v53 c7_i32_58
  let c3_i32_59 : BitVec 32 := 3#32
  let c0_i32_60 : BitVec 32 := 0#32
  let v76 : BitVec 32 := Scalar.select v75 c3_i32_59 c0_i32_60
  let v77 : BitVec 32 := Scalar.addi v74 v76
  let c8_i32_61 : BitVec 32 := 8#32
  let v78 : BitVec 1 := Scalar.cmpi .eq v53 c8_i32_61
  let c2_i32_62 : BitVec 32 := 2#32
  let c0_i32_63 : BitVec 32 := 0#32
  let v79 : BitVec 32 := Scalar.select v78 c2_i32_62 c0_i32_63
  let v80 : BitVec 32 := Scalar.addi v77 v79
  let c9_i32_64 : BitVec 32 := 9#32
  let v81 : BitVec 1 := Scalar.cmpi .eq v53 c9_i32_64
  let c6_i32_65 : BitVec 32 := 6#32
  let c0_i32_66 : BitVec 32 := 0#32
  let v82 : BitVec 32 := Scalar.select v81 c6_i32_65 c0_i32_66
  let v83 : BitVec 32 := Scalar.addi v80 v82
  let c10_i32_67 : BitVec 32 := 10#32
  let v84 : BitVec 1 := Scalar.cmpi .eq v53 c10_i32_67
  let c10_i32_68 : BitVec 32 := 10#32
  let c0_i32_69 : BitVec 32 := 0#32
  let v85 : BitVec 32 := Scalar.select v84 c10_i32_68 c0_i32_69
  let v86 : BitVec 32 := Scalar.addi v83 v85
  let c11_i32_70 : BitVec 32 := 11#32
  let v87 : BitVec 1 := Scalar.cmpi .eq v53 c11_i32_70
  let c14_i32_71 : BitVec 32 := 14#32
  let c0_i32_72 : BitVec 32 := 0#32
  let v88 : BitVec 32 := Scalar.select v87 c14_i32_71 c0_i32_72
  let v89 : BitVec 32 := Scalar.addi v86 v88
  let c12_i32_73 : BitVec 32 := 12#32
  let v90 : BitVec 1 := Scalar.cmpi .eq v53 c12_i32_73
  let c13_i32_74 : BitVec 32 := 13#32
  let c0_i32_75 : BitVec 32 := 0#32
  let v91 : BitVec 32 := Scalar.select v90 c13_i32_74 c0_i32_75
  let v92 : BitVec 32 := Scalar.addi v89 v91
  let c13_i32_76 : BitVec 32 := 13#32
  let v93 : BitVec 1 := Scalar.cmpi .eq v53 c13_i32_76
  let c9_i32_77 : BitVec 32 := 9#32
  let c0_i32_78 : BitVec 32 := 0#32
  let v94 : BitVec 32 := Scalar.select v93 c9_i32_77 c0_i32_78
  let v95 : BitVec 32 := Scalar.addi v92 v94
  let c14_i32_79 : BitVec 32 := 14#32
  let v96 : BitVec 1 := Scalar.cmpi .eq v53 c14_i32_79
  let c5_i32_80 : BitVec 32 := 5#32
  let c0_i32_81 : BitVec 32 := 0#32
  let v97 : BitVec 32 := Scalar.select v96 c5_i32_80 c0_i32_81
  let v98 : BitVec 32 := Scalar.addi v95 v97
  let c15_i32_82 : BitVec 32 := 15#32
  let v99 : BitVec 1 := Scalar.cmpi .eq v53 c15_i32_82
  let c1_i32_83 : BitVec 32 := 1#32
  let c0_i32_84 : BitVec 32 := 0#32
  let v100 : BitVec 32 := Scalar.select v99 c1_i32_83 c0_i32_84
  let v101 : BitVec 32 := Scalar.addi v98 v100
  let c1_i32_2844 : BitVec 32 := 1#32
  let v3941 : BitVec 32 := Scalar.muli v101 c1_i32_2844
  let v3942 : BitVec 32 := Scalar.addi c0_i32_2845 v3941
  v3942.toNat
def k0_dev41 (d0 : Dev nD) : Nat :=
  let c0_i32_2853 : BitVec 32 := 0#32
  let c0_i32_91 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_85 : BitVec 32 := 1#32
  let v102 : BitVec 32 := Scalar.addi v50 c1_i32_85
  let c32_i32_86 : BitVec 32 := 32#32
  let v103 : BitVec 32 := Scalar.addi v102 c32_i32_86
  let c16_i32_87 : BitVec 32 := 16#32
  let v104 : BitVec 32 := Scalar.remsi v103 c16_i32_87
  let c0_i32_88 : BitVec 32 := 0#32
  let v105 : BitVec 1 := Scalar.cmpi .eq v104 c0_i32_88
  let c0_i32_89 : BitVec 32 := 0#32
  let c0_i32_90 : BitVec 32 := 0#32
  let v106 : BitVec 32 := Scalar.select v105 c0_i32_89 c0_i32_90
  let v107 : BitVec 32 := Scalar.addi c0_i32_91 v106
  let c1_i32_92 : BitVec 32 := 1#32
  let v108 : BitVec 1 := Scalar.cmpi .eq v104 c1_i32_92
  let c4_i32_93 : BitVec 32 := 4#32
  let c0_i32_94 : BitVec 32 := 0#32
  let v109 : BitVec 32 := Scalar.select v108 c4_i32_93 c0_i32_94
  let v110 : BitVec 32 := Scalar.addi v107 v109
  let c2_i32_95 : BitVec 32 := 2#32
  let v111 : BitVec 1 := Scalar.cmpi .eq v104 c2_i32_95
  let c8_i32_96 : BitVec 32 := 8#32
  let c0_i32_97 : BitVec 32 := 0#32
  let v112 : BitVec 32 := Scalar.select v111 c8_i32_96 c0_i32_97
  let v113 : BitVec 32 := Scalar.addi v110 v112
  let c3_i32_98 : BitVec 32 := 3#32
  let v114 : BitVec 1 := Scalar.cmpi .eq v104 c3_i32_98
  let c12_i32_99 : BitVec 32 := 12#32
  let c0_i32_100 : BitVec 32 := 0#32
  let v115 : BitVec 32 := Scalar.select v114 c12_i32_99 c0_i32_100
  let v116 : BitVec 32 := Scalar.addi v113 v115
  let c4_i32_101 : BitVec 32 := 4#32
  let v117 : BitVec 1 := Scalar.cmpi .eq v104 c4_i32_101
  let c15_i32_102 : BitVec 32 := 15#32
  let c0_i32_103 : BitVec 32 := 0#32
  let v118 : BitVec 32 := Scalar.select v117 c15_i32_102 c0_i32_103
  let v119 : BitVec 32 := Scalar.addi v116 v118
  let c5_i32_104 : BitVec 32 := 5#32
  let v120 : BitVec 1 := Scalar.cmpi .eq v104 c5_i32_104
  let c11_i32_105 : BitVec 32 := 11#32
  let c0_i32_106 : BitVec 32 := 0#32
  let v121 : BitVec 32 := Scalar.select v120 c11_i32_105 c0_i32_106
  let v122 : BitVec 32 := Scalar.addi v119 v121
  let c6_i32_107 : BitVec 32 := 6#32
  let v123 : BitVec 1 := Scalar.cmpi .eq v104 c6_i32_107
  let c7_i32_108 : BitVec 32 := 7#32
  let c0_i32_109 : BitVec 32 := 0#32
  let v124 : BitVec 32 := Scalar.select v123 c7_i32_108 c0_i32_109
  let v125 : BitVec 32 := Scalar.addi v122 v124
  let c7_i32_110 : BitVec 32 := 7#32
  let v126 : BitVec 1 := Scalar.cmpi .eq v104 c7_i32_110
  let c3_i32_111 : BitVec 32 := 3#32
  let c0_i32_112 : BitVec 32 := 0#32
  let v127 : BitVec 32 := Scalar.select v126 c3_i32_111 c0_i32_112
  let v128 : BitVec 32 := Scalar.addi v125 v127
  let c8_i32_113 : BitVec 32 := 8#32
  let v129 : BitVec 1 := Scalar.cmpi .eq v104 c8_i32_113
  let c2_i32_114 : BitVec 32 := 2#32
  let c0_i32_115 : BitVec 32 := 0#32
  let v130 : BitVec 32 := Scalar.select v129 c2_i32_114 c0_i32_115
  let v131 : BitVec 32 := Scalar.addi v128 v130
  let c9_i32_116 : BitVec 32 := 9#32
  let v132 : BitVec 1 := Scalar.cmpi .eq v104 c9_i32_116
  let c6_i32_117 : BitVec 32 := 6#32
  let c0_i32_118 : BitVec 32 := 0#32
  let v133 : BitVec 32 := Scalar.select v132 c6_i32_117 c0_i32_118
  let v134 : BitVec 32 := Scalar.addi v131 v133
  let c10_i32_119 : BitVec 32 := 10#32
  let v135 : BitVec 1 := Scalar.cmpi .eq v104 c10_i32_119
  let c10_i32_120 : BitVec 32 := 10#32
  let c0_i32_121 : BitVec 32 := 0#32
  let v136 : BitVec 32 := Scalar.select v135 c10_i32_120 c0_i32_121
  let v137 : BitVec 32 := Scalar.addi v134 v136
  let c11_i32_122 : BitVec 32 := 11#32
  let v138 : BitVec 1 := Scalar.cmpi .eq v104 c11_i32_122
  let c14_i32_123 : BitVec 32 := 14#32
  let c0_i32_124 : BitVec 32 := 0#32
  let v139 : BitVec 32 := Scalar.select v138 c14_i32_123 c0_i32_124
  let v140 : BitVec 32 := Scalar.addi v137 v139
  let c12_i32_125 : BitVec 32 := 12#32
  let v141 : BitVec 1 := Scalar.cmpi .eq v104 c12_i32_125
  let c13_i32_126 : BitVec 32 := 13#32
  let c0_i32_127 : BitVec 32 := 0#32
  let v142 : BitVec 32 := Scalar.select v141 c13_i32_126 c0_i32_127
  let v143 : BitVec 32 := Scalar.addi v140 v142
  let c13_i32_128 : BitVec 32 := 13#32
  let v144 : BitVec 1 := Scalar.cmpi .eq v104 c13_i32_128
  let c9_i32_129 : BitVec 32 := 9#32
  let c0_i32_130 : BitVec 32 := 0#32
  let v145 : BitVec 32 := Scalar.select v144 c9_i32_129 c0_i32_130
  let v146 : BitVec 32 := Scalar.addi v143 v145
  let c14_i32_131 : BitVec 32 := 14#32
  let v147 : BitVec 1 := Scalar.cmpi .eq v104 c14_i32_131
  let c5_i32_132 : BitVec 32 := 5#32
  let c0_i32_133 : BitVec 32 := 0#32
  let v148 : BitVec 32 := Scalar.select v147 c5_i32_132 c0_i32_133
  let v149 : BitVec 32 := Scalar.addi v146 v148
  let c15_i32_134 : BitVec 32 := 15#32
  let v150 : BitVec 1 := Scalar.cmpi .eq v104 c15_i32_134
  let c1_i32_135 : BitVec 32 := 1#32
  let c0_i32_136 : BitVec 32 := 0#32
  let v151 : BitVec 32 := Scalar.select v150 c1_i32_135 c0_i32_136
  let v152 : BitVec 32 := Scalar.addi v149 v151
  let c1_i32_2852 : BitVec 32 := 1#32
  let v3949 : BitVec 32 := Scalar.muli v152 c1_i32_2852
  let v3950 : BitVec 32 := Scalar.addi c0_i32_2853 v3949
  v3950.toNat
def k0_dev42 (d0 : Dev nD) : Nat :=
  let c0_i32_2863 : BitVec 32 := 0#32
  let c0_i32_39 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_34 : BitVec 32 := 1#32
  let v51 : BitVec 32 := Scalar.subi v50 c1_i32_34
  let c32_i32 : BitVec 32 := 32#32
  let v52 : BitVec 32 := Scalar.addi v51 c32_i32
  let c16_i32_35 : BitVec 32 := 16#32
  let v53 : BitVec 32 := Scalar.remsi v52 c16_i32_35
  let c0_i32_36 : BitVec 32 := 0#32
  let v54 : BitVec 1 := Scalar.cmpi .eq v53 c0_i32_36
  let c0_i32_37 : BitVec 32 := 0#32
  let c0_i32_38 : BitVec 32 := 0#32
  let v55 : BitVec 32 := Scalar.select v54 c0_i32_37 c0_i32_38
  let v56 : BitVec 32 := Scalar.addi c0_i32_39 v55
  let c1_i32_40 : BitVec 32 := 1#32
  let v57 : BitVec 1 := Scalar.cmpi .eq v53 c1_i32_40
  let c4_i32_41 : BitVec 32 := 4#32
  let c0_i32_42 : BitVec 32 := 0#32
  let v58 : BitVec 32 := Scalar.select v57 c4_i32_41 c0_i32_42
  let v59 : BitVec 32 := Scalar.addi v56 v58
  let c2_i32_43 : BitVec 32 := 2#32
  let v60 : BitVec 1 := Scalar.cmpi .eq v53 c2_i32_43
  let c8_i32_44 : BitVec 32 := 8#32
  let c0_i32_45 : BitVec 32 := 0#32
  let v61 : BitVec 32 := Scalar.select v60 c8_i32_44 c0_i32_45
  let v62 : BitVec 32 := Scalar.addi v59 v61
  let c3_i32_46 : BitVec 32 := 3#32
  let v63 : BitVec 1 := Scalar.cmpi .eq v53 c3_i32_46
  let c12_i32_47 : BitVec 32 := 12#32
  let c0_i32_48 : BitVec 32 := 0#32
  let v64 : BitVec 32 := Scalar.select v63 c12_i32_47 c0_i32_48
  let v65 : BitVec 32 := Scalar.addi v62 v64
  let c4_i32_49 : BitVec 32 := 4#32
  let v66 : BitVec 1 := Scalar.cmpi .eq v53 c4_i32_49
  let c15_i32_50 : BitVec 32 := 15#32
  let c0_i32_51 : BitVec 32 := 0#32
  let v67 : BitVec 32 := Scalar.select v66 c15_i32_50 c0_i32_51
  let v68 : BitVec 32 := Scalar.addi v65 v67
  let c5_i32_52 : BitVec 32 := 5#32
  let v69 : BitVec 1 := Scalar.cmpi .eq v53 c5_i32_52
  let c11_i32_53 : BitVec 32 := 11#32
  let c0_i32_54 : BitVec 32 := 0#32
  let v70 : BitVec 32 := Scalar.select v69 c11_i32_53 c0_i32_54
  let v71 : BitVec 32 := Scalar.addi v68 v70
  let c6_i32_55 : BitVec 32 := 6#32
  let v72 : BitVec 1 := Scalar.cmpi .eq v53 c6_i32_55
  let c7_i32_56 : BitVec 32 := 7#32
  let c0_i32_57 : BitVec 32 := 0#32
  let v73 : BitVec 32 := Scalar.select v72 c7_i32_56 c0_i32_57
  let v74 : BitVec 32 := Scalar.addi v71 v73
  let c7_i32_58 : BitVec 32 := 7#32
  let v75 : BitVec 1 := Scalar.cmpi .eq v53 c7_i32_58
  let c3_i32_59 : BitVec 32 := 3#32
  let c0_i32_60 : BitVec 32 := 0#32
  let v76 : BitVec 32 := Scalar.select v75 c3_i32_59 c0_i32_60
  let v77 : BitVec 32 := Scalar.addi v74 v76
  let c8_i32_61 : BitVec 32 := 8#32
  let v78 : BitVec 1 := Scalar.cmpi .eq v53 c8_i32_61
  let c2_i32_62 : BitVec 32 := 2#32
  let c0_i32_63 : BitVec 32 := 0#32
  let v79 : BitVec 32 := Scalar.select v78 c2_i32_62 c0_i32_63
  let v80 : BitVec 32 := Scalar.addi v77 v79
  let c9_i32_64 : BitVec 32 := 9#32
  let v81 : BitVec 1 := Scalar.cmpi .eq v53 c9_i32_64
  let c6_i32_65 : BitVec 32 := 6#32
  let c0_i32_66 : BitVec 32 := 0#32
  let v82 : BitVec 32 := Scalar.select v81 c6_i32_65 c0_i32_66
  let v83 : BitVec 32 := Scalar.addi v80 v82
  let c10_i32_67 : BitVec 32 := 10#32
  let v84 : BitVec 1 := Scalar.cmpi .eq v53 c10_i32_67
  let c10_i32_68 : BitVec 32 := 10#32
  let c0_i32_69 : BitVec 32 := 0#32
  let v85 : BitVec 32 := Scalar.select v84 c10_i32_68 c0_i32_69
  let v86 : BitVec 32 := Scalar.addi v83 v85
  let c11_i32_70 : BitVec 32 := 11#32
  let v87 : BitVec 1 := Scalar.cmpi .eq v53 c11_i32_70
  let c14_i32_71 : BitVec 32 := 14#32
  let c0_i32_72 : BitVec 32 := 0#32
  let v88 : BitVec 32 := Scalar.select v87 c14_i32_71 c0_i32_72
  let v89 : BitVec 32 := Scalar.addi v86 v88
  let c12_i32_73 : BitVec 32 := 12#32
  let v90 : BitVec 1 := Scalar.cmpi .eq v53 c12_i32_73
  let c13_i32_74 : BitVec 32 := 13#32
  let c0_i32_75 : BitVec 32 := 0#32
  let v91 : BitVec 32 := Scalar.select v90 c13_i32_74 c0_i32_75
  let v92 : BitVec 32 := Scalar.addi v89 v91
  let c13_i32_76 : BitVec 32 := 13#32
  let v93 : BitVec 1 := Scalar.cmpi .eq v53 c13_i32_76
  let c9_i32_77 : BitVec 32 := 9#32
  let c0_i32_78 : BitVec 32 := 0#32
  let v94 : BitVec 32 := Scalar.select v93 c9_i32_77 c0_i32_78
  let v95 : BitVec 32 := Scalar.addi v92 v94
  let c14_i32_79 : BitVec 32 := 14#32
  let v96 : BitVec 1 := Scalar.cmpi .eq v53 c14_i32_79
  let c5_i32_80 : BitVec 32 := 5#32
  let c0_i32_81 : BitVec 32 := 0#32
  let v97 : BitVec 32 := Scalar.select v96 c5_i32_80 c0_i32_81
  let v98 : BitVec 32 := Scalar.addi v95 v97
  let c15_i32_82 : BitVec 32 := 15#32
  let v99 : BitVec 1 := Scalar.cmpi .eq v53 c15_i32_82
  let c1_i32_83 : BitVec 32 := 1#32
  let c0_i32_84 : BitVec 32 := 0#32
  let v100 : BitVec 32 := Scalar.select v99 c1_i32_83 c0_i32_84
  let v101 : BitVec 32 := Scalar.addi v98 v100
  let c1_i32_2862 : BitVec 32 := 1#32
  let v3959 : BitVec 32 := Scalar.muli v101 c1_i32_2862
  let v3960 : BitVec 32 := Scalar.addi c0_i32_2863 v3959
  v3960.toNat
def k0_dev43 (d0 : Dev nD) : Nat :=
  let c0_i32_3091 : BitVec 32 := 0#32
  let c0_i32_91 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_85 : BitVec 32 := 1#32
  let v102 : BitVec 32 := Scalar.addi v50 c1_i32_85
  let c32_i32_86 : BitVec 32 := 32#32
  let v103 : BitVec 32 := Scalar.addi v102 c32_i32_86
  let c16_i32_87 : BitVec 32 := 16#32
  let v104 : BitVec 32 := Scalar.remsi v103 c16_i32_87
  let c0_i32_88 : BitVec 32 := 0#32
  let v105 : BitVec 1 := Scalar.cmpi .eq v104 c0_i32_88
  let c0_i32_89 : BitVec 32 := 0#32
  let c0_i32_90 : BitVec 32 := 0#32
  let v106 : BitVec 32 := Scalar.select v105 c0_i32_89 c0_i32_90
  let v107 : BitVec 32 := Scalar.addi c0_i32_91 v106
  let c1_i32_92 : BitVec 32 := 1#32
  let v108 : BitVec 1 := Scalar.cmpi .eq v104 c1_i32_92
  let c4_i32_93 : BitVec 32 := 4#32
  let c0_i32_94 : BitVec 32 := 0#32
  let v109 : BitVec 32 := Scalar.select v108 c4_i32_93 c0_i32_94
  let v110 : BitVec 32 := Scalar.addi v107 v109
  let c2_i32_95 : BitVec 32 := 2#32
  let v111 : BitVec 1 := Scalar.cmpi .eq v104 c2_i32_95
  let c8_i32_96 : BitVec 32 := 8#32
  let c0_i32_97 : BitVec 32 := 0#32
  let v112 : BitVec 32 := Scalar.select v111 c8_i32_96 c0_i32_97
  let v113 : BitVec 32 := Scalar.addi v110 v112
  let c3_i32_98 : BitVec 32 := 3#32
  let v114 : BitVec 1 := Scalar.cmpi .eq v104 c3_i32_98
  let c12_i32_99 : BitVec 32 := 12#32
  let c0_i32_100 : BitVec 32 := 0#32
  let v115 : BitVec 32 := Scalar.select v114 c12_i32_99 c0_i32_100
  let v116 : BitVec 32 := Scalar.addi v113 v115
  let c4_i32_101 : BitVec 32 := 4#32
  let v117 : BitVec 1 := Scalar.cmpi .eq v104 c4_i32_101
  let c15_i32_102 : BitVec 32 := 15#32
  let c0_i32_103 : BitVec 32 := 0#32
  let v118 : BitVec 32 := Scalar.select v117 c15_i32_102 c0_i32_103
  let v119 : BitVec 32 := Scalar.addi v116 v118
  let c5_i32_104 : BitVec 32 := 5#32
  let v120 : BitVec 1 := Scalar.cmpi .eq v104 c5_i32_104
  let c11_i32_105 : BitVec 32 := 11#32
  let c0_i32_106 : BitVec 32 := 0#32
  let v121 : BitVec 32 := Scalar.select v120 c11_i32_105 c0_i32_106
  let v122 : BitVec 32 := Scalar.addi v119 v121
  let c6_i32_107 : BitVec 32 := 6#32
  let v123 : BitVec 1 := Scalar.cmpi .eq v104 c6_i32_107
  let c7_i32_108 : BitVec 32 := 7#32
  let c0_i32_109 : BitVec 32 := 0#32
  let v124 : BitVec 32 := Scalar.select v123 c7_i32_108 c0_i32_109
  let v125 : BitVec 32 := Scalar.addi v122 v124
  let c7_i32_110 : BitVec 32 := 7#32
  let v126 : BitVec 1 := Scalar.cmpi .eq v104 c7_i32_110
  let c3_i32_111 : BitVec 32 := 3#32
  let c0_i32_112 : BitVec 32 := 0#32
  let v127 : BitVec 32 := Scalar.select v126 c3_i32_111 c0_i32_112
  let v128 : BitVec 32 := Scalar.addi v125 v127
  let c8_i32_113 : BitVec 32 := 8#32
  let v129 : BitVec 1 := Scalar.cmpi .eq v104 c8_i32_113
  let c2_i32_114 : BitVec 32 := 2#32
  let c0_i32_115 : BitVec 32 := 0#32
  let v130 : BitVec 32 := Scalar.select v129 c2_i32_114 c0_i32_115
  let v131 : BitVec 32 := Scalar.addi v128 v130
  let c9_i32_116 : BitVec 32 := 9#32
  let v132 : BitVec 1 := Scalar.cmpi .eq v104 c9_i32_116
  let c6_i32_117 : BitVec 32 := 6#32
  let c0_i32_118 : BitVec 32 := 0#32
  let v133 : BitVec 32 := Scalar.select v132 c6_i32_117 c0_i32_118
  let v134 : BitVec 32 := Scalar.addi v131 v133
  let c10_i32_119 : BitVec 32 := 10#32
  let v135 : BitVec 1 := Scalar.cmpi .eq v104 c10_i32_119
  let c10_i32_120 : BitVec 32 := 10#32
  let c0_i32_121 : BitVec 32 := 0#32
  let v136 : BitVec 32 := Scalar.select v135 c10_i32_120 c0_i32_121
  let v137 : BitVec 32 := Scalar.addi v134 v136
  let c11_i32_122 : BitVec 32 := 11#32
  let v138 : BitVec 1 := Scalar.cmpi .eq v104 c11_i32_122
  let c14_i32_123 : BitVec 32 := 14#32
  let c0_i32_124 : BitVec 32 := 0#32
  let v139 : BitVec 32 := Scalar.select v138 c14_i32_123 c0_i32_124
  let v140 : BitVec 32 := Scalar.addi v137 v139
  let c12_i32_125 : BitVec 32 := 12#32
  let v141 : BitVec 1 := Scalar.cmpi .eq v104 c12_i32_125
  let c13_i32_126 : BitVec 32 := 13#32
  let c0_i32_127 : BitVec 32 := 0#32
  let v142 : BitVec 32 := Scalar.select v141 c13_i32_126 c0_i32_127
  let v143 : BitVec 32 := Scalar.addi v140 v142
  let c13_i32_128 : BitVec 32 := 13#32
  let v144 : BitVec 1 := Scalar.cmpi .eq v104 c13_i32_128
  let c9_i32_129 : BitVec 32 := 9#32
  let c0_i32_130 : BitVec 32 := 0#32
  let v145 : BitVec 32 := Scalar.select v144 c9_i32_129 c0_i32_130
  let v146 : BitVec 32 := Scalar.addi v143 v145
  let c14_i32_131 : BitVec 32 := 14#32
  let v147 : BitVec 1 := Scalar.cmpi .eq v104 c14_i32_131
  let c5_i32_132 : BitVec 32 := 5#32
  let c0_i32_133 : BitVec 32 := 0#32
  let v148 : BitVec 32 := Scalar.select v147 c5_i32_132 c0_i32_133
  let v149 : BitVec 32 := Scalar.addi v146 v148
  let c15_i32_134 : BitVec 32 := 15#32
  let v150 : BitVec 1 := Scalar.cmpi .eq v104 c15_i32_134
  let c1_i32_135 : BitVec 32 := 1#32
  let c0_i32_136 : BitVec 32 := 0#32
  let v151 : BitVec 32 := Scalar.select v150 c1_i32_135 c0_i32_136
  let v152 : BitVec 32 := Scalar.addi v149 v151
  let c1_i32_3090 : BitVec 32 := 1#32
  let v4283 : BitVec 32 := Scalar.muli v152 c1_i32_3090
  let v4284 : BitVec 32 := Scalar.addi c0_i32_3091 v4283
  v4284.toNat
def k0_dev44 (d0 : Dev nD) : Nat :=
  let c0_i32_3103 : BitVec 32 := 0#32
  let c0_i32_39 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_34 : BitVec 32 := 1#32
  let v51 : BitVec 32 := Scalar.subi v50 c1_i32_34
  let c32_i32 : BitVec 32 := 32#32
  let v52 : BitVec 32 := Scalar.addi v51 c32_i32
  let c16_i32_35 : BitVec 32 := 16#32
  let v53 : BitVec 32 := Scalar.remsi v52 c16_i32_35
  let c0_i32_36 : BitVec 32 := 0#32
  let v54 : BitVec 1 := Scalar.cmpi .eq v53 c0_i32_36
  let c0_i32_37 : BitVec 32 := 0#32
  let c0_i32_38 : BitVec 32 := 0#32
  let v55 : BitVec 32 := Scalar.select v54 c0_i32_37 c0_i32_38
  let v56 : BitVec 32 := Scalar.addi c0_i32_39 v55
  let c1_i32_40 : BitVec 32 := 1#32
  let v57 : BitVec 1 := Scalar.cmpi .eq v53 c1_i32_40
  let c4_i32_41 : BitVec 32 := 4#32
  let c0_i32_42 : BitVec 32 := 0#32
  let v58 : BitVec 32 := Scalar.select v57 c4_i32_41 c0_i32_42
  let v59 : BitVec 32 := Scalar.addi v56 v58
  let c2_i32_43 : BitVec 32 := 2#32
  let v60 : BitVec 1 := Scalar.cmpi .eq v53 c2_i32_43
  let c8_i32_44 : BitVec 32 := 8#32
  let c0_i32_45 : BitVec 32 := 0#32
  let v61 : BitVec 32 := Scalar.select v60 c8_i32_44 c0_i32_45
  let v62 : BitVec 32 := Scalar.addi v59 v61
  let c3_i32_46 : BitVec 32 := 3#32
  let v63 : BitVec 1 := Scalar.cmpi .eq v53 c3_i32_46
  let c12_i32_47 : BitVec 32 := 12#32
  let c0_i32_48 : BitVec 32 := 0#32
  let v64 : BitVec 32 := Scalar.select v63 c12_i32_47 c0_i32_48
  let v65 : BitVec 32 := Scalar.addi v62 v64
  let c4_i32_49 : BitVec 32 := 4#32
  let v66 : BitVec 1 := Scalar.cmpi .eq v53 c4_i32_49
  let c15_i32_50 : BitVec 32 := 15#32
  let c0_i32_51 : BitVec 32 := 0#32
  let v67 : BitVec 32 := Scalar.select v66 c15_i32_50 c0_i32_51
  let v68 : BitVec 32 := Scalar.addi v65 v67
  let c5_i32_52 : BitVec 32 := 5#32
  let v69 : BitVec 1 := Scalar.cmpi .eq v53 c5_i32_52
  let c11_i32_53 : BitVec 32 := 11#32
  let c0_i32_54 : BitVec 32 := 0#32
  let v70 : BitVec 32 := Scalar.select v69 c11_i32_53 c0_i32_54
  let v71 : BitVec 32 := Scalar.addi v68 v70
  let c6_i32_55 : BitVec 32 := 6#32
  let v72 : BitVec 1 := Scalar.cmpi .eq v53 c6_i32_55
  let c7_i32_56 : BitVec 32 := 7#32
  let c0_i32_57 : BitVec 32 := 0#32
  let v73 : BitVec 32 := Scalar.select v72 c7_i32_56 c0_i32_57
  let v74 : BitVec 32 := Scalar.addi v71 v73
  let c7_i32_58 : BitVec 32 := 7#32
  let v75 : BitVec 1 := Scalar.cmpi .eq v53 c7_i32_58
  let c3_i32_59 : BitVec 32 := 3#32
  let c0_i32_60 : BitVec 32 := 0#32
  let v76 : BitVec 32 := Scalar.select v75 c3_i32_59 c0_i32_60
  let v77 : BitVec 32 := Scalar.addi v74 v76
  let c8_i32_61 : BitVec 32 := 8#32
  let v78 : BitVec 1 := Scalar.cmpi .eq v53 c8_i32_61
  let c2_i32_62 : BitVec 32 := 2#32
  let c0_i32_63 : BitVec 32 := 0#32
  let v79 : BitVec 32 := Scalar.select v78 c2_i32_62 c0_i32_63
  let v80 : BitVec 32 := Scalar.addi v77 v79
  let c9_i32_64 : BitVec 32 := 9#32
  let v81 : BitVec 1 := Scalar.cmpi .eq v53 c9_i32_64
  let c6_i32_65 : BitVec 32 := 6#32
  let c0_i32_66 : BitVec 32 := 0#32
  let v82 : BitVec 32 := Scalar.select v81 c6_i32_65 c0_i32_66
  let v83 : BitVec 32 := Scalar.addi v80 v82
  let c10_i32_67 : BitVec 32 := 10#32
  let v84 : BitVec 1 := Scalar.cmpi .eq v53 c10_i32_67
  let c10_i32_68 : BitVec 32 := 10#32
  let c0_i32_69 : BitVec 32 := 0#32
  let v85 : BitVec 32 := Scalar.select v84 c10_i32_68 c0_i32_69
  let v86 : BitVec 32 := Scalar.addi v83 v85
  let c11_i32_70 : BitVec 32 := 11#32
  let v87 : BitVec 1 := Scalar.cmpi .eq v53 c11_i32_70
  let c14_i32_71 : BitVec 32 := 14#32
  let c0_i32_72 : BitVec 32 := 0#32
  let v88 : BitVec 32 := Scalar.select v87 c14_i32_71 c0_i32_72
  let v89 : BitVec 32 := Scalar.addi v86 v88
  let c12_i32_73 : BitVec 32 := 12#32
  let v90 : BitVec 1 := Scalar.cmpi .eq v53 c12_i32_73
  let c13_i32_74 : BitVec 32 := 13#32
  let c0_i32_75 : BitVec 32 := 0#32
  let v91 : BitVec 32 := Scalar.select v90 c13_i32_74 c0_i32_75
  let v92 : BitVec 32 := Scalar.addi v89 v91
  let c13_i32_76 : BitVec 32 := 13#32
  let v93 : BitVec 1 := Scalar.cmpi .eq v53 c13_i32_76
  let c9_i32_77 : BitVec 32 := 9#32
  let c0_i32_78 : BitVec 32 := 0#32
  let v94 : BitVec 32 := Scalar.select v93 c9_i32_77 c0_i32_78
  let v95 : BitVec 32 := Scalar.addi v92 v94
  let c14_i32_79 : BitVec 32 := 14#32
  let v96 : BitVec 1 := Scalar.cmpi .eq v53 c14_i32_79
  let c5_i32_80 : BitVec 32 := 5#32
  let c0_i32_81 : BitVec 32 := 0#32
  let v97 : BitVec 32 := Scalar.select v96 c5_i32_80 c0_i32_81
  let v98 : BitVec 32 := Scalar.addi v95 v97
  let c15_i32_82 : BitVec 32 := 15#32
  let v99 : BitVec 1 := Scalar.cmpi .eq v53 c15_i32_82
  let c1_i32_83 : BitVec 32 := 1#32
  let c0_i32_84 : BitVec 32 := 0#32
  let v100 : BitVec 32 := Scalar.select v99 c1_i32_83 c0_i32_84
  let v101 : BitVec 32 := Scalar.addi v98 v100
  let c1_i32_3102 : BitVec 32 := 1#32
  let v4297 : BitVec 32 := Scalar.muli v101 c1_i32_3102
  let v4298 : BitVec 32 := Scalar.addi c0_i32_3103 v4297
  v4298.toNat
def k0_dev45 (d0 : Dev nD) : Nat :=
  let c0_i32_3111 : BitVec 32 := 0#32
  let c0_i32_91 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_85 : BitVec 32 := 1#32
  let v102 : BitVec 32 := Scalar.addi v50 c1_i32_85
  let c32_i32_86 : BitVec 32 := 32#32
  let v103 : BitVec 32 := Scalar.addi v102 c32_i32_86
  let c16_i32_87 : BitVec 32 := 16#32
  let v104 : BitVec 32 := Scalar.remsi v103 c16_i32_87
  let c0_i32_88 : BitVec 32 := 0#32
  let v105 : BitVec 1 := Scalar.cmpi .eq v104 c0_i32_88
  let c0_i32_89 : BitVec 32 := 0#32
  let c0_i32_90 : BitVec 32 := 0#32
  let v106 : BitVec 32 := Scalar.select v105 c0_i32_89 c0_i32_90
  let v107 : BitVec 32 := Scalar.addi c0_i32_91 v106
  let c1_i32_92 : BitVec 32 := 1#32
  let v108 : BitVec 1 := Scalar.cmpi .eq v104 c1_i32_92
  let c4_i32_93 : BitVec 32 := 4#32
  let c0_i32_94 : BitVec 32 := 0#32
  let v109 : BitVec 32 := Scalar.select v108 c4_i32_93 c0_i32_94
  let v110 : BitVec 32 := Scalar.addi v107 v109
  let c2_i32_95 : BitVec 32 := 2#32
  let v111 : BitVec 1 := Scalar.cmpi .eq v104 c2_i32_95
  let c8_i32_96 : BitVec 32 := 8#32
  let c0_i32_97 : BitVec 32 := 0#32
  let v112 : BitVec 32 := Scalar.select v111 c8_i32_96 c0_i32_97
  let v113 : BitVec 32 := Scalar.addi v110 v112
  let c3_i32_98 : BitVec 32 := 3#32
  let v114 : BitVec 1 := Scalar.cmpi .eq v104 c3_i32_98
  let c12_i32_99 : BitVec 32 := 12#32
  let c0_i32_100 : BitVec 32 := 0#32
  let v115 : BitVec 32 := Scalar.select v114 c12_i32_99 c0_i32_100
  let v116 : BitVec 32 := Scalar.addi v113 v115
  let c4_i32_101 : BitVec 32 := 4#32
  let v117 : BitVec 1 := Scalar.cmpi .eq v104 c4_i32_101
  let c15_i32_102 : BitVec 32 := 15#32
  let c0_i32_103 : BitVec 32 := 0#32
  let v118 : BitVec 32 := Scalar.select v117 c15_i32_102 c0_i32_103
  let v119 : BitVec 32 := Scalar.addi v116 v118
  let c5_i32_104 : BitVec 32 := 5#32
  let v120 : BitVec 1 := Scalar.cmpi .eq v104 c5_i32_104
  let c11_i32_105 : BitVec 32 := 11#32
  let c0_i32_106 : BitVec 32 := 0#32
  let v121 : BitVec 32 := Scalar.select v120 c11_i32_105 c0_i32_106
  let v122 : BitVec 32 := Scalar.addi v119 v121
  let c6_i32_107 : BitVec 32 := 6#32
  let v123 : BitVec 1 := Scalar.cmpi .eq v104 c6_i32_107
  let c7_i32_108 : BitVec 32 := 7#32
  let c0_i32_109 : BitVec 32 := 0#32
  let v124 : BitVec 32 := Scalar.select v123 c7_i32_108 c0_i32_109
  let v125 : BitVec 32 := Scalar.addi v122 v124
  let c7_i32_110 : BitVec 32 := 7#32
  let v126 : BitVec 1 := Scalar.cmpi .eq v104 c7_i32_110
  let c3_i32_111 : BitVec 32 := 3#32
  let c0_i32_112 : BitVec 32 := 0#32
  let v127 : BitVec 32 := Scalar.select v126 c3_i32_111 c0_i32_112
  let v128 : BitVec 32 := Scalar.addi v125 v127
  let c8_i32_113 : BitVec 32 := 8#32
  let v129 : BitVec 1 := Scalar.cmpi .eq v104 c8_i32_113
  let c2_i32_114 : BitVec 32 := 2#32
  let c0_i32_115 : BitVec 32 := 0#32
  let v130 : BitVec 32 := Scalar.select v129 c2_i32_114 c0_i32_115
  let v131 : BitVec 32 := Scalar.addi v128 v130
  let c9_i32_116 : BitVec 32 := 9#32
  let v132 : BitVec 1 := Scalar.cmpi .eq v104 c9_i32_116
  let c6_i32_117 : BitVec 32 := 6#32
  let c0_i32_118 : BitVec 32 := 0#32
  let v133 : BitVec 32 := Scalar.select v132 c6_i32_117 c0_i32_118
  let v134 : BitVec 32 := Scalar.addi v131 v133
  let c10_i32_119 : BitVec 32 := 10#32
  let v135 : BitVec 1 := Scalar.cmpi .eq v104 c10_i32_119
  let c10_i32_120 : BitVec 32 := 10#32
  let c0_i32_121 : BitVec 32 := 0#32
  let v136 : BitVec 32 := Scalar.select v135 c10_i32_120 c0_i32_121
  let v137 : BitVec 32 := Scalar.addi v134 v136
  let c11_i32_122 : BitVec 32 := 11#32
  let v138 : BitVec 1 := Scalar.cmpi .eq v104 c11_i32_122
  let c14_i32_123 : BitVec 32 := 14#32
  let c0_i32_124 : BitVec 32 := 0#32
  let v139 : BitVec 32 := Scalar.select v138 c14_i32_123 c0_i32_124
  let v140 : BitVec 32 := Scalar.addi v137 v139
  let c12_i32_125 : BitVec 32 := 12#32
  let v141 : BitVec 1 := Scalar.cmpi .eq v104 c12_i32_125
  let c13_i32_126 : BitVec 32 := 13#32
  let c0_i32_127 : BitVec 32 := 0#32
  let v142 : BitVec 32 := Scalar.select v141 c13_i32_126 c0_i32_127
  let v143 : BitVec 32 := Scalar.addi v140 v142
  let c13_i32_128 : BitVec 32 := 13#32
  let v144 : BitVec 1 := Scalar.cmpi .eq v104 c13_i32_128
  let c9_i32_129 : BitVec 32 := 9#32
  let c0_i32_130 : BitVec 32 := 0#32
  let v145 : BitVec 32 := Scalar.select v144 c9_i32_129 c0_i32_130
  let v146 : BitVec 32 := Scalar.addi v143 v145
  let c14_i32_131 : BitVec 32 := 14#32
  let v147 : BitVec 1 := Scalar.cmpi .eq v104 c14_i32_131
  let c5_i32_132 : BitVec 32 := 5#32
  let c0_i32_133 : BitVec 32 := 0#32
  let v148 : BitVec 32 := Scalar.select v147 c5_i32_132 c0_i32_133
  let v149 : BitVec 32 := Scalar.addi v146 v148
  let c15_i32_134 : BitVec 32 := 15#32
  let v150 : BitVec 1 := Scalar.cmpi .eq v104 c15_i32_134
  let c1_i32_135 : BitVec 32 := 1#32
  let c0_i32_136 : BitVec 32 := 0#32
  let v151 : BitVec 32 := Scalar.select v150 c1_i32_135 c0_i32_136
  let v152 : BitVec 32 := Scalar.addi v149 v151
  let c1_i32_3110 : BitVec 32 := 1#32
  let v4305 : BitVec 32 := Scalar.muli v152 c1_i32_3110
  let v4306 : BitVec 32 := Scalar.addi c0_i32_3111 v4305
  v4306.toNat
def k0_dev46 (d0 : Dev nD) : Nat :=
  let c0_i32_3121 : BitVec 32 := 0#32
  let c0_i32_39 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_34 : BitVec 32 := 1#32
  let v51 : BitVec 32 := Scalar.subi v50 c1_i32_34
  let c32_i32 : BitVec 32 := 32#32
  let v52 : BitVec 32 := Scalar.addi v51 c32_i32
  let c16_i32_35 : BitVec 32 := 16#32
  let v53 : BitVec 32 := Scalar.remsi v52 c16_i32_35
  let c0_i32_36 : BitVec 32 := 0#32
  let v54 : BitVec 1 := Scalar.cmpi .eq v53 c0_i32_36
  let c0_i32_37 : BitVec 32 := 0#32
  let c0_i32_38 : BitVec 32 := 0#32
  let v55 : BitVec 32 := Scalar.select v54 c0_i32_37 c0_i32_38
  let v56 : BitVec 32 := Scalar.addi c0_i32_39 v55
  let c1_i32_40 : BitVec 32 := 1#32
  let v57 : BitVec 1 := Scalar.cmpi .eq v53 c1_i32_40
  let c4_i32_41 : BitVec 32 := 4#32
  let c0_i32_42 : BitVec 32 := 0#32
  let v58 : BitVec 32 := Scalar.select v57 c4_i32_41 c0_i32_42
  let v59 : BitVec 32 := Scalar.addi v56 v58
  let c2_i32_43 : BitVec 32 := 2#32
  let v60 : BitVec 1 := Scalar.cmpi .eq v53 c2_i32_43
  let c8_i32_44 : BitVec 32 := 8#32
  let c0_i32_45 : BitVec 32 := 0#32
  let v61 : BitVec 32 := Scalar.select v60 c8_i32_44 c0_i32_45
  let v62 : BitVec 32 := Scalar.addi v59 v61
  let c3_i32_46 : BitVec 32 := 3#32
  let v63 : BitVec 1 := Scalar.cmpi .eq v53 c3_i32_46
  let c12_i32_47 : BitVec 32 := 12#32
  let c0_i32_48 : BitVec 32 := 0#32
  let v64 : BitVec 32 := Scalar.select v63 c12_i32_47 c0_i32_48
  let v65 : BitVec 32 := Scalar.addi v62 v64
  let c4_i32_49 : BitVec 32 := 4#32
  let v66 : BitVec 1 := Scalar.cmpi .eq v53 c4_i32_49
  let c15_i32_50 : BitVec 32 := 15#32
  let c0_i32_51 : BitVec 32 := 0#32
  let v67 : BitVec 32 := Scalar.select v66 c15_i32_50 c0_i32_51
  let v68 : BitVec 32 := Scalar.addi v65 v67
  let c5_i32_52 : BitVec 32 := 5#32
  let v69 : BitVec 1 := Scalar.cmpi .eq v53 c5_i32_52
  let c11_i32_53 : BitVec 32 := 11#32
  let c0_i32_54 : BitVec 32 := 0#32
  let v70 : BitVec 32 := Scalar.select v69 c11_i32_53 c0_i32_54
  let v71 : BitVec 32 := Scalar.addi v68 v70
  let c6_i32_55 : BitVec 32 := 6#32
  let v72 : BitVec 1 := Scalar.cmpi .eq v53 c6_i32_55
  let c7_i32_56 : BitVec 32 := 7#32
  let c0_i32_57 : BitVec 32 := 0#32
  let v73 : BitVec 32 := Scalar.select v72 c7_i32_56 c0_i32_57
  let v74 : BitVec 32 := Scalar.addi v71 v73
  let c7_i32_58 : BitVec 32 := 7#32
  let v75 : BitVec 1 := Scalar.cmpi .eq v53 c7_i32_58
  let c3_i32_59 : BitVec 32 := 3#32
  let c0_i32_60 : BitVec 32 := 0#32
  let v76 : BitVec 32 := Scalar.select v75 c3_i32_59 c0_i32_60
  let v77 : BitVec 32 := Scalar.addi v74 v76
  let c8_i32_61 : BitVec 32 := 8#32
  let v78 : BitVec 1 := Scalar.cmpi .eq v53 c8_i32_61
  let c2_i32_62 : BitVec 32 := 2#32
  let c0_i32_63 : BitVec 32 := 0#32
  let v79 : BitVec 32 := Scalar.select v78 c2_i32_62 c0_i32_63
  let v80 : BitVec 32 := Scalar.addi v77 v79
  let c9_i32_64 : BitVec 32 := 9#32
  let v81 : BitVec 1 := Scalar.cmpi .eq v53 c9_i32_64
  let c6_i32_65 : BitVec 32 := 6#32
  let c0_i32_66 : BitVec 32 := 0#32
  let v82 : BitVec 32 := Scalar.select v81 c6_i32_65 c0_i32_66
  let v83 : BitVec 32 := Scalar.addi v80 v82
  let c10_i32_67 : BitVec 32 := 10#32
  let v84 : BitVec 1 := Scalar.cmpi .eq v53 c10_i32_67
  let c10_i32_68 : BitVec 32 := 10#32
  let c0_i32_69 : BitVec 32 := 0#32
  let v85 : BitVec 32 := Scalar.select v84 c10_i32_68 c0_i32_69
  let v86 : BitVec 32 := Scalar.addi v83 v85
  let c11_i32_70 : BitVec 32 := 11#32
  let v87 : BitVec 1 := Scalar.cmpi .eq v53 c11_i32_70
  let c14_i32_71 : BitVec 32 := 14#32
  let c0_i32_72 : BitVec 32 := 0#32
  let v88 : BitVec 32 := Scalar.select v87 c14_i32_71 c0_i32_72
  let v89 : BitVec 32 := Scalar.addi v86 v88
  let c12_i32_73 : BitVec 32 := 12#32
  let v90 : BitVec 1 := Scalar.cmpi .eq v53 c12_i32_73
  let c13_i32_74 : BitVec 32 := 13#32
  let c0_i32_75 : BitVec 32 := 0#32
  let v91 : BitVec 32 := Scalar.select v90 c13_i32_74 c0_i32_75
  let v92 : BitVec 32 := Scalar.addi v89 v91
  let c13_i32_76 : BitVec 32 := 13#32
  let v93 : BitVec 1 := Scalar.cmpi .eq v53 c13_i32_76
  let c9_i32_77 : BitVec 32 := 9#32
  let c0_i32_78 : BitVec 32 := 0#32
  let v94 : BitVec 32 := Scalar.select v93 c9_i32_77 c0_i32_78
  let v95 : BitVec 32 := Scalar.addi v92 v94
  let c14_i32_79 : BitVec 32 := 14#32
  let v96 : BitVec 1 := Scalar.cmpi .eq v53 c14_i32_79
  let c5_i32_80 : BitVec 32 := 5#32
  let c0_i32_81 : BitVec 32 := 0#32
  let v97 : BitVec 32 := Scalar.select v96 c5_i32_80 c0_i32_81
  let v98 : BitVec 32 := Scalar.addi v95 v97
  let c15_i32_82 : BitVec 32 := 15#32
  let v99 : BitVec 1 := Scalar.cmpi .eq v53 c15_i32_82
  let c1_i32_83 : BitVec 32 := 1#32
  let c0_i32_84 : BitVec 32 := 0#32
  let v100 : BitVec 32 := Scalar.select v99 c1_i32_83 c0_i32_84
  let v101 : BitVec 32 := Scalar.addi v98 v100
  let c1_i32_3120 : BitVec 32 := 1#32
  let v4315 : BitVec 32 := Scalar.muli v101 c1_i32_3120
  let v4316 : BitVec 32 := Scalar.addi c0_i32_3121 v4315
  v4316.toNat
def k0_dev47 (d0 : Dev nD) : Nat :=
  let c0_i32_3349 : BitVec 32 := 0#32
  let c0_i32_91 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_85 : BitVec 32 := 1#32
  let v102 : BitVec 32 := Scalar.addi v50 c1_i32_85
  let c32_i32_86 : BitVec 32 := 32#32
  let v103 : BitVec 32 := Scalar.addi v102 c32_i32_86
  let c16_i32_87 : BitVec 32 := 16#32
  let v104 : BitVec 32 := Scalar.remsi v103 c16_i32_87
  let c0_i32_88 : BitVec 32 := 0#32
  let v105 : BitVec 1 := Scalar.cmpi .eq v104 c0_i32_88
  let c0_i32_89 : BitVec 32 := 0#32
  let c0_i32_90 : BitVec 32 := 0#32
  let v106 : BitVec 32 := Scalar.select v105 c0_i32_89 c0_i32_90
  let v107 : BitVec 32 := Scalar.addi c0_i32_91 v106
  let c1_i32_92 : BitVec 32 := 1#32
  let v108 : BitVec 1 := Scalar.cmpi .eq v104 c1_i32_92
  let c4_i32_93 : BitVec 32 := 4#32
  let c0_i32_94 : BitVec 32 := 0#32
  let v109 : BitVec 32 := Scalar.select v108 c4_i32_93 c0_i32_94
  let v110 : BitVec 32 := Scalar.addi v107 v109
  let c2_i32_95 : BitVec 32 := 2#32
  let v111 : BitVec 1 := Scalar.cmpi .eq v104 c2_i32_95
  let c8_i32_96 : BitVec 32 := 8#32
  let c0_i32_97 : BitVec 32 := 0#32
  let v112 : BitVec 32 := Scalar.select v111 c8_i32_96 c0_i32_97
  let v113 : BitVec 32 := Scalar.addi v110 v112
  let c3_i32_98 : BitVec 32 := 3#32
  let v114 : BitVec 1 := Scalar.cmpi .eq v104 c3_i32_98
  let c12_i32_99 : BitVec 32 := 12#32
  let c0_i32_100 : BitVec 32 := 0#32
  let v115 : BitVec 32 := Scalar.select v114 c12_i32_99 c0_i32_100
  let v116 : BitVec 32 := Scalar.addi v113 v115
  let c4_i32_101 : BitVec 32 := 4#32
  let v117 : BitVec 1 := Scalar.cmpi .eq v104 c4_i32_101
  let c15_i32_102 : BitVec 32 := 15#32
  let c0_i32_103 : BitVec 32 := 0#32
  let v118 : BitVec 32 := Scalar.select v117 c15_i32_102 c0_i32_103
  let v119 : BitVec 32 := Scalar.addi v116 v118
  let c5_i32_104 : BitVec 32 := 5#32
  let v120 : BitVec 1 := Scalar.cmpi .eq v104 c5_i32_104
  let c11_i32_105 : BitVec 32 := 11#32
  let c0_i32_106 : BitVec 32 := 0#32
  let v121 : BitVec 32 := Scalar.select v120 c11_i32_105 c0_i32_106
  let v122 : BitVec 32 := Scalar.addi v119 v121
  let c6_i32_107 : BitVec 32 := 6#32
  let v123 : BitVec 1 := Scalar.cmpi .eq v104 c6_i32_107
  let c7_i32_108 : BitVec 32 := 7#32
  let c0_i32_109 : BitVec 32 := 0#32
  let v124 : BitVec 32 := Scalar.select v123 c7_i32_108 c0_i32_109
  let v125 : BitVec 32 := Scalar.addi v122 v124
  let c7_i32_110 : BitVec 32 := 7#32
  let v126 : BitVec 1 := Scalar.cmpi .eq v104 c7_i32_110
  let c3_i32_111 : BitVec 32 := 3#32
  let c0_i32_112 : BitVec 32 := 0#32
  let v127 : BitVec 32 := Scalar.select v126 c3_i32_111 c0_i32_112
  let v128 : BitVec 32 := Scalar.addi v125 v127
  let c8_i32_113 : BitVec 32 := 8#32
  let v129 : BitVec 1 := Scalar.cmpi .eq v104 c8_i32_113
  let c2_i32_114 : BitVec 32 := 2#32
  let c0_i32_115 : BitVec 32 := 0#32
  let v130 : BitVec 32 := Scalar.select v129 c2_i32_114 c0_i32_115
  let v131 : BitVec 32 := Scalar.addi v128 v130
  let c9_i32_116 : BitVec 32 := 9#32
  let v132 : BitVec 1 := Scalar.cmpi .eq v104 c9_i32_116
  let c6_i32_117 : BitVec 32 := 6#32
  let c0_i32_118 : BitVec 32 := 0#32
  let v133 : BitVec 32 := Scalar.select v132 c6_i32_117 c0_i32_118
  let v134 : BitVec 32 := Scalar.addi v131 v133
  let c10_i32_119 : BitVec 32 := 10#32
  let v135 : BitVec 1 := Scalar.cmpi .eq v104 c10_i32_119
  let c10_i32_120 : BitVec 32 := 10#32
  let c0_i32_121 : BitVec 32 := 0#32
  let v136 : BitVec 32 := Scalar.select v135 c10_i32_120 c0_i32_121
  let v137 : BitVec 32 := Scalar.addi v134 v136
  let c11_i32_122 : BitVec 32 := 11#32
  let v138 : BitVec 1 := Scalar.cmpi .eq v104 c11_i32_122
  let c14_i32_123 : BitVec 32 := 14#32
  let c0_i32_124 : BitVec 32 := 0#32
  let v139 : BitVec 32 := Scalar.select v138 c14_i32_123 c0_i32_124
  let v140 : BitVec 32 := Scalar.addi v137 v139
  let c12_i32_125 : BitVec 32 := 12#32
  let v141 : BitVec 1 := Scalar.cmpi .eq v104 c12_i32_125
  let c13_i32_126 : BitVec 32 := 13#32
  let c0_i32_127 : BitVec 32 := 0#32
  let v142 : BitVec 32 := Scalar.select v141 c13_i32_126 c0_i32_127
  let v143 : BitVec 32 := Scalar.addi v140 v142
  let c13_i32_128 : BitVec 32 := 13#32
  let v144 : BitVec 1 := Scalar.cmpi .eq v104 c13_i32_128
  let c9_i32_129 : BitVec 32 := 9#32
  let c0_i32_130 : BitVec 32 := 0#32
  let v145 : BitVec 32 := Scalar.select v144 c9_i32_129 c0_i32_130
  let v146 : BitVec 32 := Scalar.addi v143 v145
  let c14_i32_131 : BitVec 32 := 14#32
  let v147 : BitVec 1 := Scalar.cmpi .eq v104 c14_i32_131
  let c5_i32_132 : BitVec 32 := 5#32
  let c0_i32_133 : BitVec 32 := 0#32
  let v148 : BitVec 32 := Scalar.select v147 c5_i32_132 c0_i32_133
  let v149 : BitVec 32 := Scalar.addi v146 v148
  let c15_i32_134 : BitVec 32 := 15#32
  let v150 : BitVec 1 := Scalar.cmpi .eq v104 c15_i32_134
  let c1_i32_135 : BitVec 32 := 1#32
  let c0_i32_136 : BitVec 32 := 0#32
  let v151 : BitVec 32 := Scalar.select v150 c1_i32_135 c0_i32_136
  let v152 : BitVec 32 := Scalar.addi v149 v151
  let c1_i32_3348 : BitVec 32 := 1#32
  let v4639 : BitVec 32 := Scalar.muli v152 c1_i32_3348
  let v4640 : BitVec 32 := Scalar.addi c0_i32_3349 v4639
  v4640.toNat
def k0_dev48 (d0 : Dev nD) : Nat :=
  let c0_i32_3361 : BitVec 32 := 0#32
  let c0_i32_39 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_34 : BitVec 32 := 1#32
  let v51 : BitVec 32 := Scalar.subi v50 c1_i32_34
  let c32_i32 : BitVec 32 := 32#32
  let v52 : BitVec 32 := Scalar.addi v51 c32_i32
  let c16_i32_35 : BitVec 32 := 16#32
  let v53 : BitVec 32 := Scalar.remsi v52 c16_i32_35
  let c0_i32_36 : BitVec 32 := 0#32
  let v54 : BitVec 1 := Scalar.cmpi .eq v53 c0_i32_36
  let c0_i32_37 : BitVec 32 := 0#32
  let c0_i32_38 : BitVec 32 := 0#32
  let v55 : BitVec 32 := Scalar.select v54 c0_i32_37 c0_i32_38
  let v56 : BitVec 32 := Scalar.addi c0_i32_39 v55
  let c1_i32_40 : BitVec 32 := 1#32
  let v57 : BitVec 1 := Scalar.cmpi .eq v53 c1_i32_40
  let c4_i32_41 : BitVec 32 := 4#32
  let c0_i32_42 : BitVec 32 := 0#32
  let v58 : BitVec 32 := Scalar.select v57 c4_i32_41 c0_i32_42
  let v59 : BitVec 32 := Scalar.addi v56 v58
  let c2_i32_43 : BitVec 32 := 2#32
  let v60 : BitVec 1 := Scalar.cmpi .eq v53 c2_i32_43
  let c8_i32_44 : BitVec 32 := 8#32
  let c0_i32_45 : BitVec 32 := 0#32
  let v61 : BitVec 32 := Scalar.select v60 c8_i32_44 c0_i32_45
  let v62 : BitVec 32 := Scalar.addi v59 v61
  let c3_i32_46 : BitVec 32 := 3#32
  let v63 : BitVec 1 := Scalar.cmpi .eq v53 c3_i32_46
  let c12_i32_47 : BitVec 32 := 12#32
  let c0_i32_48 : BitVec 32 := 0#32
  let v64 : BitVec 32 := Scalar.select v63 c12_i32_47 c0_i32_48
  let v65 : BitVec 32 := Scalar.addi v62 v64
  let c4_i32_49 : BitVec 32 := 4#32
  let v66 : BitVec 1 := Scalar.cmpi .eq v53 c4_i32_49
  let c15_i32_50 : BitVec 32 := 15#32
  let c0_i32_51 : BitVec 32 := 0#32
  let v67 : BitVec 32 := Scalar.select v66 c15_i32_50 c0_i32_51
  let v68 : BitVec 32 := Scalar.addi v65 v67
  let c5_i32_52 : BitVec 32 := 5#32
  let v69 : BitVec 1 := Scalar.cmpi .eq v53 c5_i32_52
  let c11_i32_53 : BitVec 32 := 11#32
  let c0_i32_54 : BitVec 32 := 0#32
  let v70 : BitVec 32 := Scalar.select v69 c11_i32_53 c0_i32_54
  let v71 : BitVec 32 := Scalar.addi v68 v70
  let c6_i32_55 : BitVec 32 := 6#32
  let v72 : BitVec 1 := Scalar.cmpi .eq v53 c6_i32_55
  let c7_i32_56 : BitVec 32 := 7#32
  let c0_i32_57 : BitVec 32 := 0#32
  let v73 : BitVec 32 := Scalar.select v72 c7_i32_56 c0_i32_57
  let v74 : BitVec 32 := Scalar.addi v71 v73
  let c7_i32_58 : BitVec 32 := 7#32
  let v75 : BitVec 1 := Scalar.cmpi .eq v53 c7_i32_58
  let c3_i32_59 : BitVec 32 := 3#32
  let c0_i32_60 : BitVec 32 := 0#32
  let v76 : BitVec 32 := Scalar.select v75 c3_i32_59 c0_i32_60
  let v77 : BitVec 32 := Scalar.addi v74 v76
  let c8_i32_61 : BitVec 32 := 8#32
  let v78 : BitVec 1 := Scalar.cmpi .eq v53 c8_i32_61
  let c2_i32_62 : BitVec 32 := 2#32
  let c0_i32_63 : BitVec 32 := 0#32
  let v79 : BitVec 32 := Scalar.select v78 c2_i32_62 c0_i32_63
  let v80 : BitVec 32 := Scalar.addi v77 v79
  let c9_i32_64 : BitVec 32 := 9#32
  let v81 : BitVec 1 := Scalar.cmpi .eq v53 c9_i32_64
  let c6_i32_65 : BitVec 32 := 6#32
  let c0_i32_66 : BitVec 32 := 0#32
  let v82 : BitVec 32 := Scalar.select v81 c6_i32_65 c0_i32_66
  let v83 : BitVec 32 := Scalar.addi v80 v82
  let c10_i32_67 : BitVec 32 := 10#32
  let v84 : BitVec 1 := Scalar.cmpi .eq v53 c10_i32_67
  let c10_i32_68 : BitVec 32 := 10#32
  let c0_i32_69 : BitVec 32 := 0#32
  let v85 : BitVec 32 := Scalar.select v84 c10_i32_68 c0_i32_69
  let v86 : BitVec 32 := Scalar.addi v83 v85
  let c11_i32_70 : BitVec 32 := 11#32
  let v87 : BitVec 1 := Scalar.cmpi .eq v53 c11_i32_70
  let c14_i32_71 : BitVec 32 := 14#32
  let c0_i32_72 : BitVec 32 := 0#32
  let v88 : BitVec 32 := Scalar.select v87 c14_i32_71 c0_i32_72
  let v89 : BitVec 32 := Scalar.addi v86 v88
  let c12_i32_73 : BitVec 32 := 12#32
  let v90 : BitVec 1 := Scalar.cmpi .eq v53 c12_i32_73
  let c13_i32_74 : BitVec 32 := 13#32
  let c0_i32_75 : BitVec 32 := 0#32
  let v91 : BitVec 32 := Scalar.select v90 c13_i32_74 c0_i32_75
  let v92 : BitVec 32 := Scalar.addi v89 v91
  let c13_i32_76 : BitVec 32 := 13#32
  let v93 : BitVec 1 := Scalar.cmpi .eq v53 c13_i32_76
  let c9_i32_77 : BitVec 32 := 9#32
  let c0_i32_78 : BitVec 32 := 0#32
  let v94 : BitVec 32 := Scalar.select v93 c9_i32_77 c0_i32_78
  let v95 : BitVec 32 := Scalar.addi v92 v94
  let c14_i32_79 : BitVec 32 := 14#32
  let v96 : BitVec 1 := Scalar.cmpi .eq v53 c14_i32_79
  let c5_i32_80 : BitVec 32 := 5#32
  let c0_i32_81 : BitVec 32 := 0#32
  let v97 : BitVec 32 := Scalar.select v96 c5_i32_80 c0_i32_81
  let v98 : BitVec 32 := Scalar.addi v95 v97
  let c15_i32_82 : BitVec 32 := 15#32
  let v99 : BitVec 1 := Scalar.cmpi .eq v53 c15_i32_82
  let c1_i32_83 : BitVec 32 := 1#32
  let c0_i32_84 : BitVec 32 := 0#32
  let v100 : BitVec 32 := Scalar.select v99 c1_i32_83 c0_i32_84
  let v101 : BitVec 32 := Scalar.addi v98 v100
  let c1_i32_3360 : BitVec 32 := 1#32
  let v4653 : BitVec 32 := Scalar.muli v101 c1_i32_3360
  let v4654 : BitVec 32 := Scalar.addi c0_i32_3361 v4653
  v4654.toNat
def k0_dev49 (d0 : Dev nD) : Nat :=
  let c0_i32_3369 : BitVec 32 := 0#32
  let c0_i32_91 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_85 : BitVec 32 := 1#32
  let v102 : BitVec 32 := Scalar.addi v50 c1_i32_85
  let c32_i32_86 : BitVec 32 := 32#32
  let v103 : BitVec 32 := Scalar.addi v102 c32_i32_86
  let c16_i32_87 : BitVec 32 := 16#32
  let v104 : BitVec 32 := Scalar.remsi v103 c16_i32_87
  let c0_i32_88 : BitVec 32 := 0#32
  let v105 : BitVec 1 := Scalar.cmpi .eq v104 c0_i32_88
  let c0_i32_89 : BitVec 32 := 0#32
  let c0_i32_90 : BitVec 32 := 0#32
  let v106 : BitVec 32 := Scalar.select v105 c0_i32_89 c0_i32_90
  let v107 : BitVec 32 := Scalar.addi c0_i32_91 v106
  let c1_i32_92 : BitVec 32 := 1#32
  let v108 : BitVec 1 := Scalar.cmpi .eq v104 c1_i32_92
  let c4_i32_93 : BitVec 32 := 4#32
  let c0_i32_94 : BitVec 32 := 0#32
  let v109 : BitVec 32 := Scalar.select v108 c4_i32_93 c0_i32_94
  let v110 : BitVec 32 := Scalar.addi v107 v109
  let c2_i32_95 : BitVec 32 := 2#32
  let v111 : BitVec 1 := Scalar.cmpi .eq v104 c2_i32_95
  let c8_i32_96 : BitVec 32 := 8#32
  let c0_i32_97 : BitVec 32 := 0#32
  let v112 : BitVec 32 := Scalar.select v111 c8_i32_96 c0_i32_97
  let v113 : BitVec 32 := Scalar.addi v110 v112
  let c3_i32_98 : BitVec 32 := 3#32
  let v114 : BitVec 1 := Scalar.cmpi .eq v104 c3_i32_98
  let c12_i32_99 : BitVec 32 := 12#32
  let c0_i32_100 : BitVec 32 := 0#32
  let v115 : BitVec 32 := Scalar.select v114 c12_i32_99 c0_i32_100
  let v116 : BitVec 32 := Scalar.addi v113 v115
  let c4_i32_101 : BitVec 32 := 4#32
  let v117 : BitVec 1 := Scalar.cmpi .eq v104 c4_i32_101
  let c15_i32_102 : BitVec 32 := 15#32
  let c0_i32_103 : BitVec 32 := 0#32
  let v118 : BitVec 32 := Scalar.select v117 c15_i32_102 c0_i32_103
  let v119 : BitVec 32 := Scalar.addi v116 v118
  let c5_i32_104 : BitVec 32 := 5#32
  let v120 : BitVec 1 := Scalar.cmpi .eq v104 c5_i32_104
  let c11_i32_105 : BitVec 32 := 11#32
  let c0_i32_106 : BitVec 32 := 0#32
  let v121 : BitVec 32 := Scalar.select v120 c11_i32_105 c0_i32_106
  let v122 : BitVec 32 := Scalar.addi v119 v121
  let c6_i32_107 : BitVec 32 := 6#32
  let v123 : BitVec 1 := Scalar.cmpi .eq v104 c6_i32_107
  let c7_i32_108 : BitVec 32 := 7#32
  let c0_i32_109 : BitVec 32 := 0#32
  let v124 : BitVec 32 := Scalar.select v123 c7_i32_108 c0_i32_109
  let v125 : BitVec 32 := Scalar.addi v122 v124
  let c7_i32_110 : BitVec 32 := 7#32
  let v126 : BitVec 1 := Scalar.cmpi .eq v104 c7_i32_110
  let c3_i32_111 : BitVec 32 := 3#32
  let c0_i32_112 : BitVec 32 := 0#32
  let v127 : BitVec 32 := Scalar.select v126 c3_i32_111 c0_i32_112
  let v128 : BitVec 32 := Scalar.addi v125 v127
  let c8_i32_113 : BitVec 32 := 8#32
  let v129 : BitVec 1 := Scalar.cmpi .eq v104 c8_i32_113
  let c2_i32_114 : BitVec 32 := 2#32
  let c0_i32_115 : BitVec 32 := 0#32
  let v130 : BitVec 32 := Scalar.select v129 c2_i32_114 c0_i32_115
  let v131 : BitVec 32 := Scalar.addi v128 v130
  let c9_i32_116 : BitVec 32 := 9#32
  let v132 : BitVec 1 := Scalar.cmpi .eq v104 c9_i32_116
  let c6_i32_117 : BitVec 32 := 6#32
  let c0_i32_118 : BitVec 32 := 0#32
  let v133 : BitVec 32 := Scalar.select v132 c6_i32_117 c0_i32_118
  let v134 : BitVec 32 := Scalar.addi v131 v133
  let c10_i32_119 : BitVec 32 := 10#32
  let v135 : BitVec 1 := Scalar.cmpi .eq v104 c10_i32_119
  let c10_i32_120 : BitVec 32 := 10#32
  let c0_i32_121 : BitVec 32 := 0#32
  let v136 : BitVec 32 := Scalar.select v135 c10_i32_120 c0_i32_121
  let v137 : BitVec 32 := Scalar.addi v134 v136
  let c11_i32_122 : BitVec 32 := 11#32
  let v138 : BitVec 1 := Scalar.cmpi .eq v104 c11_i32_122
  let c14_i32_123 : BitVec 32 := 14#32
  let c0_i32_124 : BitVec 32 := 0#32
  let v139 : BitVec 32 := Scalar.select v138 c14_i32_123 c0_i32_124
  let v140 : BitVec 32 := Scalar.addi v137 v139
  let c12_i32_125 : BitVec 32 := 12#32
  let v141 : BitVec 1 := Scalar.cmpi .eq v104 c12_i32_125
  let c13_i32_126 : BitVec 32 := 13#32
  let c0_i32_127 : BitVec 32 := 0#32
  let v142 : BitVec 32 := Scalar.select v141 c13_i32_126 c0_i32_127
  let v143 : BitVec 32 := Scalar.addi v140 v142
  let c13_i32_128 : BitVec 32 := 13#32
  let v144 : BitVec 1 := Scalar.cmpi .eq v104 c13_i32_128
  let c9_i32_129 : BitVec 32 := 9#32
  let c0_i32_130 : BitVec 32 := 0#32
  let v145 : BitVec 32 := Scalar.select v144 c9_i32_129 c0_i32_130
  let v146 : BitVec 32 := Scalar.addi v143 v145
  let c14_i32_131 : BitVec 32 := 14#32
  let v147 : BitVec 1 := Scalar.cmpi .eq v104 c14_i32_131
  let c5_i32_132 : BitVec 32 := 5#32
  let c0_i32_133 : BitVec 32 := 0#32
  let v148 : BitVec 32 := Scalar.select v147 c5_i32_132 c0_i32_133
  let v149 : BitVec 32 := Scalar.addi v146 v148
  let c15_i32_134 : BitVec 32 := 15#32
  let v150 : BitVec 1 := Scalar.cmpi .eq v104 c15_i32_134
  let c1_i32_135 : BitVec 32 := 1#32
  let c0_i32_136 : BitVec 32 := 0#32
  let v151 : BitVec 32 := Scalar.select v150 c1_i32_135 c0_i32_136
  let v152 : BitVec 32 := Scalar.addi v149 v151
  let c1_i32_3368 : BitVec 32 := 1#32
  let v4661 : BitVec 32 := Scalar.muli v152 c1_i32_3368
  let v4662 : BitVec 32 := Scalar.addi c0_i32_3369 v4661
  v4662.toNat
def k0_dev50 (d0 : Dev nD) : Nat :=
  let c0_i32_3379 : BitVec 32 := 0#32
  let c0_i32_39 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_34 : BitVec 32 := 1#32
  let v51 : BitVec 32 := Scalar.subi v50 c1_i32_34
  let c32_i32 : BitVec 32 := 32#32
  let v52 : BitVec 32 := Scalar.addi v51 c32_i32
  let c16_i32_35 : BitVec 32 := 16#32
  let v53 : BitVec 32 := Scalar.remsi v52 c16_i32_35
  let c0_i32_36 : BitVec 32 := 0#32
  let v54 : BitVec 1 := Scalar.cmpi .eq v53 c0_i32_36
  let c0_i32_37 : BitVec 32 := 0#32
  let c0_i32_38 : BitVec 32 := 0#32
  let v55 : BitVec 32 := Scalar.select v54 c0_i32_37 c0_i32_38
  let v56 : BitVec 32 := Scalar.addi c0_i32_39 v55
  let c1_i32_40 : BitVec 32 := 1#32
  let v57 : BitVec 1 := Scalar.cmpi .eq v53 c1_i32_40
  let c4_i32_41 : BitVec 32 := 4#32
  let c0_i32_42 : BitVec 32 := 0#32
  let v58 : BitVec 32 := Scalar.select v57 c4_i32_41 c0_i32_42
  let v59 : BitVec 32 := Scalar.addi v56 v58
  let c2_i32_43 : BitVec 32 := 2#32
  let v60 : BitVec 1 := Scalar.cmpi .eq v53 c2_i32_43
  let c8_i32_44 : BitVec 32 := 8#32
  let c0_i32_45 : BitVec 32 := 0#32
  let v61 : BitVec 32 := Scalar.select v60 c8_i32_44 c0_i32_45
  let v62 : BitVec 32 := Scalar.addi v59 v61
  let c3_i32_46 : BitVec 32 := 3#32
  let v63 : BitVec 1 := Scalar.cmpi .eq v53 c3_i32_46
  let c12_i32_47 : BitVec 32 := 12#32
  let c0_i32_48 : BitVec 32 := 0#32
  let v64 : BitVec 32 := Scalar.select v63 c12_i32_47 c0_i32_48
  let v65 : BitVec 32 := Scalar.addi v62 v64
  let c4_i32_49 : BitVec 32 := 4#32
  let v66 : BitVec 1 := Scalar.cmpi .eq v53 c4_i32_49
  let c15_i32_50 : BitVec 32 := 15#32
  let c0_i32_51 : BitVec 32 := 0#32
  let v67 : BitVec 32 := Scalar.select v66 c15_i32_50 c0_i32_51
  let v68 : BitVec 32 := Scalar.addi v65 v67
  let c5_i32_52 : BitVec 32 := 5#32
  let v69 : BitVec 1 := Scalar.cmpi .eq v53 c5_i32_52
  let c11_i32_53 : BitVec 32 := 11#32
  let c0_i32_54 : BitVec 32 := 0#32
  let v70 : BitVec 32 := Scalar.select v69 c11_i32_53 c0_i32_54
  let v71 : BitVec 32 := Scalar.addi v68 v70
  let c6_i32_55 : BitVec 32 := 6#32
  let v72 : BitVec 1 := Scalar.cmpi .eq v53 c6_i32_55
  let c7_i32_56 : BitVec 32 := 7#32
  let c0_i32_57 : BitVec 32 := 0#32
  let v73 : BitVec 32 := Scalar.select v72 c7_i32_56 c0_i32_57
  let v74 : BitVec 32 := Scalar.addi v71 v73
  let c7_i32_58 : BitVec 32 := 7#32
  let v75 : BitVec 1 := Scalar.cmpi .eq v53 c7_i32_58
  let c3_i32_59 : BitVec 32 := 3#32
  let c0_i32_60 : BitVec 32 := 0#32
  let v76 : BitVec 32 := Scalar.select v75 c3_i32_59 c0_i32_60
  let v77 : BitVec 32 := Scalar.addi v74 v76
  let c8_i32_61 : BitVec 32 := 8#32
  let v78 : BitVec 1 := Scalar.cmpi .eq v53 c8_i32_61
  let c2_i32_62 : BitVec 32 := 2#32
  let c0_i32_63 : BitVec 32 := 0#32
  let v79 : BitVec 32 := Scalar.select v78 c2_i32_62 c0_i32_63
  let v80 : BitVec 32 := Scalar.addi v77 v79
  let c9_i32_64 : BitVec 32 := 9#32
  let v81 : BitVec 1 := Scalar.cmpi .eq v53 c9_i32_64
  let c6_i32_65 : BitVec 32 := 6#32
  let c0_i32_66 : BitVec 32 := 0#32
  let v82 : BitVec 32 := Scalar.select v81 c6_i32_65 c0_i32_66
  let v83 : BitVec 32 := Scalar.addi v80 v82
  let c10_i32_67 : BitVec 32 := 10#32
  let v84 : BitVec 1 := Scalar.cmpi .eq v53 c10_i32_67
  let c10_i32_68 : BitVec 32 := 10#32
  let c0_i32_69 : BitVec 32 := 0#32
  let v85 : BitVec 32 := Scalar.select v84 c10_i32_68 c0_i32_69
  let v86 : BitVec 32 := Scalar.addi v83 v85
  let c11_i32_70 : BitVec 32 := 11#32
  let v87 : BitVec 1 := Scalar.cmpi .eq v53 c11_i32_70
  let c14_i32_71 : BitVec 32 := 14#32
  let c0_i32_72 : BitVec 32 := 0#32
  let v88 : BitVec 32 := Scalar.select v87 c14_i32_71 c0_i32_72
  let v89 : BitVec 32 := Scalar.addi v86 v88
  let c12_i32_73 : BitVec 32 := 12#32
  let v90 : BitVec 1 := Scalar.cmpi .eq v53 c12_i32_73
  let c13_i32_74 : BitVec 32 := 13#32
  let c0_i32_75 : BitVec 32 := 0#32
  let v91 : BitVec 32 := Scalar.select v90 c13_i32_74 c0_i32_75
  let v92 : BitVec 32 := Scalar.addi v89 v91
  let c13_i32_76 : BitVec 32 := 13#32
  let v93 : BitVec 1 := Scalar.cmpi .eq v53 c13_i32_76
  let c9_i32_77 : BitVec 32 := 9#32
  let c0_i32_78 : BitVec 32 := 0#32
  let v94 : BitVec 32 := Scalar.select v93 c9_i32_77 c0_i32_78
  let v95 : BitVec 32 := Scalar.addi v92 v94
  let c14_i32_79 : BitVec 32 := 14#32
  let v96 : BitVec 1 := Scalar.cmpi .eq v53 c14_i32_79
  let c5_i32_80 : BitVec 32 := 5#32
  let c0_i32_81 : BitVec 32 := 0#32
  let v97 : BitVec 32 := Scalar.select v96 c5_i32_80 c0_i32_81
  let v98 : BitVec 32 := Scalar.addi v95 v97
  let c15_i32_82 : BitVec 32 := 15#32
  let v99 : BitVec 1 := Scalar.cmpi .eq v53 c15_i32_82
  let c1_i32_83 : BitVec 32 := 1#32
  let c0_i32_84 : BitVec 32 := 0#32
  let v100 : BitVec 32 := Scalar.select v99 c1_i32_83 c0_i32_84
  let v101 : BitVec 32 := Scalar.addi v98 v100
  let c1_i32_3378 : BitVec 32 := 1#32
  let v4671 : BitVec 32 := Scalar.muli v101 c1_i32_3378
  let v4672 : BitVec 32 := Scalar.addi c0_i32_3379 v4671
  v4672.toNat
def k0_dev51 (d0 : Dev nD) : Nat :=
  let c0_i32_3607 : BitVec 32 := 0#32
  let c0_i32_91 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_85 : BitVec 32 := 1#32
  let v102 : BitVec 32 := Scalar.addi v50 c1_i32_85
  let c32_i32_86 : BitVec 32 := 32#32
  let v103 : BitVec 32 := Scalar.addi v102 c32_i32_86
  let c16_i32_87 : BitVec 32 := 16#32
  let v104 : BitVec 32 := Scalar.remsi v103 c16_i32_87
  let c0_i32_88 : BitVec 32 := 0#32
  let v105 : BitVec 1 := Scalar.cmpi .eq v104 c0_i32_88
  let c0_i32_89 : BitVec 32 := 0#32
  let c0_i32_90 : BitVec 32 := 0#32
  let v106 : BitVec 32 := Scalar.select v105 c0_i32_89 c0_i32_90
  let v107 : BitVec 32 := Scalar.addi c0_i32_91 v106
  let c1_i32_92 : BitVec 32 := 1#32
  let v108 : BitVec 1 := Scalar.cmpi .eq v104 c1_i32_92
  let c4_i32_93 : BitVec 32 := 4#32
  let c0_i32_94 : BitVec 32 := 0#32
  let v109 : BitVec 32 := Scalar.select v108 c4_i32_93 c0_i32_94
  let v110 : BitVec 32 := Scalar.addi v107 v109
  let c2_i32_95 : BitVec 32 := 2#32
  let v111 : BitVec 1 := Scalar.cmpi .eq v104 c2_i32_95
  let c8_i32_96 : BitVec 32 := 8#32
  let c0_i32_97 : BitVec 32 := 0#32
  let v112 : BitVec 32 := Scalar.select v111 c8_i32_96 c0_i32_97
  let v113 : BitVec 32 := Scalar.addi v110 v112
  let c3_i32_98 : BitVec 32 := 3#32
  let v114 : BitVec 1 := Scalar.cmpi .eq v104 c3_i32_98
  let c12_i32_99 : BitVec 32 := 12#32
  let c0_i32_100 : BitVec 32 := 0#32
  let v115 : BitVec 32 := Scalar.select v114 c12_i32_99 c0_i32_100
  let v116 : BitVec 32 := Scalar.addi v113 v115
  let c4_i32_101 : BitVec 32 := 4#32
  let v117 : BitVec 1 := Scalar.cmpi .eq v104 c4_i32_101
  let c15_i32_102 : BitVec 32 := 15#32
  let c0_i32_103 : BitVec 32 := 0#32
  let v118 : BitVec 32 := Scalar.select v117 c15_i32_102 c0_i32_103
  let v119 : BitVec 32 := Scalar.addi v116 v118
  let c5_i32_104 : BitVec 32 := 5#32
  let v120 : BitVec 1 := Scalar.cmpi .eq v104 c5_i32_104
  let c11_i32_105 : BitVec 32 := 11#32
  let c0_i32_106 : BitVec 32 := 0#32
  let v121 : BitVec 32 := Scalar.select v120 c11_i32_105 c0_i32_106
  let v122 : BitVec 32 := Scalar.addi v119 v121
  let c6_i32_107 : BitVec 32 := 6#32
  let v123 : BitVec 1 := Scalar.cmpi .eq v104 c6_i32_107
  let c7_i32_108 : BitVec 32 := 7#32
  let c0_i32_109 : BitVec 32 := 0#32
  let v124 : BitVec 32 := Scalar.select v123 c7_i32_108 c0_i32_109
  let v125 : BitVec 32 := Scalar.addi v122 v124
  let c7_i32_110 : BitVec 32 := 7#32
  let v126 : BitVec 1 := Scalar.cmpi .eq v104 c7_i32_110
  let c3_i32_111 : BitVec 32 := 3#32
  let c0_i32_112 : BitVec 32 := 0#32
  let v127 : BitVec 32 := Scalar.select v126 c3_i32_111 c0_i32_112
  let v128 : BitVec 32 := Scalar.addi v125 v127
  let c8_i32_113 : BitVec 32 := 8#32
  let v129 : BitVec 1 := Scalar.cmpi .eq v104 c8_i32_113
  let c2_i32_114 : BitVec 32 := 2#32
  let c0_i32_115 : BitVec 32 := 0#32
  let v130 : BitVec 32 := Scalar.select v129 c2_i32_114 c0_i32_115
  let v131 : BitVec 32 := Scalar.addi v128 v130
  let c9_i32_116 : BitVec 32 := 9#32
  let v132 : BitVec 1 := Scalar.cmpi .eq v104 c9_i32_116
  let c6_i32_117 : BitVec 32 := 6#32
  let c0_i32_118 : BitVec 32 := 0#32
  let v133 : BitVec 32 := Scalar.select v132 c6_i32_117 c0_i32_118
  let v134 : BitVec 32 := Scalar.addi v131 v133
  let c10_i32_119 : BitVec 32 := 10#32
  let v135 : BitVec 1 := Scalar.cmpi .eq v104 c10_i32_119
  let c10_i32_120 : BitVec 32 := 10#32
  let c0_i32_121 : BitVec 32 := 0#32
  let v136 : BitVec 32 := Scalar.select v135 c10_i32_120 c0_i32_121
  let v137 : BitVec 32 := Scalar.addi v134 v136
  let c11_i32_122 : BitVec 32 := 11#32
  let v138 : BitVec 1 := Scalar.cmpi .eq v104 c11_i32_122
  let c14_i32_123 : BitVec 32 := 14#32
  let c0_i32_124 : BitVec 32 := 0#32
  let v139 : BitVec 32 := Scalar.select v138 c14_i32_123 c0_i32_124
  let v140 : BitVec 32 := Scalar.addi v137 v139
  let c12_i32_125 : BitVec 32 := 12#32
  let v141 : BitVec 1 := Scalar.cmpi .eq v104 c12_i32_125
  let c13_i32_126 : BitVec 32 := 13#32
  let c0_i32_127 : BitVec 32 := 0#32
  let v142 : BitVec 32 := Scalar.select v141 c13_i32_126 c0_i32_127
  let v143 : BitVec 32 := Scalar.addi v140 v142
  let c13_i32_128 : BitVec 32 := 13#32
  let v144 : BitVec 1 := Scalar.cmpi .eq v104 c13_i32_128
  let c9_i32_129 : BitVec 32 := 9#32
  let c0_i32_130 : BitVec 32 := 0#32
  let v145 : BitVec 32 := Scalar.select v144 c9_i32_129 c0_i32_130
  let v146 : BitVec 32 := Scalar.addi v143 v145
  let c14_i32_131 : BitVec 32 := 14#32
  let v147 : BitVec 1 := Scalar.cmpi .eq v104 c14_i32_131
  let c5_i32_132 : BitVec 32 := 5#32
  let c0_i32_133 : BitVec 32 := 0#32
  let v148 : BitVec 32 := Scalar.select v147 c5_i32_132 c0_i32_133
  let v149 : BitVec 32 := Scalar.addi v146 v148
  let c15_i32_134 : BitVec 32 := 15#32
  let v150 : BitVec 1 := Scalar.cmpi .eq v104 c15_i32_134
  let c1_i32_135 : BitVec 32 := 1#32
  let c0_i32_136 : BitVec 32 := 0#32
  let v151 : BitVec 32 := Scalar.select v150 c1_i32_135 c0_i32_136
  let v152 : BitVec 32 := Scalar.addi v149 v151
  let c1_i32_3606 : BitVec 32 := 1#32
  let v4995 : BitVec 32 := Scalar.muli v152 c1_i32_3606
  let v4996 : BitVec 32 := Scalar.addi c0_i32_3607 v4995
  v4996.toNat
def k0_dev52 (d0 : Dev nD) : Nat :=
  let c0_i32_3619 : BitVec 32 := 0#32
  let c0_i32_39 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_34 : BitVec 32 := 1#32
  let v51 : BitVec 32 := Scalar.subi v50 c1_i32_34
  let c32_i32 : BitVec 32 := 32#32
  let v52 : BitVec 32 := Scalar.addi v51 c32_i32
  let c16_i32_35 : BitVec 32 := 16#32
  let v53 : BitVec 32 := Scalar.remsi v52 c16_i32_35
  let c0_i32_36 : BitVec 32 := 0#32
  let v54 : BitVec 1 := Scalar.cmpi .eq v53 c0_i32_36
  let c0_i32_37 : BitVec 32 := 0#32
  let c0_i32_38 : BitVec 32 := 0#32
  let v55 : BitVec 32 := Scalar.select v54 c0_i32_37 c0_i32_38
  let v56 : BitVec 32 := Scalar.addi c0_i32_39 v55
  let c1_i32_40 : BitVec 32 := 1#32
  let v57 : BitVec 1 := Scalar.cmpi .eq v53 c1_i32_40
  let c4_i32_41 : BitVec 32 := 4#32
  let c0_i32_42 : BitVec 32 := 0#32
  let v58 : BitVec 32 := Scalar.select v57 c4_i32_41 c0_i32_42
  let v59 : BitVec 32 := Scalar.addi v56 v58
  let c2_i32_43 : BitVec 32 := 2#32
  let v60 : BitVec 1 := Scalar.cmpi .eq v53 c2_i32_43
  let c8_i32_44 : BitVec 32 := 8#32
  let c0_i32_45 : BitVec 32 := 0#32
  let v61 : BitVec 32 := Scalar.select v60 c8_i32_44 c0_i32_45
  let v62 : BitVec 32 := Scalar.addi v59 v61
  let c3_i32_46 : BitVec 32 := 3#32
  let v63 : BitVec 1 := Scalar.cmpi .eq v53 c3_i32_46
  let c12_i32_47 : BitVec 32 := 12#32
  let c0_i32_48 : BitVec 32 := 0#32
  let v64 : BitVec 32 := Scalar.select v63 c12_i32_47 c0_i32_48
  let v65 : BitVec 32 := Scalar.addi v62 v64
  let c4_i32_49 : BitVec 32 := 4#32
  let v66 : BitVec 1 := Scalar.cmpi .eq v53 c4_i32_49
  let c15_i32_50 : BitVec 32 := 15#32
  let c0_i32_51 : BitVec 32 := 0#32
  let v67 : BitVec 32 := Scalar.select v66 c15_i32_50 c0_i32_51
  let v68 : BitVec 32 := Scalar.addi v65 v67
  let c5_i32_52 : BitVec 32 := 5#32
  let v69 : BitVec 1 := Scalar.cmpi .eq v53 c5_i32_52
  let c11_i32_53 : BitVec 32 := 11#32
  let c0_i32_54 : BitVec 32 := 0#32
  let v70 : BitVec 32 := Scalar.select v69 c11_i32_53 c0_i32_54
  let v71 : BitVec 32 := Scalar.addi v68 v70
  let c6_i32_55 : BitVec 32 := 6#32
  let v72 : BitVec 1 := Scalar.cmpi .eq v53 c6_i32_55
  let c7_i32_56 : BitVec 32 := 7#32
  let c0_i32_57 : BitVec 32 := 0#32
  let v73 : BitVec 32 := Scalar.select v72 c7_i32_56 c0_i32_57
  let v74 : BitVec 32 := Scalar.addi v71 v73
  let c7_i32_58 : BitVec 32 := 7#32
  let v75 : BitVec 1 := Scalar.cmpi .eq v53 c7_i32_58
  let c3_i32_59 : BitVec 32 := 3#32
  let c0_i32_60 : BitVec 32 := 0#32
  let v76 : BitVec 32 := Scalar.select v75 c3_i32_59 c0_i32_60
  let v77 : BitVec 32 := Scalar.addi v74 v76
  let c8_i32_61 : BitVec 32 := 8#32
  let v78 : BitVec 1 := Scalar.cmpi .eq v53 c8_i32_61
  let c2_i32_62 : BitVec 32 := 2#32
  let c0_i32_63 : BitVec 32 := 0#32
  let v79 : BitVec 32 := Scalar.select v78 c2_i32_62 c0_i32_63
  let v80 : BitVec 32 := Scalar.addi v77 v79
  let c9_i32_64 : BitVec 32 := 9#32
  let v81 : BitVec 1 := Scalar.cmpi .eq v53 c9_i32_64
  let c6_i32_65 : BitVec 32 := 6#32
  let c0_i32_66 : BitVec 32 := 0#32
  let v82 : BitVec 32 := Scalar.select v81 c6_i32_65 c0_i32_66
  let v83 : BitVec 32 := Scalar.addi v80 v82
  let c10_i32_67 : BitVec 32 := 10#32
  let v84 : BitVec 1 := Scalar.cmpi .eq v53 c10_i32_67
  let c10_i32_68 : BitVec 32 := 10#32
  let c0_i32_69 : BitVec 32 := 0#32
  let v85 : BitVec 32 := Scalar.select v84 c10_i32_68 c0_i32_69
  let v86 : BitVec 32 := Scalar.addi v83 v85
  let c11_i32_70 : BitVec 32 := 11#32
  let v87 : BitVec 1 := Scalar.cmpi .eq v53 c11_i32_70
  let c14_i32_71 : BitVec 32 := 14#32
  let c0_i32_72 : BitVec 32 := 0#32
  let v88 : BitVec 32 := Scalar.select v87 c14_i32_71 c0_i32_72
  let v89 : BitVec 32 := Scalar.addi v86 v88
  let c12_i32_73 : BitVec 32 := 12#32
  let v90 : BitVec 1 := Scalar.cmpi .eq v53 c12_i32_73
  let c13_i32_74 : BitVec 32 := 13#32
  let c0_i32_75 : BitVec 32 := 0#32
  let v91 : BitVec 32 := Scalar.select v90 c13_i32_74 c0_i32_75
  let v92 : BitVec 32 := Scalar.addi v89 v91
  let c13_i32_76 : BitVec 32 := 13#32
  let v93 : BitVec 1 := Scalar.cmpi .eq v53 c13_i32_76
  let c9_i32_77 : BitVec 32 := 9#32
  let c0_i32_78 : BitVec 32 := 0#32
  let v94 : BitVec 32 := Scalar.select v93 c9_i32_77 c0_i32_78
  let v95 : BitVec 32 := Scalar.addi v92 v94
  let c14_i32_79 : BitVec 32 := 14#32
  let v96 : BitVec 1 := Scalar.cmpi .eq v53 c14_i32_79
  let c5_i32_80 : BitVec 32 := 5#32
  let c0_i32_81 : BitVec 32 := 0#32
  let v97 : BitVec 32 := Scalar.select v96 c5_i32_80 c0_i32_81
  let v98 : BitVec 32 := Scalar.addi v95 v97
  let c15_i32_82 : BitVec 32 := 15#32
  let v99 : BitVec 1 := Scalar.cmpi .eq v53 c15_i32_82
  let c1_i32_83 : BitVec 32 := 1#32
  let c0_i32_84 : BitVec 32 := 0#32
  let v100 : BitVec 32 := Scalar.select v99 c1_i32_83 c0_i32_84
  let v101 : BitVec 32 := Scalar.addi v98 v100
  let c1_i32_3618 : BitVec 32 := 1#32
  let v5009 : BitVec 32 := Scalar.muli v101 c1_i32_3618
  let v5010 : BitVec 32 := Scalar.addi c0_i32_3619 v5009
  v5010.toNat
def k0_dev53 (d0 : Dev nD) : Nat :=
  let c0_i32_3627 : BitVec 32 := 0#32
  let c0_i32_91 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_85 : BitVec 32 := 1#32
  let v102 : BitVec 32 := Scalar.addi v50 c1_i32_85
  let c32_i32_86 : BitVec 32 := 32#32
  let v103 : BitVec 32 := Scalar.addi v102 c32_i32_86
  let c16_i32_87 : BitVec 32 := 16#32
  let v104 : BitVec 32 := Scalar.remsi v103 c16_i32_87
  let c0_i32_88 : BitVec 32 := 0#32
  let v105 : BitVec 1 := Scalar.cmpi .eq v104 c0_i32_88
  let c0_i32_89 : BitVec 32 := 0#32
  let c0_i32_90 : BitVec 32 := 0#32
  let v106 : BitVec 32 := Scalar.select v105 c0_i32_89 c0_i32_90
  let v107 : BitVec 32 := Scalar.addi c0_i32_91 v106
  let c1_i32_92 : BitVec 32 := 1#32
  let v108 : BitVec 1 := Scalar.cmpi .eq v104 c1_i32_92
  let c4_i32_93 : BitVec 32 := 4#32
  let c0_i32_94 : BitVec 32 := 0#32
  let v109 : BitVec 32 := Scalar.select v108 c4_i32_93 c0_i32_94
  let v110 : BitVec 32 := Scalar.addi v107 v109
  let c2_i32_95 : BitVec 32 := 2#32
  let v111 : BitVec 1 := Scalar.cmpi .eq v104 c2_i32_95
  let c8_i32_96 : BitVec 32 := 8#32
  let c0_i32_97 : BitVec 32 := 0#32
  let v112 : BitVec 32 := Scalar.select v111 c8_i32_96 c0_i32_97
  let v113 : BitVec 32 := Scalar.addi v110 v112
  let c3_i32_98 : BitVec 32 := 3#32
  let v114 : BitVec 1 := Scalar.cmpi .eq v104 c3_i32_98
  let c12_i32_99 : BitVec 32 := 12#32
  let c0_i32_100 : BitVec 32 := 0#32
  let v115 : BitVec 32 := Scalar.select v114 c12_i32_99 c0_i32_100
  let v116 : BitVec 32 := Scalar.addi v113 v115
  let c4_i32_101 : BitVec 32 := 4#32
  let v117 : BitVec 1 := Scalar.cmpi .eq v104 c4_i32_101
  let c15_i32_102 : BitVec 32 := 15#32
  let c0_i32_103 : BitVec 32 := 0#32
  let v118 : BitVec 32 := Scalar.select v117 c15_i32_102 c0_i32_103
  let v119 : BitVec 32 := Scalar.addi v116 v118
  let c5_i32_104 : BitVec 32 := 5#32
  let v120 : BitVec 1 := Scalar.cmpi .eq v104 c5_i32_104
  let c11_i32_105 : BitVec 32 := 11#32
  let c0_i32_106 : BitVec 32 := 0#32
  let v121 : BitVec 32 := Scalar.select v120 c11_i32_105 c0_i32_106
  let v122 : BitVec 32 := Scalar.addi v119 v121
  let c6_i32_107 : BitVec 32 := 6#32
  let v123 : BitVec 1 := Scalar.cmpi .eq v104 c6_i32_107
  let c7_i32_108 : BitVec 32 := 7#32
  let c0_i32_109 : BitVec 32 := 0#32
  let v124 : BitVec 32 := Scalar.select v123 c7_i32_108 c0_i32_109
  let v125 : BitVec 32 := Scalar.addi v122 v124
  let c7_i32_110 : BitVec 32 := 7#32
  let v126 : BitVec 1 := Scalar.cmpi .eq v104 c7_i32_110
  let c3_i32_111 : BitVec 32 := 3#32
  let c0_i32_112 : BitVec 32 := 0#32
  let v127 : BitVec 32 := Scalar.select v126 c3_i32_111 c0_i32_112
  let v128 : BitVec 32 := Scalar.addi v125 v127
  let c8_i32_113 : BitVec 32 := 8#32
  let v129 : BitVec 1 := Scalar.cmpi .eq v104 c8_i32_113
  let c2_i32_114 : BitVec 32 := 2#32
  let c0_i32_115 : BitVec 32 := 0#32
  let v130 : BitVec 32 := Scalar.select v129 c2_i32_114 c0_i32_115
  let v131 : BitVec 32 := Scalar.addi v128 v130
  let c9_i32_116 : BitVec 32 := 9#32
  let v132 : BitVec 1 := Scalar.cmpi .eq v104 c9_i32_116
  let c6_i32_117 : BitVec 32 := 6#32
  let c0_i32_118 : BitVec 32 := 0#32
  let v133 : BitVec 32 := Scalar.select v132 c6_i32_117 c0_i32_118
  let v134 : BitVec 32 := Scalar.addi v131 v133
  let c10_i32_119 : BitVec 32 := 10#32
  let v135 : BitVec 1 := Scalar.cmpi .eq v104 c10_i32_119
  let c10_i32_120 : BitVec 32 := 10#32
  let c0_i32_121 : BitVec 32 := 0#32
  let v136 : BitVec 32 := Scalar.select v135 c10_i32_120 c0_i32_121
  let v137 : BitVec 32 := Scalar.addi v134 v136
  let c11_i32_122 : BitVec 32 := 11#32
  let v138 : BitVec 1 := Scalar.cmpi .eq v104 c11_i32_122
  let c14_i32_123 : BitVec 32 := 14#32
  let c0_i32_124 : BitVec 32 := 0#32
  let v139 : BitVec 32 := Scalar.select v138 c14_i32_123 c0_i32_124
  let v140 : BitVec 32 := Scalar.addi v137 v139
  let c12_i32_125 : BitVec 32 := 12#32
  let v141 : BitVec 1 := Scalar.cmpi .eq v104 c12_i32_125
  let c13_i32_126 : BitVec 32 := 13#32
  let c0_i32_127 : BitVec 32 := 0#32
  let v142 : BitVec 32 := Scalar.select v141 c13_i32_126 c0_i32_127
  let v143 : BitVec 32 := Scalar.addi v140 v142
  let c13_i32_128 : BitVec 32 := 13#32
  let v144 : BitVec 1 := Scalar.cmpi .eq v104 c13_i32_128
  let c9_i32_129 : BitVec 32 := 9#32
  let c0_i32_130 : BitVec 32 := 0#32
  let v145 : BitVec 32 := Scalar.select v144 c9_i32_129 c0_i32_130
  let v146 : BitVec 32 := Scalar.addi v143 v145
  let c14_i32_131 : BitVec 32 := 14#32
  let v147 : BitVec 1 := Scalar.cmpi .eq v104 c14_i32_131
  let c5_i32_132 : BitVec 32 := 5#32
  let c0_i32_133 : BitVec 32 := 0#32
  let v148 : BitVec 32 := Scalar.select v147 c5_i32_132 c0_i32_133
  let v149 : BitVec 32 := Scalar.addi v146 v148
  let c15_i32_134 : BitVec 32 := 15#32
  let v150 : BitVec 1 := Scalar.cmpi .eq v104 c15_i32_134
  let c1_i32_135 : BitVec 32 := 1#32
  let c0_i32_136 : BitVec 32 := 0#32
  let v151 : BitVec 32 := Scalar.select v150 c1_i32_135 c0_i32_136
  let v152 : BitVec 32 := Scalar.addi v149 v151
  let c1_i32_3626 : BitVec 32 := 1#32
  let v5017 : BitVec 32 := Scalar.muli v152 c1_i32_3626
  let v5018 : BitVec 32 := Scalar.addi c0_i32_3627 v5017
  v5018.toNat
def k0_dev54 (d0 : Dev nD) : Nat :=
  let c0_i32_3637 : BitVec 32 := 0#32
  let c0_i32_39 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_34 : BitVec 32 := 1#32
  let v51 : BitVec 32 := Scalar.subi v50 c1_i32_34
  let c32_i32 : BitVec 32 := 32#32
  let v52 : BitVec 32 := Scalar.addi v51 c32_i32
  let c16_i32_35 : BitVec 32 := 16#32
  let v53 : BitVec 32 := Scalar.remsi v52 c16_i32_35
  let c0_i32_36 : BitVec 32 := 0#32
  let v54 : BitVec 1 := Scalar.cmpi .eq v53 c0_i32_36
  let c0_i32_37 : BitVec 32 := 0#32
  let c0_i32_38 : BitVec 32 := 0#32
  let v55 : BitVec 32 := Scalar.select v54 c0_i32_37 c0_i32_38
  let v56 : BitVec 32 := Scalar.addi c0_i32_39 v55
  let c1_i32_40 : BitVec 32 := 1#32
  let v57 : BitVec 1 := Scalar.cmpi .eq v53 c1_i32_40
  let c4_i32_41 : BitVec 32 := 4#32
  let c0_i32_42 : BitVec 32 := 0#32
  let v58 : BitVec 32 := Scalar.select v57 c4_i32_41 c0_i32_42
  let v59 : BitVec 32 := Scalar.addi v56 v58
  let c2_i32_43 : BitVec 32 := 2#32
  let v60 : BitVec 1 := Scalar.cmpi .eq v53 c2_i32_43
  let c8_i32_44 : BitVec 32 := 8#32
  let c0_i32_45 : BitVec 32 := 0#32
  let v61 : BitVec 32 := Scalar.select v60 c8_i32_44 c0_i32_45
  let v62 : BitVec 32 := Scalar.addi v59 v61
  let c3_i32_46 : BitVec 32 := 3#32
  let v63 : BitVec 1 := Scalar.cmpi .eq v53 c3_i32_46
  let c12_i32_47 : BitVec 32 := 12#32
  let c0_i32_48 : BitVec 32 := 0#32
  let v64 : BitVec 32 := Scalar.select v63 c12_i32_47 c0_i32_48
  let v65 : BitVec 32 := Scalar.addi v62 v64
  let c4_i32_49 : BitVec 32 := 4#32
  let v66 : BitVec 1 := Scalar.cmpi .eq v53 c4_i32_49
  let c15_i32_50 : BitVec 32 := 15#32
  let c0_i32_51 : BitVec 32 := 0#32
  let v67 : BitVec 32 := Scalar.select v66 c15_i32_50 c0_i32_51
  let v68 : BitVec 32 := Scalar.addi v65 v67
  let c5_i32_52 : BitVec 32 := 5#32
  let v69 : BitVec 1 := Scalar.cmpi .eq v53 c5_i32_52
  let c11_i32_53 : BitVec 32 := 11#32
  let c0_i32_54 : BitVec 32 := 0#32
  let v70 : BitVec 32 := Scalar.select v69 c11_i32_53 c0_i32_54
  let v71 : BitVec 32 := Scalar.addi v68 v70
  let c6_i32_55 : BitVec 32 := 6#32
  let v72 : BitVec 1 := Scalar.cmpi .eq v53 c6_i32_55
  let c7_i32_56 : BitVec 32 := 7#32
  let c0_i32_57 : BitVec 32 := 0#32
  let v73 : BitVec 32 := Scalar.select v72 c7_i32_56 c0_i32_57
  let v74 : BitVec 32 := Scalar.addi v71 v73
  let c7_i32_58 : BitVec 32 := 7#32
  let v75 : BitVec 1 := Scalar.cmpi .eq v53 c7_i32_58
  let c3_i32_59 : BitVec 32 := 3#32
  let c0_i32_60 : BitVec 32 := 0#32
  let v76 : BitVec 32 := Scalar.select v75 c3_i32_59 c0_i32_60
  let v77 : BitVec 32 := Scalar.addi v74 v76
  let c8_i32_61 : BitVec 32 := 8#32
  let v78 : BitVec 1 := Scalar.cmpi .eq v53 c8_i32_61
  let c2_i32_62 : BitVec 32 := 2#32
  let c0_i32_63 : BitVec 32 := 0#32
  let v79 : BitVec 32 := Scalar.select v78 c2_i32_62 c0_i32_63
  let v80 : BitVec 32 := Scalar.addi v77 v79
  let c9_i32_64 : BitVec 32 := 9#32
  let v81 : BitVec 1 := Scalar.cmpi .eq v53 c9_i32_64
  let c6_i32_65 : BitVec 32 := 6#32
  let c0_i32_66 : BitVec 32 := 0#32
  let v82 : BitVec 32 := Scalar.select v81 c6_i32_65 c0_i32_66
  let v83 : BitVec 32 := Scalar.addi v80 v82
  let c10_i32_67 : BitVec 32 := 10#32
  let v84 : BitVec 1 := Scalar.cmpi .eq v53 c10_i32_67
  let c10_i32_68 : BitVec 32 := 10#32
  let c0_i32_69 : BitVec 32 := 0#32
  let v85 : BitVec 32 := Scalar.select v84 c10_i32_68 c0_i32_69
  let v86 : BitVec 32 := Scalar.addi v83 v85
  let c11_i32_70 : BitVec 32 := 11#32
  let v87 : BitVec 1 := Scalar.cmpi .eq v53 c11_i32_70
  let c14_i32_71 : BitVec 32 := 14#32
  let c0_i32_72 : BitVec 32 := 0#32
  let v88 : BitVec 32 := Scalar.select v87 c14_i32_71 c0_i32_72
  let v89 : BitVec 32 := Scalar.addi v86 v88
  let c12_i32_73 : BitVec 32 := 12#32
  let v90 : BitVec 1 := Scalar.cmpi .eq v53 c12_i32_73
  let c13_i32_74 : BitVec 32 := 13#32
  let c0_i32_75 : BitVec 32 := 0#32
  let v91 : BitVec 32 := Scalar.select v90 c13_i32_74 c0_i32_75
  let v92 : BitVec 32 := Scalar.addi v89 v91
  let c13_i32_76 : BitVec 32 := 13#32
  let v93 : BitVec 1 := Scalar.cmpi .eq v53 c13_i32_76
  let c9_i32_77 : BitVec 32 := 9#32
  let c0_i32_78 : BitVec 32 := 0#32
  let v94 : BitVec 32 := Scalar.select v93 c9_i32_77 c0_i32_78
  let v95 : BitVec 32 := Scalar.addi v92 v94
  let c14_i32_79 : BitVec 32 := 14#32
  let v96 : BitVec 1 := Scalar.cmpi .eq v53 c14_i32_79
  let c5_i32_80 : BitVec 32 := 5#32
  let c0_i32_81 : BitVec 32 := 0#32
  let v97 : BitVec 32 := Scalar.select v96 c5_i32_80 c0_i32_81
  let v98 : BitVec 32 := Scalar.addi v95 v97
  let c15_i32_82 : BitVec 32 := 15#32
  let v99 : BitVec 1 := Scalar.cmpi .eq v53 c15_i32_82
  let c1_i32_83 : BitVec 32 := 1#32
  let c0_i32_84 : BitVec 32 := 0#32
  let v100 : BitVec 32 := Scalar.select v99 c1_i32_83 c0_i32_84
  let v101 : BitVec 32 := Scalar.addi v98 v100
  let c1_i32_3636 : BitVec 32 := 1#32
  let v5027 : BitVec 32 := Scalar.muli v101 c1_i32_3636
  let v5028 : BitVec 32 := Scalar.addi c0_i32_3637 v5027
  v5028.toNat
def k0_dev55 (d0 : Dev nD) : Nat :=
  let c0_i32_3865 : BitVec 32 := 0#32
  let c0_i32_91 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_85 : BitVec 32 := 1#32
  let v102 : BitVec 32 := Scalar.addi v50 c1_i32_85
  let c32_i32_86 : BitVec 32 := 32#32
  let v103 : BitVec 32 := Scalar.addi v102 c32_i32_86
  let c16_i32_87 : BitVec 32 := 16#32
  let v104 : BitVec 32 := Scalar.remsi v103 c16_i32_87
  let c0_i32_88 : BitVec 32 := 0#32
  let v105 : BitVec 1 := Scalar.cmpi .eq v104 c0_i32_88
  let c0_i32_89 : BitVec 32 := 0#32
  let c0_i32_90 : BitVec 32 := 0#32
  let v106 : BitVec 32 := Scalar.select v105 c0_i32_89 c0_i32_90
  let v107 : BitVec 32 := Scalar.addi c0_i32_91 v106
  let c1_i32_92 : BitVec 32 := 1#32
  let v108 : BitVec 1 := Scalar.cmpi .eq v104 c1_i32_92
  let c4_i32_93 : BitVec 32 := 4#32
  let c0_i32_94 : BitVec 32 := 0#32
  let v109 : BitVec 32 := Scalar.select v108 c4_i32_93 c0_i32_94
  let v110 : BitVec 32 := Scalar.addi v107 v109
  let c2_i32_95 : BitVec 32 := 2#32
  let v111 : BitVec 1 := Scalar.cmpi .eq v104 c2_i32_95
  let c8_i32_96 : BitVec 32 := 8#32
  let c0_i32_97 : BitVec 32 := 0#32
  let v112 : BitVec 32 := Scalar.select v111 c8_i32_96 c0_i32_97
  let v113 : BitVec 32 := Scalar.addi v110 v112
  let c3_i32_98 : BitVec 32 := 3#32
  let v114 : BitVec 1 := Scalar.cmpi .eq v104 c3_i32_98
  let c12_i32_99 : BitVec 32 := 12#32
  let c0_i32_100 : BitVec 32 := 0#32
  let v115 : BitVec 32 := Scalar.select v114 c12_i32_99 c0_i32_100
  let v116 : BitVec 32 := Scalar.addi v113 v115
  let c4_i32_101 : BitVec 32 := 4#32
  let v117 : BitVec 1 := Scalar.cmpi .eq v104 c4_i32_101
  let c15_i32_102 : BitVec 32 := 15#32
  let c0_i32_103 : BitVec 32 := 0#32
  let v118 : BitVec 32 := Scalar.select v117 c15_i32_102 c0_i32_103
  let v119 : BitVec 32 := Scalar.addi v116 v118
  let c5_i32_104 : BitVec 32 := 5#32
  let v120 : BitVec 1 := Scalar.cmpi .eq v104 c5_i32_104
  let c11_i32_105 : BitVec 32 := 11#32
  let c0_i32_106 : BitVec 32 := 0#32
  let v121 : BitVec 32 := Scalar.select v120 c11_i32_105 c0_i32_106
  let v122 : BitVec 32 := Scalar.addi v119 v121
  let c6_i32_107 : BitVec 32 := 6#32
  let v123 : BitVec 1 := Scalar.cmpi .eq v104 c6_i32_107
  let c7_i32_108 : BitVec 32 := 7#32
  let c0_i32_109 : BitVec 32 := 0#32
  let v124 : BitVec 32 := Scalar.select v123 c7_i32_108 c0_i32_109
  let v125 : BitVec 32 := Scalar.addi v122 v124
  let c7_i32_110 : BitVec 32 := 7#32
  let v126 : BitVec 1 := Scalar.cmpi .eq v104 c7_i32_110
  let c3_i32_111 : BitVec 32 := 3#32
  let c0_i32_112 : BitVec 32 := 0#32
  let v127 : BitVec 32 := Scalar.select v126 c3_i32_111 c0_i32_112
  let v128 : BitVec 32 := Scalar.addi v125 v127
  let c8_i32_113 : BitVec 32 := 8#32
  let v129 : BitVec 1 := Scalar.cmpi .eq v104 c8_i32_113
  let c2_i32_114 : BitVec 32 := 2#32
  let c0_i32_115 : BitVec 32 := 0#32
  let v130 : BitVec 32 := Scalar.select v129 c2_i32_114 c0_i32_115
  let v131 : BitVec 32 := Scalar.addi v128 v130
  let c9_i32_116 : BitVec 32 := 9#32
  let v132 : BitVec 1 := Scalar.cmpi .eq v104 c9_i32_116
  let c6_i32_117 : BitVec 32 := 6#32
  let c0_i32_118 : BitVec 32 := 0#32
  let v133 : BitVec 32 := Scalar.select v132 c6_i32_117 c0_i32_118
  let v134 : BitVec 32 := Scalar.addi v131 v133
  let c10_i32_119 : BitVec 32 := 10#32
  let v135 : BitVec 1 := Scalar.cmpi .eq v104 c10_i32_119
  let c10_i32_120 : BitVec 32 := 10#32
  let c0_i32_121 : BitVec 32 := 0#32
  let v136 : BitVec 32 := Scalar.select v135 c10_i32_120 c0_i32_121
  let v137 : BitVec 32 := Scalar.addi v134 v136
  let c11_i32_122 : BitVec 32 := 11#32
  let v138 : BitVec 1 := Scalar.cmpi .eq v104 c11_i32_122
  let c14_i32_123 : BitVec 32 := 14#32
  let c0_i32_124 : BitVec 32 := 0#32
  let v139 : BitVec 32 := Scalar.select v138 c14_i32_123 c0_i32_124
  let v140 : BitVec 32 := Scalar.addi v137 v139
  let c12_i32_125 : BitVec 32 := 12#32
  let v141 : BitVec 1 := Scalar.cmpi .eq v104 c12_i32_125
  let c13_i32_126 : BitVec 32 := 13#32
  let c0_i32_127 : BitVec 32 := 0#32
  let v142 : BitVec 32 := Scalar.select v141 c13_i32_126 c0_i32_127
  let v143 : BitVec 32 := Scalar.addi v140 v142
  let c13_i32_128 : BitVec 32 := 13#32
  let v144 : BitVec 1 := Scalar.cmpi .eq v104 c13_i32_128
  let c9_i32_129 : BitVec 32 := 9#32
  let c0_i32_130 : BitVec 32 := 0#32
  let v145 : BitVec 32 := Scalar.select v144 c9_i32_129 c0_i32_130
  let v146 : BitVec 32 := Scalar.addi v143 v145
  let c14_i32_131 : BitVec 32 := 14#32
  let v147 : BitVec 1 := Scalar.cmpi .eq v104 c14_i32_131
  let c5_i32_132 : BitVec 32 := 5#32
  let c0_i32_133 : BitVec 32 := 0#32
  let v148 : BitVec 32 := Scalar.select v147 c5_i32_132 c0_i32_133
  let v149 : BitVec 32 := Scalar.addi v146 v148
  let c15_i32_134 : BitVec 32 := 15#32
  let v150 : BitVec 1 := Scalar.cmpi .eq v104 c15_i32_134
  let c1_i32_135 : BitVec 32 := 1#32
  let c0_i32_136 : BitVec 32 := 0#32
  let v151 : BitVec 32 := Scalar.select v150 c1_i32_135 c0_i32_136
  let v152 : BitVec 32 := Scalar.addi v149 v151
  let c1_i32_3864 : BitVec 32 := 1#32
  let v5351 : BitVec 32 := Scalar.muli v152 c1_i32_3864
  let v5352 : BitVec 32 := Scalar.addi c0_i32_3865 v5351
  v5352.toNat
def k0_dev56 (d0 : Dev nD) : Nat :=
  let c0_i32_3877 : BitVec 32 := 0#32
  let c0_i32_39 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_34 : BitVec 32 := 1#32
  let v51 : BitVec 32 := Scalar.subi v50 c1_i32_34
  let c32_i32 : BitVec 32 := 32#32
  let v52 : BitVec 32 := Scalar.addi v51 c32_i32
  let c16_i32_35 : BitVec 32 := 16#32
  let v53 : BitVec 32 := Scalar.remsi v52 c16_i32_35
  let c0_i32_36 : BitVec 32 := 0#32
  let v54 : BitVec 1 := Scalar.cmpi .eq v53 c0_i32_36
  let c0_i32_37 : BitVec 32 := 0#32
  let c0_i32_38 : BitVec 32 := 0#32
  let v55 : BitVec 32 := Scalar.select v54 c0_i32_37 c0_i32_38
  let v56 : BitVec 32 := Scalar.addi c0_i32_39 v55
  let c1_i32_40 : BitVec 32 := 1#32
  let v57 : BitVec 1 := Scalar.cmpi .eq v53 c1_i32_40
  let c4_i32_41 : BitVec 32 := 4#32
  let c0_i32_42 : BitVec 32 := 0#32
  let v58 : BitVec 32 := Scalar.select v57 c4_i32_41 c0_i32_42
  let v59 : BitVec 32 := Scalar.addi v56 v58
  let c2_i32_43 : BitVec 32 := 2#32
  let v60 : BitVec 1 := Scalar.cmpi .eq v53 c2_i32_43
  let c8_i32_44 : BitVec 32 := 8#32
  let c0_i32_45 : BitVec 32 := 0#32
  let v61 : BitVec 32 := Scalar.select v60 c8_i32_44 c0_i32_45
  let v62 : BitVec 32 := Scalar.addi v59 v61
  let c3_i32_46 : BitVec 32 := 3#32
  let v63 : BitVec 1 := Scalar.cmpi .eq v53 c3_i32_46
  let c12_i32_47 : BitVec 32 := 12#32
  let c0_i32_48 : BitVec 32 := 0#32
  let v64 : BitVec 32 := Scalar.select v63 c12_i32_47 c0_i32_48
  let v65 : BitVec 32 := Scalar.addi v62 v64
  let c4_i32_49 : BitVec 32 := 4#32
  let v66 : BitVec 1 := Scalar.cmpi .eq v53 c4_i32_49
  let c15_i32_50 : BitVec 32 := 15#32
  let c0_i32_51 : BitVec 32 := 0#32
  let v67 : BitVec 32 := Scalar.select v66 c15_i32_50 c0_i32_51
  let v68 : BitVec 32 := Scalar.addi v65 v67
  let c5_i32_52 : BitVec 32 := 5#32
  let v69 : BitVec 1 := Scalar.cmpi .eq v53 c5_i32_52
  let c11_i32_53 : BitVec 32 := 11#32
  let c0_i32_54 : BitVec 32 := 0#32
  let v70 : BitVec 32 := Scalar.select v69 c11_i32_53 c0_i32_54
  let v71 : BitVec 32 := Scalar.addi v68 v70
  let c6_i32_55 : BitVec 32 := 6#32
  let v72 : BitVec 1 := Scalar.cmpi .eq v53 c6_i32_55
  let c7_i32_56 : BitVec 32 := 7#32
  let c0_i32_57 : BitVec 32 := 0#32
  let v73 : BitVec 32 := Scalar.select v72 c7_i32_56 c0_i32_57
  let v74 : BitVec 32 := Scalar.addi v71 v73
  let c7_i32_58 : BitVec 32 := 7#32
  let v75 : BitVec 1 := Scalar.cmpi .eq v53 c7_i32_58
  let c3_i32_59 : BitVec 32 := 3#32
  let c0_i32_60 : BitVec 32 := 0#32
  let v76 : BitVec 32 := Scalar.select v75 c3_i32_59 c0_i32_60
  let v77 : BitVec 32 := Scalar.addi v74 v76
  let c8_i32_61 : BitVec 32 := 8#32
  let v78 : BitVec 1 := Scalar.cmpi .eq v53 c8_i32_61
  let c2_i32_62 : BitVec 32 := 2#32
  let c0_i32_63 : BitVec 32 := 0#32
  let v79 : BitVec 32 := Scalar.select v78 c2_i32_62 c0_i32_63
  let v80 : BitVec 32 := Scalar.addi v77 v79
  let c9_i32_64 : BitVec 32 := 9#32
  let v81 : BitVec 1 := Scalar.cmpi .eq v53 c9_i32_64
  let c6_i32_65 : BitVec 32 := 6#32
  let c0_i32_66 : BitVec 32 := 0#32
  let v82 : BitVec 32 := Scalar.select v81 c6_i32_65 c0_i32_66
  let v83 : BitVec 32 := Scalar.addi v80 v82
  let c10_i32_67 : BitVec 32 := 10#32
  let v84 : BitVec 1 := Scalar.cmpi .eq v53 c10_i32_67
  let c10_i32_68 : BitVec 32 := 10#32
  let c0_i32_69 : BitVec 32 := 0#32
  let v85 : BitVec 32 := Scalar.select v84 c10_i32_68 c0_i32_69
  let v86 : BitVec 32 := Scalar.addi v83 v85
  let c11_i32_70 : BitVec 32 := 11#32
  let v87 : BitVec 1 := Scalar.cmpi .eq v53 c11_i32_70
  let c14_i32_71 : BitVec 32 := 14#32
  let c0_i32_72 : BitVec 32 := 0#32
  let v88 : BitVec 32 := Scalar.select v87 c14_i32_71 c0_i32_72
  let v89 : BitVec 32 := Scalar.addi v86 v88
  let c12_i32_73 : BitVec 32 := 12#32
  let v90 : BitVec 1 := Scalar.cmpi .eq v53 c12_i32_73
  let c13_i32_74 : BitVec 32 := 13#32
  let c0_i32_75 : BitVec 32 := 0#32
  let v91 : BitVec 32 := Scalar.select v90 c13_i32_74 c0_i32_75
  let v92 : BitVec 32 := Scalar.addi v89 v91
  let c13_i32_76 : BitVec 32 := 13#32
  let v93 : BitVec 1 := Scalar.cmpi .eq v53 c13_i32_76
  let c9_i32_77 : BitVec 32 := 9#32
  let c0_i32_78 : BitVec 32 := 0#32
  let v94 : BitVec 32 := Scalar.select v93 c9_i32_77 c0_i32_78
  let v95 : BitVec 32 := Scalar.addi v92 v94
  let c14_i32_79 : BitVec 32 := 14#32
  let v96 : BitVec 1 := Scalar.cmpi .eq v53 c14_i32_79
  let c5_i32_80 : BitVec 32 := 5#32
  let c0_i32_81 : BitVec 32 := 0#32
  let v97 : BitVec 32 := Scalar.select v96 c5_i32_80 c0_i32_81
  let v98 : BitVec 32 := Scalar.addi v95 v97
  let c15_i32_82 : BitVec 32 := 15#32
  let v99 : BitVec 1 := Scalar.cmpi .eq v53 c15_i32_82
  let c1_i32_83 : BitVec 32 := 1#32
  let c0_i32_84 : BitVec 32 := 0#32
  let v100 : BitVec 32 := Scalar.select v99 c1_i32_83 c0_i32_84
  let v101 : BitVec 32 := Scalar.addi v98 v100
  let c1_i32_3876 : BitVec 32 := 1#32
  let v5365 : BitVec 32 := Scalar.muli v101 c1_i32_3876
  let v5366 : BitVec 32 := Scalar.addi c0_i32_3877 v5365
  v5366.toNat
def k0_dev57 (d0 : Dev nD) : Nat :=
  let c0_i32_3885 : BitVec 32 := 0#32
  let c0_i32_91 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_85 : BitVec 32 := 1#32
  let v102 : BitVec 32 := Scalar.addi v50 c1_i32_85
  let c32_i32_86 : BitVec 32 := 32#32
  let v103 : BitVec 32 := Scalar.addi v102 c32_i32_86
  let c16_i32_87 : BitVec 32 := 16#32
  let v104 : BitVec 32 := Scalar.remsi v103 c16_i32_87
  let c0_i32_88 : BitVec 32 := 0#32
  let v105 : BitVec 1 := Scalar.cmpi .eq v104 c0_i32_88
  let c0_i32_89 : BitVec 32 := 0#32
  let c0_i32_90 : BitVec 32 := 0#32
  let v106 : BitVec 32 := Scalar.select v105 c0_i32_89 c0_i32_90
  let v107 : BitVec 32 := Scalar.addi c0_i32_91 v106
  let c1_i32_92 : BitVec 32 := 1#32
  let v108 : BitVec 1 := Scalar.cmpi .eq v104 c1_i32_92
  let c4_i32_93 : BitVec 32 := 4#32
  let c0_i32_94 : BitVec 32 := 0#32
  let v109 : BitVec 32 := Scalar.select v108 c4_i32_93 c0_i32_94
  let v110 : BitVec 32 := Scalar.addi v107 v109
  let c2_i32_95 : BitVec 32 := 2#32
  let v111 : BitVec 1 := Scalar.cmpi .eq v104 c2_i32_95
  let c8_i32_96 : BitVec 32 := 8#32
  let c0_i32_97 : BitVec 32 := 0#32
  let v112 : BitVec 32 := Scalar.select v111 c8_i32_96 c0_i32_97
  let v113 : BitVec 32 := Scalar.addi v110 v112
  let c3_i32_98 : BitVec 32 := 3#32
  let v114 : BitVec 1 := Scalar.cmpi .eq v104 c3_i32_98
  let c12_i32_99 : BitVec 32 := 12#32
  let c0_i32_100 : BitVec 32 := 0#32
  let v115 : BitVec 32 := Scalar.select v114 c12_i32_99 c0_i32_100
  let v116 : BitVec 32 := Scalar.addi v113 v115
  let c4_i32_101 : BitVec 32 := 4#32
  let v117 : BitVec 1 := Scalar.cmpi .eq v104 c4_i32_101
  let c15_i32_102 : BitVec 32 := 15#32
  let c0_i32_103 : BitVec 32 := 0#32
  let v118 : BitVec 32 := Scalar.select v117 c15_i32_102 c0_i32_103
  let v119 : BitVec 32 := Scalar.addi v116 v118
  let c5_i32_104 : BitVec 32 := 5#32
  let v120 : BitVec 1 := Scalar.cmpi .eq v104 c5_i32_104
  let c11_i32_105 : BitVec 32 := 11#32
  let c0_i32_106 : BitVec 32 := 0#32
  let v121 : BitVec 32 := Scalar.select v120 c11_i32_105 c0_i32_106
  let v122 : BitVec 32 := Scalar.addi v119 v121
  let c6_i32_107 : BitVec 32 := 6#32
  let v123 : BitVec 1 := Scalar.cmpi .eq v104 c6_i32_107
  let c7_i32_108 : BitVec 32 := 7#32
  let c0_i32_109 : BitVec 32 := 0#32
  let v124 : BitVec 32 := Scalar.select v123 c7_i32_108 c0_i32_109
  let v125 : BitVec 32 := Scalar.addi v122 v124
  let c7_i32_110 : BitVec 32 := 7#32
  let v126 : BitVec 1 := Scalar.cmpi .eq v104 c7_i32_110
  let c3_i32_111 : BitVec 32 := 3#32
  let c0_i32_112 : BitVec 32 := 0#32
  let v127 : BitVec 32 := Scalar.select v126 c3_i32_111 c0_i32_112
  let v128 : BitVec 32 := Scalar.addi v125 v127
  let c8_i32_113 : BitVec 32 := 8#32
  let v129 : BitVec 1 := Scalar.cmpi .eq v104 c8_i32_113
  let c2_i32_114 : BitVec 32 := 2#32
  let c0_i32_115 : BitVec 32 := 0#32
  let v130 : BitVec 32 := Scalar.select v129 c2_i32_114 c0_i32_115
  let v131 : BitVec 32 := Scalar.addi v128 v130
  let c9_i32_116 : BitVec 32 := 9#32
  let v132 : BitVec 1 := Scalar.cmpi .eq v104 c9_i32_116
  let c6_i32_117 : BitVec 32 := 6#32
  let c0_i32_118 : BitVec 32 := 0#32
  let v133 : BitVec 32 := Scalar.select v132 c6_i32_117 c0_i32_118
  let v134 : BitVec 32 := Scalar.addi v131 v133
  let c10_i32_119 : BitVec 32 := 10#32
  let v135 : BitVec 1 := Scalar.cmpi .eq v104 c10_i32_119
  let c10_i32_120 : BitVec 32 := 10#32
  let c0_i32_121 : BitVec 32 := 0#32
  let v136 : BitVec 32 := Scalar.select v135 c10_i32_120 c0_i32_121
  let v137 : BitVec 32 := Scalar.addi v134 v136
  let c11_i32_122 : BitVec 32 := 11#32
  let v138 : BitVec 1 := Scalar.cmpi .eq v104 c11_i32_122
  let c14_i32_123 : BitVec 32 := 14#32
  let c0_i32_124 : BitVec 32 := 0#32
  let v139 : BitVec 32 := Scalar.select v138 c14_i32_123 c0_i32_124
  let v140 : BitVec 32 := Scalar.addi v137 v139
  let c12_i32_125 : BitVec 32 := 12#32
  let v141 : BitVec 1 := Scalar.cmpi .eq v104 c12_i32_125
  let c13_i32_126 : BitVec 32 := 13#32
  let c0_i32_127 : BitVec 32 := 0#32
  let v142 : BitVec 32 := Scalar.select v141 c13_i32_126 c0_i32_127
  let v143 : BitVec 32 := Scalar.addi v140 v142
  let c13_i32_128 : BitVec 32 := 13#32
  let v144 : BitVec 1 := Scalar.cmpi .eq v104 c13_i32_128
  let c9_i32_129 : BitVec 32 := 9#32
  let c0_i32_130 : BitVec 32 := 0#32
  let v145 : BitVec 32 := Scalar.select v144 c9_i32_129 c0_i32_130
  let v146 : BitVec 32 := Scalar.addi v143 v145
  let c14_i32_131 : BitVec 32 := 14#32
  let v147 : BitVec 1 := Scalar.cmpi .eq v104 c14_i32_131
  let c5_i32_132 : BitVec 32 := 5#32
  let c0_i32_133 : BitVec 32 := 0#32
  let v148 : BitVec 32 := Scalar.select v147 c5_i32_132 c0_i32_133
  let v149 : BitVec 32 := Scalar.addi v146 v148
  let c15_i32_134 : BitVec 32 := 15#32
  let v150 : BitVec 1 := Scalar.cmpi .eq v104 c15_i32_134
  let c1_i32_135 : BitVec 32 := 1#32
  let c0_i32_136 : BitVec 32 := 0#32
  let v151 : BitVec 32 := Scalar.select v150 c1_i32_135 c0_i32_136
  let v152 : BitVec 32 := Scalar.addi v149 v151
  let c1_i32_3884 : BitVec 32 := 1#32
  let v5373 : BitVec 32 := Scalar.muli v152 c1_i32_3884
  let v5374 : BitVec 32 := Scalar.addi c0_i32_3885 v5373
  v5374.toNat
def k0_dev58 (d0 : Dev nD) : Nat :=
  let c0_i32_3895 : BitVec 32 := 0#32
  let c0_i32_39 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_34 : BitVec 32 := 1#32
  let v51 : BitVec 32 := Scalar.subi v50 c1_i32_34
  let c32_i32 : BitVec 32 := 32#32
  let v52 : BitVec 32 := Scalar.addi v51 c32_i32
  let c16_i32_35 : BitVec 32 := 16#32
  let v53 : BitVec 32 := Scalar.remsi v52 c16_i32_35
  let c0_i32_36 : BitVec 32 := 0#32
  let v54 : BitVec 1 := Scalar.cmpi .eq v53 c0_i32_36
  let c0_i32_37 : BitVec 32 := 0#32
  let c0_i32_38 : BitVec 32 := 0#32
  let v55 : BitVec 32 := Scalar.select v54 c0_i32_37 c0_i32_38
  let v56 : BitVec 32 := Scalar.addi c0_i32_39 v55
  let c1_i32_40 : BitVec 32 := 1#32
  let v57 : BitVec 1 := Scalar.cmpi .eq v53 c1_i32_40
  let c4_i32_41 : BitVec 32 := 4#32
  let c0_i32_42 : BitVec 32 := 0#32
  let v58 : BitVec 32 := Scalar.select v57 c4_i32_41 c0_i32_42
  let v59 : BitVec 32 := Scalar.addi v56 v58
  let c2_i32_43 : BitVec 32 := 2#32
  let v60 : BitVec 1 := Scalar.cmpi .eq v53 c2_i32_43
  let c8_i32_44 : BitVec 32 := 8#32
  let c0_i32_45 : BitVec 32 := 0#32
  let v61 : BitVec 32 := Scalar.select v60 c8_i32_44 c0_i32_45
  let v62 : BitVec 32 := Scalar.addi v59 v61
  let c3_i32_46 : BitVec 32 := 3#32
  let v63 : BitVec 1 := Scalar.cmpi .eq v53 c3_i32_46
  let c12_i32_47 : BitVec 32 := 12#32
  let c0_i32_48 : BitVec 32 := 0#32
  let v64 : BitVec 32 := Scalar.select v63 c12_i32_47 c0_i32_48
  let v65 : BitVec 32 := Scalar.addi v62 v64
  let c4_i32_49 : BitVec 32 := 4#32
  let v66 : BitVec 1 := Scalar.cmpi .eq v53 c4_i32_49
  let c15_i32_50 : BitVec 32 := 15#32
  let c0_i32_51 : BitVec 32 := 0#32
  let v67 : BitVec 32 := Scalar.select v66 c15_i32_50 c0_i32_51
  let v68 : BitVec 32 := Scalar.addi v65 v67
  let c5_i32_52 : BitVec 32 := 5#32
  let v69 : BitVec 1 := Scalar.cmpi .eq v53 c5_i32_52
  let c11_i32_53 : BitVec 32 := 11#32
  let c0_i32_54 : BitVec 32 := 0#32
  let v70 : BitVec 32 := Scalar.select v69 c11_i32_53 c0_i32_54
  let v71 : BitVec 32 := Scalar.addi v68 v70
  let c6_i32_55 : BitVec 32 := 6#32
  let v72 : BitVec 1 := Scalar.cmpi .eq v53 c6_i32_55
  let c7_i32_56 : BitVec 32 := 7#32
  let c0_i32_57 : BitVec 32 := 0#32
  let v73 : BitVec 32 := Scalar.select v72 c7_i32_56 c0_i32_57
  let v74 : BitVec 32 := Scalar.addi v71 v73
  let c7_i32_58 : BitVec 32 := 7#32
  let v75 : BitVec 1 := Scalar.cmpi .eq v53 c7_i32_58
  let c3_i32_59 : BitVec 32 := 3#32
  let c0_i32_60 : BitVec 32 := 0#32
  let v76 : BitVec 32 := Scalar.select v75 c3_i32_59 c0_i32_60
  let v77 : BitVec 32 := Scalar.addi v74 v76
  let c8_i32_61 : BitVec 32 := 8#32
  let v78 : BitVec 1 := Scalar.cmpi .eq v53 c8_i32_61
  let c2_i32_62 : BitVec 32 := 2#32
  let c0_i32_63 : BitVec 32 := 0#32
  let v79 : BitVec 32 := Scalar.select v78 c2_i32_62 c0_i32_63
  let v80 : BitVec 32 := Scalar.addi v77 v79
  let c9_i32_64 : BitVec 32 := 9#32
  let v81 : BitVec 1 := Scalar.cmpi .eq v53 c9_i32_64
  let c6_i32_65 : BitVec 32 := 6#32
  let c0_i32_66 : BitVec 32 := 0#32
  let v82 : BitVec 32 := Scalar.select v81 c6_i32_65 c0_i32_66
  let v83 : BitVec 32 := Scalar.addi v80 v82
  let c10_i32_67 : BitVec 32 := 10#32
  let v84 : BitVec 1 := Scalar.cmpi .eq v53 c10_i32_67
  let c10_i32_68 : BitVec 32 := 10#32
  let c0_i32_69 : BitVec 32 := 0#32
  let v85 : BitVec 32 := Scalar.select v84 c10_i32_68 c0_i32_69
  let v86 : BitVec 32 := Scalar.addi v83 v85
  let c11_i32_70 : BitVec 32 := 11#32
  let v87 : BitVec 1 := Scalar.cmpi .eq v53 c11_i32_70
  let c14_i32_71 : BitVec 32 := 14#32
  let c0_i32_72 : BitVec 32 := 0#32
  let v88 : BitVec 32 := Scalar.select v87 c14_i32_71 c0_i32_72
  let v89 : BitVec 32 := Scalar.addi v86 v88
  let c12_i32_73 : BitVec 32 := 12#32
  let v90 : BitVec 1 := Scalar.cmpi .eq v53 c12_i32_73
  let c13_i32_74 : BitVec 32 := 13#32
  let c0_i32_75 : BitVec 32 := 0#32
  let v91 : BitVec 32 := Scalar.select v90 c13_i32_74 c0_i32_75
  let v92 : BitVec 32 := Scalar.addi v89 v91
  let c13_i32_76 : BitVec 32 := 13#32
  let v93 : BitVec 1 := Scalar.cmpi .eq v53 c13_i32_76
  let c9_i32_77 : BitVec 32 := 9#32
  let c0_i32_78 : BitVec 32 := 0#32
  let v94 : BitVec 32 := Scalar.select v93 c9_i32_77 c0_i32_78
  let v95 : BitVec 32 := Scalar.addi v92 v94
  let c14_i32_79 : BitVec 32 := 14#32
  let v96 : BitVec 1 := Scalar.cmpi .eq v53 c14_i32_79
  let c5_i32_80 : BitVec 32 := 5#32
  let c0_i32_81 : BitVec 32 := 0#32
  let v97 : BitVec 32 := Scalar.select v96 c5_i32_80 c0_i32_81
  let v98 : BitVec 32 := Scalar.addi v95 v97
  let c15_i32_82 : BitVec 32 := 15#32
  let v99 : BitVec 1 := Scalar.cmpi .eq v53 c15_i32_82
  let c1_i32_83 : BitVec 32 := 1#32
  let c0_i32_84 : BitVec 32 := 0#32
  let v100 : BitVec 32 := Scalar.select v99 c1_i32_83 c0_i32_84
  let v101 : BitVec 32 := Scalar.addi v98 v100
  let c1_i32_3894 : BitVec 32 := 1#32
  let v5383 : BitVec 32 := Scalar.muli v101 c1_i32_3894
  let v5384 : BitVec 32 := Scalar.addi c0_i32_3895 v5383
  v5384.toNat
def k0_dev59 (d0 : Dev nD) : Nat :=
  let c0_i32_4131 : BitVec 32 := 0#32
  let c0_i32_91 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_85 : BitVec 32 := 1#32
  let v102 : BitVec 32 := Scalar.addi v50 c1_i32_85
  let c32_i32_86 : BitVec 32 := 32#32
  let v103 : BitVec 32 := Scalar.addi v102 c32_i32_86
  let c16_i32_87 : BitVec 32 := 16#32
  let v104 : BitVec 32 := Scalar.remsi v103 c16_i32_87
  let c0_i32_88 : BitVec 32 := 0#32
  let v105 : BitVec 1 := Scalar.cmpi .eq v104 c0_i32_88
  let c0_i32_89 : BitVec 32 := 0#32
  let c0_i32_90 : BitVec 32 := 0#32
  let v106 : BitVec 32 := Scalar.select v105 c0_i32_89 c0_i32_90
  let v107 : BitVec 32 := Scalar.addi c0_i32_91 v106
  let c1_i32_92 : BitVec 32 := 1#32
  let v108 : BitVec 1 := Scalar.cmpi .eq v104 c1_i32_92
  let c4_i32_93 : BitVec 32 := 4#32
  let c0_i32_94 : BitVec 32 := 0#32
  let v109 : BitVec 32 := Scalar.select v108 c4_i32_93 c0_i32_94
  let v110 : BitVec 32 := Scalar.addi v107 v109
  let c2_i32_95 : BitVec 32 := 2#32
  let v111 : BitVec 1 := Scalar.cmpi .eq v104 c2_i32_95
  let c8_i32_96 : BitVec 32 := 8#32
  let c0_i32_97 : BitVec 32 := 0#32
  let v112 : BitVec 32 := Scalar.select v111 c8_i32_96 c0_i32_97
  let v113 : BitVec 32 := Scalar.addi v110 v112
  let c3_i32_98 : BitVec 32 := 3#32
  let v114 : BitVec 1 := Scalar.cmpi .eq v104 c3_i32_98
  let c12_i32_99 : BitVec 32 := 12#32
  let c0_i32_100 : BitVec 32 := 0#32
  let v115 : BitVec 32 := Scalar.select v114 c12_i32_99 c0_i32_100
  let v116 : BitVec 32 := Scalar.addi v113 v115
  let c4_i32_101 : BitVec 32 := 4#32
  let v117 : BitVec 1 := Scalar.cmpi .eq v104 c4_i32_101
  let c15_i32_102 : BitVec 32 := 15#32
  let c0_i32_103 : BitVec 32 := 0#32
  let v118 : BitVec 32 := Scalar.select v117 c15_i32_102 c0_i32_103
  let v119 : BitVec 32 := Scalar.addi v116 v118
  let c5_i32_104 : BitVec 32 := 5#32
  let v120 : BitVec 1 := Scalar.cmpi .eq v104 c5_i32_104
  let c11_i32_105 : BitVec 32 := 11#32
  let c0_i32_106 : BitVec 32 := 0#32
  let v121 : BitVec 32 := Scalar.select v120 c11_i32_105 c0_i32_106
  let v122 : BitVec 32 := Scalar.addi v119 v121
  let c6_i32_107 : BitVec 32 := 6#32
  let v123 : BitVec 1 := Scalar.cmpi .eq v104 c6_i32_107
  let c7_i32_108 : BitVec 32 := 7#32
  let c0_i32_109 : BitVec 32 := 0#32
  let v124 : BitVec 32 := Scalar.select v123 c7_i32_108 c0_i32_109
  let v125 : BitVec 32 := Scalar.addi v122 v124
  let c7_i32_110 : BitVec 32 := 7#32
  let v126 : BitVec 1 := Scalar.cmpi .eq v104 c7_i32_110
  let c3_i32_111 : BitVec 32 := 3#32
  let c0_i32_112 : BitVec 32 := 0#32
  let v127 : BitVec 32 := Scalar.select v126 c3_i32_111 c0_i32_112
  let v128 : BitVec 32 := Scalar.addi v125 v127
  let c8_i32_113 : BitVec 32 := 8#32
  let v129 : BitVec 1 := Scalar.cmpi .eq v104 c8_i32_113
  let c2_i32_114 : BitVec 32 := 2#32
  let c0_i32_115 : BitVec 32 := 0#32
  let v130 : BitVec 32 := Scalar.select v129 c2_i32_114 c0_i32_115
  let v131 : BitVec 32 := Scalar.addi v128 v130
  let c9_i32_116 : BitVec 32 := 9#32
  let v132 : BitVec 1 := Scalar.cmpi .eq v104 c9_i32_116
  let c6_i32_117 : BitVec 32 := 6#32
  let c0_i32_118 : BitVec 32 := 0#32
  let v133 : BitVec 32 := Scalar.select v132 c6_i32_117 c0_i32_118
  let v134 : BitVec 32 := Scalar.addi v131 v133
  let c10_i32_119 : BitVec 32 := 10#32
  let v135 : BitVec 1 := Scalar.cmpi .eq v104 c10_i32_119
  let c10_i32_120 : BitVec 32 := 10#32
  let c0_i32_121 : BitVec 32 := 0#32
  let v136 : BitVec 32 := Scalar.select v135 c10_i32_120 c0_i32_121
  let v137 : BitVec 32 := Scalar.addi v134 v136
  let c11_i32_122 : BitVec 32 := 11#32
  let v138 : BitVec 1 := Scalar.cmpi .eq v104 c11_i32_122
  let c14_i32_123 : BitVec 32 := 14#32
  let c0_i32_124 : BitVec 32 := 0#32
  let v139 : BitVec 32 := Scalar.select v138 c14_i32_123 c0_i32_124
  let v140 : BitVec 32 := Scalar.addi v137 v139
  let c12_i32_125 : BitVec 32 := 12#32
  let v141 : BitVec 1 := Scalar.cmpi .eq v104 c12_i32_125
  let c13_i32_126 : BitVec 32 := 13#32
  let c0_i32_127 : BitVec 32 := 0#32
  let v142 : BitVec 32 := Scalar.select v141 c13_i32_126 c0_i32_127
  let v143 : BitVec 32 := Scalar.addi v140 v142
  let c13_i32_128 : BitVec 32 := 13#32
  let v144 : BitVec 1 := Scalar.cmpi .eq v104 c13_i32_128
  let c9_i32_129 : BitVec 32 := 9#32
  let c0_i32_130 : BitVec 32 := 0#32
  let v145 : BitVec 32 := Scalar.select v144 c9_i32_129 c0_i32_130
  let v146 : BitVec 32 := Scalar.addi v143 v145
  let c14_i32_131 : BitVec 32 := 14#32
  let v147 : BitVec 1 := Scalar.cmpi .eq v104 c14_i32_131
  let c5_i32_132 : BitVec 32 := 5#32
  let c0_i32_133 : BitVec 32 := 0#32
  let v148 : BitVec 32 := Scalar.select v147 c5_i32_132 c0_i32_133
  let v149 : BitVec 32 := Scalar.addi v146 v148
  let c15_i32_134 : BitVec 32 := 15#32
  let v150 : BitVec 1 := Scalar.cmpi .eq v104 c15_i32_134
  let c1_i32_135 : BitVec 32 := 1#32
  let c0_i32_136 : BitVec 32 := 0#32
  let v151 : BitVec 32 := Scalar.select v150 c1_i32_135 c0_i32_136
  let v152 : BitVec 32 := Scalar.addi v149 v151
  let c1_i32_4130 : BitVec 32 := 1#32
  let v5713 : BitVec 32 := Scalar.muli v152 c1_i32_4130
  let v5714 : BitVec 32 := Scalar.addi c0_i32_4131 v5713
  v5714.toNat
def k0_dev60 (d0 : Dev nD) : Nat :=
  let c0_i32_4141 : BitVec 32 := 0#32
  let c0_i32_39 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_34 : BitVec 32 := 1#32
  let v51 : BitVec 32 := Scalar.subi v50 c1_i32_34
  let c32_i32 : BitVec 32 := 32#32
  let v52 : BitVec 32 := Scalar.addi v51 c32_i32
  let c16_i32_35 : BitVec 32 := 16#32
  let v53 : BitVec 32 := Scalar.remsi v52 c16_i32_35
  let c0_i32_36 : BitVec 32 := 0#32
  let v54 : BitVec 1 := Scalar.cmpi .eq v53 c0_i32_36
  let c0_i32_37 : BitVec 32 := 0#32
  let c0_i32_38 : BitVec 32 := 0#32
  let v55 : BitVec 32 := Scalar.select v54 c0_i32_37 c0_i32_38
  let v56 : BitVec 32 := Scalar.addi c0_i32_39 v55
  let c1_i32_40 : BitVec 32 := 1#32
  let v57 : BitVec 1 := Scalar.cmpi .eq v53 c1_i32_40
  let c4_i32_41 : BitVec 32 := 4#32
  let c0_i32_42 : BitVec 32 := 0#32
  let v58 : BitVec 32 := Scalar.select v57 c4_i32_41 c0_i32_42
  let v59 : BitVec 32 := Scalar.addi v56 v58
  let c2_i32_43 : BitVec 32 := 2#32
  let v60 : BitVec 1 := Scalar.cmpi .eq v53 c2_i32_43
  let c8_i32_44 : BitVec 32 := 8#32
  let c0_i32_45 : BitVec 32 := 0#32
  let v61 : BitVec 32 := Scalar.select v60 c8_i32_44 c0_i32_45
  let v62 : BitVec 32 := Scalar.addi v59 v61
  let c3_i32_46 : BitVec 32 := 3#32
  let v63 : BitVec 1 := Scalar.cmpi .eq v53 c3_i32_46
  let c12_i32_47 : BitVec 32 := 12#32
  let c0_i32_48 : BitVec 32 := 0#32
  let v64 : BitVec 32 := Scalar.select v63 c12_i32_47 c0_i32_48
  let v65 : BitVec 32 := Scalar.addi v62 v64
  let c4_i32_49 : BitVec 32 := 4#32
  let v66 : BitVec 1 := Scalar.cmpi .eq v53 c4_i32_49
  let c15_i32_50 : BitVec 32 := 15#32
  let c0_i32_51 : BitVec 32 := 0#32
  let v67 : BitVec 32 := Scalar.select v66 c15_i32_50 c0_i32_51
  let v68 : BitVec 32 := Scalar.addi v65 v67
  let c5_i32_52 : BitVec 32 := 5#32
  let v69 : BitVec 1 := Scalar.cmpi .eq v53 c5_i32_52
  let c11_i32_53 : BitVec 32 := 11#32
  let c0_i32_54 : BitVec 32 := 0#32
  let v70 : BitVec 32 := Scalar.select v69 c11_i32_53 c0_i32_54
  let v71 : BitVec 32 := Scalar.addi v68 v70
  let c6_i32_55 : BitVec 32 := 6#32
  let v72 : BitVec 1 := Scalar.cmpi .eq v53 c6_i32_55
  let c7_i32_56 : BitVec 32 := 7#32
  let c0_i32_57 : BitVec 32 := 0#32
  let v73 : BitVec 32 := Scalar.select v72 c7_i32_56 c0_i32_57
  let v74 : BitVec 32 := Scalar.addi v71 v73
  let c7_i32_58 : BitVec 32 := 7#32
  let v75 : BitVec 1 := Scalar.cmpi .eq v53 c7_i32_58
  let c3_i32_59 : BitVec 32 := 3#32
  let c0_i32_60 : BitVec 32 := 0#32
  let v76 : BitVec 32 := Scalar.select v75 c3_i32_59 c0_i32_60
  let v77 : BitVec 32 := Scalar.addi v74 v76
  let c8_i32_61 : BitVec 32 := 8#32
  let v78 : BitVec 1 := Scalar.cmpi .eq v53 c8_i32_61
  let c2_i32_62 : BitVec 32 := 2#32
  let c0_i32_63 : BitVec 32 := 0#32
  let v79 : BitVec 32 := Scalar.select v78 c2_i32_62 c0_i32_63
  let v80 : BitVec 32 := Scalar.addi v77 v79
  let c9_i32_64 : BitVec 32 := 9#32
  let v81 : BitVec 1 := Scalar.cmpi .eq v53 c9_i32_64
  let c6_i32_65 : BitVec 32 := 6#32
  let c0_i32_66 : BitVec 32 := 0#32
  let v82 : BitVec 32 := Scalar.select v81 c6_i32_65 c0_i32_66
  let v83 : BitVec 32 := Scalar.addi v80 v82
  let c10_i32_67 : BitVec 32 := 10#32
  let v84 : BitVec 1 := Scalar.cmpi .eq v53 c10_i32_67
  let c10_i32_68 : BitVec 32 := 10#32
  let c0_i32_69 : BitVec 32 := 0#32
  let v85 : BitVec 32 := Scalar.select v84 c10_i32_68 c0_i32_69
  let v86 : BitVec 32 := Scalar.addi v83 v85
  let c11_i32_70 : BitVec 32 := 11#32
  let v87 : BitVec 1 := Scalar.cmpi .eq v53 c11_i32_70
  let c14_i32_71 : BitVec 32 := 14#32
  let c0_i32_72 : BitVec 32 := 0#32
  let v88 : BitVec 32 := Scalar.select v87 c14_i32_71 c0_i32_72
  let v89 : BitVec 32 := Scalar.addi v86 v88
  let c12_i32_73 : BitVec 32 := 12#32
  let v90 : BitVec 1 := Scalar.cmpi .eq v53 c12_i32_73
  let c13_i32_74 : BitVec 32 := 13#32
  let c0_i32_75 : BitVec 32 := 0#32
  let v91 : BitVec 32 := Scalar.select v90 c13_i32_74 c0_i32_75
  let v92 : BitVec 32 := Scalar.addi v89 v91
  let c13_i32_76 : BitVec 32 := 13#32
  let v93 : BitVec 1 := Scalar.cmpi .eq v53 c13_i32_76
  let c9_i32_77 : BitVec 32 := 9#32
  let c0_i32_78 : BitVec 32 := 0#32
  let v94 : BitVec 32 := Scalar.select v93 c9_i32_77 c0_i32_78
  let v95 : BitVec 32 := Scalar.addi v92 v94
  let c14_i32_79 : BitVec 32 := 14#32
  let v96 : BitVec 1 := Scalar.cmpi .eq v53 c14_i32_79
  let c5_i32_80 : BitVec 32 := 5#32
  let c0_i32_81 : BitVec 32 := 0#32
  let v97 : BitVec 32 := Scalar.select v96 c5_i32_80 c0_i32_81
  let v98 : BitVec 32 := Scalar.addi v95 v97
  let c15_i32_82 : BitVec 32 := 15#32
  let v99 : BitVec 1 := Scalar.cmpi .eq v53 c15_i32_82
  let c1_i32_83 : BitVec 32 := 1#32
  let c0_i32_84 : BitVec 32 := 0#32
  let v100 : BitVec 32 := Scalar.select v99 c1_i32_83 c0_i32_84
  let v101 : BitVec 32 := Scalar.addi v98 v100
  let c1_i32_4140 : BitVec 32 := 1#32
  let v5723 : BitVec 32 := Scalar.muli v101 c1_i32_4140
  let v5724 : BitVec 32 := Scalar.addi c0_i32_4141 v5723
  v5724.toNat
def k0_dev61 (d0 : Dev nD) : Nat :=
  let c0_i32_4248 : BitVec 32 := 0#32
  let c0_i32_91 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_85 : BitVec 32 := 1#32
  let v102 : BitVec 32 := Scalar.addi v50 c1_i32_85
  let c32_i32_86 : BitVec 32 := 32#32
  let v103 : BitVec 32 := Scalar.addi v102 c32_i32_86
  let c16_i32_87 : BitVec 32 := 16#32
  let v104 : BitVec 32 := Scalar.remsi v103 c16_i32_87
  let c0_i32_88 : BitVec 32 := 0#32
  let v105 : BitVec 1 := Scalar.cmpi .eq v104 c0_i32_88
  let c0_i32_89 : BitVec 32 := 0#32
  let c0_i32_90 : BitVec 32 := 0#32
  let v106 : BitVec 32 := Scalar.select v105 c0_i32_89 c0_i32_90
  let v107 : BitVec 32 := Scalar.addi c0_i32_91 v106
  let c1_i32_92 : BitVec 32 := 1#32
  let v108 : BitVec 1 := Scalar.cmpi .eq v104 c1_i32_92
  let c4_i32_93 : BitVec 32 := 4#32
  let c0_i32_94 : BitVec 32 := 0#32
  let v109 : BitVec 32 := Scalar.select v108 c4_i32_93 c0_i32_94
  let v110 : BitVec 32 := Scalar.addi v107 v109
  let c2_i32_95 : BitVec 32 := 2#32
  let v111 : BitVec 1 := Scalar.cmpi .eq v104 c2_i32_95
  let c8_i32_96 : BitVec 32 := 8#32
  let c0_i32_97 : BitVec 32 := 0#32
  let v112 : BitVec 32 := Scalar.select v111 c8_i32_96 c0_i32_97
  let v113 : BitVec 32 := Scalar.addi v110 v112
  let c3_i32_98 : BitVec 32 := 3#32
  let v114 : BitVec 1 := Scalar.cmpi .eq v104 c3_i32_98
  let c12_i32_99 : BitVec 32 := 12#32
  let c0_i32_100 : BitVec 32 := 0#32
  let v115 : BitVec 32 := Scalar.select v114 c12_i32_99 c0_i32_100
  let v116 : BitVec 32 := Scalar.addi v113 v115
  let c4_i32_101 : BitVec 32 := 4#32
  let v117 : BitVec 1 := Scalar.cmpi .eq v104 c4_i32_101
  let c15_i32_102 : BitVec 32 := 15#32
  let c0_i32_103 : BitVec 32 := 0#32
  let v118 : BitVec 32 := Scalar.select v117 c15_i32_102 c0_i32_103
  let v119 : BitVec 32 := Scalar.addi v116 v118
  let c5_i32_104 : BitVec 32 := 5#32
  let v120 : BitVec 1 := Scalar.cmpi .eq v104 c5_i32_104
  let c11_i32_105 : BitVec 32 := 11#32
  let c0_i32_106 : BitVec 32 := 0#32
  let v121 : BitVec 32 := Scalar.select v120 c11_i32_105 c0_i32_106
  let v122 : BitVec 32 := Scalar.addi v119 v121
  let c6_i32_107 : BitVec 32 := 6#32
  let v123 : BitVec 1 := Scalar.cmpi .eq v104 c6_i32_107
  let c7_i32_108 : BitVec 32 := 7#32
  let c0_i32_109 : BitVec 32 := 0#32
  let v124 : BitVec 32 := Scalar.select v123 c7_i32_108 c0_i32_109
  let v125 : BitVec 32 := Scalar.addi v122 v124
  let c7_i32_110 : BitVec 32 := 7#32
  let v126 : BitVec 1 := Scalar.cmpi .eq v104 c7_i32_110
  let c3_i32_111 : BitVec 32 := 3#32
  let c0_i32_112 : BitVec 32 := 0#32
  let v127 : BitVec 32 := Scalar.select v126 c3_i32_111 c0_i32_112
  let v128 : BitVec 32 := Scalar.addi v125 v127
  let c8_i32_113 : BitVec 32 := 8#32
  let v129 : BitVec 1 := Scalar.cmpi .eq v104 c8_i32_113
  let c2_i32_114 : BitVec 32 := 2#32
  let c0_i32_115 : BitVec 32 := 0#32
  let v130 : BitVec 32 := Scalar.select v129 c2_i32_114 c0_i32_115
  let v131 : BitVec 32 := Scalar.addi v128 v130
  let c9_i32_116 : BitVec 32 := 9#32
  let v132 : BitVec 1 := Scalar.cmpi .eq v104 c9_i32_116
  let c6_i32_117 : BitVec 32 := 6#32
  let c0_i32_118 : BitVec 32 := 0#32
  let v133 : BitVec 32 := Scalar.select v132 c6_i32_117 c0_i32_118
  let v134 : BitVec 32 := Scalar.addi v131 v133
  let c10_i32_119 : BitVec 32 := 10#32
  let v135 : BitVec 1 := Scalar.cmpi .eq v104 c10_i32_119
  let c10_i32_120 : BitVec 32 := 10#32
  let c0_i32_121 : BitVec 32 := 0#32
  let v136 : BitVec 32 := Scalar.select v135 c10_i32_120 c0_i32_121
  let v137 : BitVec 32 := Scalar.addi v134 v136
  let c11_i32_122 : BitVec 32 := 11#32
  let v138 : BitVec 1 := Scalar.cmpi .eq v104 c11_i32_122
  let c14_i32_123 : BitVec 32 := 14#32
  let c0_i32_124 : BitVec 32 := 0#32
  let v139 : BitVec 32 := Scalar.select v138 c14_i32_123 c0_i32_124
  let v140 : BitVec 32 := Scalar.addi v137 v139
  let c12_i32_125 : BitVec 32 := 12#32
  let v141 : BitVec 1 := Scalar.cmpi .eq v104 c12_i32_125
  let c13_i32_126 : BitVec 32 := 13#32
  let c0_i32_127 : BitVec 32 := 0#32
  let v142 : BitVec 32 := Scalar.select v141 c13_i32_126 c0_i32_127
  let v143 : BitVec 32 := Scalar.addi v140 v142
  let c13_i32_128 : BitVec 32 := 13#32
  let v144 : BitVec 1 := Scalar.cmpi .eq v104 c13_i32_128
  let c9_i32_129 : BitVec 32 := 9#32
  let c0_i32_130 : BitVec 32 := 0#32
  let v145 : BitVec 32 := Scalar.select v144 c9_i32_129 c0_i32_130
  let v146 : BitVec 32 := Scalar.addi v143 v145
  let c14_i32_131 : BitVec 32 := 14#32
  let v147 : BitVec 1 := Scalar.cmpi .eq v104 c14_i32_131
  let c5_i32_132 : BitVec 32 := 5#32
  let c0_i32_133 : BitVec 32 := 0#32
  let v148 : BitVec 32 := Scalar.select v147 c5_i32_132 c0_i32_133
  let v149 : BitVec 32 := Scalar.addi v146 v148
  let c15_i32_134 : BitVec 32 := 15#32
  let v150 : BitVec 1 := Scalar.cmpi .eq v104 c15_i32_134
  let c1_i32_135 : BitVec 32 := 1#32
  let c0_i32_136 : BitVec 32 := 0#32
  let v151 : BitVec 32 := Scalar.select v150 c1_i32_135 c0_i32_136
  let v152 : BitVec 32 := Scalar.addi v149 v151
  let c1_i32_4247 : BitVec 32 := 1#32
  let v5928 : BitVec 32 := Scalar.muli v152 c1_i32_4247
  let v5929 : BitVec 32 := Scalar.addi c0_i32_4248 v5928
  v5929.toNat
def k0_dev62 (d0 : Dev nD) : Nat :=
  let c0_i32_4258 : BitVec 32 := 0#32
  let c0_i32_39 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c1_i32_3 : BitVec 32 := 1#32
  let v6 : BitVec 1 := Scalar.cmpi .eq v2 c1_i32_3
  let c15_i32 : BitVec 32 := 15#32
  let c0_i32_4 : BitVec 32 := 0#32
  let v7 : BitVec 32 := Scalar.select v6 c15_i32 c0_i32_4
  let v8 : BitVec 32 := Scalar.addi v5 v7
  let c2_i32 : BitVec 32 := 2#32
  let v9 : BitVec 1 := Scalar.cmpi .eq v2 c2_i32
  let c8_i32 : BitVec 32 := 8#32
  let c0_i32_5 : BitVec 32 := 0#32
  let v10 : BitVec 32 := Scalar.select v9 c8_i32 c0_i32_5
  let v11 : BitVec 32 := Scalar.addi v8 v10
  let c3_i32 : BitVec 32 := 3#32
  let v12 : BitVec 1 := Scalar.cmpi .eq v2 c3_i32
  let c7_i32 : BitVec 32 := 7#32
  let c0_i32_6 : BitVec 32 := 0#32
  let v13 : BitVec 32 := Scalar.select v12 c7_i32 c0_i32_6
  let v14 : BitVec 32 := Scalar.addi v11 v13
  let c4_i32 : BitVec 32 := 4#32
  let v15 : BitVec 1 := Scalar.cmpi .eq v2 c4_i32
  let c1_i32_7 : BitVec 32 := 1#32
  let c0_i32_8 : BitVec 32 := 0#32
  let v16 : BitVec 32 := Scalar.select v15 c1_i32_7 c0_i32_8
  let v17 : BitVec 32 := Scalar.addi v14 v16
  let c5_i32 : BitVec 32 := 5#32
  let v18 : BitVec 1 := Scalar.cmpi .eq v2 c5_i32
  let c14_i32 : BitVec 32 := 14#32
  let c0_i32_9 : BitVec 32 := 0#32
  let v19 : BitVec 32 := Scalar.select v18 c14_i32 c0_i32_9
  let v20 : BitVec 32 := Scalar.addi v17 v19
  let c6_i32 : BitVec 32 := 6#32
  let v21 : BitVec 1 := Scalar.cmpi .eq v2 c6_i32
  let c9_i32 : BitVec 32 := 9#32
  let c0_i32_10 : BitVec 32 := 0#32
  let v22 : BitVec 32 := Scalar.select v21 c9_i32 c0_i32_10
  let v23 : BitVec 32 := Scalar.addi v20 v22
  let c7_i32_11 : BitVec 32 := 7#32
  let v24 : BitVec 1 := Scalar.cmpi .eq v2 c7_i32_11
  let c6_i32_12 : BitVec 32 := 6#32
  let c0_i32_13 : BitVec 32 := 0#32
  let v25 : BitVec 32 := Scalar.select v24 c6_i32_12 c0_i32_13
  let v26 : BitVec 32 := Scalar.addi v23 v25
  let c8_i32_14 : BitVec 32 := 8#32
  let v27 : BitVec 1 := Scalar.cmpi .eq v2 c8_i32_14
  let c2_i32_15 : BitVec 32 := 2#32
  let c0_i32_16 : BitVec 32 := 0#32
  let v28 : BitVec 32 := Scalar.select v27 c2_i32_15 c0_i32_16
  let v29 : BitVec 32 := Scalar.addi v26 v28
  let c9_i32_17 : BitVec 32 := 9#32
  let v30 : BitVec 1 := Scalar.cmpi .eq v2 c9_i32_17
  let c13_i32 : BitVec 32 := 13#32
  let c0_i32_18 : BitVec 32 := 0#32
  let v31 : BitVec 32 := Scalar.select v30 c13_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c11_i32 : BitVec 32 := 11#32
  let v36 : BitVec 1 := Scalar.cmpi .eq v2 c11_i32
  let c5_i32_21 : BitVec 32 := 5#32
  let c0_i32_22 : BitVec 32 := 0#32
  let v37 : BitVec 32 := Scalar.select v36 c5_i32_21 c0_i32_22
  let v38 : BitVec 32 := Scalar.addi v35 v37
  let c12_i32 : BitVec 32 := 12#32
  let v39 : BitVec 1 := Scalar.cmpi .eq v2 c12_i32
  let c3_i32_23 : BitVec 32 := 3#32
  let c0_i32_24 : BitVec 32 := 0#32
  let v40 : BitVec 32 := Scalar.select v39 c3_i32_23 c0_i32_24
  let v41 : BitVec 32 := Scalar.addi v38 v40
  let c13_i32_25 : BitVec 32 := 13#32
  let v42 : BitVec 1 := Scalar.cmpi .eq v2 c13_i32_25
  let c12_i32_26 : BitVec 32 := 12#32
  let c0_i32_27 : BitVec 32 := 0#32
  let v43 : BitVec 32 := Scalar.select v42 c12_i32_26 c0_i32_27
  let v44 : BitVec 32 := Scalar.addi v41 v43
  let c14_i32_28 : BitVec 32 := 14#32
  let v45 : BitVec 1 := Scalar.cmpi .eq v2 c14_i32_28
  let c11_i32_29 : BitVec 32 := 11#32
  let c0_i32_30 : BitVec 32 := 0#32
  let v46 : BitVec 32 := Scalar.select v45 c11_i32_29 c0_i32_30
  let v47 : BitVec 32 := Scalar.addi v44 v46
  let c15_i32_31 : BitVec 32 := 15#32
  let v48 : BitVec 1 := Scalar.cmpi .eq v2 c15_i32_31
  let c4_i32_32 : BitVec 32 := 4#32
  let c0_i32_33 : BitVec 32 := 0#32
  let v49 : BitVec 32 := Scalar.select v48 c4_i32_32 c0_i32_33
  let v50 : BitVec 32 := Scalar.addi v47 v49
  let c1_i32_34 : BitVec 32 := 1#32
  let v51 : BitVec 32 := Scalar.subi v50 c1_i32_34
  let c32_i32 : BitVec 32 := 32#32
  let v52 : BitVec 32 := Scalar.addi v51 c32_i32
  let c16_i32_35 : BitVec 32 := 16#32
  let v53 : BitVec 32 := Scalar.remsi v52 c16_i32_35
  let c0_i32_36 : BitVec 32 := 0#32
  let v54 : BitVec 1 := Scalar.cmpi .eq v53 c0_i32_36
  let c0_i32_37 : BitVec 32 := 0#32
  let c0_i32_38 : BitVec 32 := 0#32
  let v55 : BitVec 32 := Scalar.select v54 c0_i32_37 c0_i32_38
  let v56 : BitVec 32 := Scalar.addi c0_i32_39 v55
  let c1_i32_40 : BitVec 32 := 1#32
  let v57 : BitVec 1 := Scalar.cmpi .eq v53 c1_i32_40
  let c4_i32_41 : BitVec 32 := 4#32
  let c0_i32_42 : BitVec 32 := 0#32
  let v58 : BitVec 32 := Scalar.select v57 c4_i32_41 c0_i32_42
  let v59 : BitVec 32 := Scalar.addi v56 v58
  let c2_i32_43 : BitVec 32 := 2#32
  let v60 : BitVec 1 := Scalar.cmpi .eq v53 c2_i32_43
  let c8_i32_44 : BitVec 32 := 8#32
  let c0_i32_45 : BitVec 32 := 0#32
  let v61 : BitVec 32 := Scalar.select v60 c8_i32_44 c0_i32_45
  let v62 : BitVec 32 := Scalar.addi v59 v61
  let c3_i32_46 : BitVec 32 := 3#32
  let v63 : BitVec 1 := Scalar.cmpi .eq v53 c3_i32_46
  let c12_i32_47 : BitVec 32 := 12#32
  let c0_i32_48 : BitVec 32 := 0#32
  let v64 : BitVec 32 := Scalar.select v63 c12_i32_47 c0_i32_48
  let v65 : BitVec 32 := Scalar.addi v62 v64
  let c4_i32_49 : BitVec 32 := 4#32
  let v66 : BitVec 1 := Scalar.cmpi .eq v53 c4_i32_49
  let c15_i32_50 : BitVec 32 := 15#32
  let c0_i32_51 : BitVec 32 := 0#32
  let v67 : BitVec 32 := Scalar.select v66 c15_i32_50 c0_i32_51
  let v68 : BitVec 32 := Scalar.addi v65 v67
  let c5_i32_52 : BitVec 32 := 5#32
  let v69 : BitVec 1 := Scalar.cmpi .eq v53 c5_i32_52
  let c11_i32_53 : BitVec 32 := 11#32
  let c0_i32_54 : BitVec 32 := 0#32
  let v70 : BitVec 32 := Scalar.select v69 c11_i32_53 c0_i32_54
  let v71 : BitVec 32 := Scalar.addi v68 v70
  let c6_i32_55 : BitVec 32 := 6#32
  let v72 : BitVec 1 := Scalar.cmpi .eq v53 c6_i32_55
  let c7_i32_56 : BitVec 32 := 7#32
  let c0_i32_57 : BitVec 32 := 0#32
  let v73 : BitVec 32 := Scalar.select v72 c7_i32_56 c0_i32_57
  let v74 : BitVec 32 := Scalar.addi v71 v73
  let c7_i32_58 : BitVec 32 := 7#32
  let v75 : BitVec 1 := Scalar.cmpi .eq v53 c7_i32_58
  let c3_i32_59 : BitVec 32 := 3#32
  let c0_i32_60 : BitVec 32 := 0#32
  let v76 : BitVec 32 := Scalar.select v75 c3_i32_59 c0_i32_60
  let v77 : BitVec 32 := Scalar.addi v74 v76
  let c8_i32_61 : BitVec 32 := 8#32
  let v78 : BitVec 1 := Scalar.cmpi .eq v53 c8_i32_61
  let c2_i32_62 : BitVec 32 := 2#32
  let c0_i32_63 : BitVec 32 := 0#32
  let v79 : BitVec 32 := Scalar.select v78 c2_i32_62 c0_i32_63
  let v80 : BitVec 32 := Scalar.addi v77 v79
  let c9_i32_64 : BitVec 32 := 9#32
  let v81 : BitVec 1 := Scalar.cmpi .eq v53 c9_i32_64
  let c6_i32_65 : BitVec 32 := 6#32
  let c0_i32_66 : BitVec 32 := 0#32
  let v82 : BitVec 32 := Scalar.select v81 c6_i32_65 c0_i32_66
  let v83 : BitVec 32 := Scalar.addi v80 v82
  let c10_i32_67 : BitVec 32 := 10#32
  let v84 : BitVec 1 := Scalar.cmpi .eq v53 c10_i32_67
  let c10_i32_68 : BitVec 32 := 10#32
  let c0_i32_69 : BitVec 32 := 0#32
  let v85 : BitVec 32 := Scalar.select v84 c10_i32_68 c0_i32_69
  let v86 : BitVec 32 := Scalar.addi v83 v85
  let c11_i32_70 : BitVec 32 := 11#32
  let v87 : BitVec 1 := Scalar.cmpi .eq v53 c11_i32_70
  let c14_i32_71 : BitVec 32 := 14#32
  let c0_i32_72 : BitVec 32 := 0#32
  let v88 : BitVec 32 := Scalar.select v87 c14_i32_71 c0_i32_72
  let v89 : BitVec 32 := Scalar.addi v86 v88
  let c12_i32_73 : BitVec 32 := 12#32
  let v90 : BitVec 1 := Scalar.cmpi .eq v53 c12_i32_73
  let c13_i32_74 : BitVec 32 := 13#32
  let c0_i32_75 : BitVec 32 := 0#32
  let v91 : BitVec 32 := Scalar.select v90 c13_i32_74 c0_i32_75
  let v92 : BitVec 32 := Scalar.addi v89 v91
  let c13_i32_76 : BitVec 32 := 13#32
  let v93 : BitVec 1 := Scalar.cmpi .eq v53 c13_i32_76
  let c9_i32_77 : BitVec 32 := 9#32
  let c0_i32_78 : BitVec 32 := 0#32
  let v94 : BitVec 32 := Scalar.select v93 c9_i32_77 c0_i32_78
  let v95 : BitVec 32 := Scalar.addi v92 v94
  let c14_i32_79 : BitVec 32 := 14#32
  let v96 : BitVec 1 := Scalar.cmpi .eq v53 c14_i32_79
  let c5_i32_80 : BitVec 32 := 5#32
  let c0_i32_81 : BitVec 32 := 0#32
  let v97 : BitVec 32 := Scalar.select v96 c5_i32_80 c0_i32_81
  let v98 : BitVec 32 := Scalar.addi v95 v97
  let c15_i32_82 : BitVec 32 := 15#32
  let v99 : BitVec 1 := Scalar.cmpi .eq v53 c15_i32_82
  let c1_i32_83 : BitVec 32 := 1#32
  let c0_i32_84 : BitVec 32 := 0#32
  let v100 : BitVec 32 := Scalar.select v99 c1_i32_83 c0_i32_84
  let v101 : BitVec 32 := Scalar.addi v98 v100
  let c1_i32_4257 : BitVec 32 := 1#32
  let v5938 : BitVec 32 := Scalar.muli v101 c1_i32_4257
  let v5939 : BitVec 32 := Scalar.addi c0_i32_4258 v5938
  v5939.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "log_step" => some (((-(Real.log 10000)) * (1 / 64) : ℝ) : EReal)
  | _ => none
-- ==== ReferenceIdeal.lean ====
abbrev S32x128x512 : Shape := ⟨3, ![32, 128, 512]⟩
abbrev S512x4096 : Shape := ⟨2, ![512, 4096]⟩
abbrev S4096x512 : Shape := ⟨2, ![4096, 512]⟩
abbrev S32 : Shape := ⟨1, ![32]⟩
abbrev S_ : Shape := ⟨0, ![]⟩
abbrev S128 : Shape := ⟨1, ![128]⟩
abbrev S128x1 : Shape := ⟨2, ![128, 1]⟩
abbrev S1x32 : Shape := ⟨2, ![1, 32]⟩
abbrev S128x32 : Shape := ⟨2, ![128, 32]⟩
abbrev S128x32x2 : Shape := ⟨3, ![128, 32, 2]⟩
abbrev S128x64 : Shape := ⟨2, ![128, 64]⟩
abbrev S32x128x4096 : Shape := ⟨3, ![32, 128, 4096]⟩
abbrev S32x128x64x64 : Shape := ⟨4, ![32, 128, 64, 64]⟩
abbrev S32x128x64x32x2 : Shape := ⟨5, ![32, 128, 64, 32, 2]⟩
abbrev S32x128x64x32x1 : Shape := ⟨5, ![32, 128, 64, 32, 1]⟩
abbrev S32x128x64x32 : Shape := ⟨4, ![32, 128, 64, 32]⟩
abbrev S1x128x1x64 : Shape := ⟨4, ![1, 128, 1, 64]⟩
abbrev S32x64x128x128 : Shape := ⟨4, ![32, 64, 128, 128]⟩
abbrev S32x64x128 : Shape := ⟨3, ![32, 64, 128]⟩
abbrev S32x64x128x1 : Shape := ⟨4, ![32, 64, 128, 1]⟩
abbrev S32x64x64x128 : Shape := ⟨4, ![32, 64, 64, 128]⟩

abbrev nBuf : Space → Nat
  | .hbm => 94
  | .vmem => 0
  | .smem => 0
  | _ => 0

abbrev bufTy : (tb : Table) → Fin (tcTables nBuf tb) → BufTy
  | .hbm, ⟨0, _⟩ => ⟨S32x128x512, .f32⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S4096x512, .f32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S128, .i32⟩
  | .hbm, ⟨23, _⟩ => ⟨S128x1, .i32⟩
  | .hbm, ⟨24, _⟩ => ⟨S1x32, .f32⟩
  | .hbm, ⟨25, _⟩ => ⟨S128x1, .f32⟩
  | .hbm, ⟨26, _⟩ => ⟨S128x32, .f32⟩
  | .hbm, ⟨27, _⟩ => ⟨S128x32, .f32⟩
  | .hbm, ⟨28, _⟩ => ⟨S128x32, .f32⟩
  | .hbm, ⟨29, _⟩ => ⟨S128x32, .f32⟩
  | .hbm, ⟨30, _⟩ => ⟨S128x32x2, .f32⟩
  | .hbm, ⟨31, _⟩ => ⟨S128x64, .f32⟩
  | .hbm, ⟨32, _⟩ => ⟨S128x32, .f32⟩
  | .hbm, ⟨33, _⟩ => ⟨S128x32x2, .f32⟩
  | .hbm, ⟨34, _⟩ => ⟨S128x64, .f32⟩
  | .hbm, ⟨35, _⟩ => ⟨S32x128x4096, .f32⟩
  | .hbm, ⟨36, _⟩ => ⟨S32x128x64x64, .f32⟩
  | .hbm, ⟨37, _⟩ => ⟨S32x128x64x32x2, .f32⟩
  | .hbm, ⟨38, _⟩ => ⟨S32x128x64x32x1, .f32⟩
  | .hbm, ⟨39, _⟩ => ⟨S32x128x64x32, .f32⟩
  | .hbm, ⟨40, _⟩ => ⟨S32x128x64x32, .f32⟩
  | .hbm, ⟨41, _⟩ => ⟨S32x128x64x32x1, .f32⟩
  | .hbm, ⟨42, _⟩ => ⟨S32x128x64x32, .f32⟩
  | .hbm, ⟨43, _⟩ => ⟨S32x128x64x32x1, .f32⟩
  | .hbm, ⟨44, _⟩ => ⟨S32x128x64x32x1, .f32⟩
  | .hbm, ⟨45, _⟩ => ⟨S32x128x64x32x2, .f32⟩
  | .hbm, ⟨46, _⟩ => ⟨S32x128x64x64, .f32⟩
  | .hbm, ⟨47, _⟩ => ⟨S1x128x1x64, .f32⟩
  | .hbm, ⟨48, _⟩ => ⟨S32x128x64x64, .f32⟩
  | .hbm, ⟨49, _⟩ => ⟨S32x128x64x64, .f32⟩
  | .hbm, ⟨50, _⟩ => ⟨S1x128x1x64, .f32⟩
  | .hbm, ⟨51, _⟩ => ⟨S32x128x64x64, .f32⟩
  | .hbm, ⟨52, _⟩ => ⟨S32x128x64x64, .f32⟩
  | .hbm, ⟨53, _⟩ => ⟨S32x128x64x64, .f32⟩
  | .hbm, ⟨54, _⟩ => ⟨S32x128x4096, .f32⟩
  | .hbm, ⟨55, _⟩ => ⟨S32x128x64x64, .f32⟩
  | .hbm, ⟨56, _⟩ => ⟨S32x128x64x32x2, .f32⟩
  | .hbm, ⟨57, _⟩ => ⟨S32x128x64x32x1, .f32⟩
  | .hbm, ⟨58, _⟩ => ⟨S32x128x64x32, .f32⟩
  | .hbm, ⟨59, _⟩ => ⟨S32x128x64x32, .f32⟩
  | .hbm, ⟨60, _⟩ => ⟨S32x128x64x32x1, .f32⟩
  | .hbm, ⟨61, _⟩ => ⟨S32x128x64x32, .f32⟩
  | .hbm, ⟨62, _⟩ => ⟨S32x128x64x32x1, .f32⟩
  | .hbm, ⟨63, _⟩ => ⟨S32x128x64x32x1, .f32⟩
  | .hbm, ⟨64, _⟩ => ⟨S32x128x64x32x2, .f32⟩
  | .hbm, ⟨65, _⟩ => ⟨S32x128x64x64, .f32⟩
  | .hbm, ⟨66, _⟩ => ⟨S1x128x1x64, .f32⟩
  | .hbm, ⟨67, _⟩ => ⟨S32x128x64x64, .f32⟩
  | .hbm, ⟨68, _⟩ => ⟨S32x128x64x64, .f32⟩
  | .hbm, ⟨69, _⟩ => ⟨S1x128x1x64, .f32⟩
  | .hbm, ⟨70, _⟩ => ⟨S32x128x64x64, .f32⟩
  | .hbm, ⟨71, _⟩ => ⟨S32x128x64x64, .f32⟩
  | .hbm, ⟨72, _⟩ => ⟨S32x128x64x64, .f32⟩
  | .hbm, ⟨73, _⟩ => ⟨S32x128x4096, .f32⟩
  | .hbm, ⟨74, _⟩ => ⟨S32x128x64x64, .f32⟩
  | .hbm, ⟨75, _⟩ => ⟨S32x64x128x128, .f32⟩
  | .hbm, ⟨76, _⟩ => ⟨S_, .f32⟩
  | .hbm, ⟨77, _⟩ => ⟨S32x64x128x128, .f32⟩
  | .hbm, ⟨78, _⟩ => ⟨S32x64x128x128, .f32⟩
  | .hbm, ⟨79, _⟩ => ⟨S_, .f32⟩
  | .hbm, ⟨80, _⟩ => ⟨S32x64x128, .f32⟩
  | .hbm, ⟨81, _⟩ => ⟨S32x64x128x1, .f32⟩
  | .hbm, ⟨82, _⟩ => ⟨S32x64x128x128, .f32⟩
  | .hbm, ⟨83, _⟩ => ⟨S32x64x128x128, .f32⟩
  | .hbm, ⟨84, _⟩ => ⟨S32x64x128x128, .f32⟩
  | .hbm, ⟨85, _⟩ => ⟨S_, .f32⟩
  | .hbm, ⟨86, _⟩ => ⟨S32x64x128, .f32⟩
  | .hbm, ⟨87, _⟩ => ⟨S32x64x128x1, .f32⟩
  | .hbm, ⟨88, _⟩ => ⟨S32x64x128x128, .f32⟩
  | .hbm, ⟨89, _⟩ => ⟨S32x64x128x128, .f32⟩
  | .hbm, ⟨90, _⟩ => ⟨S32x64x64x128, .f32⟩
  | .hbm, ⟨91, _⟩ => ⟨S32x128x64x64, .f32⟩
  | .hbm, ⟨92, _⟩ => ⟨S32x128x4096, .f32⟩
  | .hbm, ⟨93, _⟩ => ⟨S32x128x512, .f32⟩
  | _, _ => ⟨S32x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_3 : Ref sig .tc := ⟨.hbm, 76, rfl⟩
abbrev main_v66 : Ref sig .tc := ⟨.hbm, 77, rfl⟩
abbrev main_v67 : Ref sig .tc := ⟨.hbm, 78, rfl⟩
abbrev main_cst_4 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_5 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩

abbrev nD : Nat := 1
abbrev τ : Topo := Topo.v7x

variable {F : FTy → Type} [FloatOps F]
-- ==== Proof.KernelIdeal.Steps.lean ====
/-
  The kernel's body as a short chain of steps.  The printed body is some three hundred memory operations in a row;
  here it is written as one step before the ring, seventeen hops (thirteen of them the same step at a different hop
  number) and the step that stores the result, and `body_eq` says that the printed body is that chain.
-/
module

public import proofs.«01_k».proof.KernelIdeal
public import Idealize.ShloMosaic.Lib.Pipeline.Regions

@[expose] public section

noncomputable section

namespace Cert.KernelIdeal.Ring

open Idealize.ShloMosaic Idealize.SL.Sem
open Cert.KernelIdeal Cert.KernelIdeal.Facts₀ Cert.KernelIdeal.Facts

variable {F : FTy → Type} [FloatOps F] [Named F] [Facts]

/-! ## The tables of the rotary embedding -/

/-- The angle of each position and column of four heads of 64 columns. -/
def angle : FVec F S128x256 .f32 :=
  have v175 : IVec S128x256 32 := iota .tc S128x256 32 [0] iota_S128x256_d0_w32
  have v176 : IVec S128x256 32 := iota .tc S128x256 32 [1] iota_S128x256_d1_w32
  let c64_i32 : BitVec 32 := 64#32
  let c0_i32_151 : BitVec 32 := 0#32
  let v177 : BitVec 1 := Scalar.cmpi .eq c64_i32 c0_i32_151
  let c1_i32_152 : BitVec 32 := 1#32
  let v178 : BitVec 32 := Scalar.select v177 c1_i32_152 c64_i32
  have v179 : IVec S128x256 32 := broadcast S128x256 v178
  have v180 : IVec S128x256 32 := remsi v176 v179
  let c0_i32_153 : BitVec 32 := 0#32
  have v181 : IVec S128x256 32 := broadcast S128x256 c0_i32_153
  have v182 : IVec S128x256 1 := cmpi .ne v180 v181
  let c0_i32_154 : BitVec 32 := 0#32
  have v183 : IVec S128x256 32 := broadcast S128x256 c0_i32_154
  have v184 : IVec S128x256 1 := cmpi .slt v180 v183
  let c0_i32_155 : BitVec 32 := 0#32
  let v185 : BitVec 1 := Scalar.cmpi .slt v178 c0_i32_155
  have v186 : IVec S128x256 1 := broadcast S128x256 v185
  have v187 : IVec S128x256 1 := broadcastTo S128x256 v186 broadcasts_S128x256_S128x256
  have v188 : IVec S128x256 1 := xori v184 v187
  have v189 : IVec S128x256 1 := andi v188 v182
  have v190 : IVec S128x256 32 := broadcast S128x256 v178
  have v191 : IVec S128x256 32 := addi v180 v190
  have v192 : IVec S128x256 32 := select v189 v191 v180
  let c2_i32_156 : BitVec 32 := 2#32
  have v193 : IVec S128x256 32 := broadcast S128x256 c2_i32_156
  have v194 : IVec S128x256 32 := divsi v192 v193
  let c0_i32_157 : BitVec 32 := 0#32
  have v195 : IVec S128x256 32 := broadcast S128x256 c0_i32_157
  have v196 : IVec S128x256 1 := cmpi .sgt v192 v195
  have v197 : IVec S128x256 32 := extui 32 v196 natLt_1_32
  let c0_i32_158 : BitVec 32 := 0#32
  have v198 : IVec S128x256 32 := broadcast S128x256 c0_i32_158
  have v199 : IVec S128x256 1 := cmpi .slt v192 v198
  have v200 : IVec S128x256 32 := extui 32 v199 natLt_1_32
  have v201 : IVec S128x256 32 := subi v197 v200
  let c0_i32_159 : BitVec 32 := 0#32
  let v202 : BitVec 1 := Scalar.cmpi .sgt c2_i32_156 c0_i32_159
  let v203 : BitVec 32 := Scalar.extui v202
  let c0_i32_160 : BitVec 32 := 0#32
  let v204 : BitVec 1 := Scalar.cmpi .slt c2_i32_156 c0_i32_160
  let v205 : BitVec 32 := Scalar.extui v204
  let v206 : BitVec 32 := Scalar.subi v203 v205
  have v207 : IVec S128x256 32 := broadcast S128x256 v206
  have v208 : IVec S128x256 1 := cmpi .ne v201 v207
  have v209 : IVec S128x256 32 := broadcast S128x256 c2_i32_156
  have v210 : IVec S128x256 32 := remsi v192 v209
  let c0_i32_161 : BitVec 32 := 0#32
  have v211 : IVec S128x256 32 := broadcast S128x256 c0_i32_161
  have v212 : IVec S128x256 1 := cmpi .ne v210 v211
  have v213 : IVec S128x256 1 := andi v208 v212
  let c1_i32_162 : BitVec 32 := 1#32
  have v214 : IVec S128x256 32 := broadcast S128x256 c1_i32_162
  have v215 : IVec S128x256 32 := subi v194 v214
  have v216 : IVec S128x256 32 := select v213 v215 v194
  let c2_i32_163 : BitVec 32 := 2#32
  have v217 : IVec S128x256 32 := broadcast S128x256 c2_i32_163
  have v218 : IVec S128x256 32 := muli v216 v217
  have v219 : FVec F S128x256 .f32 := sitofp .f32 v218
  have cst : F .f32 := Named.named κ "log_step" 0xBE135D8E#32
  have v220 : FVec F S128x256 .f32 := broadcast S128x256 cst
  have v221 : FVec F S128x256 .f32 := mulf v219 v220
  have v222 : FVec F S128x256 .f32 := exp v221
  have v223 : FVec F S128x256 .f32 := sitofp .f32 v175
  have v224 : FVec F S128x256 .f32 := mulf v223 v222
  v224

/-- The cosine table, once per sequence. -/
def cosTab : FVec F S256x256 .f32 :=
  concatenate S256x256 0 [⟨S128x256, cos angle⟩, ⟨S128x256, cos angle⟩] concatenates_S128x256_S128x256_S256x256_d0

/-- The sine table, once per sequence. -/
def sinTab : FVec F S256x256 .f32 :=
  concatenate S256x256 0 [⟨S128x256, sin angle⟩, ⟨S128x256, sin angle⟩] concatenates_S128x256_S128x256_S256x256_d0

/-- The matrix that maps a row to its pairs swapped with a sign. -/
def rotMat : FVec F S256x256 .f32 :=
  have v227 : IVec S256x256 32 := iota .tc S256x256 32 [0] iota_S256x256_d0_w32
  have v228 : IVec S256x256 32 := iota .tc S256x256 32 [1] iota_S256x256_d1_w32
  let c2_i32_164 : BitVec 32 := 2#32
  let c0_i32_165 : BitVec 32 := 0#32
  let v229 : BitVec 1 := Scalar.cmpi .eq c2_i32_164 c0_i32_165
  let c1_i32_166 : BitVec 32 := 1#32
  let v230 : BitVec 32 := Scalar.select v229 c1_i32_166 c2_i32_164
  have v231 : IVec S256x256 32 := broadcast S256x256 v230
  have v232 : IVec S256x256 32 := remsi v228 v231
  let c0_i32_167 : BitVec 32 := 0#32
  have v233 : IVec S256x256 32 := broadcast S256x256 c0_i32_167
  have v234 : IVec S256x256 1 := cmpi .ne v232 v233
  let c0_i32_168 : BitVec 32 := 0#32
  have v235 : IVec S256x256 32 := broadcast S256x256 c0_i32_168
  have v236 : IVec S256x256 1 := cmpi .slt v232 v235
  let c0_i32_169 : BitVec 32 := 0#32
  let v237 : BitVec 1 := Scalar.cmpi .slt v230 c0_i32_169
  have v238 : IVec S256x256 1 := broadcast S256x256 v237
  have v239 : IVec S256x256 1 := broadcastTo S256x256 v238 broadcasts_S256x256_S256x256
  have v240 : IVec S256x256 1 := xori v236 v239
  have v241 : IVec S256x256 1 := andi v240 v234
  have v242 : IVec S256x256 32 := broadcast S256x256 v230
  have v243 : IVec S256x256 32 := addi v232 v242
  have v244 : IVec S256x256 32 := select v241 v243 v232
  let c0_i32_170 : BitVec 32 := 0#32
  have v245 : IVec S256x256 32 := broadcast S256x256 c0_i32_170
  have v246 : IVec S256x256 1 := cmpi .eq v244 v245
  let c1_i32_171 : BitVec 32 := 1#32
  have v247 : IVec S256x256 32 := broadcast S256x256 c1_i32_171
  have v248 : IVec S256x256 32 := addi v228 v247
  have v249 : IVec S256x256 1 := cmpi .eq v227 v248
  have v250 : IVec S256x256 1 := andi v246 v249
  have cst_172 : F .f32 := Scalar.ofBits .f32 0xBF800000#32
  have cst_173 : F .f32 := Scalar.ofBits .f32 0x00000000#32
  have v251 : FVec F S256x256 .f32 := broadcast S256x256 cst_172
  have v252 : FVec F S256x256 .f32 := broadcast S256x256 cst_173
  have v253 : FVec F S256x256 .f32 := select v250 v251 v252
  have cst_174 : IVec S256x256 1 := constantI S256x256 1 1#1
  have v254 : IVec S256x256 1 := xori v246 cst_174
  let c1_i32_175 : BitVec 32 := 1#32
  have v255 : IVec S256x256 32 := broadcast S256x256 c1_i32_175
  have v256 : IVec S256x256 32 := subi v228 v255
  have v257 : IVec S256x256 1 := cmpi .eq v227 v256
  have v258 : IVec S256x256 1 := andi v254 v257
  have cst_176 : F .f32 := Scalar.ofBits .f32 0x3F800000#32
  have cst_177 : F .f32 := Scalar.ofBits .f32 0x00000000#32
  have v259 : FVec F S256x256 .f32 := broadcast S256x256 cst_176
  have v260 : FVec F S256x256 .f32 := broadcast S256x256 cst_177
  have v261 : FVec F S256x256 .f32 := select v258 v259 v260
  have v262 : FVec F S256x256 .f32 := addf v253 v261
  v262

/-! ## One block's partial product -/

/-- A projection with its rotary embedding. -/
def rope (p : FVec F S256x256 .f32) : FVec F S256x256 .f32 :=
  addf (mulf p cosTab)
    (mulf (matmul dot_S256x256_S256x256_S256x256_1_0_0_1_n_n none p rotMat (constant S256x256 .f32 0x00000000#32)) sinTab)

/-- The scaled scores of one head. -/
def scoresOf (q k : FVec F S128x64 .f32) : FVec F S128x128 .f32 :=
  mulf (matmul dot_S128x64_S128x64_S128x128_1_1_0_0_n_n none q k (constant S128x128 .f32 0x00000000#32))
    (broadcast S128x128 (Scalar.ofBits .f32 0x3E000000#32))

/-- The exponentials of the scores less their row's maximum. -/
def expsOf (s : FVec F S128x128 .f32) : FVec F S128x128 .f32 :=
  exp (subf s (broadcastTo S128x128 (shapeCast S128x1
    (multiReduction .maximumf [1] S128 s 0xFF800000#32 reduces_S128x128_S128 (.inl rfl) rfl)
    shapeCasts_S128_S128x1) broadcasts_S128x1_S128x128))

/-- Each row over its sum. -/
def normOf (e : FVec F S128x128 .f32) : FVec F S128x128 .f32 :=
  divf e (broadcastTo S128x128 (shapeCast S128x1
    (multiReduction .add [1] S128 e 0x00000000#32 reduces_S128x128_S128 (.inl rfl) rfl)
    shapeCasts_S128_S128x1) broadcasts_S128x1_S128x128)

/-- One head's attention on one sequence. -/
def headOf (q k v : FVec F S128x64 .f32) : FVec F S128x64 .f32 :=
  matmul dot_S128x128_S128x64_S128x64_1_0_0_1_n_n none (normOf (expsOf (scoresOf q k))) v
    (constant S128x64 .f32 0x00000000#32)

/-- The four heads of the first sequence of a block. -/
def headsE (q k v : FVec F S256x256 .f32) : FVec F S128x256 .f32 :=
  concatenate S128x256 1 [⟨S128x64, headOf (extractStridedSlice S128x64 ![0, 0] q slices_S256x256_o0_0_S128x64) (extractStridedSlice S128x64 ![0, 0] k slices_S256x256_o0_0_S128x64) (extractStridedSlice S128x64 ![0, 0] v slices_S256x256_o0_0_S128x64)⟩,
    ⟨S128x64, headOf (extractStridedSlice S128x64 ![0, 64] q slices_S256x256_o0_64_S128x64) (extractStridedSlice S128x64 ![0, 64] k slices_S256x256_o0_64_S128x64) (extractStridedSlice S128x64 ![0, 64] v slices_S256x256_o0_64_S128x64)⟩,
    ⟨S128x64, headOf (extractStridedSlice S128x64 ![0, 128] q slices_S256x256_o0_128_S128x64) (extractStridedSlice S128x64 ![0, 128] k slices_S256x256_o0_128_S128x64) (extractStridedSlice S128x64 ![0, 128] v slices_S256x256_o0_128_S128x64)⟩,
    ⟨S128x64, headOf (extractStridedSlice S128x64 ![0, 192] q slices_S256x256_o0_192_S128x64) (extractStridedSlice S128x64 ![0, 192] k slices_S256x256_o0_192_S128x64) (extractStridedSlice S128x64 ![0, 192] v slices_S256x256_o0_192_S128x64)⟩]
    concatenates_S128x64_S128x64_S128x64_S128x64_S128x256_d1

/-- The four heads of the second sequence of a block. -/
def headsO (q k v : FVec F S256x256 .f32) : FVec F S128x256 .f32 :=
  concatenate S128x256 1 [⟨S128x64, headOf (extractStridedSlice S128x64 ![128, 0] q slices_S256x256_o128_0_S128x64) (extractStridedSlice S128x64 ![128, 0] k slices_S256x256_o128_0_S128x64) (extractStridedSlice S128x64 ![128, 0] v slices_S256x256_o128_0_S128x64)⟩,
    ⟨S128x64, headOf (extractStridedSlice S128x64 ![128, 64] q slices_S256x256_o128_64_S128x64) (extractStridedSlice S128x64 ![128, 64] k slices_S256x256_o128_64_S128x64) (extractStridedSlice S128x64 ![128, 64] v slices_S256x256_o128_64_S128x64)⟩,
    ⟨S128x64, headOf (extractStridedSlice S128x64 ![128, 128] q slices_S256x256_o128_128_S128x64) (extractStridedSlice S128x64 ![128, 128] k slices_S256x256_o128_128_S128x64) (extractStridedSlice S128x64 ![128, 128] v slices_S256x256_o128_128_S128x64)⟩,
    ⟨S128x64, headOf (extractStridedSlice S128x64 ![128, 192] q slices_S256x256_o128_192_S128x64) (extractStridedSlice S128x64 ![128, 192] k slices_S256x256_o128_192_S128x64) (extractStridedSlice S128x64 ![128, 192] v slices_S256x256_o128_192_S128x64)⟩]
    concatenates_S128x64_S128x64_S128x64_S128x64_S128x256_d1

/-- The heads of both sequences. -/
def headsOf (q k v : FVec F S256x256 .f32) : FVec F S256x256 .bf16 :=
  truncf .bf16 (concatenate S256x256 0 [⟨S128x256, headsE q k v⟩, ⟨S128x256, headsO q k v⟩]
    concatenates_S128x256_S128x256_S256x256_d0) bitsLt_bf16_f32

/-- The projection of two sequences. -/
def projOf (x : FVec F S256x512 .bf16) (w : FVec F S512x256 .bf16) : FVec F S256x256 .f32 :=
  matmul dot_S256x512_S512x256_S256x256_1_0_0_1_n_n none x w (constant S256x256 .f32 0x00000000#32)

/-- What a device adds to the result of two sequences: its own four heads' share. -/
def partialOf (wq wk wv : FVec F S512x256 .bf16) (wo : FVec F S256x512 .bf16) (xe xo : FVec F S128x512 .bf16) : FVec F S256x512 .f32 :=
  matmul dot_S256x256_S256x512_S256x512_1_0_0_1_n_n none
    (headsOf (rope (projOf (concatenate S256x512 0 [⟨S128x512, xe⟩, ⟨S128x512, xo⟩] concatenates_S128x512_S128x512_S256x512_d0) wq))
      (rope (projOf (concatenate S256x512 0 [⟨S128x512, xe⟩, ⟨S128x512, xo⟩] concatenates_S128x512_S128x512_S256x512_d0) wk))
      (projOf (concatenate S256x512 0 [⟨S128x512, xe⟩, ⟨S128x512, xo⟩] concatenates_S128x512_S128x512_S256x512_d0) wv))
    wo (constant S256x512 .f32 0x00000000#32)

/-- The share of the first sequence. -/
def firstOf (p : FVec F S256x512 .f32) : FVec F S128x512 .f32 :=
  extractStridedSlice S128x512 ![0, 0] p slices_S256x512_o0_0_S128x512

/-- The share of the second sequence. -/
def secondOf (p : FVec F S256x512 .f32) : FVec F S128x512 .f32 :=
  extractStridedSlice S128x512 ![128, 0] p slices_S256x512_o128_0_S128x512

/-! ## Buffers, slots and semaphores -/

/-- The gathered sequences. -/
abbrev xgM : Memref sig .tc .vmem S4096x512 .bf16 := Memref.whole cc0_scratch0
/-- A device's shares of the first two hops. -/
abbrev partM : Memref sig .tc .vmem S4096x512 .bf16 := Memref.whole cc0_scratch1
/-- The slots of the sums that travel to the right. -/
abbrev rsrM : Memref sig .tc .vmem S15x128x512 .bf16 := Memref.whole cc0_scratch2
/-- The slots of the sums that travel to the left. -/
abbrev rslM : Memref sig .tc .vmem S15x128x512 .bf16 := Memref.whole cc0_scratch3

/-- The neighbour on the right. -/
def rightOf (d : Dev nD) : Dev nD := ⟨k0_dev2 d, k0_dev2_lt d⟩
/-- The neighbour on the left. -/
def leftOf (d : Dev nD) : Dev nD := ⟨k0_dev1 d, k0_dev1_lt d⟩

theorem slot_inb (t : Fin 15) : ∀ a, (![t.val, 0, 0] : Fin 3 → Nat) a + S1x128x512.size a ≤ S15x128x512.size a := by
  revert t; decide
theorem sem_inb (t : Fin 15) : ∀ a, (![t.val] : Fin 1 → Nat) a + S1.size a ≤ S15.size a := by
  revert t; decide

theorem slot_words : ∀ t : Fin 15, (Rect.unit (s := S15x128x512) ![t.val, 0, 0] S1x128x512.size (slot_inb t)).WholeWords (EltTy.packing .bf16)
  | ⟨0, _⟩ => wordsbf16_S15x128x512_S1x128x512_0_0_0
  | ⟨1, _⟩ => wordsbf16_S15x128x512_S1x128x512_1_0_0
  | ⟨2, _⟩ => wordsbf16_S15x128x512_S1x128x512_2_0_0
  | ⟨3, _⟩ => wordsbf16_S15x128x512_S1x128x512_3_0_0
  | ⟨4, _⟩ => wordsbf16_S15x128x512_S1x128x512_4_0_0
  | ⟨5, _⟩ => wordsbf16_S15x128x512_S1x128x512_5_0_0
  | ⟨6, _⟩ => wordsbf16_S15x128x512_S1x128x512_6_0_0
  | ⟨7, _⟩ => wordsbf16_S15x128x512_S1x128x512_7_0_0
  | ⟨8, _⟩ => wordsbf16_S15x128x512_S1x128x512_8_0_0
  | ⟨9, _⟩ => wordsbf16_S15x128x512_S1x128x512_9_0_0
  | ⟨10, _⟩ => wordsbf16_S15x128x512_S1x128x512_10_0_0
  | ⟨11, _⟩ => wordsbf16_S15x128x512_S1x128x512_11_0_0
  | ⟨12, _⟩ => wordsbf16_S15x128x512_S1x128x512_12_0_0
  | ⟨13, _⟩ => wordsbf16_S15x128x512_S1x128x512_13_0_0
  | ⟨14, _⟩ => wordsbf16_S15x128x512_S1x128x512_14_0_0
  | ⟨_ + 15, h⟩ => absurd h (by omega)

theorem slot_packed : ∀ t : Fin 15, (Rect.unit (s := S15x128x512) ![t.val, 0, 0] S1x128x512.size (slot_inb t)).PackedRows (EltTy.packing .bf16)
  | ⟨0, _⟩ => packedbf16_S15x128x512_S1x128x512_0_0_0
  | ⟨1, _⟩ => packedbf16_S15x128x512_S1x128x512_1_0_0
  | ⟨2, _⟩ => packedbf16_S15x128x512_S1x128x512_2_0_0
  | ⟨3, _⟩ => packedbf16_S15x128x512_S1x128x512_3_0_0
  | ⟨4, _⟩ => packedbf16_S15x128x512_S1x128x512_4_0_0
  | ⟨5, _⟩ => packedbf16_S15x128x512_S1x128x512_5_0_0
  | ⟨6, _⟩ => packedbf16_S15x128x512_S1x128x512_6_0_0
  | ⟨7, _⟩ => packedbf16_S15x128x512_S1x128x512_7_0_0
  | ⟨8, _⟩ => packedbf16_S15x128x512_S1x128x512_8_0_0
  | ⟨9, _⟩ => packedbf16_S15x128x512_S1x128x512_9_0_0
  | ⟨10, _⟩ => packedbf16_S15x128x512_S1x128x512_10_0_0
  | ⟨11, _⟩ => packedbf16_S15x128x512_S1x128x512_11_0_0
  | ⟨12, _⟩ => packedbf16_S15x128x512_S1x128x512_12_0_0
  | ⟨13, _⟩ => packedbf16_S15x128x512_S1x128x512_13_0_0
  | ⟨14, _⟩ => packedbf16_S15x128x512_S1x128x512_14_0_0
  | ⟨_ + 15, h⟩ => absurd h (by omega)

/-- Slot `t` of a slot buffer, as a matrix. -/
def slotOf (M : Memref sig .tc .vmem S15x128x512 .bf16) (t : Fin 15) : Memref sig .tc .vmem S128x512 .bf16 :=
  (M.slice (Rect.unit (s := S15x128x512) ![t.val, 0, 0] S1x128x512.size (slot_inb t)) (fun _ => rfl)).squeeze S128x512 squeezes_S1x128x512_S128x512

/-- The first sequence of the block that stands `h` places to the left. -/
def blkL (M : Memref sig .tc .vmem S4096x512 .bf16) (d : Dev nD) (h : Fin 15) : Memref sig .tc .vmem S128x512 .bf16 :=
  M.slice (Rect.unit (s := S4096x512) (k0_off3 d (BitVec.ofNat 32 h.val)) S128x512.size (k0_off3_inb d h)) (fun _ => rfl)

/-- The second sequence of the block that stands `h` places to the right. -/
def blkR (M : Memref sig .tc .vmem S4096x512 .bf16) (d : Dev nD) (h : Fin 15) : Memref sig .tc .vmem S128x512 .bf16 :=
  M.slice (Rect.unit (s := S4096x512) (k0_off4 d (BitVec.ofNat 32 h.val)) S128x512.size (k0_off4_inb d h)) (fun _ => rfl)

/-- Semaphore `t` of an array of fifteen. -/
def semOf (A : DmaSems sig S15) (t : Fin 15) : DmaSem sig :=
  ((A.slice (Rect.unit (s := S15) ![t.val] S1.size (sem_inb t))).squeeze S_ squeezes_S1_S_).sem

/-- The four families of transfers: the sequences gathered to the right and to the left, the sums travelling to the
    right and to the left. -/
inductive Fam | agr | agl | rsr | rsl
  deriving DecidableEq

instance : Fintype Fam := ⟨{.agr, .agl, .rsr, .rsl}, fun x => by cases x <;> decide⟩

/-- A transfer: its family and its number. -/
abbrev Tr := Fam × Fin 15

/-- Does a transfer go to the right? -/
def Fam.toRight : Fam → Bool
  | .agr => true | .agl => false | .rsr => true | .rsl => false

/-- Where a transfer of device `d` goes. -/
def tgt (d : Dev nD) (x : Tr) : Dev nD :=
  match x.1 with
  | .agr => rightOf d | .agl => leftOf d | .rsr => rightOf d | .rsl => leftOf d

/-- Where a transfer of device `d` reads. -/
def srcM (d : Dev nD) : Tr → Memref sig .tc .vmem S128x512 .bf16
  | (.agr, i) => blkL xgM d i
  | (.agl, i) => blkR xgM d i
  | (.rsr, ⟨0, _⟩) => blkL partM d 1
  | (.rsr, ⟨i + 1, h⟩) => slotOf rsrM ⟨i, Nat.lt_of_succ_lt h⟩
  | (.rsl, ⟨0, _⟩) => blkR partM d 1
  | (.rsl, ⟨i + 1, h⟩) => slotOf rslM ⟨i, Nat.lt_of_succ_lt h⟩

/-- Where a transfer of device `d` writes, on its target. -/
def dstM (d : Dev nD) : Tr → Memref sig .tc .vmem S128x512 .bf16
  | (.agr, i) => blkL xgM d i
  | (.agl, i) => blkR xgM d i
  | (.rsr, i) => slotOf rsrM i
  | (.rsl, i) => slotOf rslM i

/-- The semaphore a transfer credits where it reads. -/
def sendSem : Tr → DmaSem sig
  | (.agr, i) => semOf cc0_scratch4 i
  | (.agl, i) => semOf cc0_scratch6 i
  | (.rsr, i) => semOf cc0_scratch8 i
  | (.rsl, i) => semOf cc0_scratch10 i

/-- The semaphore a transfer credits where it writes. -/
def recvSem : Tr → DmaSem sig
  | (.agr, i) => semOf cc0_scratch5 i
  | (.agl, i) => semOf cc0_scratch7 i
  | (.rsr, i) => semOf cc0_scratch9 i
  | (.rsl, i) => semOf cc0_scratch11 i

theorem slotOf_words {M : Memref sig .tc .vmem S15x128x512 .bf16} (hM : M.IsWhole) (t : Fin 15) : (slotOf M t).view.WordExact :=
  (hM.wordExact_slice rfl _ (slot_words t)).reshape _ _

theorem blkL_words {M : Memref sig .tc .vmem S4096x512 .bf16} (hM : M.IsWhole) (d : Dev nD) (h : Fin 15) : (blkL M d h).view.WordExact :=
  hM.wordExact_slice rfl _ (k0_off3_wordsbf16 d h)

theorem blkR_words {M : Memref sig .tc .vmem S4096x512 .bf16} (hM : M.IsWhole) (d : Dev nD) (h : Fin 15) : (blkR M d h).view.WordExact :=
  hM.wordExact_slice rfl _ (k0_off4_wordsbf16 d h)

theorem srcM_words (d : Dev nD) : ∀ x : Tr, (srcM d x).view.WordExact
  | (.agr, i) => blkL_words (Memref.isWhole_whole _) d i
  | (.agl, i) => blkR_words (Memref.isWhole_whole _) d i
  | (.rsr, ⟨0, _⟩) => blkL_words (Memref.isWhole_whole _) d 1
  | (.rsr, ⟨i + 1, h⟩) => slotOf_words (Memref.isWhole_whole _) ⟨i, Nat.lt_of_succ_lt h⟩
  | (.rsl, ⟨0, _⟩) => blkR_words (Memref.isWhole_whole _) d 1
  | (.rsl, ⟨i + 1, h⟩) => slotOf_words (Memref.isWhole_whole _) ⟨i, Nat.lt_of_succ_lt h⟩

theorem dstM_words (d : Dev nD) : ∀ x : Tr, (dstM d x).view.WordExact
  | (.agr, i) => blkL_words (Memref.isWhole_whole _) d i
  | (.agl, i) => blkR_words (Memref.isWhole_whole _) d i
  | (.rsr, i) => slotOf_words (Memref.isWhole_whole _) i
  | (.rsl, i) => slotOf_words (Memref.isWhole_whole _) i

/-! ## The steps -/

/-- A step of the body. -/
abbrev Step (α : Type) := Prog (TpuEff nD τ sig (Elt F) Λ₀ .tc) α

/-- Start a transfer. -/
def sendT (d : Dev nD) (x : Tr) : Step (F := F) PUnit :=
  Prog.lift (.enqueueDma (srcM d x) (.remote (Dev.tc (tgt d x)) (dstM d x) (.dma (sendSem x))) (.dma (recvSem x))
    (srcM_words d x) (dstM_words d x) ⟨⟨rfl, Or.inl rfl⟩, trivial⟩)

/-- Wait until the transfer into this device has arrived. -/
def recvT (d : Dev nD) (x : Tr) : Step (F := F) PUnit :=
  Prog.lift (.waitDma2 (recvSem x) (srcM d x) (dstM d x) (srcM_words d x) (dstM_words d x))

/-- Wait until this device's own transfer has left. -/
def sentT (d : Dev nD) (x : Tr) : Step (F := F) PUnit :=
  Prog.lift (.waitDma2 (sendSem x) (dstM d x) (srcM d x) (dstM_words d x) (srcM_words d x))

/-- The rectangle of the first sequence of hop `h`. -/
abbrev rectE (d : Dev nD) (h : Fin 16) := Rect.unit (s := S4096x512) (k0_off5 d (BitVec.ofNat 32 h.val)) S128x512.size (k0_off5_inb d h)
/-- The rectangle of the second sequence of hop `h`. -/
abbrev rectO (d : Dev nD) (h : Fin 16) := Rect.unit (s := S4096x512) (k0_off6 d (BitVec.ofNat 32 h.val)) S128x512.size (k0_off6_inb d h)
/-- The rectangle of slot `t`. -/
abbrev rectS (t : Fin 15) := Rect.unit (s := S15x128x512) ![t.val, 0, 0] S1x128x512.size (slot_inb t)

/-- Read the two sequences of hop `h` and compute this device's share. -/
def computeT (wq wk wv : FVec F S512x256 .bf16) (wo : FVec F S256x512 .bf16) (d : Dev nD) (h : Fin 16) : Step (F := F) (FVec F S256x512 .f32) := do
  let xe : Vec F S128x512 .bf16 ← Prog.lift (.load xgM (rectE d h).toLoadRect (View.loadsAt_vmem h_S128x512))
  let xo : Vec F S128x512 .bf16 ← Prog.lift (.load xgM (rectO d h).toLoadRect (View.loadsAt_vmem h_S128x512))
  pure (partialOf wq wk wv wo xe xo)

/-- Keep the two shares of hop `h`. -/
def keepT (d : Dev nD) (h : Fin 16) (p : FVec F S256x512 .f32) : Step (F := F) PUnit := do
  let _ : Vec F S128x512 .bf16 ← Prog.lift (.load partM (rectE d h).toLoadRect (View.loadsAt_vmem h_S128x512))
  Prog.lift (.store partM (rectE d h) (shapeCast S128x512 (truncf .bf16 (firstOf p) bitsLt_bf16_f32) shapeCasts_S128x512_S128x512) Finset.univ
    (View.stores_vmem h_S128x512 ((Memref.isWhole_whole _).storeExact_slice rfl _ (k0_off5_packedbf16 d h)) (fun _ => rfl)) (.inl rfl))
  let _ : Vec F S128x512 .bf16 ← Prog.lift (.load partM (rectO d h).toLoadRect (View.loadsAt_vmem h_S128x512))
  Prog.lift (.store partM (rectO d h) (shapeCast S128x512 (truncf .bf16 (secondOf p) bitsLt_bf16_f32) shapeCasts_S128x512_S128x512) Finset.univ
    (View.stores_vmem h_S128x512 ((Memref.isWhole_whole _).storeExact_slice rfl _ (k0_off6_packedbf16 d h)) (fun _ => rfl)) (.inl rfl))

/-- What a slot holds once a share is added to it. -/
def addOf (a : FVec F S1x128x512 .bf16) (v : FVec F S128x512 .f32) : FVec F S1x128x512 .bf16 :=
  shapeCast S1x128x512 (truncf .bf16 (addf (extf .f32 (shapeCast S128x512 a shapeCasts_S1x128x512_S128x512) bitsLt_bf16_f32) v) bitsLt_bf16_f32) shapeCasts_S128x512_S1x128x512

/-- Add a share to slot `t` of a slot buffer. -/
def addT (b : Ref sig .tc) (M : Memref sig .tc .vmem S15x128x512 .bf16) (hM : M.IsWhole) (t : Fin 15) (v : FVec F S128x512 .f32) : Step (F := F) PUnit := do
  let a : Vec F S1x128x512 .bf16 ← Prog.lift (.load M (rectS t).toLoadRect (View.loadsAt_vmem h_S1x128x512))
  let _ : Vec F S1x128x512 .bf16 ← Prog.lift (.load M (rectS t).toLoadRect (View.loadsAt_vmem h_S1x128x512))
  Prog.lift (.store M (rectS t) (addOf a v) Finset.univ
    (View.stores_vmem h_S1x128x512 (hM.storeExact_slice rfl _ (slot_packed t)) (fun _ => rfl)) (.inl rfl))

/-- Add a share to slot `t` of the sums that travel to the right. -/
def addRT (t : Fin 15) (v : FVec F S128x512 .f32) : Step (F := F) PUnit := addT cc0_scratch2 rsrM (Memref.isWhole_whole _) t v
/-- Add a share to slot `t` of the sums that travel to the left. -/
def addLT (t : Fin 15) (v : FVec F S128x512 .f32) : Step (F := F) PUnit := addT cc0_scratch3 rslM (Memref.isWhole_whole _) t v

/-- The barrier: tell both neighbours that this device is ready and wait for both. -/
def barrierT (d : Dev nD) : Step (F := F) PUnit := do
  semSignalWord (leftOf d) (SemArray.scalar (sig.barrier 0 rfl) : Sems sig S_).sem 1#32
  semSignalWord (rightOf d) (SemArray.scalar (sig.barrier 0 rfl) : Sems sig S_).sem 1#32
  semWaitWord (SemArray.scalar (sig.barrier 0 rfl) : Sems sig S_).sem 2#32

/-- One sequence of a device, as it is gathered. -/
def seqOf (x : FVec F S1x128x512 .f32) : FVec F S128x512 .bf16 :=
  shapeCast S128x512 (truncf .bf16 (shapeCast S128x512 x shapeCasts_S1x128x512_S128x512) bitsLt_bf16_f32) shapeCasts_S128x512_S128x512

/-- Put the device's own two sequences in place. -/
def placeT (a0 : Memref sig .tc .vmem S2x128x512 .f32) (d : Dev nD) : Step (F := F) PUnit := do
  let x0 : Vec F S1x128x512 .f32 ← Prog.lift (.load a0 (Rect.unit (s := S2x128x512) ![0, 0, 0] S1x128x512.size inb_S2x128x512_S1x128x512_0_0_0).toLoadRect (View.loadsAt_vmem h_S1x128x512))
  let _ : Vec F S128x512 .bf16 ← Prog.lift (.load xgM (Rect.unit (s := S4096x512) (k0_off1 d) S128x512.size (k0_off1_inb d)).toLoadRect (View.loadsAt_vmem h_S128x512))
  Prog.lift (.store xgM (Rect.unit (s := S4096x512) (k0_off1 d) S128x512.size (k0_off1_inb d)) (seqOf x0) Finset.univ
    (View.stores_vmem h_S128x512 ((Memref.isWhole_whole _).storeExact_slice rfl _ (k0_off1_packedbf16 d)) (fun _ => rfl)) (.inl rfl))
  let x1 : Vec F S1x128x512 .f32 ← Prog.lift (.load a0 (Rect.unit (s := S2x128x512) ![1, 0, 0] S1x128x512.size inb_S2x128x512_S1x128x512_1_0_0).toLoadRect (View.loadsAt_vmem h_S1x128x512))
  let _ : Vec F S128x512 .bf16 ← Prog.lift (.load xgM (Rect.unit (s := S4096x512) (k0_off2 d) S128x512.size (k0_off2_inb d)).toLoadRect (View.loadsAt_vmem h_S128x512))
  Prog.lift (.store xgM (Rect.unit (s := S4096x512) (k0_off2 d) S128x512.size (k0_off2_inb d)) (seqOf x1) Finset.univ
    (View.stores_vmem h_S128x512 ((Memref.isWhole_whole _).storeExact_slice rfl _ (k0_off2_packedbf16 d)) (fun _ => rfl)) (.inl rfl))

/-- A weight of a device's heads, as it is multiplied. -/
def wtOf (w : FVec F S512x256 .f32) : FVec F S512x256 .bf16 :=
  truncf .bf16 (shapeCast S512x256 w shapeCasts_S512x256_S512x256) bitsLt_bf16_f32
/-- The output weight of a device's heads, as it is multiplied. -/
def woOf (w : FVec F S256x512 .f32) : FVec F S256x512 .bf16 :=
  truncf .bf16 (shapeCast S256x512 w shapeCasts_S256x512_S256x512) bitsLt_bf16_f32

/-- Read one of the three weights. -/
def weightT (a : Memref sig .tc .vmem S512x256 .f32) : Step (F := F) (Vec F S512x256 .f32) :=
  Prog.lift (.load a (Rect.unit (s := S512x256) ![0, 0] S512x256.size inb_S512x256_S512x256_0_0).toLoadRect (View.loadsAt_vmem h_S512x256))
/-- Read the output weight. -/
def weightOT (a : Memref sig .tc .vmem S256x512 .f32) : Step (F := F) (Vec F S256x512 .f32) :=
  Prog.lift (.load a (Rect.unit (s := S256x512) ![0, 0] S256x512.size inb_S256x512_S256x512_0_0).toLoadRect (View.loadsAt_vmem h_S256x512))

variable (wq wk wv : FVec F S512x256 .bf16) (wo : FVec F S256x512 .bf16) (d : Dev nD)

/-- The first hop. -/
def hop0 : Step (F := F) PUnit := do
  sendT d (.agr, 0)
  sendT d (.agl, 0)
  let p ← computeT wq wk wv wo d 0
  keepT d 0 p
  sentT d (.agr, 0)
  sentT d (.agl, 0)

/-- The second hop. -/
def hop1 : Step (F := F) PUnit := do
  recvT d (.agr, 0)
  sendT d (.agr, 1)
  recvT d (.agl, 0)
  sendT d (.agl, 1)
  let p ← computeT wq wk wv wo d 1
  keepT d 1 p
  sentT d (.agr, 1)
  sentT d (.agl, 1)

/-- A later hop, number `t + 2`: the sequences move on, and sum number `t` comes by. -/
def hopMid (t : Nat) (ht : t < 13) : Step (F := F) PUnit := do
  recvT d (.agr, ⟨t + 1, by omega⟩)
  sendT d (.agr, ⟨t + 2, by omega⟩)
  recvT d (.agl, ⟨t + 1, by omega⟩)
  sendT d (.agl, ⟨t + 2, by omega⟩)
  sendT d (.rsr, ⟨t, by omega⟩)
  sendT d (.rsl, ⟨t, by omega⟩)
  let p ← computeT wq wk wv wo d ⟨t + 2, by omega⟩
  recvT d (.rsr, ⟨t, by omega⟩)
  addRT ⟨t, by omega⟩ (firstOf p)
  recvT d (.rsl, ⟨t, by omega⟩)
  addLT ⟨t, by omega⟩ (secondOf p)
  sentT d (.agr, ⟨t + 2, by omega⟩)
  sentT d (.agl, ⟨t + 2, by omega⟩)
  sentT d (.rsr, ⟨t, by omega⟩)
  sentT d (.rsl, ⟨t, by omega⟩)

/-- The hop at which the last sequences have arrived. -/
def hop15 : Step (F := F) PUnit := do
  recvT d (.agr, 14)
  recvT d (.agl, 14)
  sendT d (.rsr, 13)
  sendT d (.rsl, 13)
  let p ← computeT wq wk wv wo d 15
  recvT d (.rsr, 13)
  addRT 13 (firstOf p)
  recvT d (.rsl, 13)
  addLT 13 (secondOf p)
  sentT d (.rsr, 13)
  sentT d (.rsl, 13)

/-- The last hop: each sum comes home and gets the device's own share. -/
def hop16 : Step (F := F) PUnit := do
  sendT d (.rsr, 14)
  sendT d (.rsl, 14)
  let pe : Vec F S128x512 .bf16 ← Prog.lift (.load partM (Rect.unit (s := S4096x512) (k0_off1 d) S128x512.size (k0_off1_inb d)).toLoadRect (View.loadsAt_vmem h_S128x512))
  let po : Vec F S128x512 .bf16 ← Prog.lift (.load partM (Rect.unit (s := S4096x512) (k0_off2 d) S128x512.size (k0_off2_inb d)).toLoadRect (View.loadsAt_vmem h_S128x512))
  recvT d (.rsr, 14)
  addRT 14 (extf .f32 pe bitsLt_bf16_f32)
  recvT d (.rsl, 14)
  addLT 14 (extf .f32 po bitsLt_bf16_f32)
  sentT d (.rsr, 14)
  sentT d (.rsl, 14)

/-- A finished sum, as it is stored. -/
def resOf (a : FVec F S1x128x512 .bf16) : FVec F S1x128x512 .f32 :=
  shapeCast S1x128x512 (extf .f32 (shapeCast S128x512 a shapeCasts_S1x128x512_S128x512) bitsLt_bf16_f32) shapeCasts_S128x512_S1x128x512

/-- Store the two finished sums. -/
def storeT (a5 : Memref sig .tc .vmem S2x128x512 .f32) : Step (F := F) PUnit := do
  let r : Vec F S1x128x512 .bf16 ← Prog.lift (.load rsrM (rectS 14).toLoadRect (View.loadsAt_vmem h_S1x128x512))
  let _ : Vec F S1x128x512 .f32 ← Prog.lift (.load a5 (Rect.unit (s := S2x128x512) ![0, 0, 0] S1x128x512.size inb_S2x128x512_S1x128x512_0_0_0).toLoadRect (View.loadsAt_vmem h_S1x128x512))
  Prog.lift (.store a5 (Rect.unit (s := S2x128x512) ![0, 0, 0] S1x128x512.size inb_S2x128x512_S1x128x512_0_0_0) (resOf r) Finset.univ (View.stores_vmem_bits_univ h_S1x128x512 rfl) (.inl rfl))
  let l : Vec F S1x128x512 .bf16 ← Prog.lift (.load rslM (rectS 14).toLoadRect (View.loadsAt_vmem h_S1x128x512))
  let _ : Vec F S1x128x512 .f32 ← Prog.lift (.load a5 (Rect.unit (s := S2x128x512) ![1, 0, 0] S1x128x512.size inb_S2x128x512_S1x128x512_1_0_0).toLoadRect (View.loadsAt_vmem h_S1x128x512))
  Prog.lift (.store a5 (Rect.unit (s := S2x128x512) ![1, 0, 0] S1x128x512.size inb_S2x128x512_S1x128x512_1_0_0) (resOf l) Finset.univ (View.stores_vmem_bits_univ h_S1x128x512 rfl) (.inl rfl))

/-- The hops from number `n + 2` on, `k` of them. -/
def hopsFrom : (n k : Nat) → (h : n + k ≤ 13) → Step (F := F) PUnit
  | _, 0, _ => pure ⟨⟩
  | n, k + 1, h => do hopMid wq wk wv wo d n (by omega); hopsFrom (n + 1) k (by omega)

/-- The whole body. -/
def bodyT (a0 : Memref sig .tc .vmem S2x128x512 .f32) (a1 a2 a3 : Memref sig .tc .vmem S512x256 .f32)
    (a4 : Memref sig .tc .vmem S256x512 .f32) (a5 : Memref sig .tc .vmem S2x128x512 .f32) : Step (F := F) PUnit := do
  let d : Dev nD ← Prog.lift .deviceId
  barrierT d
  placeT a0 d
  let wq ← weightT a1
  let wk ← weightT a2
  let wv ← weightT a3
  let wo ← weightOT a4
  hop0 (wtOf wq) (wtOf wk) (wtOf wv) (woOf wo) d
  hop1 (wtOf wq) (wtOf wk) (wtOf wv) (woOf wo) d
  hopsFrom (wtOf wq) (wtOf wk) (wtOf wv) (woOf wo) d 0 13 (by omega)
  hop15 (wtOf wq) (wtOf wk) (wtOf wv) (woOf wo) d
  hop16 d
  storeT a5

set_option maxRecDepth 100000 in
/-- The printed body is the chain of steps. -/
theorem body_eq (a0 : Memref sig .tc .vmem S2x128x512 .f32) (h0 : a0.IsWhole) (a1 : Memref sig .tc .vmem S512x256 .f32) (h1 : a1.IsWhole)
    (a2 : Memref sig .tc .vmem S512x256 .f32) (h2 : a2.IsWhole) (a3 : Memref sig .tc .vmem S512x256 .f32) (h3 : a3.IsWhole)
    (a4 : Memref sig .tc .vmem S256x512 .f32) (h4 : a4.IsWhole) (a5 : Memref sig .tc .vmem S2x128x512 .f32) (h5 : a5.IsWhole) :
    cc0_body (F := F) a0 h0 a1 h1 a2 h2 a3 h3 a4 h4 a5 h5 (Memref.whole cc0_scratch0) (Memref.isWhole_whole _) (Memref.whole cc0_scratch1) (Memref.isWhole_whole _)
      (Memref.whole cc0_scratch2) (Memref.isWhole_whole _) (Memref.whole cc0_scratch3) (Memref.isWhole_whole _) cc0_scratch4 cc0_scratch5 cc0_scratch6 cc0_scratch7
      cc0_scratch8 cc0_scratch9 cc0_scratch10 cc0_scratch11 = bodyT a0 a1 a2 a3 a4 a5 := by
  chain_rfl

end Cert.KernelIdeal.Ring

end
-- ==== Proof.KernelIdeal.Places.lean ====
/-
  Where things are: the ring of the devices, the sequences of the gathered buffer and the slots, and the three rules
  for a load and a store at one of them.
-/
module

public import proofs.«01_k».proof.Proof.KernelIdeal.Steps
public import Idealize.ShloMosaic.Lib.Pipeline.Launch
public import Idealize.ShloMosaic.Lib.Pipeline.Kit
public import Idealize.ShloMosaic.Lib.Pipeline.Value
public import Idealize.ShloMosaic.Lib.MemrefSat
public import Idealize.ShloMosaic.Lib.Ring
public import Idealize.ShloMosaic.Lib.Tactic

@[expose] public section

set_option maxRecDepth 20000

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F] [Named F] [Facts]

/-! ## The ring -/

/-- The next device on the right, as a table. -/
def rgt (c : Dev nD) : Dev nD := (![4, 0, 6, 2, 8, 1, 10, 3, 12, 5, 14, 7, 15, 9, 13, 11] : Fin 16 → Fin 16) c
/-- The next device on the left, as a table. -/
def lft (c : Dev nD) : Dev nD := (![1, 5, 3, 7, 0, 9, 2, 11, 4, 13, 6, 15, 8, 14, 10, 12] : Fin 16 → Fin 16) c

theorem lft_rgt (c : Dev nD) : lft (rgt c) = c := by revert c; decide
theorem rgt_lft (c : Dev nD) : rgt (lft c) = c := by revert c; decide
theorem rgt_ne_lft (c : Dev nD) : rgt c ≠ lft c := by revert c; decide

/-- The ring as a permutation of the devices. -/
def ring : Dev nD ≃ Dev nD := ⟨rgt, lft, lft_rgt, rgt_lft⟩

theorem dev1_val : ∀ c : Dev nD, k0_dev1 c = (lft c).val := by decide +kernel
theorem dev2_val : ∀ c : Dev nD, k0_dev2 c = (rgt c).val := by decide +kernel
theorem leftOf_eq (c : Dev nD) : leftOf c = lft c := Fin.ext (dev1_val c)
theorem rightOf_eq (c : Dev nD) : rightOf c = rgt c := Fin.ext (dev2_val c)

/-- The device `h` places to the left. -/
def lftN (h : ℕ) (c : Dev nD) : Dev nD := lft^[h] c
/-- The device `h` places to the right. -/
def rgtN (h : ℕ) (c : Dev nD) : Dev nD := rgt^[h] c

theorem lftN_zero (c : Dev nD) : lftN 0 c = c := rfl
theorem rgtN_zero (c : Dev nD) : rgtN 0 c = c := rfl
theorem lftN_lft (h : ℕ) (c : Dev nD) : lftN h (lft c) = lftN (h + 1) c := rfl
theorem rgtN_rgt (h : ℕ) (c : Dev nD) : rgtN h (rgt c) = rgtN (h + 1) c := rfl
theorem lftN_rgt (h : ℕ) (c : Dev nD) : lftN (h + 1) (rgt c) = lftN h c := by rw [← lftN_lft, lft_rgt]
theorem rgtN_lft (h : ℕ) (c : Dev nD) : rgtN (h + 1) (lft c) = rgtN h c := by rw [← rgtN_rgt, rgt_lft]

/-! ## The sequences -/

/-- Where sequence `b` begins: device `b.1`'s first (`false`) or second. -/
def offB (b : Dev nD × Bool) : Fin 2 → Nat := ![256 * b.1.val + (if b.2 then 128 else 0), 0]

theorem offB_inb (b : Dev nD × Bool) : ∀ a, offB b a + S128x512.size a ≤ S4096x512.size a := by
  revert b; decide +kernel

/-- Sequence `b` of a gathered buffer. -/
def blk (M : Memref sig .tc .vmem S4096x512 .bf16) (b : Dev nD × Bool) : Memref sig .tc .vmem S128x512 .bf16 :=
  M.slice (Rect.unit (s := S4096x512) (offB b) S128x512.size (offB_inb b)) (fun _ => rfl)

theorem off1_eq : ∀ d : Dev nD, k0_off1 d = offB (d, false) := by decide +kernel
theorem off2_eq : ∀ d : Dev nD, k0_off2 d = offB (d, true) := by decide +kernel
theorem off3_eq : ∀ (d : Dev nD) (h : Fin 15), k0_off3 d (BitVec.ofNat 32 h.val) = offB (lftN h.val d, false) := by decide +kernel
theorem off4_eq : ∀ (d : Dev nD) (h : Fin 15), k0_off4 d (BitVec.ofNat 32 h.val) = offB (rgtN h.val d, true) := by decide +kernel
theorem off5_eq : ∀ (d : Dev nD) (h : Fin 16), k0_off5 d (BitVec.ofNat 32 h.val) = offB (lftN h.val d, false) := by decide +kernel
theorem off6_eq : ∀ (d : Dev nD) (h : Fin 16), k0_off6 d (BitVec.ofNat 32 h.val) = offB (rgtN h.val d, true) := by decide +kernel

theorem slice_off_eq (M : Memref sig .tc .vmem S4096x512 .bf16) {off off' : Fin 2 → Nat} (h : off = off') (hi : ∀ a, off a + S128x512.size a ≤ S4096x512.size a)
    (hi' : ∀ a, off' a + S128x512.size a ≤ S4096x512.size a) :
    M.slice (Rect.unit (s := S4096x512) off S128x512.size hi) (fun _ => rfl) = M.slice (Rect.unit (s := S4096x512) off' S128x512.size hi') (fun _ => rfl) := by
  subst h; rfl

theorem blkL_eq (M : Memref sig .tc .vmem S4096x512 .bf16) (d : Dev nD) (h : Fin 15) : blkL M d h = blk M (lftN h.val d, false) :=
  slice_off_eq M (off3_eq d h) _ _
theorem blkR_eq (M : Memref sig .tc .vmem S4096x512 .bf16) (d : Dev nD) (h : Fin 15) : blkR M d h = blk M (rgtN h.val d, true) :=
  slice_off_eq M (off4_eq d h) _ _

/-- The rectangle of sequence `b`. -/
abbrev rectB (b : Dev nD × Bool) := Rect.unit (s := S4096x512) (offB b) S128x512.size (offB_inb b)

theorem rectB_disjoint (b b' : Dev nD × Bool) (h : b ≠ b') : Disjoint (rectB b).set (rectB b').set := by
  rw [Finset.disjoint_left]
  intro i hi hi'
  rw [Rect.mem_set_unit] at hi hi'
  have h1 := hi 0
  have h2 := hi' 0
  obtain ⟨e, o⟩ := b
  obtain ⟨e', o'⟩ := b'
  apply h
  change 256 * e.val + (if o then 128 else 0) ≤ _ ∧ _ < 256 * e.val + (if o then 128 else 0) + 128 at h1
  change 256 * e'.val + (if o' then 128 else 0) ≤ _ ∧ _ < 256 * e'.val + (if o' then 128 else 0) + 128 at h2
  cases o <;> cases o' <;> simp only [if_true, Bool.false_eq_true, if_false] at h1 h2
  · exact Prod.ext (Fin.ext (by show e.val = e'.val; omega)) rfl
  · omega
  · omega
  · exact Prod.ext (Fin.ext (by show e.val = e'.val; omega)) rfl

theorem rectB_cover (i : S4096x512.Idx) : ∃ b, i ∈ (rectB b).set := by
  have h0 : (i 0).val < 4096 := (i 0).isLt
  have h1 : (i 1).val < 512 := (i 1).isLt
  refine ⟨(⟨(i 0).val / 256, by show _ < 16; omega⟩, decide (128 ≤ (i 0).val % 256)), ?_⟩
  rw [Rect.mem_set_unit]
  intro a
  match a with
  | ⟨0, _⟩ =>
    show 256 * ((i 0).val / 256) + (if decide (128 ≤ (i 0).val % 256) then 128 else 0) ≤ (i 0).val
      ∧ (i 0).val < 256 * ((i 0).val / 256) + (if decide (128 ≤ (i 0).val % 256) then 128 else 0) + 128
    by_cases hh : 128 ≤ (i 0).val % 256
    · simp only [hh, decide_true, if_true]; omega
    · simp only [hh, decide_false, Bool.false_eq_true, if_false]; omega
  | ⟨1, _⟩ => exact ⟨Nat.zero_le _, by show (i 1).val < 0 + 512; omega⟩

theorem rectS_disjoint (t t' : Fin 15) (h : t ≠ t') : Disjoint (rectS t).set (rectS t').set := by
  rw [Finset.disjoint_left]
  intro i hi hi'
  rw [Rect.mem_set_unit] at hi hi'
  have h1 : t.val ≤ (i 0).val ∧ (i 0).val < t.val + 1 := hi 0
  have h2 : t'.val ≤ (i 0).val ∧ (i 0).val < t'.val + 1 := hi' 0
  exact h (Fin.ext (by omega))

theorem rectS_cover (i : S15x128x512.Idx) : ∃ t, i ∈ (rectS t).set := by
  have h0 : (i 0).val < 15 := (i 0).isLt
  have h1 : (i 1).val < 128 := (i 1).isLt
  have h2 : (i 2).val < 512 := (i 2).isLt
  refine ⟨⟨(i 0).val, h0⟩, ?_⟩
  rw [Rect.mem_set_unit]
  intro a
  match a with
  | ⟨0, _⟩ => exact ⟨Nat.le_refl _, Nat.lt_succ_self _⟩
  | ⟨1, _⟩ => exact ⟨Nat.zero_le _, by show (i 1).val < 0 + 128; omega⟩
  | ⟨2, _⟩ => exact ⟨Nat.zero_le _, by show (i 2).val < 0 + 512; omega⟩

/-! ## Holding a place -/

/-- The names of the ring's ghost state: beside the pipeline's, rounds with two duties. -/
abbrev UB : Type := URounds (GSem nD τ sig) Bool
abbrev UU : Type := UR sig nD τ × UB

local notation "𝕄" => MT nD τ sig Unit (Elt F) ℕ UU ℕ

/-- The assertions of the run. -/
abbrev PP (F : FTy → Type) : Type := sProp (MT nD τ sig Unit (Elt F) ℕ UU ℕ)

/-- A place of device `c` that holds `v`. -/
abbrev has {s : Shape} {sp : Space} {e : EltTy} (c : Dev nD) (M : Memref sig .tc sp s e) (q : PosShare TreeShare) (v : s.Idx → Elt F e) : PP F :=
  owns (c : Thread nD τ) M q v

/-- A place of device `c` that holds something. -/
def held {s : Shape} {sp : Space} {e : EltTy} (c : Dev nD) (M : Memref sig .tc sp s e) : PP F :=
  iprop(∃ v : s.Idx → Elt F e, has c M fullShare v)

instance held_storable {s : Shape} {sp : Space} {e : EltTy} (c : Dev nD) (M : Memref sig .tc sp s e) :
    BI.Storable (upEmb : UEmb _ 𝕄) (held (F := F) c M) := by unfold held; infer_instance

omit [FloatOps F] [Named F] in
theorem held_of_has {s : Shape} {sp : Space} {e : EltTy} (c : Dev nD) (M : Memref sig .tc sp s e) (v : s.Idx → Elt F e) :
    has c M fullShare v ⊢ held c M := by
  unfold held; iintro H; iexists v; iexact H

omit [FloatOps F] [Named F] in
theorem held_of_pts {s : Shape} {sp : Space} {e : EltTy} (c : Dev nD) (M : Memref sig .tc sp s e) (f : Buf (Elt F) (M.view.loc (c : Thread nD τ))) :
    (M.view.loc (c : Thread nD τ) ↦[M.view.set]{fullShare} f : PP F) ⊢ held c M := by
  unfold held has owns
  iintro H; iexists _; iexists f; isplitr; · ipureintro; rfl
  iexact H

omit [FloatOps F] [Named F] in
theorem pts_of_held {s : Shape} {sp : Space} {e : EltTy} (c : Dev nD) (M : Memref sig .tc sp s e) :
    held (F := F) c M ⊢ iprop(∃ f : Buf (Elt F) (M.view.loc (c : Thread nD τ)), M.view.loc (c : Thread nD τ) ↦[M.view.set]{fullShare} f) := by
  unfold held has owns
  iintro ⟨%v, %f, -, H⟩; iexists f; iexact H

section Cut
variable {B : Type} [Fintype B] {s : Shape} {sp : Space} {e : EltTy} (M : Memref sig .tc sp s e) (R : B → Rect s)

theorem cut_disjoint (hR : ∀ b b', b ≠ b' → Disjoint (R b).set (R b').set) (b b' : B) (h : b ≠ b') :
    Disjoint (M.view.slice (R b)).set (M.view.slice (R b')).set := by
  rw [View.set_slice, View.set_slice]; exact (Finset.disjoint_map _).mpr (hR b b' h)

theorem cut_cover (hC : ∀ i, ∃ b, i ∈ (R b).set) : Finset.univ.biUnion (fun b => (M.view.slice (R b)).set) = M.view.set := by
  ext i
  constructor
  · intro hi; obtain ⟨b, -, hb⟩ := Finset.mem_biUnion.mp hi; exact View.set_slice_subset _ _ hb
  · intro hi
    obtain ⟨x, -, rfl⟩ := Finset.mem_map.mp hi
    obtain ⟨b, hb⟩ := hC x
    refine Finset.mem_biUnion.mpr ⟨b, Finset.mem_univ _, ?_⟩
    rw [View.set_slice]; exact Finset.mem_map_of_mem _ hb

variable (hR : ∀ b b', b ≠ b' → Disjoint (R b).set (R b').set) (hC : ∀ i, ∃ b, i ∈ (R b).set)

include hR hC in
/-- A buffer cut into slices: held whole, it is held slice by slice; -/
theorem cut (c : Dev nD) (f : Buf (Elt F) (M.view.loc (c : Thread nD τ))) :
    (M.view.loc (c : Thread nD τ) ↦[M.view.set]{fullShare} f : PP F)
      ⊢ bigSep Finset.univ fun b => (M.view.loc (c : Thread nD τ) ↦[(M.view.slice (R b)).set]{fullShare} f : PP F) := by
  rw [← pointsTo_biUnion (ℓ := M.view.loc (c : Thread nD τ)) Finset.univ (fun b => (M.view.slice (R b)).set)
    (fun b _ b' _ h => cut_disjoint M R hR b b' h), cut_cover M R hC]

include hR hC in
/-- and held slice by slice, it is held whole. -/
theorem glue [DecidableEq B] (c : Dev nD) (f₀ : Buf (Elt F) (M.view.loc (c : Thread nD τ))) :
    (bigSep Finset.univ fun b => iprop(∃ f : Buf (Elt F) (M.view.loc (c : Thread nD τ)), M.view.loc (c : Thread nD τ) ↦[(M.view.slice (R b)).set]{fullShare} f) : PP F)
      ⊢ iprop(∃ f : Buf (Elt F) (M.view.loc (c : Thread nD τ)), M.view.loc (c : Thread nD τ) ↦[M.view.set]{fullShare} f) := by
  haveI : Nonempty (Buf (Elt F) (M.view.loc (c : Thread nD τ))) := ⟨f₀⟩
  refine (Idealize.SL.BI.bigSep_exists_pi Finset.univ
    (fun b (f : Buf (Elt F) (M.view.loc (c : Thread nD τ))) => (M.view.loc (c : Thread nD τ) ↦[(M.view.slice (R b)).set]{fullShare} f : PP F))).trans ?_
  iintro ⟨%fs, H⟩
  ihave H' := (pointsTo_biUnion_join (ℓ := M.view.loc (c : Thread nD τ)) Finset.univ (fun b => (M.view.slice (R b)).set) fs f₀
    (fun b _ b' _ h => cut_disjoint M R hR b b' h)) $$ H
  rw [cut_cover M R hC]
  icases H' with ⟨%g, -, H⟩
  iexists g; iexact H

end Cut

theorem cut_blk (c : Dev nD) (M : Memref sig .tc .vmem S4096x512 .bf16) (f : Buf (Elt F) (M.view.loc (c : Thread nD τ))) :
    (M.view.loc (c : Thread nD τ) ↦[M.view.set]{fullShare} f : PP F) ⊢ bigSep Finset.univ fun b : Dev nD × Bool => held c (blk M b) :=
  (cut M rectB rectB_disjoint rectB_cover c f).trans (bigSep_mono fun b _ => held_of_pts c (blk M b) f)

theorem glue_blk (c : Dev nD) (M : Memref sig .tc .vmem S4096x512 .bf16) (f₀ : Buf (Elt F) (M.view.loc (c : Thread nD τ))) :
    (bigSep Finset.univ fun b : Dev nD × Bool => held (F := F) c (blk M b))
      ⊢ iprop(∃ f : Buf (Elt F) (M.view.loc (c : Thread nD τ)), M.view.loc (c : Thread nD τ) ↦[M.view.set]{fullShare} f) :=
  (bigSep_mono fun b _ => pts_of_held c (blk M b)).trans (glue M rectB rectB_disjoint rectB_cover c f₀)

theorem slotOf_set (M : Memref sig .tc .vmem S15x128x512 .bf16) (t : Fin 15) : (slotOf M t).view.set = (M.view.slice (rectS t)).set :=
  View.set_reshape _ _

theorem cut_slot (c : Dev nD) (M : Memref sig .tc .vmem S15x128x512 .bf16) (f : Buf (Elt F) (M.view.loc (c : Thread nD τ))) :
    (M.view.loc (c : Thread nD τ) ↦[M.view.set]{fullShare} f : PP F) ⊢ bigSep Finset.univ fun t : Fin 15 => held c (slotOf M t) :=
  (cut M rectS rectS_disjoint rectS_cover c f).trans (bigSep_mono fun t _ => by
    rw [← slotOf_set]; exact held_of_pts c (slotOf M t) f)

theorem glue_slot (c : Dev nD) (M : Memref sig .tc .vmem S15x128x512 .bf16) (f₀ : Buf (Elt F) (M.view.loc (c : Thread nD τ))) :
    (bigSep Finset.univ fun t : Fin 15 => held (F := F) c (slotOf M t))
      ⊢ iprop(∃ f : Buf (Elt F) (M.view.loc (c : Thread nD τ)), M.view.loc (c : Thread nD τ) ↦[M.view.set]{fullShare} f) :=
  (bigSep_mono fun t _ => by rw [← slotOf_set]; exact pts_of_held c (slotOf M t)).trans (glue M rectS rectS_disjoint rectS_cover c f₀)

/-! ## Loads and stores at a place -/

abbrev 𝒱₀ : Variants := Variants.none

/-- What must hold of a program of device `c` for `Q` to hold at its end. -/
abbrev runs {α : Type} (c : Dev nD) (p : Prog (TpuEff nD τ sig (Elt F) Λ₀ .tc) α) (Q : α → PP F) : PP F :=
  wp frame (wpE (defs₀ (F := F)) 𝒱₀ (c : Thread nD τ) none) Set.univ p Q

section Access
variable {α : Type} (c : Dev nD) {Q : α → PP F}

theorem load_slice {cs : CoreSpace} {s : Shape} {e : EltTy} {M : Memref sig .tc cs s e} {r : Rect s} {hr : ∀ a, r.stride a = 1} {hl : M.view.LoadsAt r.toLoadRect}
    {q : PosShare TreeShare} {v : r.shape.Idx → Elt F e} {k : (r.shape.Idx → Elt F e) → Prog (TpuEff nD τ sig (Elt F) Λ₀ .tc) α} :
    (has c (M.slice r hr) q v : PP F) ⊢ iprop((has c (M.slice r hr) q v -∗ runs c (k v) Q) -∗ runs c (Prog.lift (.load M r.toLoadRect hl) >>= k) Q) := by
  simp only [Prog.lift, Prog.bind_op, Prog.bind_ret]
  unfold has owns
  iintro ⟨%f, %hf, H⟩ Hk
  iapply (wp_load_rect 𝒱₀ (c : Thread nD τ) none Set.univ (m := M) (r := r) (S := (M.slice r hr).view.set) (Finset.Subset.refl _)) $$ H
  iintro H
  rw [show (M.access r).read (Elt F) f = v from hf]
  iapply Hk
  iexists f; isplitr; · ipureintro; exact hf
  iexact H

/-- A load of what the squeeze of the slice holds: its shape-cast is what the place holds. -/
theorem load_squeeze {cs : CoreSpace} {s s' : Shape} {e : EltTy} {M : Memref sig .tc cs s e} {r : Rect s} {hr : ∀ a, r.stride a = 1} {hq : r.shape.Squeezes s'}
    (hc : r.shape.ShapeCasts s') {hl : M.view.LoadsAt r.toLoadRect}
    {q : PosShare TreeShare} {v : s'.Idx → Elt F e} {k : (r.shape.Idx → Elt F e) → Prog (TpuEff nD τ sig (Elt F) Λ₀ .tc) α} :
    (has c ((M.slice r hr).squeeze s' hq) q v : PP F)
      ⊢ iprop((∀ a : r.shape.Idx → Elt F e, ⌜shapeCast s' a hc = v⌝ -∗ has c ((M.slice r hr).squeeze s' hq) q v -∗ runs c (k a) Q)
          -∗ runs c (Prog.lift (.load M r.toLoadRect hl) >>= k) Q) := by
  simp only [Prog.lift, Prog.bind_op, Prog.bind_ret]
  unfold has owns
  iintro ⟨%f, %hf, H⟩ Hk
  iapply (wp_load_rect 𝒱₀ (c : Thread nD τ) none Set.univ (m := M) (r := r) (S := ((M.slice r hr).squeeze s' hq).view.set)
    (by rw [show ((M.slice r hr).squeeze s' hq).view.set = (M.access r).set from View.set_reshape _ _])) $$ H
  iintro H
  iapply Hk $$ %((M.access r).read (Elt F) f) [] [H]
  · ipureintro; exact hf
  · iexists f; isplitr; · ipureintro; exact hf
    iexact H

theorem store_slice {cs : CoreSpace} {s : Shape} {e : EltTy} {M : Memref sig .tc cs s e} {r : Rect s} {hr : ∀ a, r.stride a = 1}
    {w : r.shape.Idx → Elt F e} {hx : (M.access r).Stores Finset.univ} {hm : (Finset.univ : Finset r.shape.Idx) = Finset.univ ∨ ∀ a, r.stride a = 1}
    {v : r.shape.Idx → Elt F e} {k : PUnit → Prog (TpuEff nD τ sig (Elt F) Λ₀ .tc) α} :
    (has c (M.slice r hr) fullShare v : PP F)
      ⊢ iprop((has c (M.slice r hr) fullShare w -∗ runs c (k ⟨⟩) Q) -∗ runs c (Prog.lift (.store M r w Finset.univ hx hm) >>= k) Q) := by
  simp only [Prog.lift, Prog.bind_op, Prog.bind_ret]
  unfold has owns
  iintro ⟨%f, %hf, H⟩ Hk
  iapply (wp_store 𝒱₀ (c : Thread nD τ) none Set.univ (m := M) (r := r) (w := w) (Mk := Finset.univ) (S := (M.slice r hr).view.set) (View.setOn_subset_set _ _)) $$ H
  iintro H
  iapply Hk
  iexists _; isplitr; · ipureintro; exact View.read_write_univ (v := M.access r) f w
  iexact H

theorem store_squeeze {cs : CoreSpace} {s s' : Shape} {e : EltTy} {M : Memref sig .tc cs s e} {r : Rect s} {hr : ∀ a, r.stride a = 1} {hq : r.shape.Squeezes s'}
    (hc : r.shape.ShapeCasts s')
    {w : r.shape.Idx → Elt F e} {hx : (M.access r).Stores Finset.univ} {hm : (Finset.univ : Finset r.shape.Idx) = Finset.univ ∨ ∀ a, r.stride a = 1}
    {v : s'.Idx → Elt F e} {k : PUnit → Prog (TpuEff nD τ sig (Elt F) Λ₀ .tc) α} :
    (has c ((M.slice r hr).squeeze s' hq) fullShare v : PP F)
      ⊢ iprop((has c ((M.slice r hr).squeeze s' hq) fullShare (shapeCast s' w hc) -∗ runs c (k ⟨⟩) Q)
          -∗ runs c (Prog.lift (.store M r w Finset.univ hx hm) >>= k) Q) := by
  simp only [Prog.lift, Prog.bind_op, Prog.bind_ret]
  unfold has owns
  iintro ⟨%f, %hf, H⟩ Hk
  iapply (wp_store 𝒱₀ (c : Thread nD τ) none Set.univ (m := M) (r := r) (w := w) (Mk := Finset.univ) (S := ((M.slice r hr).squeeze s' hq).view.set)
    ((View.setOn_subset_set _ _).trans (by rw [show ((M.slice r hr).squeeze s' hq).view.set = (M.access r).set from View.set_reshape _ _]))) $$ H
  iintro H
  iapply Hk
  iexists _; isplitr
  · ipureintro
    show shapeCast s' ((M.access r).read (Elt F) ((M.access r).write (Elt F) f w Finset.univ)) hc = _
    rw [View.read_write_univ]
  iexact H

end Access

theorem sliceE_eq (M : Memref sig .tc .vmem S4096x512 .bf16) (d : Dev nD) (h : Fin 16) : M.slice (rectE d h) (fun _ => rfl) = blk M (lftN h.val d, false) :=
  slice_off_eq M (off5_eq d h) _ _
theorem sliceO_eq (M : Memref sig .tc .vmem S4096x512 .bf16) (d : Dev nD) (h : Fin 16) : M.slice (rectO d h) (fun _ => rfl) = blk M (rgtN h.val d, true) :=
  slice_off_eq M (off6_eq d h) _ _
theorem slice1_eq (M : Memref sig .tc .vmem S4096x512 .bf16) (d : Dev nD) :
    M.slice (Rect.unit (s := S4096x512) (k0_off1 d) S128x512.size (k0_off1_inb d)) (fun _ => rfl) = blk M (d, false) :=
  slice_off_eq M (off1_eq d) _ _
theorem slice2_eq (M : Memref sig .tc .vmem S4096x512 .bf16) (d : Dev nD) :
    M.slice (Rect.unit (s := S4096x512) (k0_off2 d) S128x512.size (k0_off2_inb d)) (fun _ => rfl) = blk M (d, true) :=
  slice_off_eq M (off2_eq d) _ _

end Cert.KernelIdeal.Ring

end
-- ==== Proof.KernelIdeal.Proto.lean ====
/-
  The protocol of the ring: what each semaphore counts and what it hands over, what a device owes, and in which order
  it may wait.
-/
module

public import proofs.«01_k».proof.Proof.KernelIdeal.Places

@[expose] public section

set_option maxRecDepth 20000

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F] [Named F] [Facts]

local notation "𝕄" => MT nD τ sig Unit (Elt F) ℕ UU ℕ

/-- The ring's part of the ghost state. -/
abbrev ER : Emb UB (MT nD τ sig Unit (Elt F) ℕ UU ℕ) := embR

/-! ## What is computed -/

/-- What a device is given, as it computes with it: its two sequences and its weights. -/
structure Ins (F : FTy → Type) where
  xe : FVec F S128x512 .bf16
  xo : FVec F S128x512 .bf16
  wq : FVec F S512x256 .bf16
  wk : FVec F S512x256 .bf16
  wv : FVec F S512x256 .bf16
  wo : FVec F S256x512 .bf16

section Values
variable (I : Dev nD → Ins F)

/-- The shares device `c` computes at hop `h`: of the first sequence from `h` places to the left and of the second one
    from `h` places to the right. -/
def prodOf (h : ℕ) (c : Dev nD) : FVec F S256x512 .f32 :=
  partialOf (I c).wq (I c).wk (I c).wv (I c).wo (I (lftN h c)).xe (I (rgtN h c)).xo

/-- A share as it is sent or kept. -/
def narrow (p : FVec F S128x512 .f32) : FVec F S128x512 .bf16 := truncf .bf16 p bitsLt_bf16_f32
/-- A kept share as it is added. -/
def widen (p : FVec F S128x512 .bf16) : FVec F S128x512 .f32 := extf .f32 p bitsLt_bf16_f32
/-- A sum with one more share. -/
def addS (a : FVec F S128x512 .bf16) (v : FVec F S128x512 .f32) : FVec F S128x512 .bf16 := narrow (addf (widen a) v)

theorem addOf_eq (a : FVec F S1x128x512 .bf16) (v : FVec F S128x512 .f32) :
    addOf a v = shapeCast S1x128x512 (addS (shapeCast S128x512 a shapeCasts_S1x128x512_S128x512) v) shapeCasts_S128x512_S1x128x512 := rfl

/-- What device `c` adds at hop `h` to the sum that travels to the right; -/
def payR (h : ℕ) (c : Dev nD) : FVec F S128x512 .f32 :=
  if h < 16 then firstOf (prodOf I h c) else widen (narrow (firstOf (prodOf I 0 c)))
/-- to the left. -/
def payL (h : ℕ) (c : Dev nD) : FVec F S128x512 .f32 :=
  if h < 16 then secondOf (prodOf I h c) else widen (narrow (secondOf (prodOf I 0 c)))

/-- The sum that device `c` sends to the right as number `t`; -/
def sumR : ℕ → Dev nD → FVec F S128x512 .bf16
  | 0, c => narrow (firstOf (prodOf I 1 c))
  | t + 1, c => addS (sumR t (lft c)) (payR I (t + 2) c)
/-- to the left. -/
def sumL : ℕ → Dev nD → FVec F S128x512 .bf16
  | 0, c => narrow (secondOf (prodOf I 1 c))
  | t + 1, c => addS (sumL t (rgt c)) (payL I (t + 2) c)

/-- What device `c`'s transfer `x` carries. -/
def val (c : Dev nD) : Tr → FVec F S128x512 .bf16
  | (.agr, i) => (I (lftN i.val c)).xe
  | (.agl, i) => (I (rgtN i.val c)).xo
  | (.rsr, i) => sumR I i.val c
  | (.rsl, i) => sumL I i.val c

end Values

/-! ## The cells -/

/-- Where device `c`'s transfer `x` goes. -/
def dstD (c : Dev nD) (x : Tr) : Dev nD := if x.1.toRight then rgt c else lft c
/-- Where the transfer `x` into device `c` comes from. -/
def srcD (c : Dev nD) (x : Tr) : Dev nD := if x.1.toRight then lft c else rgt c

theorem tgt_eq (c : Dev nD) (x : Tr) : tgt c x = dstD c x := by
  obtain ⟨f, i⟩ := x
  cases f
  · exact rightOf_eq c
  · exact leftOf_eq c
  · exact rightOf_eq c
  · exact leftOf_eq c
theorem srcD_dstD (c : Dev nD) (x : Tr) : srcD (dstD c x) x = c := by
  unfold srcD dstD; cases x.1.toRight
  · exact rgt_lft c
  · exact lft_rgt c
theorem dstD_srcD (c : Dev nD) (x : Tr) : dstD (srcD c x) x = c := by
  unfold srcD dstD; cases x.1.toRight
  · exact lft_rgt c
  · exact rgt_lft c

/-- The runtime's barrier semaphore. -/
abbrev barS : Sem sig := (SemArray.scalar (sig.barrier 0 rfl) : Sems sig S_).sem
abbrev barCell (c : Dev nD) : GSem nD τ sig := ((c : Thread nD τ), .reg barS)
abbrev sendCell (c : Dev nD) (x : Tr) : GSem nD τ sig := ((c : Thread nD τ), .dma (sendSem x))
abbrev recvCell (c : Dev nD) (x : Tr) : GSem nD τ sig := ((c : Thread nD τ), .dma (recvSem x))

/-- The scoped semaphores: of each transfer, where it reads (`false`) and where it writes. -/
abbrev OI := Bool × Tr
/-- All of them: the barrier's too. -/
abbrev CI := Option OI
def osem : OI → SemLoc sig
  | (false, x) => .dma (sendSem x)
  | (true, x) => .dma (recvSem x)
def csem : CI → SemLoc sig
  | none => .reg barS
  | some k => osem k
abbrev kcell (ck : Dev nD × CI) : GSem nD τ sig := ((ck.1 : Thread nD τ), csem ck.2)

/-- The transfer and the side a semaphore number stands for. -/
def codeNat (n : ℕ) : CI :=
  if h : 6 ≤ n ∧ n < 126 then
    let i : Fin 15 := ⟨(n - 6) % 15, Nat.mod_lt _ (by decide)⟩
    match (n - 6) / 15 with
    | 0 => some (false, .agr, i)
    | 1 => some (true, .agr, i)
    | 2 => some (false, .agl, i)
    | 3 => some (true, .agl, i)
    | 4 => some (false, .rsr, i)
    | 5 => some (true, .rsr, i)
    | 6 => some (false, .rsl, i)
    | _ => some (true, .rsl, i)
  else none
/-- The semaphore as the protocol knows it; `none` of one it does not use. -/
def codeOf : SemLoc sig → Option CI
  | .reg s => if s = barS then some none else none
  | .dma q => (codeNat q.val).map some

/-- The numbers of the semaphores. -/
def semNat : OI → ℕ
  | (b, .agr, i) => i.val + (if b then 21 else 6)
  | (b, .agl, i) => i.val + (if b then 51 else 36)
  | (b, .rsr, i) => i.val + (if b then 81 else 66)
  | (b, .rsl, i) => i.val + (if b then 111 else 96)

omit [Facts] in
theorem one_inb (i : Fin 15) : ∀ a, (![i.val] : Fin 1 → Nat) a + S1.size a ≤ S15.size a := by revert i; decide
omit [Facts] in
theorem row_at : ∀ i : Fin 15,
    (S15.rowMajor ((Rect.unit (s := S15) ![i.val] S1.size (one_inb i)).emb (Shape.reshapeEquiv (show S_.numel = S1.numel by decide) (fun a => a.elim0)))).val = i.val := by
  decide +kernel
theorem semOf_val (n : ℕ) (h) (i : Fin 15) : (semOf (SemArray.consecutive n S15 h) i).val = i.val + n :=
  (congrArg (n + ·) (row_at i)).trans (Nat.add_comm _ _)
theorem sendSem_val : ∀ x : Tr, (sendSem x).val = semNat (false, x)
  | (.agr, i) => semOf_val _ _ i
  | (.agl, i) => semOf_val _ _ i
  | (.rsr, i) => semOf_val _ _ i
  | (.rsl, i) => semOf_val _ _ i
theorem recvSem_val : ∀ x : Tr, (recvSem x).val = semNat (true, x)
  | (.agr, i) => semOf_val _ _ i
  | (.agl, i) => semOf_val _ _ i
  | (.rsr, i) => semOf_val _ _ i
  | (.rsl, i) => semOf_val _ _ i
omit [Facts] in
theorem codeNat_semNat : ∀ k : OI, codeNat (semNat k) = some k := by decide +kernel

theorem codeOf_csem : ∀ k : CI, codeOf (csem k) = some k
  | none => by show (if barS = barS then some none else none) = _; exact if_pos rfl
  | some (false, x) => by show (codeNat (sendSem x).val).map some = _; rw [sendSem_val, codeNat_semNat]; rfl
  | some (true, x) => by show (codeNat (recvSem x).val).map some = _; rw [recvSem_val, codeNat_semNat]; rfl
theorem csem_injective : Function.Injective csem := fun k k' h => Option.some.inj (by rw [← codeOf_csem k, ← codeOf_csem k', h])

theorem codeOf_bar : codeOf (.reg barS) = some none := codeOf_csem none
theorem codeOf_send (x : Tr) : codeOf (.dma (sendSem x)) = some (some (false, x)) := codeOf_csem (some (false, x))
theorem codeOf_recv (x : Tr) : codeOf (.dma (recvSem x)) = some (some (true, x)) := codeOf_csem (some (true, x))

/-- What one transfer credits. -/
def N : ℕ := (blk xgM (0, false)).view.dmaCredit
theorem N_pos : 0 < N := View.dmaCredit_pos _ (by decide)

theorem credit_src (c : Dev nD) : ∀ x : Tr, (srcM c x).view.dmaCredit = N
  | (.agr, i) => rfl
  | (.agl, i) => rfl
  | (.rsr, ⟨0, _⟩) => rfl
  | (.rsr, ⟨i + 1, h⟩) => rfl
  | (.rsl, ⟨0, _⟩) => rfl
  | (.rsl, ⟨i + 1, h⟩) => rfl
theorem credit_dst (c : Dev nD) : ∀ x : Tr, (dstM c x).view.dmaCredit = N
  | (.agr, i) => rfl
  | (.agl, i) => rfl
  | (.rsr, i) => rfl
  | (.rsl, i) => rfl

/-- The share of what it reads that a transfer takes along: of a sequence that is read at the same time half. -/
def shr (x : Tr) : PosShare TreeShare := match x.1 with
  | .agr => fullShare.left | .agl => fullShare.left | .rsr => fullShare | .rsl => fullShare

/-! ## The schedule -/

section Sched
variable (I : Dev nD → Ins F)

/-- What device `c` learns at the barrier from its neighbour on the right (`true`) or on the left: that the places its
    transfers to that neighbour write are its own to write. -/
def barPay (c : Dev nD) (d : Bool) : PP F :=
  bigSep (Finset.univ.filter fun x : Tr => x.1.toRight = d) fun x => held (dstD c x) (dstM c x)
def sendPay (c : Dev nD) (x : Tr) : PP F := has c (srcM c x) (shr x) (val I c x)
def recvPay (c : Dev nD) (x : Tr) : PP F := has c (dstM (srcD c x) x) fullShare (val I (srcD c x) x)

def payOf (c : Dev nD) (d : Bool) : Option CI → PP F
  | none => iprop(emp)
  | some none => barPay c d
  | some (some (false, x)) => sendPay I c x
  | some (some (true, x)) => recvPay I c x

def dutiesOf : Option CI → Finset Bool
  | none => ∅
  | some none => Finset.univ
  | some (some _) => {false}

def amountOf : Option CI → ℕ
  | some none => 1
  | _ => N

/-- One round: a barrier has a unit of each neighbour, any other semaphore one transfer. -/
def rd : Rounds.Schedule (GSem nD τ sig) Bool 𝕄 where
  duties g r := if r = 0 ∧ g.1.2 = .tc then dutiesOf (codeOf g.2) else ∅
  unitless _ := False
  amount g _ _ := amountOf (codeOf g.2)
  payload g _ d := payOf I g.1.1 d (codeOf g.2)
  amount_pos g _ _ _ := by
    unfold amountOf; split
    · exact Nat.one_pos
    · exact N_pos

instance payOf_storable (c : Dev nD) (d : Bool) (k : Option CI) : BI.Storable (upEmb : UEmb _ 𝕄) (payOf I c d k) := by
  match k with
  | none => unfold payOf; infer_instance
  | some none => unfold payOf barPay; infer_instance
  | some (some (false, x)) => unfold payOf sendPay; infer_instance
  | some (some (true, x)) => unfold payOf recvPay; infer_instance

instance rd_storable (g : GSem nD τ sig) (r : ℕ) (d : Bool) : BI.Storable (upEmb : UEmb _ 𝕄) ((rd I).payload g r d) :=
  payOf_storable I _ _ _

variable (c : Dev nD) (x : Tr)

theorem duties_bar : (rd I).duties (barCell c) 0 = Finset.univ := by
  dsimp only [rd]; rw [if_pos ⟨rfl, rfl⟩, codeOf_bar]; rfl
theorem duties_send : (rd I).duties (sendCell c x) 0 = {false} := by
  dsimp only [rd]; rw [if_pos ⟨rfl, rfl⟩, codeOf_send]; rfl
theorem duties_recv : (rd I).duties (recvCell c x) 0 = {false} := by
  dsimp only [rd]; rw [if_pos ⟨rfl, rfl⟩, codeOf_recv]; rfl
theorem duties_later (g : GSem nD τ sig) : ∀ r, 1 ≤ r → (rd I).duties g r = ∅ :=
  fun r hr => by dsimp only [rd]; rw [if_neg fun h => by omega]

theorem amount_bar (d : Bool) : (rd I).amount (barCell c) 0 d = 1 := by dsimp only [rd]; rw [codeOf_bar]; rfl
theorem amount_send (d : Bool) : (rd I).amount (sendCell c x) 0 d = N := by dsimp only [rd]; rw [codeOf_send]; rfl
theorem amount_recv (d : Bool) : (rd I).amount (recvCell c x) 0 d = N := by dsimp only [rd]; rw [codeOf_recv]; rfl

theorem expect_bar : (rd I).expect (barCell c) 0 = 2 := by
  unfold Schedule.expect Schedule.amountOf
  rw [duties_bar, Finset.sum_congr rfl fun d _ => amount_bar I c d, Finset.sum_const, Finset.card_univ, Fintype.card_bool, smul_eq_mul]
theorem expect_send : (rd I).expect (sendCell c x) 0 = N := by
  unfold Schedule.expect Schedule.amountOf; rw [duties_send, Finset.sum_singleton, amount_send]
theorem expect_recv : (rd I).expect (recvCell c x) 0 = N := by
  unfold Schedule.expect Schedule.amountOf; rw [duties_recv, Finset.sum_singleton, amount_recv]

theorem payload_bar (d : Bool) : (rd I).payload (barCell c) 0 d = barPay c d := by dsimp only [rd]; rw [codeOf_bar]; rfl
theorem payload_send (d : Bool) : (rd I).payload (sendCell c x) 0 d = sendPay I c x := by dsimp only [rd]; rw [codeOf_send]; rfl
theorem payload_recv (d : Bool) : (rd I).payload (recvCell c x) 0 d = recvPay I c x := by dsimp only [rd]; rw [codeOf_recv]; rfl

theorem rest_bar : bigSep ((rd I).duties (barCell c) 0 \ ∅) (fun d => (rd I).payload (barCell c) 0 d) = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send : bigSep ((rd I).duties (sendCell c x) 0 \ ∅) (fun d => (rd I).payload (sendCell c x) 0 d) = sendPay I c x := by
  rw [Finset.sdiff_empty, duties_send, bigSep_singleton, payload_send]
theorem rest_recv : bigSep ((rd I).duties (recvCell c x) 0 \ ∅) (fun d => (rd I).payload (recvCell c x) 0 d) = recvPay I c x := by
  rw [Finset.sdiff_empty, duties_recv, bigSep_singleton, payload_recv]

end Sched

/-! ## The state of a device -/

/-- How far a transfer of the device has come: not begun, under way, over. -/
inductive Stage | ready | flying | done
  deriving DecidableEq

/-- What device `c` holds for its own transfer `x`. -/
def outSt (c : Dev nD) (x : Tr) : Stage → PP F
  | .ready => iprop(dutyTok ER (sendCell c x) 0 false ∗ dutyTok ER (recvCell (dstD c x) x) 0 false ∗ atPos ER (sendCell c x) 0 ∅ 0 ∗ held (dstD c x) (dstM c x))
  | .flying => iprop(cred (tallyAt (sendCell c x) () N) ∗ atPos ER (sendCell c x) 0 ∅ 0)
  | .done => semVal (sendCell c x) 0

/-- What device `c` holds for the transfer `x` into it, before (`false`) and after it has arrived. -/
def inSt (c : Dev nD) (x : Tr) : Bool → PP F
  | false => iprop(cred (tallyAt (recvCell c x) () N) ∗ atPos ER (recvCell c x) 0 ∅ 0)
  | true => semVal (recvCell c x) 0

/-- What device `c` owes: the transfers it has not begun. -/
def owing (c : Dev nD) (σ : Tr → Stage) : CellTallies nD τ sig Unit :=
  ∑ x ∈ Finset.univ.filter (fun x => σ x = .ready), tallyAt (recvCell (dstD c x) x) () N

def state (c : Dev nD) (σ : Tr → Stage) (ρ : Tr → Bool) : PP F :=
  iprop((bigSep Finset.univ fun x => outSt c x (σ x)) ∗ (bigSep Finset.univ fun x => inSt c x (ρ x)) ∗ ∃ W, owes (c : Thread nD τ) (owing c σ) W)

theorem owing_begin (c : Dev nD) (σ : Tr → Stage) (x : Tr) (h : σ x = .ready) :
    owing c σ = owing c (Function.update σ x .flying) + tallyAt (recvCell (dstD c x) x) () N := by
  unfold owing
  have e : Finset.univ.filter (fun y => σ y = .ready) = insert x (Finset.univ.filter fun y => Function.update σ x .flying y = .ready) := by
    ext y
    simp only [Finset.mem_filter, Finset.mem_univ, true_and, Finset.mem_insert]
    by_cases hy : y = x
    · subst hy; simp [h]
    · rw [Function.update_of_ne hy]; simp [hy]
  rw [e, Finset.sum_insert (by simp), add_comm]

theorem owing_keep (c : Dev nD) (σ : Tr → Stage) (x : Tr) (s : Stage) (h : σ x ≠ .ready) (hs : s ≠ .ready) :
    owing c (Function.update σ x s) = owing c σ := by
  unfold owing
  refine Finset.sum_congr (Finset.filter_congr fun y _ => ?_) fun _ _ => rfl
  by_cases hy : y = x
  · subst hy; simp [h, hs]
  · rw [Function.update_of_ne hy]

theorem owing_pos {c : Dev nD} {σ : Tr → Stage} {g : GSem nD τ sig} {u : Unit} (h : 0 < owing c σ g u) :
    ∃ x, σ x = .ready ∧ g = recvCell (dstD c x) x := by
  unfold owing at h
  rw [Finset.sum_apply, Finsupp.finset_sum_apply] at h
  obtain ⟨x, hx, hne⟩ := Finset.exists_ne_zero_of_sum_ne_zero h.ne'
  refine ⟨x, (Finset.mem_filter.mp hx).2, ?_⟩
  rw [tallyAt_apply] at hne
  by_contra hg
  exact hne (if_neg fun h' => hg h'.1)

/-! ## The order of the waits -/

/-- The place of a transfer in the order in which a device begins its own. -/
def ord : Tr → ℕ
  | (.agr, i) => 4 * i.val
  | (.agl, i) => 4 * i.val + 1
  | (.rsr, i) => 4 * i.val + 10
  | (.rsl, i) => 4 * i.val + 11

def L (g : GSem nD τ sig) : Finset Unit := if g.1.2 = .tc then {()} else ∅

def levOf : Option CI → ℕ
  | none => 0
  | some none => 1
  | some (some (false, _)) => 1
  | some (some (true, x)) => ord x + 2

/-- The level of a semaphore: a device waits only for what is below everything it owes. -/
def lv (g : GSem nD τ sig) (_ : Unit) : ℕ := levOf (codeOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (x : Tr) (u : Unit) : lv (recvCell c x) u = ord x + 2 := by unfold lv; rw [codeOf_recv]; rfl
theorem lv_send (c : Dev nD) (x : Tr) (u : Unit) : lv (sendCell c x) u = 1 := by unfold lv; rw [codeOf_send]; rfl
theorem lv_bar (c : Dev nD) (u : Unit) : lv (barCell c) u = 1 := by unfold lv; rw [codeOf_bar]; rfl

theorem mayWait (c : Dev nD) (sm : SemLoc sig) (σ : Tr → Stage) (h : ∀ x, σ x = .ready → levOf (codeOf sm) < ord x + 2) :
    (levAts L lv : PP F) ⊢ MayWait (c : Thread nD τ) sm () (owing c σ) :=
  MayOwe.of_cut (L := L) (lev := lv) (levOf (codeOf sm))
    (fun p hp => by rw [Finset.mem_singleton.mp hp, L_tc]; exact Finset.mem_singleton_self _)
    (fun g u hg => by obtain ⟨x, -, rfl⟩ := owing_pos hg; exact Finset.mem_singleton_self _)
    (fun p hp => by rw [Finset.mem_singleton.mp hp]; exact Nat.le_refl _)
    (fun g u hg => by obtain ⟨x, hx, rfl⟩ := owing_pos hg; rw [lv_recv]; exact h x hx)

end Cert.KernelIdeal.Ring

end
-- ==== Proof.KernelIdeal.Xfer.lean ====
/-
  One transfer: beginning it, waiting until it has left, waiting until one has arrived.
-/
module

public import proofs.«01_k».proof.Proof.KernelIdeal.Proto

@[expose] public section

set_option maxRecDepth 20000

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F] [Named F] [Facts]

local notation "𝕄" => MT nD τ sig Unit (Elt F) ℕ UU ℕ

/-! ## One of many -/

section One
variable {S : Type}

/-- What is held of every transfer at its stage, seen from one of them. -/
theorem all_at (Φ : Tr → S → PP F) (σ : Tr → S) (x : Tr) :
    (bigSep Finset.univ fun y => Φ y (σ y)) = iprop(Φ x (σ x) ∗ bigSep (Finset.univ.erase x) fun y => Φ y (σ y)) :=
  BI.bigSep_erase (Finset.mem_univ x)

/-- And with that one at another stage. -/
theorem all_put (Φ : Tr → S → PP F) (σ : Tr → S) (x : Tr) (s : S) :
    (bigSep Finset.univ fun y => Φ y (Function.update σ x s y)) = iprop(Φ x s ∗ bigSep (Finset.univ.erase x) fun y => Φ y (σ y)) := by
  rw [all_at Φ (Function.update σ x s) x, Function.update_self]
  congr 1
  exact bigSep_congr fun y hy => by rw [Function.update_of_ne (Finset.ne_of_mem_erase hy)]

end One

/-! ## What everybody knows -/

section Steps
variable (I : Dev nD → Ins F) (K : Dev nD × CI → ℕ)

/-- The invariants of all cells, that each is at its round, and the levels. -/
def recs : PP F :=
  iprop((bigSep Finset.univ fun ck : Dev nD × CI => cellInv ER (rd I) (K ck) (kcell ck))
    ∗ (bigSep Finset.univ fun ck : Dev nD × CI => reached ER (kcell ck) 0) ∗ levAts L lv)

theorem recs_inv (ck : Dev nD × CI) : (recs I K : PP F) ⊢ cellInv ER (rd I) (K ck) (kcell ck) :=
  Laws.sep_elim_left.trans (bigSep_elim (Finset.mem_univ ck))
theorem recs_reached (ck : Dev nD × CI) : (recs I K : PP F) ⊢ reached ER (kcell ck) 0 :=
  Laws.sep_elim_right.trans (Laws.sep_elim_left.trans (bigSep_elim (Finset.mem_univ ck)))
theorem recs_lev : (recs I K : PP F) ⊢ levAts L lv := by unfold recs; iintro ⟨-, -, H⟩; iexact H

instance recs_persistent : BI.Persistent (recs I K : PP F) := by unfold recs; infer_instance

variable (c : Dev nD) (x : Tr) {α : Type} {Q : α → PP F} {k : PUnit → Prog (TpuEff nD τ sig (Elt F) Λ₀ .tc) α}

/-! ## The three steps -/

theorem wp_send_to (n : Dev nD) (hn : n = dstD c x) {hsc : (dstM c x).view.ref.isScScratch = false}
    {hsrc : (srcM c x).view.WordExact} {hdst : (dstM c x).view.WordExact}
    {hsem : DmaTarget.Typed .vmem (.dma (recvSem x)) (.remote (Dev.tc n : Thread nD τ) (dstM c x) (.dma (sendSem x)) hsc)}
    (fs : Buf (Elt F) ((srcM c x).view.loc (c : Thread nD τ))) (hfs : (srcM c x).view.read (Elt F) fs = val I c x)
    (fn : Buf (Elt F) ((dstM c x).view.loc (dstD c x : Thread nD τ)))
    {O₀ : CellTallies nD τ sig Unit} (O : CellTallies nD τ sig Unit) (hO : O₀ = O + tallyAt (recvCell (dstD c x) x) () N) (W : Waits sig Unit) :
    iprop(cellInv ER (rd I) (K (c, some (false, x))) (sendCell c x) ∗ cellInv ER (rd I) (K (dstD c x, some (true, x))) (recvCell (dstD c x) x)
        ∗ ((srcM c x).view.loc (c : Thread nD τ) ↦[(srcM c x).view.set]{shr x} fs)
        ∗ ((dstM c x).view.loc (dstD c x : Thread nD τ) ↦[(dstM c x).view.set]{fullShare} fn)
        ∗ owes (c : Thread nD τ) O₀ W
        ∗ dutyTok ER (sendCell c x) 0 false ∗ reached ER (sendCell c x) 0
        ∗ dutyTok ER (recvCell (dstD c x) x) 0 false ∗ reached ER (recvCell (dstD c x) x) 0)
      ⊢ iprop(((cred (tallyAt (sendCell c x) () N) ∗ owes (c : Thread nD τ) O W) -∗ runs c (k ⟨⟩) Q)
          -∗ runs c (.op (.enqueueDma (srcM c x) (.remote (Dev.tc n : Thread nD τ) (dstM c x) (.dma (sendSem x)) hsc) (.dma (recvSem x)) hsrc hdst hsem) k) Q) := by
  subst hn
  exact Rounds.wp_send_pointsTo 𝒱₀ ER (rd I) (c : Thread nD τ) none (κ₁ := K (c, some (false, x))) (κ₂ := K (dstD c x, some (true, x)))
    (r₁ := 0) (r₂ := 0) (d₁ := false) (d₂ := false) (fd := fn)
    (by rw [duties_send]; exact Finset.mem_singleton_self _) (by rw [duties_recv]; exact Finset.mem_singleton_self _)
    () () N (by exact credit_dst c x) (amount_send I c x false) (amount_recv I (dstD c x) x false) O hO (W := W)
    (by rw [payload_send]; unfold sendPay has owns; iintro H; iexists fs; isplitr; · ipureintro; exact hfs
        iexact H)
    (by rw [payload_recv]; unfold recvPay has owns; rw [srcD_dstD, hfs]; iintro H; iexists ((dstM c x).view.write (Elt F) fn (val I c x) Finset.univ); isplitr
        · ipureintro; exact View.read_write_univ (v := (dstM c x).view) fn (val I c x)
        iexact H)

variable (σ : Tr → Stage) (ρ : Tr → Bool)

theorem may_send : (recs I K : PP F) ⊢ MayWait (c : Thread nD τ) (.dma (sendSem x)) () (owing c σ) := by
  have e : ∀ y, σ y = .ready → levOf (codeOf (.dma (sendSem x))) < ord y + 2 := fun y _ => by
    rw [codeOf_send]; show 1 < ord y + 2; omega
  iintro H
  iapply (mayWait c (.dma (sendSem x)) σ e)
  iapply (recs_lev I K); iexact H
theorem may_recv (ho : ∀ y, σ y = .ready → ord x < ord y) : (recs I K : PP F) ⊢ MayWait (c : Thread nD τ) (.dma (recvSem x)) () (owing c σ) := by
  have e : ∀ y, σ y = .ready → levOf (codeOf (.dma (recvSem x))) < ord y + 2 := fun y hy => by
    rw [codeOf_recv]; exact Nat.add_lt_add_right (ho y hy) 2
  iintro H
  iapply (mayWait c (.dma (recvSem x)) σ e)
  iapply (recs_lev I K); iexact H

theorem send_step (h : σ x = .ready) :
    iprop(recs I K ∗ state c σ ρ ∗ has c (srcM c x) (shr x) (val I c x))
      ⊢ iprop((state c (Function.update σ x .flying) ρ -∗ runs c (k ⟨⟩) Q) -∗ runs c (sendT c x >>= k) Q) := by
  unfold sendT
  simp only [Prog.lift, Prog.bind_op, Prog.bind_ret]
  unfold state has owns
  rw [all_at (outSt c) σ x, all_put (outSt c) σ x .flying, h, owing_begin c σ x h]
  show iprop(recs I K ∗ ((iprop(dutyTok ER (sendCell c x) 0 false ∗ dutyTok ER (recvCell (dstD c x) x) 0 false ∗ atPos ER (sendCell c x) 0 ∅ 0 ∗ held (dstD c x) (dstM c x)) ∗ _) ∗ _ ∗ _) ∗ _) ⊢ _
  iintro ⟨#HR, ⟨⟨⟨Ht, Ht', Hat, Hd⟩, Hrest⟩, Hin, ⟨%W, HO⟩⟩, ⟨%fs, %hfs, Hs⟩⟩ Hk
  ihave Hd' := (pts_of_held (dstD c x) (dstM c x)) $$ Hd
  icases Hd' with ⟨%fn, Hd⟩
  iapply (wp_send_to I K c x (tgt c x) (tgt_eq c x) fs hfs fn (owing c (Function.update σ x .flying)) rfl W) $$ [Ht Ht' Hd HO Hs]
  · isplitr; · iapply (recs_inv I K (c, some (false, x))); iexact HR
    isplitr; · iapply (recs_inv I K (dstD c x, some (true, x))); iexact HR
    isplitl [Hs]; · iexact Hs
    isplitl [Hd]; · iexact Hd
    isplitl [HO]; · iexact HO
    isplitl [Ht]; · iexact Ht
    isplitr; · iapply (recs_reached I K (c, some (false, x))); iexact HR
    isplitl [Ht']; · iexact Ht'
    iapply (recs_reached I K (dstD c x, some (true, x))); iexact HR
  iintro ⟨HC, HO⟩
  iapply Hk
  isplitl [HC Hat Hrest]
  · isplitl [HC Hat]
    · unfold outSt; isplitl [HC]; · iexact HC
      iexact Hat
    iexact Hrest
  isplitl [Hin]; · iexact Hin
  iexists W; iexact HO

theorem sent_step (h : σ x = .flying) :
    iprop(recs I K ∗ state c σ ρ)
      ⊢ iprop(((state c (Function.update σ x .done) ρ ∗ has c (srcM c x) (shr x) (val I c x)) -∗ runs c (k ⟨⟩) Q) -∗ runs c (sentT c x >>= k) Q) := by
  unfold sentT
  simp only [Prog.lift, Prog.bind_op, Prog.bind_ret]
  unfold state
  rw [all_at (outSt c) σ x, all_put (outSt c) σ x .done, h, owing_keep c σ x .done (by rw [h]; exact nofun) nofun]
  show iprop(recs I K ∗ ((iprop(cred (tallyAt (sendCell c x) () N) ∗ atPos ER (sendCell c x) 0 ∅ 0) ∗ _) ∗ _ ∗ _)) ⊢ _
  iintro ⟨#HR, ⟨⟨HC, Hat⟩, Hrest⟩, Hin, ⟨%W, HO⟩⟩ Hk
  iapply (Rounds.wp_wait_rest_token 𝒱₀ ER (rd I) (c : Thread nD τ) none (κ := K (c, some (false, x)))
      (wpE_waitDma2_eq 𝒱₀ (c : Thread nD τ) none Set.univ) (Set.mem_univ _) () (O := owing c σ) (W := W) (R := 0) (m := 0) (T := ∅)
      (by rw [Nat.zero_add, expect_send]; exact credit_src c x)) $$ [HC HO Hat]
  · isplitr; · iapply (recs_inv I K (c, some (false, x))); iexact HR
    isplitl [HC]; · rw [credit_src]; iexact HC
    isplitl [HO]; · iexact HO
    isplitr
    · iapply (may_send I K c x σ); iexact HR
    iexact Hat
  iintro ⟨HO, Hat, -, Hpay⟩
  ihave Hs := (Entails.of_eq (rest_send I c x)) $$ Hpay
  imod (Rounds.cell_close ER (rd I) (Set.mem_univ (K (c, some (false, x)))) (fun h => h) (R := 0 + 1) (duties_later I (sendCell c x))) $$ [Hat] with Hz
  · isplitr; · iapply (recs_inv I K (c, some (false, x))); iexact HR
    iexact Hat
  iapply Hk
  isplitr [Hs]
  · isplitl [Hz Hrest]
    · isplitl [Hz]; · unfold outSt; iexact Hz
      iexact Hrest
    isplitl [Hin]; · iexact Hin
    iexists _; iexact HO
  unfold sendPay; iexact Hs

theorem recv_step (h : ρ x = false) (ho : ∀ y, σ y = .ready → ord x < ord y) :
    iprop(recs I K ∗ state c σ ρ)
      ⊢ iprop(((state c σ (Function.update ρ x true) ∗ has c (dstM (srcD c x) x) fullShare (val I (srcD c x) x)) -∗ runs c (k ⟨⟩) Q) -∗ runs c (recvT c x >>= k) Q) := by
  unfold recvT
  simp only [Prog.lift, Prog.bind_op, Prog.bind_ret]
  unfold state
  rw [all_at (inSt c) ρ x, all_put (inSt c) ρ x true, h]
  show iprop(recs I K ∗ (_ ∗ (iprop(cred (tallyAt (recvCell c x) () N) ∗ atPos ER (recvCell c x) 0 ∅ 0) ∗ _) ∗ _)) ⊢ _
  iintro ⟨#HR, Hout, ⟨⟨HC, Hat⟩, Hrest⟩, ⟨%W, HO⟩⟩ Hk
  iapply (Rounds.wp_wait_rest_token 𝒱₀ ER (rd I) (c : Thread nD τ) none (κ := K (c, some (true, x)))
      (wpE_waitDma2_eq 𝒱₀ (c : Thread nD τ) none Set.univ) (Set.mem_univ _) () (O := owing c σ) (W := W) (R := 0) (m := 0) (T := ∅)
      (by rw [Nat.zero_add, expect_recv]; exact credit_dst c x)) $$ [HC HO Hat]
  · isplitr; · iapply (recs_inv I K (c, some (true, x))); iexact HR
    isplitl [HC]; · rw [credit_dst]; iexact HC
    isplitl [HO]; · iexact HO
    isplitr
    · iapply (may_recv I K c x σ ho); iexact HR
    iexact Hat
  iintro ⟨HO, Hat, -, Hpay⟩
  ihave Hs := (Entails.of_eq (rest_recv I c x)) $$ Hpay
  imod (Rounds.cell_close ER (rd I) (Set.mem_univ (K (c, some (true, x)))) (fun h => h) (R := 0 + 1) (duties_later I (recvCell c x))) $$ [Hat] with Hz
  · isplitr; · iapply (recs_inv I K (c, some (true, x))); iexact HR
    iexact Hat
  iapply Hk
  isplitr [Hs]
  · isplitl [Hout]; · iexact Hout
    isplitl [Hz Hrest]
    · isplitl [Hz]; · unfold inSt; iexact Hz
      iexact Hrest
    iexists _; iexact HO
  unfold recvPay; iexact Hs

end Steps

/-! ## Counted -/

/-- Each family's transfers happen in their order, so that three counts say where a device stands: of each family how many
    are begun, how many have left, how many have arrived. -/
def cnt (n₀ n₁ n₂ n₃ : ℕ) : Fam → ℕ
  | .agr => n₀
  | .agl => n₁
  | .rsr => n₂
  | .rsl => n₃

def stg (b e : Fam → ℕ) : Tr → Stage := fun x => if x.2.val < e x.1 then .done else if x.2.val < b x.1 then .flying else .ready
def arr (r : Fam → ℕ) : Tr → Bool := fun x => decide (x.2.val < r x.1)

/-- `b'` is `b` with one more of the family `f`. -/
def More (f : Fam) (b b' : Fam → ℕ) : Prop := ∀ g, b' g = if g = f then b g + 1 else b g

theorem stg_begin {f : Fam} {b b' e : Fam → ℕ} (i : Fin 15) (hi : i.val = b f) (he : e f ≤ b f) (hb : More f b b') :
    stg b' e = Function.update (stg b e) (f, i) .flying := by
  funext ⟨g, j⟩
  by_cases hg : (g, j) = (f, i)
  · rw [hg, Function.update_self]; unfold stg; dsimp only
    rw [if_neg (by omega), hb f, if_pos rfl, if_pos (by omega)]
  · rw [Function.update_of_ne hg]; unfold stg; dsimp only
    rw [hb g]
    split
    · rfl
    · by_cases h : g = f
      · subst h
        have hj : j.val ≠ i.val := fun h => hg (by rw [Fin.ext h])
        rw [if_pos rfl]
        by_cases h' : j.val < b g
        · rw [if_pos h', if_pos (by omega)]
        · rw [if_neg h', if_neg (by omega)]
      · rw [if_neg h]

theorem stg_end {f : Fam} {b e e' : Fam → ℕ} (i : Fin 15) (hi : i.val = e f) (he : More f e e') :
    stg b e' = Function.update (stg b e) (f, i) .done := by
  funext ⟨g, j⟩
  by_cases hg : (g, j) = (f, i)
  · rw [hg, Function.update_self]; unfold stg; dsimp only
    rw [he f, if_pos rfl, if_pos (by omega)]
  · rw [Function.update_of_ne hg]; unfold stg; dsimp only
    rw [he g]
    by_cases h : g = f
    · subst h
      have hj : j.val ≠ i.val := fun h => hg (by rw [Fin.ext h])
      rw [if_pos rfl]
      by_cases h' : j.val < e g
      · rw [if_pos h', if_pos (by omega)]
      · rw [if_neg h', if_neg (by omega)]
    · rw [if_neg h]

theorem arr_more {f : Fam} {r r' : Fam → ℕ} (i : Fin 15) (hi : i.val = r f) (hr : More f r r') :
    arr r' = Function.update (arr r) (f, i) true := by
  funext ⟨g, j⟩
  by_cases hg : (g, j) = (f, i)
  · rw [hg, Function.update_self]; unfold arr; dsimp only
    rw [hr f, if_pos rfl]; exact decide_eq_true (by omega)
  · rw [Function.update_of_ne hg]; unfold arr; dsimp only
    rw [hr g]
    by_cases h : g = f
    · subst h
      have hj : j.val ≠ i.val := fun h => hg (by rw [Fin.ext h])
      rw [if_pos rfl]
      exact decide_eq_decide.mpr ⟨fun _ => by omega, fun _ => by omega⟩
    · rw [if_neg h]

section Counted
variable (I : Dev nD → Ins F) (K : Dev nD × CI → ℕ) (c : Dev nD) {α : Type} {Q : α → PP F} {k : PUnit → Prog (TpuEff nD τ sig (Elt F) Λ₀ .tc) α}

/-- Where a device stands. -/
def at_ (b e r : Fam → ℕ) : PP F := state c (stg b e) (arr r)

theorem send_at (f : Fam) (i : Fin 15) {b b' e r : Fam → ℕ} (hb : More f b b') (hi : i.val = b f) (he : e f ≤ b f) :
    iprop(recs I K ∗ at_ c b e r ∗ has c (srcM c (f, i)) (shr (f, i)) (val I c (f, i)))
      ⊢ iprop((at_ c b' e r -∗ runs c (k ⟨⟩) Q) -∗ runs c (sendT c (f, i) >>= k) Q) := by
  unfold at_
  rw [stg_begin i hi he hb]
  exact send_step I K c (f, i) _ _ (by unfold stg; dsimp only; rw [if_neg (by omega), if_neg (by omega)])

theorem sent_at (f : Fam) (i : Fin 15) {b e e' r : Fam → ℕ} (he : More f e e') (hi : i.val = e f) (hb : e f < b f) :
    iprop(recs I K ∗ at_ c b e r)
      ⊢ iprop(((at_ c b e' r ∗ has c (srcM c (f, i)) (shr (f, i)) (val I c (f, i))) -∗ runs c (k ⟨⟩) Q) -∗ runs c (sentT c (f, i) >>= k) Q) := by
  unfold at_
  rw [stg_end i hi he]
  exact sent_step I K c (f, i) _ _ (by unfold stg; dsimp only; rw [if_neg (by omega), if_pos (by omega)])

theorem recv_at (f : Fam) (i : Fin 15) {b e r r' : Fam → ℕ} (hr : More f r r') (hi : i.val = r f)
    (ho : ∀ g (j : Fin 15), b g ≤ j.val → ord (f, i) < ord (g, j)) :
    iprop(recs I K ∗ at_ c b e r)
      ⊢ iprop(((at_ c b e r' ∗ has c (dstM (srcD c (f, i)) (f, i)) fullShare (val I (srcD c (f, i)) (f, i))) -∗ runs c (k ⟨⟩) Q)
          -∗ runs c (recvT c (f, i) >>= k) Q) := by
  unfold at_
  rw [arr_more i hi hr]
  refine recv_step I K c (f, i) _ _ (decide_eq_false (by dsimp only; omega)) fun ⟨g, j⟩ h => ho g j ?_
  unfold stg at h; dsimp only at h
  split at h
  · cases h
  · split at h
    · cases h
    · omega

end Counted

end Cert.KernelIdeal.Ring

end
-- ==== Proof.KernelIdeal.Hops.lean ====
/-
  The hops: what a device holds before and after each.
-/
module

public import proofs.«01_k».proof.Proof.KernelIdeal.Xfer

@[expose] public section

set_option maxRecDepth 20000

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F] [Named F] [Facts]

local notation "𝕄" => MT nD τ sig Unit (Elt F) ℕ UU ℕ

/-! ## The first so many -/

section UpTo
variable {m : ℕ}

/-- Of the first `n` of `m` things. -/
def upTo (n : ℕ) (Φ : Fin m → PP F) : PP F := bigSep (Finset.univ.filter fun i : Fin m => i.val < n) Φ

omit [FloatOps F] in
theorem upTo_zero (Φ : Fin m → PP F) : upTo 0 Φ = (iprop(emp) : PP F) := by
  unfold upTo
  rw [Finset.filter_false_of_mem (fun i _ => Nat.not_lt_zero _)]; exact bigSep_empty

omit [FloatOps F] in
theorem upTo_succ (i : Fin m) (Φ : Fin m → PP F) : upTo (i.val + 1) Φ = iprop(Φ i ∗ upTo i.val Φ) := by
  unfold upTo
  have e : (Finset.univ.filter fun j : Fin m => j.val < i.val + 1) = insert i (Finset.univ.filter fun j : Fin m => j.val < i.val) := by
    ext j
    simp only [Finset.mem_filter, Finset.mem_univ, true_and, Finset.mem_insert]
    constructor
    · intro h
      rcases Nat.lt_succ_iff_lt_or_eq.mp h with h | h
      · exact Or.inr h
      · exact Or.inl (Fin.ext h)
    · rintro (rfl | h)
      · exact Nat.lt_succ_self _
      · exact Nat.lt_succ_of_lt h
  rw [e, BI.bigSep_insert (by simp)]; rfl

omit [FloatOps F] in
theorem upTo_all (Φ : Fin m → PP F) : upTo m Φ = bigSep Finset.univ Φ := by
  unfold upTo
  rw [Finset.filter_true_of_mem (fun i _ => i.isLt)]

end UpTo

section Hops
variable (I : Dev nD → Ins F) (K : Dev nD × CI → ℕ) (c : Dev nD) {α : Type} {Q : α → PP F}

/-! ## The places, as a device sees them -/

/-- The place of the first sequence from `h` places to the left; of the second one from `h` places to the right. -/
abbrev seqE (M : Memref sig .tc .vmem S4096x512 .bf16) (h : ℕ) := blk M (lftN h c, false)
abbrev seqO (M : Memref sig .tc .vmem S4096x512 .bf16) (h : ℕ) := blk M (rgtN h c, true)
/-- Each holding what it is for. -/
abbrev hasE (h : ℕ) (q : PosShare TreeShare) : PP F := has c (seqE c xgM h) q (I (lftN h c)).xe
abbrev hasO (h : ℕ) (q : PosShare TreeShare) : PP F := has c (seqO c xgM h) q (I (rgtN h c)).xo
/-- The place that the sum number `t` is sent from. -/
abbrev sumE (t : Fin 15) : PP F := has c (srcM c (.rsr, t)) fullShare (sumR I t.val c)
abbrev sumO (t : Fin 15) : PP F := has c (srcM c (.rsl, t)) fullShare (sumL I t.val c)

omit [FloatOps F] [Facts] in
theorem has_eq {s : Shape} {M M' : Memref sig .tc .vmem s .bf16} (h : M = M') (q : PosShare TreeShare) (v : s.Idx → Elt F .bf16) :
    (has c M q v : PP F) = has c M' q v := by subst h; rfl

theorem agr_src (i : Fin 15) : (has c (srcM c (.agr, i)) (shr (.agr, i)) (val I c (.agr, i)) : PP F) = hasE I c i.val fullShare.left :=
  has_eq c (blkL_eq xgM c i) fullShare.left (I (lftN i.val c)).xe
theorem agl_src (i : Fin 15) : (has c (srcM c (.agl, i)) (shr (.agl, i)) (val I c (.agl, i)) : PP F) = hasO I c i.val fullShare.left :=
  has_eq c (blkR_eq xgM c i) fullShare.left (I (rgtN i.val c)).xo
theorem agr_dst (i : Fin 15) : (has c (dstM (srcD c (.agr, i)) (.agr, i)) fullShare (val I (srcD c (.agr, i)) (.agr, i)) : PP F) = hasE I c (i.val + 1) fullShare :=
  has_eq c (blkL_eq xgM (lft c) i) fullShare (I (lftN (i.val + 1) c)).xe
theorem agl_dst (i : Fin 15) : (has c (dstM (srcD c (.agl, i)) (.agl, i)) fullShare (val I (srcD c (.agl, i)) (.agl, i)) : PP F) = hasO I c (i.val + 1) fullShare :=
  has_eq c (blkR_eq xgM (rgt c) i) fullShare (I (rgtN (i.val + 1) c)).xo

/-! ## Computing, keeping, adding -/

theorem compute_at (wq wk wv : FVec F S512x256 .bf16) (wo : FVec F S256x512 .bf16) (h : Fin 16) (q q' : PosShare TreeShare)
    (xe xo : FVec F S128x512 .bf16) {k : FVec F S256x512 .f32 → Prog (TpuEff nD τ sig (Elt F) Λ₀ .tc) α} :
    iprop(has c (seqE c xgM h.val) q xe ∗ has c (seqO c xgM h.val) q' xo)
      ⊢ iprop(((has c (seqE c xgM h.val) q xe ∗ has c (seqO c xgM h.val) q' xo) -∗ runs c (k (partialOf wq wk wv wo xe xo)) Q)
          -∗ runs c (computeT wq wk wv wo c h >>= k) Q) := by
  unfold seqE seqO
  rw [← sliceE_eq xgM c h, ← sliceO_eq xgM c h]
  unfold computeT
  simp only [Prog.bind_assoc]
  iintro ⟨HE, HO⟩ Hk
  iapply (load_slice c (M := xgM) (r := rectE c h)) $$ HE; iintro HE
  iapply (load_slice c (M := xgM) (r := rectO c h)) $$ HO; iintro HO
  simp only [Prog.pure_eq_ret, Prog.bind_ret]
  iapply Hk
  isplitl [HE]; · iexact HE
  iexact HO

theorem keep_at (h : Fin 16) (p : FVec F S256x512 .f32) {k : PUnit → Prog (TpuEff nD τ sig (Elt F) Λ₀ .tc) α} :
    iprop(held c (seqE c partM h.val) ∗ held c (seqO c partM h.val))
      ⊢ iprop(((has c (seqE c partM h.val) fullShare (narrow (firstOf p)) ∗ has c (seqO c partM h.val) fullShare (narrow (secondOf p))) -∗ runs c (k ⟨⟩) Q)
          -∗ runs c (keepT c h p >>= k) Q) := by
  unfold seqE seqO
  rw [← sliceE_eq partM c h, ← sliceO_eq partM c h]
  unfold keepT held
  simp only [Prog.bind_assoc]
  iintro ⟨⟨%v, HE⟩, ⟨%w, HO⟩⟩ Hk
  iapply (load_slice c (M := partM) (r := rectE c h)) $$ HE; iintro HE
  iapply (store_slice c (M := partM) (r := rectE c h)) $$ HE; iintro HE
  iapply (load_slice c (M := partM) (r := rectO c h)) $$ HO; iintro HO
  iapply (store_slice c (M := partM) (r := rectO c h)) $$ HO; iintro HO
  iapply Hk
  isplitl [HE]; · rw [shapeCast_self]; iexact HE
  rw [shapeCast_self]; iexact HO

theorem add_at (b : Ref sig .tc) (M : Memref sig .tc .vmem S15x128x512 .bf16) (hM : M.IsWhole) (t : Fin 15) (a : FVec F S128x512 .bf16) (v : FVec F S128x512 .f32)
    {k : PUnit → Prog (TpuEff nD τ sig (Elt F) Λ₀ .tc) α} :
    (has c (slotOf M t) fullShare a : PP F)
      ⊢ iprop((has c (slotOf M t) fullShare (addS a v) -∗ runs c (k ⟨⟩) Q) -∗ runs c (addT b M hM t v >>= k) Q) := by
  unfold addT slotOf
  simp only [Prog.bind_assoc]
  iintro H Hk
  iapply (load_squeeze c (M := M) (r := rectS t) shapeCasts_S1x128x512_S128x512) $$ H
  iintro %a' %ha H
  iapply (load_squeeze c (M := M) (r := rectS t) shapeCasts_S1x128x512_S128x512) $$ H
  iintro %a'' %ha'' H
  iapply (store_squeeze c (M := M) (r := rectS t) shapeCasts_S1x128x512_S128x512) $$ H
  iintro H
  iapply Hk
  rw [addOf_eq, ha]
  have e := shapeCast_shapeCast (addS a v) shapeCasts_S128x512_S1x128x512 shapeCasts_S1x128x512_S128x512
  exact (Entails.of_eq (congrArg (fun v : S128x512.Idx → Elt F .bf16 => (has c (slotOf M t) fullShare v : PP F)) e))

/-! ## The steps, family by family -/

section Families
variable {k : PUnit → Prog (TpuEff nD τ sig (Elt F) Λ₀ .tc) α} {b b' e e' r r' : Fam → ℕ} (i : Fin 15)

theorem send_agr (hb : More .agr b b') (hi : i.val = b .agr) (he : e .agr ≤ b .agr) :
    iprop(recs I K ∗ at_ c b e r ∗ hasE I c i.val fullShare.left) ⊢ iprop((at_ c b' e r -∗ runs c (k ⟨⟩) Q) -∗ runs c (sendT c (.agr, i) >>= k) Q) := by
  rw [← agr_src]; exact send_at I K c .agr i hb hi he
theorem send_agl (hb : More .agl b b') (hi : i.val = b .agl) (he : e .agl ≤ b .agl) :
    iprop(recs I K ∗ at_ c b e r ∗ hasO I c i.val fullShare.left) ⊢ iprop((at_ c b' e r -∗ runs c (k ⟨⟩) Q) -∗ runs c (sendT c (.agl, i) >>= k) Q) := by
  rw [← agl_src]; exact send_at I K c .agl i hb hi he
theorem send_rsr (hb : More .rsr b b') (hi : i.val = b .rsr) (he : e .rsr ≤ b .rsr) :
    iprop(recs I K ∗ at_ c b e r ∗ sumE I c i) ⊢ iprop((at_ c b' e r -∗ runs c (k ⟨⟩) Q) -∗ runs c (sendT c (.rsr, i) >>= k) Q) :=
  send_at I K c .rsr i hb hi he
theorem send_rsl (hb : More .rsl b b') (hi : i.val = b .rsl) (he : e .rsl ≤ b .rsl) :
    iprop(recs I K ∗ at_ c b e r ∗ sumO I c i) ⊢ iprop((at_ c b' e r -∗ runs c (k ⟨⟩) Q) -∗ runs c (sendT c (.rsl, i) >>= k) Q) :=
  send_at I K c .rsl i hb hi he

theorem sent_agr (he : More .agr e e') (hi : i.val = e .agr) (hb : e .agr < b .agr) :
    iprop(recs I K ∗ at_ c b e r) ⊢ iprop(((at_ c b e' r ∗ hasE I c i.val fullShare.left) -∗ runs c (k ⟨⟩) Q) -∗ runs c (sentT c (.agr, i) >>= k) Q) := by
  rw [← agr_src]; exact sent_at I K c .agr i he hi hb
theorem sent_agl (he : More .agl e e') (hi : i.val = e .agl) (hb : e .agl < b .agl) :
    iprop(recs I K ∗ at_ c b e r) ⊢ iprop(((at_ c b e' r ∗ hasO I c i.val fullShare.left) -∗ runs c (k ⟨⟩) Q) -∗ runs c (sentT c (.agl, i) >>= k) Q) := by
  rw [← agl_src]; exact sent_at I K c .agl i he hi hb
theorem sent_rsr (he : More .rsr e e') (hi : i.val = e .rsr) (hb : e .rsr < b .rsr) :
    iprop(recs I K ∗ at_ c b e r) ⊢ iprop(((at_ c b e' r ∗ sumE I c i) -∗ runs c (k ⟨⟩) Q) -∗ runs c (sentT c (.rsr, i) >>= k) Q) :=
  sent_at I K c .rsr i he hi hb
theorem sent_rsl (he : More .rsl e e') (hi : i.val = e .rsl) (hb : e .rsl < b .rsl) :
    iprop(recs I K ∗ at_ c b e r) ⊢ iprop(((at_ c b e' r ∗ sumO I c i) -∗ runs c (k ⟨⟩) Q) -∗ runs c (sentT c (.rsl, i) >>= k) Q) :=
  sent_at I K c .rsl i he hi hb

theorem recv_agr (n : ℕ) (hn : i.val + 1 = n) (hr : More .agr r r') (hi : i.val = r .agr) (ho : ∀ g (j : Fin 15), b g ≤ j.val → ord (.agr, i) < ord (g, j)) :
    iprop(recs I K ∗ at_ c b e r) ⊢ iprop(((at_ c b e r' ∗ hasE I c n fullShare) -∗ runs c (k ⟨⟩) Q) -∗ runs c (recvT c (.agr, i) >>= k) Q) := by
  subst hn; rw [← agr_dst]; exact recv_at I K c .agr i hr hi ho
theorem recv_agl (n : ℕ) (hn : i.val + 1 = n) (hr : More .agl r r') (hi : i.val = r .agl) (ho : ∀ g (j : Fin 15), b g ≤ j.val → ord (.agl, i) < ord (g, j)) :
    iprop(recs I K ∗ at_ c b e r) ⊢ iprop(((at_ c b e r' ∗ hasO I c n fullShare) -∗ runs c (k ⟨⟩) Q) -∗ runs c (recvT c (.agl, i) >>= k) Q) := by
  subst hn; rw [← agl_dst]; exact recv_at I K c .agl i hr hi ho
theorem recv_rsr (hr : More .rsr r r') (hi : i.val = r .rsr) (ho : ∀ g (j : Fin 15), b g ≤ j.val → ord (.rsr, i) < ord (g, j)) :
    iprop(recs I K ∗ at_ c b e r)
      ⊢ iprop(((at_ c b e r' ∗ has c (slotOf rsrM i) fullShare (sumR I i.val (lft c))) -∗ runs c (k ⟨⟩) Q) -∗ runs c (recvT c (.rsr, i) >>= k) Q) :=
  recv_at I K c .rsr i hr hi ho
theorem recv_rsl (hr : More .rsl r r') (hi : i.val = r .rsl) (ho : ∀ g (j : Fin 15), b g ≤ j.val → ord (.rsl, i) < ord (g, j)) :
    iprop(recs I K ∗ at_ c b e r)
      ⊢ iprop(((at_ c b e r' ∗ has c (slotOf rslM i) fullShare (sumL I i.val (rgt c))) -∗ runs c (k ⟨⟩) Q) -∗ runs c (recvT c (.rsl, i) >>= k) Q) :=
  recv_at I K c .rsl i hr hi ho

end Families

/-- Receive a sum that travels to the right and add this device's share: the next sum is there. -/
theorem take_rsr {k : PUnit → Prog (TpuEff nD τ sig (Elt F) Λ₀ .tc) α} {b e r r' : Fam → ℕ} (i : Fin 15) (v : FVec F S128x512 .f32) (hv : v = payR I (i.val + 2) c)
    (hr : More .rsr r r') (hi : i.val = r .rsr) (ho : ∀ g (j : Fin 15), b g ≤ j.val → ord (.rsr, i) < ord (g, j)) :
    iprop(recs I K ∗ at_ c b e r)
      ⊢ iprop(((at_ c b e r' ∗ has c (slotOf rsrM i) fullShare (sumR I (i.val + 1) c)) -∗ runs c (k ⟨⟩) Q)
          -∗ runs c (recvT c (.rsr, i) >>= fun _ => addRT i v >>= k) Q) := by
  subst hv
  iintro ⟨#HR, Hat⟩ Hk
  iapply (recv_rsr I K c i hr hi ho) $$ [Hat]
  · isplitr; · iexact HR
    iexact Hat
  iintro ⟨Hat, Hs⟩
  iapply (add_at c cc0_scratch2 rsrM (Memref.isWhole_whole _) i _ _) $$ Hs
  iintro Hs
  iapply Hk
  isplitl [Hat]; · iexact Hat
  iexact Hs

/-- The same to the left. -/
theorem take_rsl {k : PUnit → Prog (TpuEff nD τ sig (Elt F) Λ₀ .tc) α} {b e r r' : Fam → ℕ} (i : Fin 15) (v : FVec F S128x512 .f32) (hv : v = payL I (i.val + 2) c)
    (hr : More .rsl r r') (hi : i.val = r .rsl) (ho : ∀ g (j : Fin 15), b g ≤ j.val → ord (.rsl, i) < ord (g, j)) :
    iprop(recs I K ∗ at_ c b e r)
      ⊢ iprop(((at_ c b e r' ∗ has c (slotOf rslM i) fullShare (sumL I (i.val + 1) c)) -∗ runs c (k ⟨⟩) Q)
          -∗ runs c (recvT c (.rsl, i) >>= fun _ => addLT i v >>= k) Q) := by
  subst hv
  iintro ⟨#HR, Hat⟩ Hk
  iapply (recv_rsl I K c i hr hi ho) $$ [Hat]
  · isplitr; · iexact HR
    iexact Hat
  iintro ⟨Hat, Hs⟩
  iapply (add_at c cc0_scratch3 rslM (Memref.isWhole_whole _) i _ _) $$ Hs
  iintro Hs
  iapply Hk
  isplitl [Hat]; · iexact Hat
  iexact Hs

/-! ## The hops -/

variable {k : PUnit → Prog (TpuEff nD τ sig (Elt F) Λ₀ .tc) α}

/-- What is known everywhere in a device's run: after hop `h` it has the sequences of the first `h + 1` places. -/
abbrev oldSeq (j : Fin 16) : PP F := iprop(held c (seqE c xgM j.val) ∗ held c (seqO c xgM j.val))
/-- The places that its sums were sent from. -/
abbrev oldSum (j : Fin 15) : PP F := iprop(held c (srcM c (.rsr, j)) ∗ held c (srcM c (.rsl, j)))

theorem split_share {s : Shape} (M : Memref sig .tc .vmem s .bf16) (v : s.Idx → Elt F .bf16) :
    (has c M fullShare v : PP F) ⊢ iprop(has c M fullShare.left v ∗ has c M fullShare.right v) := (owns_halves _ _ _ _).1
theorem join_share {s : Shape} (M : Memref sig .tc .vmem s .bf16) (v : s.Idx → Elt F .bf16) :
    iprop(has c M fullShare.left v ∗ has c M fullShare.right v) ⊢ (has c M fullShare v : PP F) := (owns_halves _ _ _ _).2

theorem join_held {s : Shape} (M : Memref sig .tc .vmem s .bf16) (v : s.Idx → Elt F .bf16) :
    iprop(has c M fullShare.left v ∗ has c M fullShare.right v) ⊢ (held c M : PP F) := (join_share c M v).trans (held_of_has c M v)

/-- The first hop. -/
theorem hop0_at :
    iprop(recs I K ∗ at_ c (cnt 0 0 0 0) (cnt 0 0 0 0) (cnt 0 0 0 0) ∗ hasE I c 0 fullShare ∗ hasO I c 0 fullShare
        ∗ held c (seqE c partM 0) ∗ held c (seqO c partM 0))
      ⊢ iprop(((at_ c (cnt 1 1 0 0) (cnt 1 1 0 0) (cnt 0 0 0 0) ∗ oldSeq c 0
            ∗ has c (seqE c partM 0) fullShare (narrow (firstOf (prodOf I 0 c))) ∗ has c (seqO c partM 0) fullShare (narrow (secondOf (prodOf I 0 c)))) -∗ runs c (k ⟨⟩) Q)
          -∗ runs c (hop0 (I c).wq (I c).wk (I c).wv (I c).wo c >>= k) Q) := by
  unfold hop0
  simp only [Prog.bind_assoc]
  iintro ⟨#HR, Hat, HE, HO, HpE, HpO⟩ Hk
  ihave HE' := (split_share c (seqE c xgM 0) _) $$ HE
  icases HE' with ⟨HEl, HEr⟩
  ihave HO' := (split_share c (seqO c xgM 0) _) $$ HO
  icases HO' with ⟨HOl, HOr⟩
  iapply (send_agr I K c 0 (b := cnt 0 0 0 0) (e := cnt 0 0 0 0) (b' := cnt 1 0 0 0) (by intro g; cases g <;> rfl) rfl (Nat.le_refl _)) $$ [Hat HEl]
  · isplitr; · iexact HR
    isplitl [Hat]; · iexact Hat
    iexact HEl
  iintro Hat
  iapply (send_agl I K c 0 (b := cnt 1 0 0 0) (e := cnt 0 0 0 0) (b' := cnt 1 1 0 0) (by intro g; cases g <;> rfl) rfl (Nat.le_refl _)) $$ [Hat HOl]
  · isplitr; · iexact HR
    isplitl [Hat]; · iexact Hat
    iexact HOl
  iintro Hat
  iapply (compute_at c _ _ _ _ 0 fullShare.right fullShare.right (I (lftN 0 c)).xe (I (rgtN 0 c)).xo) $$ [HEr HOr]
  · isplitl [HEr]; · iexact HEr
    iexact HOr
  iintro ⟨HEr, HOr⟩
  iapply (keep_at c 0 (prodOf I 0 c)) $$ [HpE HpO]
  · isplitl [HpE]; · iexact HpE
    iexact HpO
  iintro ⟨HpE, HpO⟩
  iapply (sent_agr I K c 0 (b := cnt 1 1 0 0) (e := cnt 0 0 0 0) (e' := cnt 1 0 0 0) (by intro g; cases g <;> rfl) rfl Nat.one_pos) $$ [Hat]
  · isplitr; · iexact HR
    iexact Hat
  iintro ⟨Hat, HEl⟩
  iapply (sent_agl I K c 0 (b := cnt 1 1 0 0) (e := cnt 1 0 0 0) (e' := cnt 1 1 0 0) (by intro g; cases g <;> rfl) rfl Nat.one_pos) $$ [Hat]
  · isplitr; · iexact HR
    iexact Hat
  iintro ⟨Hat, HOl⟩
  iapply Hk
  isplitl [Hat]; · iexact Hat
  isplitl [HEl HEr HOl HOr]
  · isplitl [HEl HEr]
    · iapply (join_held c (seqE c xgM 0) _); isplitl [HEl]; · iexact HEl
      iexact HEr
    · iapply (join_held c (seqO c xgM 0) _); isplitl [HOl]; · iexact HOl
      iexact HOr
  isplitl [HpE]; · iexact HpE
  iexact HpO

/-- The second hop. -/
theorem hop1_at :
    iprop(recs I K ∗ at_ c (cnt 1 1 0 0) (cnt 1 1 0 0) (cnt 0 0 0 0) ∗ held c (seqE c partM 1) ∗ held c (seqO c partM 1))
      ⊢ iprop(((at_ c (cnt 2 2 0 0) (cnt 2 2 0 0) (cnt 1 1 0 0) ∗ oldSeq c 1 ∗ sumE I c 0 ∗ sumO I c 0) -∗ runs c (k ⟨⟩) Q)
          -∗ runs c (hop1 (I c).wq (I c).wk (I c).wv (I c).wo c >>= k) Q) := by
  unfold hop1
  simp only [Prog.bind_assoc]
  iintro ⟨#HR, Hat, HpE, HpO⟩ Hk
  iapply (recv_agr I K c 0 1 rfl (b := cnt 1 1 0 0) (r := cnt 0 0 0 0) (r' := cnt 1 0 0 0) (by intro g; cases g <;> rfl) rfl (by intro g j h; cases g <;> simp only [cnt, ord] at h ⊢ <;> omega)) $$ [Hat]
  · isplitr; · iexact HR
    iexact Hat
  iintro ⟨Hat, HE⟩
  ihave H' := (split_share c (seqE c xgM 1) _) $$ HE
  icases H' with ⟨HEl, HEr⟩
  iapply (send_agr I K c 1 (b := cnt 1 1 0 0) (b' := cnt 2 1 0 0) (e := cnt 1 1 0 0) (by intro g; cases g <;> rfl) rfl (Nat.le_refl _)) $$ [Hat HEl]
  · isplitr; · iexact HR
    isplitl [Hat]; · iexact Hat
    iexact HEl
  iintro Hat
  iapply (recv_agl I K c 0 1 rfl (b := cnt 2 1 0 0) (r := cnt 1 0 0 0) (r' := cnt 1 1 0 0) (by intro g; cases g <;> rfl) rfl (by intro g j h; cases g <;> simp only [cnt, ord] at h ⊢ <;> omega)) $$ [Hat]
  · isplitr; · iexact HR
    iexact Hat
  iintro ⟨Hat, HO⟩
  ihave H' := (split_share c (seqO c xgM 1) _) $$ HO
  icases H' with ⟨HOl, HOr⟩
  iapply (send_agl I K c 1 (b := cnt 2 1 0 0) (b' := cnt 2 2 0 0) (e := cnt 1 1 0 0) (by intro g; cases g <;> rfl) rfl (Nat.le_refl _)) $$ [Hat HOl]
  · isplitr; · iexact HR
    isplitl [Hat]; · iexact Hat
    iexact HOl
  iintro Hat
  iapply (compute_at c _ _ _ _ 1 fullShare.right fullShare.right (I (lftN 1 c)).xe (I (rgtN 1 c)).xo) $$ [HEr HOr]
  · isplitl [HEr]; · iexact HEr
    iexact HOr
  iintro ⟨HEr, HOr⟩
  iapply (keep_at c 1 (prodOf I 1 c)) $$ [HpE HpO]
  · isplitl [HpE]; · iexact HpE
    iexact HpO
  iintro ⟨HpE, HpO⟩
  iapply (sent_agr I K c 1 (b := cnt 2 2 0 0) (e := cnt 1 1 0 0) (e' := cnt 2 1 0 0) (by intro g; cases g <;> rfl) rfl (Nat.lt_succ_self _)) $$ [Hat]
  · isplitr; · iexact HR
    iexact Hat
  iintro ⟨Hat, HEl⟩
  iapply (sent_agl I K c 1 (b := cnt 2 2 0 0) (e := cnt 2 1 0 0) (e' := cnt 2 2 0 0) (by intro g; cases g <;> rfl) rfl (Nat.lt_succ_self _)) $$ [Hat]
  · isplitr; · iexact HR
    iexact Hat
  iintro ⟨Hat, HOl⟩
  iapply Hk
  isplitl [Hat]; · iexact Hat
  isplitl [HEl HEr HOl HOr]
  · isplitl [HEl HEr]
    · iapply (join_held c (seqE c xgM 1) _); isplitl [HEl]; · iexact HEl
      iexact HEr
    · iapply (join_held c (seqO c xgM 1) _); isplitl [HOl]; · iexact HOl
      iexact HOr
  isplitl [HpE]
  · have eE : (has c (seqE c partM (1 : Fin 16).val) fullShare (narrow (firstOf (prodOf I 1 c))) : PP F) ⊢ sumE I c 0 :=
      Entails.of_eq (has_eq c (blkL_eq partM c 1).symm fullShare (narrow (firstOf (prodOf I 1 c))))
    iapply eE $$ HpE
  have eO : (has c (seqO c partM (1 : Fin 16).val) fullShare (narrow (secondOf (prodOf I 1 c))) : PP F) ⊢ sumO I c 0 :=
    Entails.of_eq (has_eq c (blkR_eq partM c 1).symm fullShare (narrow (secondOf (prodOf I 1 c))))
  iapply eO $$ HpO

/-- A later hop. -/
theorem hopMid_at (t : ℕ) (ht : t < 13) :
    iprop(recs I K ∗ at_ c (cnt (t + 2) (t + 2) t t) (cnt (t + 2) (t + 2) t t) (cnt (t + 1) (t + 1) t t) ∗ sumE I c ⟨t, by omega⟩ ∗ sumO I c ⟨t, by omega⟩)
      ⊢ iprop(((at_ c (cnt (t + 3) (t + 3) (t + 1) (t + 1)) (cnt (t + 3) (t + 3) (t + 1) (t + 1)) (cnt (t + 2) (t + 2) (t + 1) (t + 1)) ∗ oldSeq c ⟨t + 2, by omega⟩ ∗ oldSum c ⟨t, by omega⟩
            ∗ sumE I c ⟨t + 1, by omega⟩ ∗ sumO I c ⟨t + 1, by omega⟩) -∗ runs c (k ⟨⟩) Q)
          -∗ runs c (hopMid (I c).wq (I c).wk (I c).wv (I c).wo c t ht >>= k) Q) := by
  have t0 : t < 15 := by omega
  have t1 : t + 1 < 15 := by omega
  have t2 : t + 2 < 15 := by omega
  have t3 : t + 2 < 16 := by omega
  unfold hopMid
  simp only [Prog.bind_assoc]
  iintro ⟨#HR, Hat, HsE, HsO⟩ Hk
  iapply (recv_agr I K c ⟨t + 1, t1⟩ (t + 2) rfl (b := cnt (t + 2) (t + 2) t t) (r := cnt (t + 1) (t + 1) t t) (r' := cnt (t + 2) (t + 1) t t) (by intro g; cases g <;> rfl) rfl (by intro g j h; cases g <;> simp only [cnt, ord] at h ⊢ <;> omega)) $$ [Hat]
  · isplitr; · iexact HR
    iexact Hat
  iintro ⟨Hat, HE⟩
  ihave H' := (split_share c (seqE c xgM (t + 2)) _) $$ HE
  icases H' with ⟨HEl, HEr⟩
  iapply (send_agr I K c ⟨t + 2, t2⟩ (b := cnt (t + 2) (t + 2) t t) (b' := cnt (t + 3) (t + 2) t t) (e := cnt (t + 2) (t + 2) t t) (by intro g; cases g <;> rfl) rfl (Nat.le_refl _)) $$ [Hat HEl]
  · isplitr; · iexact HR
    isplitl [Hat]; · iexact Hat
    iexact HEl
  iintro Hat
  iapply (recv_agl I K c ⟨t + 1, t1⟩ (t + 2) rfl (b := cnt (t + 3) (t + 2) t t) (r := cnt (t + 2) (t + 1) t t) (r' := cnt (t + 2) (t + 2) t t) (by intro g; cases g <;> rfl) rfl (by intro g j h; cases g <;> simp only [cnt, ord] at h ⊢ <;> omega)) $$ [Hat]
  · isplitr; · iexact HR
    iexact Hat
  iintro ⟨Hat, HO⟩
  ihave H' := (split_share c (seqO c xgM (t + 2)) _) $$ HO
  icases H' with ⟨HOl, HOr⟩
  iapply (send_agl I K c ⟨t + 2, t2⟩ (b := cnt (t + 3) (t + 2) t t) (b' := cnt (t + 3) (t + 3) t t) (e := cnt (t + 2) (t + 2) t t) (by intro g; cases g <;> rfl) rfl (Nat.le_refl _)) $$ [Hat HOl]
  · isplitr; · iexact HR
    isplitl [Hat]; · iexact Hat
    iexact HOl
  iintro Hat
  iapply (send_rsr I K c ⟨t, t0⟩ (b := cnt (t + 3) (t + 3) t t) (b' := cnt (t + 3) (t + 3) (t + 1) t) (e := cnt (t + 2) (t + 2) t t) (by intro g; cases g <;> rfl) rfl (Nat.le_refl _)) $$ [Hat HsE]
  · isplitr; · iexact HR
    isplitl [Hat]; · iexact Hat
    iexact HsE
  iintro Hat
  iapply (send_rsl I K c ⟨t, t0⟩ (b := cnt (t + 3) (t + 3) (t + 1) t) (b' := cnt (t + 3) (t + 3) (t + 1) (t + 1)) (e := cnt (t + 2) (t + 2) t t) (by intro g; cases g <;> rfl) rfl (Nat.le_refl _)) $$ [Hat HsO]
  · isplitr; · iexact HR
    isplitl [Hat]; · iexact Hat
    iexact HsO
  iintro Hat
  iapply (compute_at c _ _ _ _ ⟨t + 2, t3⟩ fullShare.right fullShare.right (I (lftN (t + 2) c)).xe (I (rgtN (t + 2) c)).xo) $$ [HEr HOr]
  · isplitl [HEr]; · iexact HEr
    iexact HOr
  iintro ⟨HEr, HOr⟩
  iapply (take_rsr I K c ⟨t, t0⟩ (firstOf (prodOf I (t + 2) c)) (if_pos t3).symm (b := cnt (t + 3) (t + 3) (t + 1) (t + 1)) (r := cnt (t + 2) (t + 2) t t) (r' := cnt (t + 2) (t + 2) (t + 1) t) (by intro g; cases g <;> rfl) rfl (by intro g j h; cases g <;> simp only [cnt, ord] at h ⊢ <;> omega)) $$ [Hat]
  · isplitr; · iexact HR
    iexact Hat
  iintro ⟨Hat, HnE⟩
  iapply (take_rsl I K c ⟨t, t0⟩ (secondOf (prodOf I (t + 2) c)) (if_pos t3).symm (b := cnt (t + 3) (t + 3) (t + 1) (t + 1)) (r := cnt (t + 2) (t + 2) (t + 1) t) (r' := cnt (t + 2) (t + 2) (t + 1) (t + 1)) (by intro g; cases g <;> rfl) rfl (by intro g j h; cases g <;> simp only [cnt, ord] at h ⊢ <;> omega)) $$ [Hat]
  · isplitr; · iexact HR
    iexact Hat
  iintro ⟨Hat, HnO⟩
  iapply (sent_agr I K c ⟨t + 2, t2⟩ (b := cnt (t + 3) (t + 3) (t + 1) (t + 1)) (e := cnt (t + 2) (t + 2) t t) (e' := cnt (t + 3) (t + 2) t t) (by intro g; cases g <;> rfl) rfl (Nat.lt_succ_self _)) $$ [Hat]
  · isplitr; · iexact HR
    iexact Hat
  iintro ⟨Hat, HEl⟩
  iapply (sent_agl I K c ⟨t + 2, t2⟩ (b := cnt (t + 3) (t + 3) (t + 1) (t + 1)) (e := cnt (t + 3) (t + 2) t t) (e' := cnt (t + 3) (t + 3) t t) (by intro g; cases g <;> rfl) rfl (Nat.lt_succ_self _)) $$ [Hat]
  · isplitr; · iexact HR
    iexact Hat
  iintro ⟨Hat, HOl⟩
  iapply (sent_rsr I K c ⟨t, t0⟩ (b := cnt (t + 3) (t + 3) (t + 1) (t + 1)) (e := cnt (t + 3) (t + 3) t t) (e' := cnt (t + 3) (t + 3) (t + 1) t) (by intro g; cases g <;> rfl) rfl (Nat.lt_succ_self _)) $$ [Hat]
  · isplitr; · iexact HR
    iexact Hat
  iintro ⟨Hat, HsE⟩
  iapply (sent_rsl I K c ⟨t, t0⟩ (b := cnt (t + 3) (t + 3) (t + 1) (t + 1)) (e := cnt (t + 3) (t + 3) (t + 1) t) (e' := cnt (t + 3) (t + 3) (t + 1) (t + 1)) (by intro g; cases g <;> rfl) rfl (Nat.lt_succ_self _)) $$ [Hat]
  · isplitr; · iexact HR
    iexact Hat
  iintro ⟨Hat, HsO⟩
  iapply Hk
  isplitl [Hat]; · iexact Hat
  isplitl [HEl HEr HOl HOr]
  · isplitl [HEl HEr]
    · iapply (join_held c (seqE c xgM (t + 2)) _); isplitl [HEl]; · iexact HEl
      iexact HEr
    · iapply (join_held c (seqO c xgM (t + 2)) _); isplitl [HOl]; · iexact HOl
      iexact HOr
  isplitl [HsE HsO]
  · isplitl [HsE]
    · iapply (held_of_has c _ _) $$ HsE
    · iapply (held_of_has c _ _) $$ HsO
  isplitl [HnE]; · iexact HnE
  iexact HnO

/-- The state before the hop number `t + 2`. -/
abbrev before (t : ℕ) (ht : t < 14) : PP F :=
  iprop(at_ c (cnt (t + 2) (t + 2) t t) (cnt (t + 2) (t + 2) t t) (cnt (t + 1) (t + 1) t t) ∗ upTo (t + 2) (oldSeq (F := F) c) ∗ upTo t (oldSum (F := F) c)
    ∗ sumE I c ⟨t, by omega⟩ ∗ sumO I c ⟨t, by omega⟩)

/-- The hops from number `n + 2` on. -/
theorem hopsFrom_at : ∀ (m n : ℕ) (h : n + m ≤ 13),
    iprop(recs I K ∗ before I c n (by omega))
      ⊢ iprop((before I c (n + m) (by omega) -∗ runs c (k ⟨⟩) Q) -∗ runs c (hopsFrom (I c).wq (I c).wk (I c).wv (I c).wo c n m h >>= k) Q)
  | 0, n, h => by
    unfold hopsFrom
    simp only [Prog.pure_eq_ret, Prog.bind_ret]
    iintro ⟨#HR, H⟩ Hk
    iapply Hk; iexact H
  | m + 1, n, h => by
    unfold hopsFrom
    simp only [Prog.bind_assoc]
    have hn : n < 13 := by omega
    have hm : n + 1 + m ≤ 13 := by omega
    iintro ⟨#HR, Hat, Hseq, Hsum, HsE, HsO⟩ Hk
    iapply (hopMid_at I K c n hn) $$ [Hat HsE HsO]
    · isplitr; · iexact HR
      isplitl [Hat]; · iexact Hat
      isplitl [HsE]; · iexact HsE
      iexact HsO
    iintro ⟨Hat, Hq, Hs, HsE, HsO⟩
    iapply (hopsFrom_at m (n + 1) hm) $$ [Hat Hseq Hsum Hq Hs HsE HsO]
    · isplitr; · iexact HR
      isplitl [Hat]; · iexact Hat
      isplitl [Hseq Hq]
      · rw [show upTo (n + 1 + 2) (oldSeq (F := F) c) = _ from upTo_succ (⟨n + 2, by omega⟩ : Fin 16) (oldSeq (F := F) c)]
        isplitl [Hq]; · iexact Hq
        iexact Hseq
      isplitl [Hsum Hs]
      · rw [show upTo (n + 1) (oldSum (F := F) c) = _ from upTo_succ (⟨n, by omega⟩ : Fin 15) (oldSum (F := F) c)]
        isplitl [Hs]; · iexact Hs
        iexact Hsum
      isplitl [HsE]; · iexact HsE
      iexact HsO
    iintro H
    iapply Hk
    have h1 : n + 1 + m < 14 := by omega
    have h2 : n + (m + 1) < 14 := by omega
    have e : ∀ {a b : ℕ} (hab : a = b) (ha : a < 14) (hb : b < 14), before I c a ha ⊢ before I c b hb := by
      intro a b hab ha hb; subst hab; exact Entails.rfl
    iapply (e (show n + 1 + m = n + (m + 1) by omega) h1 h2) $$ H

/-- The hop at which the last sequences have arrived. -/
theorem hop15_at :
    iprop(recs I K ∗ at_ c (cnt 15 15 13 13) (cnt 15 15 13 13) (cnt 14 14 13 13) ∗ sumE I c 13 ∗ sumO I c 13)
      ⊢ iprop(((at_ c (cnt 15 15 14 14) (cnt 15 15 14 14) (cnt 15 15 14 14) ∗ oldSeq c 15 ∗ oldSum c 13 ∗ sumE I c 14 ∗ sumO I c 14) -∗ runs c (k ⟨⟩) Q)
          -∗ runs c (hop15 (I c).wq (I c).wk (I c).wv (I c).wo c >>= k) Q) := by
  unfold hop15
  simp only [Prog.bind_assoc]
  iintro ⟨#HR, Hat, HsE, HsO⟩ Hk
  iapply (recv_agr I K c 14 15 rfl (b := cnt 15 15 13 13) (r := cnt 14 14 13 13) (r' := cnt 15 14 13 13) (by intro g; cases g <;> rfl) rfl (by intro g j h; cases g <;> simp only [cnt, ord] at h ⊢ <;> omega)) $$ [Hat]
  · isplitr; · iexact HR
    iexact Hat
  iintro ⟨Hat, HEr⟩
  iapply (recv_agl I K c 14 15 rfl (b := cnt 15 15 13 13) (r := cnt 15 14 13 13) (r' := cnt 15 15 13 13) (by intro g; cases g <;> rfl) rfl (by intro g j h; cases g <;> simp only [cnt, ord] at h ⊢ <;> omega)) $$ [Hat]
  · isplitr; · iexact HR
    iexact Hat
  iintro ⟨Hat, HOr⟩
  iapply (send_rsr I K c 13 (b := cnt 15 15 13 13) (b' := cnt 15 15 14 13) (e := cnt 15 15 13 13) (by intro g; cases g <;> rfl) rfl (Nat.le_refl _)) $$ [Hat HsE]
  · isplitr; · iexact HR
    isplitl [Hat]; · iexact Hat
    iexact HsE
  iintro Hat
  iapply (send_rsl I K c 13 (b := cnt 15 15 14 13) (b' := cnt 15 15 14 14) (e := cnt 15 15 13 13) (by intro g; cases g <;> rfl) rfl (Nat.le_refl _)) $$ [Hat HsO]
  · isplitr; · iexact HR
    isplitl [Hat]; · iexact Hat
    iexact HsO
  iintro Hat
  iapply (compute_at c _ _ _ _ 15 fullShare fullShare (I (lftN 15 c)).xe (I (rgtN 15 c)).xo) $$ [HEr HOr]
  · isplitl [HEr]; · iexact HEr
    iexact HOr
  iintro ⟨HEr, HOr⟩
  iapply (take_rsr I K c 13 (firstOf (prodOf I 15 c)) (if_pos (show 15 < 16 by decide)).symm (b := cnt 15 15 14 14) (r := cnt 15 15 13 13) (r' := cnt 15 15 14 13) (by intro g; cases g <;> rfl) rfl (by intro g j h; cases g <;> simp only [cnt, ord] at h ⊢ <;> omega)) $$ [Hat]
  · isplitr; · iexact HR
    iexact Hat
  iintro ⟨Hat, HnE⟩
  iapply (take_rsl I K c 13 (secondOf (prodOf I 15 c)) (if_pos (show 15 < 16 by decide)).symm (b := cnt 15 15 14 14) (r := cnt 15 15 14 13) (r' := cnt 15 15 14 14) (by intro g; cases g <;> rfl) rfl (by intro g j h; cases g <;> simp only [cnt, ord] at h ⊢ <;> omega)) $$ [Hat]
  · isplitr; · iexact HR
    iexact Hat
  iintro ⟨Hat, HnO⟩
  iapply (sent_rsr I K c 13 (b := cnt 15 15 14 14) (e := cnt 15 15 13 13) (e' := cnt 15 15 14 13) (by intro g; cases g <;> rfl) rfl (Nat.lt_succ_self _)) $$ [Hat]
  · isplitr; · iexact HR
    iexact Hat
  iintro ⟨Hat, HsE⟩
  iapply (sent_rsl I K c 13 (b := cnt 15 15 14 14) (e := cnt 15 15 14 13) (e' := cnt 15 15 14 14) (by intro g; cases g <;> rfl) rfl (Nat.lt_succ_self _)) $$ [Hat]
  · isplitr; · iexact HR
    iexact Hat
  iintro ⟨Hat, HsO⟩
  iapply Hk
  isplitl [Hat]; · iexact Hat
  isplitl [HEr HOr]
  · isplitl [HEr]
    · iapply (held_of_has c _ _) $$ HEr
    · iapply (held_of_has c _ _) $$ HOr
  isplitl [HsE HsO]
  · isplitl [HsE]
    · iapply (held_of_has c _ _) $$ HsE
    · iapply (held_of_has c _ _) $$ HsO
  isplitl [HnE]; · iexact HnE
  iexact HnO

/-- The last hop: each sum comes home. -/
theorem hop16_at :
    iprop(recs I K ∗ at_ c (cnt 15 15 14 14) (cnt 15 15 14 14) (cnt 15 15 14 14) ∗ has c (seqE c partM 0) fullShare (narrow (firstOf (prodOf I 0 c)))
        ∗ has c (seqO c partM 0) fullShare (narrow (secondOf (prodOf I 0 c))) ∗ sumE I c 14 ∗ sumO I c 14)
      ⊢ iprop(((at_ c (cnt 15 15 15 15) (cnt 15 15 15 15) (cnt 15 15 15 15) ∗ (held c (seqE c partM 0) ∗ held c (seqO c partM 0)) ∗ oldSum c 14
            ∗ has c (slotOf rsrM 14) fullShare (sumR I 15 c) ∗ has c (slotOf rslM 14) fullShare (sumL I 15 c)) -∗ runs c (k ⟨⟩) Q)
          -∗ runs c (hop16 c >>= k) Q) := by
  show iprop(_ ∗ _ ∗ has c (blk partM (c, false)) fullShare _ ∗ has c (blk partM (c, true)) fullShare _ ∗ _)
    ⊢ iprop(((_ ∗ (held c (blk partM (c, false)) ∗ held c (blk partM (c, true))) ∗ _) -∗ _) -∗ _)
  rw [← slice1_eq partM c, ← slice2_eq partM c]
  unfold hop16
  simp only [Prog.bind_assoc]
  iintro ⟨#HR, Hat, HpE, HpO, HsE, HsO⟩ Hk
  iapply (send_rsr I K c 14 (b := cnt 15 15 14 14) (b' := cnt 15 15 15 14) (e := cnt 15 15 14 14) (by intro g; cases g <;> rfl) rfl (Nat.le_refl _)) $$ [Hat HsE]
  · isplitr; · iexact HR
    isplitl [Hat]; · iexact Hat
    iexact HsE
  iintro Hat
  iapply (send_rsl I K c 14 (b := cnt 15 15 15 14) (b' := cnt 15 15 15 15) (e := cnt 15 15 14 14) (by intro g; cases g <;> rfl) rfl (Nat.le_refl _)) $$ [Hat HsO]
  · isplitr; · iexact HR
    isplitl [Hat]; · iexact Hat
    iexact HsO
  iintro Hat
  iapply (load_slice c (M := partM) (r := Rect.unit (s := S4096x512) (k0_off1 c) S128x512.size (k0_off1_inb c))) $$ HpE; iintro HpE
  iapply (load_slice c (M := partM) (r := Rect.unit (s := S4096x512) (k0_off2 c) S128x512.size (k0_off2_inb c))) $$ HpO; iintro HpO
  iapply (take_rsr I K c 14 (widen (narrow (firstOf (prodOf I 0 c)))) (if_neg (show ¬ 16 < 16 by decide)).symm (b := cnt 15 15 15 15) (r := cnt 15 15 14 14) (r' := cnt 15 15 15 14) (by intro g; cases g <;> rfl) rfl (by intro g j h; cases g <;> simp only [cnt, ord] at h ⊢ <;> omega)) $$ [Hat]
  · isplitr; · iexact HR
    iexact Hat
  iintro ⟨Hat, HnE⟩
  iapply (take_rsl I K c 14 (widen (narrow (secondOf (prodOf I 0 c)))) (if_neg (show ¬ 16 < 16 by decide)).symm (b := cnt 15 15 15 15) (r := cnt 15 15 15 14) (r' := cnt 15 15 15 15) (by intro g; cases g <;> rfl) rfl (by intro g j h; cases g <;> simp only [cnt, ord] at h ⊢ <;> omega)) $$ [Hat]
  · isplitr; · iexact HR
    iexact Hat
  iintro ⟨Hat, HnO⟩
  iapply (sent_rsr I K c 14 (b := cnt 15 15 15 15) (e := cnt 15 15 14 14) (e' := cnt 15 15 15 14) (by intro g; cases g <;> rfl) rfl (Nat.lt_succ_self _)) $$ [Hat]
  · isplitr; · iexact HR
    iexact Hat
  iintro ⟨Hat, HsE⟩
  iapply (sent_rsl I K c 14 (b := cnt 15 15 15 15) (e := cnt 15 15 15 14) (e' := cnt 15 15 15 15) (by intro g; cases g <;> rfl) rfl (Nat.lt_succ_self _)) $$ [Hat]
  · isplitr; · iexact HR
    iexact Hat
  iintro ⟨Hat, HsO⟩
  iapply Hk
  isplitl [Hat]; · iexact Hat
  isplitl [HpE HpO]
  · isplitl [HpE]
    · iapply (held_of_has c _ _) $$ HpE
    · iapply (held_of_has c _ _) $$ HpO
  isplitl [HsE HsO]
  · isplitl [HsE]
    · iapply (held_of_has c _ _) $$ HsE
    · iapply (held_of_has c _ _) $$ HsO
  isplitl [HnE]; · iexact HnE
  iexact HnO

end Hops

end Cert.KernelIdeal.Ring

end
-- ==== Proof.KernelIdeal.Start.lean ====
/-
  The beginning and the end: the barrier, and what a device gives away and gets back.
-/
module

public import proofs.«01_k».proof.Proof.KernelIdeal.Hops

@[expose] public section

set_option maxRecDepth 20000

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F] [Named F] [Facts]

local notation "𝕄" => MT nD τ sig Unit (Elt F) ℕ UU ℕ

/-! ## Numbering -/

section Number
omit [FloatOps F] [Named F] in
/-- The first one and the others. -/
theorem split_first {n : ℕ} (Φ : Fin (n + 1) → PP F) : bigSep Finset.univ Φ = iprop(Φ 0 ∗ bigSep Finset.univ fun i : Fin n => Φ i.succ) := by
  rw [Fin.univ_succ, Finset.cons_eq_insert, BI.bigSep_insert (by simp), BI.bigSep_map]; rfl
omit [FloatOps F] [Named F] in
/-- The last one and the others. -/
theorem split_last {n : ℕ} (Φ : Fin (n + 1) → PP F) : bigSep Finset.univ Φ = iprop(Φ (Fin.last n) ∗ bigSep Finset.univ fun i : Fin n => Φ i.castSucc) := by
  rw [Fin.univ_castSuccEmb, Finset.cons_eq_insert, BI.bigSep_insert (by simp), BI.bigSep_map]; rfl

omit [Facts] in
theorem seqL_bij : ∀ c : Dev nD, Function.Bijective (fun h : Fin 16 => lftN h.val c) := by decide +kernel
omit [Facts] in
theorem seqR_bij : ∀ c : Dev nD, Function.Bijective (fun h : Fin 16 => rgtN h.val c) := by decide +kernel

/-- All sequences, by their distance from device `c`. -/
theorem all_seq (c : Dev nD) (Φ : Dev nD × Bool → PP F) :
    bigSep Finset.univ Φ = iprop((bigSep Finset.univ fun h : Fin 16 => Φ (lftN h.val c, false)) ∗ (bigSep Finset.univ fun h : Fin 16 => Φ (rgtN h.val c, true))) := by
  rw [BI.bigSep_univ_prod]
  have e : ∀ d : Dev nD, (bigSep Finset.univ fun b : Bool => Φ (d, b)) = iprop(Φ (d, false) ∗ Φ (d, true)) := fun d => by
    rw [bigSep_univ_eq_bigSepL [false, true] (by decide) (by decide), bigSepL_cons_cons, bigSepL_singleton]; rfl
  rw [bigSep_congr fun d _ => e d, BI.bigSep_sep',
    BI.bigSep_univ_equiv (Equiv.ofBijective _ (seqL_bij c)) (fun d => Φ (d, false)), BI.bigSep_univ_equiv (Equiv.ofBijective _ (seqR_bij c)) (fun d => Φ (d, true))]
  rfl

/-- The embedding of one family's transfers. -/
def famEmb (f : Fam) : Fin 15 ↪ Tr := ⟨fun i => (f, i), fun i j h => (Prod.ext_iff.mp h).2⟩
omit [Facts] in
theorem right_eq : (Finset.univ.filter fun x : Tr => x.1.toRight = true) = Finset.univ.map (famEmb .agr) ∪ Finset.univ.map (famEmb .rsr) := by decide +kernel
omit [Facts] in
theorem left_eq : (Finset.univ.filter fun x : Tr => x.1.toRight = false) = Finset.univ.map (famEmb .agl) ∪ Finset.univ.map (famEmb .rsl) := by decide +kernel

theorem all_right (Φ : Tr → PP F) : bigSep (Finset.univ.filter fun x : Tr => x.1.toRight = true) Φ
    = iprop((bigSep Finset.univ fun i => Φ (.agr, i)) ∗ bigSep Finset.univ fun i => Φ (.rsr, i)) := by
  rw [right_eq, BI.bigSep_union (by decide +kernel), BI.bigSep_map, BI.bigSep_map]; rfl
theorem all_left (Φ : Tr → PP F) : bigSep (Finset.univ.filter fun x : Tr => x.1.toRight = false) Φ
    = iprop((bigSep Finset.univ fun i => Φ (.agl, i)) ∗ bigSep Finset.univ fun i => Φ (.rsl, i)) := by
  rw [left_eq, BI.bigSep_union (by decide +kernel), BI.bigSep_map, BI.bigSep_map]; rfl

theorem all_tr (Φ : Tr → PP F) : bigSep Finset.univ Φ
    = iprop((bigSep (Finset.univ.filter fun x : Tr => x.1.toRight = false) Φ) ∗ bigSep (Finset.univ.filter fun x : Tr => x.1.toRight = true) Φ) := by
  have e : (Finset.univ : Finset Tr) = (Finset.univ.filter fun x : Tr => x.1.toRight = false) ∪ Finset.univ.filter fun x : Tr => x.1.toRight = true := by decide +kernel
  exact (congrArg (fun s => bigSep s Φ) e).trans (BI.bigSep_union (by decide +kernel))

end Number

section Ends
variable (I : Dev nD → Ins F) (K : Dev nD × CI → ℕ) (c : Dev nD) {α : Type} {Q : α → PP F}

omit [FloatOps F] [Named F] in
theorem held_eq {s : Shape} {d d' : Dev nD} {M M' : Memref sig .tc .vmem s .bf16} (hd : d = d') (h : M = M') :
    held (F := F) d M = held d' M' := by subst hd h; rfl

/-! ## What a device gives its neighbours -/

/-- To the one on the left: where the sequences and the sums that come from there are written. -/
theorem give_left :
    iprop((bigSep Finset.univ fun i : Fin 15 => held c (seqE c xgM (i.val + 1))) ∗ bigSep Finset.univ fun t : Fin 15 => held c (slotOf rsrM t))
      ⊢ (barPay (lft c) true : PP F) := by
  unfold barPay
  rw [all_right]
  refine Laws.sep_mono (bigSep_mono fun i _ => ?_) (bigSep_mono fun i _ => ?_)
  · exact Entails.of_eq (held_eq (rgt_lft c) (blkL_eq xgM (lft c) i)).symm
  · exact Entails.of_eq (held_eq (rgt_lft c) rfl).symm

/-- To the one on the right. -/
theorem give_right :
    iprop((bigSep Finset.univ fun i : Fin 15 => held c (seqO c xgM (i.val + 1))) ∗ bigSep Finset.univ fun t : Fin 15 => held c (slotOf rslM t))
      ⊢ (barPay (rgt c) false : PP F) := by
  unfold barPay
  rw [all_left]
  refine Laws.sep_mono (bigSep_mono fun i _ => ?_) (bigSep_mono fun i _ => ?_)
  · exact Entails.of_eq (held_eq (lft_rgt c) (blkR_eq xgM (rgt c) i)).symm
  · exact Entails.of_eq (held_eq (lft_rgt c) rfl).symm

/-! ## The barrier -/

/-- What a device owes in the beginning: all its transfers and its neighbours a unit each. -/
def O₀ : CellTallies nD τ sig Unit := owing c (fun _ => .ready) + tallyAt (barCell (rgt c)) () 1 + tallyAt (barCell (lft c)) () 1

theorem may_bar : (recs I K : PP F) ⊢ MayWait (c : Thread nD τ) (.reg barS) () (owing c fun _ => .ready) := by
  have e : ∀ y : Tr, (fun _ => Stage.ready) y = .ready → levOf (codeOf (.reg barS)) < ord y + 2 := fun y _ => by
    rw [codeOf_bar]; show 1 < ord y + 2; omega
  iintro H
  iapply (mayWait c (.reg barS) (fun _ => .ready) e)
  iapply (recs_lev I K); iexact H

theorem barrier_at (W : Waits sig Unit) {k : PUnit → Prog (TpuEff nD τ sig (Elt F) Λ₀ .tc) α} :
    iprop(recs I K ∗ barPay (lft c) true ∗ barPay (rgt c) false ∗ dutyTok ER (barCell (lft c)) 0 true ∗ dutyTok ER (barCell (rgt c)) 0 false
        ∗ cred (tallyAt (barCell c) () 2) ∗ atPos ER (barCell c) 0 ∅ 0 ∗ owes (c : Thread nD τ) (O₀ c) W)
      ⊢ iprop(((barPay c false ∗ barPay c true ∗ semVal (barCell c) 0 ∗ ∃ W, owes (c : Thread nD τ) (owing c fun _ => .ready) W) -∗ runs c (k ⟨⟩) Q)
          -∗ runs c (barrierT c >>= k) Q) := by
  unfold barrierT
  simp only [semSignalWord, semWaitWord, Prog.lift, Prog.bind_op, Prog.bind_ret, Prog.pure_eq_ret]
  rw [leftOf_eq, rightOf_eq]
  iintro ⟨#HR, HpL, HpR, HtL, HtR, Hc, Hat, HO⟩ Hk
  iapply (Rounds.wp_signal 𝒱₀ ER (rd I) (c : Thread nD τ) none (dst := (lft c : Thread nD τ)) (κ := K (lft c, none))
      (d := true) (by rw [duties_bar]; exact Finset.mem_univ _) ((amount_bar I (lft c) true).trans (by decide)) ()
      (owing c (fun _ => .ready) + tallyAt (barCell (rgt c)) () 1) rfl) $$ [HO HtL HpL]
  · isplitr; · iapply (recs_inv I K (lft c, none)); iexact HR
    isplitl [HO]; · iexact HO
    isplitl [HtL]; · iexact HtL
    isplitl [HpL]; · rw [payload_bar]; iexact HpL
    iapply (recs_reached I K (lft c, none)); iexact HR
  iintro HO
  iapply (Rounds.wp_signal 𝒱₀ ER (rd I) (c : Thread nD τ) none (dst := (rgt c : Thread nD τ)) (κ := K (rgt c, none))
      (d := false) (by rw [duties_bar]; exact Finset.mem_univ _) ((amount_bar I (rgt c) false).trans (by decide)) ()
      (owing c (fun _ => .ready)) rfl) $$ [HO HtR HpR]
  · isplitr; · iapply (recs_inv I K (rgt c, none)); iexact HR
    isplitl [HO]; · iexact HO
    isplitl [HtR]; · iexact HtR
    isplitl [HpR]; · rw [payload_bar]; iexact HpR
    iapply (recs_reached I K (rgt c, none)); iexact HR
  iintro HO
  iapply (Rounds.wp_wait_rest_token 𝒱₀ ER (rd I) (c : Thread nD τ) none (κ := K (c, none))
      (wpE_semWait_eq 𝒱₀ (c : Thread nD τ) none Set.univ) (Set.mem_univ _) () (O := owing c fun _ => .ready) (W := W) (R := 0) (m := 0) (T := ∅)
      (by rw [expect_bar]; decide)) $$ [Hc HO Hat]
  · isplitr; · iapply (recs_inv I K (c, none)); iexact HR
    isplitl [Hc]; · iexact Hc
    isplitl [HO]; · iexact HO
    isplitr; · iapply (may_bar I K c); iexact HR
    iexact Hat
  iintro ⟨HO, Hat, -, Hpay⟩
  ihave Hp := (Entails.of_eq (rest_bar I c)) $$ Hpay
  icases Hp with ⟨H0, H1⟩
  imod (Rounds.cell_close ER (rd I) (Set.mem_univ (K (c, none))) (fun h => h) (R := 0 + 1) (duties_later I (barCell c))) $$ [Hat] with Hz
  · isplitr; · iapply (recs_inv I K (c, none)); iexact HR
    iexact Hat
  iapply Hk
  isplitl [H0]; · iexact H0
  isplitl [H1]; · iexact H1
  isplitl [Hz]; · iexact Hz
  iexists _; iexact HO

/-! ## The state at both ends -/

/-- What a device has of its own transfer and of the one into it in the beginning. -/
def hand (x : Tr) : PP F :=
  iprop((dutyTok ER (sendCell c x) 0 false ∗ dutyTok ER (recvCell (dstD c x) x) 0 false ∗ atPos ER (sendCell c x) 0 ∅ 0)
    ∗ (cred (tallyAt (recvCell c x) () N) ∗ atPos ER (recvCell c x) 0 ∅ 0))

theorem begin_at :
    iprop((bigSep Finset.univ fun x => hand c x) ∗ barPay c false ∗ barPay c true ∗ ∃ W, owes (c : Thread nD τ) (owing c fun _ => .ready) W)
      ⊢ (at_ c (cnt 0 0 0 0) (cnt 0 0 0 0) (cnt 0 0 0 0) : PP F) := by
  have e1 : stg (cnt 0 0 0 0) (cnt 0 0 0 0) = fun _ => Stage.ready := by
    funext ⟨f, i⟩; cases f <;> rfl
  have e2 : arr (cnt 0 0 0 0) = fun _ => false := by
    funext ⟨f, i⟩; cases f <;> rfl
  have e3 : ∀ x : Tr, iprop(hand c x ∗ held (dstD c x) (dstM c x)) ⊢ iprop(outSt c x .ready ∗ inSt (F := F) c x false) := fun x => by
    unfold hand outSt inSt
    iintro ⟨⟨⟨H1, H2, H3⟩, H4⟩, H5⟩
    isplitr [H4]
    · isplitl [H1]; · iexact H1
      isplitl [H2]; · iexact H2
      isplitl [H3]; · iexact H3
      iexact H5
    iexact H4
  have e4 : iprop((bigSep Finset.univ fun x => hand c x) ∗ bigSep Finset.univ fun x => held (dstD c x) (dstM c x))
      ⊢ iprop((bigSep Finset.univ fun x => outSt c x .ready) ∗ bigSep Finset.univ fun x => inSt (F := F) c x false) := by
    rw [← BI.bigSep_sep', ← BI.bigSep_sep']; exact bigSep_mono fun x _ => e3 x
  unfold at_ state
  rw [e1, e2]
  iintro ⟨H, H0, H1, HO⟩
  ihave Hd := (Entails.of_eq (all_tr (fun x => held (F := F) (dstD c x) (dstM c x))).symm) $$ [H0 H1]
  · isplitl [H0]; · unfold barPay; iexact H0
    unfold barPay; iexact H1
  ihave HH := e4 $$ [H Hd]
  · isplitl [H]; · iexact H
    iexact Hd
  icases HH with ⟨H1, H2⟩
  isplitl [H1]; · iexact H1
  isplitl [H2]; · iexact H2
  iexact HO

theorem end_at :
    (at_ c (cnt 15 15 15 15) (cnt 15 15 15 15) (cnt 15 15 15 15) : PP F)
      ⊢ iprop((bigSep Finset.univ fun x => semVal (sendCell c x) 0) ∗ (bigSep Finset.univ fun x => semVal (recvCell c x) 0) ∗ ∃ W, owes (c : Thread nD τ) 0 W) := by
  have e1 : stg (cnt 15 15 15 15) (cnt 15 15 15 15) = fun _ => Stage.done := by
    funext ⟨f, i⟩; unfold stg; cases f <;> exact if_pos i.isLt
  have e2 : arr (cnt 15 15 15 15) = fun _ => true := by
    funext ⟨f, i⟩; unfold arr; cases f <;> exact decide_eq_true i.isLt
  have e3 : owing c (fun _ => Stage.done) = 0 := by
    unfold owing; rw [Finset.filter_false_of_mem (fun _ _ => nofun)]; rfl
  unfold at_ state
  rw [e1, e2, e3]
  exact Entails.refl _

end Ends

end Cert.KernelIdeal.Ring

end
-- ==== Proof.KernelIdeal.Body.lean ====
/-
  The body of the kernel on one device, from what it is given to what it leaves.
-/
module

public import proofs.«01_k».proof.Proof.KernelIdeal.Start

@[expose] public section

set_option maxRecDepth 20000

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F] [Named F] [Facts]

local notation "𝕄" => MT nD τ sig Unit (Elt F) ℕ UU ℕ

/-! ## A part of a place -/

section Part
variable {α : Type} (c : Dev nD) {Q : α → PP F}

theorem load_part {cs : CoreSpace} {s : Shape} {e : EltTy} {M : Memref sig .tc cs s e} {r : Rect s} {hl : M.view.LoadsAt r.toLoadRect}
    {q : PosShare TreeShare} {v : s.Idx → Elt F e} {k : (r.shape.Idx → Elt F e) → Prog (TpuEff nD τ sig (Elt F) Λ₀ .tc) α} :
    (has c M q v : PP F) ⊢ iprop((has c M q v -∗ runs c (k fun j => v (r.emb j)) Q) -∗ runs c (Prog.lift (.load M r.toLoadRect hl) >>= k) Q) := by
  simp only [Prog.lift, Prog.bind_op, Prog.bind_ret]
  unfold has owns
  iintro ⟨%f, %hf, H⟩ Hk
  iapply (wp_load_rect 𝒱₀ (c : Thread nD τ) none Set.univ (m := M) (r := r) (S := M.view.set) (View.set_slice_subset _ _)) $$ H
  iintro H
  rw [show (M.access r).read (Elt F) f = fun j => v (r.emb j) from by rw [← hf]; rfl]
  iapply Hk
  iexists f; isplitr; · ipureintro; exact hf
  iexact H

theorem store_part {cs : CoreSpace} {s : Shape} {e : EltTy} {M : Memref sig .tc cs s e} {r : Rect s}
    {w : r.shape.Idx → Elt F e} {hx : (M.access r).Stores Finset.univ} {hm : (Finset.univ : Finset r.shape.Idx) = Finset.univ ∨ ∀ a, r.stride a = 1}
    {v : s.Idx → Elt F e} {k : PUnit → Prog (TpuEff nD τ sig (Elt F) Λ₀ .tc) α} :
    (has c M fullShare v : PP F)
      ⊢ iprop((∀ v' : s.Idx → Elt F e, ⌜(∀ j, v' (r.emb j) = w j) ∧ ∀ i, i ∉ r.set → v' i = v i⌝ -∗ has c M fullShare v' -∗ runs c (k ⟨⟩) Q)
          -∗ runs c (Prog.lift (.store M r w Finset.univ hx hm) >>= k) Q) := by
  simp only [Prog.lift, Prog.bind_op, Prog.bind_ret]
  unfold has owns
  iintro ⟨%f, %hf, H⟩ Hk
  iapply (wp_store 𝒱₀ (c : Thread nD τ) none Set.univ (m := M) (r := r) (w := w) (Mk := Finset.univ) (S := M.view.set)
    ((View.setOn_subset_set _ _).trans (View.set_slice_subset _ _))) $$ H
  iintro H
  iapply Hk $$ %(M.view.read (Elt F) ((M.access r).write (Elt F) f w Finset.univ)) [] [H]
  · ipureintro
    refine ⟨fun j => View.read_slice_write_emb r f w (Finset.mem_univ j), fun i hi => ?_⟩
    rw [← hf]
    exact View.read_slice_write_of_not_mem r f w Finset.univ fun hm => by
      obtain ⟨j, -, rfl⟩ := Finset.mem_map.mp hm
      exact hi (r.toLoadRect.idx_mem j)
  iexists _; isplitr; · ipureintro; rfl
  iexact H

end Part

/-! ## What a device is given, and what it leaves -/

/-- The rectangle of a device's first sequence, -/
abbrev rowE := Rect.unit (s := S2x128x512) ![0, 0, 0] S1x128x512.size inb_S2x128x512_S1x128x512_0_0_0
/-- and of its second one. -/
abbrev rowO := Rect.unit (s := S2x128x512) ![1, 0, 0] S1x128x512.size inb_S2x128x512_S1x128x512_1_0_0
abbrev rectW := Rect.unit (s := S512x256) ![0, 0] S512x256.size inb_S512x256_S512x256_0_0
abbrev rectWo := Rect.unit (s := S256x512) ![0, 0] S256x512.size inb_S256x512_S256x512_0_0

/-- What a device computes with, of the blocks it is given. -/
def insOf (X : FVec F S2x128x512 .f32) (Wq Wk Wv : FVec F S512x256 .f32) (Wo : FVec F S256x512 .f32) : Ins F where
  xe := seqOf fun j => X (rowE.emb j)
  xo := seqOf fun j => X (rowO.emb j)
  wq := wtOf fun j => Wq (rectW.emb j)
  wk := wtOf fun j => Wk (rectW.emb j)
  wv := wtOf fun j => Wv (rectW.emb j)
  wo := woOf fun j => Wo (rectWo.emb j)

/-- A place within a row. -/
def inRow (i : S2x128x512.Idx) : S1x128x512.Idx := fun a =>
  match a with
  | ⟨0, _⟩ => ⟨0, Nat.one_pos⟩
  | ⟨1, _⟩ => ⟨(i 1).val, (i 1).isLt⟩
  | ⟨2, _⟩ => ⟨(i 2).val, (i 2).isLt⟩

/-- The two finished sums, row by row. -/
def outOf (a b : FVec F S128x512 .bf16) : FVec F S2x128x512 .f32 := fun i =>
  shapeCast S1x128x512 (widen (if (i 0).val = 0 then a else b)) shapeCasts_S128x512_S1x128x512 (inRow i)

theorem emb_rowE (i : S2x128x512.Idx) (h : (i 0).val = 0) : rowE.emb (inRow i) = i := by
  funext a
  apply Fin.ext
  rw [Rect.emb_apply]
  match a with
  | ⟨0, _⟩ => show 0 + 1 * 0 = (i 0).val; omega
  | ⟨1, _⟩ => show 0 + 1 * (i 1).val = (i 1).val; omega
  | ⟨2, _⟩ => show 0 + 1 * (i 2).val = (i 2).val; omega

theorem emb_rowO (i : S2x128x512.Idx) (h : (i 0).val ≠ 0) : rowO.emb (inRow i) = i := by
  have h0 : (i 0).val < 2 := (i 0).isLt
  funext a
  apply Fin.ext
  rw [Rect.emb_apply]
  match a with
  | ⟨0, _⟩ => show 1 + 1 * 0 = (i 0).val; omega
  | ⟨1, _⟩ => show 0 + 1 * (i 1).val = (i 1).val; omega
  | ⟨2, _⟩ => show 0 + 1 * (i 2).val = (i 2).val; omega

theorem not_rowO (i : S2x128x512.Idx) (h : (i 0).val = 0) : i ∉ rowO.set := by
  intro hm
  have h0 : 1 ≤ (i 0).val := ((Rect.mem_set_unit).mp hm 0).1
  omega

/-- Two rows written one after the other. -/
theorem out_eq {a b : FVec F S128x512 .bf16} {r l : FVec F S1x128x512 .bf16} {v v' : FVec F S2x128x512 .f32}
    (hr : shapeCast S128x512 r shapeCasts_S1x128x512_S128x512 = a) (hl : shapeCast S128x512 l shapeCasts_S1x128x512_S128x512 = b)
    (h : ∀ j, v (rowE.emb j) = resOf r j) (h' : ∀ j, v' (rowO.emb j) = resOf l j) (hk : ∀ i, i ∉ rowO.set → v' i = v i) : v' = outOf a b := by
  subst hr hl
  funext i
  unfold outOf
  by_cases hi : (i 0).val = 0
  · rw [if_pos hi, hk i (not_rowO i hi)]
    exact (congrArg v (emb_rowE i hi)).symm.trans (h (inRow i))
  · rw [if_neg hi]
    exact (congrArg v' (emb_rowO i hi)).symm.trans (h' (inRow i))

section Steps
variable (I : Dev nD → Ins F) (K : Dev nD × CI → ℕ) (c : Dev nD) {α : Type} {Q : α → PP F}

theorem place_at (a0 : Memref sig .tc .vmem S2x128x512 .f32) (X : FVec F S2x128x512 .f32) {k : PUnit → Prog (TpuEff nD τ sig (Elt F) Λ₀ .tc) α} :
    iprop(has c a0 fullShare X ∗ held c (seqE c xgM 0) ∗ held c (seqO c xgM 0))
      ⊢ iprop(((has c a0 fullShare X ∗ has c (seqE c xgM 0) fullShare (seqOf fun j => X (rowE.emb j)) ∗ has c (seqO c xgM 0) fullShare (seqOf fun j => X (rowO.emb j)))
          -∗ runs c (k ⟨⟩) Q) -∗ runs c (placeT a0 c >>= k) Q) := by
  show iprop(has c a0 fullShare X ∗ held c (blk xgM (c, false)) ∗ held c (blk xgM (c, true)))
      ⊢ iprop(((has c a0 fullShare X ∗ has c (blk xgM (c, false)) fullShare (seqOf fun j => X (rowE.emb j)) ∗ has c (blk xgM (c, true)) fullShare (seqOf fun j => X (rowO.emb j)))
          -∗ runs c (k ⟨⟩) Q) -∗ runs c (placeT a0 c >>= k) Q)
  rw [← slice1_eq xgM c, ← slice2_eq xgM c]
  unfold placeT held
  simp only [Prog.bind_assoc]
  iintro ⟨HX, ⟨%v, HE⟩, ⟨%w, HO⟩⟩ Hk
  iapply (load_part c (M := a0) (r := rowE)) $$ HX; iintro HX
  iapply (load_slice c (M := xgM)) $$ HE; iintro HE
  iapply (store_slice c (M := xgM)) $$ HE; iintro HE
  iapply (load_part c (M := a0) (r := rowO)) $$ HX; iintro HX
  iapply (load_slice c (M := xgM)) $$ HO; iintro HO
  iapply (store_slice c (M := xgM)) $$ HO; iintro HO
  iapply Hk
  isplitl [HX]; · iexact HX
  isplitl [HE]; · iexact HE
  iexact HO

theorem store_at (a5 : Memref sig .tc .vmem S2x128x512 .f32) (a b : FVec F S128x512 .bf16) {k : PUnit → Prog (TpuEff nD τ sig (Elt F) Λ₀ .tc) α} :
    iprop(has c (slotOf rsrM 14) fullShare a ∗ has c (slotOf rslM 14) fullShare b ∗ held c a5)
      ⊢ iprop(((has c (slotOf rsrM 14) fullShare a ∗ has c (slotOf rslM 14) fullShare b ∗ has c a5 fullShare (outOf a b)) -∗ runs c (k ⟨⟩) Q)
          -∗ runs c (storeT a5 >>= k) Q) := by
  unfold storeT held slotOf
  simp only [Prog.bind_assoc]
  iintro ⟨HR, HL, ⟨%v, H5⟩⟩ Hk
  iapply (load_squeeze c (M := rsrM) (r := rectS 14) shapeCasts_S1x128x512_S128x512) $$ HR
  iintro %r %hr HR
  iapply (load_part c (M := a5) (r := rowE)) $$ H5; iintro H5
  iapply (store_part c (M := a5) (r := rowE)) $$ H5
  iintro %v1 %h1 H5
  iapply (load_squeeze c (M := rslM) (r := rectS 14) shapeCasts_S1x128x512_S128x512) $$ HL
  iintro %l %hl HL
  iapply (load_part c (M := a5) (r := rowO)) $$ H5; iintro H5
  iapply (store_part c (M := a5) (r := rowO)) $$ H5
  iintro %v2 %h2 H5
  iapply Hk
  isplitl [HR]; · iexact HR
  isplitl [HL]; · iexact HL
  rw [← out_eq hr hl h1.1 h2.1 h2.2]; iexact H5

/-- All the hops. -/
theorem hops_at {wq wk wv : FVec F S512x256 .bf16} {wo : FVec F S256x512 .bf16} (hq : wq = (I c).wq) (hk : wk = (I c).wk) (hv : wv = (I c).wv) (ho : wo = (I c).wo)
    {k : PUnit → Prog (TpuEff nD τ sig (Elt F) Λ₀ .tc) α} :
    iprop(recs I K ∗ at_ c (cnt 0 0 0 0) (cnt 0 0 0 0) (cnt 0 0 0 0) ∗ (hasE I c 0 fullShare ∗ hasO I c 0 fullShare)
        ∗ (held c (seqE c partM 0) ∗ held c (seqO c partM 0)) ∗ (held c (seqE c partM 1) ∗ held c (seqO c partM 1)))
      ⊢ iprop(((at_ c (cnt 15 15 15 15) (cnt 15 15 15 15) (cnt 15 15 15 15) ∗ (bigSep Finset.univ (oldSeq (F := F) c))
            ∗ (held c (seqE c partM 0) ∗ held c (seqO c partM 0)) ∗ (bigSep Finset.univ (oldSum (F := F) c))
            ∗ has c (slotOf rsrM 14) fullShare (sumR I 15 c) ∗ has c (slotOf rslM 14) fullShare (sumL I 15 c)) -∗ runs c (k ⟨⟩) Q)
          -∗ runs c (hop0 wq wk wv wo c >>= fun _ => hop1 wq wk wv wo c >>= fun _ => hopsFrom wq wk wv wo c 0 13 (by omega) >>= fun _ =>
            hop15 wq wk wv wo c >>= fun _ => hop16 c >>= k) Q) := by
  subst hq hk hv ho
  have h13 : 0 + 13 ≤ 13 := Nat.le_refl _
  iintro ⟨#HR, Hat, ⟨HE, HO⟩, ⟨HpE, HpO⟩, ⟨HqE, HqO⟩⟩ Hk
  iapply (hop0_at I K c) $$ [Hat HE HO HpE HpO]
  · isplitr; · iexact HR
    isplitl [Hat]; · iexact Hat
    isplitl [HE]; · iexact HE
    isplitl [HO]; · iexact HO
    isplitl [HpE]; · iexact HpE
    iexact HpO
  iintro ⟨Hat, H0, HpE, HpO⟩
  iapply (hop1_at I K c) $$ [Hat HqE HqO]
  · isplitr; · iexact HR
    isplitl [Hat]; · iexact Hat
    isplitl [HqE]; · iexact HqE
    iexact HqO
  iintro ⟨Hat, H1, HsE, HsO⟩
  iapply (hopsFrom_at I K c 13 0 h13) $$ [Hat H0 H1 HsE HsO]
  · isplitr; · iexact HR
    unfold before
    isplitl [Hat]; · iexact Hat
    isplitl [H0 H1]
    · rw [show (0 + 2) = (1 : Fin 16).val + 1 from rfl, upTo_succ, show (1 : Fin 16).val = (0 : Fin 16).val + 1 from rfl, upTo_succ, show (0 : Fin 16).val = 0 from rfl, upTo_zero]
      isplitl [H1]; · iexact H1
      isplitl [H0]; · iexact H0
      iempintro
    isplitr; · rw [upTo_zero]; iempintro
    isplitl [HsE]; · iexact HsE
    iexact HsO
  unfold before
  iintro ⟨Hat, Hseq, Hsum, HsE, HsO⟩
  iapply (hop15_at I K c) $$ [Hat HsE HsO]
  · isplitr; · iexact HR
    isplitl [Hat]; · iexact Hat
    isplitl [HsE]; · iexact HsE
    iexact HsO
  iintro ⟨Hat, H15, Hs13, HsE, HsO⟩
  iapply (hop16_at I K c) $$ [Hat HpE HpO HsE HsO]
  · isplitr; · iexact HR
    isplitl [Hat]; · iexact Hat
    isplitl [HpE]; · iexact HpE
    isplitl [HpO]; · iexact HpO
    isplitl [HsE]; · iexact HsE
    iexact HsO
  iintro ⟨Hat, Hp, Hs14, HeR, HeL⟩
  iapply Hk
  isplitl [Hat]; · iexact Hat
  isplitl [Hseq H15]
  · rw [← upTo_all, show upTo 16 (oldSeq (F := F) c) = _ from upTo_succ (15 : Fin 16) (oldSeq c)]
    isplitl [H15]; · iexact H15
    iexact Hseq
  isplitl [Hp]; · iexact Hp
  isplitl [Hsum Hs13 Hs14]
  · rw [← upTo_all, show upTo 15 (oldSum (F := F) c) = _ from upTo_succ (14 : Fin 15) (oldSum c), show upTo (14 : Fin 15).val (oldSum (F := F) c) = _ from upTo_succ (13 : Fin 15) (oldSum c)]
    isplitl [Hs14]; · iexact Hs14
    isplitl [Hs13]; · iexact Hs13
    iexact Hsum
  isplitl [HeR]; · iexact HeR
  iexact HeL

/-! ## The scratch memory, in pieces and whole -/

/-- The gathered buffer in pieces, by their distance from the device. -/
theorem cut_seq (M : Memref sig .tc .vmem S4096x512 .bf16) (f : Buf (Elt F) (M.view.loc (c : Thread nD τ))) :
    (M.view.loc (c : Thread nD τ) ↦[M.view.set]{fullShare} f : PP F)
      ⊢ iprop((held c (seqE c M 0) ∗ bigSep Finset.univ fun i : Fin 15 => held c (seqE c M (i.val + 1)))
          ∗ (held c (seqO c M 0) ∗ bigSep Finset.univ fun i : Fin 15 => held c (seqO c M (i.val + 1)))) := by
  refine (cut_blk c M f).trans ?_
  rw [all_seq c, split_first (fun h : Fin 16 => held (F := F) c (blk M (lftN h.val c, false))), split_first (fun h : Fin 16 => held (F := F) c (blk M (rgtN h.val c, true)))]
  exact Entails.refl _

theorem glue_seq (M : Memref sig .tc .vmem S4096x512 .bf16) (f₀ : Buf (Elt F) (M.view.loc (c : Thread nD τ))) :
    iprop((held (F := F) c (seqE c M 0) ∗ bigSep Finset.univ fun i : Fin 15 => held c (seqE c M (i.val + 1)))
          ∗ (held c (seqO c M 0) ∗ bigSep Finset.univ fun i : Fin 15 => held c (seqO c M (i.val + 1)))) ⊢ held (F := F) c M := by
  have e : iprop((held (F := F) c (seqE c M 0) ∗ bigSep Finset.univ fun i : Fin 15 => held c (seqE c M (i.val + 1)))
          ∗ (held c (seqO c M 0) ∗ bigSep Finset.univ fun i : Fin 15 => held c (seqO c M (i.val + 1)))) ⊢ bigSep Finset.univ fun b : Dev nD × Bool => held (F := F) c (blk M b) := by
    rw [all_seq c, split_first (fun h : Fin 16 => held (F := F) c (blk M (lftN h.val c, false))), split_first (fun h : Fin 16 => held (F := F) c (blk M (rgtN h.val c, true)))]
    exact Entails.refl _
  refine (e.trans (glue_blk c M f₀)).trans ?_
  iintro ⟨%f, H⟩
  iapply (held_of_pts c M f); iexact H

/-- The next sequence and the others. -/
theorem next_E (M : Memref sig .tc .vmem S4096x512 .bf16) : (bigSep Finset.univ fun i : Fin 15 => held (F := F) c (seqE c M (i.val + 1)))
    = iprop(held c (seqE c M 1) ∗ bigSep Finset.univ fun i : Fin 14 => held c (seqE c M (i.succ.val + 1))) :=
  split_first (fun i : Fin 15 => held (F := F) c (seqE c M (i.val + 1)))
theorem next_O (M : Memref sig .tc .vmem S4096x512 .bf16) : (bigSep Finset.univ fun i : Fin 15 => held (F := F) c (seqO c M (i.val + 1)))
    = iprop(held c (seqO c M 1) ∗ bigSep Finset.univ fun i : Fin 14 => held c (seqO c M (i.succ.val + 1))) :=
  split_first (fun i : Fin 15 => held (F := F) c (seqO c M (i.val + 1)))

/-- The gathered buffer again, after all hops. -/
theorem glue_old (f₀ : Buf (Elt F) (xgM.view.loc (c : Thread nD τ))) : bigSep Finset.univ (oldSeq (F := F) c) ⊢ held (F := F) c xgM := by
  have e : bigSep Finset.univ (oldSeq (F := F) c) ⊢ bigSep Finset.univ fun b : Dev nD × Bool => held (F := F) c (blk xgM b) := by
    rw [all_seq c]; unfold oldSeq; rw [BI.bigSep_sep']
  refine (e.trans (glue_blk c xgM f₀)).trans ?_
  iintro ⟨%f, H⟩
  iapply (held_of_pts c xgM f); iexact H

/-- The pieces that the sums were sent from: one of the kept shares each, and the slots but the last. -/
theorem sums_old : bigSep Finset.univ (oldSum (F := F) c)
    ⊢ iprop((held c (seqE c partM 1) ∗ held c (seqO c partM 1)) ∗ (bigSep Finset.univ fun t : Fin 14 => held c (slotOf rsrM t.castSucc))
        ∗ bigSep Finset.univ fun t : Fin 14 => held c (slotOf rslM t.castSucc)) := by
  rw [split_first (oldSum (F := F) c)]
  have e : (fun i : Fin 14 => oldSum (F := F) c i.succ) = fun i => iprop(held c (slotOf rsrM i.castSucc) ∗ held c (slotOf rslM i.castSucc)) := by
    funext i; unfold oldSum; rfl
  rw [e, BI.bigSep_sep']
  refine Laws.sep_mono ?_ (Entails.refl _)
  unfold oldSum
  refine Laws.sep_mono ?_ ?_
  · exact Entails.of_eq (held_eq rfl (blkL_eq partM c 1))
  · exact Entails.of_eq (held_eq rfl (blkR_eq partM c 1))

theorem glue_slots (M : Memref sig .tc .vmem S15x128x512 .bf16) (f₀ : Buf (Elt F) (M.view.loc (c : Thread nD τ))) (a : FVec F S128x512 .bf16) :
    iprop(has c (slotOf M 14) fullShare a ∗ bigSep Finset.univ fun t : Fin 14 => held c (slotOf M t.castSucc)) ⊢ held (F := F) c M := by
  have e : iprop(has c (slotOf M 14) fullShare a ∗ bigSep Finset.univ fun t : Fin 14 => held c (slotOf M t.castSucc)) ⊢ bigSep Finset.univ fun t : Fin 15 => held (F := F) c (slotOf M t) := by
    rw [split_last (fun t : Fin 15 => held (F := F) c (slotOf M t))]
    exact Laws.sep_mono (held_of_has c (slotOf M 14) a) (Entails.refl _)
  refine (e.trans (glue_slot c M f₀)).trans ?_
  iintro ⟨%f, H⟩
  iapply (held_of_pts c M f); iexact H

/-! ## The body -/

/-- What device `c` takes part with: what it knows, its tokens, positions and credits. -/
def ghost : PP F :=
  iprop(recs I K ∗ (dutyTok ER (barCell (lft c)) 0 true ∗ dutyTok ER (barCell (rgt c)) 0 false ∗ atPos ER (barCell c) 0 ∅ 0)
    ∗ cred (tallyAt (barCell c) () 2) ∗ bigSep Finset.univ fun x => hand c x)
/-- Its scratch memory. -/
def scratch : PP F := iprop(held c xgM ∗ held c partM ∗ held c rsrM ∗ held c rslM)
/-- Its semaphores at zero. -/
def zeros : PP F :=
  iprop(semVal (barCell c) 0 ∗ (bigSep Finset.univ fun x => semVal (sendCell c x) 0) ∗ bigSep Finset.univ fun x => semVal (recvCell c x) 0)

theorem body_at (a0 : Memref sig .tc .vmem S2x128x512 .f32) (a1 a2 a3 : Memref sig .tc .vmem S512x256 .f32)
    (a4 : Memref sig .tc .vmem S256x512 .f32) (a5 : Memref sig .tc .vmem S2x128x512 .f32)
    {X : FVec F S2x128x512 .f32} {Wq Wk Wv : FVec F S512x256 .f32} {Wo : FVec F S256x512 .f32} (hI : I c = insOf X Wq Wk Wv Wo) (W : Waits sig Unit)
    (Kt : PUnit → PP F) :
    iprop((ghost I K c ∗ scratch c ∗ owes (c : Thread nD τ) (O₀ c) W
        ∗ has c a0 fullShare X ∗ has c a1 fullShare Wq ∗ has c a2 fullShare Wk ∗ has c a3 fullShare Wv ∗ has c a4 fullShare Wo ∗ held c a5)
        ∗ ((zeros c ∗ scratch c ∗ (∃ W, owes (c : Thread nD τ) 0 W) ∗ has c a0 fullShare X ∗ has c a1 fullShare Wq ∗ has c a2 fullShare Wk
            ∗ has c a3 fullShare Wv ∗ has c a4 fullShare Wo ∗ has c a5 fullShare (outOf (sumR I 15 c) (sumL I 15 c))) -∗ Kt ⟨⟩))
      ⊢ runs c (bodyT a0 a1 a2 a3 a4 a5) Kt := by
  have hE : (has c (seqE c xgM 0) fullShare (seqOf fun j => X (rowE.emb j)) : PP F) ⊢ hasE I c 0 fullShare := by
    unfold hasE; rw [show (I (lftN 0 c)).xe = seqOf fun j => X (rowE.emb j) from by show (I c).xe = _; rw [hI]; rfl]
  have hO : (has c (seqO c xgM 0) fullShare (seqOf fun j => X (rowO.emb j)) : PP F) ⊢ hasO I c 0 fullShare := by
    unfold hasO; rw [show (I (rgtN 0 c)).xo = seqOf fun j => X (rowO.emb j) from by show (I c).xo = _; rw [hI]; rfl]
  unfold bodyT ghost scratch
  simp only [Prog.lift, Prog.bind_op, Prog.bind_ret]
  unfold runs
  rw [wp_deviceId]
  iintro ⟨⟨⟨#HR, ⟨HtL, HtR, Hab⟩, Hcb, Hh⟩, ⟨Hxg, Hpt, Hrr, Hrl⟩, Hw, H0, H1, H2, H3, H4, H5⟩, Hk⟩
  ihave Hxg := (pts_of_held c xgM) $$ Hxg
  icases Hxg with ⟨%fx, Hxg⟩
  ihave Hpt := (pts_of_held c partM) $$ Hpt
  icases Hpt with ⟨%fp, Hpt⟩
  ihave Hrr := (pts_of_held c rsrM) $$ Hrr
  icases Hrr with ⟨%fr, Hrr⟩
  ihave Hrl := (pts_of_held c rslM) $$ Hrl
  icases Hrl with ⟨%fl, Hrl⟩
  ihave Hxg := (cut_seq c xgM fx) $$ Hxg
  icases Hxg with ⟨⟨HxE, HxEs⟩, ⟨HxO, HxOs⟩⟩
  ihave Hpt := (cut_seq c partM fp) $$ Hpt
  icases Hpt with ⟨⟨HpE, HpEs⟩, ⟨HpO, HpOs⟩⟩
  ihave HpEs := (Entails.of_eq (next_E c partM)) $$ HpEs
  ihave HpOs := (Entails.of_eq (next_O c partM)) $$ HpOs
  icases HpEs with ⟨HqE, HpEs⟩
  icases HpOs with ⟨HqO, HpOs⟩
  ihave Hrr := (cut_slot c rsrM fr) $$ Hrr
  ihave Hrl := (cut_slot c rslM fl) $$ Hrl
  iapply (barrier_at I K c W) $$ [HtL HtR Hab Hcb Hw HxEs HxOs Hrr Hrl]
  · isplitr; · iexact HR
    isplitl [HxEs Hrr]
    · iapply (give_left c)
      isplitl [HxEs]; · iexact HxEs
      iexact Hrr
    isplitl [HxOs Hrl]
    · iapply (give_right c)
      isplitl [HxOs]; · iexact HxOs
      iexact Hrl
    isplitl [HtL]; · iexact HtL
    isplitl [HtR]; · iexact HtR
    isplitl [Hcb]; · iexact Hcb
    isplitl [Hab]; · iexact Hab
    iexact Hw
  iintro ⟨Hb0, Hb1, Hzb, Hw⟩
  ihave Hat := (begin_at c) $$ [Hh Hb0 Hb1 Hw]
  · isplitl [Hh]; · iexact Hh
    isplitl [Hb0]; · iexact Hb0
    isplitl [Hb1]; · iexact Hb1
    iexact Hw
  iapply (place_at c a0 X) $$ [H0 HxE HxO]
  · isplitl [H0]; · iexact H0
    isplitl [HxE]; · iexact HxE
    iexact HxO
  iintro ⟨H0, HxE, HxO⟩
  unfold weightT weightOT
  iapply (load_part c (M := a1) (r := rectW)) $$ H1; iintro H1
  iapply (load_part c (M := a2) (r := rectW)) $$ H2; iintro H2
  iapply (load_part c (M := a3) (r := rectW)) $$ H3; iintro H3
  iapply (load_part c (M := a4) (r := rectWo)) $$ H4; iintro H4
  iapply (hops_at I K c (by rw [hI]; rfl) (by rw [hI]; rfl) (by rw [hI]; rfl) (by rw [hI]; rfl)) $$ [Hat HxE HxO HpE HpO HqE HqO]
  · isplitr; · iexact HR
    isplitl [Hat]; · iexact Hat
    isplitl [HxE HxO]
    · isplitl [HxE]; · iapply hE; iexact HxE
      iapply hO; iexact HxO
    isplitl [HpE HpO]
    · isplitl [HpE]; · iexact HpE
      iexact HpO
    isplitl [HqE]; · iexact HqE
    iexact HqO
  iintro ⟨Hat, Hseq, ⟨HpE, HpO⟩, Hsum, HeR, HeL⟩
  rw [← Prog.bind_pure (storeT a5)]
  iapply (store_at c a5 _ _) $$ [HeR HeL H5]
  · isplitl [HeR]; · iexact HeR
    isplitl [HeL]; · iexact HeL
    iexact H5
  iintro ⟨HeR, HeL, H5⟩
  ihave Hsum := (sums_old c) $$ Hsum
  icases Hsum with ⟨⟨HqE, HqO⟩, HsR, HsL⟩
  ihave Hend := (end_at c) $$ Hat
  icases Hend with ⟨Hzs, Hzr, Hw⟩
  simp only [Prog.pure_eq_ret]
  unfold runs
  rw [wp_ret]; imodintro
  iapply Hk
  isplitl [Hzb Hzs Hzr]
  · unfold zeros
    isplitl [Hzb]; · iexact Hzb
    isplitl [Hzs]; · iexact Hzs
    iexact Hzr
  isplitl [Hseq HpE HpO HqE HqO HpEs HpOs HeR HeL HsR HsL]
  · isplitl [Hseq]; · iapply (glue_old c fx); iexact Hseq
    isplitl [HpE HpO HqE HqO HpEs HpOs]
    · iapply (glue_seq c partM fp)
      rw [next_E, next_O]
      isplitl [HpE HqE HpEs]
      · isplitl [HpE]; · iexact HpE
        isplitl [HqE]; · iexact HqE
        iexact HpEs
      isplitl [HpO]; · iexact HpO
      isplitl [HqO]; · iexact HqO
      iexact HpOs
    isplitl [HeR HsR]
    · iapply (glue_slots c rsrM fr _)
      isplitl [HeR]; · iexact HeR
      iexact HsR
    iapply (glue_slots c rslM fl _)
    isplitl [HeL]; · iexact HeL
    iexact HsL
  isplitl [Hw]; · iexact Hw
  isplitl [H0]; · iexact H0
  isplitl [H1]; · iexact H1
  isplitl [H2]; · iexact H2
  isplitl [H3]; · iexact H3
  isplitl [H4]; · iexact H4
  iexact H5

end Steps

end Cert.KernelIdeal.Ring

end
-- ==== Proof.KernelIdeal.Sides.lean ====
/-
  What the program states of its offsets, its shapes and its devices, checked.
-/
module

public import proofs.«01_k».proof.KernelIdeal
public import Idealize.ShloMosaic.Lib.Decide
public import Idealize.ShloMosaic.Lib.Affine

@[expose] public section

set_option Elab.async false

namespace Cert.KernelIdeal.Ring

open Idealize.ShloMosaic Idealize.SL.Sem

theorem packed_of (off : Fin 2 → Nat) (h : ∀ a, off a + S128x512.size a ≤ S4096x512.size a) (he : 2 ∣ off 0) :
    (Rect.unit (s := S4096x512) off S128x512.size h).PackedRows (EltTy.packing .bf16) :=
  Affine.packed_dvd (of_decide_eq_true rfl) he (by decide)
theorem even5 : ∀ (d : Dev nD) (r : Fin 16), 2 ∣ k0_off5 d (BitVec.ofNat 32 r.val) 0 := by decide +kernel
theorem even6 : ∀ (d : Dev nD) (r : Fin 16), 2 ∣ k0_off6 d (BitVec.ofNat 32 r.val) 0 := by decide +kernel

theorem k0_dev1_lt : ∀ d0 : Dev nD, (k0_dev1 d0) < nD := by decide +kernel
theorem k0_dev2_lt : ∀ d0 : Dev nD, (k0_dev2 d0) < nD := by decide +kernel
theorem k0_off1_inb : ∀ d0 : Dev nD, ∀ a, (k0_off1 d0) a + S128x512.size a ≤ S4096x512.size a := by decide +kernel
theorem k0_off1_packedbf16 : ∀ d0 : Dev nD, (Rect.unit (s := S4096x512) (k0_off1 d0) S128x512.size (k0_off1_inb d0)).PackedRows (EltTy.packing .bf16) := by decide +kernel
theorem k0_off2_inb : ∀ d0 : Dev nD, ∀ a, (k0_off2 d0) a + S128x512.size a ≤ S4096x512.size a := by decide +kernel
theorem k0_off2_packedbf16 : ∀ d0 : Dev nD, (Rect.unit (s := S4096x512) (k0_off2 d0) S128x512.size (k0_off2_inb d0)).PackedRows (EltTy.packing .bf16) := by decide +kernel
theorem k0_off3_inb : ∀ d0 : Dev nD, ∀ (r : Fin 15), ∀ a, (k0_off3 d0 (BitVec.ofNat 32 r.val)) a + S128x512.size a ≤ S4096x512.size a := by decide +kernel
theorem k0_off3_wordsbf16 : ∀ d0 : Dev nD, ∀ (r : Fin 15), (Rect.unit (s := S4096x512) (k0_off3 d0 (BitVec.ofNat 32 r.val)) S128x512.size (k0_off3_inb d0 r)).WholeWords (EltTy.packing .bf16) := by decide +kernel
theorem k0_dev3_lt : ∀ d0 : Dev nD, (k0_dev3 d0) < nD := by decide +kernel
theorem k0_off4_inb : ∀ d0 : Dev nD, ∀ (r : Fin 15), ∀ a, (k0_off4 d0 (BitVec.ofNat 32 r.val)) a + S128x512.size a ≤ S4096x512.size a := by decide +kernel
theorem k0_off4_wordsbf16 : ∀ d0 : Dev nD, ∀ (r : Fin 15), (Rect.unit (s := S4096x512) (k0_off4 d0 (BitVec.ofNat 32 r.val)) S128x512.size (k0_off4_inb d0 r)).WholeWords (EltTy.packing .bf16) := by decide +kernel
theorem k0_dev4_lt : ∀ d0 : Dev nD, (k0_dev4 d0) < nD := by decide +kernel
theorem k0_off5_inb : ∀ d0 : Dev nD, ∀ (r : Fin 16), ∀ a, (k0_off5 d0 (BitVec.ofNat 32 r.val)) a + S128x512.size a ≤ S4096x512.size a := by decide +kernel
theorem k0_off6_inb : ∀ d0 : Dev nD, ∀ (r : Fin 16), ∀ a, (k0_off6 d0 (BitVec.ofNat 32 r.val)) a + S128x512.size a ≤ S4096x512.size a := by decide +kernel
theorem k0_off5_packedbf16 : ∀ d0 : Dev nD, ∀ (r : Fin 16), (Rect.unit (s := S4096x512) (k0_off5 d0 (BitVec.ofNat 32 r.val)) S128x512.size (k0_off5_inb d0 r)).PackedRows (EltTy.packing .bf16) := fun d r => packed_of _ _ (even5 d r)
theorem k0_off6_packedbf16 : ∀ d0 : Dev nD, ∀ (r : Fin 16), (Rect.unit (s := S4096x512) (k0_off6 d0 (BitVec.ofNat 32 r.val)) S128x512.size (k0_off6_inb d0 r)).PackedRows (EltTy.packing .bf16) := fun d r => packed_of _ _ (even6 d r)
theorem k0_dev5_lt : ∀ d0 : Dev nD, (k0_dev5 d0) < nD := by decide +kernel
theorem k0_dev6_lt : ∀ d0 : Dev nD, (k0_dev6 d0) < nD := by decide +kernel
theorem k0_dev7_lt : ∀ d0 : Dev nD, (k0_dev7 d0) < nD := by decide +kernel
theorem k0_dev8_lt : ∀ d0 : Dev nD, (k0_dev8 d0) < nD := by decide +kernel
theorem k0_dev9_lt : ∀ d0 : Dev nD, (k0_dev9 d0) < nD := by decide +kernel
theorem k0_dev10_lt : ∀ d0 : Dev nD, (k0_dev10 d0) < nD := by decide +kernel
theorem k0_dev11_lt : ∀ d0 : Dev nD, (k0_dev11 d0) < nD := by decide +kernel
theorem k0_dev12_lt : ∀ d0 : Dev nD, (k0_dev12 d0) < nD := by decide +kernel
theorem k0_dev13_lt : ∀ d0 : Dev nD, (k0_dev13 d0) < nD := by decide +kernel
theorem k0_dev14_lt : ∀ d0 : Dev nD, (k0_dev14 d0) < nD := by decide +kernel
theorem k0_dev15_lt : ∀ d0 : Dev nD, (k0_dev15 d0) < nD := by decide +kernel
theorem k0_dev16_lt : ∀ d0 : Dev nD, (k0_dev16 d0) < nD := by decide +kernel
theorem k0_dev17_lt : ∀ d0 : Dev nD, (k0_dev17 d0) < nD := by decide +kernel
theorem k0_dev18_lt : ∀ d0 : Dev nD, (k0_dev18 d0) < nD := by decide +kernel
theorem k0_dev19_lt : ∀ d0 : Dev nD, (k0_dev19 d0) < nD := by decide +kernel
theorem k0_dev20_lt : ∀ d0 : Dev nD, (k0_dev20 d0) < nD := by decide +kernel
theorem k0_dev21_lt : ∀ d0 : Dev nD, (k0_dev21 d0) < nD := by decide +kernel
theorem k0_dev22_lt : ∀ d0 : Dev nD, (k0_dev22 d0) < nD := by decide +kernel
theorem k0_dev23_lt : ∀ d0 : Dev nD, (k0_dev23 d0) < nD := by decide +kernel
theorem k0_dev24_lt : ∀ d0 : Dev nD, (k0_dev24 d0) < nD := by decide +kernel
theorem k0_dev25_lt : ∀ d0 : Dev nD, (k0_dev25 d0) < nD := by decide +kernel
theorem k0_dev26_lt : ∀ d0 : Dev nD, (k0_dev26 d0) < nD := by decide +kernel
theorem k0_dev27_lt : ∀ d0 : Dev nD, (k0_dev27 d0) < nD := by decide +kernel
theorem k0_dev28_lt : ∀ d0 : Dev nD, (k0_dev28 d0) < nD := by decide +kernel
theorem k0_dev29_lt : ∀ d0 : Dev nD, (k0_dev29 d0) < nD := by decide +kernel
theorem k0_dev30_lt : ∀ d0 : Dev nD, (k0_dev30 d0) < nD := by decide +kernel
theorem k0_dev31_lt : ∀ d0 : Dev nD, (k0_dev31 d0) < nD := by decide +kernel
theorem k0_dev32_lt : ∀ d0 : Dev nD, (k0_dev32 d0) < nD := by decide +kernel
theorem k0_dev33_lt : ∀ d0 : Dev nD, (k0_dev33 d0) < nD := by decide +kernel
theorem k0_dev34_lt : ∀ d0 : Dev nD, (k0_dev34 d0) < nD := by decide +kernel
theorem k0_dev35_lt : ∀ d0 : Dev nD, (k0_dev35 d0) < nD := by decide +kernel
theorem k0_dev36_lt : ∀ d0 : Dev nD, (k0_dev36 d0) < nD := by decide +kernel
theorem k0_dev37_lt : ∀ d0 : Dev nD, (k0_dev37 d0) < nD := by decide +kernel
theorem k0_dev38_lt : ∀ d0 : Dev nD, (k0_dev38 d0) < nD := by decide +kernel
theorem k0_dev39_lt : ∀ d0 : Dev nD, (k0_dev39 d0) < nD := by decide +kernel
theorem k0_dev40_lt : ∀ d0 : Dev nD, (k0_dev40 d0) < nD := by decide +kernel
theorem k0_dev41_lt : ∀ d0 : Dev nD, (k0_dev41 d0) < nD := by decide +kernel
theorem k0_dev42_lt : ∀ d0 : Dev nD, (k0_dev42 d0) < nD := by decide +kernel
theorem k0_dev43_lt : ∀ d0 : Dev nD, (k0_dev43 d0) < nD := by decide +kernel
theorem k0_dev44_lt : ∀ d0 : Dev nD, (k0_dev44 d0) < nD := by decide +kernel
theorem k0_dev45_lt : ∀ d0 : Dev nD, (k0_dev45 d0) < nD := by decide +kernel
theorem k0_dev46_lt : ∀ d0 : Dev nD, (k0_dev46 d0) < nD := by decide +kernel
theorem k0_dev47_lt : ∀ d0 : Dev nD, (k0_dev47 d0) < nD := by decide +kernel
theorem k0_dev48_lt : ∀ d0 : Dev nD, (k0_dev48 d0) < nD := by decide +kernel
theorem k0_dev49_lt : ∀ d0 : Dev nD, (k0_dev49 d0) < nD := by decide +kernel
theorem k0_dev50_lt : ∀ d0 : Dev nD, (k0_dev50 d0) < nD := by decide +kernel
theorem k0_dev51_lt : ∀ d0 : Dev nD, (k0_dev51 d0) < nD := by decide +kernel
theorem k0_dev52_lt : ∀ d0 : Dev nD, (k0_dev52 d0) < nD := by decide +kernel
theorem k0_dev53_lt : ∀ d0 : Dev nD, (k0_dev53 d0) < nD := by decide +kernel
theorem k0_dev54_lt : ∀ d0 : Dev nD, (k0_dev54 d0) < nD := by decide +kernel
theorem k0_dev55_lt : ∀ d0 : Dev nD, (k0_dev55 d0) < nD := by decide +kernel
theorem k0_dev56_lt : ∀ d0 : Dev nD, (k0_dev56 d0) < nD := by decide +kernel
theorem k0_dev57_lt : ∀ d0 : Dev nD, (k0_dev57 d0) < nD := by decide +kernel
theorem k0_dev58_lt : ∀ d0 : Dev nD, (k0_dev58 d0) < nD := by decide +kernel
theorem k0_dev59_lt : ∀ d0 : Dev nD, (k0_dev59 d0) < nD := by decide +kernel
theorem k0_dev60_lt : ∀ d0 : Dev nD, (k0_dev60 d0) < nD := by decide +kernel
theorem k0_dev61_lt : ∀ d0 : Dev nD, (k0_dev61 d0) < nD := by decide +kernel
theorem k0_dev62_lt : ∀ d0 : Dev nD, (k0_dev62 d0) < nD := by decide +kernel

instance sides₀ : Cert.KernelIdeal.Facts₀ where
  inb_S2x128x512_S1x128x512_0_0_0 := by decide
  h_S1x128x512 := by decide
  shapeCasts_S1x128x512_S128x512 := by decide
  bitsLt_bf16_f32 := by decide
  h_S128x512 := by decide
  shapeCasts_S128x512_S128x512 := by decide
  inb_S2x128x512_S1x128x512_1_0_0 := by decide
  iota_S128x256_d0_w32 := by decide
  iota_S128x256_d1_w32 := by decide
  broadcasts_S128x256_S128x256 := by decide
  natLt_1_32 := by decide
  iota_S256x256_d0_w32 := by decide
  iota_S256x256_d1_w32 := by decide
  broadcasts_S256x256_S256x256 := by decide
  concatenates_S128x256_S128x256_S256x256_d0 := by decide
  inb_S512x256_S512x256_0_0 := by decide
  h_S512x256 := by decide
  shapeCasts_S512x256_S512x256 := by decide
  inb_S256x512_S256x512_0_0 := by decide
  h_S256x512 := by decide
  shapeCasts_S256x512_S256x512 := by decide
  inb_S15_S1_0 := by decide
  squeezes_S1_S_ := by decide
  concatenates_S128x512_S128x512_S256x512_d0 := by decide
  slices_S256x256_o0_0_S128x64 := by decide
  reduces_S128x128_S128 := by decide
  shapeCasts_S128_S128x1 := by decide
  broadcasts_S128x1_S128x128 := by decide
  slices_S256x256_o0_64_S128x64 := by decide
  slices_S256x256_o0_128_S128x64 := by decide
  slices_S256x256_o0_192_S128x64 := by decide
  concatenates_S128x64_S128x64_S128x64_S128x64_S128x256_d1 := by decide
  slices_S256x256_o128_0_S128x64 := by decide
  slices_S256x256_o128_64_S128x64 := by decide
  slices_S256x256_o128_128_S128x64 := by decide
  slices_S256x256_o128_192_S128x64 := by decide
  slices_S256x512_o0_0_S128x512 := by decide
  slices_S256x512_o128_0_S128x512 := by decide
  inb_S15_S1_1 := by decide
  inb_S15_S1_2 := by decide
  inb_S15x128x512_S1x128x512_0_0_0 := by decide
  squeezes_S1x128x512_S128x512 := by decide
  wordsbf16_S15x128x512_S1x128x512_0_0_0 := by decide
  shapeCasts_S128x512_S1x128x512 := by decide
  packedbf16_S15x128x512_S1x128x512_0_0_0 := by decide
  inb_S15_S1_3 := by decide
  inb_S15x128x512_S1x128x512_1_0_0 := by decide
  wordsbf16_S15x128x512_S1x128x512_1_0_0 := by decide
  packedbf16_S15x128x512_S1x128x512_1_0_0 := by decide
  inb_S15_S1_4 := by decide
  inb_S15x128x512_S1x128x512_2_0_0 := by decide
  wordsbf16_S15x128x512_S1x128x512_2_0_0 := by decide
  packedbf16_S15x128x512_S1x128x512_2_0_0 := by decide
  inb_S15_S1_5 := by decide
  inb_S15x128x512_S1x128x512_3_0_0 := by decide
  wordsbf16_S15x128x512_S1x128x512_3_0_0 := by decide
  packedbf16_S15x128x512_S1x128x512_3_0_0 := by decide
  inb_S15_S1_6 := by decide
  inb_S15x128x512_S1x128x512_4_0_0 := by decide
  wordsbf16_S15x128x512_S1x128x512_4_0_0 := by decide
  packedbf16_S15x128x512_S1x128x512_4_0_0 := by decide
  inb_S15_S1_7 := by decide
  inb_S15x128x512_S1x128x512_5_0_0 := by decide
  wordsbf16_S15x128x512_S1x128x512_5_0_0 := by decide
  packedbf16_S15x128x512_S1x128x512_5_0_0 := by decide
  inb_S15_S1_8 := by decide
  inb_S15x128x512_S1x128x512_6_0_0 := by decide
  wordsbf16_S15x128x512_S1x128x512_6_0_0 := by decide
  packedbf16_S15x128x512_S1x128x512_6_0_0 := by decide
  inb_S15_S1_9 := by decide
  inb_S15x128x512_S1x128x512_7_0_0 := by decide
  wordsbf16_S15x128x512_S1x128x512_7_0_0 := by decide
  packedbf16_S15x128x512_S1x128x512_7_0_0 := by decide
  inb_S15_S1_10 := by decide
  inb_S15x128x512_S1x128x512_8_0_0 := by decide
  wordsbf16_S15x128x512_S1x128x512_8_0_0 := by decide
  packedbf16_S15x128x512_S1x128x512_8_0_0 := by decide
  inb_S15_S1_11 := by decide
  inb_S15x128x512_S1x128x512_9_0_0 := by decide
  wordsbf16_S15x128x512_S1x128x512_9_0_0 := by decide
  packedbf16_S15x128x512_S1x128x512_9_0_0 := by decide
  inb_S15_S1_12 := by decide
  inb_S15x128x512_S1x128x512_10_0_0 := by decide
  wordsbf16_S15x128x512_S1x128x512_10_0_0 := by decide
  packedbf16_S15x128x512_S1x128x512_10_0_0 := by decide
  inb_S15_S1_13 := by decide
  inb_S15x128x512_S1x128x512_11_0_0 := by decide
  wordsbf16_S15x128x512_S1x128x512_11_0_0 := by decide
  packedbf16_S15x128x512_S1x128x512_11_0_0 := by decide
  inb_S15_S1_14 := by decide
  inb_S15x128x512_S1x128x512_12_0_0 := by decide
  wordsbf16_S15x128x512_S1x128x512_12_0_0 := by decide
  packedbf16_S15x128x512_S1x128x512_12_0_0 := by decide
  inb_S15x128x512_S1x128x512_13_0_0 := by decide
  wordsbf16_S15x128x512_S1x128x512_13_0_0 := by decide
  packedbf16_S15x128x512_S1x128x512_13_0_0 := by decide
  inb_S15x128x512_S1x128x512_14_0_0 := by decide
  wordsbf16_S15x128x512_S1x128x512_14_0_0 := by decide
  packedbf16_S15x128x512_S1x128x512_14_0_0 := by decide
  dot_S256x512_S512x256_S256x256_1_0_0_1_n_n_wf := by decide
  dot_S256x256_S256x256_S256x256_1_0_0_1_n_n_wf := by decide
  dot_S128x64_S128x64_S128x128_1_1_0_0_n_n_wf := by decide
  dot_S128x128_S128x64_S128x64_1_0_0_1_n_n_wf := by decide
  dot_S256x256_S256x512_S256x512_1_0_0_1_n_n_wf := by decide
  hcc0_scratch4 := by decide
  hcc0_scratch5 := by decide
  hcc0_scratch6 := by decide
  hcc0_scratch7 := by decide
  hcc0_scratch8 := by decide
  hcc0_scratch9 := by decide
  hcc0_scratch10 := by decide
  hcc0_scratch11 := by decide
  k0_dev1_lt := @k0_dev1_lt
  k0_dev2_lt := @k0_dev2_lt
  k0_off1_inb := @k0_off1_inb
  k0_off1_packedbf16 := @k0_off1_packedbf16
  k0_off2_inb := @k0_off2_inb
  k0_off2_packedbf16 := @k0_off2_packedbf16
  k0_off3_inb := @k0_off3_inb
  k0_off3_wordsbf16 := @k0_off3_wordsbf16
  k0_dev3_lt := @k0_dev3_lt
  k0_off4_inb := @k0_off4_inb
  k0_off4_wordsbf16 := @k0_off4_wordsbf16
  k0_dev4_lt := @k0_dev4_lt
  k0_off5_inb := @k0_off5_inb
  k0_off6_inb := @k0_off6_inb
  k0_off5_packedbf16 := @k0_off5_packedbf16
  k0_off6_packedbf16 := @k0_off6_packedbf16
  k0_dev5_lt := @k0_dev5_lt
  k0_dev6_lt := @k0_dev6_lt
  k0_dev7_lt := @k0_dev7_lt
  k0_dev8_lt := @k0_dev8_lt
  k0_dev9_lt := @k0_dev9_lt
  k0_dev10_lt := @k0_dev10_lt
  k0_dev11_lt := @k0_dev11_lt
  k0_dev12_lt := @k0_dev12_lt
  k0_dev13_lt := @k0_dev13_lt
  k0_dev14_lt := @k0_dev14_lt
  k0_dev15_lt := @k0_dev15_lt
  k0_dev16_lt := @k0_dev16_lt
  k0_dev17_lt := @k0_dev17_lt
  k0_dev18_lt := @k0_dev18_lt
  k0_dev19_lt := @k0_dev19_lt
  k0_dev20_lt := @k0_dev20_lt
  k0_dev21_lt := @k0_dev21_lt
  k0_dev22_lt := @k0_dev22_lt
  k0_dev23_lt := @k0_dev23_lt
  k0_dev24_lt := @k0_dev24_lt
  k0_dev25_lt := @k0_dev25_lt
  k0_dev26_lt := @k0_dev26_lt
  k0_dev27_lt := @k0_dev27_lt
  k0_dev28_lt := @k0_dev28_lt
  k0_dev29_lt := @k0_dev29_lt
  k0_dev30_lt := @k0_dev30_lt
  k0_dev31_lt := @k0_dev31_lt
  k0_dev32_lt := @k0_dev32_lt
  k0_dev33_lt := @k0_dev33_lt
  k0_dev34_lt := @k0_dev34_lt
  k0_dev35_lt := @k0_dev35_lt
  k0_dev36_lt := @k0_dev36_lt
  k0_dev37_lt := @k0_dev37_lt
  k0_dev38_lt := @k0_dev38_lt
  k0_dev39_lt := @k0_dev39_lt
  k0_dev40_lt := @k0_dev40_lt
  k0_dev41_lt := @k0_dev41_lt
  k0_dev42_lt := @k0_dev42_lt
  k0_dev43_lt := @k0_dev43_lt
  k0_dev44_lt := @k0_dev44_lt
  k0_dev45_lt := @k0_dev45_lt
  k0_dev46_lt := @k0_dev46_lt
  k0_dev47_lt := @k0_dev47_lt
  k0_dev48_lt := @k0_dev48_lt
  k0_dev49_lt := @k0_dev49_lt
  k0_dev50_lt := @k0_dev50_lt
  k0_dev51_lt := @k0_dev51_lt
  k0_dev52_lt := @k0_dev52_lt
  k0_dev53_lt := @k0_dev53_lt
  k0_dev54_lt := @k0_dev54_lt
  k0_dev55_lt := @k0_dev55_lt
  k0_dev56_lt := @k0_dev56_lt
  k0_dev57_lt := @k0_dev57_lt
  k0_dev58_lt := @k0_dev58_lt
  k0_dev59_lt := @k0_dev59_lt
  k0_dev60_lt := @k0_dev60_lt
  k0_dev61_lt := @k0_dev61_lt
  k0_dev62_lt := @k0_dev62_lt
  hstage0_0 := fun | 0 => Memref.isWhole_whole _ | ⟨_ + 1, h⟩ => absurd h (Nat.not_lt.2 (Nat.le_add_left _ _))
  hstage0_1 := fun | 0 => Memref.isWhole_whole _ | ⟨_ + 1, h⟩ => absurd h (Nat.not_lt.2 (Nat.le_add_left _ _))
  hstage0_2 := fun | 0 => Memref.isWhole_whole _ | ⟨_ + 1, h⟩ => absurd h (Nat.not_lt.2 (Nat.le_add_left _ _))
  hstage0_3 := fun | 0 => Memref.isWhole_whole _ | ⟨_ + 1, h⟩ => absurd h (Nat.not_lt.2 (Nat.le_add_left _ _))
  hstage0_4 := fun | 0 => Memref.isWhole_whole _ | ⟨_ + 1, h⟩ => absurd h (Nat.not_lt.2 (Nat.le_add_left _ _))
  hstage0_5 := fun | 0 => Memref.isWhole_whole _ | ⟨_ + 1, h⟩ => absurd h (Nat.not_lt.2 (Nat.le_add_left _ _))

/-- The side conditions hold. -/
instance sides : Cert.KernelIdeal.Facts where

end Cert.KernelIdeal.Ring

end
-- ==== Proof.KernelIdeal.Deal.lean ====
/-
  The launch: how the semaphores and the tokens are dealt to the devices.
-/
module

public import proofs.«01_k».proof.Proof.KernelIdeal.Body
public import proofs.«01_k».proof.Proof.KernelIdeal.Sides
public import Idealize.ShloMosaic.Lib.Pipeline.Kit
public import Idealize.ShloMosaic.Lib.Pipeline.Regions
public import Idealize.ShloMosaic.Lib.Pipeline.FrameBody

@[expose] public section

set_option maxRecDepth 20000

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F] [Named F]

open Idealize.ShloMosaic.Pipeline (Dat Cfg Window BodyObligation cellOf)

local notation "𝕄" => MT nD τ sig Unit (Elt F) ℕ UU ℕ

/-! ## The layout -/

/-- The semaphores of the windows. -/
abbrev semTab : Fin 1 → List (DmaSem sig) :=
  fun | 0 => Pipeline.specSems spec0 | ⟨_ + 1, h⟩ => absurd h (Nat.not_lt.2 (Nat.le_add_left _ _))
theorem semTab_nodup : ∀ p : Fin 1, (semTab p).Nodup := by decide
theorem semTab_disjoint : ∀ p p' : Fin 1, p ≠ p' → (semTab p).Forall (· ∉ semTab p') := by decide
omit [FloatOps F] [Named F] in
theorem cellOf_inj : Function.Injective (Pipeline.cellOf (nD := nD) (τ := τ) cfgs) :=
  Pipeline.cellOf_injective_of_table cfgs semTab (fun | 0 => rfl | ⟨_ + 1, h⟩ => absurd h (Nat.not_lt.2 (Nat.le_add_left _ _))) semTab_nodup semTab_disjoint

theorem winFacts : Pipeline.WinFacts spec0 := by decide
theorem block_pos : ∀ w : Fin 6, 0 < (spec0 w).block.numel := by decide
theorem arr_whole : ∀ w : Fin 6, (spec0 w).arr.IsWhole := fun
  | 0 => Memref.isWhole_whole _ | 1 => Memref.isWhole_whole _ | 2 => Memref.isWhole_whole _ | 3 => Memref.isWhole_whole _
  | 4 => Memref.isWhole_whole _ | 5 => Memref.isWhole_whole _ | ⟨_ + 6, h⟩ => absurd h (Nat.not_lt.2 (Nat.le_add_left _ _))
theorem stage_whole : ∀ (w : Fin 6) (s : Fin (spec0 w).nbuf), ((spec0 w).stage s).IsWhole := fun
  | 0 => fun _ => Memref.isWhole_whole _ | 1 => fun _ => Memref.isWhole_whole _ | 2 => fun _ => Memref.isWhole_whole _ | 3 => fun _ => Memref.isWhole_whole _
  | 4 => fun _ => Memref.isWhole_whole _ | 5 => fun _ => Memref.isWhole_whole _ | ⟨_ + 6, h⟩ => absurd h (Nat.not_lt.2 (Nat.le_add_left _ _))

/-- The windows one by one. -/
theorem all_windows {M : Type} [URA M] (Φ : Fin 6 → sProp M) :
    bigSep Finset.univ Φ = iprop(Φ (0 : Fin 6) ∗ Φ (1 : Fin 6) ∗ Φ (2 : Fin 6) ∗ Φ (3 : Fin 6) ∗ Φ (4 : Fin 6) ∗ Φ (5 : Fin 6)) :=
  bigSep_univ_eq_bigSepL [(0 : Fin 6), (1 : Fin 6), (2 : Fin 6), (3 : Fin 6), (4 : Fin 6), (5 : Fin 6)] (by decide) (by decide) Φ

/-- A whole buffer, as a place. -/
theorem has_whole (c : Dev nD) (b : Ref sig .tc) (X : Buf (Elt F) (((c : Dev nD) : Thread nD τ).loc b)) :
    (has c (Memref.whole b) fullShare X : PP F) = iprop(∃ f : Buf (Elt F) (((c : Dev nD) : Thread nD τ).loc b), ⌜f = X⌝ ∗ ((c : Thread nD τ).loc b) ↦{fullShare} f) := by
  unfold has owns
  simp only [Memref.view_whole, View.read_whole, View.set_whole]
theorem held_whole (c : Dev nD) (b : Ref sig .tc) :
    (held (F := F) c (Memref.whole b) : PP F) ⊢ iprop(∃ f : Buf (Elt F) (((c : Dev nD) : Thread nD τ).loc b), ((c : Thread nD τ).loc b) ↦{fullShare} f) := by
  unfold held
  iintro ⟨%X, H⟩
  ihave H' := (Entails.of_eq (has_whole c b X)) $$ H
  icases H' with ⟨%f, -, H⟩
  iexists f; iexact H
theorem whole_held (c : Dev nD) (b : Ref sig .tc) :
    (iprop(∃ f : Buf (Elt F) (((c : Dev nD) : Thread nD τ).loc b), ((c : Thread nD τ).loc b) ↦{fullShare} f) : PP F) ⊢ held (F := F) c (Memref.whole b) := by
  unfold held
  iintro ⟨%f, H⟩
  iexists f
  iapply (Entails.of_eq (has_whole c b f).symm)
  iexists f
  isplitr
  · ipureintro; rfl
  · iexact H

theorem rest_eq (c : Dev nD) : (Pipeline.scopedRest (Ix := Unit) (Name := ℕ) (U := UU) (Lvl := ℕ) (Val := Elt F) spec0 c : PP F)
    = iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)) :=
  Pipeline.scopedRest_eq_of_list spec0 c [cc0_scratch0, cc0_scratch1, cc0_scratch2, cc0_scratch3] (by decide) (by decide)
/-- The scratch memory is what the windows leave of the scoped memory. -/
theorem rest_scratch (c : Dev nD) : (Pipeline.scopedRest (Ix := Unit) (Name := ℕ) (U := UU) (Lvl := ℕ) (Val := Elt F) spec0 c : PP F) ⊢ scratch c := by
  rw [rest_eq]; unfold scratch
  exact BIClass.sep_mono (whole_held c cc0_scratch0) (BIClass.sep_mono (whole_held c cc0_scratch1) (BIClass.sep_mono (whole_held c cc0_scratch2) (whole_held c cc0_scratch3)))
theorem scratch_rest (c : Dev nD) : (scratch c : PP F) ⊢ Pipeline.scopedRest (Ix := Unit) (Name := ℕ) (U := UU) (Lvl := ℕ) (Val := Elt F) spec0 c := by
  rw [rest_eq]; unfold scratch
  exact BIClass.sep_mono (held_whole c cc0_scratch0) (BIClass.sep_mono (held_whole c cc0_scratch1) (BIClass.sep_mono (held_whole c cc0_scratch2) (held_whole c cc0_scratch3)))

/-! ## The semaphores -/

theorem osem_injective : Function.Injective osem := fun k k' h => Option.some.inj (csem_injective (show csem (some k) = csem (some k') from h))

theorem dma_scoped : ∀ q : DmaSem sig, (SemLoc.dma q : SemLoc sig).isScoped .tc = true := by decide +kernel
theorem window_sem_lt : ∀ (w : Fin 6) (s : Fin (spec0 w).nbuf), ((spec0 w).sem s).val < 6 := by decide
theorem semNat_ge (k : OI) : 6 ≤ semNat k := by revert k; decide +kernel
theorem osem_eq (k : OI) : ∃ q : DmaSem sig, osem k = .dma q ∧ q.val = semNat k := by
  obtain ⟨b, x⟩ := k
  cases b
  · exact ⟨sendSem x, rfl, sendSem_val x⟩
  · exact ⟨recvSem x, rfl, recvSem_val x⟩

theorem ownSemFacts : Pipeline.OwnSemFacts spec0 osem where
  isScoped k := by obtain ⟨q, h, -⟩ := osem_eq k; rw [h]; exact dma_scoped q
  inj := osem_injective
  disj k w s h := by
    obtain ⟨q, e, hq⟩ := osem_eq k
    rw [e] at h
    have h1 : q = (spec0 w).sem s := by injection h
    have h2 := window_sem_lt w s
    have h3 := semNat_ge k
    rw [← h1] at h2
    omega

theorem unscoped_set : (Finset.univ.filter fun sm : SemLoc sig => ¬ sm.isScoped .tc) = {SemLoc.reg barS} := by decide +kernel

/-- All cells of a device. -/
theorem all_cells (Φ : CI → PP F) : bigSep Finset.univ Φ
    = iprop(Φ none ∗ (bigSep Finset.univ fun x : Tr => Φ (some (false, x))) ∗ bigSep Finset.univ fun x : Tr => Φ (some (true, x))) := by
  have e : (Finset.univ : Finset CI) = insert none (Finset.univ.map Function.Embedding.some) := by
    ext k; cases k <;> simp
  rw [e, BI.bigSep_insert (by simp), BI.bigSep_map, BI.bigSep_univ_prod]
  rw [bigSep_univ_eq_bigSepL [false, true] (by decide) (by decide), bigSepL_cons_cons, bigSepL_singleton]
  rfl

theorem ownSems_eq (c : Dev nD) : (Pipeline.ownSems0 (Ix := Unit) (Name := ℕ) (U := UU) (Lvl := ℕ) (Val := Elt F) (τ := τ) osem c : PP F)
    = iprop((bigSep Finset.univ fun x => semVal (sendCell c x) 0) ∗ bigSep Finset.univ fun x => semVal (recvCell c x) 0) := by
  unfold Pipeline.ownSems0
  rw [BI.bigSep_univ_prod, bigSep_univ_eq_bigSepL [false, true] (by decide) (by decide), bigSepL_cons_cons, bigSepL_singleton]
  rfl
theorem unscopedSems_eq (c : Dev nD) : (unscopedSems0 c : PP F) = semVal (barCell c) 0 := by
  unfold unscopedSems0; rw [unscoped_set, bigSep_singleton]

theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : PP F) := by
  rw [ownSems_eq, unscopedSems_eq, all_cells]
  iintro ⟨⟨HS, HV⟩, HB⟩
  isplitl [HB]; · iexact HB
  isplitl [HS]; · iexact HS
  iexact HV

theorem zeros_exit (c : Dev nD) : (zeros c : PP F)
    ⊢ iprop(unscopedSems0 c ∗ Pipeline.ownSems0 (Ix := Unit) (Name := ℕ) (U := UU) (Lvl := ℕ) (Val := Elt F) (τ := τ) osem c) := by
  rw [ownSems_eq, unscopedSems_eq]; unfold zeros; exact Entails.refl _

/-! ## The tokens -/

theorem kcell_injective : Function.Injective (kcell : Dev nD × CI → GSem nD τ sig) := by
  rintro ⟨c, k⟩ ⟨c', k'⟩ h
  have h1 : c = c' := congrArg (fun g : GSem nD τ sig => g.1.1) h
  have h2 : csem k = csem k' := congrArg Prod.snd h
  rw [h1, csem_injective h2]

def ringCells : Finset (GSem nD τ sig) := Finset.univ.map ⟨kcell, kcell_injective⟩
/-- The first token of every cell, -/
def tokA : Dev nD × CI ↪ GSem nD τ sig × ℕ × Bool := ⟨fun ck => (kcell ck, 0, false), fun a b h => kcell_injective (Prod.ext_iff.mp h).1⟩
/-- and the second one of every barrier. -/
def tokB : Dev nD ↪ GSem nD τ sig × ℕ × Bool :=
  ⟨fun c => (barCell c, 0, true), fun a b h => (Prod.ext_iff.mp (kcell_injective (show kcell (a, none) = kcell (b, none) from (Prod.ext_iff.mp h).1))).1⟩
def ringToks : Finset (GSem nD τ sig × ℕ × Bool) := Finset.univ.map tokA ∪ Finset.univ.map tokB

theorem toks_disjoint : Disjoint (Finset.univ.map tokA) (Finset.univ.map tokB) := by
  rw [Finset.disjoint_left]
  intro a ha hb
  obtain ⟨x, -, rfl⟩ := Finset.mem_map.mp ha
  obtain ⟨y, -, h⟩ := Finset.mem_map.mp hb
  have : true = false := congrArg (fun t : GSem nD τ sig × ℕ × Bool => t.2.2) h
  cases this

section Deal
variable (I : Dev nD → Ins F)

/-- The tokens of device `c`'s own cells. -/
def toks (c : Dev nD) : PP F :=
  iprop((bigSep Finset.univ fun k : CI => dutyTok ER (kcell (c, k)) 0 false) ∗ dutyTok ER (barCell c) 0 true)

/-- What device `c` gets at the start. -/
def G (c : Dev nD) : PP F :=
  iprop((bigSep Finset.univ fun k : CI => roundState ER (rd I) (kcell (c, k)) 0)
    ∗ (bigSep Finset.univ fun k : CI => iprop(atPos ER (kcell (c, k)) 0 ∅ 0 ∗ reached ER (kcell (c, k)) 0)) ∗ toks c)

theorem fund_ring : BI.own (ER (initOf ringCells ringToks)) ⊢ (|==> bigSep Finset.univ (G I) : PP F) := by
  have hX (Φ : GSem nD τ sig → PP F) : bigSep ringCells Φ = bigSep Finset.univ fun c : Dev nD => bigSep Finset.univ fun k : CI => Φ (kcell (c, k)) := by
    unfold ringCells; rw [BI.bigSep_map, BI.bigSep_univ_prod]; rfl
  have hT : bigSep ringToks (fun x => (dutyTok ER x.1 x.2.1 x.2.2 : PP F)) = bigSep Finset.univ fun c : Dev nD => toks c := by
    unfold ringToks toks
    rw [BI.bigSep_union toks_disjoint, BI.bigSep_map, BI.bigSep_map, BI.bigSep_univ_prod, BI.bigSep_sep']; rfl
  iintro HX
  imod (Rounds.fund ER (rd I) ringCells ringToks) $$ HX with ⟨Hst, Hr, Hat, Htok⟩
  imodintro
  ihave Hst' := (Entails.of_eq (hX fun g => roundState ER (rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [BI.bigSep_sep']
  isplitl [Hst']; · iexact Hst'
  isplitl [Hat' Hr']
  · isplitl [Hat']; · iexact Hat'
    iexact Hr'
  iexact Htok'

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k => iprop(∃ κ : ℕ, cellInv ER (rd I) κ (kcell (c, k))))
          ∗ (bigSep Finset.univ fun k => iprop(atPos ER (kcell (c, k)) 0 ∅ 0 ∗ reached ER (kcell (c, k)) 0)) ∗ toks c) := by
  have e : iprop((bigSep Finset.univ fun k : CI => semVal (kcell (c, k)) 0) ∗ bigSep Finset.univ fun k : CI => roundState ER (rd I) (kcell (c, k)) 0)
      ⊢ (|={Set.univ}=> bigSep Finset.univ fun k => iprop(∃ κ : ℕ, cellInv ER (rd I) κ (kcell (c, k))) : PP F) := by
    rw [← BI.bigSep_sep']
    exact (bigSep_mono fun k _ => (Rounds.body_intro ER (rd I) (kcell (c, k))).trans inv_alloc).trans (bigSep_fupd _ _)
  unfold G
  iintro ⟨Hos, Hus, Hst, Hat, Htok⟩
  ihave Hv := (sems_eq (F := F) c) $$ [Hos Hus]
  · isplitl [Hos]; · iexact Hos
    iexact Hus
  imod e $$ [Hv Hst] with Hinv
  · isplitl [Hv]; · iexact Hv
    iexact Hst
  imodintro
  isplitl [Hinv]; · iexact Hinv
  isplitl [Hat]; · iexact Hat
  iexact Htok

/-- What all know, but for the levels. -/
def known (K : Dev nD × CI → ℕ) : PP F :=
  iprop((bigSep Finset.univ fun ck : Dev nD × CI => cellInv ER (rd I) (K ck) (kcell ck)) ∗ bigSep Finset.univ fun ck : Dev nD × CI => reached ER (kcell ck) 0)

instance known_persistent (K : Dev nD × CI → ℕ) : BI.Persistent (known I K : PP F) := by unfold known; infer_instance

/-- The tokens that device `c` pays with; -/
def payToks (c : Dev nD) : PP F :=
  iprop(dutyTok ER (barCell (lft c)) 0 true ∗ dutyTok ER (barCell (rgt c)) 0 false
    ∗ (bigSep Finset.univ fun x => dutyTok ER (sendCell c x) 0 false) ∗ bigSep Finset.univ fun x => dutyTok ER (recvCell (dstD c x) x) 0 false)
/-- its positions. -/
def places (c : Dev nD) : PP F :=
  iprop(atPos ER (barCell c) 0 ∅ 0 ∗ (bigSep Finset.univ fun x => atPos ER (sendCell c x) 0 ∅ 0) ∗ bigSep Finset.univ fun x => atPos ER (recvCell c x) 0 ∅ 0)
def G' (c : Dev nD) : PP F := iprop(∃ K, known I K ∗ payToks c ∗ places c)

/-- A transfer, seen from where it goes. -/
def turn : Dev nD × Tr ≃ Dev nD × Tr :=
  ⟨fun p => (dstD p.1 p.2, p.2), fun p => (srcD p.1 p.2, p.2), fun p => Prod.ext (srcD_dstD p.1 p.2) rfl, fun p => Prod.ext (dstD_srcD p.1 p.2) rfl⟩

/-- The tokens go to those that pay with them. -/
theorem toks_around : (bigSep Finset.univ fun c : Dev nD => (toks c : PP F)) ⊢ bigSep Finset.univ fun c : Dev nD => payToks c := by
  have hr : (bigSep Finset.univ fun c : Dev nD => bigSep Finset.univ fun x : Tr => (dutyTok ER (recvCell c x) 0 false : PP F))
      = bigSep Finset.univ fun c : Dev nD => bigSep Finset.univ fun x : Tr => (dutyTok ER (recvCell (dstD c x) x) 0 false : PP F) := by
    rw [← BI.bigSep_univ_prod (fun p : Dev nD × Tr => (dutyTok ER (recvCell p.1 p.2) 0 false : PP F)),
      ← BI.bigSep_univ_prod (fun p : Dev nD × Tr => (dutyTok ER (recvCell (dstD p.1 p.2) p.2) 0 false : PP F)), BI.bigSep_univ_equiv turn]
    rfl
  have e : (fun c : Dev nD => (toks c : PP F)) = fun c => iprop((dutyTok ER (barCell c) 0 false
      ∗ (bigSep Finset.univ fun x => dutyTok ER (sendCell c x) 0 false) ∗ bigSep Finset.univ fun x => dutyTok ER (recvCell c x) 0 false) ∗ dutyTok ER (barCell c) 0 true) := by
    funext c; unfold toks; rw [all_cells]; rfl
  rw [e]
  unfold payToks
  rw [BI.bigSep_sep', BI.bigSep_sep', BI.bigSep_sep', BI.bigSep_sep', BI.bigSep_sep', BI.bigSep_sep', hr,
    BI.bigSep_univ_equiv ring (fun c : Dev nD => (dutyTok ER (barCell c) 0 false : PP F)),
    BI.bigSep_univ_equiv ring.symm (fun c : Dev nD => (dutyTok ER (barCell c) 0 true : PP F))]
  iintro ⟨⟨H1, H2, H3⟩, H4⟩
  isplitl [H4]; · iexact H4
  isplitl [H1]; · iexact H1
  isplitl [H2]; · iexact H2
  iexact H3

theorem with_known {J : Type} [DecidableEq J] {S : Finset J} {R : PP F} [BI.Persistent R] {Φ Ψ : J → PP F}
    (h : ∀ i ∈ S, iprop(R ∗ Φ i) ⊢ Ψ i) : iprop(R ∗ bigSep S Φ) ⊢ bigSep S Ψ :=
  (Laws.sep_mono_left (BI.bigSep_of_persistent S R)).trans (by rw [← BI.bigSep_sep']; exact bigSep_mono h)

theorem regroup :
    (bigSep Finset.univ fun c : Dev nD => iprop((bigSep Finset.univ fun k => iprop(∃ κ : ℕ, cellInv ER (rd I) κ (kcell (c, k))))
          ∗ (bigSep Finset.univ fun k => iprop(atPos ER (kcell (c, k)) 0 ∅ 0 ∗ reached ER (kcell (c, k)) 0)) ∗ toks c) : PP F)
      ⊢ bigSep Finset.univ (G' I) := by
  rw [BI.bigSep_sep', BI.bigSep_sep', ← BI.bigSep_univ_prod (fun ck : Dev nD × CI => iprop(∃ κ : ℕ, cellInv ER (rd I) κ (kcell ck))),
    bigSep_congr (s := Finset.univ) (fun (c : Dev nD) _ => BI.bigSep_sep' Finset.univ (fun k : CI => (atPos ER (kcell (c, k)) 0 ∅ 0 : PP F)) (fun k => reached ER (kcell (c, k)) 0)),
    BI.bigSep_sep', ← BI.bigSep_univ_prod (fun ck : Dev nD × CI => (reached ER (kcell ck) 0 : PP F))]
  have e : (fun c : Dev nD => bigSep Finset.univ fun k : CI => (atPos ER (kcell (c, k)) 0 ∅ 0 : PP F)) = places := by
    funext c; rw [all_cells]; rfl
  rw [e]
  iintro ⟨HI, ⟨Hat, #HR⟩, Htok⟩
  ihave HK := (BI.bigSep_exists_pi Finset.univ (fun (ck : Dev nD × CI) (κ : ℕ) => (cellInv ER (rd I) κ (kcell ck) : PP F))) $$ HI
  icases HK with ⟨%K, #HI⟩
  ihave Htk := (toks_around (F := F)) $$ Htok
  have h : ∀ c ∈ (Finset.univ : Finset (Dev nD)), iprop(known I K ∗ payToks c ∗ places c) ⊢ G' I c := fun c _ => by
    unfold G'; iintro H; iexists K; iexact H
  iapply (with_known (R := known I K) h)
  isplitr
  · unfold known; isplitl; · iexact HI
    iexact HR
  · rw [BI.bigSep_sep']
    isplitl [Htk]; · iexact Htk
    iexact Hat

/-- All semaphores are put to use at once. -/
theorem glob : (bigSep Finset.univ fun c => iprop(Pipeline.ownSems0 (Ix := Unit) (Name := ℕ) (U := UU) (Lvl := ℕ) (Val := Elt F) (τ := τ) osem c ∗ unscopedSems0 c ∗ G I c) : PP F)
    ⊢ |={Set.univ}=> bigSep Finset.univ (G' I) :=
  ((bigSep_mono fun c _ => core_alloc I c).trans (bigSep_fupd _ _)).trans (BI.fupd_mono (regroup I))

end Deal

/-! ## What is owed at the start -/

theorem recv_ne_bar (x : Tr) : (SemLoc.dma (recvSem x) : SemLoc sig) ≠ .reg barS := nofun

theorem O₀_pos {c : Dev nD} {g : GSem nD τ sig} {u : Unit} (h : 0 < O₀ c g u) :
    (∃ x, g = recvCell (dstD c x) x) ∨ g = barCell (rgt c) ∨ g = barCell (lft c) := by
  unfold O₀ at h
  rw [Pi.add_apply, Finsupp.add_apply, Pi.add_apply, Finsupp.add_apply] at h
  by_cases h1 : 0 < owing c (fun _ => .ready) g u
  · obtain ⟨x, -, hx⟩ := owing_pos h1; exact Or.inl ⟨x, hx⟩
  · refine Or.inr ?_
    rw [tallyAt_apply, tallyAt_apply] at h
    by_contra hn
    rw [if_neg fun h' => hn (Or.inl h'.1), if_neg fun h' => hn (Or.inr h'.1)] at h
    omega

theorem owing_bar (d c : Dev nD) : owing d (fun _ => .ready) (barCell c) () = 0 := by
  by_contra h
  obtain ⟨x, -, hx⟩ := owing_pos (Nat.pos_of_ne_zero h)
  exact recv_ne_bar x (congrArg Prod.snd hx).symm

theorem owing_recv (d c : Dev nD) (x : Tr) : owing d (fun _ => .ready) (recvCell c x) () = if d = srcD c x then N else 0 := by
  unfold owing
  rw [Finset.filter_true_of_mem (fun _ _ => rfl), Finset.sum_apply, Finsupp.finset_sum_apply, Finset.sum_eq_single x]
  · rw [tallyAt_apply]
    by_cases h : d = srcD c x
    · subst h; rw [dstD_srcD, if_pos ⟨rfl, rfl⟩, if_pos rfl]
    · rw [if_neg h, if_neg]
      rintro ⟨h1, -⟩
      have h2 : c = dstD d x := congrArg (fun g : GSem nD τ sig => g.1.1) h1
      exact h (by rw [h2, srcD_dstD])
  · intro y _ hy
    rw [tallyAt_apply, if_neg]
    rintro ⟨h1, -⟩
    have h2 : csem (some (true, x)) = csem (some (true, y)) := congrArg Prod.snd h1
    exact hy (Prod.ext_iff.mp (Option.some.inj (csem_injective h2))).2.symm
  · exact fun h => absurd (Finset.mem_univ x) h

theorem bar_inj {a b : Dev nD} (h : barCell a = barCell b) : a = b := congrArg (fun g : GSem nD τ sig => g.1.1) h

theorem owed_bar (d c : Dev nD) : O₀ d (barCell c) () = (if d = lft c then 1 else 0) + (if d = rgt c then 1 else 0) := by
  unfold O₀
  rw [Pi.add_apply, Finsupp.add_apply, Pi.add_apply, Finsupp.add_apply, owing_bar, tallyAt_apply, tallyAt_apply, Nat.zero_add]
  congr 1
  · by_cases h : d = lft c
    · subst h; rw [rgt_lft, if_pos ⟨rfl, rfl⟩, if_pos rfl]
    · rw [if_neg (fun ⟨h1, _⟩ => h (by rw [bar_inj h1, lft_rgt])), if_neg h]
  · by_cases h : d = rgt c
    · subst h; rw [lft_rgt, if_pos ⟨rfl, rfl⟩, if_pos rfl]
    · rw [if_neg (fun ⟨h1, _⟩ => h (by rw [bar_inj h1, rgt_lft])), if_neg h]

theorem owed_recv (d c : Dev nD) (x : Tr) : O₀ d (recvCell c x) () = if d = srcD c x then N else 0 := by
  unfold O₀
  rw [Pi.add_apply, Finsupp.add_apply, Pi.add_apply, Finsupp.add_apply, owing_recv,
    tallyAt_ne_cell (fun h => recv_ne_bar x (congrArg Prod.snd h)), tallyAt_ne_cell (fun h => recv_ne_bar x (congrArg Prod.snd h)), Finsupp.zero_apply, Nat.add_zero, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (lft c) fun _ => 1, Finset.sum_ite_eq' Finset.univ (rgt c) fun _ => 1, if_pos (Finset.mem_univ _), if_pos (Finset.mem_univ _)]
theorem launch_recv (c : Dev nD) (x : Tr) :
    tallyOn (recvCell c x) (launchCredit (Pipeline.owing O₀) 0 (recvCell c x)) = (tallyAt (recvCell c x) () N : CellTallies nD τ sig Unit) := by
  unfold tallyAt; refine congrArg _ (Finsupp.ext fun u => ?_); cases u
  rw [Pipeline.launchCredit_owing, Finsupp.single_eq_same, Finset.sum_congr rfl fun d _ => owed_recv d c x, Finset.sum_ite_eq' Finset.univ (srcD c x) fun _ => N,
    if_pos (Finset.mem_univ _)]

theorem creds (c : Dev nD) :
    (Pipeline.launchCred O₀ c : PP F) ⊢ iprop(cred (tallyAt (barCell c) () 2) ∗ bigSep Finset.univ fun x => cred (tallyAt (recvCell c x) () N)) := by
  unfold Pipeline.launchCred
  rw [bigSep_univ_at _ (SemLoc.reg barS), launch_bar]
  refine Laws.sep_mono_right ?_
  have hi : Function.Injective fun x : Tr => (SemLoc.dma (recvSem x) : SemLoc sig) := fun x y h =>
    (Prod.ext_iff.mp (Option.some.inj (csem_injective (show csem (some (true, x)) = csem (some (true, y)) from h)))).2
  have hs : Finset.univ.map ⟨fun x : Tr => (SemLoc.dma (recvSem x) : SemLoc sig), hi⟩ ⊆ Finset.univ.erase (SemLoc.reg barS) := fun s h => by
    obtain ⟨x, -, rfl⟩ := Finset.mem_map.mp h
    exact Finset.mem_erase.mpr ⟨recv_ne_bar x, Finset.mem_univ _⟩
  refine (BI.bigSep_subset hs).trans ?_
  rw [BI.bigSep_map]
  exact bigSep_mono fun x _ => Entails.of_eq (congrArg cred (launch_recv c x))

theorem mayWait_stage (c : Dev nD) (q : DmaSem sig) (hq : q.val < 6) (O : CellTallies nD τ sig Unit) (hO : O = O₀ c ∨ O = 0) :
    (levAts L lv : PP F) ⊢ MayWait (c : Thread nD τ) (.dma q) () O := by
  have hc : levOf (codeOf (.dma q)) = 0 := by
    show levOf ((codeNat q.val).map some) = 0
    unfold codeNat; rw [dif_neg fun h => by omega]; rfl
  rcases hO with rfl | rfl
  · refine MayOwe.of_cut (L := L) (lev := lv) 0 (fun p hp => by rw [Finset.mem_singleton.mp hp, L_tc]; exact Finset.mem_singleton_self _)
      (fun g u hg => by rcases O₀_pos hg with ⟨x, rfl⟩ | rfl | rfl <;> exact Finset.mem_singleton_self _)
      (fun p hp => by rw [Finset.mem_singleton.mp hp]; exact Nat.le_of_eq hc)
      (fun g u hg => by
        rcases O₀_pos hg with ⟨x, rfl⟩ | rfl | rfl
        · rw [lv_recv]; omega
        · rw [lv_bar]; decide
        · rw [lv_bar]; decide)
  · rw [MayWait_zero]; iintro -; iempintro

end Cert.KernelIdeal.Ring

end
-- ==== Proof.KernelIdeal.Run.lean ====
/-
  The run: every device starts, exchanges and ends, and the result holds the two ring sums.
-/
module

public import proofs.«01_k».proof.Proof.KernelIdeal.Deal
public import Idealize.ShloMosaic.Lib.Pipeline.CollectiveSegs

@[expose] public section

set_option maxRecDepth 20000

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F] [Named F]

open Idealize.ShloMosaic.Pipeline (Dat Cfg Window BodyObligation cellOf)

local notation "𝕄" => MT nD τ sig Unit (Elt F) ℕ UU ℕ

variable (m : (ℓ : Loc nD τ sig) → Buf (Elt F) ℓ) (ρ : Dev nD → PrngReg)

/-- What device `c` starts from. -/
def inputs (c : Dev nD) : Ins F :=
  insOf (m ((c : Thread nD τ).loc main_arg0)) (m ((c : Thread nD τ).loc main_arg1)) (m ((c : Thread nD τ).loc main_arg2))
    (m ((c : Thread nD τ).loc main_arg3)) (m ((c : Thread nD τ).loc main_arg4))

/-- What it ends with. -/
def result (c : Dev nD) : FVec F S2x128x512 .f32 := outOf (sumR (inputs m) 15 c) (sumL (inputs m) 15 c)

def start (c : Dev nD) : PP F := iprop(∃ K, ghost (inputs m) K c)

def dats (_ : Fin 1) (c : Dev nD) : Dat τ (Elt F) Unit ℕ UU ℕ cfg0 c where
  A w := m ((cfg0.win w).arr.view.loc (c : Thread nD τ))
  after w _ := match w with
    | ⟨0, _⟩ => m ((c : Thread nD τ).loc main_arg0)
    | ⟨1, _⟩ => m ((c : Thread nD τ).loc main_arg1)
    | ⟨2, _⟩ => m ((c : Thread nD τ).loc main_arg2)
    | ⟨3, _⟩ => m ((c : Thread nD τ).loc main_arg3)
    | ⟨4, _⟩ => m ((c : Thread nD τ).loc main_arg4)
    | ⟨5, _⟩ => result m c
  Φ t := match t with
    | ⟨0, _⟩ => iprop(start m c ∗ scratch c)
    | ⟨_ + 1, _⟩ => iprop(zeros c ∗ scratch c)
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The windows are the whole arrays -/

theorem index_0 : (fun a => (win0_0.index t₀) a * main_arg0.ty.shape.size a) = fun _ => 0 := funext fun a => by fin_cases a <;> decide
theorem index_1 : (fun a => (win0_1.index t₀) a * main_arg1.ty.shape.size a) = fun _ => 0 := funext fun a => by fin_cases a <;> decide
theorem index_2 : (fun a => (win0_2.index t₀) a * main_arg2.ty.shape.size a) = fun _ => 0 := funext fun a => by fin_cases a <;> decide
theorem index_3 : (fun a => (win0_3.index t₀) a * main_arg3.ty.shape.size a) = fun _ => 0 := funext fun a => by fin_cases a <;> decide
theorem index_4 : (fun a => (win0_4.index t₀) a * main_arg4.ty.shape.size a) = fun _ => 0 := funext fun a => by fin_cases a <;> decide
theorem index_5 : (fun a => (win0_5.index t₀) a * main_v1.ty.shape.size a) = fun _ => 0 := funext fun a => by fin_cases a <;> decide

theorem before_0 (c : Dev nD) (d) : (dats m 0 c).before (0 : Fin 6) t₀ d = m ((c : Thread nD τ).loc main_arg0) := by
  unfold Dat.before
  rw [if_pos (show (cfg0.win (0 : Fin 6)).fetch t₀ = true from by decide)]
  exact Memref.read_access_unit_zero (Elt F) main_arg0 index_0 (fun a => by fin_cases a <;> decide) _
theorem before_1 (c : Dev nD) (d) : (dats m 0 c).before (1 : Fin 6) t₀ d = m ((c : Thread nD τ).loc main_arg1) := by
  unfold Dat.before
  rw [if_pos (show (cfg0.win (1 : Fin 6)).fetch t₀ = true from by decide)]
  exact Memref.read_access_unit_zero (Elt F) main_arg1 index_1 (fun a => by fin_cases a <;> decide) _
theorem before_2 (c : Dev nD) (d) : (dats m 0 c).before (2 : Fin 6) t₀ d = m ((c : Thread nD τ).loc main_arg2) := by
  unfold Dat.before
  rw [if_pos (show (cfg0.win (2 : Fin 6)).fetch t₀ = true from by decide)]
  exact Memref.read_access_unit_zero (Elt F) main_arg2 index_2 (fun a => by fin_cases a <;> decide) _
theorem before_3 (c : Dev nD) (d) : (dats m 0 c).before (3 : Fin 6) t₀ d = m ((c : Thread nD τ).loc main_arg3) := by
  unfold Dat.before
  rw [if_pos (show (cfg0.win (3 : Fin 6)).fetch t₀ = true from by decide)]
  exact Memref.read_access_unit_zero (Elt F) main_arg3 index_3 (fun a => by fin_cases a <;> decide) _
theorem before_4 (c : Dev nD) (d) : (dats m 0 c).before (4 : Fin 6) t₀ d = m ((c : Thread nD τ).loc main_arg4) := by
  unfold Dat.before
  rw [if_pos (show (cfg0.win (4 : Fin 6)).fetch t₀ = true from by decide)]
  exact Memref.read_access_unit_zero (Elt F) main_arg4 index_4 (fun a => by fin_cases a <;> decide) _

/-! ## The body -/

/-- A staging buffer, as the body sees it. -/
abbrev inStage (c : Dev nD) (b : Ref sig .tc) (X : Buf (Elt F) (((c : Dev nD) : Thread nD τ).loc b)) : PP F :=
  owns (Ix := Unit) (Name := ℕ) (U := UU) (Lvl := ℕ) (c : Thread nD τ) (Memref.whole b) fullShare X

def bodyPre (c : Dev nD) : PP F :=
  iprop((start m c ∗ scratch c) ∗ (dats m 0 c).owesAt () t₀.castSucc
    ∗ (∃ d, inStage c cc0_stg0_0 ((dats m 0 c).before (0 : Fin 6) t₀ d)) ∗ (∃ d, inStage c cc0_stg1_0 ((dats m 0 c).before (1 : Fin 6) t₀ d))
    ∗ (∃ d, inStage c cc0_stg2_0 ((dats m 0 c).before (2 : Fin 6) t₀ d)) ∗ (∃ d, inStage c cc0_stg3_0 ((dats m 0 c).before (3 : Fin 6) t₀ d))
    ∗ (∃ d, inStage c cc0_stg4_0 ((dats m 0 c).before (4 : Fin 6) t₀ d)) ∗ (∃ d, inStage c cc0_stg5_0 ((dats m 0 c).before (5 : Fin 6) t₀ d)))
def bodyPost (c : Dev nD) : PP F :=
  iprop((zeros c ∗ scratch c) ∗ (dats m 0 c).owesAt () t₀.succ
    ∗ inStage c cc0_stg0_0 (m ((c : Thread nD τ).loc main_arg0)) ∗ inStage c cc0_stg1_0 (m ((c : Thread nD τ).loc main_arg1))
    ∗ inStage c cc0_stg2_0 (m ((c : Thread nD τ).loc main_arg2)) ∗ inStage c cc0_stg3_0 (m ((c : Thread nD τ).loc main_arg3))
    ∗ inStage c cc0_stg4_0 (m ((c : Thread nD τ).loc main_arg4)) ∗ inStage c cc0_stg5_0 (result m c))

theorem body_runs (c : Dev nD) : bodyPre m c ⊢ runs c (bodyT (Memref.whole cc0_stg0_0) (Memref.whole cc0_stg1_0) (Memref.whole cc0_stg2_0)
    (Memref.whole cc0_stg3_0) (Memref.whole cc0_stg4_0) (Memref.whole cc0_stg5_0)) (fun _ => bodyPost m c) := by
  unfold bodyPre start Dat.owesAt Pipeline.owesWithin
  iintro ⟨⟨⟨%K, Hg⟩, Hs⟩, ⟨%W, %hW, HO⟩, ⟨%d0, H0⟩, ⟨%d1, H1⟩, ⟨%d2, H2⟩, ⟨%d3, H3⟩, ⟨%d4, H4⟩, ⟨%d5, H5⟩⟩
  have e0 : inStage c cc0_stg0_0 ((dats m 0 c).before (0 : Fin 6) t₀ d0) ⊢ has c (Memref.whole cc0_stg0_0) fullShare (m ((c : Thread nD τ).loc main_arg0)) := by
    rw [before_0]
  have e1 : inStage c cc0_stg1_0 ((dats m 0 c).before (1 : Fin 6) t₀ d1) ⊢ has c (Memref.whole cc0_stg1_0) fullShare (m ((c : Thread nD τ).loc main_arg1)) := by
    rw [before_1]
  have e2 : inStage c cc0_stg2_0 ((dats m 0 c).before (2 : Fin 6) t₀ d2) ⊢ has c (Memref.whole cc0_stg2_0) fullShare (m ((c : Thread nD τ).loc main_arg2)) := by
    rw [before_2]
  have e3 : inStage c cc0_stg3_0 ((dats m 0 c).before (3 : Fin 6) t₀ d3) ⊢ has c (Memref.whole cc0_stg3_0) fullShare (m ((c : Thread nD τ).loc main_arg3)) := by
    rw [before_3]
  have e4 : inStage c cc0_stg4_0 ((dats m 0 c).before (4 : Fin 6) t₀ d4) ⊢ has c (Memref.whole cc0_stg4_0) fullShare (m ((c : Thread nD τ).loc main_arg4)) := by
    rw [before_4]
  have e5 : inStage c cc0_stg5_0 ((dats m 0 c).before (5 : Fin 6) t₀ d5) ⊢ held c (Memref.whole cc0_stg5_0) := by
    unfold held; iintro H; iexists _; iexact H
  ihave H0 := e0 $$ H0
  ihave H1 := e1 $$ H1
  ihave H2 := e2 $$ H2
  ihave H3 := e3 $$ H3
  ihave H4 := e4 $$ H4
  ihave H5 := e5 $$ H5
  iapply (body_at (inputs m) K c (Memref.whole cc0_stg0_0) (Memref.whole cc0_stg1_0) (Memref.whole cc0_stg2_0)
    (Memref.whole cc0_stg3_0) (Memref.whole cc0_stg4_0) (Memref.whole cc0_stg5_0) (X := m ((c : Thread nD τ).loc main_arg0))
    (Wq := m ((c : Thread nD τ).loc main_arg1)) (Wk := m ((c : Thread nD τ).loc main_arg2)) (Wv := m ((c : Thread nD τ).loc main_arg3))
    (Wo := m ((c : Thread nD τ).loc main_arg4)) rfl W (fun _ => bodyPost m c))
  isplitl [Hg Hs HO H0 H1 H2 H3 H4 H5]
  · isplitl [Hg]; · iexact Hg
    isplitl [Hs]; · iexact Hs
    isplitl [HO]; · iexact HO
    isplitl [H0]; · iexact H0
    isplitl [H1]; · iexact H1
    isplitl [H2]; · iexact H2
    isplitl [H3]; · iexact H3
    isplitl [H4]; · iexact H4
    iexact H5
  · iintro ⟨Hz, Hs, ⟨%W', HO⟩, H0, H1, H2, H3, H4, H5⟩
    unfold bodyPost Dat.owesAt Pipeline.owesWithin
    isplitl [Hz Hs]
    · isplitl [Hz]; · iexact Hz
      iexact Hs
    isplitl [HO]
    · iexists W'
      isplitr
      · ipureintro; exact fun _ _ => Or.inl trivial
      · iexact HO
    isplitl [H0]; · iexact H0
    isplitl [H1]; · iexact H1
    isplitl [H2]; · iexact H2
    isplitl [H3]; · iexact H3
    isplitl [H4]; · iexact H4
    iexact H5

theorem body_obligation (c : Dev nD) : BodyObligation (dats (F := F) m 0 c) (defs₀ (F := F)) Variants.none () Set.univ := fun t => by
  rw [fin_N t]
  rw [all_windows, all_windows]
  have e := body_eq (F := F) (Memref.whole cc0_stg0_0) (Memref.isWhole_whole _) (Memref.whole cc0_stg1_0) (Memref.isWhole_whole _) (Memref.whole cc0_stg2_0)
    (Memref.isWhole_whole _) (Memref.whole cc0_stg3_0) (Memref.isWhole_whole _) (Memref.whole cc0_stg4_0) (Memref.isWhole_whole _) (Memref.whole cc0_stg5_0) (Memref.isWhole_whole _)
  have h := body_runs m c
  rw [← e] at h
  exact h

/-! ## The launch -/

def u₀ : UU := (initOf (Pipeline.cells cfgs cellOf_inj) (Pipeline.launchToks cfgs cellOf_inj), initOf ringCells ringToks)

theorem share_eq (c : Dev nD) (w : Fin cfg0.W) : (dats m 0 c).share w = fullShare := by unfold Dat.share; split <;> rfl

theorem start_intro (c : Dev nD) :
    iprop(Pipeline.unscopedRestP (Ix := Unit) (Name := ℕ) (U := UU) (Lvl := ℕ) (Val := Elt F) Pipeline.Prefetch.none cfg0.spec c (fun b => m ((c : Thread nD τ).loc b))
        ∗ levAts L lv ∗ Pipeline.launchCred O₀ c ∗ prngReg c (ρ c) ∗ G' (inputs m) c)
      ⊢ |={Set.univ}=> iprop(start m c ∗ emp) := by
  iintro ⟨-, Hlev, Hcr, -, HG⟩
  ihave Hc := (creds (F := F) c) $$ Hcr
  icases Hc with ⟨H1, HN⟩
  imodintro
  unfold start G' known payToks places
  icases HG with ⟨%K, ⟨HI, HR⟩, ⟨HtL, HtR, Hts, Htr⟩, ⟨Hab, Has, Har⟩⟩
  isplitl
  · iexists K
    unfold ghost recs hand
    isplitl [HI HR Hlev]
    · isplitl [HI]; · iexact HI
      isplitl [HR]; · iexact HR
      iexact Hlev
    isplitl [HtL HtR Hab]
    · isplitl [HtL]; · iexact HtL
      isplitl [HtR]; · iexact HtR
      iexact Hab
    isplitl [H1]; · iexact H1
    rw [BI.bigSep_sep', BI.bigSep_sep', BI.bigSep_sep', BI.bigSep_sep']
    isplitl [Hts Htr Has]
    · isplitl [Hts]; · iexact Hts
      isplitl [Htr]; · iexact Htr
      iexact Has
    isplitl [HN]; · iexact HN
    iexact Har
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl]
  iintro ⟨Hs, -, Hr⟩
  isplitl [Hs]; · iexact Hs
  iapply (rest_scratch (F := F) c)
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(zeros c ∗ scratch c) from rfl]
  iintro ⟨Hz, Hs⟩
  ihave Hz := (zeros_exit (F := F) c) $$ Hz
  icases Hz with ⟨Hu, Ho⟩
  isplitl [Hu]; · iexact Hu
  isplitl [Ho]; · iexact Ho
  iapply (scratch_rest (F := F) c)
  iexact Hs

theorem waits (c : Dev nD) : (levAts L lv : PP F) ⊢ Pipeline.cellsWaits cfgs (dats m) () 0 c :=
  Pipeline.cellsWaits_intro cfgs (dats m) () 0 c fun w s t =>
    mayWait_stage c _ (window_sem_lt w s) _ (by
      rcases t with ⟨_ | _, ht⟩
      · exact Or.inl rfl
      · exact Or.inr rfl)

/-- What the arrays hold at the end. -/
def ends (c : Dev nD) (w : Fin cfg0.W) : Buf (Elt F) ((cfg0.win w).arr.view.loc (c : Thread nD τ)) := (dats m 0 c).arrAt w cfg0.N

theorem run_arrays : θ_run defs (onTc (τ := τ) (main (F := F))) (⟨m, fun _ => 0, ρ⟩ : MemSt nD τ sig (Elt F))
    (fun r => (∀ c : Dev nD, ∀ w : Fin cfg0.W, r.2.mem ((cfg0.win w).arr.view.loc (c : Thread nD τ)) = ends m c w) ∧ r.2.sem = fun _ => 0) :=
  Pipeline.θ_run_region_owing_glob_pf (fun p => (cfgs p).toPCfg) (fun p => (cfgs p).toPCfg_adm) (dats m) () cellOf_inj (0 : Fin 1)
    winFacts.to₀ ownSemFacts (Pipeline.PreFacts.none _) (embL : Emb (UR sig nD τ) 𝕄) defs₀ Variants.none m ρ main
    (hmain := fun _ => rfl)
    (hbody := body_obligation m) (hne := block_pos) (harr := arr_whole) (hstage := stage_whole) (hshare := share_eq m)
    (hdistinct := winFacts.arr_inj)
    (O₀ := O₀) (howed₀ := fun _ => rfl) (howedN := fun _ => rfl)
    (L := L) (lv := lv) (hL := L_of_ne) (hwaits := waits m)
    (G := G (inputs m)) (G' := G' (inputs m)) (u₀ := u₀)
    (hu₀ := by
      unfold u₀
      iintro Hu
      ihave H := (ownU_pair _ _) $$ Hu
      icases H with ⟨HP, HX⟩
      imod (fund_ring (inputs m)) $$ HX with HG
      imodintro
      isplitl [HP] <;> iassumption)
    (hglob := glob (inputs m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array ends as the body left it. -/
theorem ends_out (c : Dev nD) : ends m c (5 : Fin 6) = result m c := by
  have h : (win0_5.blk t₀).view.read (Elt F) (ends m c (5 : Fin 6)) = result m c := by
    unfold ends
    rw [show cfg0.N = (t₀ : Fin cfg0.N).val + 1 from rfl, (dats m 0 c).arrAt_succ (5 : Fin 6) t₀]
    rw [show (cfg0.win (5 : Fin 6)).flush t₀ = true from by decide, if_pos rfl]
    exact View.read_write_univ _ _
  rw [← h]
  exact (Memref.read_access_unit_zero (Elt F) main_v1 index_5 (fun a => by fin_cases a <;> decide) _).symm

/-- Every run ends; the results are the two ring sums, the arguments as they were, the semaphores zero. -/
theorem run_main : θ_run defs (onTc (τ := τ) (main (F := F))) (⟨m, fun _ => 0, ρ⟩ : MemSt nD τ sig (Elt F))
    (fun r => (∀ c : Dev nD, r.2.mem ((c : Thread nD τ).loc main_v1) = result m c
      ∧ r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) := by
  refine (θ_run defs _ _).mono (fun r h => ⟨fun c => ?_, h.2⟩) (run_arrays m ρ)
  exact ⟨(h.1 c (5 : Fin 6)).trans (ends_out m c), (h.1 c (0 : Fin 6)).trans ((dats m 0 c).arrAt_in (0 : Fin 6) rfl _),
    (h.1 c (1 : Fin 6)).trans ((dats m 0 c).arrAt_in (1 : Fin 6) rfl _), (h.1 c (2 : Fin 6)).trans ((dats m 0 c).arrAt_in (2 : Fin 6) rfl _),
    (h.1 c (3 : Fin 6)).trans ((dats m 0 c).arrAt_in (3 : Fin 6) rfl _), (h.1 c (4 : Fin 6)).trans ((dats m 0 c).arrAt_in (4 : Fin 6) rfl _)⟩

end Cert.KernelIdeal.Ring

end
-- ==== Proof.Frames.lean ====
/-
  The runs: all three programs end, leave their arguments as they were and every semaphore at zero;
  and the one constant that the idealized kernel names.
-/
module

public import proofs.«01_k».proof.Defs
public import proofs.«01_k».proof.Proof.Kernel.Run
public import proofs.«01_k».proof.Proof.KernelIdeal.Run
public import proofs.«01_k».proof.Proof.Gen.ReferenceIdeal
public import proofs.«01_k».proof.Proof.Gen.ReferenceIdeal.Run

@[expose] public section

noncomputable section

namespace Cert.Proof

open Idealize.ShloMosaic Idealize.SL.Sem

theorem frame_kernel : Cert.quiescent_Kernel := fun m ρ _ =>
  (θ_run Cert.Kernel.defs _ _).mono (fun _ h => ⟨fun c => (h.1 c).2, h.2⟩) (Cert.Kernel.Ring.run_main (F := Bits) m ρ)

theorem frame_ideal : Cert.quiescent_KernelIdeal := fun m ρ _ =>
  (θ_run Cert.KernelIdeal.defs _ _).mono (fun _ h => ⟨fun c => (h.1 c).2, h.2⟩) (Cert.KernelIdeal.Ring.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem names : Cert.preserves_Kernel_KernelIdeal :=
  IdealRules.named_const.statement Cert.KernelIdeal.κ "log_step" .f32 0xBE135D8E#32 (((-(Real.log 10000)) * (1 / 64) : ℝ) : EReal) rfl

end Cert.Proof

end
-- ==== Proof.Value.Maths.lean ====
/-
The attention of one sequence with the heads of some weights, as plain functions of extended reals: no vectors, no memory.
-/
module

public import Idealize.ShloMosaic.PureOps.Ideal
public import Mathlib.Algebra.BigOperators.Fin

@[expose] public section

noncomputable section

namespace Cert.Attn

open Idealize.ShloMosaic

/-- How far a position turns a column's pair: the position over `10000` to the power of the pair's first column over `64`. -/
def turn (i : Fin 128) (d : Fin 64) : EReal :=
  (((i.val : ℝ) * (1 / (10000 : ℝ) ^ (((2 * (d.val / 2) : ℕ) : ℝ) / 64)) : ℝ) : EReal)

/-- A row with the two columns of each pair swapped, the first one negated. -/
def swap (p : Fin 64 → EReal) (d : Fin 64) : EReal :=
  if h : d.val % 2 = 0 then -p ⟨d.val + 1, by omega⟩ else p ⟨d.val - 1, by omega⟩

/-- The rotary embedding of a head. -/
def rotary (p : Fin 128 → Fin 64 → EReal) (i : Fin 128) (d : Fin 64) : EReal :=
  p i d * Ideal.cos (turn i d) + swap (p i) d * Ideal.sin (turn i d)

/-- The scaled scores of a head. -/
def scores (q k : Fin 128 → Fin 64 → EReal) (i j : Fin 128) : EReal :=
  (∑ d, q i d * k j d) * Ideal.ofBits .f32 0x3E000000#32

/-- The exponentials of the scores less their row's maximum. -/
def exps (s : Fin 128 → Fin 128 → EReal) (i j : Fin 128) : EReal :=
  Ideal.exp (s i j - Finset.fold max (Ideal.ofBits .f32 0xFF800000#32) (fun x => s i x) Finset.univ)

/-- Each row over its sum. -/
def norm (e : Fin 128 → Fin 128 → EReal) (i j : Fin 128) : EReal :=
  Ideal.div (e i j) (∑ x, e i x)

/-- The attention of one head. -/
def attn (q k v : Fin 128 → Fin 64 → EReal) (i : Fin 128) (d : Fin 64) : EReal :=
  ∑ j, norm (exps (scores q k)) i j * v j d

/-- A sequence's projection to a head. -/
def proj (x : Fin 128 → Fin 512 → EReal) (w : Fin 512 → Fin 64 → EReal) (i : Fin 128) (d : Fin 64) : EReal :=
  ∑ e, x i e * w e d

/-- One head on one sequence. -/
def head (x : Fin 128 → Fin 512 → EReal) (wq wk wv : Fin 512 → Fin 64 → EReal) (i : Fin 128) (d : Fin 64) : EReal :=
  attn (rotary (proj x wq)) (rotary (proj x wk)) (proj x wv) i d

/-- Column `d` of the head that column `c` lies in. -/
def colOf {N : Nat} (hN : N % 64 = 0) (c : Fin N) (d : Fin 64) : Fin N := ⟨64 * (c.val / 64) + d.val, by omega⟩

/-- A column's place in its head. -/
def inHead {N : Nat} (c : Fin N) : Fin 64 := ⟨c.val % 64, Nat.mod_lt _ (by decide)⟩

/-- The head of a column of a head is that head. -/
theorem colOf_colOf {N : Nat} (hN : N % 64 = 0) (c : Fin N) (d d' : Fin 64) : colOf hN (colOf hN c d) d' = colOf hN c d' := by
  apply Fin.ext; simp only [colOf]; omega

/-- A column is at its own place of its head. -/
theorem colOf_inHead {N : Nat} (hN : N % 64 = 0) (c : Fin N) : colOf hN c (inHead c) = c := by
  apply Fin.ext; simp only [colOf, inHead]; omega

/-- A head's column `d` is at place `d`. -/
theorem inHead_colOf {N : Nat} (hN : N % 64 = 0) (c : Fin N) (d : Fin 64) : inHead (colOf hN c d) = d := by
  apply Fin.ext; simp only [colOf, inHead]; omega

/-- The heads' columns of the weights, in order, on one sequence, mapped by the output weight. -/
def share {N : Nat} (hN : N % 64 = 0) (x : Fin 128 → Fin 512 → EReal) (wq wk wv : Fin 512 → Fin N → EReal) (wo : Fin N → Fin 512 → EReal)
    (i : Fin 128) (n : Fin 512) : EReal :=
  ∑ c : Fin N, head x (fun e d => wq e (colOf hN c d)) (fun e d => wk e (colOf hN c d)) (fun e d => wv e (colOf hN c d)) i (inHead c) * wo c n

/-- Column `c` of part `d` of `16` equal parts. -/
def part (d : Fin 16) (c : Fin 256) : Fin 4096 := ⟨256 * d.val + c.val, by omega⟩

/-- A sum over all columns, part by part. -/
theorem sum_parts (f : Fin 4096 → EReal) : ∑ K, f K = ∑ d : Fin 16, ∑ c : Fin 256, f (part d c) := by
  rw [← Fintype.sum_prod_type']
  refine (Fintype.sum_equiv (finProdFinEquiv (m := 16) (n := 256)) _ _ fun x => ?_).symm
  congr 1
  apply Fin.ext
  simp only [part, finProdFinEquiv_apply_val]
  omega

/-- All heads together are the sum of `16` parts of four heads each. -/
theorem share_parts (x : Fin 128 → Fin 512 → EReal) (wq wk wv : Fin 512 → Fin 4096 → EReal) (wo : Fin 4096 → Fin 512 → EReal) (i : Fin 128) (n : Fin 512) :
    share (N := 4096) rfl x wq wk wv wo i n
      = ∑ d : Fin 16, share (N := 256) rfl x (fun e c => wq e (part d c)) (fun e c => wk e (part d c)) (fun e c => wv e (part d c)) (fun c => wo (part d c)) i n := by
  simp only [share]
  rw [sum_parts]
  refine Finset.sum_congr rfl fun d _ => Finset.sum_congr rfl fun c _ => ?_
  have h1 : ∀ t : Fin 64, colOf (N := 4096) rfl (part d c) t = part d (colOf (N := 256) rfl c t) := fun t => by
    apply Fin.ext; simp only [colOf, part]; omega
  have h2 : inHead (part d c) = inHead c := by
    apply Fin.ext; simp only [inHead, part]; omega
  simp only [h1, h2]

/-- A small number read from its word. -/
theorem sitofp_word (n : Nat) (h : n < 1024) : FloatOps.sitofp (F := Ideal) FTy.f32 (BitVec.ofNat 32 n) = ((n : ℝ) : EReal) := by
  have : (BitVec.ofNat 32 n).toInt = n := by
    rw [BitVec.toInt_eq_toNat_of_lt] <;> simp [BitVec.toNat_ofNat] <;> omega
  show (((BitVec.ofNat 32 n).toInt : ℝ) : EReal) = _
  rw [this]; simp

end Cert.Attn

end
-- ==== Proof.Value.Heads.lean ====
/-
A device's share at an index, at the extended reals: the heads.
-/
module

public import proofs.«01_k».proof.Proof.KernelIdeal.Steps
public import proofs.«01_k».proof.Proof.KernelIdeal.Sides
public import proofs.«01_k».proof.Proof.Value.Maths
public import Idealize.ShloMosaic.Lib.Pointwise

@[expose] public section

set_option maxRecDepth 20000

noncomputable section

namespace Cert.KernelIdeal.Ring

open Idealize.ShloMosaic
open Cert.KernelIdeal Cert.KernelIdeal.Facts₀ Cert.KernelIdeal.Facts

open Cert.Attn

/-- One head at an index. -/
theorem headOf_apply (q k v : FVec Ideal S128x64 .f32) (i : Fin 128) (d : Fin 64) :
    headOf q k v (ix2 i d) = attn (fun i d => q (ix2 i d)) (fun i d => k (ix2 i d)) (fun i d => v (ix2 i d)) i d := by
  pointwise [headOf, normOf, expsOf, scoresOf]
  rfl

/-- Row `i` of sequence `b` of a block of two. -/
def row (b : Fin 2) (i : Fin 128) : Fin 256 := ⟨128 * b.val + i.val, by omega⟩

/-- Sequence `b`'s rows of one head of a block, the head that column `c` lies in. -/
def headAt (q : FVec Ideal S256x256 .f32) (b : Fin 2) (c : Fin 256) (i : Fin 128) (d : Fin 64) : EReal :=
  q (ix2 (row b i) (colOf (N := 256) rfl c d))

/-- Two entries of a block at equal places. -/
theorem at_eq (q : FVec Ideal S256x256 .f32) {a a' b b' : Fin 256} (ha : a.val = a'.val) (hb : b.val = b'.val) : q (ix2 a b) = q (ix2 a' b') := by
  rw [Fin.ext ha, Fin.ext hb]

/-- The columns of a slice of a block are a head's. -/
theorem slice_eq (q : FVec Ideal S256x256 .f32) (s : FVec Ideal S128x64 .f32) (b : Fin 2) (c : Fin 256)
    (h : ∀ i d, s (ix2 i d) = q (ix2 (row b i) (colOf (N := 256) rfl c d))) : (fun i d => s (ix2 i d)) = headAt q b c :=
  funext fun i => funext fun d => h i d

/-- A head of slices of a block at an index. -/
theorem head_slices (q k v : FVec Ideal S256x256 .f32) (sq sk sv : FVec Ideal S128x64 .f32) (b : Fin 2) (c : Fin 256) (i : Fin 128) (d : Fin 64)
    (hd : d = inHead c)
    (hq : ∀ i d, sq (ix2 i d) = q (ix2 (row b i) (colOf (N := 256) rfl c d)))
    (hk : ∀ i d, sk (ix2 i d) = k (ix2 (row b i) (colOf (N := 256) rfl c d)))
    (hv : ∀ i d, sv (ix2 i d) = v (ix2 (row b i) (colOf (N := 256) rfl c d))) :
    headOf sq sk sv (ix2 i d) = attn (headAt q b c) (headAt k b c) (headAt v b c) i (inHead c) := by
  rw [headOf_apply, slice_eq q sq b c hq, slice_eq k sk b c hk, slice_eq v sv b c hv, hd]

/-- The heads of the first sequence at an index. -/
theorem headsE_apply (q k v : FVec Ideal S256x256 .f32) (i : Fin 128) (c : Fin 256) :
    headsE q k v (ix2 i c) = attn (headAt q 0 c) (headAt k 0 c) (headAt v 0 c) i (inHead c) := by
  pointwise [headsE]
  by_cases h0 : c.val < 64
  on_goal 1 => rw [dif_pos h0]
  on_goal 2 => rw [dif_neg h0]; by_cases h1 : c.val - 64 < 64
  on_goal 2 => rw [dif_pos h1]
  on_goal 3 => rw [dif_neg h1]; by_cases h2 : c.val - 64 - 64 < 64
  on_goal 3 => rw [dif_pos h2]
  on_goal 4 => rw [dif_neg h2]
  all_goals
    refine head_slices q k v _ _ _ 0 c i _ (Fin.ext (by simp only [inHead]; omega)) (fun i d => ?_) (fun i d => ?_) (fun i d => ?_)
  all_goals
    pointwise
    exact at_eq _ (by simp [row]) (by simp [colOf]; omega)

/-- The heads of the second sequence at an index. -/
theorem headsO_apply (q k v : FVec Ideal S256x256 .f32) (i : Fin 128) (c : Fin 256) :
    headsO q k v (ix2 i c) = attn (headAt q 1 c) (headAt k 1 c) (headAt v 1 c) i (inHead c) := by
  pointwise [headsO]
  by_cases h0 : c.val < 64
  on_goal 1 => rw [dif_pos h0]
  on_goal 2 => rw [dif_neg h0]; by_cases h1 : c.val - 64 < 64
  on_goal 2 => rw [dif_pos h1]
  on_goal 3 => rw [dif_neg h1]; by_cases h2 : c.val - 64 - 64 < 64
  on_goal 3 => rw [dif_pos h2]
  on_goal 4 => rw [dif_neg h2]
  all_goals
    refine head_slices q k v _ _ _ 1 c i _ (Fin.ext (by simp only [inHead]; omega)) (fun i d => ?_) (fun i d => ?_) (fun i d => ?_)
  all_goals
    pointwise
    exact at_eq _ (by simp [row]) (by simp [colOf]; omega)

/-- The heads of a block at an index. -/
theorem headsOf_apply (q k v : FVec Ideal S256x256 .f32) (b : Fin 2) (i : Fin 128) (c : Fin 256) :
    headsOf q k v (ix2 (row b i) c) = attn (headAt q b c) (headAt k b c) (headAt v b c) i (inHead c) := by
  fin_cases b
  · pointwise [headsOf]
    rw [dif_pos (by simp [row])]
    refine Eq.trans ?_ (headsE_apply q k v i c)
    exact congrArg (fun a => headsE q k v (ix2 a c)) (Fin.ext (by simp [row]))
  · pointwise [headsOf]
    rw [dif_neg (by simp [row])]
    refine Eq.trans ?_ (headsO_apply q k v i c)
    exact congrArg (fun a => headsO q k v (ix2 a c)) (Fin.ext (by simp [row]))

end Cert.KernelIdeal.Ring

end
-- ==== Proof.Value.Tables.lean ====
/-
The tables of the rotary embedding at an index, at the extended reals.
-/
module

public import proofs.«01_k».proof.Proof.Value.Heads

@[expose] public section

set_option maxRecDepth 20000

noncomputable section

namespace Cert.KernelIdeal.Ring

open Idealize.ShloMosaic
open Cert.KernelIdeal Cert.KernelIdeal.Facts₀ Cert.KernelIdeal.Facts

open Cert.Attn

/-- The minus one of the matrix of signs. -/
theorem ofBits_neg_one : Ideal.ofBits .f32 0xBF800000#32 = -1 := by
  have h : Ideal.ofBits .f32 0xBF800000#32 = ((-1 : ℝ) : EReal) := by
    simp [Ideal.ofBits, Ideal.ieee, -EReal.coe_mul]; try norm_num
  rw [h, EReal.coe_neg, EReal.coe_one]

/-- A choice by two equalities of words. -/
theorem select_and {α : Type} (X u v : BitVec 32) (a b : α) :
    Scalar.select (IntOp.andi (IntOp.cmpi .eq X 0#32) (IntOp.cmpi .eq u v)) a b = if X = 0#32 ∧ u = v then a else b := by
  have e : ∀ x y : BitVec 32, (x == y) = decide (x = y) := fun x y => beq_eq_decide ..
  simp only [Scalar.select, IntOp.andi, IntOp.cmpi]
  by_cases h : X = 0#32 <;> by_cases h' : u = v <;>
    simp only [h, h', and_self, and_true, and_false, true_and, false_and, if_true, if_false, e, decide_true, decide_false] <;> rfl

/-- A choice by an inequality and an equality of words. -/
theorem select_and_not {α : Type} (X u v : BitVec 32) (a b : α) :
    Scalar.select (IntOp.andi (IntOp.xori (IntOp.cmpi .eq X 0#32) 1#1) (IntOp.cmpi .eq u v)) a b = if X ≠ 0#32 ∧ u = v then a else b := by
  have e : ∀ x y : BitVec 32, (x == y) = decide (x = y) := fun x y => beq_eq_decide ..
  simp only [Scalar.select, IntOp.andi, IntOp.xori, IntOp.cmpi]
  by_cases h : X = 0#32 <;> by_cases h' : u = v <;>
    simp only [h, h', ne_eq, not_true, not_false_eq_true, and_self, and_true, and_false, true_and, false_and, if_true, if_false, e, decide_true, decide_false] <;> rfl

/-- The word of a number below `256` plus one. -/
theorem word_succ (r c : Fin 256) : (BitVec.ofNat 32 r.val = IntOp.addi (BitVec.ofNat 32 c.val) 1#32) ↔ r.val = c.val + 1 := by
  unfold IntOp.addi
  constructor
  · intro h
    have := congrArg BitVec.toNat h
    simp [BitVec.toNat_ofNat, BitVec.toNat_add] at this
    omega
  · intro h
    apply BitVec.eq_of_toNat_eq
    simp [BitVec.toNat_ofNat, BitVec.toNat_add]
    omega

/-- The word of a number from `1` to `255` less one. -/
theorem word_pred (r c : Fin 256) (hc : c.val ≠ 0) : (BitVec.ofNat 32 r.val = IntOp.subi (BitVec.ofNat 32 c.val) 1#32) ↔ r.val + 1 = c.val := by
  unfold IntOp.subi
  constructor
  · intro h
    have := congrArg BitVec.toNat h
    simp [BitVec.toNat_ofNat, BitVec.toNat_sub] at this
    omega
  · intro h
    apply BitVec.eq_of_toNat_eq
    simp [BitVec.toNat_ofNat, BitVec.toNat_sub]
    omega

/-- The sign matrix at an index: the first column of a pair takes the second's negative, the second the first. -/
theorem rotMat_apply (r c : Fin 256) :
    rotMat (F := Ideal) (ix2 r c)
      = if c.val % 2 = 0 then (if r.val = c.val + 1 then -1 else 0) else (if r.val + 1 = c.val then 1 else 0) := by
  pointwise [rotMat]
  rw [ofBits_neg_one, select_and, select_and_not]
  generalize hX : Scalar.select (IntOp.andi _ _) (IntOp.addi _ _) (IntOp.remsi _ _ _) = X
  have hX' : (X = 0#32) ↔ c.val % 2 = 0 := by
    rw [← hX]; clear hX; revert c; decide +kernel
  simp only [ne_eq, hX', word_succ]
  by_cases h : c.val % 2 = 0
  · simp [h]
  · simp [h, word_pred r c (by omega)]

/-- The named step of the exponents. -/
theorem log_step : Named.named (F := Ideal) (φ := .f32) κ "log_step" 0xBE135D8E#32 = ((-(Real.log 10000) * (1 / 64) : ℝ) : EReal) := by
  rfl

/-- The exponential of a number of steps is one over the power of the base. -/
theorem exp_step (n : Nat) :
    Real.exp ((n : ℝ) * (-(Real.log 10000) * (1 / 64))) = 1 / (10000 : ℝ) ^ ((n : ℝ) / 64) := by
  rw [Real.rpow_def_of_pos (by norm_num), one_div (Real.exp _), ← Real.exp_neg]
  congr 1; ring

/-- The angles at an index. -/
theorem angle_apply (i : Fin 128) (c : Fin 256) : angle (F := Ideal) (ix2 i c) = turn i (inHead c) := by
  pointwise [angle]
  generalize hw : IntOp.muli _ _ = w
  have hw' : w = BitVec.ofNat 32 (2 * (c.val % 64 / 2)) := by
    rw [← hw]; clear hw; revert c; decide +kernel
  rw [hw', sitofp_word _ (by omega), sitofp_word _ (by omega), log_step, ← EReal.coe_mul]
  show ((i.val : ℝ) : EReal) * ((Real.exp _ : ℝ) : EReal) = _
  rw [exp_step, ← EReal.coe_mul]
  rfl

/-- The cosines at an index. -/
theorem cosTab_apply (b : Fin 2) (i : Fin 128) (c : Fin 256) : cosTab (F := Ideal) (ix2 (row b i) c) = Ideal.cos (turn i (inHead c)) := by
  rw [← angle_apply]
  fin_cases b
  · pointwise [cosTab]
    rw [dif_pos (by simp [row])]
    exact congrArg (fun a => Ideal.cos (angle (F := Ideal) (ix2 a c))) (Fin.ext (by simp [row]))
  · pointwise [cosTab]
    rw [dif_neg (by simp [row])]
    exact congrArg (fun a => Ideal.cos (angle (F := Ideal) (ix2 a c))) (Fin.ext (by simp [row]))

/-- The sines at an index. -/
theorem sinTab_apply (b : Fin 2) (i : Fin 128) (c : Fin 256) : sinTab (F := Ideal) (ix2 (row b i) c) = Ideal.sin (turn i (inHead c)) := by
  rw [← angle_apply]
  fin_cases b
  · pointwise [sinTab]
    rw [dif_pos (by simp [row])]
    exact congrArg (fun a => Ideal.sin (angle (F := Ideal) (ix2 a c))) (Fin.ext (by simp [row]))
  · pointwise [sinTab]
    rw [dif_neg (by simp [row])]
    exact congrArg (fun a => Ideal.sin (angle (F := Ideal) (ix2 a c))) (Fin.ext (by simp [row]))

/-- A row times the sign matrix is the row with its pairs swapped. -/
theorem sum_rotMat (p : FVec Ideal S256x256 .f32) (r c : Fin 256) :
    (∑ x, p (ix2 r x) * rotMat (F := Ideal) (ix2 x c)) = swap (fun d => p (ix2 r (colOf (N := 256) rfl c d))) (inHead c) := by
  simp only [rotMat_apply]
  by_cases h : c.val % 2 = 0
  · rw [swap, dif_pos (by simp only [inHead]; omega), Finset.sum_eq_single (⟨c.val + 1, by omega⟩ : Fin 256)]
    · simp only [h, if_true, mul_neg, mul_one]
      exact congrArg Neg.neg (at_eq _ rfl (by simp only [colOf, inHead]; omega))
    · intro x _ hx
      have : x.val ≠ c.val + 1 := fun e => hx (Fin.ext e)
      simp [h, this]
    · simp
  · rw [swap, dif_neg (by simp only [inHead]; omega), Finset.sum_eq_single (⟨c.val - 1, by omega⟩ : Fin 256)]
    · rw [if_neg h, if_pos (by simp only []; omega), mul_one]
      exact at_eq _ rfl (by simp only [colOf, inHead]; omega)
    · intro x _ hx
      have : ¬ x.val + 1 = c.val := fun e => hx (Fin.ext (by simp only []; omega))
      simp [h, this]
    · simp

/-- The rotary embedding of a block at an index. -/
theorem rope_apply (p : FVec Ideal S256x256 .f32) (b : Fin 2) (i : Fin 128) (c : Fin 256) :
    rope p (ix2 (row b i) c) = rotary (headAt p b c) i (inHead c) := by
  pointwise [rope]
  rw [sum_rotMat, cosTab_apply, sinTab_apply]
  simp only [rotary, headAt, colOf_inHead]
  rfl

end Cert.KernelIdeal.Ring

end
-- ==== Proof.Value.Sums.lean ====
/-
A device's result at an index, at the extended reals: the shares of all devices, added.
-/
module

public import proofs.«01_k».proof.Proof.Value.Tables
public import proofs.«01_k».proof.Proof.KernelIdeal.Run

@[expose] public section

set_option maxRecDepth 20000

noncomputable section

namespace Cert.KernelIdeal.Ring

open Idealize.ShloMosaic
open Cert.KernelIdeal Cert.KernelIdeal.Facts₀ Cert.KernelIdeal.Facts

open Cert.Attn

/-- The projection of a block, a head's columns. -/
theorem projOf_apply (xe xo : FVec Ideal S128x512 .bf16) (w : FVec Ideal S512x256 .bf16) (b : Fin 2) (i : Fin 128) (c : Fin 256) :
    projOf (concatenate S256x512 0 [⟨S128x512, xe⟩, ⟨S128x512, xo⟩] concatenates_S128x512_S128x512_S256x512_d0) w (ix2 (row b i) c)
      = ∑ e, (if b = 0 then xe else xo) (ix2 i e) * w (ix2 e c) := by
  rcases (show b = 0 ∨ b = 1 by omega) with rfl | rfl
  · rw [if_pos rfl]
    pointwise [projOf]
    refine Finset.sum_congr rfl fun e _ => congrArg (· * w (ix2 e c)) ?_
    rw [dif_pos (by simp [row])]
    exact congrArg (fun a => xe (ix2 a e)) (Fin.ext (by simp [row]))
  · rw [if_neg (by decide)]
    pointwise [projOf]
    refine Finset.sum_congr rfl fun e _ => congrArg (· * w (ix2 e c)) ?_
    rw [dif_neg (by simp [row])]
    exact congrArg (fun a => xo (ix2 a e)) (Fin.ext (by simp [row]))

/-- A device's share at an index, either sequence. -/
theorem partialOf_apply (wq wk wv : FVec Ideal S512x256 .bf16) (wo : FVec Ideal S256x512 .bf16) (xe xo : FVec Ideal S128x512 .bf16)
    (b : Fin 2) (i : Fin 128) (n : Fin 512) :
    partialOf wq wk wv wo xe xo (ix2 (row b i) n)
      = share (N := 256) rfl (fun i e => (if b = 0 then xe else xo) (ix2 i e)) (fun e c => wq (ix2 e c)) (fun e c => wk (ix2 e c))
          (fun e c => wv (ix2 e c)) (fun c n => wo (ix2 c n)) i n := by
  have hp : ∀ (w : FVec Ideal S512x256 .bf16) (c : Fin 256),
      headAt (projOf (concatenate S256x512 0 [⟨S128x512, xe⟩, ⟨S128x512, xo⟩] concatenates_S128x512_S128x512_S256x512_d0) w) b c
        = proj (fun i e => (if b = 0 then xe else xo) (ix2 i e)) (fun e d => w (ix2 e (colOf (N := 256) rfl c d))) := fun w c => by
    funext i d
    rw [headAt, projOf_apply]; rfl
  have hr : ∀ (w : FVec Ideal S512x256 .bf16) (c : Fin 256),
      headAt (rope (projOf (concatenate S256x512 0 [⟨S128x512, xe⟩, ⟨S128x512, xo⟩] concatenates_S128x512_S128x512_S256x512_d0) w)) b c
        = rotary (proj (fun i e => (if b = 0 then xe else xo) (ix2 i e)) (fun e d => w (ix2 e (colOf (N := 256) rfl c d)))) := fun w c => by
    funext i d
    rw [headAt, rope_apply, hp, inHead_colOf]
    simp only [colOf_colOf]
  pointwise [partialOf]
  unfold share
  refine Finset.sum_congr rfl fun c _ => ?_
  rw [headsOf_apply, hr, hr, hp]
  rfl

/-! ## The travelling sums -/

variable (I : Dev nD → Ins Ideal)

/-- What device `d` adds to the result of device `s`'s first sequence; -/
def shareE (d s : Dev nD) (i : Fin 128) (n : Fin 512) : EReal :=
  share (N := 256) rfl (fun i e => (I s).xe (ix2 i e)) (fun e c => (I d).wq (ix2 e c)) (fun e c => (I d).wk (ix2 e c))
    (fun e c => (I d).wv (ix2 e c)) (fun c n => (I d).wo (ix2 c n)) i n
/-- of its second one. -/
def shareO (d s : Dev nD) (i : Fin 128) (n : Fin 512) : EReal :=
  share (N := 256) rfl (fun i e => (I s).xo (ix2 i e)) (fun e c => (I d).wq (ix2 e c)) (fun e c => (I d).wk (ix2 e c))
    (fun e c => (I d).wv (ix2 e c)) (fun c n => (I d).wo (ix2 c n)) i n

/-- The first half of the rows at an index. -/
theorem firstOf_apply (p : FVec Ideal S256x512 .f32) (i : Fin 128) (n : Fin 512) : firstOf p (ix2 i n) = p (ix2 (row 0 i) n) := by
  pointwise [firstOf]
  exact congrArg (fun a => p (ix2 a n)) (Fin.ext (by simp [row]))

/-- The second half of the rows at an index. -/
theorem secondOf_apply (p : FVec Ideal S256x512 .f32) (i : Fin 128) (n : Fin 512) : secondOf p (ix2 i n) = p (ix2 (row 1 i) n) := by
  pointwise [secondOf]
  exact congrArg (fun a => p (ix2 a n)) (Fin.ext (by simp [row]))

/-- A share of the first sequence of the device `h` to the left. -/
theorem first_prod (h : ℕ) (c : Dev nD) (i : Fin 128) (n : Fin 512) : firstOf (prodOf I h c) (ix2 i n) = shareE I c (lftN h c) i n := by
  rw [firstOf_apply, prodOf, partialOf_apply]; rfl

/-- A share of the second sequence of the device `h` to the right. -/
theorem second_prod (h : ℕ) (c : Dev nD) (i : Fin 128) (n : Fin 512) : secondOf (prodOf I h c) (ix2 i n) = shareO I c (rgtN h c) i n := by
  rw [secondOf_apply, prodOf, partialOf_apply]; rfl

/-- Sixteen steps are the whole way round. -/
theorem lftN_round : ∀ c : Dev nD, lftN 16 c = c := by decide
/-- Sixteen steps to the right are the whole way round. -/
theorem rgtN_round : ∀ c : Dev nD, rgtN 16 c = c := by decide

/-- What a device adds, at its step `h`, to the sum that travels to the right. -/
theorem payR_apply (h : ℕ) (hh : h ≤ 16) (c : Dev nD) (i : Fin 128) (n : Fin 512) : payR I h c (ix2 i n) = shareE I c (lftN h c) i n := by
  unfold payR
  by_cases h16 : h < 16
  · rw [if_pos h16, first_prod]
  · rw [if_neg h16]
    obtain rfl : h = 16 := by omega
    rw [lftN_round]
    pointwise [widen, narrow]
    rw [first_prod, lftN_zero]

/-- What a device adds, at its step `h`, to the sum that travels to the left. -/
theorem payL_apply (h : ℕ) (hh : h ≤ 16) (c : Dev nD) (i : Fin 128) (n : Fin 512) : payL I h c (ix2 i n) = shareO I c (rgtN h c) i n := by
  unfold payL
  by_cases h16 : h < 16
  · rw [if_pos h16, second_prod]
  · rw [if_neg h16]
    obtain rfl : h = 16 := by omega
    rw [rgtN_round]
    pointwise [widen, narrow]
    rw [second_prod, rgtN_zero]

/-- The sum that device `c` sends to the right as number `t` is what the devices it has passed add to its sequence. -/
theorem sumR_apply (t : ℕ) (ht : t ≤ 15) (c : Dev nD) (i : Fin 128) (n : Fin 512) :
    sumR I t c (ix2 i n) = ∑ k ∈ Finset.range (t + 1), shareE I (lftN k c) (lftN (t + 1) c) i n := by
  induction t generalizing c with
  | zero =>
    rw [Finset.sum_range_one]
    show narrow (firstOf (prodOf I 1 c)) (ix2 i n) = _
    pointwise [narrow]
    rw [first_prod, lftN_zero]
  | succ t ih =>
    show addS (sumR I t (lft c)) (payR I (t + 2) c) (ix2 i n) = _
    pointwise [addS, narrow, widen]
    rw [ih (by omega), payR_apply I (t + 2) (by omega), Finset.sum_range_succ' _ (t + 1)]
    rfl

/-- The same for the sums that travel to the left. -/
theorem sumL_apply (t : ℕ) (ht : t ≤ 15) (c : Dev nD) (i : Fin 128) (n : Fin 512) :
    sumL I t c (ix2 i n) = ∑ k ∈ Finset.range (t + 1), shareO I (rgtN k c) (rgtN (t + 1) c) i n := by
  induction t generalizing c with
  | zero =>
    rw [Finset.sum_range_one]
    show narrow (secondOf (prodOf I 1 c)) (ix2 i n) = _
    pointwise [narrow]
    rw [second_prod, rgtN_zero]
  | succ t ih =>
    show addS (sumL I t (rgt c)) (payL I (t + 2) c) (ix2 i n) = _
    pointwise [addS, narrow, widen]
    rw [ih (by omega), payL_apply I (t + 2) (by omega), Finset.sum_range_succ' _ (t + 1)]
    rfl

/-- The last sums are of all devices' shares. -/
theorem sumR_all (c : Dev nD) (i : Fin 128) (n : Fin 512) : sumR I 15 c (ix2 i n) = ∑ d : Dev nD, shareE I d c i n := by
  rw [sumR_apply I 15 le_rfl, lftN_round, Finset.sum_range]
  exact (seqL_bij c).sum_comp (fun d => shareE I d c i n)

/-- The same for the sums that travel to the left. -/
theorem sumL_all (c : Dev nD) (i : Fin 128) (n : Fin 512) : sumL I 15 c (ix2 i n) = ∑ d : Dev nD, shareO I d c i n := by
  rw [sumL_apply I 15 le_rfl, rgtN_round, Finset.sum_range]
  exact (seqR_bij c).sum_comp (fun d => shareO I d c i n)

end Cert.KernelIdeal.Ring

end
-- ==== Proof.Value.Reference.lean ====
/-
The reference's result at an index, at the extended reals.
-/
module

public import proofs.«01_k».proof.Proof.Value.Maths
public import proofs.«01_k».proof.Proof.Gen.ReferenceIdeal.Run
public import Idealize.ShloMosaic.Lib.Pointwise

@[expose] public section

set_option maxRecDepth 20000

noncomputable section

namespace Cert.ReferenceIdeal.Value

open Cert.ReferenceIdeal Cert.ReferenceIdeal.Gen Idealize.ShloMosaic Idealize.ShloMosaic.TcCoe
open Cert.Attn

/-! ## The reference in steps -/

/-- How far one position turns each pair. -/
def freq : FVec Ideal S32 .f32 :=
  Host.divf (broadcastInDim S32 ![] bcast_S_S32 (constant S_ .f32 0x3F800000#32))
    (Host.powf (broadcastInDim S32 ![] bcast_S_S32 (constant S_ .f32 0x461C4000#32))
      (Host.divf (sitofp .f32 (addi (broadcastInDim S32 ![] bcast_S_S32 (constantI S_ 32 0#32))
          (muli (broadcastInDim S32 ![] bcast_S_S32 (constantI S_ 32 2#32)) (iotaInDim S32 32 0))))
        (broadcastInDim S32 ![] bcast_S_S32 (constant S_ .f32 0x42800000#32))))

/-- How far each position turns each pair. -/
def angles : FVec Ideal S128x32 .f32 :=
  mulf (broadcastInDim S128x32 ![0, 1] bcast_S128x1_S128x32_0_1 (sitofp .f32 (broadcastInDim S128x1 ![0] bcast_S128_S128x1_0 (iotaInDim S128 32 0))))
    (broadcastInDim S128x32 ![0, 1] bcast_S1x32_S128x32_0_1 (broadcastInDim S1x32 ![1] bcast_S32_S1x32_1 freq))

/-- A table of pairs, once per column. -/
def twice (a : FVec Ideal S128x32 .f32) : FVec Ideal S128x64 .f32 :=
  shapeCast S128x64 (broadcastInDim S128x32x2 ![0, 1] bcast_S128x32_S128x32x2_0_1 a) shapeCasts_S128x32x2_S128x64

/-- A table, once per sequence and head. -/
def table (a : FVec Ideal S128x64 .f32) : FVec Ideal S32x128x64x64 .f32 :=
  broadcastInDim S32x128x64x64 ![0, 1, 2, 3] bcast_S1x128x1x64_S32x128x64x64_0_1_2_3 (broadcastInDim S1x128x1x64 ![1, 3] bcast_S128x64_S1x128x1x64_1_3 a)

/-- A projection, head by head. -/
def projT (x : FVec Ideal S32x128x512 .f32) (w : FVec Ideal S512x4096 .f32) : FVec Ideal S32x128x64x64 .f32 :=
  shapeCast S32x128x64x64 (Host.dotGeneral dot_S32x128x512_S512x4096_S32x128x4096_2_0_01_1_n_n none x w) shapeCasts_S32x128x4096_S32x128x64x64

/-- The pairs of every row. -/
def pairs (t : FVec Ideal S32x128x64x64 .f32) : FVec Ideal S32x128x64x32x2 .f32 :=
  shapeCast S32x128x64x32x2 t shapeCasts_S32x128x64x64_S32x128x64x32x2

/-- The second columns, negated. -/
def negSecond (t : FVec Ideal S32x128x64x64 .f32) : FVec Ideal S32x128x64x32x1 .f32 :=
  broadcastInDim S32x128x64x32x1 ![0, 1, 2, 3] bcast_S32x128x64x32_S32x128x64x32x1_0_1_2_3
    (Host.negf (shapeCast S32x128x64x32 (extractStridedSlice S32x128x64x32x1 ![0, 0, 0, 0, 1] (pairs t) slices_S32x128x64x32x2_S32x128x64x32x1_0_0_0_0_1)
      shapeCasts_S32x128x64x32x1_S32x128x64x32))

/-- The first columns. -/
def first (t : FVec Ideal S32x128x64x64 .f32) : FVec Ideal S32x128x64x32x1 .f32 :=
  broadcastInDim S32x128x64x32x1 ![0, 1, 2, 3] bcast_S32x128x64x32_S32x128x64x32x1_0_1_2_3
    (shapeCast S32x128x64x32 (extractStridedSlice S32x128x64x32x1 ![0, 0, 0, 0, 0] (pairs t) slices_S32x128x64x32x2_S32x128x64x32x1_0_0_0_0_0)
      shapeCasts_S32x128x64x32x1_S32x128x64x32)

/-- Every row with its pairs swapped. -/
def swapT (t : FVec Ideal S32x128x64x64 .f32) : FVec Ideal S32x128x64x64 .f32 :=
  shapeCast S32x128x64x64 (concatenate S32x128x64x32x2 4 [⟨S32x128x64x32x1, negSecond t⟩, ⟨S32x128x64x32x1, first t⟩]
    concatenates_S32x128x64x32x1_S32x128x64x32x1_S32x128x64x32x2_d4) shapeCasts_S32x128x64x32x2_S32x128x64x64

/-- The rotary embedding. -/
def rotT (t : FVec Ideal S32x128x64x64 .f32) : FVec Ideal S32x128x64x64 .f32 :=
  addf (mulf t (table (twice (Host.cos angles)))) (mulf (swapT t) (table (twice (Host.sin angles))))

/-- The scaled scores. -/
def scoresT (q k : FVec Ideal S32x128x64x64 .f32) : FVec Ideal S32x64x128x128 .f32 :=
  mulf (Host.dotGeneral dot_S32x128x64x64_S32x128x64x64_S32x64x128x128_3_3_1_1_02_02 none q k)
    (broadcastInDim S32x64x128x128 ![] bcast_S_S32x64x128x128 (constant S_ .f32 0x3E000000#32))

/-- A number per row, along the row. -/
def along (a : FVec Ideal S32x64x128 .f32) : FVec Ideal S32x64x128x128 .f32 :=
  broadcastInDim S32x64x128x128 ![0, 1, 2, 3] bcast_S32x64x128x1_S32x64x128x128_0_1_2_3
    (broadcastInDim S32x64x128x1 ![0, 1, 2] bcast_S32x64x128_S32x64x128x1_0_1_2 a)

/-- The exponentials of the scores less their row's maximum. -/
def expsT (s : FVec Ideal S32x64x128x128 .f32) : FVec Ideal S32x64x128x128 .f32 :=
  Host.exp (subf s (along (Host.reduce FloatOps.maximumf s (constant S_ .f32 0xFF800000#32) reducesTo_S32x64x128x128_S32x64x128_d3 h_S_)))

/-- Each row over its sum. -/
def normT (e : FVec Ideal S32x64x128x128 .f32) : FVec Ideal S32x64x128x128 .f32 :=
  Host.divf e (along (Host.reduceAdd e (constant S_ .f32 0x00000000#32) reducesTo_S32x64x128x128_S32x64x128_d3 h_S_))

/-- The heads side by side. -/
def ctxT (v : FVec Ideal S32x128x64x64 .f32) (w : FVec Ideal S32x64x128x128 .f32) : FVec Ideal S32x128x4096 .f32 :=
  shapeCast S32x128x4096 (transpose S32x128x64x64 [0, 3, 1, 2] (Host.dotGeneral dot_S32x128x64x64_S32x64x128x128_S32x64x64x128_1_3_3_2_02_01 none v w)
    transposes_S32x64x64x128_S32x128x64x64_0_3_1_2) shapeCasts_S32x128x64x64_S32x128x4096

/-- The result of the arguments. -/
def outT (x : FVec Ideal S32x128x512 .f32) (wq wk wv : FVec Ideal S512x4096 .f32) (wo : FVec Ideal S4096x512 .f32) : FVec Ideal S32x128x512 .f32 :=
  Host.dotGeneral dot_S32x128x4096_S4096x512_S32x128x512_2_0_01_1_n_n none
    (ctxT (projT x wv) (normT (expsT (scoresT (rotT (projT x wq)) (rotT (projT x wk)))))) wo

/-- The run's result is the steps, composed. -/
theorem res_eq (m : (ℓ : Loc nD τ sig) → Buf (Elt Ideal) ℓ) (c : Dev nD) :
    res_main_v80 m c = outT (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold res_main_v80
  rfl

/-! ## Each step at an index -/

/-- The word of `64`. -/
theorem ofBits_64 : Ideal.ofBits .f32 0x42800000#32 = ((64 : ℝ) : EReal) := by
  simp [Ideal.ofBits, Ideal.ieee, -EReal.coe_mul]; norm_num

/-- The word of `10000`. -/
theorem ofBits_10000 : Ideal.ofBits .f32 0x461C4000#32 = ((10000 : ℝ) : EReal) := by
  simp [Ideal.ofBits, Ideal.ieee, -EReal.coe_mul]; norm_num

/-- A quotient of two numbers. -/
theorem div_coe (x y : ℝ) (hy : y ≠ 0) : Ideal.div (x : EReal) (y : EReal) = ((x / y : ℝ) : EReal) := by
  rw [Ideal.div, if_neg (by exact_mod_cast hy), div_eq_mul_inv, EReal.coe_mul, EReal.coe_inv]

/-- A pair's frequency. -/
theorem freq_apply (j : Fin 32) : freq (ix1 j) = ((1 / (10000 : ℝ) ^ (((2 * j.val : ℕ) : ℝ) / 64) : ℝ) : EReal) := by
  pointwise [freq]
  have hw : IntOp.addi (0#32) (IntOp.muli (2#32) (BitVec.ofNat 32 j.val)) = BitVec.ofNat 32 (2 * j.val) := by
    revert j; decide +kernel
  rw [hw, sitofp_word _ (by omega), ofBits_64, ofBits_10000, div_coe _ _ (by norm_num)]
  show Ideal.div 1 (((10000 : ℝ) ^ (((2 * j.val : ℕ) : ℝ) / 64) : ℝ) : EReal) = _
  rw [← EReal.coe_one, div_coe _ _ (by positivity)]

/-- The angles, at the pair of a column. -/
theorem angles_apply (i : Fin 128) (d : Fin 64) : angles (ix2 i ⟨d.val / 2, by omega⟩) = turn i d := by
  pointwise [angles]
  rw [freq_apply, sitofp_word _ (by omega), ← EReal.coe_mul]
  rfl

/-- A table at an index. -/
theorem table_apply (a : FVec Ideal S128x32 .f32) (b : Fin 32) (i : Fin 128) (h d : Fin 64) :
    table (twice a) (ix4 b i h d) = a (ix2 i ⟨d.val / 2, by omega⟩) := by
  pointwise [table, twice]

/-- The cosines at an index. -/
theorem cos_apply (b : Fin 32) (i : Fin 128) (h d : Fin 64) : table (twice (Host.cos angles)) (ix4 b i h d) = Ideal.cos (turn i d) := by
  rw [table_apply, ← angles_apply]
  pointwise

/-- The sines at an index. -/
theorem sin_apply (b : Fin 32) (i : Fin 128) (h d : Fin 64) : table (twice (Host.sin angles)) (ix4 b i h d) = Ideal.sin (turn i d) := by
  rw [table_apply, ← angles_apply]
  pointwise

/-- A column of a head among all columns. -/
def colAt (h d : Fin 64) : Fin 4096 := ⟨h.val * 64 + d.val, by omega⟩

/-- A projection at an index. -/
theorem projT_apply (x : FVec Ideal S32x128x512 .f32) (w : FVec Ideal S512x4096 .f32) (b : Fin 32) (i : Fin 128) (h d : Fin 64) :
    projT x w (ix4 b i h d) = proj (fun i e => x (ix3 b i e)) (fun e d => w (ix2 e (colAt h d))) i d := by
  pointwise [projT]
  rfl

/-- The swapped pairs at an index. -/
theorem swapT_apply (t : FVec Ideal S32x128x64x64 .f32) (b : Fin 32) (i : Fin 128) (h d : Fin 64) :
    swapT t (ix4 b i h d) = swap (fun d => t (ix4 b i h d)) d := by
  pointwise [swapT, negSecond, first, pairs]
  unfold swap
  by_cases hd : d.val % 2 = 0
  · rw [dif_pos (by omega), dif_pos hd]
    exact congrArg (fun d => -t (ix4 b i h d)) (Fin.ext (by simp only []; omega))
  · rw [dif_neg (by omega), dif_neg hd]
    exact congrArg (fun d => t (ix4 b i h d)) (Fin.ext (by simp only []; omega))

/-- The rotary embedding at an index. -/
theorem rotT_apply (t : FVec Ideal S32x128x64x64 .f32) (b : Fin 32) (i : Fin 128) (h d : Fin 64) :
    rotT t (ix4 b i h d) = rotary (fun i d => t (ix4 b i h d)) i d := by
  pointwise [rotT]
  rw [cos_apply, sin_apply, swapT_apply]
  rfl

/-- The scores at an index. -/
theorem scoresT_apply (q k : FVec Ideal S32x128x64x64 .f32) (b : Fin 32) (h : Fin 64) (i j : Fin 128) :
    scoresT q k (ix4 b h i j) = scores (fun i d => q (ix4 b i h d)) (fun i d => k (ix4 b i h d)) i j := by
  pointwise [scoresT]
  rfl

/-- Their exponentials at an index. -/
theorem expsT_apply (s : FVec Ideal S32x64x128x128 .f32) (b : Fin 32) (h : Fin 64) (i j : Fin 128) :
    expsT s (ix4 b h i j) = exps (fun i j => s (ix4 b h i j)) i j := by
  pointwise [expsT, along]
  rfl

/-- The weights at an index. -/
theorem normT_apply (e : FVec Ideal S32x64x128x128 .f32) (b : Fin 32) (h : Fin 64) (i j : Fin 128) :
    normT e (ix4 b h i j) = norm (fun i j => e (ix4 b h i j)) i j := by
  pointwise [normT, along]
  rfl

/-- The heads at an index. -/
theorem ctxT_apply (v : FVec Ideal S32x128x64x64 .f32) (w : FVec Ideal S32x64x128x128 .f32) (b : Fin 32) (i : Fin 128) (K : Fin 4096) :
    ctxT v w (ix3 b i K) = ∑ j, w (ix4 b ⟨K.val / 64, by omega⟩ i j) * v (ix4 b j ⟨K.val / 64, by omega⟩ (inHead K)) := by
  pointwise [ctxT]
  exact Finset.sum_congr rfl fun j _ => mul_comm _ _

/-- The result at an index: all heads on the index's sequence, mapped by the output weight. -/
theorem outT_apply (x : FVec Ideal S32x128x512 .f32) (wq wk wv : FVec Ideal S512x4096 .f32) (wo : FVec Ideal S4096x512 .f32) (b : Fin 32) (i : Fin 128) (n : Fin 512) :
    outT x wq wk wv wo (ix3 b i n)
      = share (N := 4096) rfl (fun i e => x (ix3 b i e)) (fun e K => wq (ix2 e K)) (fun e K => wk (ix2 e K)) (fun e K => wv (ix2 e K))
          (fun K n => wo (ix2 K n)) i n := by
  pointwise [outT]
  unfold share
  refine Finset.sum_congr rfl fun K _ => congrArg (· * wo (ix2 K n)) ?_
  rw [ctxT_apply]
  have hc : ∀ d, colAt ⟨K.val / 64, by omega⟩ d = colOf (N := 4096) rfl K d := fun d => Fin.ext (by simp only [colAt, colOf]; omega)
  simp only [normT_apply, expsT_apply, scoresT_apply, rotT_apply, projT_apply, hc]
  rfl

end Cert.ReferenceIdeal.Value

end
-- ==== Proof.Value.Equal.lean ====
/-
The kernel and the reference end with the same extended reals.
-/
module

public import proofs.«01_k».proof.Proof.Value.Sums
public import proofs.«01_k».proof.Proof.Value.Reference
public import proofs.«01_k».proof.Defs
public import Idealize.ShloMosaic.Lib.LayoutAt

@[expose] public section

set_option maxRecDepth 20000

noncomputable section

namespace Cert.KernelIdeal.Ring

open Idealize.ShloMosaic
open Cert.KernelIdeal Cert.KernelIdeal.Facts₀ Cert.KernelIdeal.Facts

open Cert.Attn

/-! ## A device's operands, of the blocks it is given -/

/-- A sequence as it is multiplied holds the same numbers. -/
theorem seqOf_apply (x : FVec Ideal S1x128x512 .f32) (i : Fin 128) (e : Fin 512) : seqOf x (ix2 i e) = x (ix3 0 i e) := by
  pointwise [seqOf]

/-- A weight as it is multiplied holds the same numbers. -/
theorem wtOf_apply (w : FVec Ideal S512x256 .f32) (e : Fin 512) (c : Fin 256) : wtOf w (ix2 e c) = w (ix2 e c) := by
  pointwise [wtOf]

/-- The output weight as it is multiplied holds the same numbers. -/
theorem woOf_apply (w : FVec Ideal S256x512 .f32) (c : Fin 256) (n : Fin 512) : woOf w (ix2 c n) = w (ix2 c n) := by
  pointwise [woOf]

/-- An index's place within its row. -/
theorem inRow_ix3 (s : Fin 2) (i : Fin 128) (n : Fin 512) : inRow (ix3 s i n) = ix3 0 i n := by
  funext a
  match a with
  | ⟨0, _⟩ => rfl
  | ⟨1, _⟩ => rfl
  | ⟨2, _⟩ => rfl

section Operands

variable (X : FVec Ideal S2x128x512 .f32) (Wq Wk Wv : FVec Ideal S512x256 .f32) (Wo : FVec Ideal S256x512 .f32)

/-- The first sequence is row `0` of the block. -/
theorem xe_apply (i : Fin 128) (e : Fin 512) : (insOf X Wq Wk Wv Wo).xe (ix2 i e) = X (ix3 0 i e) := by
  show seqOf (fun j => X (rowE.emb j)) (ix2 i e) = _
  rw [seqOf_apply]
  exact congrArg X ((congrArg rowE.emb (inRow_ix3 0 i e).symm).trans (emb_rowE (ix3 0 i e) rfl))

/-- The second sequence is row `1` of the block. -/
theorem xo_apply (i : Fin 128) (e : Fin 512) : (insOf X Wq Wk Wv Wo).xo (ix2 i e) = X (ix3 1 i e) := by
  show seqOf (fun j => X (rowO.emb j)) (ix2 i e) = _
  rw [seqOf_apply]
  exact congrArg X ((congrArg rowO.emb (inRow_ix3 1 i e).symm).trans (emb_rowO (ix3 1 i e) Nat.one_ne_zero))

/-- The whole of a weight read as a rectangle. -/
theorem emb_rectW (j : S512x256.Idx) : rectW.emb j = j := by
  funext a
  apply Fin.ext
  rw [Rect.emb_apply]
  match a with
  | ⟨0, _⟩ => show 0 + 1 * (j 0).val = (j 0).val; omega
  | ⟨1, _⟩ => show 0 + 1 * (j 1).val = (j 1).val; omega

/-- The whole of the output weight read as a rectangle. -/
theorem emb_rectWo (j : S256x512.Idx) : rectWo.emb j = j := by
  funext a
  apply Fin.ext
  rw [Rect.emb_apply]
  match a with
  | ⟨0, _⟩ => show 0 + 1 * (j 0).val = (j 0).val; omega
  | ⟨1, _⟩ => show 0 + 1 * (j 1).val = (j 1).val; omega

/-- The query weight at an index. -/
theorem wq_apply (e : Fin 512) (c : Fin 256) : (insOf X Wq Wk Wv Wo).wq (ix2 e c) = Wq (ix2 e c) := by
  show wtOf (fun j => Wq (rectW.emb j)) (ix2 e c) = _
  rw [wtOf_apply, emb_rectW]

/-- The key weight at an index. -/
theorem wk_apply (e : Fin 512) (c : Fin 256) : (insOf X Wq Wk Wv Wo).wk (ix2 e c) = Wk (ix2 e c) := by
  show wtOf (fun j => Wk (rectW.emb j)) (ix2 e c) = _
  rw [wtOf_apply, emb_rectW]

/-- The value weight at an index. -/
theorem wv_apply (e : Fin 512) (c : Fin 256) : (insOf X Wq Wk Wv Wo).wv (ix2 e c) = Wv (ix2 e c) := by
  show wtOf (fun j => Wv (rectW.emb j)) (ix2 e c) = _
  rw [wtOf_apply, emb_rectW]

/-- The output weight at an index. -/
theorem wo_apply (c : Fin 256) (n : Fin 512) : (insOf X Wq Wk Wv Wo).wo (ix2 c n) = Wo (ix2 c n) := by
  show woOf (fun j => Wo (rectWo.emb j)) (ix2 c n) = _
  rw [woOf_apply, emb_rectWo]

end Operands

/-- The two finished sums at an index. -/
theorem outOf_apply (a b : FVec Ideal S128x512 .bf16) (s : Fin 2) (i : Fin 128) (n : Fin 512) :
    outOf a b (ix3 s i n) = (if s.val = 0 then a else b) (ix2 i n) := by
  show shapeCast S1x128x512 (widen (if s.val = 0 then a else b)) shapeCasts_S128x512_S1x128x512 (inRow (ix3 s i n)) = _
  rw [inRow_ix3]
  pointwise [widen]

/-! ## The blocks of the whole arrays -/

/-- Sequence `s` of device `c` among all sequences. -/
def seqAt (c : Fin 16) (s : Fin 2) : Fin 32 := ⟨2 * c.val + s.val, by omega⟩

/-- A device's block of the sequences at an index. -/
theorem block_x (v : FVec Ideal ⟨3, ![32, 128, 512]⟩ .f32) (c : Fin 16) (s : Fin 2) (i : Fin 128) (n : Fin 512) :
    (Layout.block ⟨3, ![2, 128, 512]⟩ ⟨3, ![32, 128, 512]⟩ 0 16 c v) (ix3 s i n) = v (ix3 (seqAt c s) i n) := by
  simp only [Layout.block_apply]
  refine congrArg v ?_
  simp only [seqAt, part]
  shard_ext

/-- A device's block of columns at an index. -/
theorem block_w (v : FVec Ideal ⟨2, ![512, 4096]⟩ .f32) (d : Fin 16) (e : Fin 512) (c : Fin 256) :
    (Layout.block ⟨2, ![512, 256]⟩ ⟨2, ![512, 4096]⟩ 1 16 d v) (ix2 e c) = v (ix2 e (part d c)) := by
  simp only [Layout.block_apply]
  refine congrArg v ?_
  simp only [seqAt, part]
  shard_ext

/-- A device's block of rows at an index. -/
theorem block_wo (v : FVec Ideal ⟨2, ![4096, 512]⟩ .f32) (d : Fin 16) (c : Fin 256) (n : Fin 512) :
    (Layout.block ⟨2, ![256, 512]⟩ ⟨2, ![4096, 512]⟩ 0 16 d v) (ix2 c n) = v (ix2 (part d c) n) := by
  simp only [Layout.block_apply]
  refine congrArg v ?_
  simp only [part]
  shard_ext

/-- A device ends with its block of the reference's result of the whole arrays. -/
theorem result_eq (X : FVec Ideal ⟨3, ![32, 128, 512]⟩ .f32) (Wq Wk Wv : FVec Ideal ⟨2, ![512, 4096]⟩ .f32) (Wo : FVec Ideal ⟨2, ![4096, 512]⟩ .f32)
    (I : Dev nD → Ins Ideal)
    (hI : ∀ c : Dev nD, I c = insOf (Layout.block ⟨3, ![2, 128, 512]⟩ ⟨3, ![32, 128, 512]⟩ 0 16 c X) (Layout.block ⟨2, ![512, 256]⟩ ⟨2, ![512, 4096]⟩ 1 16 c Wq)
      (Layout.block ⟨2, ![512, 256]⟩ ⟨2, ![512, 4096]⟩ 1 16 c Wk) (Layout.block ⟨2, ![512, 256]⟩ ⟨2, ![512, 4096]⟩ 1 16 c Wv)
      (Layout.block ⟨2, ![256, 512]⟩ ⟨2, ![4096, 512]⟩ 0 16 c Wo)) (c : Dev nD) :
    outOf (sumR I 15 c) (sumL I 15 c)
      = Layout.block ⟨3, ![2, 128, 512]⟩ ⟨3, ![32, 128, 512]⟩ 0 16 c (Cert.ReferenceIdeal.Value.outT X Wq Wk Wv Wo) := by
  funext j
  idx_vars j
  refine Eq.trans (outOf_apply _ _ j0 j1 j2) (Eq.trans ?_ (block_x _ c j0 j1 j2).symm)
  rw [Cert.ReferenceIdeal.Value.outT_apply, share_parts]
  rcases (show j0 = 0 ∨ j0 = 1 by omega) with rfl | rfl
  · refine (congrFun (if_pos rfl) _).trans ?_
    rw [sumR_all]
    refine Finset.sum_congr rfl fun d _ => ?_
    unfold shareE
    rw [hI d, hI c]
    simp only [xe_apply, wq_apply, wk_apply, wv_apply, wo_apply, block_x, block_w, block_wo]
  · refine (congrFun (if_neg Nat.one_ne_zero) _).trans ?_
    rw [sumL_all]
    refine Finset.sum_congr rfl fun d _ => ?_
    unfold shareO
    rw [hI d, hI c]
    simp only [xo_apply, wq_apply, wk_apply, wv_apply, wo_apply, block_x, block_w, block_wo]

end Cert.KernelIdeal.Ring

namespace Cert.Proof

open Idealize.ShloMosaic Idealize.ShloMosaic.TcCoe Idealize.SL.Sem

/-- The kernel's devices end with the blocks of what the reference ends with. -/
theorem algebraic : Cert.algebraic_KernelIdeal_ReferenceIdeal (hKernelIdeal := Cert.KernelIdeal.Ring.sides) (hReferenceIdeal := Cert.ReferenceIdeal.Gen.facts) := by
  intro m g m' g' _ hin
  refine ⟨Cert.ReferenceIdeal.Value.res_out0 (F := Ideal) m' 0,
    (θ_run _ _ _).mono (fun r h c => ?_) (Cert.KernelIdeal.Ring.run_main m g),
    (θ_run _ _ _).mono (fun _ h => h 0) (Cert.ReferenceIdeal.Value.run m' g')⟩
  obtain ⟨h1, h2⟩ := h.1 c
  refine ⟨h1.trans ?_, h2⟩
  refine (Cert.KernelIdeal.Ring.result_eq _ _ _ _ _ (Cert.KernelIdeal.Ring.inputs m) (fun d => ?_) c).trans
    (congrArg (fun v => Layout.block ⟨3, ![2, 128, 512]⟩ ⟨3, ![32, 128, 512]⟩ 0 16 c v) (Cert.ReferenceIdeal.Value.res_eq m' 0).symm)
  obtain ⟨e0, e1, e2, e3, e4⟩ := hin d
  unfold Cert.KernelIdeal.Ring.inputs
  rw [e0, e1, e2, e3, e4]

end Cert.Proof

end
-- ==== Proof.lean ====
module

public import proofs.«01_k».proof.Defs
public import proofs.«01_k».proof.Proof.Frames
public import proofs.«01_k».proof.Proof.Value.Equal
public import proofs.«01_k».proof.Proof.Kernel.Run
public import proofs.«01_k».proof.Proof.KernelIdeal.Run
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem claim : Cert.Claim :=
  ⟨Cert.Kernel.Ring.sides, Cert.KernelIdeal.Ring.sides, Cert.ReferenceIdeal.Gen.facts, frame_kernel, frame_ideal, frame_reference, names, algebraic⟩

end Cert.Proof

end
